-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Glob (m : (ℓ : Loc Cert.Glob.nD Cert.Glob.τ Cert.Glob.sig) → Buf (Elt Bits) ℓ) : Prop :=
  True

def Pre_GlobIdeal (m : (ℓ : Loc Cert.GlobIdeal.nD Cert.GlobIdeal.τ Cert.GlobIdeal.sig) → Buf (Elt Ideal) ℓ) : Prop :=
  True

def Pre_GlobIdeal_finite_glob [hPre_finite_glob : Cert.Pre_finite_glob.Facts] (m : (ℓ : Loc Cert.GlobIdeal.nD Cert.GlobIdeal.τ Cert.GlobIdeal.sig) → Buf (Elt Ideal) ℓ) : Prop :=
  ∀ c : Dev Cert.GlobIdeal.nD,
    (Cert.Pre_finite_glob.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2)) (m ((c.tc : Thread Cert.GlobIdeal.nD Cert.GlobIdeal.τ).loc Cert.GlobIdeal.main_arg3))).1 = (fun _ => 1#1)
    ∧ (Cert.Pre_finite_glob.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2)) (m ((c.tc : Thread Cert.GlobIdeal.nD Cert.GlobIdeal.τ).loc Cert.GlobIdeal.main_arg3))).2.1 = (fun _ => 1#1)
    ∧ (Cert.Pre_finite_glob.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2)) (m ((c.tc : Thread Cert.GlobIdeal.nD Cert.GlobIdeal.τ).loc Cert.GlobIdeal.main_arg3))).2.2.1 = (fun _ => 1#1)
    ∧ (Cert.Pre_finite_glob.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2)) (m ((c.tc : Thread Cert.GlobIdeal.nD Cert.GlobIdeal.τ).loc Cert.GlobIdeal.main_arg3))).2.2.2 = (fun _ => 1#1)

def Pre_GlobRefIdeal (m : (ℓ : Loc Cert.GlobRefIdeal.nD Cert.GlobRefIdeal.τ Cert.GlobRefIdeal.sig) → Buf (Elt Ideal) ℓ) : Prop :=
  True

def Pre_GlobRefIdeal_finite_glob [hPre_finite_glob : Cert.Pre_finite_glob.Facts] (m : (ℓ : Loc Cert.GlobRefIdeal.nD Cert.GlobRefIdeal.τ Cert.GlobRefIdeal.sig) → Buf (Elt Ideal) ℓ) : Prop :=
  ∀ c : Dev Cert.GlobRefIdeal.nD,
    (Cert.Pre_finite_glob.fn (F := Ideal) (m ((c.tc : Thread Cert.GlobRefIdeal.nD Cert.GlobRefIdeal.τ).loc Cert.GlobRefIdeal.main_arg0)) (m ((c.tc : Thread Cert.GlobRefIdeal.nD Cert.GlobRefIdeal.τ).loc Cert.GlobRefIdeal.main_arg1)) (m ((c.tc : Thread Cert.GlobRefIdeal.nD Cert.GlobRefIdeal.τ).loc Cert.GlobRefIdeal.main_arg2)) (m ((c.tc : Thread Cert.GlobRefIdeal.nD Cert.GlobRefIdeal.τ).loc Cert.GlobRefIdeal.main_arg3))).1 = (fun _ => 1#1)
    ∧ (Cert.Pre_finite_glob.fn (F := Ideal) (m ((c.tc : Thread Cert.GlobRefIdeal.nD Cert.GlobRefIdeal.τ).loc Cert.GlobRefIdeal.main_arg0)) (m ((c.tc : Thread Cert.GlobRefIdeal.nD Cert.GlobRefIdeal.τ).loc Cert.GlobRefIdeal.main_arg1)) (m ((c.tc : Thread Cert.GlobRefIdeal.nD Cert.GlobRefIdeal.τ).loc Cert.GlobRefIdeal.main_arg2)) (m ((c.tc : Thread Cert.GlobRefIdeal.nD Cert.GlobRefIdeal.τ).loc Cert.GlobRefIdeal.main_arg3))).2.1 = (fun _ => 1#1)
    ∧ (Cert.Pre_finite_glob.fn (F := Ideal) (m ((c.tc : Thread Cert.GlobRefIdeal.nD Cert.GlobRefIdeal.τ).loc Cert.GlobRefIdeal.main_arg0)) (m ((c.tc : Thread Cert.GlobRefIdeal.nD Cert.GlobRefIdeal.τ).loc Cert.GlobRefIdeal.main_arg1)) (m ((c.tc : Thread Cert.GlobRefIdeal.nD Cert.GlobRefIdeal.τ).loc Cert.GlobRefIdeal.main_arg2)) (m ((c.tc : Thread Cert.GlobRefIdeal.nD Cert.GlobRefIdeal.τ).loc Cert.GlobRefIdeal.main_arg3))).2.2.1 = (fun _ => 1#1)
    ∧ (Cert.Pre_finite_glob.fn (F := Ideal) (m ((c.tc : Thread Cert.GlobRefIdeal.nD Cert.GlobRefIdeal.τ).loc Cert.GlobRefIdeal.main_arg0)) (m ((c.tc : Thread Cert.GlobRefIdeal.nD Cert.GlobRefIdeal.τ).loc Cert.GlobRefIdeal.main_arg1)) (m ((c.tc : Thread Cert.GlobRefIdeal.nD Cert.GlobRefIdeal.τ).loc Cert.GlobRefIdeal.main_arg2)) (m ((c.tc : Thread Cert.GlobRefIdeal.nD Cert.GlobRefIdeal.τ).loc Cert.GlobRefIdeal.main_arg3))).2.2.2 = (fun _ => 1#1)

def Pre_GlobB (m : (ℓ : Loc Cert.GlobB.nD Cert.GlobB.τ Cert.GlobB.sig) → Buf (Elt Bits) ℓ) : Prop :=
  True

def Pre_GlobBIdeal (m : (ℓ : Loc Cert.GlobBIdeal.nD Cert.GlobBIdeal.τ Cert.GlobBIdeal.sig) → Buf (Elt Ideal) ℓ) : Prop :=
  True

def Pre_GlobBIdeal_finite_glob [hPre_finite_glob : Cert.Pre_finite_glob.Facts] (m : (ℓ : Loc Cert.GlobBIdeal.nD Cert.GlobBIdeal.τ Cert.GlobBIdeal.sig) → Buf (Elt Ideal) ℓ) : Prop :=
  ∀ c : Dev Cert.GlobBIdeal.nD,
    (Cert.Pre_finite_glob.fn (F := Ideal) (m ((c.tc : Thread Cert.GlobBIdeal.nD Cert.GlobBIdeal.τ).loc Cert.GlobBIdeal.main_arg0)) (m ((c.tc : Thread Cert.GlobBIdeal.nD Cert.GlobBIdeal.τ).loc Cert.GlobBIdeal.main_arg1)) (m ((c.tc : Thread Cert.GlobBIdeal.nD Cert.GlobBIdeal.τ).loc Cert.GlobBIdeal.main_arg2)) (m ((c.tc : Thread Cert.GlobBIdeal.nD Cert.GlobBIdeal.τ).loc Cert.GlobBIdeal.main_arg3))).1 = (fun _ => 1#1)
    ∧ (Cert.Pre_finite_glob.fn (F := Ideal) (m ((c.tc : Thread Cert.GlobBIdeal.nD Cert.GlobBIdeal.τ).loc Cert.GlobBIdeal.main_arg0)) (m ((c.tc : Thread Cert.GlobBIdeal.nD Cert.GlobBIdeal.τ).loc Cert.GlobBIdeal.main_arg1)) (m ((c.tc : Thread Cert.GlobBIdeal.nD Cert.GlobBIdeal.τ).loc Cert.GlobBIdeal.main_arg2)) (m ((c.tc : Thread Cert.GlobBIdeal.nD Cert.GlobBIdeal.τ).loc Cert.GlobBIdeal.main_arg3))).2.1 = (fun _ => 1#1)
    ∧ (Cert.Pre_finite_glob.fn (F := Ideal) (m ((c.tc : Thread Cert.GlobBIdeal.nD Cert.GlobBIdeal.τ).loc Cert.GlobBIdeal.main_arg0)) (m ((c.tc : Thread Cert.GlobBIdeal.nD Cert.GlobBIdeal.τ).loc Cert.GlobBIdeal.main_arg1)) (m ((c.tc : Thread Cert.GlobBIdeal.nD Cert.GlobBIdeal.τ).loc Cert.GlobBIdeal.main_arg2)) (m ((c.tc : Thread Cert.GlobBIdeal.nD Cert.GlobBIdeal.τ).loc Cert.GlobBIdeal.main_arg3))).2.2.1 = (fun _ => 1#1)
    ∧ (Cert.Pre_finite_glob.fn (F := Ideal) (m ((c.tc : Thread Cert.GlobBIdeal.nD Cert.GlobBIdeal.τ).loc Cert.GlobBIdeal.main_arg0)) (m ((c.tc : Thread Cert.GlobBIdeal.nD Cert.GlobBIdeal.τ).loc Cert.GlobBIdeal.main_arg1)) (m ((c.tc : Thread Cert.GlobBIdeal.nD Cert.GlobBIdeal.τ).loc Cert.GlobBIdeal.main_arg2)) (m ((c.tc : Thread Cert.GlobBIdeal.nD Cert.GlobBIdeal.τ).loc Cert.GlobBIdeal.main_arg3))).2.2.2 = (fun _ => 1#1)

def Pre_GlobBRefIdeal (m : (ℓ : Loc Cert.GlobBRefIdeal.nD Cert.GlobBRefIdeal.τ Cert.GlobBRefIdeal.sig) → Buf (Elt Ideal) ℓ) : Prop :=
  True

def Pre_GlobBRefIdeal_finite_glob [hPre_finite_glob : Cert.Pre_finite_glob.Facts] (m : (ℓ : Loc Cert.GlobBRefIdeal.nD Cert.GlobBRefIdeal.τ Cert.GlobBRefIdeal.sig) → Buf (Elt Ideal) ℓ) : Prop :=
  ∀ c : Dev Cert.GlobBRefIdeal.nD,
    (Cert.Pre_finite_glob.fn (F := Ideal) (m ((c.tc : Thread Cert.GlobBRefIdeal.nD Cert.GlobBRefIdeal.τ).loc Cert.GlobBRefIdeal.main_arg0)) (m ((c.tc : Thread Cert.GlobBRefIdeal.nD Cert.GlobBRefIdeal.τ).loc Cert.GlobBRefIdeal.main_arg1)) (m ((c.tc : Thread Cert.GlobBRefIdeal.nD Cert.GlobBRefIdeal.τ).loc Cert.GlobBRefIdeal.main_arg2)) (m ((c.tc : Thread Cert.GlobBRefIdeal.nD Cert.GlobBRefIdeal.τ).loc Cert.GlobBRefIdeal.main_arg3))).1 = (fun _ => 1#1)
    ∧ (Cert.Pre_finite_glob.fn (F := Ideal) (m ((c.tc : Thread Cert.GlobBRefIdeal.nD Cert.GlobBRefIdeal.τ).loc Cert.GlobBRefIdeal.main_arg0)) (m ((c.tc : Thread Cert.GlobBRefIdeal.nD Cert.GlobBRefIdeal.τ).loc Cert.GlobBRefIdeal.main_arg1)) (m ((c.tc : Thread Cert.GlobBRefIdeal.nD Cert.GlobBRefIdeal.τ).loc Cert.GlobBRefIdeal.main_arg2)) (m ((c.tc : Thread Cert.GlobBRefIdeal.nD Cert.GlobBRefIdeal.τ).loc Cert.GlobBRefIdeal.main_arg3))).2.1 = (fun _ => 1#1)
    ∧ (Cert.Pre_finite_glob.fn (F := Ideal) (m ((c.tc : Thread Cert.GlobBRefIdeal.nD Cert.GlobBRefIdeal.τ).loc Cert.GlobBRefIdeal.main_arg0)) (m ((c.tc : Thread Cert.GlobBRefIdeal.nD Cert.GlobBRefIdeal.τ).loc Cert.GlobBRefIdeal.main_arg1)) (m ((c.tc : Thread Cert.GlobBRefIdeal.nD Cert.GlobBRefIdeal.τ).loc Cert.GlobBRefIdeal.main_arg2)) (m ((c.tc : Thread Cert.GlobBRefIdeal.nD Cert.GlobBRefIdeal.τ).loc Cert.GlobBRefIdeal.main_arg3))).2.2.1 = (fun _ => 1#1)
    ∧ (Cert.Pre_finite_glob.fn (F := Ideal) (m ((c.tc : Thread Cert.GlobBRefIdeal.nD Cert.GlobBRefIdeal.τ).loc Cert.GlobBRefIdeal.main_arg0)) (m ((c.tc : Thread Cert.GlobBRefIdeal.nD Cert.GlobBRefIdeal.τ).loc Cert.GlobBRefIdeal.main_arg1)) (m ((c.tc : Thread Cert.GlobBRefIdeal.nD Cert.GlobBRefIdeal.τ).loc Cert.GlobBRefIdeal.main_arg2)) (m ((c.tc : Thread Cert.GlobBRefIdeal.nD Cert.GlobBRefIdeal.τ).loc Cert.GlobBRefIdeal.main_arg3))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojCtx (m : (ℓ : Loc Cert.InprojCtx.nD Cert.InprojCtx.τ Cert.InprojCtx.sig) → Buf (Elt Bits) ℓ) : Prop :=
  True

def Pre_InprojCtxIdeal (m : (ℓ : Loc Cert.InprojCtxIdeal.nD Cert.InprojCtxIdeal.τ Cert.InprojCtxIdeal.sig) → Buf (Elt Ideal) ℓ) : Prop :=
  True

def Pre_InprojCtxRefIdeal (m : (ℓ : Loc Cert.InprojCtxRefIdeal.nD Cert.InprojCtxRefIdeal.τ Cert.InprojCtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_mod [hPre_finite_mod : Cert.Pre_finite_mod.Facts] (m : (ℓ : Loc Cert.ModIdeal.nD Cert.ModIdeal.τ Cert.ModIdeal.sig) → Buf (Elt Ideal) ℓ) : Prop :=
  ∀ c : Dev Cert.ModIdeal.nD,
    (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).1 = (fun _ => 1#1)
    ∧ (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2.1 = (fun _ => 1#1)
    ∧ (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2.2.1 = (fun _ => 1#1)
    ∧ (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4))).2.2.2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_mod [hPre_finite_mod : Cert.Pre_finite_mod.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).1 = (fun _ => 1#1)
    ∧ (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2.1 = (fun _ => 1#1)
    ∧ (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2.2.1 = (fun _ => 1#1)
    ∧ (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4))).2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_ffn_up [hPre_finite_ffn_up : Cert.Pre_finite_ffn_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.2.1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.2.2.1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.2.2.2.1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.2.2.2.2.1 = (fun _ => 1#1)
    ∧ (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4)) (m ((c.tc : Thread Cert.FfnUpIdeal.nD Cert.FfnUpIdeal.τ).loc Cert.FfnUpIdeal.main_arg5)) (m ((c.tc : Thread Cert.FfnUpIdeal.nD Cert.FfnUpIdeal.τ).loc Cert.FfnUpIdeal.main_arg6)) (m ((c.tc : Thread Cert.FfnUpIdeal.nD Cert.FfnUpIdeal.τ).loc Cert.FfnUpIdeal.main_arg7)) (m ((c.tc : Thread Cert.FfnUpIdeal.nD Cert.FfnUpIdeal.τ).loc Cert.FfnUpIdeal.main_arg8))).2.2.2.2.2.2.2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite_ffn_up [hPre_finite_ffn_up : Cert.Pre_finite_ffn_up.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.2.1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.2.2.1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.2.2.2.1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.2.2.2.2.1 = (fun _ => 1#1)
    ∧ (Cert.Pre_finite_ffn_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6)) (m ((c.tc : Thread Cert.FfnUpRefIdeal.nD Cert.FfnUpRefIdeal.τ).loc Cert.FfnUpRefIdeal.main_arg7)) (m ((c.tc : Thread Cert.FfnUpRefIdeal.nD Cert.FfnUpRefIdeal.τ).loc Cert.FfnUpRefIdeal.main_arg8))).2.2.2.2.2.2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownIdeal_finite_ffn_down [hPre_finite_ffn_down : Cert.Pre_finite_ffn_down.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.2.2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.2.2.2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.2.2.2.2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.2.2.2.2.2.1 = (fun _ => 1#1)
    ∧ (Cert.Pre_finite_ffn_down.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)) (m ((c.tc : Thread Cert.FfnDownIdeal.nD Cert.FfnDownIdeal.τ).loc Cert.FfnDownIdeal.main_arg5)) (m ((c.tc : Thread Cert.FfnDownIdeal.nD Cert.FfnDownIdeal.τ).loc Cert.FfnDownIdeal.main_arg6)) (m ((c.tc : Thread Cert.FfnDownIdeal.nD Cert.FfnDownIdeal.τ).loc Cert.FfnDownIdeal.main_arg7)) (m ((c.tc : Thread Cert.FfnDownIdeal.nD Cert.FfnDownIdeal.τ).loc Cert.FfnDownIdeal.main_arg8))).2.2.2.2.2.2.2.2 = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_finite_ffn_down [hPre_finite_ffn_down : Cert.Pre_finite_ffn_down.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.2.2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.2.2.2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.2.2.2.2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.2.2.2.2.2.1 = (fun _ => 1#1)
    ∧ (Cert.Pre_finite_ffn_down.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6)) (m ((c.tc : Thread Cert.FfnDownRefIdeal.nD Cert.FfnDownRefIdeal.τ).loc Cert.FfnDownRefIdeal.main_arg7)) (m ((c.tc : Thread Cert.FfnDownRefIdeal.nD Cert.FfnDownRefIdeal.τ).loc Cert.FfnDownRefIdeal.main_arg8))).2.2.2.2.2.2.2.2 = (fun _ => 1#1)

def Pre_WinSink (m : (ℓ : Loc Cert.WinSink.nD Cert.WinSink.τ Cert.WinSink.sig) → Buf (Elt Bits) ℓ) : Prop :=
  True

def Pre_WinSinkIdeal (m : (ℓ : Loc Cert.WinSinkIdeal.nD Cert.WinSinkIdeal.τ Cert.WinSinkIdeal.sig) → Buf (Elt Ideal) ℓ) : Prop :=
  True

def Pre_WinSinkIdeal_finite_win [hPre_finite_win : Cert.Pre_finite_win.Facts] (m : (ℓ : Loc Cert.WinSinkIdeal.nD Cert.WinSinkIdeal.τ Cert.WinSinkIdeal.sig) → Buf (Elt Ideal) ℓ) : Prop :=
  ∀ c : Dev Cert.WinSinkIdeal.nD,
    (Cert.Pre_finite_win.fn (F := Ideal) (m ((c.tc : Thread Cert.WinSinkIdeal.nD Cert.WinSinkIdeal.τ).loc Cert.WinSinkIdeal.main_arg0)) (m ((c.tc : Thread Cert.WinSinkIdeal.nD Cert.WinSinkIdeal.τ).loc Cert.WinSinkIdeal.main_arg1)) (m ((c.tc : Thread Cert.WinSinkIdeal.nD Cert.WinSinkIdeal.τ).loc Cert.WinSinkIdeal.main_arg2)) (m ((c.tc : Thread Cert.WinSinkIdeal.nD Cert.WinSinkIdeal.τ).loc Cert.WinSinkIdeal.main_arg3)) (m ((c.tc : Thread Cert.WinSinkIdeal.nD Cert.WinSinkIdeal.τ).loc Cert.WinSinkIdeal.main_arg4))).1 = (fun _ => 1#1)
    ∧ (Cert.Pre_finite_win.fn (F := Ideal) (m ((c.tc : Thread Cert.WinSinkIdeal.nD Cert.WinSinkIdeal.τ).loc Cert.WinSinkIdeal.main_arg0)) (m ((c.tc : Thread Cert.WinSinkIdeal.nD Cert.WinSinkIdeal.τ).loc Cert.WinSinkIdeal.main_arg1)) (m ((c.tc : Thread Cert.WinSinkIdeal.nD Cert.WinSinkIdeal.τ).loc Cert.WinSinkIdeal.main_arg2)) (m ((c.tc : Thread Cert.WinSinkIdeal.nD Cert.WinSinkIdeal.τ).loc Cert.WinSinkIdeal.main_arg3)) (m ((c.tc : Thread Cert.WinSinkIdeal.nD Cert.WinSinkIdeal.τ).loc Cert.WinSinkIdeal.main_arg4))).2.1 = (fun _ => 1#1)
    ∧ (Cert.Pre_finite_win.fn (F := Ideal) (m ((c.tc : Thread Cert.WinSinkIdeal.nD Cert.WinSinkIdeal.τ).loc Cert.WinSinkIdeal.main_arg0)) (m ((c.tc : Thread Cert.WinSinkIdeal.nD Cert.WinSinkIdeal.τ).loc Cert.WinSinkIdeal.main_arg1)) (m ((c.tc : Thread Cert.WinSinkIdeal.nD Cert.WinSinkIdeal.τ).loc Cert.WinSinkIdeal.main_arg2)) (m ((c.tc : Thread Cert.WinSinkIdeal.nD Cert.WinSinkIdeal.τ).loc Cert.WinSinkIdeal.main_arg3)) (m ((c.tc : Thread Cert.WinSinkIdeal.nD Cert.WinSinkIdeal.τ).loc Cert.WinSinkIdeal.main_arg4))).2.2.1 = (fun _ => 1#1)
    ∧ (Cert.Pre_finite_win.fn (F := Ideal) (m ((c.tc : Thread Cert.WinSinkIdeal.nD Cert.WinSinkIdeal.τ).loc Cert.WinSinkIdeal.main_arg0)) (m ((c.tc : Thread Cert.WinSinkIdeal.nD Cert.WinSinkIdeal.τ).loc Cert.WinSinkIdeal.main_arg1)) (m ((c.tc : Thread Cert.WinSinkIdeal.nD Cert.WinSinkIdeal.τ).loc Cert.WinSinkIdeal.main_arg2)) (m ((c.tc : Thread Cert.WinSinkIdeal.nD Cert.WinSinkIdeal.τ).loc Cert.WinSinkIdeal.main_arg3)) (m ((c.tc : Thread Cert.WinSinkIdeal.nD Cert.WinSinkIdeal.τ).loc Cert.WinSinkIdeal.main_arg4))).2.2.2.1 = (fun _ => 1#1)
    ∧ (Cert.Pre_finite_win.fn (F := Ideal) (m ((c.tc : Thread Cert.WinSinkIdeal.nD Cert.WinSinkIdeal.τ).loc Cert.WinSinkIdeal.main_arg0)) (m ((c.tc : Thread Cert.WinSinkIdeal.nD Cert.WinSinkIdeal.τ).loc Cert.WinSinkIdeal.main_arg1)) (m ((c.tc : Thread Cert.WinSinkIdeal.nD Cert.WinSinkIdeal.τ).loc Cert.WinSinkIdeal.main_arg2)) (m ((c.tc : Thread Cert.WinSinkIdeal.nD Cert.WinSinkIdeal.τ).loc Cert.WinSinkIdeal.main_arg3)) (m ((c.tc : Thread Cert.WinSinkIdeal.nD Cert.WinSinkIdeal.τ).loc Cert.WinSinkIdeal.main_arg4))).2.2.2.2 = (fun _ => 1#1)

def Pre_WinSinkRefIdeal (m : (ℓ : Loc Cert.WinSinkRefIdeal.nD Cert.WinSinkRefIdeal.τ Cert.WinSinkRefIdeal.sig) → Buf (Elt Ideal) ℓ) : Prop :=
  True

def Pre_WinSinkRefIdeal_finite_win [hPre_finite_win : Cert.Pre_finite_win.Facts] (m : (ℓ : Loc Cert.WinSinkRefIdeal.nD Cert.WinSinkRefIdeal.τ Cert.WinSinkRefIdeal.sig) → Buf (Elt Ideal) ℓ) : Prop :=
  ∀ c : Dev Cert.WinSinkRefIdeal.nD,
    (Cert.Pre_finite_win.fn (F := Ideal) (m ((c.tc : Thread Cert.WinSinkRefIdeal.nD Cert.WinSinkRefIdeal.τ).loc Cert.WinSinkRefIdeal.main_arg0)) (m ((c.tc : Thread Cert.WinSinkRefIdeal.nD Cert.WinSinkRefIdeal.τ).loc Cert.WinSinkRefIdeal.main_arg1)) (m ((c.tc : Thread Cert.WinSinkRefIdeal.nD Cert.WinSinkRefIdeal.τ).loc Cert.WinSinkRefIdeal.main_arg2)) (m ((c.tc : Thread Cert.WinSinkRefIdeal.nD Cert.WinSinkRefIdeal.τ).loc Cert.WinSinkRefIdeal.main_arg3)) (m ((c.tc : Thread Cert.WinSinkRefIdeal.nD Cert.WinSinkRefIdeal.τ).loc Cert.WinSinkRefIdeal.main_arg4))).1 = (fun _ => 1#1)
    ∧ (Cert.Pre_finite_win.fn (F := Ideal) (m ((c.tc : Thread Cert.WinSinkRefIdeal.nD Cert.WinSinkRefIdeal.τ).loc Cert.WinSinkRefIdeal.main_arg0)) (m ((c.tc : Thread Cert.WinSinkRefIdeal.nD Cert.WinSinkRefIdeal.τ).loc Cert.WinSinkRefIdeal.main_arg1)) (m ((c.tc : Thread Cert.WinSinkRefIdeal.nD Cert.WinSinkRefIdeal.τ).loc Cert.WinSinkRefIdeal.main_arg2)) (m ((c.tc : Thread Cert.WinSinkRefIdeal.nD Cert.WinSinkRefIdeal.τ).loc Cert.WinSinkRefIdeal.main_arg3)) (m ((c.tc : Thread Cert.WinSinkRefIdeal.nD Cert.WinSinkRefIdeal.τ).loc Cert.WinSinkRefIdeal.main_arg4))).2.1 = (fun _ => 1#1)
    ∧ (Cert.Pre_finite_win.fn (F := Ideal) (m ((c.tc : Thread Cert.WinSinkRefIdeal.nD Cert.WinSinkRefIdeal.τ).loc Cert.WinSinkRefIdeal.main_arg0)) (m ((c.tc : Thread Cert.WinSinkRefIdeal.nD Cert.WinSinkRefIdeal.τ).loc Cert.WinSinkRefIdeal.main_arg1)) (m ((c.tc : Thread Cert.WinSinkRefIdeal.nD Cert.WinSinkRefIdeal.τ).loc Cert.WinSinkRefIdeal.main_arg2)) (m ((c.tc : Thread Cert.WinSinkRefIdeal.nD Cert.WinSinkRefIdeal.τ).loc Cert.WinSinkRefIdeal.main_arg3)) (m ((c.tc : Thread Cert.WinSinkRefIdeal.nD Cert.WinSinkRefIdeal.τ).loc Cert.WinSinkRefIdeal.main_arg4))).2.2.1 = (fun _ => 1#1)
    ∧ (Cert.Pre_finite_win.fn (F := Ideal) (m ((c.tc : Thread Cert.WinSinkRefIdeal.nD Cert.WinSinkRefIdeal.τ).loc Cert.WinSinkRefIdeal.main_arg0)) (m ((c.tc : Thread Cert.WinSinkRefIdeal.nD Cert.WinSinkRefIdeal.τ).loc Cert.WinSinkRefIdeal.main_arg1)) (m ((c.tc : Thread Cert.WinSinkRefIdeal.nD Cert.WinSinkRefIdeal.τ).loc Cert.WinSinkRefIdeal.main_arg2)) (m ((c.tc : Thread Cert.WinSinkRefIdeal.nD Cert.WinSinkRefIdeal.τ).loc Cert.WinSinkRefIdeal.main_arg3)) (m ((c.tc : Thread Cert.WinSinkRefIdeal.nD Cert.WinSinkRefIdeal.τ).loc Cert.WinSinkRefIdeal.main_arg4))).2.2.2.1 = (fun _ => 1#1)
    ∧ (Cert.Pre_finite_win.fn (F := Ideal) (m ((c.tc : Thread Cert.WinSinkRefIdeal.nD Cert.WinSinkRefIdeal.τ).loc Cert.WinSinkRefIdeal.main_arg0)) (m ((c.tc : Thread Cert.WinSinkRefIdeal.nD Cert.WinSinkRefIdeal.τ).loc Cert.WinSinkRefIdeal.main_arg1)) (m ((c.tc : Thread Cert.WinSinkRefIdeal.nD Cert.WinSinkRefIdeal.τ).loc Cert.WinSinkRefIdeal.main_arg2)) (m ((c.tc : Thread Cert.WinSinkRefIdeal.nD Cert.WinSinkRefIdeal.τ).loc Cert.WinSinkRefIdeal.main_arg3)) (m ((c.tc : Thread Cert.WinSinkRefIdeal.nD Cert.WinSinkRefIdeal.τ).loc Cert.WinSinkRefIdeal.main_arg4))).2.2.2.2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Glob [hGlob : Cert.Glob.Facts] : Prop :=
  ∀ (m : (ℓ : Loc Cert.Glob.nD Cert.Glob.τ Cert.Glob.sig) → Buf (Elt Bits) ℓ) (g : Dev Cert.Glob.nD → PrngReg), Pre_Glob m →
    θ_run (Cert.Glob.defs (F := Bits)) (onTc (τ := Cert.Glob.τ) (Cert.Glob.main (F := Bits))) ⟨m, fun _ => 0, g⟩ (fun r => (∀ c : Dev Cert.Glob.nD,
      r.2.mem ((c.tc : Thread Cert.Glob.nD Cert.Glob.τ).loc Cert.Glob.main_arg0) = m ((c.tc : Thread Cert.Glob.nD Cert.Glob.τ).loc Cert.Glob.main_arg0)
      ∧ r.2.mem ((c.tc : Thread Cert.Glob.nD Cert.Glob.τ).loc Cert.Glob.main_arg1) = m ((c.tc : Thread Cert.Glob.nD Cert.Glob.τ).loc Cert.Glob.main_arg1)
      ∧ r.2.mem ((c.tc : Thread Cert.Glob.nD Cert.Glob.τ).loc Cert.Glob.main_arg2) = m ((c.tc : Thread Cert.Glob.nD Cert.Glob.τ).loc Cert.Glob.main_arg2)
      ∧ r.2.mem ((c.tc : Thread Cert.Glob.nD Cert.Glob.τ).loc Cert.Glob.main_arg3) = m ((c.tc : Thread Cert.Glob.nD Cert.Glob.τ).loc Cert.Glob.main_arg3))
      ∧ r.2.sem = fun _ => 0)

def quiescent_GlobIdeal [hGlobIdeal : Cert.GlobIdeal.Facts] : Prop :=
  ∀ (m : (ℓ : Loc Cert.GlobIdeal.nD Cert.GlobIdeal.τ Cert.GlobIdeal.sig) → Buf (Elt Ideal) ℓ) (g : Dev Cert.GlobIdeal.nD → PrngReg), Pre_GlobIdeal m →
    θ_run (Cert.GlobIdeal.defs (F := Ideal)) (onTc (τ := Cert.GlobIdeal.τ) (Cert.GlobIdeal.main (F := Ideal))) ⟨m, fun _ => 0, g⟩ (fun r => (∀ c : Dev Cert.GlobIdeal.nD,
      r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
      ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
      ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2)
      ∧ r.2.mem ((c.tc : Thread Cert.GlobIdeal.nD Cert.GlobIdeal.τ).loc Cert.GlobIdeal.main_arg3) = m ((c.tc : Thread Cert.GlobIdeal.nD Cert.GlobIdeal.τ).loc Cert.GlobIdeal.main_arg3))
      ∧ r.2.sem = fun _ => 0)

def quiescent_GlobIdeal_pre_finite_glob [hGlobIdeal : Cert.GlobIdeal.Facts] [hPre_finite_glob : Cert.Pre_finite_glob.Facts] : Prop :=
  ∀ (m : (ℓ : Loc Cert.GlobIdeal.nD Cert.GlobIdeal.τ Cert.GlobIdeal.sig) → Buf (Elt Ideal) ℓ) (g : Dev Cert.GlobIdeal.nD → PrngReg), Pre_GlobIdeal_finite_glob m →
    θ_run (Cert.GlobIdeal.defs (F := Ideal)) (onTc (τ := Cert.GlobIdeal.τ) (Cert.GlobIdeal.main (F := Ideal))) ⟨m, fun _ => 0, g⟩ (fun r => (∀ c : Dev Cert.GlobIdeal.nD,
      r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
      ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
      ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2)
      ∧ r.2.mem ((c.tc : Thread Cert.GlobIdeal.nD Cert.GlobIdeal.τ).loc Cert.GlobIdeal.main_arg3) = m ((c.tc : Thread Cert.GlobIdeal.nD Cert.GlobIdeal.τ).loc Cert.GlobIdeal.main_arg3))
      ∧ r.2.sem = fun _ => 0)

def quiescent_GlobRefIdeal [hGlobRefIdeal : Cert.GlobRefIdeal.Facts] : Prop :=
  ∀ (m : (ℓ : Loc Cert.GlobRefIdeal.nD Cert.GlobRefIdeal.τ Cert.GlobRefIdeal.sig) → Buf (Elt Ideal) ℓ) (g : Dev Cert.GlobRefIdeal.nD → PrngReg), Pre_GlobRefIdeal m →
    θ_run (Cert.GlobRefIdeal.defs (F := Ideal)) (onTc (τ := Cert.GlobRefIdeal.τ) (Cert.GlobRefIdeal.main (F := Ideal))) ⟨m, fun _ => 0, g⟩ (fun r => (∀ c : Dev Cert.GlobRefIdeal.nD,
      r.2.mem ((c.tc : Thread Cert.GlobRefIdeal.nD Cert.GlobRefIdeal.τ).loc Cert.GlobRefIdeal.main_arg0) = m ((c.tc : Thread Cert.GlobRefIdeal.nD Cert.GlobRefIdeal.τ).loc Cert.GlobRefIdeal.main_arg0)
      ∧ r.2.mem ((c.tc : Thread Cert.GlobRefIdeal.nD Cert.GlobRefIdeal.τ).loc Cert.GlobRefIdeal.main_arg1) = m ((c.tc : Thread Cert.GlobRefIdeal.nD Cert.GlobRefIdeal.τ).loc Cert.GlobRefIdeal.main_arg1)
      ∧ r.2.mem ((c.tc : Thread Cert.GlobRefIdeal.nD Cert.GlobRefIdeal.τ).loc Cert.GlobRefIdeal.main_arg2) = m ((c.tc : Thread Cert.GlobRefIdeal.nD Cert.GlobRefIdeal.τ).loc Cert.GlobRefIdeal.main_arg2)
      ∧ r.2.mem ((c.tc : Thread Cert.GlobRefIdeal.nD Cert.GlobRefIdeal.τ).loc Cert.GlobRefIdeal.main_arg3) = m ((c.tc : Thread Cert.GlobRefIdeal.nD Cert.GlobRefIdeal.τ).loc Cert.GlobRefIdeal.main_arg3))
      ∧ r.2.sem = fun _ => 0)

def quiescent_GlobRefIdeal_pre_finite_glob [hGlobRefIdeal : Cert.GlobRefIdeal.Facts] [hPre_finite_glob : Cert.Pre_finite_glob.Facts] : Prop :=
  ∀ (m : (ℓ : Loc Cert.GlobRefIdeal.nD Cert.GlobRefIdeal.τ Cert.GlobRefIdeal.sig) → Buf (Elt Ideal) ℓ) (g : Dev Cert.GlobRefIdeal.nD → PrngReg), Pre_GlobRefIdeal_finite_glob m →
    θ_run (Cert.GlobRefIdeal.defs (F := Ideal)) (onTc (τ := Cert.GlobRefIdeal.τ) (Cert.GlobRefIdeal.main (F := Ideal))) ⟨m, fun _ => 0, g⟩ (fun r => (∀ c : Dev Cert.GlobRefIdeal.nD,
      r.2.mem ((c.tc : Thread Cert.GlobRefIdeal.nD Cert.GlobRefIdeal.τ).loc Cert.GlobRefIdeal.main_arg0) = m ((c.tc : Thread Cert.GlobRefIdeal.nD Cert.GlobRefIdeal.τ).loc Cert.GlobRefIdeal.main_arg0)
      ∧ r.2.mem ((c.tc : Thread Cert.GlobRefIdeal.nD Cert.GlobRefIdeal.τ).loc Cert.GlobRefIdeal.main_arg1) = m ((c.tc : Thread Cert.GlobRefIdeal.nD Cert.GlobRefIdeal.τ).loc Cert.GlobRefIdeal.main_arg1)
      ∧ r.2.mem ((c.tc : Thread Cert.GlobRefIdeal.nD Cert.GlobRefIdeal.τ).loc Cert.GlobRefIdeal.main_arg2) = m ((c.tc : Thread Cert.GlobRefIdeal.nD Cert.GlobRefIdeal.τ).loc Cert.GlobRefIdeal.main_arg2)
      ∧ r.2.mem ((c.tc : Thread Cert.GlobRefIdeal.nD Cert.GlobRefIdeal.τ).loc Cert.GlobRefIdeal.main_arg3) = m ((c.tc : Thread Cert.GlobRefIdeal.nD Cert.GlobRefIdeal.τ).loc Cert.GlobRefIdeal.main_arg3))
      ∧ r.2.sem = fun _ => 0)

def quiescent_GlobB [hGlobB : Cert.GlobB.Facts] : Prop :=
  ∀ (m : (ℓ : Loc Cert.GlobB.nD Cert.GlobB.τ Cert.GlobB.sig) → Buf (Elt Bits) ℓ) (g : Dev Cert.GlobB.nD → PrngReg), Pre_GlobB m →
    θ_run (Cert.GlobB.defs (F := Bits)) (onTc (τ := Cert.GlobB.τ) (Cert.GlobB.main (F := Bits))) ⟨m, fun _ => 0, g⟩ (fun r => (∀ c : Dev Cert.GlobB.nD,
      r.2.mem ((c.tc : Thread Cert.GlobB.nD Cert.GlobB.τ).loc Cert.GlobB.main_arg0) = m ((c.tc : Thread Cert.GlobB.nD Cert.GlobB.τ).loc Cert.GlobB.main_arg0)
      ∧ r.2.mem ((c.tc : Thread Cert.GlobB.nD Cert.GlobB.τ).loc Cert.GlobB.main_arg1) = m ((c.tc : Thread Cert.GlobB.nD Cert.GlobB.τ).loc Cert.GlobB.main_arg1)
      ∧ r.2.mem ((c.tc : Thread Cert.GlobB.nD Cert.GlobB.τ).loc Cert.GlobB.main_arg2) = m ((c.tc : Thread Cert.GlobB.nD Cert.GlobB.τ).loc Cert.GlobB.main_arg2)
      ∧ r.2.mem ((c.tc : Thread Cert.GlobB.nD Cert.GlobB.τ).loc Cert.GlobB.main_arg3) = m ((c.tc : Thread Cert.GlobB.nD Cert.GlobB.τ).loc Cert.GlobB.main_arg3))
      ∧ r.2.sem = fun _ => 0)

def quiescent_GlobBIdeal [hGlobBIdeal : Cert.GlobBIdeal.Facts] : Prop :=
  ∀ (m : (ℓ : Loc Cert.GlobBIdeal.nD Cert.GlobBIdeal.τ Cert.GlobBIdeal.sig) → Buf (Elt Ideal) ℓ) (g : Dev Cert.GlobBIdeal.nD → PrngReg), Pre_GlobBIdeal m →
    θ_run (Cert.GlobBIdeal.defs (F := Ideal)) (onTc (τ := Cert.GlobBIdeal.τ) (Cert.GlobBIdeal.main (F := Ideal))) ⟨m, fun _ => 0, g⟩ (fun r => (∀ c : Dev Cert.GlobBIdeal.nD,
      r.2.mem ((c.tc : Thread Cert.GlobBIdeal.nD Cert.GlobBIdeal.τ).loc Cert.GlobBIdeal.main_arg0) = m ((c.tc : Thread Cert.GlobBIdeal.nD Cert.GlobBIdeal.τ).loc Cert.GlobBIdeal.main_arg0)
      ∧ r.2.mem ((c.tc : Thread Cert.GlobBIdeal.nD Cert.GlobBIdeal.τ).loc Cert.GlobBIdeal.main_arg1) = m ((c.tc : Thread Cert.GlobBIdeal.nD Cert.GlobBIdeal.τ).loc Cert.GlobBIdeal.main_arg1)
      ∧ r.2.mem ((c.tc : Thread Cert.GlobBIdeal.nD Cert.GlobBIdeal.τ).loc Cert.GlobBIdeal.main_arg2) = m ((c.tc : Thread Cert.GlobBIdeal.nD Cert.GlobBIdeal.τ).loc Cert.GlobBIdeal.main_arg2)
      ∧ r.2.mem ((c.tc : Thread Cert.GlobBIdeal.nD Cert.GlobBIdeal.τ).loc Cert.GlobBIdeal.main_arg3) = m ((c.tc : Thread Cert.GlobBIdeal.nD Cert.GlobBIdeal.τ).loc Cert.GlobBIdeal.main_arg3))
      ∧ r.2.sem = fun _ => 0)

def quiescent_GlobBIdeal_pre_finite_glob [hGlobBIdeal : Cert.GlobBIdeal.Facts] [hPre_finite_glob : Cert.Pre_finite_glob.Facts] : Prop :=
  ∀ (m : (ℓ : Loc Cert.GlobBIdeal.nD Cert.GlobBIdeal.τ Cert.GlobBIdeal.sig) → Buf (Elt Ideal) ℓ) (g : Dev Cert.GlobBIdeal.nD → PrngReg), Pre_GlobBIdeal_finite_glob m →
    θ_run (Cert.GlobBIdeal.defs (F := Ideal)) (onTc (τ := Cert.GlobBIdeal.τ) (Cert.GlobBIdeal.main (F := Ideal))) ⟨m, fun _ => 0, g⟩ (fun r => (∀ c : Dev Cert.GlobBIdeal.nD,
      r.2.mem ((c.tc : Thread Cert.GlobBIdeal.nD Cert.GlobBIdeal.τ).loc Cert.GlobBIdeal.main_arg0) = m ((c.tc : Thread Cert.GlobBIdeal.nD Cert.GlobBIdeal.τ).loc Cert.GlobBIdeal.main_arg0)
      ∧ r.2.mem ((c.tc : Thread Cert.GlobBIdeal.nD Cert.GlobBIdeal.τ).loc Cert.GlobBIdeal.main_arg1) = m ((c.tc : Thread Cert.GlobBIdeal.nD Cert.GlobBIdeal.τ).loc Cert.GlobBIdeal.main_arg1)
      ∧ r.2.mem ((c.tc : Thread Cert.GlobBIdeal.nD Cert.GlobBIdeal.τ).loc Cert.GlobBIdeal.main_arg2) = m ((c.tc : Thread Cert.GlobBIdeal.nD Cert.GlobBIdeal.τ).loc Cert.GlobBIdeal.main_arg2)
      ∧ r.2.mem ((c.tc : Thread Cert.GlobBIdeal.nD Cert.GlobBIdeal.τ).loc Cert.GlobBIdeal.main_arg3) = m ((c.tc : Thread Cert.GlobBIdeal.nD Cert.GlobBIdeal.τ).loc Cert.GlobBIdeal.main_arg3))
      ∧ r.2.sem = fun _ => 0)

def quiescent_GlobBRefIdeal [hGlobBRefIdeal : Cert.GlobBRefIdeal.Facts] : Prop :=
  ∀ (m : (ℓ : Loc Cert.GlobBRefIdeal.nD Cert.GlobBRefIdeal.τ Cert.GlobBRefIdeal.sig) → Buf (Elt Ideal) ℓ) (g : Dev Cert.GlobBRefIdeal.nD → PrngReg), Pre_GlobBRefIdeal m →
    θ_run (Cert.GlobBRefIdeal.defs (F := Ideal)) (onTc (τ := Cert.GlobBRefIdeal.τ) (Cert.GlobBRefIdeal.main (F := Ideal))) ⟨m, fun _ => 0, g⟩ (fun r => (∀ c : Dev Cert.GlobBRefIdeal.nD,
      r.2.mem ((c.tc : Thread Cert.GlobBRefIdeal.nD Cert.GlobBRefIdeal.τ).loc Cert.GlobBRefIdeal.main_arg0) = m ((c.tc : Thread Cert.GlobBRefIdeal.nD Cert.GlobBRefIdeal.τ).loc Cert.GlobBRefIdeal.main_arg0)
      ∧ r.2.mem ((c.tc : Thread Cert.GlobBRefIdeal.nD Cert.GlobBRefIdeal.τ).loc Cert.GlobBRefIdeal.main_arg1) = m ((c.tc : Thread Cert.GlobBRefIdeal.nD Cert.GlobBRefIdeal.τ).loc Cert.GlobBRefIdeal.main_arg1)
      ∧ r.2.mem ((c.tc : Thread Cert.GlobBRefIdeal.nD Cert.GlobBRefIdeal.τ).loc Cert.GlobBRefIdeal.main_arg2) = m ((c.tc : Thread Cert.GlobBRefIdeal.nD Cert.GlobBRefIdeal.τ).loc Cert.GlobBRefIdeal.main_arg2)
      ∧ r.2.mem ((c.tc : Thread Cert.GlobBRefIdeal.nD Cert.GlobBRefIdeal.τ).loc Cert.GlobBRefIdeal.main_arg3) = m ((c.tc : Thread Cert.GlobBRefIdeal.nD Cert.GlobBRefIdeal.τ).loc Cert.GlobBRefIdeal.main_arg3))
      ∧ r.2.sem = fun _ => 0)

def quiescent_GlobBRefIdeal_pre_finite_glob [hGlobBRefIdeal : Cert.GlobBRefIdeal.Facts] [hPre_finite_glob : Cert.Pre_finite_glob.Facts] : Prop :=
  ∀ (m : (ℓ : Loc Cert.GlobBRefIdeal.nD Cert.GlobBRefIdeal.τ Cert.GlobBRefIdeal.sig) → Buf (Elt Ideal) ℓ) (g : Dev Cert.GlobBRefIdeal.nD → PrngReg), Pre_GlobBRefIdeal_finite_glob m →
    θ_run (Cert.GlobBRefIdeal.defs (F := Ideal)) (onTc (τ := Cert.GlobBRefIdeal.τ) (Cert.GlobBRefIdeal.main (F := Ideal))) ⟨m, fun _ => 0, g⟩ (fun r => (∀ c : Dev Cert.GlobBRefIdeal.nD,
      r.2.mem ((c.tc : Thread Cert.GlobBRefIdeal.nD Cert.GlobBRefIdeal.τ).loc Cert.GlobBRefIdeal.main_arg0) = m ((c.tc : Thread Cert.GlobBRefIdeal.nD Cert.GlobBRefIdeal.τ).loc Cert.GlobBRefIdeal.main_arg0)
      ∧ r.2.mem ((c.tc : Thread Cert.GlobBRefIdeal.nD Cert.GlobBRefIdeal.τ).loc Cert.GlobBRefIdeal.main_arg1) = m ((c.tc : Thread Cert.GlobBRefIdeal.nD Cert.GlobBRefIdeal.τ).loc Cert.GlobBRefIdeal.main_arg1)
      ∧ r.2.mem ((c.tc : Thread Cert.GlobBRefIdeal.nD Cert.GlobBRefIdeal.τ).loc Cert.GlobBRefIdeal.main_arg2) = m ((c.tc : Thread Cert.GlobBRefIdeal.nD Cert.GlobBRefIdeal.τ).loc Cert.GlobBRefIdeal.main_arg2)
      ∧ r.2.mem ((c.tc : Thread Cert.GlobBRefIdeal.nD Cert.GlobBRefIdeal.τ).loc Cert.GlobBRefIdeal.main_arg3) = m ((c.tc : Thread Cert.GlobBRefIdeal.nD Cert.GlobBRefIdeal.τ).loc Cert.GlobBRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojCtx [hInprojCtx : Cert.InprojCtx.Facts] : Prop :=
  ∀ (m : (ℓ : Loc Cert.InprojCtx.nD Cert.InprojCtx.τ Cert.InprojCtx.sig) → Buf (Elt Bits) ℓ) (g : Dev Cert.InprojCtx.nD → PrngReg), Pre_InprojCtx m →
    θ_run (Cert.InprojCtx.defs (F := Bits)) (onTc (τ := Cert.InprojCtx.τ) (Cert.InprojCtx.main (F := Bits))) ⟨m, fun _ => 0, g⟩ (fun r => (∀ c : Dev Cert.InprojCtx.nD,
      r.2.mem ((c.tc : Thread Cert.InprojCtx.nD Cert.InprojCtx.τ).loc Cert.InprojCtx.main_arg0) = m ((c.tc : Thread Cert.InprojCtx.nD Cert.InprojCtx.τ).loc Cert.InprojCtx.main_arg0)
      ∧ r.2.mem ((c.tc : Thread Cert.InprojCtx.nD Cert.InprojCtx.τ).loc Cert.InprojCtx.main_arg1) = m ((c.tc : Thread Cert.InprojCtx.nD Cert.InprojCtx.τ).loc Cert.InprojCtx.main_arg1)
      ∧ r.2.mem ((c.tc : Thread Cert.InprojCtx.nD Cert.InprojCtx.τ).loc Cert.InprojCtx.main_arg2) = m ((c.tc : Thread Cert.InprojCtx.nD Cert.InprojCtx.τ).loc Cert.InprojCtx.main_arg2)
      ∧ r.2.mem ((c.tc : Thread Cert.InprojCtx.nD Cert.InprojCtx.τ).loc Cert.InprojCtx.main_arg3) = m ((c.tc : Thread Cert.InprojCtx.nD Cert.InprojCtx.τ).loc Cert.InprojCtx.main_arg3))
      ∧ r.2.sem = fun _ => 0)

def quiescent_InprojCtxIdeal [hInprojCtxIdeal : Cert.InprojCtxIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg), Pre_InprojCtxIdeal m →
    θ_run (Cert.InprojCtxIdeal.defs (F := Ideal)) (onTc (τ := Cert.InprojCtxIdeal.τ) (Cert.InprojCtxIdeal.main (F := Ideal))) ⟨m, fun _ => 0, g⟩ (fun r => (∀ c : Dev Cert.InprojCtxIdeal.nD,
      r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
      ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
      ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
      ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3))
      ∧ r.2.sem = fun _ => 0)

def quiescent_InprojCtxRefIdeal [hInprojCtxRefIdeal : Cert.InprojCtxRefIdeal.Facts] : Prop :=
  ∀ (m : (ℓ : Loc Cert.InprojCtxRefIdeal.nD Cert.InprojCtxRefIdeal.τ Cert.InprojCtxRefIdeal.sig) → Buf (Elt Ideal) ℓ) (g : Dev Cert.InprojCtxRefIdeal.nD → PrngReg), Pre_InprojCtxRefIdeal m →
    θ_run (Cert.InprojCtxRefIdeal.defs (F := Ideal)) (onTc (τ := Cert.InprojCtxRefIdeal.τ) (Cert.InprojCtxRefIdeal.main (F := Ideal))) ⟨m, fun _ => 0, g⟩ (fun r => (∀ c : Dev Cert.InprojCtxRefIdeal.nD,
      r.2.mem ((c.tc : Thread Cert.InprojCtxRefIdeal.nD Cert.InprojCtxRefIdeal.τ).loc Cert.InprojCtxRefIdeal.main_arg0) = m ((c.tc : Thread Cert.InprojCtxRefIdeal.nD Cert.InprojCtxRefIdeal.τ).loc Cert.InprojCtxRefIdeal.main_arg0)
      ∧ r.2.mem ((c.tc : Thread Cert.InprojCtxRefIdeal.nD Cert.InprojCtxRefIdeal.τ).loc Cert.InprojCtxRefIdeal.main_arg1) = m ((c.tc : Thread Cert.InprojCtxRefIdeal.nD Cert.InprojCtxRefIdeal.τ).loc Cert.InprojCtxRefIdeal.main_arg1)
      ∧ r.2.mem ((c.tc : Thread Cert.InprojCtxRefIdeal.nD Cert.InprojCtxRefIdeal.τ).loc Cert.InprojCtxRefIdeal.main_arg2) = m ((c.tc : Thread Cert.InprojCtxRefIdeal.nD Cert.InprojCtxRefIdeal.τ).loc Cert.InprojCtxRefIdeal.main_arg2)
      ∧ r.2.mem ((c.tc : Thread Cert.InprojCtxRefIdeal.nD Cert.InprojCtxRefIdeal.τ).loc Cert.InprojCtxRefIdeal.main_arg3) = m ((c.tc : Thread Cert.InprojCtxRefIdeal.nD Cert.InprojCtxRefIdeal.τ).loc Cert.InprojCtxRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModIdeal_pre_finite_mod [hModIdeal : Cert.ModIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_mod m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_ModRefIdeal_pre_finite_mod [hModRefIdeal : Cert.ModRefIdeal.Facts] [hPre_finite_mod : Cert.Pre_finite_mod.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_mod m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5)
      ∧ r.2.mem ((c.tc : Thread Cert.FfnUp.nD Cert.FfnUp.τ).loc Cert.FfnUp.main_arg6) = m ((c.tc : Thread Cert.FfnUp.nD Cert.FfnUp.τ).loc Cert.FfnUp.main_arg6)
      ∧ r.2.mem ((c.tc : Thread Cert.FfnUp.nD Cert.FfnUp.τ).loc Cert.FfnUp.main_arg7) = m ((c.tc : Thread Cert.FfnUp.nD Cert.FfnUp.τ).loc Cert.FfnUp.main_arg7)
      ∧ r.2.mem ((c.tc : Thread Cert.FfnUp.nD Cert.FfnUp.τ).loc Cert.FfnUp.main_arg8) = m ((c.tc : Thread Cert.FfnUp.nD Cert.FfnUp.τ).loc Cert.FfnUp.main_arg8))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ r.2.sem = fun _ => 0)

def quiescent_FfnUpIdeal_pre_finite_ffn_up [hFfnUpIdeal : Cert.FfnUpIdeal.Facts] [hPre_finite_ffn_up : Cert.Pre_finite_ffn_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_ffn_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
      ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
      ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8))
      ∧ r.2.sem = fun _ => 0)

def quiescent_FfnUpRefIdeal_pre_finite_ffn_up [hFfnUpRefIdeal : Cert.FfnUpRefIdeal.Facts] [hPre_finite_ffn_up : Cert.Pre_finite_ffn_up.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite_ffn_up m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6)
      ∧ r.2.mem ((c.tc : Thread Cert.FfnUpRefIdeal.nD Cert.FfnUpRefIdeal.τ).loc Cert.FfnUpRefIdeal.main_arg7) = m ((c.tc : Thread Cert.FfnUpRefIdeal.nD Cert.FfnUpRefIdeal.τ).loc Cert.FfnUpRefIdeal.main_arg7)
      ∧ r.2.mem ((c.tc : Thread Cert.FfnUpRefIdeal.nD Cert.FfnUpRefIdeal.τ).loc Cert.FfnUpRefIdeal.main_arg8) = m ((c.tc : Thread Cert.FfnUpRefIdeal.nD Cert.FfnUpRefIdeal.τ).loc Cert.FfnUpRefIdeal.main_arg8))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5)
      ∧ r.2.mem ((c.tc : Thread Cert.FfnDown.nD Cert.FfnDown.τ).loc Cert.FfnDown.main_arg6) = m ((c.tc : Thread Cert.FfnDown.nD Cert.FfnDown.τ).loc Cert.FfnDown.main_arg6)
      ∧ r.2.mem ((c.tc : Thread Cert.FfnDown.nD Cert.FfnDown.τ).loc Cert.FfnDown.main_arg7) = m ((c.tc : Thread Cert.FfnDown.nD Cert.FfnDown.τ).loc Cert.FfnDown.main_arg7)
      ∧ r.2.mem ((c.tc : Thread Cert.FfnDown.nD Cert.FfnDown.τ).loc Cert.FfnDown.main_arg8) = m ((c.tc : Thread Cert.FfnDown.nD Cert.FfnDown.τ).loc Cert.FfnDown.main_arg8))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6)
      ∧ r.2.mem ((c.tc : Thread Cert.FfnDownIdeal.nD Cert.FfnDownIdeal.τ).loc Cert.FfnDownIdeal.main_arg7) = m ((c.tc : Thread Cert.FfnDownIdeal.nD Cert.FfnDownIdeal.τ).loc Cert.FfnDownIdeal.main_arg7)
      ∧ r.2.mem ((c.tc : Thread Cert.FfnDownIdeal.nD Cert.FfnDownIdeal.τ).loc Cert.FfnDownIdeal.main_arg8) = m ((c.tc : Thread Cert.FfnDownIdeal.nD Cert.FfnDownIdeal.τ).loc Cert.FfnDownIdeal.main_arg8))
      ∧ r.2.sem = fun _ => 0)

def quiescent_FfnDownIdeal_pre_finite_ffn_down [hFfnDownIdeal : Cert.FfnDownIdeal.Facts] [hPre_finite_ffn_down : Cert.Pre_finite_ffn_down.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal_finite_ffn_down m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
      ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6)
      ∧ r.2.mem ((c.tc : Thread Cert.FfnDownIdeal.nD Cert.FfnDownIdeal.τ).loc Cert.FfnDownIdeal.main_arg7) = m ((c.tc : Thread Cert.FfnDownIdeal.nD Cert.FfnDownIdeal.τ).loc Cert.FfnDownIdeal.main_arg7)
      ∧ r.2.mem ((c.tc : Thread Cert.FfnDownIdeal.nD Cert.FfnDownIdeal.τ).loc Cert.FfnDownIdeal.main_arg8) = m ((c.tc : Thread Cert.FfnDownIdeal.nD Cert.FfnDownIdeal.τ).loc Cert.FfnDownIdeal.main_arg8))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6)
      ∧ r.2.mem ((c.tc : Thread Cert.FfnDownRefIdeal.nD Cert.FfnDownRefIdeal.τ).loc Cert.FfnDownRefIdeal.main_arg7) = m ((c.tc : Thread Cert.FfnDownRefIdeal.nD Cert.FfnDownRefIdeal.τ).loc Cert.FfnDownRefIdeal.main_arg7)
      ∧ r.2.mem ((c.tc : Thread Cert.FfnDownRefIdeal.nD Cert.FfnDownRefIdeal.τ).loc Cert.FfnDownRefIdeal.main_arg8) = m ((c.tc : Thread Cert.FfnDownRefIdeal.nD Cert.FfnDownRefIdeal.τ).loc Cert.FfnDownRefIdeal.main_arg8))
      ∧ r.2.sem = fun _ => 0)

def quiescent_FfnDownRefIdeal_pre_finite_ffn_down [hFfnDownRefIdeal : Cert.FfnDownRefIdeal.Facts] [hPre_finite_ffn_down : Cert.Pre_finite_ffn_down.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_finite_ffn_down m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6)
      ∧ r.2.mem ((c.tc : Thread Cert.FfnDownRefIdeal.nD Cert.FfnDownRefIdeal.τ).loc Cert.FfnDownRefIdeal.main_arg7) = m ((c.tc : Thread Cert.FfnDownRefIdeal.nD Cert.FfnDownRefIdeal.τ).loc Cert.FfnDownRefIdeal.main_arg7)
      ∧ r.2.mem ((c.tc : Thread Cert.FfnDownRefIdeal.nD Cert.FfnDownRefIdeal.τ).loc Cert.FfnDownRefIdeal.main_arg8) = m ((c.tc : Thread Cert.FfnDownRefIdeal.nD Cert.FfnDownRefIdeal.τ).loc Cert.FfnDownRefIdeal.main_arg8))
      ∧ r.2.sem = fun _ => 0)

def quiescent_WinSink [hWinSink : Cert.WinSink.Facts] : Prop :=
  ∀ (m : (ℓ : Loc Cert.WinSink.nD Cert.WinSink.τ Cert.WinSink.sig) → Buf (Elt Bits) ℓ) (g : Dev Cert.WinSink.nD → PrngReg), Pre_WinSink m →
    θ_run (Cert.WinSink.defs (F := Bits)) (onTc (τ := Cert.WinSink.τ) (Cert.WinSink.main (F := Bits))) ⟨m, fun _ => 0, g⟩ (fun r => (∀ c : Dev Cert.WinSink.nD,
      r.2.mem ((c.tc : Thread Cert.WinSink.nD Cert.WinSink.τ).loc Cert.WinSink.main_arg0) = m ((c.tc : Thread Cert.WinSink.nD Cert.WinSink.τ).loc Cert.WinSink.main_arg0)
      ∧ r.2.mem ((c.tc : Thread Cert.WinSink.nD Cert.WinSink.τ).loc Cert.WinSink.main_arg1) = m ((c.tc : Thread Cert.WinSink.nD Cert.WinSink.τ).loc Cert.WinSink.main_arg1)
      ∧ r.2.mem ((c.tc : Thread Cert.WinSink.nD Cert.WinSink.τ).loc Cert.WinSink.main_arg2) = m ((c.tc : Thread Cert.WinSink.nD Cert.WinSink.τ).loc Cert.WinSink.main_arg2)
      ∧ r.2.mem ((c.tc : Thread Cert.WinSink.nD Cert.WinSink.τ).loc Cert.WinSink.main_arg3) = m ((c.tc : Thread Cert.WinSink.nD Cert.WinSink.τ).loc Cert.WinSink.main_arg3)
      ∧ r.2.mem ((c.tc : Thread Cert.WinSink.nD Cert.WinSink.τ).loc Cert.WinSink.main_arg4) = m ((c.tc : Thread Cert.WinSink.nD Cert.WinSink.τ).loc Cert.WinSink.main_arg4))
      ∧ r.2.sem = fun _ => 0)

def quiescent_WinSinkIdeal [hWinSinkIdeal : Cert.WinSinkIdeal.Facts] : Prop :=
  ∀ (m : (ℓ : Loc Cert.WinSinkIdeal.nD Cert.WinSinkIdeal.τ Cert.WinSinkIdeal.sig) → Buf (Elt Ideal) ℓ) (g : Dev Cert.WinSinkIdeal.nD → PrngReg), Pre_WinSinkIdeal m →
    θ_run (Cert.WinSinkIdeal.defs (F := Ideal)) (onTc (τ := Cert.WinSinkIdeal.τ) (Cert.WinSinkIdeal.main (F := Ideal))) ⟨m, fun _ => 0, g⟩ (fun r => (∀ c : Dev Cert.WinSinkIdeal.nD,
      r.2.mem ((c.tc : Thread Cert.WinSinkIdeal.nD Cert.WinSinkIdeal.τ).loc Cert.WinSinkIdeal.main_arg0) = m ((c.tc : Thread Cert.WinSinkIdeal.nD Cert.WinSinkIdeal.τ).loc Cert.WinSinkIdeal.main_arg0)
      ∧ r.2.mem ((c.tc : Thread Cert.WinSinkIdeal.nD Cert.WinSinkIdeal.τ).loc Cert.WinSinkIdeal.main_arg1) = m ((c.tc : Thread Cert.WinSinkIdeal.nD Cert.WinSinkIdeal.τ).loc Cert.WinSinkIdeal.main_arg1)
      ∧ r.2.mem ((c.tc : Thread Cert.WinSinkIdeal.nD Cert.WinSinkIdeal.τ).loc Cert.WinSinkIdeal.main_arg2) = m ((c.tc : Thread Cert.WinSinkIdeal.nD Cert.WinSinkIdeal.τ).loc Cert.WinSinkIdeal.main_arg2)
      ∧ r.2.mem ((c.tc : Thread Cert.WinSinkIdeal.nD Cert.WinSinkIdeal.τ).loc Cert.WinSinkIdeal.main_arg3) = m ((c.tc : Thread Cert.WinSinkIdeal.nD Cert.WinSinkIdeal.τ).loc Cert.WinSinkIdeal.main_arg3)
      ∧ r.2.mem ((c.tc : Thread Cert.WinSinkIdeal.nD Cert.WinSinkIdeal.τ).loc Cert.WinSinkIdeal.main_arg4) = m ((c.tc : Thread Cert.WinSinkIdeal.nD Cert.WinSinkIdeal.τ).loc Cert.WinSinkIdeal.main_arg4))
      ∧ r.2.sem = fun _ => 0)

def quiescent_WinSinkIdeal_pre_finite_win [hWinSinkIdeal : Cert.WinSinkIdeal.Facts] [hPre_finite_win : Cert.Pre_finite_win.Facts] : Prop :=
  ∀ (m : (ℓ : Loc Cert.WinSinkIdeal.nD Cert.WinSinkIdeal.τ Cert.WinSinkIdeal.sig) → Buf (Elt Ideal) ℓ) (g : Dev Cert.WinSinkIdeal.nD → PrngReg), Pre_WinSinkIdeal_finite_win m →
    θ_run (Cert.WinSinkIdeal.defs (F := Ideal)) (onTc (τ := Cert.WinSinkIdeal.τ) (Cert.WinSinkIdeal.main (F := Ideal))) ⟨m, fun _ => 0, g⟩ (fun r => (∀ c : Dev Cert.WinSinkIdeal.nD,
      r.2.mem ((c.tc : Thread Cert.WinSinkIdeal.nD Cert.WinSinkIdeal.τ).loc Cert.WinSinkIdeal.main_arg0) = m ((c.tc : Thread Cert.WinSinkIdeal.nD Cert.WinSinkIdeal.τ).loc Cert.WinSinkIdeal.main_arg0)
      ∧ r.2.mem ((c.tc : Thread Cert.WinSinkIdeal.nD Cert.WinSinkIdeal.τ).loc Cert.WinSinkIdeal.main_arg1) = m ((c.tc : Thread Cert.WinSinkIdeal.nD Cert.WinSinkIdeal.τ).loc Cert.WinSinkIdeal.main_arg1)
      ∧ r.2.mem ((c.tc : Thread Cert.WinSinkIdeal.nD Cert.WinSinkIdeal.τ).loc Cert.WinSinkIdeal.main_arg2) = m ((c.tc : Thread Cert.WinSinkIdeal.nD Cert.WinSinkIdeal.τ).loc Cert.WinSinkIdeal.main_arg2)
      ∧ r.2.mem ((c.tc : Thread Cert.WinSinkIdeal.nD Cert.WinSinkIdeal.τ).loc Cert.WinSinkIdeal.main_arg3) = m ((c.tc : Thread Cert.WinSinkIdeal.nD Cert.WinSinkIdeal.τ).loc Cert.WinSinkIdeal.main_arg3)
      ∧ r.2.mem ((c.tc : Thread Cert.WinSinkIdeal.nD Cert.WinSinkIdeal.τ).loc Cert.WinSinkIdeal.main_arg4) = m ((c.tc : Thread Cert.WinSinkIdeal.nD Cert.WinSinkIdeal.τ).loc Cert.WinSinkIdeal.main_arg4))
      ∧ r.2.sem = fun _ => 0)

def quiescent_WinSinkRefIdeal [hWinSinkRefIdeal : Cert.WinSinkRefIdeal.Facts] : Prop :=
  ∀ (m : (ℓ : Loc Cert.WinSinkRefIdeal.nD Cert.WinSinkRefIdeal.τ Cert.WinSinkRefIdeal.sig) → Buf (Elt Ideal) ℓ) (g : Dev Cert.WinSinkRefIdeal.nD → PrngReg), Pre_WinSinkRefIdeal m →
    θ_run (Cert.WinSinkRefIdeal.defs (F := Ideal)) (onTc (τ := Cert.WinSinkRefIdeal.τ) (Cert.WinSinkRefIdeal.main (F := Ideal))) ⟨m, fun _ => 0, g⟩ (fun r => (∀ c : Dev Cert.WinSinkRefIdeal.nD,
      r.2.mem ((c.tc : Thread Cert.WinSinkRefIdeal.nD Cert.WinSinkRefIdeal.τ).loc Cert.WinSinkRefIdeal.main_arg0) = m ((c.tc : Thread Cert.WinSinkRefIdeal.nD Cert.WinSinkRefIdeal.τ).loc Cert.WinSinkRefIdeal.main_arg0)
      ∧ r.2.mem ((c.tc : Thread Cert.WinSinkRefIdeal.nD Cert.WinSinkRefIdeal.τ).loc Cert.WinSinkRefIdeal.main_arg1) = m ((c.tc : Thread Cert.WinSinkRefIdeal.nD Cert.WinSinkRefIdeal.τ).loc Cert.WinSinkRefIdeal.main_arg1)
      ∧ r.2.mem ((c.tc : Thread Cert.WinSinkRefIdeal.nD Cert.WinSinkRefIdeal.τ).loc Cert.WinSinkRefIdeal.main_arg2) = m ((c.tc : Thread Cert.WinSinkRefIdeal.nD Cert.WinSinkRefIdeal.τ).loc Cert.WinSinkRefIdeal.main_arg2)
      ∧ r.2.mem ((c.tc : Thread Cert.WinSinkRefIdeal.nD Cert.WinSinkRefIdeal.τ).loc Cert.WinSinkRefIdeal.main_arg3) = m ((c.tc : Thread Cert.WinSinkRefIdeal.nD Cert.WinSinkRefIdeal.τ).loc Cert.WinSinkRefIdeal.main_arg3)
      ∧ r.2.mem ((c.tc : Thread Cert.WinSinkRefIdeal.nD Cert.WinSinkRefIdeal.τ).loc Cert.WinSinkRefIdeal.main_arg4) = m ((c.tc : Thread Cert.WinSinkRefIdeal.nD Cert.WinSinkRefIdeal.τ).loc Cert.WinSinkRefIdeal.main_arg4))
      ∧ r.2.sem = fun _ => 0)

def quiescent_WinSinkRefIdeal_pre_finite_win [hWinSinkRefIdeal : Cert.WinSinkRefIdeal.Facts] [hPre_finite_win : Cert.Pre_finite_win.Facts] : Prop :=
  ∀ (m : (ℓ : Loc Cert.WinSinkRefIdeal.nD Cert.WinSinkRefIdeal.τ Cert.WinSinkRefIdeal.sig) → Buf (Elt Ideal) ℓ) (g : Dev Cert.WinSinkRefIdeal.nD → PrngReg), Pre_WinSinkRefIdeal_finite_win m →
    θ_run (Cert.WinSinkRefIdeal.defs (F := Ideal)) (onTc (τ := Cert.WinSinkRefIdeal.τ) (Cert.WinSinkRefIdeal.main (F := Ideal))) ⟨m, fun _ => 0, g⟩ (fun r => (∀ c : Dev Cert.WinSinkRefIdeal.nD,
      r.2.mem ((c.tc : Thread Cert.WinSinkRefIdeal.nD Cert.WinSinkRefIdeal.τ).loc Cert.WinSinkRefIdeal.main_arg0) = m ((c.tc : Thread Cert.WinSinkRefIdeal.nD Cert.WinSinkRefIdeal.τ).loc Cert.WinSinkRefIdeal.main_arg0)
      ∧ r.2.mem ((c.tc : Thread Cert.WinSinkRefIdeal.nD Cert.WinSinkRefIdeal.τ).loc Cert.WinSinkRefIdeal.main_arg1) = m ((c.tc : Thread Cert.WinSinkRefIdeal.nD Cert.WinSinkRefIdeal.τ).loc Cert.WinSinkRefIdeal.main_arg1)
      ∧ r.2.mem ((c.tc : Thread Cert.WinSinkRefIdeal.nD Cert.WinSinkRefIdeal.τ).loc Cert.WinSinkRefIdeal.main_arg2) = m ((c.tc : Thread Cert.WinSinkRefIdeal.nD Cert.WinSinkRefIdeal.τ).loc Cert.WinSinkRefIdeal.main_arg2)
      ∧ r.2.mem ((c.tc : Thread Cert.WinSinkRefIdeal.nD Cert.WinSinkRefIdeal.τ).loc Cert.WinSinkRefIdeal.main_arg3) = m ((c.tc : Thread Cert.WinSinkRefIdeal.nD Cert.WinSinkRefIdeal.τ).loc Cert.WinSinkRefIdeal.main_arg3)
      ∧ r.2.mem ((c.tc : Thread Cert.WinSinkRefIdeal.nD Cert.WinSinkRefIdeal.τ).loc Cert.WinSinkRefIdeal.main_arg4) = m ((c.tc : Thread Cert.WinSinkRefIdeal.nD Cert.WinSinkRefIdeal.τ).loc Cert.WinSinkRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6)
      ∧ r.2.mem ((c.tc : Thread Cert.Qk.nD Cert.Qk.τ).loc Cert.Qk.main_arg7) = m ((c.tc : Thread Cert.Qk.nD Cert.Qk.τ).loc Cert.Qk.main_arg7)
      ∧ r.2.mem ((c.tc : Thread Cert.Qk.nD Cert.Qk.τ).loc Cert.Qk.main_arg8) = m ((c.tc : Thread Cert.Qk.nD Cert.Qk.τ).loc Cert.Qk.main_arg8)
      ∧ r.2.mem ((c.tc : Thread Cert.Qk.nD Cert.Qk.τ).loc Cert.Qk.main_arg9) = m ((c.tc : Thread Cert.Qk.nD Cert.Qk.τ).loc Cert.Qk.main_arg9))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6)
      ∧ r.2.mem ((c.tc : Thread Cert.QkIdeal.nD Cert.QkIdeal.τ).loc Cert.QkIdeal.main_arg7) = m ((c.tc : Thread Cert.QkIdeal.nD Cert.QkIdeal.τ).loc Cert.QkIdeal.main_arg7)
      ∧ r.2.mem ((c.tc : Thread Cert.QkIdeal.nD Cert.QkIdeal.τ).loc Cert.QkIdeal.main_arg8) = m ((c.tc : Thread Cert.QkIdeal.nD Cert.QkIdeal.τ).loc Cert.QkIdeal.main_arg8)
      ∧ r.2.mem ((c.tc : Thread Cert.QkIdeal.nD Cert.QkIdeal.τ).loc Cert.QkIdeal.main_arg9) = m ((c.tc : Thread Cert.QkIdeal.nD Cert.QkIdeal.τ).loc Cert.QkIdeal.main_arg9))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5)
      ∧ r.2.mem ((c.tc : Thread Cert.QkRefIdeal.nD Cert.QkRefIdeal.τ).loc Cert.QkRefIdeal.main_arg6) = m ((c.tc : Thread Cert.QkRefIdeal.nD Cert.QkRefIdeal.τ).loc Cert.QkRefIdeal.main_arg6)
      ∧ r.2.mem ((c.tc : Thread Cert.QkRefIdeal.nD Cert.QkRefIdeal.τ).loc Cert.QkRefIdeal.main_arg7) = m ((c.tc : Thread Cert.QkRefIdeal.nD Cert.QkRefIdeal.τ).loc Cert.QkRefIdeal.main_arg7)
      ∧ r.2.mem ((c.tc : Thread Cert.QkRefIdeal.nD Cert.QkRefIdeal.τ).loc Cert.QkRefIdeal.main_arg8) = m ((c.tc : Thread Cert.QkRefIdeal.nD Cert.QkRefIdeal.τ).loc Cert.QkRefIdeal.main_arg8)
      ∧ r.2.mem ((c.tc : Thread Cert.QkRefIdeal.nD Cert.QkRefIdeal.τ).loc Cert.QkRefIdeal.main_arg9) = m ((c.tc : Thread Cert.QkRefIdeal.nD Cert.QkRefIdeal.τ).loc Cert.QkRefIdeal.main_arg9))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)) (v2 : (c : Dev Cert.MergeIdeal.nD) → Buf (Elt Ideal) ((c.tc : Thread Cert.MergeIdeal.nD Cert.MergeIdeal.τ).loc Cert.MergeIdeal.main_v9_2)) (v3 : (c : Dev Cert.MergeIdeal.nD) → Buf (Elt Ideal) ((c.tc : Thread Cert.MergeIdeal.nD Cert.MergeIdeal.τ).loc Cert.MergeIdeal.main_v9_3)) (v4 : (c : Dev Cert.MergeIdeal.nD) → Buf (Elt Ideal) ((c.tc : Thread Cert.MergeIdeal.nD Cert.MergeIdeal.τ).loc Cert.MergeIdeal.main_v9_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_v9_2) = v2 c
          ∧ r.2.mem ((c.tc : Thread Cert.MergeIdeal.nD Cert.MergeIdeal.τ).loc Cert.MergeIdeal.main_v9_3) = v3 c
          ∧ r.2.mem ((c.tc : Thread Cert.MergeIdeal.nD Cert.MergeIdeal.τ).loc Cert.MergeIdeal.main_v9_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_v25) = v1 c
          ∧ r.2.mem ((c.tc : Thread Cert.MergeRefIdeal.nD Cert.MergeRefIdeal.τ).loc Cert.MergeRefIdeal.main_v23) = v2 c
          ∧ r.2.mem ((c.tc : Thread Cert.MergeRefIdeal.nD Cert.MergeRefIdeal.τ).loc Cert.MergeRefIdeal.main_v26) = v3 c
          ∧ r.2.mem ((c.tc : Thread Cert.MergeRefIdeal.nD Cert.MergeRefIdeal.τ).loc Cert.MergeRefIdeal.main_v27) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Glob_GlobIdeal : Prop :=
  True

def algebraic_GlobIdeal_GlobRefIdeal_pre_finite_glob [hGlobIdeal : Cert.GlobIdeal.Facts] [hGlobRefIdeal : Cert.GlobRefIdeal.Facts] [hPre_finite_glob : Cert.Pre_finite_glob.Facts] : Prop :=
  ∀ (m : (ℓ : Loc Cert.GlobIdeal.nD Cert.GlobIdeal.τ Cert.GlobIdeal.sig) → Buf (Elt Ideal) ℓ) (g : Dev Cert.GlobIdeal.nD → PrngReg)
    (m' : (ℓ : Loc Cert.GlobRefIdeal.nD Cert.GlobRefIdeal.τ Cert.GlobRefIdeal.sig) → Buf (Elt Ideal) ℓ) (g' : Dev Cert.GlobRefIdeal.nD → PrngReg), Pre_GlobIdeal_finite_glob m →
    (∀ c : Dev Cert.GlobIdeal.nD,
      m' ((c.tc : Thread Cert.GlobRefIdeal.nD Cert.GlobRefIdeal.τ).loc Cert.GlobRefIdeal.main_arg0) = m ((c.tc : Thread Cert.GlobIdeal.nD Cert.GlobIdeal.τ).loc Cert.GlobIdeal.main_arg0)
      ∧ m' ((c.tc : Thread Cert.GlobRefIdeal.nD Cert.GlobRefIdeal.τ).loc Cert.GlobRefIdeal.main_arg1) = m ((c.tc : Thread Cert.GlobIdeal.nD Cert.GlobIdeal.τ).loc Cert.GlobIdeal.main_arg1)
      ∧ m' ((c.tc : Thread Cert.GlobRefIdeal.nD Cert.GlobRefIdeal.τ).loc Cert.GlobRefIdeal.main_arg2) = m ((c.tc : Thread Cert.GlobIdeal.nD Cert.GlobIdeal.τ).loc Cert.GlobIdeal.main_arg2)
      ∧ m' ((c.tc : Thread Cert.GlobRefIdeal.nD Cert.GlobRefIdeal.τ).loc Cert.GlobRefIdeal.main_arg3) = m ((c.tc : Thread Cert.GlobIdeal.nD Cert.GlobIdeal.τ).loc Cert.GlobIdeal.main_arg3)) →
    ∃ (v0 : (c : Dev Cert.GlobIdeal.nD) → Buf (Elt Ideal) ((c.tc : Thread Cert.GlobIdeal.nD Cert.GlobIdeal.τ).loc Cert.GlobIdeal.main_v56_0)) (v1 : (c : Dev Cert.GlobIdeal.nD) → Buf (Elt Ideal) ((c.tc : Thread Cert.GlobIdeal.nD Cert.GlobIdeal.τ).loc Cert.GlobIdeal.main_v56_1)) (v2 : (c : Dev Cert.GlobIdeal.nD) → Buf (Elt Ideal) ((c.tc : Thread Cert.GlobIdeal.nD Cert.GlobIdeal.τ).loc Cert.GlobIdeal.main_v56_2)),
      θ_run (Cert.GlobIdeal.defs (F := Ideal)) (onTc (τ := Cert.GlobIdeal.τ) (Cert.GlobIdeal.main (F := Ideal))) ⟨m, fun _ => 0, g⟩ (fun r => ∀ c : Dev Cert.GlobIdeal.nD,
          r.2.mem ((c.tc : Thread Cert.GlobIdeal.nD Cert.GlobIdeal.τ).loc Cert.GlobIdeal.main_v56_0) = v0 c
          ∧ r.2.mem ((c.tc : Thread Cert.GlobIdeal.nD Cert.GlobIdeal.τ).loc Cert.GlobIdeal.main_v56_1) = v1 c
          ∧ r.2.mem ((c.tc : Thread Cert.GlobIdeal.nD Cert.GlobIdeal.τ).loc Cert.GlobIdeal.main_v56_2) = v2 c
          ∧ r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
          ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
          ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2)
          ∧ r.2.mem ((c.tc : Thread Cert.GlobIdeal.nD Cert.GlobIdeal.τ).loc Cert.GlobIdeal.main_arg3) = m ((c.tc : Thread Cert.GlobIdeal.nD Cert.GlobIdeal.τ).loc Cert.GlobIdeal.main_arg3))
      ∧ θ_run (Cert.GlobRefIdeal.defs (F := Ideal)) (onTc (τ := Cert.GlobRefIdeal.τ) (Cert.GlobRefIdeal.main (F := Ideal))) ⟨m', fun _ => 0, g'⟩ (fun r => ∀ c : Dev Cert.GlobRefIdeal.nD,
          r.2.mem ((c.tc : Thread Cert.GlobRefIdeal.nD Cert.GlobRefIdeal.τ).loc Cert.GlobRefIdeal.main_v61) = v0 c
          ∧ r.2.mem ((c.tc : Thread Cert.GlobRefIdeal.nD Cert.GlobRefIdeal.τ).loc Cert.GlobRefIdeal.main_v62) = v1 c
          ∧ r.2.mem ((c.tc : Thread Cert.GlobRefIdeal.nD Cert.GlobRefIdeal.τ).loc Cert.GlobRefIdeal.main_v63) = v2 c
          ∧ r.2.mem ((c.tc : Thread Cert.GlobRefIdeal.nD Cert.GlobRefIdeal.τ).loc Cert.GlobRefIdeal.main_arg0) = m' ((c.tc : Thread Cert.GlobRefIdeal.nD Cert.GlobRefIdeal.τ).loc Cert.GlobRefIdeal.main_arg0)
          ∧ r.2.mem ((c.tc : Thread Cert.GlobRefIdeal.nD Cert.GlobRefIdeal.τ).loc Cert.GlobRefIdeal.main_arg1) = m' ((c.tc : Thread Cert.GlobRefIdeal.nD Cert.GlobRefIdeal.τ).loc Cert.GlobRefIdeal.main_arg1)
          ∧ r.2.mem ((c.tc : Thread Cert.GlobRefIdeal.nD Cert.GlobRefIdeal.τ).loc Cert.GlobRefIdeal.main_arg2) = m' ((c.tc : Thread Cert.GlobRefIdeal.nD Cert.GlobRefIdeal.τ).loc Cert.GlobRefIdeal.main_arg2)
          ∧ r.2.mem ((c.tc : Thread Cert.GlobRefIdeal.nD Cert.GlobRefIdeal.τ).loc Cert.GlobRefIdeal.main_arg3) = m' ((c.tc : Thread Cert.GlobRefIdeal.nD Cert.GlobRefIdeal.τ).loc Cert.GlobRefIdeal.main_arg3))

def preserves_GlobB_GlobBIdeal : Prop :=
  True

def algebraic_GlobBIdeal_GlobBRefIdeal_pre_finite_glob [hGlobBIdeal : Cert.GlobBIdeal.Facts] [hGlobBRefIdeal : Cert.GlobBRefIdeal.Facts] [hPre_finite_glob : Cert.Pre_finite_glob.Facts] : Prop :=
  ∀ (m : (ℓ : Loc Cert.GlobBIdeal.nD Cert.GlobBIdeal.τ Cert.GlobBIdeal.sig) → Buf (Elt Ideal) ℓ) (g : Dev Cert.GlobBIdeal.nD → PrngReg)
    (m' : (ℓ : Loc Cert.GlobBRefIdeal.nD Cert.GlobBRefIdeal.τ Cert.GlobBRefIdeal.sig) → Buf (Elt Ideal) ℓ) (g' : Dev Cert.GlobBRefIdeal.nD → PrngReg), Pre_GlobBIdeal_finite_glob m →
    (∀ c : Dev Cert.GlobBIdeal.nD,
      m' ((c.tc : Thread Cert.GlobBRefIdeal.nD Cert.GlobBRefIdeal.τ).loc Cert.GlobBRefIdeal.main_arg0) = m ((c.tc : Thread Cert.GlobBIdeal.nD Cert.GlobBIdeal.τ).loc Cert.GlobBIdeal.main_arg0)
      ∧ m' ((c.tc : Thread Cert.GlobBRefIdeal.nD Cert.GlobBRefIdeal.τ).loc Cert.GlobBRefIdeal.main_arg1) = m ((c.tc : Thread Cert.GlobBIdeal.nD Cert.GlobBIdeal.τ).loc Cert.GlobBIdeal.main_arg1)
      ∧ m' ((c.tc : Thread Cert.GlobBRefIdeal.nD Cert.GlobBRefIdeal.τ).loc Cert.GlobBRefIdeal.main_arg2) = m ((c.tc : Thread Cert.GlobBIdeal.nD Cert.GlobBIdeal.τ).loc Cert.GlobBIdeal.main_arg2)
      ∧ m' ((c.tc : Thread Cert.GlobBRefIdeal.nD Cert.GlobBRefIdeal.τ).loc Cert.GlobBRefIdeal.main_arg3) = m ((c.tc : Thread Cert.GlobBIdeal.nD Cert.GlobBIdeal.τ).loc Cert.GlobBIdeal.main_arg3)) →
    ∃ (v0 : (c : Dev Cert.GlobBIdeal.nD) → Buf (Elt Ideal) ((c.tc : Thread Cert.GlobBIdeal.nD Cert.GlobBIdeal.τ).loc Cert.GlobBIdeal.main_v56_0)) (v1 : (c : Dev Cert.GlobBIdeal.nD) → Buf (Elt Ideal) ((c.tc : Thread Cert.GlobBIdeal.nD Cert.GlobBIdeal.τ).loc Cert.GlobBIdeal.main_v56_1)) (v2 : (c : Dev Cert.GlobBIdeal.nD) → Buf (Elt Ideal) ((c.tc : Thread Cert.GlobBIdeal.nD Cert.GlobBIdeal.τ).loc Cert.GlobBIdeal.main_v56_2)),
      θ_run (Cert.GlobBIdeal.defs (F := Ideal)) (onTc (τ := Cert.GlobBIdeal.τ) (Cert.GlobBIdeal.main (F := Ideal))) ⟨m, fun _ => 0, g⟩ (fun r => ∀ c : Dev Cert.GlobBIdeal.nD,
          r.2.mem ((c.tc : Thread Cert.GlobBIdeal.nD Cert.GlobBIdeal.τ).loc Cert.GlobBIdeal.main_v56_0) = v0 c
          ∧ r.2.mem ((c.tc : Thread Cert.GlobBIdeal.nD Cert.GlobBIdeal.τ).loc Cert.GlobBIdeal.main_v56_1) = v1 c
          ∧ r.2.mem ((c.tc : Thread Cert.GlobBIdeal.nD Cert.GlobBIdeal.τ).loc Cert.GlobBIdeal.main_v56_2) = v2 c
          ∧ r.2.mem ((c.tc : Thread Cert.GlobBIdeal.nD Cert.GlobBIdeal.τ).loc Cert.GlobBIdeal.main_arg0) = m ((c.tc : Thread Cert.GlobBIdeal.nD Cert.GlobBIdeal.τ).loc Cert.GlobBIdeal.main_arg0)
          ∧ r.2.mem ((c.tc : Thread Cert.GlobBIdeal.nD Cert.GlobBIdeal.τ).loc Cert.GlobBIdeal.main_arg1) = m ((c.tc : Thread Cert.GlobBIdeal.nD Cert.GlobBIdeal.τ).loc Cert.GlobBIdeal.main_arg1)
          ∧ r.2.mem ((c.tc : Thread Cert.GlobBIdeal.nD Cert.GlobBIdeal.τ).loc Cert.GlobBIdeal.main_arg2) = m ((c.tc : Thread Cert.GlobBIdeal.nD Cert.GlobBIdeal.τ).loc Cert.GlobBIdeal.main_arg2)
          ∧ r.2.mem ((c.tc : Thread Cert.GlobBIdeal.nD Cert.GlobBIdeal.τ).loc Cert.GlobBIdeal.main_arg3) = m ((c.tc : Thread Cert.GlobBIdeal.nD Cert.GlobBIdeal.τ).loc Cert.GlobBIdeal.main_arg3))
      ∧ θ_run (Cert.GlobBRefIdeal.defs (F := Ideal)) (onTc (τ := Cert.GlobBRefIdeal.τ) (Cert.GlobBRefIdeal.main (F := Ideal))) ⟨m', fun _ => 0, g'⟩ (fun r => ∀ c : Dev Cert.GlobBRefIdeal.nD,
          r.2.mem ((c.tc : Thread Cert.GlobBRefIdeal.nD Cert.GlobBRefIdeal.τ).loc Cert.GlobBRefIdeal.main_v61) = v0 c
          ∧ r.2.mem ((c.tc : Thread Cert.GlobBRefIdeal.nD Cert.GlobBRefIdeal.τ).loc Cert.GlobBRefIdeal.main_v62) = v1 c
          ∧ r.2.mem ((c.tc : Thread Cert.GlobBRefIdeal.nD Cert.GlobBRefIdeal.τ).loc Cert.GlobBRefIdeal.main_v63) = v2 c
          ∧ r.2.mem ((c.tc : Thread Cert.GlobBRefIdeal.nD Cert.GlobBRefIdeal.τ).loc Cert.GlobBRefIdeal.main_arg0) = m' ((c.tc : Thread Cert.GlobBRefIdeal.nD Cert.GlobBRefIdeal.τ).loc Cert.GlobBRefIdeal.main_arg0)
          ∧ r.2.mem ((c.tc : Thread Cert.GlobBRefIdeal.nD Cert.GlobBRefIdeal.τ).loc Cert.GlobBRefIdeal.main_arg1) = m' ((c.tc : Thread Cert.GlobBRefIdeal.nD Cert.GlobBRefIdeal.τ).loc Cert.GlobBRefIdeal.main_arg1)
          ∧ r.2.mem ((c.tc : Thread Cert.GlobBRefIdeal.nD Cert.GlobBRefIdeal.τ).loc Cert.GlobBRefIdeal.main_arg2) = m' ((c.tc : Thread Cert.GlobBRefIdeal.nD Cert.GlobBRefIdeal.τ).loc Cert.GlobBRefIdeal.main_arg2)
          ∧ r.2.mem ((c.tc : Thread Cert.GlobBRefIdeal.nD Cert.GlobBRefIdeal.τ).loc Cert.GlobBRefIdeal.main_arg3) = m' ((c.tc : Thread Cert.GlobBRefIdeal.nD Cert.GlobBRefIdeal.τ).loc Cert.GlobBRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v65_0)) (v1 : (c : Dev Cert.InprojIdeal.nD) → Buf (Elt Ideal) ((c.tc : Thread Cert.InprojIdeal.nD Cert.InprojIdeal.τ).loc Cert.InprojIdeal.main_v65_1)) (v2 : (c : Dev Cert.InprojIdeal.nD) → Buf (Elt Ideal) ((c.tc : Thread Cert.InprojIdeal.nD Cert.InprojIdeal.τ).loc Cert.InprojIdeal.main_v65_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v65_0) = v0 c
          ∧ r.2.mem ((c.tc : Thread Cert.InprojIdeal.nD Cert.InprojIdeal.τ).loc Cert.InprojIdeal.main_v65_1) = v1 c
          ∧ r.2.mem ((c.tc : Thread Cert.InprojIdeal.nD Cert.InprojIdeal.τ).loc Cert.InprojIdeal.main_v65_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v20) = v0 c
          ∧ r.2.mem ((c.tc : Thread Cert.InprojRefIdeal.nD Cert.InprojRefIdeal.τ).loc Cert.InprojRefIdeal.main_v17) = v1 c
          ∧ r.2.mem ((c.tc : Thread Cert.InprojRefIdeal.nD Cert.InprojRefIdeal.τ).loc Cert.InprojRefIdeal.main_v14) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_InprojCtx_InprojCtxIdeal : Prop :=
  True

def algebraic_InprojCtxIdeal_InprojCtxRefIdeal [hInprojCtxIdeal : Cert.InprojCtxIdeal.Facts] [hInprojCtxRefIdeal : Cert.InprojCtxRefIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg)
    (m' : (ℓ : Loc Cert.InprojCtxRefIdeal.nD Cert.InprojCtxRefIdeal.τ Cert.InprojCtxRefIdeal.sig) → Buf (Elt Ideal) ℓ) (g' : Dev Cert.InprojCtxRefIdeal.nD → PrngReg), Pre_InprojCtxIdeal m →
    (∀ c : Dev Cert.InprojCtxIdeal.nD,
      m' ((c.tc : Thread Cert.InprojCtxRefIdeal.nD Cert.InprojCtxRefIdeal.τ).loc Cert.InprojCtxRefIdeal.main_arg0) = m ((c.tc : Thread Cert.InprojCtxIdeal.nD Cert.InprojCtxIdeal.τ).loc Cert.InprojCtxIdeal.main_arg0)
      ∧ m' ((c.tc : Thread Cert.InprojCtxRefIdeal.nD Cert.InprojCtxRefIdeal.τ).loc Cert.InprojCtxRefIdeal.main_arg1) = m ((c.tc : Thread Cert.InprojCtxIdeal.nD Cert.InprojCtxIdeal.τ).loc Cert.InprojCtxIdeal.main_arg1)
      ∧ m' ((c.tc : Thread Cert.InprojCtxRefIdeal.nD Cert.InprojCtxRefIdeal.τ).loc Cert.InprojCtxRefIdeal.main_arg2) = m ((c.tc : Thread Cert.InprojCtxIdeal.nD Cert.InprojCtxIdeal.τ).loc Cert.InprojCtxIdeal.main_arg2)
      ∧ m' ((c.tc : Thread Cert.InprojCtxRefIdeal.nD Cert.InprojCtxRefIdeal.τ).loc Cert.InprojCtxRefIdeal.main_arg3) = m ((c.tc : Thread Cert.InprojCtxIdeal.nD Cert.InprojCtxIdeal.τ).loc Cert.InprojCtxIdeal.main_arg3)) →
    ∃ (v0 : (c : Dev Cert.InprojCtxIdeal.nD) → Buf (Elt Ideal) ((c.tc : Thread Cert.InprojCtxIdeal.nD Cert.InprojCtxIdeal.τ).loc Cert.InprojCtxIdeal.main_v63_0)) (v1 : (c : Dev Cert.InprojCtxIdeal.nD) → Buf (Elt Ideal) ((c.tc : Thread Cert.InprojCtxIdeal.nD Cert.InprojCtxIdeal.τ).loc Cert.InprojCtxIdeal.main_v63_1)),
      θ_run (Cert.InprojCtxIdeal.defs (F := Ideal)) (onTc (τ := Cert.InprojCtxIdeal.τ) (Cert.InprojCtxIdeal.main (F := Ideal))) ⟨m, fun _ => 0, g⟩ (fun r => ∀ c : Dev Cert.InprojCtxIdeal.nD,
          r.2.mem ((c.tc : Thread Cert.InprojCtxIdeal.nD Cert.InprojCtxIdeal.τ).loc Cert.InprojCtxIdeal.main_v63_0) = v0 c
          ∧ r.2.mem ((c.tc : Thread Cert.InprojCtxIdeal.nD Cert.InprojCtxIdeal.τ).loc Cert.InprojCtxIdeal.main_v63_1) = v1 c
          ∧ r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
          ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
          ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
          ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3))
      ∧ θ_run (Cert.InprojCtxRefIdeal.defs (F := Ideal)) (onTc (τ := Cert.InprojCtxRefIdeal.τ) (Cert.InprojCtxRefIdeal.main (F := Ideal))) ⟨m', fun _ => 0, g'⟩ (fun r => ∀ c : Dev Cert.InprojCtxRefIdeal.nD,
          r.2.mem ((c.tc : Thread Cert.InprojCtxRefIdeal.nD Cert.InprojCtxRefIdeal.τ).loc Cert.InprojCtxRefIdeal.main_v14) = v0 c
          ∧ r.2.mem ((c.tc : Thread Cert.InprojCtxRefIdeal.nD Cert.InprojCtxRefIdeal.τ).loc Cert.InprojCtxRefIdeal.main_v11) = v1 c
          ∧ r.2.mem ((c.tc : Thread Cert.InprojCtxRefIdeal.nD Cert.InprojCtxRefIdeal.τ).loc Cert.InprojCtxRefIdeal.main_arg0) = m' ((c.tc : Thread Cert.InprojCtxRefIdeal.nD Cert.InprojCtxRefIdeal.τ).loc Cert.InprojCtxRefIdeal.main_arg0)
          ∧ r.2.mem ((c.tc : Thread Cert.InprojCtxRefIdeal.nD Cert.InprojCtxRefIdeal.τ).loc Cert.InprojCtxRefIdeal.main_arg1) = m' ((c.tc : Thread Cert.InprojCtxRefIdeal.nD Cert.InprojCtxRefIdeal.τ).loc Cert.InprojCtxRefIdeal.main_arg1)
          ∧ r.2.mem ((c.tc : Thread Cert.InprojCtxRefIdeal.nD Cert.InprojCtxRefIdeal.τ).loc Cert.InprojCtxRefIdeal.main_arg2) = m' ((c.tc : Thread Cert.InprojCtxRefIdeal.nD Cert.InprojCtxRefIdeal.τ).loc Cert.InprojCtxRefIdeal.main_arg2)
          ∧ r.2.mem ((c.tc : Thread Cert.InprojCtxRefIdeal.nD Cert.InprojCtxRefIdeal.τ).loc Cert.InprojCtxRefIdeal.main_arg3) = m' ((c.tc : Thread Cert.InprojCtxRefIdeal.nD Cert.InprojCtxRefIdeal.τ).loc Cert.InprojCtxRefIdeal.main_arg3))

def preserves_Mod_ModIdeal : Prop :=
  True

def algebraic_ModIdeal_ModRefIdeal_pre_finite_mod [hModIdeal : Cert.ModIdeal.Facts] [hModRefIdeal : Cert.ModRefIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_mod m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)) →
    ∃ (v0 : (c : Dev Cert.ModIdeal.nD) → Buf (Elt Ideal) ((c.tc : Thread Cert.ModIdeal.nD Cert.ModIdeal.τ).loc Cert.ModIdeal.main_v3_0)) (v1 : (c : Dev Cert.ModIdeal.nD) → Buf (Elt Ideal) ((c.tc : Thread Cert.ModIdeal.nD Cert.ModIdeal.τ).loc Cert.ModIdeal.main_v3_1)) (v2 : (c : Dev Cert.ModIdeal.nD) → Buf (Elt Ideal) ((c.tc : Thread Cert.ModIdeal.nD Cert.ModIdeal.τ).loc Cert.ModIdeal.main_v3_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3_0) = v0 c
          ∧ r.2.mem ((c.tc : Thread Cert.ModIdeal.nD Cert.ModIdeal.τ).loc Cert.ModIdeal.main_v3_1) = v1 c
          ∧ r.2.mem ((c.tc : Thread Cert.ModIdeal.nD Cert.ModIdeal.τ).loc Cert.ModIdeal.main_v3_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v16) = v0 c
          ∧ r.2.mem ((c.tc : Thread Cert.ModRefIdeal.nD Cert.ModRefIdeal.τ).loc Cert.ModRefIdeal.main_v26) = v1 c
          ∧ r.2.mem ((c.tc : Thread Cert.ModRefIdeal.nD Cert.ModRefIdeal.τ).loc Cert.ModRefIdeal.main_v23) = v2 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4))

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v15_0)) (v1 : (c : Dev Cert.SwigluIdeal.nD) → Buf (Elt Ideal) ((c.tc : Thread Cert.SwigluIdeal.nD Cert.SwigluIdeal.τ).loc Cert.SwigluIdeal.main_v15_1)) (v2 : (c : Dev Cert.SwigluIdeal.nD) → Buf (Elt Ideal) ((c.tc : Thread Cert.SwigluIdeal.nD Cert.SwigluIdeal.τ).loc Cert.SwigluIdeal.main_v15_2)) (v3 : (c : Dev Cert.SwigluIdeal.nD) → Buf (Elt Ideal) ((c.tc : Thread Cert.SwigluIdeal.nD Cert.SwigluIdeal.τ).loc Cert.SwigluIdeal.main_v15_3)) (v4 : (c : Dev Cert.SwigluIdeal.nD) → Buf (Elt Ideal) ((c.tc : Thread Cert.SwigluIdeal.nD Cert.SwigluIdeal.τ).loc Cert.SwigluIdeal.main_v15_4)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v15_0) = v0 c
          ∧ r.2.mem ((c.tc : Thread Cert.SwigluIdeal.nD Cert.SwigluIdeal.τ).loc Cert.SwigluIdeal.main_v15_1) = v1 c
          ∧ r.2.mem ((c.tc : Thread Cert.SwigluIdeal.nD Cert.SwigluIdeal.τ).loc Cert.SwigluIdeal.main_v15_2) = v2 c
          ∧ r.2.mem ((c.tc : Thread Cert.SwigluIdeal.nD Cert.SwigluIdeal.τ).loc Cert.SwigluIdeal.main_v15_3) = v3 c
          ∧ r.2.mem ((c.tc : Thread Cert.SwigluIdeal.nD Cert.SwigluIdeal.τ).loc Cert.SwigluIdeal.main_v15_4) = v4 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v57) = v0 c
          ∧ r.2.mem ((c.tc : Thread Cert.SwigluRefIdeal.nD Cert.SwigluRefIdeal.τ).loc Cert.SwigluRefIdeal.main_v60) = v1 c
          ∧ r.2.mem ((c.tc : Thread Cert.SwigluRefIdeal.nD Cert.SwigluRefIdeal.τ).loc Cert.SwigluRefIdeal.main_v63) = v2 c
          ∧ r.2.mem ((c.tc : Thread Cert.SwigluRefIdeal.nD Cert.SwigluRefIdeal.τ).loc Cert.SwigluRefIdeal.main_v66) = v3 c
          ∧ r.2.mem ((c.tc : Thread Cert.SwigluRefIdeal.nD Cert.SwigluRefIdeal.τ).loc Cert.SwigluRefIdeal.main_v69) = v4 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_FfnUp_FfnUpIdeal : Prop :=
  True

def algebraic_FfnUpIdeal_FfnUpRefIdeal_pre_finite_ffn_up [hFfnUpIdeal : Cert.FfnUpIdeal.Facts] [hFfnUpRefIdeal : Cert.FfnUpRefIdeal.Facts] [hPre_finite_ffn_up : Cert.Pre_finite_ffn_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite_ffn_up m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)
      ∧ m' ((c.tc : Thread Cert.FfnUpRefIdeal.nD Cert.FfnUpRefIdeal.τ).loc Cert.FfnUpRefIdeal.main_arg6) = m ((c.tc : Thread Cert.FfnUpIdeal.nD Cert.FfnUpIdeal.τ).loc Cert.FfnUpIdeal.main_arg6)
      ∧ m' ((c.tc : Thread Cert.FfnUpRefIdeal.nD Cert.FfnUpRefIdeal.τ).loc Cert.FfnUpRefIdeal.main_arg7) = m ((c.tc : Thread Cert.FfnUpIdeal.nD Cert.FfnUpIdeal.τ).loc Cert.FfnUpIdeal.main_arg7)
      ∧ m' ((c.tc : Thread Cert.FfnUpRefIdeal.nD Cert.FfnUpRefIdeal.τ).loc Cert.FfnUpRefIdeal.main_arg8) = m ((c.tc : Thread Cert.FfnUpIdeal.nD Cert.FfnUpIdeal.τ).loc Cert.FfnUpIdeal.main_arg8)) →
    ∃ (v0 : (c : Dev Cert.FfnUpIdeal.nD) → Buf (Elt Ideal) ((c.tc : Thread Cert.FfnUpIdeal.nD Cert.FfnUpIdeal.τ).loc Cert.FfnUpIdeal.main_v32_0)) (v1 : (c : Dev Cert.FfnUpIdeal.nD) → Buf (Elt Ideal) ((c.tc : Thread Cert.FfnUpIdeal.nD Cert.FfnUpIdeal.τ).loc Cert.FfnUpIdeal.main_v32_1)) (v2 : (c : Dev Cert.FfnUpIdeal.nD) → Buf (Elt Ideal) ((c.tc : Thread Cert.FfnUpIdeal.nD Cert.FfnUpIdeal.τ).loc Cert.FfnUpIdeal.main_v32_2)) (v3 : (c : Dev Cert.FfnUpIdeal.nD) → Buf (Elt Ideal) ((c.tc : Thread Cert.FfnUpIdeal.nD Cert.FfnUpIdeal.τ).loc Cert.FfnUpIdeal.main_v32_3)) (v4 : (c : Dev Cert.FfnUpIdeal.nD) → Buf (Elt Ideal) ((c.tc : Thread Cert.FfnUpIdeal.nD Cert.FfnUpIdeal.τ).loc Cert.FfnUpIdeal.main_v32_4)) (v5 : (c : Dev Cert.FfnUpIdeal.nD) → Buf (Elt Ideal) ((c.tc : Thread Cert.FfnUpIdeal.nD Cert.FfnUpIdeal.τ).loc Cert.FfnUpIdeal.main_v32_5)) (v6 : (c : Dev Cert.FfnUpIdeal.nD) → Buf (Elt Ideal) ((c.tc : Thread Cert.FfnUpIdeal.nD Cert.FfnUpIdeal.τ).loc Cert.FfnUpIdeal.main_v32_6)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v32_0) = v0 c
          ∧ r.2.mem ((c.tc : Thread Cert.FfnUpIdeal.nD Cert.FfnUpIdeal.τ).loc Cert.FfnUpIdeal.main_v32_1) = v1 c
          ∧ r.2.mem ((c.tc : Thread Cert.FfnUpIdeal.nD Cert.FfnUpIdeal.τ).loc Cert.FfnUpIdeal.main_v32_2) = v2 c
          ∧ r.2.mem ((c.tc : Thread Cert.FfnUpIdeal.nD Cert.FfnUpIdeal.τ).loc Cert.FfnUpIdeal.main_v32_3) = v3 c
          ∧ r.2.mem ((c.tc : Thread Cert.FfnUpIdeal.nD Cert.FfnUpIdeal.τ).loc Cert.FfnUpIdeal.main_v32_4) = v4 c
          ∧ r.2.mem ((c.tc : Thread Cert.FfnUpIdeal.nD Cert.FfnUpIdeal.τ).loc Cert.FfnUpIdeal.main_v32_5) = v5 c
          ∧ r.2.mem ((c.tc : Thread Cert.FfnUpIdeal.nD Cert.FfnUpIdeal.τ).loc Cert.FfnUpIdeal.main_v32_6) = v6 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
          ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6)
          ∧ r.2.mem ((c.tc : Thread Cert.FfnUpIdeal.nD Cert.FfnUpIdeal.τ).loc Cert.FfnUpIdeal.main_arg7) = m ((c.tc : Thread Cert.FfnUpIdeal.nD Cert.FfnUpIdeal.τ).loc Cert.FfnUpIdeal.main_arg7)
          ∧ r.2.mem ((c.tc : Thread Cert.FfnUpIdeal.nD Cert.FfnUpIdeal.τ).loc Cert.FfnUpIdeal.main_arg8) = m ((c.tc : Thread Cert.FfnUpIdeal.nD Cert.FfnUpIdeal.τ).loc Cert.FfnUpIdeal.main_arg8))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v91) = v0 c
          ∧ r.2.mem ((c.tc : Thread Cert.FfnUpRefIdeal.nD Cert.FfnUpRefIdeal.τ).loc Cert.FfnUpRefIdeal.main_v90) = v1 c
          ∧ r.2.mem ((c.tc : Thread Cert.FfnUpRefIdeal.nD Cert.FfnUpRefIdeal.τ).loc Cert.FfnUpRefIdeal.main_v49) = v2 c
          ∧ r.2.mem ((c.tc : Thread Cert.FfnUpRefIdeal.nD Cert.FfnUpRefIdeal.τ).loc Cert.FfnUpRefIdeal.main_v46) = v3 c
          ∧ r.2.mem ((c.tc : Thread Cert.FfnUpRefIdeal.nD Cert.FfnUpRefIdeal.τ).loc Cert.FfnUpRefIdeal.main_v57) = v4 c
          ∧ r.2.mem ((c.tc : Thread Cert.FfnUpRefIdeal.nD Cert.FfnUpRefIdeal.τ).loc Cert.FfnUpRefIdeal.main_v54) = v5 c
          ∧ r.2.mem ((c.tc : Thread Cert.FfnUpRefIdeal.nD Cert.FfnUpRefIdeal.τ).loc Cert.FfnUpRefIdeal.main_v88) = v6 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6)
          ∧ r.2.mem ((c.tc : Thread Cert.FfnUpRefIdeal.nD Cert.FfnUpRefIdeal.τ).loc Cert.FfnUpRefIdeal.main_arg7) = m' ((c.tc : Thread Cert.FfnUpRefIdeal.nD Cert.FfnUpRefIdeal.τ).loc Cert.FfnUpRefIdeal.main_arg7)
          ∧ r.2.mem ((c.tc : Thread Cert.FfnUpRefIdeal.nD Cert.FfnUpRefIdeal.τ).loc Cert.FfnUpRefIdeal.main_arg8) = m' ((c.tc : Thread Cert.FfnUpRefIdeal.nD Cert.FfnUpRefIdeal.τ).loc Cert.FfnUpRefIdeal.main_arg8))

def preserves_FfnDown_FfnDownIdeal : Prop :=
  True

def algebraic_FfnDownIdeal_FfnDownRefIdeal_pre_finite_ffn_down [hFfnDownIdeal : Cert.FfnDownIdeal.Facts] [hFfnDownRefIdeal : Cert.FfnDownRefIdeal.Facts] [hPre_finite_ffn_down : Cert.Pre_finite_ffn_down.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal_finite_ffn_down m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)
      ∧ m' ((c.tc : Thread Cert.FfnDownRefIdeal.nD Cert.FfnDownRefIdeal.τ).loc Cert.FfnDownRefIdeal.main_arg6) = m ((c.tc : Thread Cert.FfnDownIdeal.nD Cert.FfnDownIdeal.τ).loc Cert.FfnDownIdeal.main_arg6)
      ∧ m' ((c.tc : Thread Cert.FfnDownRefIdeal.nD Cert.FfnDownRefIdeal.τ).loc Cert.FfnDownRefIdeal.main_arg7) = m ((c.tc : Thread Cert.FfnDownIdeal.nD Cert.FfnDownIdeal.τ).loc Cert.FfnDownIdeal.main_arg7)
      ∧ m' ((c.tc : Thread Cert.FfnDownRefIdeal.nD Cert.FfnDownRefIdeal.τ).loc Cert.FfnDownRefIdeal.main_arg8) = m ((c.tc : Thread Cert.FfnDownIdeal.nD Cert.FfnDownIdeal.τ).loc Cert.FfnDownIdeal.main_arg8)) →
    ∃ (v0 : (c : Dev Cert.FfnDownIdeal.nD) → Buf (Elt Ideal) ((c.tc : Thread Cert.FfnDownIdeal.nD Cert.FfnDownIdeal.τ).loc Cert.FfnDownIdeal.main_v28_0)) (v1 : (c : Dev Cert.FfnDownIdeal.nD) → Buf (Elt Ideal) ((c.tc : Thread Cert.FfnDownIdeal.nD Cert.FfnDownIdeal.τ).loc Cert.FfnDownIdeal.main_v28_1)) (v2 : (c : Dev Cert.FfnDownIdeal.nD) → Buf (Elt Ideal) ((c.tc : Thread Cert.FfnDownIdeal.nD Cert.FfnDownIdeal.τ).loc Cert.FfnDownIdeal.main_v28_2)) (v3 : (c : Dev Cert.FfnDownIdeal.nD) → Buf (Elt Ideal) ((c.tc : Thread Cert.FfnDownIdeal.nD Cert.FfnDownIdeal.τ).loc Cert.FfnDownIdeal.main_v28_3)) (v4 : (c : Dev Cert.FfnDownIdeal.nD) → Buf (Elt Ideal) ((c.tc : Thread Cert.FfnDownIdeal.nD Cert.FfnDownIdeal.τ).loc Cert.FfnDownIdeal.main_v28_4)) (v5 : (c : Dev Cert.FfnDownIdeal.nD) → Buf (Elt Ideal) ((c.tc : Thread Cert.FfnDownIdeal.nD Cert.FfnDownIdeal.τ).loc Cert.FfnDownIdeal.main_v28_5)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v28_0) = v0 c
          ∧ r.2.mem ((c.tc : Thread Cert.FfnDownIdeal.nD Cert.FfnDownIdeal.τ).loc Cert.FfnDownIdeal.main_v28_1) = v1 c
          ∧ r.2.mem ((c.tc : Thread Cert.FfnDownIdeal.nD Cert.FfnDownIdeal.τ).loc Cert.FfnDownIdeal.main_v28_2) = v2 c
          ∧ r.2.mem ((c.tc : Thread Cert.FfnDownIdeal.nD Cert.FfnDownIdeal.τ).loc Cert.FfnDownIdeal.main_v28_3) = v3 c
          ∧ r.2.mem ((c.tc : Thread Cert.FfnDownIdeal.nD Cert.FfnDownIdeal.τ).loc Cert.FfnDownIdeal.main_v28_4) = v4 c
          ∧ r.2.mem ((c.tc : Thread Cert.FfnDownIdeal.nD Cert.FfnDownIdeal.τ).loc Cert.FfnDownIdeal.main_v28_5) = v5 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5)
          ∧ r.2.mem ((c.tc : Thread Cert.FfnDownIdeal.nD Cert.FfnDownIdeal.τ).loc Cert.FfnDownIdeal.main_arg6) = m ((c.tc : Thread Cert.FfnDownIdeal.nD Cert.FfnDownIdeal.τ).loc Cert.FfnDownIdeal.main_arg6)
          ∧ r.2.mem ((c.tc : Thread Cert.FfnDownIdeal.nD Cert.FfnDownIdeal.τ).loc Cert.FfnDownIdeal.main_arg7) = m ((c.tc : Thread Cert.FfnDownIdeal.nD Cert.FfnDownIdeal.τ).loc Cert.FfnDownIdeal.main_arg7)
          ∧ r.2.mem ((c.tc : Thread Cert.FfnDownIdeal.nD Cert.FfnDownIdeal.τ).loc Cert.FfnDownIdeal.main_arg8) = m ((c.tc : Thread Cert.FfnDownIdeal.nD Cert.FfnDownIdeal.τ).loc Cert.FfnDownIdeal.main_arg8))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v100) = v0 c
          ∧ r.2.mem ((c.tc : Thread Cert.FfnDownRefIdeal.nD Cert.FfnDownRefIdeal.τ).loc Cert.FfnDownRefIdeal.main_v106) = v1 c
          ∧ r.2.mem ((c.tc : Thread Cert.FfnDownRefIdeal.nD Cert.FfnDownRefIdeal.τ).loc Cert.FfnDownRefIdeal.main_v107) = v2 c
          ∧ r.2.mem ((c.tc : Thread Cert.FfnDownRefIdeal.nD Cert.FfnDownRefIdeal.τ).loc Cert.FfnDownRefIdeal.main_v74) = v3 c
          ∧ r.2.mem ((c.tc : Thread Cert.FfnDownRefIdeal.nD Cert.FfnDownRefIdeal.τ).loc Cert.FfnDownRefIdeal.main_v71) = v4 c
          ∧ r.2.mem ((c.tc : Thread Cert.FfnDownRefIdeal.nD Cert.FfnDownRefIdeal.τ).loc Cert.FfnDownRefIdeal.main_v105) = v5 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6)
          ∧ r.2.mem ((c.tc : Thread Cert.FfnDownRefIdeal.nD Cert.FfnDownRefIdeal.τ).loc Cert.FfnDownRefIdeal.main_arg7) = m' ((c.tc : Thread Cert.FfnDownRefIdeal.nD Cert.FfnDownRefIdeal.τ).loc Cert.FfnDownRefIdeal.main_arg7)
          ∧ r.2.mem ((c.tc : Thread Cert.FfnDownRefIdeal.nD Cert.FfnDownRefIdeal.τ).loc Cert.FfnDownRefIdeal.main_arg8) = m' ((c.tc : Thread Cert.FfnDownRefIdeal.nD Cert.FfnDownRefIdeal.τ).loc Cert.FfnDownRefIdeal.main_arg8))

def preserves_WinSink_WinSinkIdeal : Prop :=
  True

def algebraic_WinSinkIdeal_WinSinkRefIdeal_pre_finite_win [hWinSinkIdeal : Cert.WinSinkIdeal.Facts] [hWinSinkRefIdeal : Cert.WinSinkRefIdeal.Facts] [hPre_finite_win : Cert.Pre_finite_win.Facts] : Prop :=
  ∀ (m : (ℓ : Loc Cert.WinSinkIdeal.nD Cert.WinSinkIdeal.τ Cert.WinSinkIdeal.sig) → Buf (Elt Ideal) ℓ) (g : Dev Cert.WinSinkIdeal.nD → PrngReg)
    (m' : (ℓ : Loc Cert.WinSinkRefIdeal.nD Cert.WinSinkRefIdeal.τ Cert.WinSinkRefIdeal.sig) → Buf (Elt Ideal) ℓ) (g' : Dev Cert.WinSinkRefIdeal.nD → PrngReg), Pre_WinSinkIdeal_finite_win m →
    (∀ c : Dev Cert.WinSinkIdeal.nD,
      m' ((c.tc : Thread Cert.WinSinkRefIdeal.nD Cert.WinSinkRefIdeal.τ).loc Cert.WinSinkRefIdeal.main_arg0) = m ((c.tc : Thread Cert.WinSinkIdeal.nD Cert.WinSinkIdeal.τ).loc Cert.WinSinkIdeal.main_arg0)
      ∧ m' ((c.tc : Thread Cert.WinSinkRefIdeal.nD Cert.WinSinkRefIdeal.τ).loc Cert.WinSinkRefIdeal.main_arg1) = m ((c.tc : Thread Cert.WinSinkIdeal.nD Cert.WinSinkIdeal.τ).loc Cert.WinSinkIdeal.main_arg1)
      ∧ m' ((c.tc : Thread Cert.WinSinkRefIdeal.nD Cert.WinSinkRefIdeal.τ).loc Cert.WinSinkRefIdeal.main_arg2) = m ((c.tc : Thread Cert.WinSinkIdeal.nD Cert.WinSinkIdeal.τ).loc Cert.WinSinkIdeal.main_arg2)
      ∧ m' ((c.tc : Thread Cert.WinSinkRefIdeal.nD Cert.WinSinkRefIdeal.τ).loc Cert.WinSinkRefIdeal.main_arg3) = m ((c.tc : Thread Cert.WinSinkIdeal.nD Cert.WinSinkIdeal.τ).loc Cert.WinSinkIdeal.main_arg3)
      ∧ m' ((c.tc : Thread Cert.WinSinkRefIdeal.nD Cert.WinSinkRefIdeal.τ).loc Cert.WinSinkRefIdeal.main_arg4) = m ((c.tc : Thread Cert.WinSinkIdeal.nD Cert.WinSinkIdeal.τ).loc Cert.WinSinkIdeal.main_arg4)) →
    ∃ (v0 : (c : Dev Cert.WinSinkIdeal.nD) → Buf (Elt Ideal) ((c.tc : Thread Cert.WinSinkIdeal.nD Cert.WinSinkIdeal.τ).loc Cert.WinSinkIdeal.main_v71_3)),
      θ_run (Cert.WinSinkIdeal.defs (F := Ideal)) (onTc (τ := Cert.WinSinkIdeal.τ) (Cert.WinSinkIdeal.main (F := Ideal))) ⟨m, fun _ => 0, g⟩ (fun r => ∀ c : Dev Cert.WinSinkIdeal.nD,
          r.2.mem ((c.tc : Thread Cert.WinSinkIdeal.nD Cert.WinSinkIdeal.τ).loc Cert.WinSinkIdeal.main_v71_3) = v0 c
          ∧ r.2.mem ((c.tc : Thread Cert.WinSinkIdeal.nD Cert.WinSinkIdeal.τ).loc Cert.WinSinkIdeal.main_arg0) = m ((c.tc : Thread Cert.WinSinkIdeal.nD Cert.WinSinkIdeal.τ).loc Cert.WinSinkIdeal.main_arg0)
          ∧ r.2.mem ((c.tc : Thread Cert.WinSinkIdeal.nD Cert.WinSinkIdeal.τ).loc Cert.WinSinkIdeal.main_arg1) = m ((c.tc : Thread Cert.WinSinkIdeal.nD Cert.WinSinkIdeal.τ).loc Cert.WinSinkIdeal.main_arg1)
          ∧ r.2.mem ((c.tc : Thread Cert.WinSinkIdeal.nD Cert.WinSinkIdeal.τ).loc Cert.WinSinkIdeal.main_arg2) = m ((c.tc : Thread Cert.WinSinkIdeal.nD Cert.WinSinkIdeal.τ).loc Cert.WinSinkIdeal.main_arg2)
          ∧ r.2.mem ((c.tc : Thread Cert.WinSinkIdeal.nD Cert.WinSinkIdeal.τ).loc Cert.WinSinkIdeal.main_arg3) = m ((c.tc : Thread Cert.WinSinkIdeal.nD Cert.WinSinkIdeal.τ).loc Cert.WinSinkIdeal.main_arg3)
          ∧ r.2.mem ((c.tc : Thread Cert.WinSinkIdeal.nD Cert.WinSinkIdeal.τ).loc Cert.WinSinkIdeal.main_arg4) = m ((c.tc : Thread Cert.WinSinkIdeal.nD Cert.WinSinkIdeal.τ).loc Cert.WinSinkIdeal.main_arg4))
      ∧ θ_run (Cert.WinSinkRefIdeal.defs (F := Ideal)) (onTc (τ := Cert.WinSinkRefIdeal.τ) (Cert.WinSinkRefIdeal.main (F := Ideal))) ⟨m', fun _ => 0, g'⟩ (fun r => ∀ c : Dev Cert.WinSinkRefIdeal.nD,
          r.2.mem ((c.tc : Thread Cert.WinSinkRefIdeal.nD Cert.WinSinkRefIdeal.τ).loc Cert.WinSinkRefIdeal.main_v71) = v0 c
          ∧ r.2.mem ((c.tc : Thread Cert.WinSinkRefIdeal.nD Cert.WinSinkRefIdeal.τ).loc Cert.WinSinkRefIdeal.main_arg0) = m' ((c.tc : Thread Cert.WinSinkRefIdeal.nD Cert.WinSinkRefIdeal.τ).loc Cert.WinSinkRefIdeal.main_arg0)
          ∧ r.2.mem ((c.tc : Thread Cert.WinSinkRefIdeal.nD Cert.WinSinkRefIdeal.τ).loc Cert.WinSinkRefIdeal.main_arg1) = m' ((c.tc : Thread Cert.WinSinkRefIdeal.nD Cert.WinSinkRefIdeal.τ).loc Cert.WinSinkRefIdeal.main_arg1)
          ∧ r.2.mem ((c.tc : Thread Cert.WinSinkRefIdeal.nD Cert.WinSinkRefIdeal.τ).loc Cert.WinSinkRefIdeal.main_arg2) = m' ((c.tc : Thread Cert.WinSinkRefIdeal.nD Cert.WinSinkRefIdeal.τ).loc Cert.WinSinkRefIdeal.main_arg2)
          ∧ r.2.mem ((c.tc : Thread Cert.WinSinkRefIdeal.nD Cert.WinSinkRefIdeal.τ).loc Cert.WinSinkRefIdeal.main_arg3) = m' ((c.tc : Thread Cert.WinSinkRefIdeal.nD Cert.WinSinkRefIdeal.τ).loc Cert.WinSinkRefIdeal.main_arg3)
          ∧ r.2.mem ((c.tc : Thread Cert.WinSinkRefIdeal.nD Cert.WinSinkRefIdeal.τ).loc Cert.WinSinkRefIdeal.main_arg4) = m' ((c.tc : Thread Cert.WinSinkRefIdeal.nD Cert.WinSinkRefIdeal.τ).loc Cert.WinSinkRefIdeal.main_arg4))

def preserves_Win_WinIdeal : Prop :=
  True

def preserves_Qk_QkIdeal : Prop :=
  True

def Claim : Prop :=
  ∃ (hMerge : Cert.Merge.Facts) (hMergeIdeal : Cert.MergeIdeal.Facts) (hMergeRefIdeal : Cert.MergeRefIdeal.Facts) (hGlob : Cert.Glob.Facts) (hGlobIdeal : Cert.GlobIdeal.Facts) (hGlobRefIdeal : Cert.GlobRefIdeal.Facts) (hGlobB : Cert.GlobB.Facts) (hGlobBIdeal : Cert.GlobBIdeal.Facts) (hGlobBRefIdeal : Cert.GlobBRefIdeal.Facts) (hInproj : Cert.Inproj.Facts) (hInprojIdeal : Cert.InprojIdeal.Facts) (hInprojRefIdeal : Cert.InprojRefIdeal.Facts) (hInprojCtx : Cert.InprojCtx.Facts) (hInprojCtxIdeal : Cert.InprojCtxIdeal.Facts) (hInprojCtxRefIdeal : Cert.InprojCtxRefIdeal.Facts) (hMod : Cert.Mod.Facts) (hModIdeal : Cert.ModIdeal.Facts) (hModRefIdeal : Cert.ModRefIdeal.Facts) (hSwiglu : Cert.Swiglu.Facts) (hSwigluIdeal : Cert.SwigluIdeal.Facts) (hSwigluRefIdeal : Cert.SwigluRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hWinSink : Cert.WinSink.Facts) (hWinSinkIdeal : Cert.WinSinkIdeal.Facts) (hWinSinkRefIdeal : Cert.WinSinkRefIdeal.Facts) (hWin : Cert.Win.Facts) (hWinIdeal : Cert.WinIdeal.Facts) (hWinRefIdeal : Cert.WinRefIdeal.Facts) (hQk : Cert.Qk.Facts) (hQkIdeal : Cert.QkIdeal.Facts) (hQkRefIdeal : Cert.QkRefIdeal.Facts) (hPre_finite_glob : Cert.Pre_finite_glob.Facts) (hPre_finite_mod : Cert.Pre_finite_mod.Facts) (hPre_finite_swiglu : Cert.Pre_finite_swiglu.Facts) (hPre_finite_ffn_up : Cert.Pre_finite_ffn_up.Facts) (hPre_finite_ffn_down : Cert.Pre_finite_ffn_down.Facts) (hPre_finite_win : Cert.Pre_finite_win.Facts),
    quiescent_Merge (hMerge := hMerge)
    ∧ quiescent_MergeIdeal (hMergeIdeal := hMergeIdeal)
    ∧ quiescent_MergeRefIdeal (hMergeRefIdeal := hMergeRefIdeal)
    ∧ quiescent_Glob (hGlob := hGlob)
    ∧ quiescent_GlobIdeal (hGlobIdeal := hGlobIdeal)
    ∧ quiescent_GlobIdeal_pre_finite_glob (hGlobIdeal := hGlobIdeal) (hPre_finite_glob := hPre_finite_glob)
    ∧ quiescent_GlobRefIdeal (hGlobRefIdeal := hGlobRefIdeal)
    ∧ quiescent_GlobRefIdeal_pre_finite_glob (hGlobRefIdeal := hGlobRefIdeal) (hPre_finite_glob := hPre_finite_glob)
    ∧ quiescent_GlobB (hGlobB := hGlobB)
    ∧ quiescent_GlobBIdeal (hGlobBIdeal := hGlobBIdeal)
    ∧ quiescent_GlobBIdeal_pre_finite_glob (hGlobBIdeal := hGlobBIdeal) (hPre_finite_glob := hPre_finite_glob)
    ∧ quiescent_GlobBRefIdeal (hGlobBRefIdeal := hGlobBRefIdeal)
    ∧ quiescent_GlobBRefIdeal_pre_finite_glob (hGlobBRefIdeal := hGlobBRefIdeal) (hPre_finite_glob := hPre_finite_glob)
    ∧ quiescent_Inproj (hInproj := hInproj)
    ∧ quiescent_InprojIdeal (hInprojIdeal := hInprojIdeal)
    ∧ quiescent_InprojRefIdeal (hInprojRefIdeal := hInprojRefIdeal)
    ∧ quiescent_InprojCtx (hInprojCtx := hInprojCtx)
    ∧ quiescent_InprojCtxIdeal (hInprojCtxIdeal := hInprojCtxIdeal)
    ∧ quiescent_InprojCtxRefIdeal (hInprojCtxRefIdeal := hInprojCtxRefIdeal)
    ∧ quiescent_Mod (hMod := hMod)
    ∧ quiescent_ModIdeal (hModIdeal := hModIdeal)
    ∧ quiescent_ModIdeal_pre_finite_mod (hModIdeal := hModIdeal) (hPre_finite_mod := hPre_finite_mod)
    ∧ quiescent_ModRefIdeal (hModRefIdeal := hModRefIdeal)
    ∧ quiescent_ModRefIdeal_pre_finite_mod (hModRefIdeal := hModRefIdeal) (hPre_finite_mod := hPre_finite_mod)
    ∧ quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_FfnUp (hFfnUp := hFfnUp)
    ∧ quiescent_FfnUpIdeal (hFfnUpIdeal := hFfnUpIdeal)
    ∧ quiescent_FfnUpIdeal_pre_finite_ffn_up (hFfnUpIdeal := hFfnUpIdeal) (hPre_finite_ffn_up := hPre_finite_ffn_up)
    ∧ quiescent_FfnUpRefIdeal (hFfnUpRefIdeal := hFfnUpRefIdeal)
    ∧ quiescent_FfnUpRefIdeal_pre_finite_ffn_up (hFfnUpRefIdeal := hFfnUpRefIdeal) (hPre_finite_ffn_up := hPre_finite_ffn_up)
    ∧ quiescent_FfnDown (hFfnDown := hFfnDown)
    ∧ quiescent_FfnDownIdeal (hFfnDownIdeal := hFfnDownIdeal)
    ∧ quiescent_FfnDownIdeal_pre_finite_ffn_down (hFfnDownIdeal := hFfnDownIdeal) (hPre_finite_ffn_down := hPre_finite_ffn_down)
    ∧ quiescent_FfnDownRefIdeal (hFfnDownRefIdeal := hFfnDownRefIdeal)
    ∧ quiescent_FfnDownRefIdeal_pre_finite_ffn_down (hFfnDownRefIdeal := hFfnDownRefIdeal) (hPre_finite_ffn_down := hPre_finite_ffn_down)
    ∧ quiescent_WinSink (hWinSink := hWinSink)
    ∧ quiescent_WinSinkIdeal (hWinSinkIdeal := hWinSinkIdeal)
    ∧ quiescent_WinSinkIdeal_pre_finite_win (hWinSinkIdeal := hWinSinkIdeal) (hPre_finite_win := hPre_finite_win)
    ∧ quiescent_WinSinkRefIdeal (hWinSinkRefIdeal := hWinSinkRefIdeal)
    ∧ quiescent_WinSinkRefIdeal_pre_finite_win (hWinSinkRefIdeal := hWinSinkRefIdeal) (hPre_finite_win := hPre_finite_win)
    ∧ quiescent_Win (hWin := hWin)
    ∧ quiescent_WinIdeal (hWinIdeal := hWinIdeal)
    ∧ quiescent_WinRefIdeal (hWinRefIdeal := hWinRefIdeal)
    ∧ quiescent_Qk (hQk := hQk)
    ∧ quiescent_QkIdeal (hQkIdeal := hQkIdeal)
    ∧ quiescent_QkRefIdeal (hQkRefIdeal := hQkRefIdeal)
    ∧ preserves_Merge_MergeIdeal
    ∧ algebraic_MergeIdeal_MergeRefIdeal (hMergeIdeal := hMergeIdeal) (hMergeRefIdeal := hMergeRefIdeal)
    ∧ preserves_Glob_GlobIdeal
    ∧ algebraic_GlobIdeal_GlobRefIdeal_pre_finite_glob (hGlobIdeal := hGlobIdeal) (hGlobRefIdeal := hGlobRefIdeal) (hPre_finite_glob := hPre_finite_glob)
    ∧ preserves_GlobB_GlobBIdeal
    ∧ algebraic_GlobBIdeal_GlobBRefIdeal_pre_finite_glob (hGlobBIdeal := hGlobBIdeal) (hGlobBRefIdeal := hGlobBRefIdeal) (hPre_finite_glob := hPre_finite_glob)
    ∧ preserves_Inproj_InprojIdeal
    ∧ algebraic_InprojIdeal_InprojRefIdeal (hInprojIdeal := hInprojIdeal) (hInprojRefIdeal := hInprojRefIdeal)
    ∧ preserves_InprojCtx_InprojCtxIdeal
    ∧ algebraic_InprojCtxIdeal_InprojCtxRefIdeal (hInprojCtxIdeal := hInprojCtxIdeal) (hInprojCtxRefIdeal := hInprojCtxRefIdeal)
    ∧ preserves_Mod_ModIdeal
    ∧ algebraic_ModIdeal_ModRefIdeal_pre_finite_mod (hModIdeal := hModIdeal) (hModRefIdeal := hModRefIdeal) (hPre_finite_mod := hPre_finite_mod)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_FfnUp_FfnUpIdeal
    ∧ algebraic_FfnUpIdeal_FfnUpRefIdeal_pre_finite_ffn_up (hFfnUpIdeal := hFfnUpIdeal) (hFfnUpRefIdeal := hFfnUpRefIdeal) (hPre_finite_ffn_up := hPre_finite_ffn_up)
    ∧ preserves_FfnDown_FfnDownIdeal
    ∧ algebraic_FfnDownIdeal_FfnDownRefIdeal_pre_finite_ffn_down (hFfnDownIdeal := hFfnDownIdeal) (hFfnDownRefIdeal := hFfnDownRefIdeal) (hPre_finite_ffn_down := hPre_finite_ffn_down)
    ∧ preserves_WinSink_WinSinkIdeal
    ∧ algebraic_WinSinkIdeal_WinSinkRefIdeal_pre_finite_win (hWinSinkIdeal := hWinSinkIdeal) (hWinSinkRefIdeal := hWinSinkRefIdeal) (hPre_finite_win := hPre_finite_win)
    ∧ preserves_Win_WinIdeal
    ∧ preserves_Qk_QkIdeal
-- ==== Pre_finite_ffn_down.lean ====
abbrev S16384x1024 : Shape := ⟨2, ![16384, 1024]⟩
abbrev S1x1024 : Shape := ⟨2, ![1, 1024]⟩
abbrev S16384x2816 : Shape := ⟨2, ![16384, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S16384x2816 : S_.BroadcastsInDim S16384x2816 (![] : Fin 0 → Fin S16384x2816.rank)
  bcast_S_S2816x1024 : S_.BroadcastsInDim S2816x1024 (![] : Fin 0 → Fin S2816x1024.rank)

variable [Facts]

def fn_part1 {F : FTy → Type} [FloatOps F] (main_arg6 : FVec F S1x1024 .f32) (main_arg7 : FVec F S2816x1024 .f32) (main_arg8 : FVec F S16384x1024 .f32) (main_v2 : IVec S16384x1024 1) (main_v5 : IVec S1x1024 1) (main_v8 : IVec S1x1024 1) (main_v11 : IVec S16384x2816 1) (main_v14 : IVec S1x1024 1) (main_v17 : IVec S1x1024 1) : IVec S16384x1024 1 × IVec S1x1024 1 × IVec S1x1024 1 × IVec S16384x2816 1 × IVec S1x1024 1 × IVec S1x1024 1 × IVec S1x1024 1 × IVec S2816x1024 1 × IVec S16384x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_v24 : FVec F S16384x1024 .f32 := Host.absf main_arg8
  let main_cst_7 : FVec F S_ .f32 := constant S_ .f32 0x7F800000#32
  let main_v25 : FVec F S16384x1024 .f32 := broadcastInDim S16384x1024 ![] bcast_S_S16384x1024 main_cst_7
  let main_v26 : IVec S16384x1024 1 := cmpf .olt main_v24 main_v25
  (main_v2, main_v5, main_v8, main_v11, main_v14, main_v17, main_v20, main_v23, main_v26)

def fn {F : FTy → Type} [FloatOps F] (main_arg0 : FVec F S16384x1024 .f32) (main_arg1 : FVec F S1x1024 .f32) (main_arg2 : FVec F S1x1024 .f32) (main_arg3 : FVec F S16384x2816 .f32) (main_arg4 : FVec F S1x1024 .f32) (main_arg5 : FVec F S1x1024 .f32) (main_arg6 : FVec F S1x1024 .f32) (main_arg7 : FVec F S2816x1024 .f32) (main_arg8 : FVec F S16384x1024 .f32) : IVec S16384x1024 1 × IVec S1x1024 1 × IVec S1x1024 1 × IVec S16384x2816 1 × IVec S1x1024 1 × IVec S1x1024 1 × IVec S1x1024 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S16384x2816 .f32 := Host.absf main_arg3
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_finite_ffn_up.lean ====
abbrev S16384x1024 : Shape := ⟨2, ![16384, 1024]⟩
abbrev S1x1024 : Shape := ⟨2, ![1, 1024]⟩
abbrev S1024x5632 : Shape := ⟨2, ![1024, 5632]⟩
abbrev S16384x5632 : Shape := ⟨2, ![16384, 5632]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S16384x5632 : S_.BroadcastsInDim S16384x5632 (![] : Fin 0 → Fin S16384x5632.rank)

variable [Facts]

def fn_part1 {F : FTy → Type} [FloatOps F] (main_arg7 : FVec F S16384x5632 .f32) (main_arg8 : FVec F S16384x1024 .f32) (main_v2 : IVec S16384x1024 1) (main_v5 : IVec S16384x1024 1) (main_v8 : IVec S1x1024 1) (main_v11 : IVec S1x1024 1) (main_v14 : IVec S1x1024 1) (main_v17 : IVec S1024x5632 1) : IVec S16384x1024 1 × IVec S16384x1024 1 × IVec S1x1024 1 × IVec S1x1024 1 × IVec S1x1024 1 × IVec S1024x5632 1 × IVec S16384x5632 1 × IVec S16384x1024 1 :=
  let main_v18 : FVec F S16384x5632 .f32 := Host.absf main_arg7
  let main_cst_5 : FVec F S_ .f32 := constant S_ .f32 0x7F800000#32
  let main_v19 : FVec F S16384x5632 .f32 := broadcastInDim S16384x5632 ![] bcast_S_S16384x5632 main_cst_5
  let main_v20 : IVec S16384x5632 1 := cmpf .olt main_v18 main_v19
  let main_v21 : FVec F S16384x1024 .f32 := Host.absf main_arg8
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  (main_v2, main_v5, main_v8, main_v11, main_v14, main_v17, main_v20, main_v23)

def fn {F : FTy → Type} [FloatOps F] (main_arg0 : FVec F S16384x1024 .f32) (main_arg1 : FVec F S16384x1024 .f32) (main_arg2 : FVec F S1x1024 .f32) (main_arg3 : FVec F S1x1024 .f32) (main_arg4 : FVec F S1x1024 .f32) (main_arg5 : FVec F S1x1024 .f32) (main_arg6 : FVec F S1024x5632 .f32) (main_arg7 : FVec F S16384x5632 .f32) (main_arg8 : FVec F S16384x1024 .f32) : IVec S16384x1024 1 × IVec S16384x1024 1 × IVec S1x1024 1 × IVec S1x1024 1 × IVec S1x1024 1 × IVec S1024x5632 1 × IVec S16384x5632 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x5632 .f32 := Host.absf main_arg6
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg7 main_arg8 main_v2 main_v5 main_v8 main_v11 main_v14 main_v17
-- ==== Pre_finite_glob.lean ====
abbrev S16384x512 : Shape := ⟨2, ![16384, 512]⟩
abbrev S16640x128 : Shape := ⟨2, ![16640, 128]⟩
abbrev S_ : Shape := ⟨0, ![]⟩

class Facts : Prop where
  bcast_S_S16384x512 : S_.BroadcastsInDim S16384x512 (![] : Fin 0 → Fin S16384x512.rank)
  bcast_S_S16640x128 : S_.BroadcastsInDim S16640x128 (![] : Fin 0 → Fin S16640x128.rank)

variable [Facts]

def fn {F : FTy → Type} [FloatOps F] (main_arg0 : FVec F S16384x512 .f32) (main_arg1 : FVec F S16640x128 .f32) (main_arg2 : FVec F S16640x128 .f32) (main_arg3 : FVec F S16384x512 .f32) : IVec S16384x512 1 × IVec S16640x128 1 × IVec S16640x128 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16640x128 .f32 := Host.absf main_arg1
  let main_cst_0 : FVec F S_ .f32 := constant S_ .f32 0x7F800000#32
  let main_v4 : FVec F S16640x128 .f32 := broadcastInDim S16640x128 ![] bcast_S_S16640x128 main_cst_0
  let main_v5 : IVec S16640x128 1 := cmpf .olt main_v3 main_v4
  let main_v6 : FVec F S16640x128 .f32 := Host.absf main_arg2
  let main_cst_1 : FVec F S_ .f32 := constant S_ .f32 0x7F800000#32
  let main_v7 : FVec F S16640x128 .f32 := broadcastInDim S16640x128 ![] bcast_S_S16640x128 main_cst_1
  let main_v8 : IVec S16640x128 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  (main_v2, main_v5, main_v8, main_v11)
-- ==== Pre_finite_mod.lean ====
abbrev S8x1024 : Shape := ⟨2, ![8, 1024]⟩
abbrev S1024 : Shape := ⟨1, ![1024]⟩
abbrev S1024x768 : Shape := ⟨2, ![1024, 768]⟩
abbrev S16x768 : Shape := ⟨2, ![16, 768]⟩
abbrev S16x6144 : Shape := ⟨2, ![16, 6144]⟩
abbrev S_ : Shape := ⟨0, ![]⟩

class Facts : Prop where
  bcast_S_S8x1024 : S_.BroadcastsInDim S8x1024 (![] : Fin 0 → Fin S8x1024.rank)
  bcast_S_S1024 : S_.BroadcastsInDim S1024 (![] : Fin 0 → Fin S1024.rank)
  bcast_S_S1024x768 : S_.BroadcastsInDim S1024x768 (![] : Fin 0 → Fin S1024x768.rank)
  bcast_S_S16x768 : S_.BroadcastsInDim S16x768 (![] : Fin 0 → Fin S16x768.rank)

variable [Facts]

def fn {F : FTy → Type} [FloatOps F] (main_arg0 : FVec F S8x1024 .f32) (main_arg1 : FVec F S1024 .f32) (main_arg2 : FVec F S1024x768 .f32) (main_arg3 : FVec F S16x768 .f32) (main_arg4 : FVec F S16x6144 .f32) : IVec S8x1024 1 × IVec S1024 1 × IVec S1024x768 1 × IVec S16x768 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x768 .f32 := Host.absf main_arg2
  let main_cst_1 : FVec F S_ .f32 := constant S_ .f32 0x7F800000#32
  let main_v7 : FVec F S1024x768 .f32 := broadcastInDim S1024x768 ![] bcast_S_S1024x768 main_cst_1
  let main_v8 : IVec S1024x768 1 := cmpf .olt main_v6 main_v7
  let main_v9 : FVec F S16x768 .f32 := Host.absf main_arg3
  let main_cst_2 : FVec F S_ .f32 := constant S_ .f32 0x7F800000#32
  let main_v10 : FVec F S16x768 .f32 := broadcastInDim S16x768 ![] bcast_S_S16x768 main_cst_2
  let main_v11 : IVec S16x768 1 := cmpf .olt main_v9 main_v10
  (main_v2, main_v5, main_v8, main_v11)
-- ==== Pre_finite_swiglu.lean ====
abbrev S16384x5632 : Shape := ⟨2, ![16384, 5632]⟩
abbrev S3x5632 : Shape := ⟨2, ![3, 5632]⟩
abbrev S1x5632 : Shape := ⟨2, ![1, 5632]⟩
abbrev S16384x2816 : Shape := ⟨2, ![16384, 2816]⟩
abbrev S_ : Shape := ⟨0, ![]⟩

class Facts : Prop where
  bcast_S_S16384x5632 : S_.BroadcastsInDim S16384x5632 (![] : Fin 0 → Fin S16384x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S16384x2816 : S_.BroadcastsInDim S16384x2816 (![] : Fin 0 → Fin S16384x2816.rank)

variable [Facts]

def fn {F : FTy → Type} [FloatOps F] (main_arg0 : FVec F S16384x5632 .f32) (main_arg1 : FVec F S3x5632 .f32) (main_arg2 : FVec F S1x5632 .f32) (main_arg3 : FVec F S16384x2816 .f32) : IVec S16384x5632 1 × IVec S3x5632 1 × IVec S1x5632 1 × IVec S16384x2816 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S16384x2816 .f32 := Host.absf main_arg3
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  (main_v2, main_v5, main_v8, main_v11)
-- ==== Pre_finite_win.lean ====
abbrev S16384x512 : Shape := ⟨2, ![16384, 512]⟩
abbrev S16640x128 : Shape := ⟨2, ![16640, 128]⟩
abbrev S1x8 : Shape := ⟨2, ![1, 8]⟩
abbrev S_ : Shape := ⟨0, ![]⟩

class Facts : Prop where
  bcast_S_S16384x512 : S_.BroadcastsInDim S16384x512 (![] : Fin 0 → Fin S16384x512.rank)
  bcast_S_S16640x128 : S_.BroadcastsInDim S16640x128 (![] : Fin 0 → Fin S16640x128.rank)
  bcast_S_S1x8 : S_.BroadcastsInDim S1x8 (![] : Fin 0 → Fin S1x8.rank)

variable [Facts]

def fn {F : FTy → Type} [FloatOps F] (main_arg0 : FVec F S16384x512 .f32) (main_arg1 : FVec F S16640x128 .f32) (main_arg2 : FVec F S16640x128 .f32) (main_arg3 : FVec F S1x8 .f32) (main_arg4 : FVec F S16384x512 .f32) : IVec S16384x512 1 × IVec S16640x128 1 × IVec S16640x128 1 × IVec S1x8 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16640x128 .f32 := Host.absf main_arg1
  let main_cst_0 : FVec F S_ .f32 := constant S_ .f32 0x7F800000#32
  let main_v4 : FVec F S16640x128 .f32 := broadcastInDim S16640x128 ![] bcast_S_S16640x128 main_cst_0
  let main_v5 : IVec S16640x128 1 := cmpf .olt main_v3 main_v4
  let main_v6 : FVec F S16640x128 .f32 := Host.absf main_arg2
  let main_cst_1 : FVec F S_ .f32 := constant S_ .f32 0x7F800000#32
  let main_v7 : FVec F S16640x128 .f32 := broadcastInDim S16640x128 ![] bcast_S_S16640x128 main_cst_1
  let main_v8 : IVec S16640x128 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S16384x512 .f32 := Host.absf main_arg4
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  (main_v2, main_v5, main_v8, main_v11, main_v14)
-- ==== Merge.lean ====
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S16384x1024 : Shape := ⟨2, ![16384, 1024]⟩
abbrev S1024x512 : Shape := ⟨2, ![1024, 512]⟩
abbrev S256x1024 : Shape := ⟨2, ![256, 1024]⟩
abbrev S256x2048 : Shape := ⟨2, ![256, 2048]⟩
abbrev S256x512 : Shape := ⟨2, ![256, 512]⟩

abbrev nBuf : Space → Nat
  | .hbm => 21
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S1024x1024, .bf16⟩
  | .hbm, ⟨11, _⟩ => ⟨S1024x1024, .bf16⟩
  | .hbm, ⟨12, _⟩ => ⟨S512x1024, .bf16⟩
  | .hbm, ⟨13, _⟩ => ⟨S1024x512, .bf16⟩
  | .hbm, ⟨14, _⟩ => ⟨S512x1024, .bf16⟩
  | .hbm, ⟨15, _⟩ => ⟨S1024x512, .bf16⟩
  | .hbm, ⟨16, _⟩ => ⟨S16384x1024, .bf16⟩
  | .hbm, ⟨17, _⟩ => ⟨S16384x1024, .bf16⟩
  | .hbm, ⟨18, _⟩ => ⟨S16384x2048, .f32⟩
  | .hbm, ⟨19, _⟩ => ⟨S16384x512, .f32⟩
  | .hbm, ⟨20, _⟩ => ⟨S16384x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x2048, .f32⟩
  | .local _ .vmem, ⟨16, _⟩ => ⟨S256x2048, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S16384x1024 : Shape := ⟨2, ![16384, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S16384x2048, .f32⟩
  | .hbm, ⟨34, _⟩ => ⟨S16384x1024, .bf16⟩
  | .hbm, ⟨35, _⟩ => ⟨S16384x1024, .bf16⟩
  | .hbm, ⟨36, _⟩ => ⟨S16384x512, .f32⟩
  | .hbm, ⟨37, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Glob.lean ====
abbrev S16384x512 : Shape := ⟨2, ![16384, 512]⟩
abbrev S16640x128 : Shape := ⟨2, ![16640, 128]⟩
abbrev S_ : Shape := ⟨0, ![]⟩
abbrev S16384x2x4x64 : Shape := ⟨4, ![16384, 2, 4, 64]⟩
abbrev S16640x2x64 : Shape := ⟨3, ![16640, 2, 64]⟩
abbrev S2x16640x16384x4 : Shape := ⟨4, ![2, 16640, 16384, 4]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S16384x2x4 : Shape := ⟨3, ![16384, 2, 4]⟩
abbrev S512x16384 : Shape := ⟨2, ![512, 16384]⟩
abbrev S16640x64 : Shape := ⟨2, ![16640, 64]⟩
abbrev S16640x512 : Shape := ⟨2, ![16640, 512]⟩
abbrev S2x4x32x2x256 : Shape := ⟨5, ![2, 4, 32, 2, 256]⟩
abbrev S2x32x2x4x256 : Shape := ⟨5, ![2, 32, 2, 4, 256]⟩
abbrev S2x32x2048x1 : Shape := ⟨4, ![2, 32, 2048, 1]⟩
abbrev S16384x256 : Shape := ⟨2, ![16384, 256]⟩
abbrev S64x16640 : Shape := ⟨2, ![64, 16640]⟩
abbrev S512x256 : Shape := ⟨2, ![512, 256]⟩
abbrev S256x512 : Shape := ⟨2, ![256, 512]⟩
abbrev S1280x256 : Shape := ⟨2, ![1280, 256]⟩
abbrev S1x1x2048x1 : Shape := ⟨4, ![1, 1, 2048, 1]⟩
abbrev S64x1280 : Shape := ⟨2, ![64, 1280]⟩
abbrev S2048x1280 : Shape := ⟨2, ![2048, 1280]⟩
abbrev S256x256 : Shape := ⟨2, ![256, 256]⟩
abbrev S1024x256 : Shape := ⟨2, ![1024, 256]⟩
abbrev S2048x256 : Shape := ⟨2, ![2048, 256]⟩
abbrev S2048x1 : Shape := ⟨2, ![2048, 1]⟩
abbrev S2048x128 : Shape := ⟨2, ![2048, 128]⟩
abbrev S64x256 : Shape := ⟨2, ![64, 256]⟩
abbrev S64x2048 : Shape := ⟨2, ![64, 2048]⟩

abbrev nBuf : Space → Nat
  | .hbm => 67
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x2x4x64, .f32⟩
  | .hbm, ⟨8, _⟩ => ⟨S16640x2x64, .f32⟩
  | .hbm, ⟨9, _⟩ => ⟨S2x16640x16384x4, .f32⟩
  | .hbm, ⟨10, _⟩ => ⟨S2x4x16384x16640, .f32⟩
  | .hbm, ⟨11, _⟩ => ⟨S_, .f32⟩
  | .hbm, ⟨12, _⟩ => ⟨S2x4x16384, .f32⟩
  | .hbm, ⟨13, _⟩ => ⟨S2x4x16384x1, .f32⟩
  | .hbm, ⟨14, _⟩ => ⟨S2x4x16384x16640, .f32⟩
  | .hbm, ⟨15, _⟩ => ⟨S2x4x16384x16640, .f32⟩
  | .hbm, ⟨16, _⟩ => ⟨S2x4x16384x16640, .f32⟩
  | .hbm, ⟨17, _⟩ => ⟨S_, .f32⟩
  | .hbm, ⟨18, _⟩ => ⟨S2x4x16384, .f32⟩
  | .hbm, ⟨19, _⟩ => ⟨S2x4x16384x1, .f32⟩
  | .hbm, ⟨20, _⟩ => ⟨S2x4x16384x16640, .f32⟩
  | .hbm, ⟨21, _⟩ => ⟨S2x4x16384x16640, .f32⟩
  | .hbm, ⟨22, _⟩ => ⟨S16640x2x64, .f32⟩
  | .hbm, ⟨23, _⟩ => ⟨S2x64x4x16384, .f32⟩
  | .hbm, ⟨24, _⟩ => ⟨S16384x2x4x64, .f32⟩
  | .hbm, ⟨25, _⟩ => ⟨S16384x512, .f32⟩
  | .hbm, ⟨26, _⟩ => ⟨S2x4x16384x1, .f32⟩
  | .hbm, ⟨27, _⟩ => ⟨S2x4x16384x1, .f32⟩
  | .hbm, ⟨28, _⟩ => ⟨S2x4x16384, .f32⟩
  | .hbm, ⟨29, _⟩ => ⟨S16384x512, .f32⟩
  | .hbm, ⟨30, _⟩ => ⟨S16384x2x4x64, .f32⟩
  | .hbm, ⟨31, _⟩ => ⟨S_, .f32⟩
  | .hbm, ⟨32, _⟩ => ⟨S16384x2x4, .f32⟩
  | .hbm, ⟨33, _⟩ => ⟨S16384x512, .bf16⟩
  | .hbm, ⟨34, _⟩ => ⟨S16384x512, .bf16⟩
  | .hbm, ⟨35, _⟩ => ⟨S512x16384, .bf16⟩
  | .hbm, ⟨36, _⟩ => ⟨S16640x64, .f32⟩
  | .hbm, ⟨37, _⟩ => ⟨S16640x64, .f32⟩
  | .hbm, ⟨38, _⟩ => ⟨S16640x64, .f32⟩
  | .hbm, ⟨39, _⟩ => ⟨S16640x64, .f32⟩
  | .hbm, ⟨40, _⟩ => ⟨S16640x64, .f32⟩
  | .hbm, ⟨41, _⟩ => ⟨S16640x64, .f32⟩
  | .hbm, ⟨42, _⟩ => ⟨S16640x64, .f32⟩
  | .hbm, ⟨43, _⟩ => ⟨S16640x64, .f32⟩
  | .hbm, ⟨44, _⟩ => ⟨S16640x512, .f32⟩
  | .hbm, ⟨45, _⟩ => ⟨S16640x512, .bf16⟩
  | .hbm, ⟨46, _⟩ => ⟨S16640x64, .f32⟩
  | .hbm, ⟨47, _⟩ => ⟨S16640x64, .f32⟩
  | .hbm, ⟨48, _⟩ => ⟨S16640x64, .f32⟩
  | .hbm, ⟨49, _⟩ => ⟨S16640x64, .f32⟩
  | .hbm, ⟨50, _⟩ => ⟨S16640x64, .f32⟩
  | .hbm, ⟨51, _⟩ => ⟨S16640x64, .f32⟩
  | .hbm, ⟨52, _⟩ => ⟨S16640x64, .f32⟩
  | .hbm, ⟨53, _⟩ => ⟨S16640x64, .f32⟩
  | .hbm, ⟨54, _⟩ => ⟨S16640x512, .f32⟩
  | .hbm, ⟨55, _⟩ => ⟨S16640x512, .bf16⟩
  | .hbm, ⟨56, _⟩ => ⟨S512x16384, .bf16⟩
  | .hbm, ⟨57, _⟩ => ⟨S2x4x32x2x256, .f32⟩
  | .hbm, ⟨58, _⟩ => ⟨S2x32x2x4x256, .f32⟩
  | .hbm, ⟨59, _⟩ => ⟨S2x32x2048x1, .f32⟩
  | .hbm, ⟨60, _⟩ => ⟨S2x4x16384, .f32⟩
  | .hbm, ⟨61, _⟩ => ⟨S2x4x32x2x256, .f32⟩
  | .hbm, ⟨62, _⟩ => ⟨S2x32x2x4x256, .f32⟩
  | .hbm, ⟨63, _⟩ => ⟨S2x32x2048x1, .f32⟩
  | .hbm, ⟨64, _⟩ => ⟨S16384x256, .f32⟩
  | .hbm, ⟨65, _⟩ => ⟨S64x16640, .f32⟩
  | .hbm, ⟨66, _⟩ => ⟨S64x16640, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S1280x256, .bf16⟩
  | .local _ .vmem, ⟨5, _⟩ => ⟨S1280x256, .bf16⟩
  | .local _ .vmem, ⟨6, _⟩ => ⟨S1280x256, .bf16⟩
  | .local _ .vmem, ⟨7, _⟩ => ⟨S1280x256, .bf16⟩
  | .local _ .vmem, ⟨8, _⟩ => ⟨S512x256, .f32⟩
  | .local _ .vmem, ⟨9, _⟩ => ⟨S512x256, .f32⟩
  | .local _ .vmem, ⟨10, _⟩ => ⟨S256x512, .bf16⟩
  | .local _ .vmem, ⟨11, _⟩ => ⟨S256x512, .bf16⟩
  | .local _ .vmem, ⟨12, _⟩ => ⟨S1x1x2048x1, .f32⟩
  | .local _ .vmem, ⟨13, _⟩ => ⟨S1x1x2048x1, .f32⟩
  | .local _ .vmem, ⟨14, _⟩ => ⟨S1x1x2048x1, .f32⟩
  | .local _ .vmem, ⟨15, _⟩ => ⟨S1x1x2048x1, .f32⟩
  | .local _ .vmem, ⟨16, _⟩ => ⟨S16384x256, .f32⟩
  | .local _ .vmem, ⟨17, _⟩ => ⟨S64x1280, .f32⟩
  | .local _ .vmem, ⟨18, _⟩ => ⟨S64x1280, .f32⟩
  | .local _ .vmem, ⟨19, _⟩ => ⟨S64x1280, .f32⟩
  | .local _ .vmem, ⟨20, _⟩ => ⟨S64x1280, .f32⟩
  | .local _ .vmem, ⟨21, _⟩ => ⟨S2048x1280, .bf16⟩
  | .local _ .vmem, ⟨22, _⟩ => ⟨S2048x1280, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56_0 : Ref sig .tc := ⟨.hbm, 64, rfl⟩
abbrev main_v56_1 : Ref sig .tc := ⟨.hbm, 65, rfl⟩
abbrev main_v56_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![13, 32], ![false, false]⟩

def k0_mult1 (i : grid0.Coords) : BitVec 32 :=
  let arg1 : BitVec 32 := BitVec.ofNat 32 (i 1).val
  let c512_i32 : BitVec 32 := 512#32
  let v325 : BitVec 32 := Scalar.muli arg1 c512_i32
  v325
def k0_cond2 (i : grid0.Coords) : BitVec 1 :=
  let arg0 : BitVec 32 := BitVec.ofNat 32 (i 0).val
  let c0_i32_121 : BitVec 32 := 0#32
  let v327 : BitVec 1 := Scalar.cmpi .eq arg0 c0_i32_121
  let v328 : BitVec 32 := Scalar.extui v327
  let c0_i32_122 : BitVec 32 := 0#32
  let v329 : BitVec 1 := Scalar.cmpi .ne v328 c0_i32_122
  v329

def k0_off1 (i : grid0.Coords) : Fin 2 → Nat :=
  let arg1 : BitVec 32 := BitVec.ofNat 32 (i 1).val
  let c512_i32 : BitVec 32 := 512#32
  let v325 : BitVec 32 := Scalar.muli arg1 c512_i32
  let v326 : BitVec 32 := v325
  let v367 : Index := Scalar.indexCast v326
  let c0_143 : Index := 0#32
  ![v367.toNat, 0]
def k0_cond3 (i : grid0.Coords) : BitVec 1 :=
  let arg0 : BitVec 32 := BitVec.ofNat 32 (i 0).val
  let c0_i32_123 : BitVec 32 := 0#32
  let v330 : BitVec 1 := Scalar.cmpi .sgt arg0 c0_i32_123
  let v331 : BitVec 32 := Scalar.extui v330
  let c0_i32_124 : BitVec 32 := 0#32
  let v332 : BitVec 1 := Scalar.cmpi .ne v331 c0_i32_124
  v332

def k0_off2 (i : grid0.Coords) : Fin 2 → Nat :=
  let arg1 : BitVec 32 := BitVec.ofNat 32 (i 1).val
  let c512_i32 : BitVec 32 := 512#32
  let v325 : BitVec 32 := Scalar.muli arg1 c512_i32
  let v326 : BitVec 32 := v325
  let v367 : Index := Scalar.indexCast v326
  let c0_143 : Index := 0#32
  ![v367.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S16384x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlobRefIdeal.lean ====
abbrev S16384x512 : Shape := ⟨2, ![16384, 512]⟩
abbrev S16640x128 : Shape := ⟨2, ![16640, 128]⟩
abbrev S_ : Shape := ⟨0, ![]⟩
abbrev S16384x2x4x64 : Shape := ⟨4, ![16384, 2, 4, 64]⟩
abbrev S16384x1x4x64 : Shape := ⟨4, ![16384, 1, 4, 64]⟩
abbrev S16384x4x64 : Shape := ⟨3, ![16384, 4, 64]⟩
abbrev S16640x64 : Shape := ⟨2, ![16640, 64]⟩
abbrev S16640x16384x4 : Shape := ⟨3, ![16640, 16384, 4]⟩
abbrev S4x16384x16640 : Shape := ⟨3, ![4, 16384, 16640]⟩
abbrev S4x16384 : Shape := ⟨2, ![4, 16384]⟩
abbrev S4x16384x1 : Shape := ⟨3, ![4, 16384, 1]⟩
abbrev S64x4x16384 : Shape := ⟨3, ![64, 4, 16384]⟩
abbrev S64x16640 : Shape := ⟨2, ![64, 16640]⟩
abbrev S16384x256 : Shape := ⟨2, ![16384, 256]⟩

abbrev nBuf : Space → Nat
  | .hbm => 81
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x2x4x64, .f32⟩
  | .hbm, ⟨8, _⟩ => ⟨S16384x1x4x64, .f32⟩
  | .hbm, ⟨9, _⟩ => ⟨S16384x4x64, .f32⟩
  | .hbm, ⟨10, _⟩ => ⟨S16640x64, .f32⟩
  | .hbm, ⟨11, _⟩ => ⟨S16640x64, .f32⟩
  | .hbm, ⟨12, _⟩ => ⟨S16640x16384x4, .f32⟩
  | .hbm, ⟨13, _⟩ => ⟨S4x16384x16640, .f32⟩
  | .hbm, ⟨14, _⟩ => ⟨S_, .f32⟩
  | .hbm, ⟨15, _⟩ => ⟨S4x16384, .f32⟩
  | .hbm, ⟨16, _⟩ => ⟨S4x16384x1, .f32⟩
  | .hbm, ⟨17, _⟩ => ⟨S4x16384x16640, .f32⟩
  | .hbm, ⟨18, _⟩ => ⟨S4x16384x16640, .i1⟩
  | .hbm, ⟨19, _⟩ => ⟨S4x16384x16640, .f32⟩
  | .hbm, ⟨20, _⟩ => ⟨S_, .f32⟩
  | .hbm, ⟨21, _⟩ => ⟨S4x16384, .f32⟩
  | .hbm, ⟨22, _⟩ => ⟨S_, .f32⟩
  | .hbm, ⟨23, _⟩ => ⟨S4x16384, .f32⟩
  | .hbm, ⟨24, _⟩ => ⟨S4x16384, .f32⟩
  | .hbm, ⟨25, _⟩ => ⟨S_, .f32⟩
  | .hbm, ⟨26, _⟩ => ⟨S4x16384, .f32⟩
  | .hbm, ⟨27, _⟩ => ⟨S4x16384, .i1⟩
  | .hbm, ⟨28, _⟩ => ⟨S_, .f32⟩
  | .hbm, ⟨29, _⟩ => ⟨S4x16384, .f32⟩
  | .hbm, ⟨30, _⟩ => ⟨S4x16384, .i1⟩
  | .hbm, ⟨31, _⟩ => ⟨S_, .f32⟩
  | .hbm, ⟨32, _⟩ => ⟨S4x16384, .f32⟩
  | .hbm, ⟨33, _⟩ => ⟨S_, .f32⟩
  | .hbm, ⟨34, _⟩ => ⟨S4x16384, .f32⟩
  | .hbm, ⟨35, _⟩ => ⟨S_, .f32⟩
  | .hbm, ⟨36, _⟩ => ⟨S4x16384, .f32⟩
  | .hbm, ⟨37, _⟩ => ⟨S4x16384, .f32⟩
  | .hbm, ⟨38, _⟩ => ⟨S4x16384, .f32⟩
  | .hbm, ⟨39, _⟩ => ⟨S4x16384x1, .f32⟩
  | .hbm, ⟨40, _⟩ => ⟨S4x16384x16640, .f32⟩
  | .hbm, ⟨41, _⟩ => ⟨S4x16384x16640, .f32⟩
  | .hbm, ⟨42, _⟩ => ⟨S4x16384x16640, .f32⟩
  | .hbm, ⟨43, _⟩ => ⟨S_, .f32⟩
  | .hbm, ⟨44, _⟩ => ⟨S4x16384, .f32⟩
  | .hbm, ⟨45, _⟩ => ⟨S4x16384x1, .f32⟩
  | .hbm, ⟨46, _⟩ => ⟨S4x16384x16640, .f32⟩
  | .hbm, ⟨47, _⟩ => ⟨S4x16384x16640, .f32⟩
  | .hbm, ⟨48, _⟩ => ⟨S4x16384x1, .f32⟩
  | .hbm, ⟨49, _⟩ => ⟨S_, .f32⟩
  | .hbm, ⟨50, _⟩ => ⟨S4x16384x1, .f32⟩
  | .hbm, ⟨51, _⟩ => ⟨S4x16384x1, .f32⟩
  | .hbm, ⟨52, _⟩ => ⟨S64x4x16384, .f32⟩
  | .hbm, ⟨53, _⟩ => ⟨S16384x4x64, .f32⟩
  | .hbm, ⟨54, _⟩ => ⟨S16384x2x4x64, .f32⟩
  | .hbm, ⟨55, _⟩ => ⟨S16384x1x4x64, .f32⟩
  | .hbm, ⟨56, _⟩ => ⟨S16384x4x64, .f32⟩
  | .hbm, ⟨57, _⟩ => ⟨S64x4x16384, .f32⟩
  | .hbm, ⟨58, _⟩ => ⟨S4x16384x16640, .f32⟩
  | .hbm, ⟨59, _⟩ => ⟨S64x16640, .f32⟩
  | .hbm, ⟨60, _⟩ => ⟨S16640x64, .f32⟩
  | .hbm, ⟨61, _⟩ => ⟨S4x16384x16640, .f32⟩
  | .hbm, ⟨62, _⟩ => ⟨S4x16384x16640, .f32⟩
  | .hbm, ⟨63, _⟩ => ⟨S4x16384x16640, .f32⟩
  | .hbm, ⟨64, _⟩ => ⟨S_, .f32⟩
  | .hbm, ⟨65, _⟩ => ⟨S4x16384, .f32⟩
  | .hbm, ⟨66, _⟩ => ⟨S4x16384x1, .f32⟩
  | .hbm, ⟨67, _⟩ => ⟨S4x16384x1, .f32⟩
  | .hbm, ⟨68, _⟩ => ⟨S4x16384x16640, .f32⟩
  | .hbm, ⟨69, _⟩ => ⟨S4x16384x16640, .f32⟩
  | .hbm, ⟨70, _⟩ => ⟨S_, .f32⟩
  | .hbm, ⟨71, _⟩ => ⟨S4x16384, .f32⟩
  | .hbm, ⟨72, _⟩ => ⟨S4x16384x16640, .f32⟩
  | .hbm, ⟨73, _⟩ => ⟨S4x16384x16640, .f32⟩
  | .hbm, ⟨74, _⟩ => ⟨S4x16384x16640, .f32⟩
  | .hbm, ⟨75, _⟩ => ⟨S16640x16384x4, .f32⟩
  | .hbm, ⟨76, _⟩ => ⟨S16384x4x64, .f32⟩
  | .hbm, ⟨77, _⟩ => ⟨S16640x64, .f32⟩
  | .hbm, ⟨78, _⟩ => ⟨S16384x256, .f32⟩
  | .hbm, ⟨79, _⟩ => ⟨S64x16640, .f32⟩
  | .hbm, ⟨80, _⟩ => ⟨S64x16640, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== GlobB.lean ====
abbrev S16384x512 : Shape := ⟨2, ![16384, 512]⟩
abbrev S16640x128 : Shape := ⟨2, ![16640, 128]⟩
abbrev S_ : Shape := ⟨0, ![]⟩
abbrev S16384x2x4x64 : Shape := ⟨4, ![16384, 2, 4, 64]⟩
abbrev S16640x2x64 : Shape := ⟨3, ![16640, 2, 64]⟩
abbrev S2x16640x16384x4 : Shape := ⟨4, ![2, 16640, 16384, 4]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S16384x2x4 : Shape := ⟨3, ![16384, 2, 4]⟩
abbrev S512x16384 : Shape := ⟨2, ![512, 16384]⟩
abbrev S16640x64 : Shape := ⟨2, ![16640, 64]⟩
abbrev S16640x512 : Shape := ⟨2, ![16640, 512]⟩
abbrev S2x4x32x2x256 : Shape := ⟨5, ![2, 4, 32, 2, 256]⟩
abbrev S2x32x2x4x256 : Shape := ⟨5, ![2, 32, 2, 4, 256]⟩
abbrev S2x32x2048x1 : Shape := ⟨4, ![2, 32, 2048, 1]⟩
abbrev S16384x256 : Shape := ⟨2, ![16384, 256]⟩
abbrev S64x16640 : Shape := ⟨2, ![64, 16640]⟩
abbrev S512x256 : Shape := ⟨2, ![512, 256]⟩
abbrev S256x512 : Shape := ⟨2, ![256, 512]⟩
abbrev S1280x256 : Shape := ⟨2, ![1280, 256]⟩
abbrev S1x1x2048x1 : Shape := ⟨4, ![1, 1, 2048, 1]⟩
abbrev S64x1280 : Shape := ⟨2, ![64, 1280]⟩
abbrev S2048x1280 : Shape := ⟨2, ![2048, 1280]⟩
abbrev S256x256 : Shape := ⟨2, ![256, 256]⟩
abbrev S1024x256 : Shape := ⟨2, ![1024, 256]⟩
abbrev S2048x256 : Shape := ⟨2, ![2048, 256]⟩
abbrev S2048x1 : Shape := ⟨2, ![2048, 1]⟩
abbrev S2048x128 : Shape := ⟨2, ![2048, 128]⟩
abbrev S64x256 : Shape := ⟨2, ![64, 256]⟩
abbrev S64x2048 : Shape := ⟨2, ![64, 2048]⟩

abbrev nBuf : Space → Nat
  | .hbm => 67
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x2x4x64, .f32⟩
  | .hbm, ⟨8, _⟩ => ⟨S16640x2x64, .f32⟩
  | .hbm, ⟨9, _⟩ => ⟨S2x16640x16384x4, .f32⟩
  | .hbm, ⟨10, _⟩ => ⟨S2x4x16384x16640, .f32⟩
  | .hbm, ⟨11, _⟩ => ⟨S_, .f32⟩
  | .hbm, ⟨12, _⟩ => ⟨S2x4x16384, .f32⟩
  | .hbm, ⟨13, _⟩ => ⟨S2x4x16384x1, .f32⟩
  | .hbm, ⟨14, _⟩ => ⟨S2x4x16384x16640, .f32⟩
  | .hbm, ⟨15, _⟩ => ⟨S2x4x16384x16640, .f32⟩
  | .hbm, ⟨16, _⟩ => ⟨S2x4x16384x16640, .f32⟩
  | .hbm, ⟨17, _⟩ => ⟨S_, .f32⟩
  | .hbm, ⟨18, _⟩ => ⟨S2x4x16384, .f32⟩
  | .hbm, ⟨19, _⟩ => ⟨S2x4x16384x1, .f32⟩
  | .hbm, ⟨20, _⟩ => ⟨S2x4x16384x16640, .f32⟩
  | .hbm, ⟨21, _⟩ => ⟨S2x4x16384x16640, .f32⟩
  | .hbm, ⟨22, _⟩ => ⟨S16640x2x64, .f32⟩
  | .hbm, ⟨23, _⟩ => ⟨S2x64x4x16384, .f32⟩
  | .hbm, ⟨24, _⟩ => ⟨S16384x2x4x64, .f32⟩
  | .hbm, ⟨25, _⟩ => ⟨S16384x512, .f32⟩
  | .hbm, ⟨26, _⟩ => ⟨S2x4x16384x1, .f32⟩
  | .hbm, ⟨27, _⟩ => ⟨S2x4x16384x1, .f32⟩
  | .hbm, ⟨28, _⟩ => ⟨S2x4x16384, .f32⟩
  | .hbm, ⟨29, _⟩ => ⟨S16384x512, .f32⟩
  | .hbm, ⟨30, _⟩ => ⟨S16384x2x4x64, .f32⟩
  | .hbm, ⟨31, _⟩ => ⟨S_, .f32⟩
  | .hbm, ⟨32, _⟩ => ⟨S16384x2x4, .f32⟩
  | .hbm, ⟨33, _⟩ => ⟨S16384x512, .bf16⟩
  | .hbm, ⟨34, _⟩ => ⟨S16384x512, .bf16⟩
  | .hbm, ⟨35, _⟩ => ⟨S512x16384, .bf16⟩
  | .hbm, ⟨36, _⟩ => ⟨S16640x64, .f32⟩
  | .hbm, ⟨37, _⟩ => ⟨S16640x64, .f32⟩
  | .hbm, ⟨38, _⟩ => ⟨S16640x64, .f32⟩
  | .hbm, ⟨39, _⟩ => ⟨S16640x64, .f32⟩
  | .hbm, ⟨40, _⟩ => ⟨S16640x64, .f32⟩
  | .hbm, ⟨41, _⟩ => ⟨S16640x64, .f32⟩
  | .hbm, ⟨42, _⟩ => ⟨S16640x64, .f32⟩
  | .hbm, ⟨43, _⟩ => ⟨S16640x64, .f32⟩
  | .hbm, ⟨44, _⟩ => ⟨S16640x512, .f32⟩
  | .hbm, ⟨45, _⟩ => ⟨S16640x512, .bf16⟩
  | .hbm, ⟨46, _⟩ => ⟨S16640x64, .f32⟩
  | .hbm, ⟨47, _⟩ => ⟨S16640x64, .f32⟩
  | .hbm, ⟨48, _⟩ => ⟨S16640x64, .f32⟩
  | .hbm, ⟨49, _⟩ => ⟨S16640x64, .f32⟩
  | .hbm, ⟨50, _⟩ => ⟨S16640x64, .f32⟩
  | .hbm, ⟨51, _⟩ => ⟨S16640x64, .f32⟩
  | .hbm, ⟨52, _⟩ => ⟨S16640x64, .f32⟩
  | .hbm, ⟨53, _⟩ => ⟨S16640x64, .f32⟩
  | .hbm, ⟨54, _⟩ => ⟨S16640x512, .f32⟩
  | .hbm, ⟨55, _⟩ => ⟨S16640x512, .bf16⟩
  | .hbm, ⟨56, _⟩ => ⟨S512x16384, .bf16⟩
  | .hbm, ⟨57, _⟩ => ⟨S2x4x32x2x256, .f32⟩
  | .hbm, ⟨58, _⟩ => ⟨S2x32x2x4x256, .f32⟩
  | .hbm, ⟨59, _⟩ => ⟨S2x32x2048x1, .f32⟩
  | .hbm, ⟨60, _⟩ => ⟨S2x4x16384, .f32⟩
  | .hbm, ⟨61, _⟩ => ⟨S2x4x32x2x256, .f32⟩
  | .hbm, ⟨62, _⟩ => ⟨S2x32x2x4x256, .f32⟩
  | .hbm, ⟨63, _⟩ => ⟨S2x32x2048x1, .f32⟩
  | .hbm, ⟨64, _⟩ => ⟨S16384x256, .f32⟩
  | .hbm, ⟨65, _⟩ => ⟨S64x16640, .f32⟩
  | .hbm, ⟨66, _⟩ => ⟨S64x16640, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S1280x256, .bf16⟩
  | .local _ .vmem, ⟨5, _⟩ => ⟨S1280x256, .bf16⟩
  | .local _ .vmem, ⟨6, _⟩ => ⟨S1280x256, .bf16⟩
  | .local _ .vmem, ⟨7, _⟩ => ⟨S1280x256, .bf16⟩
  | .local _ .vmem, ⟨8, _⟩ => ⟨S512x256, .f32⟩
  | .local _ .vmem, ⟨9, _⟩ => ⟨S512x256, .f32⟩
  | .local _ .vmem, ⟨10, _⟩ => ⟨S256x512, .bf16⟩
  | .local _ .vmem, ⟨11, _⟩ => ⟨S256x512, .bf16⟩
  | .local _ .vmem, ⟨12, _⟩ => ⟨S1x1x2048x1, .f32⟩
  | .local _ .vmem, ⟨13, _⟩ => ⟨S1x1x2048x1, .f32⟩
  | .local _ .vmem, ⟨14, _⟩ => ⟨S1x1x2048x1, .f32⟩
  | .local _ .vmem, ⟨15, _⟩ => ⟨S1x1x2048x1, .f32⟩
  | .local _ .vmem, ⟨16, _⟩ => ⟨S16384x256, .f32⟩
  | .local _ .vmem, ⟨17, _⟩ => ⟨S64x1280, .f32⟩
  | .local _ .vmem, ⟨18, _⟩ => ⟨S64x1280, .f32⟩
  | .local _ .vmem, ⟨19, _⟩ => ⟨S64x1280, .f32⟩
  | .local _ .vmem, ⟨20, _⟩ => ⟨S64x1280, .f32⟩
  | .local _ .vmem, ⟨21, _⟩ => ⟨S2048x1280, .bf16⟩
  | .local _ .vmem, ⟨22, _⟩ => ⟨S2048x1280, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56_0 : Ref sig .tc := ⟨.hbm, 64, rfl⟩
abbrev main_v56_1 : Ref sig .tc := ⟨.hbm, 65, rfl⟩
abbrev main_v56_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![13, 32], ![false, false]⟩

def k0_mult1 (i : grid0.Coords) : BitVec 32 :=
  let arg1 : BitVec 32 := BitVec.ofNat 32 (i 1).val
  let c512_i32 : BitVec 32 := 512#32
  let v325 : BitVec 32 := Scalar.muli arg1 c512_i32
  v325
def k0_cond2 (i : grid0.Coords) : BitVec 1 :=
  let arg0 : BitVec 32 := BitVec.ofNat 32 (i 0).val
  let c0_i32_121 : BitVec 32 := 0#32
  let v327 : BitVec 1 := Scalar.cmpi .eq arg0 c0_i32_121
  let v328 : BitVec 32 := Scalar.extui v327
  let c0_i32_122 : BitVec 32 := 0#32
  let v329 : BitVec 1 := Scalar.cmpi .ne v328 c0_i32_122
  v329

def k0_off1 (i : grid0.Coords) : Fin 2 → Nat :=
  let arg1 : BitVec 32 := BitVec.ofNat 32 (i 1).val
  let c512_i32 : BitVec 32 := 512#32
  let v325 : BitVec 32 := Scalar.muli arg1 c512_i32
  let v326 : BitVec 32 := v325
  let v367 : Index := Scalar.indexCast v326
  let c0_143 : Index := 0#32
  ![v367.toNat, 0]
def k0_cond3 (i : grid0.Coords) : BitVec 1 :=
  let arg0 : BitVec 32 := BitVec.ofNat 32 (i 0).val
  let c0_i32_123 : BitVec 32 := 0#32
  let v330 : BitVec 1 := Scalar.cmpi .sgt arg0 c0_i32_123
  let v331 : BitVec 32 := Scalar.extui v330
  let c0_i32_124 : BitVec 32 := 0#32
  let v332 : BitVec 1 := Scalar.cmpi .ne v331 c0_i32_124
  v332

def k0_off2 (i : grid0.Coords) : Fin 2 → Nat :=
  let arg1 : BitVec 32 := BitVec.ofNat 32 (i 1).val
  let c512_i32 : BitVec 32 := 512#32
  let v325 : BitVec 32 := Scalar.muli arg1 c512_i32
  let v326 : BitVec 32 := v325
  let v367 : Index := Scalar.indexCast v326
  let c0_143 : Index := 0#32
  ![v367.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S16384x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlobBRefIdeal.lean ====
abbrev S16384x512 : Shape := ⟨2, ![16384, 512]⟩
abbrev S16640x128 : Shape := ⟨2, ![16640, 128]⟩
abbrev S_ : Shape := ⟨0, ![]⟩
abbrev S16384x2x4x64 : Shape := ⟨4, ![16384, 2, 4, 64]⟩
abbrev S16384x1x4x64 : Shape := ⟨4, ![16384, 1, 4, 64]⟩
abbrev S16384x4x64 : Shape := ⟨3, ![16384, 4, 64]⟩
abbrev S16640x64 : Shape := ⟨2, ![16640, 64]⟩
abbrev S16640x16384x4 : Shape := ⟨3, ![16640, 16384, 4]⟩
abbrev S4x16384x16640 : Shape := ⟨3, ![4, 16384, 16640]⟩
abbrev S4x16384 : Shape := ⟨2, ![4, 16384]⟩
abbrev S4x16384x1 : Shape := ⟨3, ![4, 16384, 1]⟩
abbrev S64x4x16384 : Shape := ⟨3, ![64, 4, 16384]⟩
abbrev S64x16640 : Shape := ⟨2, ![64, 16640]⟩
abbrev S16384x256 : Shape := ⟨2, ![16384, 256]⟩

abbrev nBuf : Space → Nat
  | .hbm => 81
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x2x4x64, .f32⟩
  | .hbm, ⟨8, _⟩ => ⟨S16384x1x4x64, .f32⟩
  | .hbm, ⟨9, _⟩ => ⟨S16384x4x64, .f32⟩
  | .hbm, ⟨10, _⟩ => ⟨S16640x64, .f32⟩
  | .hbm, ⟨11, _⟩ => ⟨S16640x64, .f32⟩
  | .hbm, ⟨12, _⟩ => ⟨S16640x16384x4, .f32⟩
  | .hbm, ⟨13, _⟩ => ⟨S4x16384x16640, .f32⟩
  | .hbm, ⟨14, _⟩ => ⟨S_, .f32⟩
  | .hbm, ⟨15, _⟩ => ⟨S4x16384, .f32⟩
  | .hbm, ⟨16, _⟩ => ⟨S4x16384x1, .f32⟩
  | .hbm, ⟨17, _⟩ => ⟨S4x16384x16640, .f32⟩
  | .hbm, ⟨18, _⟩ => ⟨S4x16384x16640, .i1⟩
  | .hbm, ⟨19, _⟩ => ⟨S4x16384x16640, .f32⟩
  | .hbm, ⟨20, _⟩ => ⟨S_, .f32⟩
  | .hbm, ⟨21, _⟩ => ⟨S4x16384, .f32⟩
  | .hbm, ⟨22, _⟩ => ⟨S_, .f32⟩
  | .hbm, ⟨23, _⟩ => ⟨S4x16384, .f32⟩
  | .hbm, ⟨24, _⟩ => ⟨S4x16384, .f32⟩
  | .hbm, ⟨25, _⟩ => ⟨S_, .f32⟩
  | .hbm, ⟨26, _⟩ => ⟨S4x16384, .f32⟩
  | .hbm, ⟨27, _⟩ => ⟨S4x16384, .i1⟩
  | .hbm, ⟨28, _⟩ => ⟨S_, .f32⟩
  | .hbm, ⟨29, _⟩ => ⟨S4x16384, .f32⟩
  | .hbm, ⟨30, _⟩ => ⟨S4x16384, .i1⟩
  | .hbm, ⟨31, _⟩ => ⟨S_, .f32⟩
  | .hbm, ⟨32, _⟩ => ⟨S4x16384, .f32⟩
  | .hbm, ⟨33, _⟩ => ⟨S_, .f32⟩
  | .hbm, ⟨34, _⟩ => ⟨S4x16384, .f32⟩
  | .hbm, ⟨35, _⟩ => ⟨S_, .f32⟩
  | .hbm, ⟨36, _⟩ => ⟨S4x16384, .f32⟩
  | .hbm, ⟨37, _⟩ => ⟨S4x16384, .f32⟩
  | .hbm, ⟨38, _⟩ => ⟨S4x16384, .f32⟩
  | .hbm, ⟨39, _⟩ => ⟨S4x16384x1, .f32⟩
  | .hbm, ⟨40, _⟩ => ⟨S4x16384x16640, .f32⟩
  | .hbm, ⟨41, _⟩ => ⟨S4x16384x16640, .f32⟩
  | .hbm, ⟨42, _⟩ => ⟨S4x16384x16640, .f32⟩
  | .hbm, ⟨43, _⟩ => ⟨S_, .f32⟩
  | .hbm, ⟨44, _⟩ => ⟨S4x16384, .f32⟩
  | .hbm, ⟨45, _⟩ => ⟨S4x16384x1, .f32⟩
  | .hbm, ⟨46, _⟩ => ⟨S4x16384x16640, .f32⟩
  | .hbm, ⟨47, _⟩ => ⟨S4x16384x16640, .f32⟩
  | .hbm, ⟨48, _⟩ => ⟨S4x16384x1, .f32⟩
  | .hbm, ⟨49, _⟩ => ⟨S_, .f32⟩
  | .hbm, ⟨50, _⟩ => ⟨S4x16384x1, .f32⟩
  | .hbm, ⟨51, _⟩ => ⟨S4x16384x1, .f32⟩
  | .hbm, ⟨52, _⟩ => ⟨S64x4x16384, .f32⟩
  | .hbm, ⟨53, _⟩ => ⟨S16384x4x64, .f32⟩
  | .hbm, ⟨54, _⟩ => ⟨S16384x2x4x64, .f32⟩
  | .hbm, ⟨55, _⟩ => ⟨S16384x1x4x64, .f32⟩
  | .hbm, ⟨56, _⟩ => ⟨S16384x4x64, .f32⟩
  | .hbm, ⟨57, _⟩ => ⟨S64x4x16384, .f32⟩
  | .hbm, ⟨58, _⟩ => ⟨S4x16384x16640, .f32⟩
  | .hbm, ⟨59, _⟩ => ⟨S64x16640, .f32⟩
  | .hbm, ⟨60, _⟩ => ⟨S16640x64, .f32⟩
  | .hbm, ⟨61, _⟩ => ⟨S4x16384x16640, .f32⟩
  | .hbm, ⟨62, _⟩ => ⟨S4x16384x16640, .f32⟩
  | .hbm, ⟨63, _⟩ => ⟨S4x16384x16640, .f32⟩
  | .hbm, ⟨64, _⟩ => ⟨S_, .f32⟩
  | .hbm, ⟨65, _⟩ => ⟨S4x16384, .f32⟩
  | .hbm, ⟨66, _⟩ => ⟨S4x16384x1, .f32⟩
  | .hbm, ⟨67, _⟩ => ⟨S4x16384x1, .f32⟩
  | .hbm, ⟨68, _⟩ => ⟨S4x16384x16640, .f32⟩
  | .hbm, ⟨69, _⟩ => ⟨S4x16384x16640, .f32⟩
  | .hbm, ⟨70, _⟩ => ⟨S_, .f32⟩
  | .hbm, ⟨71, _⟩ => ⟨S4x16384, .f32⟩
  | .hbm, ⟨72, _⟩ => ⟨S4x16384x16640, .f32⟩
  | .hbm, ⟨73, _⟩ => ⟨S4x16384x16640, .f32⟩
  | .hbm, ⟨74, _⟩ => ⟨S4x16384x16640, .f32⟩
  | .hbm, ⟨75, _⟩ => ⟨S16640x16384x4, .f32⟩
  | .hbm, ⟨76, _⟩ => ⟨S16384x4x64, .f32⟩
  | .hbm, ⟨77, _⟩ => ⟨S16640x64, .f32⟩
  | .hbm, ⟨78, _⟩ => ⟨S16384x256, .f32⟩
  | .hbm, ⟨79, _⟩ => ⟨S64x16640, .f32⟩
  | .hbm, ⟨80, _⟩ => ⟨S64x16640, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S1024x3584 : Shape := ⟨2, ![1024, 3584]⟩
abbrev S16384x3584 : Shape := ⟨2, ![16384, 3584]⟩
abbrev S1024x512 : Shape := ⟨2, ![1024, 512]⟩
abbrev S1024x64 : Shape := ⟨2, ![1024, 64]⟩
abbrev S1024x2048 : Shape := ⟨2, ![1024, 2048]⟩
abbrev S1024x5120 : Shape := ⟨2, ![1024, 5120]⟩
abbrev S5120x1024 : Shape := ⟨2, ![5120, 1024]⟩
abbrev S16384x512 : Shape := ⟨2, ![16384, 512]⟩
abbrev S_ : Shape := ⟨0, ![]⟩
abbrev S16384x192 : Shape := ⟨2, ![16384, 192]⟩
abbrev S16384x64 : Shape := ⟨2, ![16384, 64]⟩
abbrev S16384x2048 : Shape := ⟨2, ![16384, 2048]⟩
abbrev S16384x2816 : Shape := ⟨2, ![16384, 2816]⟩
abbrev S16384x2304 : Shape := ⟨2, ![16384, 2304]⟩
abbrev S16384x5120 : Shape := ⟨2, ![16384, 5120]⟩
abbrev S8x1024 : Shape := ⟨2, ![8, 1024]⟩
abbrev S256x5120 : Shape := ⟨2, ![256, 5120]⟩
abbrev S256x1024 : Shape := ⟨2, ![256, 1024]⟩
abbrev S1024 : Shape := ⟨1, ![1024]⟩

abbrev nBuf : Space → Nat
  | .hbm => 79
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .f32⟩
  | .hbm, ⟨3, _⟩ => ⟨S16384x3584, .f32⟩
  | .hbm, ⟨4, _⟩ => ⟨S16384x1024, .f32⟩
  | .hbm, ⟨5, _⟩ => ⟨S1024x3584, .bf16⟩
  | .hbm, ⟨6, _⟩ => ⟨S1024x512, .bf16⟩
  | .hbm, ⟨7, _⟩ => ⟨S1024x64, .bf16⟩
  | .hbm, ⟨8, _⟩ => ⟨S1024x64, .bf16⟩
  | .hbm, ⟨9, _⟩ => ⟨S1024x64, .bf16⟩
  | .hbm, ⟨10, _⟩ => ⟨S1024x64, .bf16⟩
  | .hbm, ⟨11, _⟩ => ⟨S1024x64, .bf16⟩
  | .hbm, ⟨12, _⟩ => ⟨S1024x64, .bf16⟩
  | .hbm, ⟨13, _⟩ => ⟨S1024x64, .bf16⟩
  | .hbm, ⟨14, _⟩ => ⟨S1024x64, .bf16⟩
  | .hbm, ⟨15, _⟩ => ⟨S1024x512, .bf16⟩
  | .hbm, ⟨16, _⟩ => ⟨S1024x64, .bf16⟩
  | .hbm, ⟨17, _⟩ => ⟨S1024x64, .bf16⟩
  | .hbm, ⟨18, _⟩ => ⟨S1024x64, .bf16⟩
  | .hbm, ⟨19, _⟩ => ⟨S1024x64, .bf16⟩
  | .hbm, ⟨20, _⟩ => ⟨S1024x64, .bf16⟩
  | .hbm, ⟨21, _⟩ => ⟨S1024x64, .bf16⟩
  | .hbm, ⟨22, _⟩ => ⟨S1024x64, .bf16⟩
  | .hbm, ⟨23, _⟩ => ⟨S1024x64, .bf16⟩
  | .hbm, ⟨24, _⟩ => ⟨S1024x512, .bf16⟩
  | .hbm, ⟨25, _⟩ => ⟨S1024x512, .bf16⟩
  | .hbm, ⟨26, _⟩ => ⟨S1024x64, .bf16⟩
  | .hbm, ⟨27, _⟩ => ⟨S1024x64, .bf16⟩
  | .hbm, ⟨28, _⟩ => ⟨S1024x64, .bf16⟩
  | .hbm, ⟨29, _⟩ => ⟨S1024x64, .bf16⟩
  | .hbm, ⟨30, _⟩ => ⟨S1024x64, .bf16⟩
  | .hbm, ⟨31, _⟩ => ⟨S1024x64, .bf16⟩
  | .hbm, ⟨32, _⟩ => ⟨S1024x64, .bf16⟩
  | .hbm, ⟨33, _⟩ => ⟨S1024x64, .bf16⟩
  | .hbm, ⟨34, _⟩ => ⟨S1024x512, .bf16⟩
  | .hbm, ⟨35, _⟩ => ⟨S1024x64, .bf16⟩
  | .hbm, ⟨36, _⟩ => ⟨S1024x64, .bf16⟩
  | .hbm, ⟨37, _⟩ => ⟨S1024x64, .bf16⟩
  | .hbm, ⟨38, _⟩ => ⟨S1024x64, .bf16⟩
  | .hbm, ⟨39, _⟩ => ⟨S1024x64, .bf16⟩
  | .hbm, ⟨40, _⟩ => ⟨S1024x64, .bf16⟩
  | .hbm, ⟨41, _⟩ => ⟨S1024x64, .bf16⟩
  | .hbm, ⟨42, _⟩ => ⟨S1024x64, .bf16⟩
  | .hbm, ⟨43, _⟩ => ⟨S1024x512, .bf16⟩
  | .hbm, ⟨44, _⟩ => ⟨S1024x2048, .bf16⟩
  | .hbm, ⟨45, _⟩ => ⟨S1024x5120, .bf16⟩
  | .hbm, ⟨46, _⟩ => ⟨S5120x1024, .bf16⟩
  | .hbm, ⟨47, _⟩ => ⟨S16384x3584, .bf16⟩
  | .hbm, ⟨48, _⟩ => ⟨S16384x512, .bf16⟩
  | .hbm, ⟨49, _⟩ => ⟨S_, .bf16⟩
  | .hbm, ⟨50, _⟩ => ⟨S16384x192, .bf16⟩
  | .hbm, ⟨51, _⟩ => ⟨S16384x64, .bf16⟩
  | .hbm, ⟨52, _⟩ => ⟨S16384x64, .bf16⟩
  | .hbm, ⟨53, _⟩ => ⟨S_, .bf16⟩
  | .hbm, ⟨54, _⟩ => ⟨S16384x192, .bf16⟩
  | .hbm, ⟨55, _⟩ => ⟨S16384x64, .bf16⟩
  | .hbm, ⟨56, _⟩ => ⟨S16384x64, .bf16⟩
  | .hbm, ⟨57, _⟩ => ⟨S16384x512, .bf16⟩
  | .hbm, ⟨58, _⟩ => ⟨S_, .bf16⟩
  | .hbm, ⟨59, _⟩ => ⟨S16384x192, .bf16⟩
  | .hbm, ⟨60, _⟩ => ⟨S16384x64, .bf16⟩
  | .hbm, ⟨61, _⟩ => ⟨S16384x64, .bf16⟩
  | .hbm, ⟨62, _⟩ => ⟨S_, .bf16⟩
  | .hbm, ⟨63, _⟩ => ⟨S16384x192, .bf16⟩
  | .hbm, ⟨64, _⟩ => ⟨S16384x64, .bf16⟩
  | .hbm, ⟨65, _⟩ => ⟨S16384x64, .bf16⟩
  | .hbm, ⟨66, _⟩ => ⟨S16384x2048, .bf16⟩
  | .hbm, ⟨67, _⟩ => ⟨S16384x2816, .bf16⟩
  | .hbm, ⟨68, _⟩ => ⟨S16384x2304, .bf16⟩
  | .hbm, ⟨69, _⟩ => ⟨S16384x5120, .bf16⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S1x1024, .f32⟩
  | .hbm, ⟨75, _⟩ => ⟨S8x1024, .f32⟩
  | .hbm, ⟨76, _⟩ => ⟨S16384x1024, .f32⟩
  | .hbm, ⟨77, _⟩ => ⟨S1x1024, .f32⟩
  | .hbm, ⟨78, _⟩ => ⟨S1x1024, .f32⟩
  | .local _ .vmem, ⟨0, _⟩ => ⟨S256x5120, .bf16⟩
  | .local _ .vmem, ⟨1, _⟩ => ⟨S256x5120, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S5120x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_1 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_2 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_3 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_v65_0 : Ref sig .tc := ⟨.hbm, 76, rfl⟩
abbrev main_v65_1 : Ref sig .tc := ⟨.hbm, 77, rfl⟩
abbrev main_v65_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InprojRefIdeal.lean ====
abbrev S16384x1024 : Shape := ⟨2, ![16384, 1024]⟩
abbrev S1x1024 : Shape := ⟨2, ![1, 1024]⟩
abbrev S1024x3584 : Shape := ⟨2, ![1024, 3584]⟩
abbrev S16384x3584 : Shape := ⟨2, ![16384, 3584]⟩
abbrev S_ : Shape := ⟨0, ![]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .f32⟩
  | .hbm, ⟨3, _⟩ => ⟨S16384x3584, .f32⟩
  | .hbm, ⟨4, _⟩ => ⟨S16384x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x3584, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== InprojCtx.lean ====
abbrev S16384x1024 : Shape := ⟨2, ![16384, 1024]⟩
abbrev S256x1024 : Shape := ⟨2, ![256, 1024]⟩
abbrev S1024x3584 : Shape := ⟨2, ![1024, 3584]⟩
abbrev S16640x3584 : Shape := ⟨2, ![16640, 3584]⟩
abbrev S1024x512 : Shape := ⟨2, ![1024, 512]⟩
abbrev S1024x64 : Shape := ⟨2, ![1024, 64]⟩
abbrev S1024x2048 : Shape := ⟨2, ![1024, 2048]⟩
abbrev S1024x5120 : Shape := ⟨2, ![1024, 5120]⟩
abbrev S5120x1024 : Shape := ⟨2, ![5120, 1024]⟩
abbrev S16640x1024 : Shape := ⟨2, ![16640, 1024]⟩
abbrev S16640x512 : Shape := ⟨2, ![16640, 512]⟩
abbrev S_ : Shape := ⟨0, ![]⟩
abbrev S16640x192 : Shape := ⟨2, ![16640, 192]⟩
abbrev S16640x64 : Shape := ⟨2, ![16640, 64]⟩
abbrev S16640x2048 : Shape := ⟨2, ![16640, 2048]⟩
abbrev S16640x2816 : Shape := ⟨2, ![16640, 2816]⟩
abbrev S16640x2304 : Shape := ⟨2, ![16640, 2304]⟩
abbrev S16640x5120 : Shape := ⟨2, ![16640, 5120]⟩
abbrev S8x1024 : Shape := ⟨2, ![8, 1024]⟩
abbrev S1x1024 : Shape := ⟨2, ![1, 1024]⟩
abbrev S256x5120 : Shape := ⟨2, ![256, 5120]⟩
abbrev S1024 : Shape := ⟨1, ![1024]⟩

abbrev nBuf : Space → Nat
  | .hbm => 74
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1024x3584, .f32⟩
  | .hbm, ⟨3, _⟩ => ⟨S16640x3584, .f32⟩
  | .hbm, ⟨4, _⟩ => ⟨S1024x3584, .bf16⟩
  | .hbm, ⟨5, _⟩ => ⟨S1024x512, .bf16⟩
  | .hbm, ⟨6, _⟩ => ⟨S1024x64, .bf16⟩
  | .hbm, ⟨7, _⟩ => ⟨S1024x64, .bf16⟩
  | .hbm, ⟨8, _⟩ => ⟨S1024x64, .bf16⟩
  | .hbm, ⟨9, _⟩ => ⟨S1024x64, .bf16⟩
  | .hbm, ⟨10, _⟩ => ⟨S1024x64, .bf16⟩
  | .hbm, ⟨11, _⟩ => ⟨S1024x64, .bf16⟩
  | .hbm, ⟨12, _⟩ => ⟨S1024x64, .bf16⟩
  | .hbm, ⟨13, _⟩ => ⟨S1024x64, .bf16⟩
  | .hbm, ⟨14, _⟩ => ⟨S1024x512, .bf16⟩
  | .hbm, ⟨15, _⟩ => ⟨S1024x64, .bf16⟩
  | .hbm, ⟨16, _⟩ => ⟨S1024x64, .bf16⟩
  | .hbm, ⟨17, _⟩ => ⟨S1024x64, .bf16⟩
  | .hbm, ⟨18, _⟩ => ⟨S1024x64, .bf16⟩
  | .hbm, ⟨19, _⟩ => ⟨S1024x64, .bf16⟩
  | .hbm, ⟨20, _⟩ => ⟨S1024x64, .bf16⟩
  | .hbm, ⟨21, _⟩ => ⟨S1024x64, .bf16⟩
  | .hbm, ⟨22, _⟩ => ⟨S1024x64, .bf16⟩
  | .hbm, ⟨23, _⟩ => ⟨S1024x512, .bf16⟩
  | .hbm, ⟨24, _⟩ => ⟨S1024x512, .bf16⟩
  | .hbm, ⟨25, _⟩ => ⟨S1024x64, .bf16⟩
  | .hbm, ⟨26, _⟩ => ⟨S1024x64, .bf16⟩
  | .hbm, ⟨27, _⟩ => ⟨S1024x64, .bf16⟩
  | .hbm, ⟨28, _⟩ => ⟨S1024x64, .bf16⟩
  | .hbm, ⟨29, _⟩ => ⟨S1024x64, .bf16⟩
  | .hbm, ⟨30, _⟩ => ⟨S1024x64, .bf16⟩
  | .hbm, ⟨31, _⟩ => ⟨S1024x64, .bf16⟩
  | .hbm, ⟨32, _⟩ => ⟨S1024x64, .bf16⟩
  | .hbm, ⟨33, _⟩ => ⟨S1024x512, .bf16⟩
  | .hbm, ⟨34, _⟩ => ⟨S1024x64, .bf16⟩
  | .hbm, ⟨35, _⟩ => ⟨S1024x64, .bf16⟩
  | .hbm, ⟨36, _⟩ => ⟨S1024x64, .bf16⟩
  | .hbm, ⟨37, _⟩ => ⟨S1024x64, .bf16⟩
  | .hbm, ⟨38, _⟩ => ⟨S1024x64, .bf16⟩
  | .hbm, ⟨39, _⟩ => ⟨S1024x64, .bf16⟩
  | .hbm, ⟨40, _⟩ => ⟨S1024x64, .bf16⟩
  | .hbm, ⟨41, _⟩ => ⟨S1024x64, .bf16⟩
  | .hbm, ⟨42, _⟩ => ⟨S1024x512, .bf16⟩
  | .hbm, ⟨43, _⟩ => ⟨S1024x2048, .bf16⟩
  | .hbm, ⟨44, _⟩ => ⟨S1024x5120, .bf16⟩
  | .hbm, ⟨45, _⟩ => ⟨S5120x1024, .bf16⟩
  | .hbm, ⟨46, _⟩ => ⟨S16640x1024, .f32⟩
  | .hbm, ⟨47, _⟩ => ⟨S16640x3584, .bf16⟩
  | .hbm, ⟨48, _⟩ => ⟨S16640x512, .bf16⟩
  | .hbm, ⟨49, _⟩ => ⟨S_, .bf16⟩
  | .hbm, ⟨50, _⟩ => ⟨S16640x192, .bf16⟩
  | .hbm, ⟨51, _⟩ => ⟨S16640x64, .bf16⟩
  | .hbm, ⟨52, _⟩ => ⟨S16640x64, .bf16⟩
  | .hbm, ⟨53, _⟩ => ⟨S_, .bf16⟩
  | .hbm, ⟨54, _⟩ => ⟨S16640x192, .bf16⟩
  | .hbm, ⟨55, _⟩ => ⟨S16640x64, .bf16⟩
  | .hbm, ⟨56, _⟩ => ⟨S16640x64, .bf16⟩
  | .hbm, ⟨57, _⟩ => ⟨S16640x512, .bf16⟩
  | .hbm, ⟨58, _⟩ => ⟨S_, .bf16⟩
  | .hbm, ⟨59, _⟩ => ⟨S16640x192, .bf16⟩
  | .hbm, ⟨60, _⟩ => ⟨S16640x64, .bf16⟩
  | .hbm, ⟨61, _⟩ => ⟨S16640x64, .bf16⟩
  | .hbm, ⟨62, _⟩ => ⟨S_, .bf16⟩
  | .hbm, ⟨63, _⟩ => ⟨S16640x192, .bf16⟩
  | .hbm, ⟨64, _⟩ => ⟨S16640x64, .bf16⟩
  | .hbm, ⟨65, _⟩ => ⟨S16640x64, .bf16⟩
  | .hbm, ⟨66, _⟩ => ⟨S16640x2048, .bf16⟩
  | .hbm, ⟨67, _⟩ => ⟨S16640x2816, .bf16⟩
  | .hbm, ⟨68, _⟩ => ⟨S16640x2304, .bf16⟩
  | .hbm, ⟨69, _⟩ => ⟨S16640x5120, .bf16⟩
  | .hbm, ⟨70, _⟩ => ⟨S_, .f32⟩
  | .hbm, ⟨71, _⟩ => ⟨S8x1024, .f32⟩
  | .hbm, ⟨72, _⟩ => ⟨S1x1024, .f32⟩
  | .hbm, ⟨73, _⟩ => ⟨S1x1024, .f32⟩
  | .local _ .vmem, ⟨0, _⟩ => ⟨S256x5120, .bf16⟩
  | .local _ .vmem, ⟨1, _⟩ => ⟨S256x1024, .f32⟩
  | .local _ .vmem, ⟨2, _⟩ => ⟨S8x1024, .f32⟩
  | .local _ .vmem, ⟨3, _⟩ => ⟨S5120x1024, .bf16⟩
  | .local _ .vmem, ⟨4, _⟩ => ⟨S1x1024, .f32⟩
  | .local _ .vmem, ⟨5, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_0 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63_0 : Ref sig .tc := ⟨.hbm, 72, rfl⟩
abbrev main_v63_1 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InprojCtxRefIdeal.lean ====
abbrev S16384x1024 : Shape := ⟨2, ![16384, 1024]⟩
abbrev S256x1024 : Shape := ⟨2, ![256, 1024]⟩
abbrev S1024x3584 : Shape := ⟨2, ![1024, 3584]⟩
abbrev S16640x3584 : Shape := ⟨2, ![16640, 3584]⟩
abbrev S_ : Shape := ⟨0, ![]⟩
abbrev S1x1024 : Shape := ⟨2, ![1, 1024]⟩
abbrev S256x3584 : Shape := ⟨2, ![256, 3584]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1024x3584, .f32⟩
  | .hbm, ⟨3, _⟩ => ⟨S16640x3584, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x3584, .f32⟩
  | .hbm, ⟨14, _⟩ => ⟨S256x3584, .f32⟩
  | .hbm, ⟨15, _⟩ => ⟨S256x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S1024x768 : Shape := ⟨2, ![1024, 768]⟩
abbrev S16x768 : Shape := ⟨2, ![16, 768]⟩
abbrev S16x6144 : Shape := ⟨2, ![16, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S1x768 : Shape := ⟨2, ![1, 768]⟩

abbrev nBuf : Space → Nat
  | .hbm => 12
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x768, .f32⟩
  | .hbm, ⟨3, _⟩ => ⟨S16x768, .f32⟩
  | .hbm, ⟨4, _⟩ => ⟨S16x6144, .f32⟩
  | .hbm, ⟨5, _⟩ => ⟨S1x1024, .f32⟩
  | .hbm, ⟨6, _⟩ => ⟨S_, .f32⟩
  | .hbm, ⟨7, _⟩ => ⟨S7x1024, .f32⟩
  | .hbm, ⟨8, _⟩ => ⟨S16x1024, .f32⟩
  | .hbm, ⟨9, _⟩ => ⟨S1024x768, .f32⟩
  | .hbm, ⟨10, _⟩ => ⟨S16x1024, .f32⟩
  | .hbm, ⟨11, _⟩ => ⟨S1x6144, .f32⟩
  | .local _ .vmem, ⟨0, _⟩ => ⟨S16x1024, .f32⟩
  | .local _ .vmem, ⟨1, _⟩ => ⟨S1024x768, .f32⟩
  | .local _ .vmem, ⟨2, _⟩ => ⟨S16x768, .f32⟩
  | .local _ .vmem, ⟨3, _⟩ => ⟨S16x6144, .f32⟩
  | .local _ .vmem, ⟨4, _⟩ => ⟨S1024x768, .f32⟩
  | .local _ .vmem, ⟨5, _⟩ => ⟨S16x1024, .f32⟩
  | .local _ .vmem, ⟨6, _⟩ => ⟨S1x6144, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ModRefIdeal.lean ====
abbrev S8x1024 : Shape := ⟨2, ![8, 1024]⟩
abbrev S1024 : Shape := ⟨1, ![1024]⟩
abbrev S1024x768 : Shape := ⟨2, ![1024, 768]⟩
abbrev S16x768 : Shape := ⟨2, ![16, 768]⟩
abbrev S16x6144 : Shape := ⟨2, ![16, 6144]⟩
abbrev S_ : Shape := ⟨0, ![]⟩
abbrev S1x1024 : Shape := ⟨2, ![1, 1024]⟩
abbrev S1x768 : Shape := ⟨2, ![1, 768]⟩
abbrev S8x768 : Shape := ⟨2, ![8, 768]⟩
abbrev S768 : Shape := ⟨1, ![768]⟩
abbrev S768x1024 : Shape := ⟨2, ![768, 1024]⟩
abbrev S1x6144 : Shape := ⟨2, ![1, 6144]⟩
abbrev S6144 : Shape := ⟨1, ![6144]⟩
abbrev S7x1024 : Shape := ⟨2, ![7, 1024]⟩
abbrev S16x1024 : Shape := ⟨2, ![16, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x768, .f32⟩
  | .hbm, ⟨3, _⟩ => ⟨S16x768, .f32⟩
  | .hbm, ⟨4, _⟩ => ⟨S16x6144, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x768, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S8x768, .f32⟩
  | .hbm, ⟨34, _⟩ => ⟨S8x768, .f32⟩
  | .hbm, ⟨35, _⟩ => ⟨S8x768, .f32⟩
  | .hbm, ⟨36, _⟩ => ⟨S8x768, .f32⟩
  | .hbm, ⟨37, _⟩ => ⟨S_, .f32⟩
  | .hbm, ⟨38, _⟩ => ⟨S768, .f32⟩
  | .hbm, ⟨39, _⟩ => ⟨S1x768, .f32⟩
  | .hbm, ⟨40, _⟩ => ⟨S768x1024, .f32⟩
  | .hbm, ⟨41, _⟩ => ⟨S1024x768, .f32⟩
  | .hbm, ⟨42, _⟩ => ⟨S8x1024, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S8x1024, .f32⟩
  | .hbm, ⟨47, _⟩ => ⟨S768x1024, .f32⟩
  | .hbm, ⟨48, _⟩ => ⟨S1024x768, .f32⟩
  | .hbm, ⟨49, _⟩ => ⟨S1024x768, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1x6144, .f32⟩
  | .hbm, ⟨59, _⟩ => ⟨S16x6144, .f32⟩
  | .hbm, ⟨60, _⟩ => ⟨S_, .f32⟩
  | .hbm, ⟨61, _⟩ => ⟨S6144, .f32⟩
  | .hbm, ⟨62, _⟩ => ⟨S1x6144, .f32⟩
  | .hbm, ⟨63, _⟩ => ⟨S1x1024, .f32⟩
  | .hbm, ⟨64, _⟩ => ⟨S_, .f32⟩
  | .hbm, ⟨65, _⟩ => ⟨S7x1024, .f32⟩
  | .hbm, ⟨66, _⟩ => ⟨S16x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_v3_2 : Ref sig .tc := ⟨.hbm, 27, rfl⟩
abbrev main_call1_cst_1 : Ref sig .tc := ⟨.hbm, 28, rfl⟩
abbrev main_call1_v6 : Ref sig .tc := ⟨.hbm, 29, rfl⟩
abbrev main_call1_v7 : Ref sig .tc := ⟨.hbm, 30, rfl⟩
abbrev main_v3_1 : Ref sig .tc := ⟨.hbm, 31, rfl⟩
abbrev main_v3_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_0 : Ref sig .tc := ⟨.hbm, 51, rfl⟩
abbrev main_v18 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_v26 : Ref sig .tc := ⟨.hbm, 66, rfl⟩

abbrev nD : Nat := 1
abbrev τ : Topo := Topo.v7x

variable {F : FTy → Type} [FloatOps F]
-- ==== Swiglu.lean ====
abbrev S16384x5632 : Shape := ⟨2, ![16384, 5632]⟩
abbrev S3x5632 : Shape := ⟨2, ![3, 5632]⟩
abbrev S1x5632 : Shape := ⟨2, ![1, 5632]⟩
abbrev S16384x2816 : Shape := ⟨2, ![16384, 2816]⟩
abbrev S2816x16384 : Shape := ⟨2, ![2816, 16384]⟩
abbrev S4x704x16384 : Shape := ⟨3, ![4, 704, 16384]⟩
abbrev S_ : Shape := ⟨0, ![]⟩
abbrev S4x768x16384 : Shape := ⟨3, ![4, 768, 16384]⟩
abbrev S3072x16384 : Shape := ⟨2, ![3072, 16384]⟩
abbrev S16384x3072 : Shape := ⟨2, ![16384, 3072]⟩
abbrev S16384x8x704 : Shape := ⟨3, ![16384, 8, 704]⟩
abbrev S16384x8x768 : Shape := ⟨3, ![16384, 8, 768]⟩
abbrev S16384x6144 : Shape := ⟨2, ![16384, 6144]⟩
abbrev S3x8x704 : Shape := ⟨3, ![3, 8, 704]⟩
abbrev S3x8x768 : Shape := ⟨3, ![3, 8, 768]⟩
abbrev S3x6144 : Shape := ⟨2, ![3, 6144]⟩
abbrev S8x6144 : Shape := ⟨2, ![8, 6144]⟩
abbrev S1x8x704 : Shape := ⟨3, ![1, 8, 704]⟩
abbrev S1x8x768 : Shape := ⟨3, ![1, 8, 768]⟩
abbrev S1x6144 : Shape := ⟨2, ![1, 6144]⟩
abbrev S128x6144 : Shape := ⟨2, ![128, 6144]⟩
abbrev S128x3072 : Shape := ⟨2, ![128, 3072]⟩
abbrev S8x3072 : Shape := ⟨2, ![8, 3072]⟩
abbrev S144x6144 : Shape := ⟨2, ![144, 6144]⟩
abbrev S144x3072 : Shape := ⟨2, ![144, 3072]⟩
abbrev S6144 : Shape := ⟨1, ![6144]⟩

abbrev nBuf : Space → Nat
  | .hbm => 34
  | .vmem => 20
  | .smem => 0
  | _ => 0

abbrev bufTy : (tb : Table) → Fin (tcTables nBuf tb) → BufTy
  | .hbm, ⟨0, _⟩ => ⟨S16384x5632, .f32⟩
  | .hbm, ⟨1, _⟩ => ⟨S3x5632, .f32⟩
  | .hbm, ⟨2, _⟩ => ⟨S1x5632, .f32⟩
  | .hbm, ⟨3, _⟩ => ⟨S16384x2816, .f32⟩
  | .hbm, ⟨4, _⟩ => ⟨S2816x16384, .f32⟩
  | .hbm, ⟨5, _⟩ => ⟨S4x704x16384, .f32⟩
  | .hbm, ⟨6, _⟩ => ⟨S_, .i32⟩
  | .hbm, ⟨7, _⟩ => ⟨S_, .f32⟩
  | .hbm, ⟨8, _⟩ => ⟨S4x768x16384, .f32⟩
  | .hbm, ⟨9, _⟩ => ⟨S3072x16384, .f32⟩
  | .hbm, ⟨10, _⟩ => ⟨S16384x3072, .f32⟩
  | .hbm, ⟨11, _⟩ => ⟨S16384x8x704, .f32⟩
  | .hbm, ⟨12, _⟩ => ⟨S_, .i32⟩
  | .hbm, ⟨13, _⟩ => ⟨S_, .f32⟩
  | .hbm, ⟨14, _⟩ => ⟨S16384x8x768, .f32⟩
  | .hbm, ⟨15, _⟩ => ⟨S16384x6144, .f32⟩
  | .hbm, ⟨16, _⟩ => ⟨S3x8x704, .f32⟩
  | .hbm, ⟨17, _⟩ => ⟨S_, .i32⟩
  | .hbm, ⟨18, _⟩ => ⟨S_, .f32⟩
  | .hbm, ⟨19, _⟩ => ⟨S3x8x768, .f32⟩
  | .hbm, ⟨20, _⟩ => ⟨S3x6144, .f32⟩
  | .hbm, ⟨21, _⟩ => ⟨S_, .i32⟩
  | .hbm, ⟨22, _⟩ => ⟨S_, .f32⟩
  | .hbm, ⟨23, _⟩ => ⟨S8x6144, .f32⟩
  | .hbm, ⟨24, _⟩ => ⟨S1x8x704, .f32⟩
  | .hbm, ⟨25, _⟩ => ⟨S_, .i32⟩
  | .hbm, ⟨26, _⟩ => ⟨S_, .f32⟩
  | .hbm, ⟨27, _⟩ => ⟨S1x8x768, .f32⟩
  | .hbm, ⟨28, _⟩ => ⟨S1x6144, .f32⟩
  | .hbm, ⟨29, _⟩ => ⟨S16384x6144, .bf16⟩
  | .hbm, ⟨30, _⟩ => ⟨S1x6144, .f32⟩
  | .hbm, ⟨31, _⟩ => ⟨S1x6144, .f32⟩
  | .hbm, ⟨32, _⟩ => ⟨S1x6144, .f32⟩
  | .hbm, ⟨33, _⟩ => ⟨S1x6144, .f32⟩
  | .local _ .vmem, ⟨0, _⟩ => ⟨S128x6144, .f32⟩
  | .local _ .vmem, ⟨1, _⟩ => ⟨S128x6144, .f32⟩
  | .local _ .vmem, ⟨2, _⟩ => ⟨S8x6144, .f32⟩
  | .local _ .vmem, ⟨3, _⟩ => ⟨S8x6144, .f32⟩
  | .local _ .vmem, ⟨4, _⟩ => ⟨S8x6144, .f32⟩
  | .local _ .vmem, ⟨5, _⟩ => ⟨S8x6144, .f32⟩
  | .local _ .vmem, ⟨6, _⟩ => ⟨S128x3072, .f32⟩
  | .local _ .vmem, ⟨7, _⟩ => ⟨S128x3072, .f32⟩
  | .local _ .vmem, ⟨8, _⟩ => ⟨S8x3072, .f32⟩
  | .local _ .vmem, ⟨9, _⟩ => ⟨S8x3072, .f32⟩
  | .local _ .vmem, ⟨10, _⟩ => ⟨S8x3072, .f32⟩
  | .local _ .vmem, ⟨11, _⟩ => ⟨S8x3072, .f32⟩
  | .local _ .vmem, ⟨12, _⟩ => ⟨S8x6144, .f32⟩
  | .local _ .vmem, ⟨13, _⟩ => ⟨S1x6144, .f32⟩
  | .local _ .vmem, ⟨14, _⟩ => ⟨S128x6144, .bf16⟩
  | .local _ .vmem, ⟨15, _⟩ => ⟨S128x6144, .bf16⟩
  | .local _ .vmem, ⟨16, _⟩ => ⟨S1x6144, .f32⟩
  | .local _ .vmem, ⟨17, _⟩ => ⟨S1x6144, .f32⟩
  | .local _ .vmem, ⟨18, _⟩ => ⟨S1x6144, .f32⟩
  | .local _ .vmem, ⟨19, _⟩ => ⟨S1x6144, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_call4_v0 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SwigluRefIdeal.lean ====
abbrev S16384x5632 : Shape := ⟨2, ![16384, 5632]⟩
abbrev S3x5632 : Shape := ⟨2, ![3, 5632]⟩
abbrev S1x5632 : Shape := ⟨2, ![1, 5632]⟩
abbrev S16384x2816 : Shape := ⟨2, ![16384, 2816]⟩
abbrev S_ : Shape := ⟨0, ![]⟩
abbrev S16386x5632 : Shape := ⟨2, ![16386, 5632]⟩
abbrev S5632 : Shape := ⟨1, ![5632]⟩
abbrev S16384x8x704 : Shape := ⟨3, ![16384, 8, 704]⟩
abbrev S16384x8x768 : Shape := ⟨3, ![16384, 8, 768]⟩
abbrev S16384x6144 : Shape := ⟨2, ![16384, 6144]⟩
abbrev S1x8x704 : Shape := ⟨3, ![1, 8, 704]⟩
abbrev S1x8x768 : Shape := ⟨3, ![1, 8, 768]⟩
abbrev S1x6144 : Shape := ⟨2, ![1, 6144]⟩

abbrev nBuf : Space → Nat
  | .hbm => 109
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S3x5632, .f32⟩
  | .hbm, ⟨2, _⟩ => ⟨S1x5632, .f32⟩
  | .hbm, ⟨3, _⟩ => ⟨S16384x2816, .f32⟩
  | .hbm, ⟨4, _⟩ => ⟨S1x5632, .f32⟩
  | .hbm, ⟨5, _⟩ => ⟨S1x5632, .f32⟩
  | .hbm, ⟨6, _⟩ => ⟨S1x5632, .f32⟩
  | .hbm, ⟨7, _⟩ => ⟨S1x5632, .f32⟩
  | .hbm, ⟨8, _⟩ => ⟨S_, .f32⟩
  | .hbm, ⟨9, _⟩ => ⟨S1x5632, .f32⟩
  | .hbm, ⟨10, _⟩ => ⟨S16386x5632, .f32⟩
  | .hbm, ⟨11, _⟩ => ⟨S_, .f32⟩
  | .hbm, ⟨12, _⟩ => ⟨S1x5632, .f32⟩
  | .hbm, ⟨13, _⟩ => ⟨S_, .f32⟩
  | .hbm, ⟨14, _⟩ => ⟨S1x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x5632, .f32⟩
  | .hbm, ⟨51, _⟩ => ⟨S_, .f32⟩
  | .hbm, ⟨52, _⟩ => ⟨S5632, .f32⟩
  | .hbm, ⟨53, _⟩ => ⟨S1x5632, .f32⟩
  | .hbm, ⟨54, _⟩ => ⟨S16384x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S16384x5632, .f32⟩
  | .hbm, ⟨59, _⟩ => ⟨S16384x5632, .f32⟩
  | .hbm, ⟨60, _⟩ => ⟨S_, .f32⟩
  | .hbm, ⟨61, _⟩ => ⟨S16386x5632, .f32⟩
  | .hbm, ⟨62, _⟩ => ⟨S16384x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S16384x5632, .f32⟩
  | .hbm, ⟨67, _⟩ => ⟨S16384x5632, .f32⟩
  | .hbm, ⟨68, _⟩ => ⟨S_, .f32⟩
  | .hbm, ⟨69, _⟩ => ⟨S16386x5632, .f32⟩
  | .hbm, ⟨70, _⟩ => ⟨S16386x5632, .f32⟩
  | .hbm, ⟨71, _⟩ => ⟨S16384x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S16384x5632, .f32⟩
  | .hbm, ⟨76, _⟩ => ⟨S16384x5632, .f32⟩
  | .hbm, ⟨77, _⟩ => ⟨S_, .f32⟩
  | .hbm, ⟨78, _⟩ => ⟨S16386x5632, .f32⟩
  | .hbm, ⟨79, _⟩ => ⟨S16386x5632, .f32⟩
  | .hbm, ⟨80, _⟩ => ⟨S1x5632, .f32⟩
  | .hbm, ⟨81, _⟩ => ⟨S16384x5632, .f32⟩
  | .hbm, ⟨82, _⟩ => ⟨S1x5632, .f32⟩
  | .hbm, ⟨83, _⟩ => ⟨S16384x8x704, .f32⟩
  | .hbm, ⟨84, _⟩ => ⟨S_, .i32⟩
  | .hbm, ⟨85, _⟩ => ⟨S_, .f32⟩
  | .hbm, ⟨86, _⟩ => ⟨S16384x8x768, .f32⟩
  | .hbm, ⟨87, _⟩ => ⟨S16384x6144, .f32⟩
  | .hbm, ⟨88, _⟩ => ⟨S16384x6144, .bf16⟩
  | .hbm, ⟨89, _⟩ => ⟨S1x8x704, .f32⟩
  | .hbm, ⟨90, _⟩ => ⟨S_, .i32⟩
  | .hbm, ⟨91, _⟩ => ⟨S_, .f32⟩
  | .hbm, ⟨92, _⟩ => ⟨S1x8x768, .f32⟩
  | .hbm, ⟨93, _⟩ => ⟨S1x6144, .f32⟩
  | .hbm, ⟨94, _⟩ => ⟨S1x8x704, .f32⟩
  | .hbm, ⟨95, _⟩ => ⟨S_, .i32⟩
  | .hbm, ⟨96, _⟩ => ⟨S_, .f32⟩
  | .hbm, ⟨97, _⟩ => ⟨S1x8x768, .f32⟩
  | .hbm, ⟨98, _⟩ => ⟨S1x6144, .f32⟩
  | .hbm, ⟨99, _⟩ => ⟨S1x8x704, .f32⟩
  | .hbm, ⟨100, _⟩ => ⟨S_, .i32⟩
  | .hbm, ⟨101, _⟩ => ⟨S_, .f32⟩
  | .hbm, ⟨102, _⟩ => ⟨S1x8x768, .f32⟩
  | .hbm, ⟨103, _⟩ => ⟨S1x6144, .f32⟩
  | .hbm, ⟨104, _⟩ => ⟨S1x8x704, .f32⟩
  | .hbm, ⟨105, _⟩ => ⟨S_, .i32⟩
  | .hbm, ⟨106, _⟩ => ⟨S_, .f32⟩
  | .hbm, ⟨107, _⟩ => ⟨S1x8x768, .f32⟩
  | .hbm, ⟨108, _⟩ => ⟨S1x6144, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v23_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v23_1 : Ref sig .tc := ⟨.hbm, 41, rfl⟩
abbrev main_v23_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c : Ref sig .tc := ⟨.hbm, 84, rfl⟩
abbrev main_call2_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_call3_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_10 : Ref sig .tc := ⟨.hbm, 95, rfl⟩
abbrev main_call4_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_11 : Ref sig .tc := ⟨.hbm, 100, rfl⟩
abbrev main_call5_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_12 : Ref sig .tc := ⟨.hbm, 105, rfl⟩
abbrev main_call6_v0 : Ref sig .tc := ⟨.hbm, 106, rfl⟩
abbrev main_v68 : Ref sig .tc := ⟨.hbm, 107, rfl⟩
abbrev main_v69 : Ref sig .tc := ⟨.hbm, 108, rfl⟩

abbrev nD : Nat := 1
abbrev τ : Topo := Topo.v7x

variable {F : FTy → Type} [FloatOps F]
-- ==== FfnUp.lean ====
abbrev S16384x1024 : Shape := ⟨2, ![16384, 1024]⟩
abbrev S1x1024 : Shape := ⟨2, ![1, 1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S16384x8x704 : Shape := ⟨3, ![16384, 8, 704]⟩
abbrev S16384x8x768 : Shape := ⟨3, ![16384, 8, 768]⟩
abbrev S16384x6144 : Shape := ⟨2, ![16384, 6144]⟩
abbrev S8x1024 : Shape := ⟨2, ![8, 1024]⟩
abbrev S1024x8x704 : Shape := ⟨3, ![1024, 8, 704]⟩
abbrev S1024x8x768 : Shape := ⟨3, ![1024, 8, 768]⟩
abbrev S1024x6144 : Shape := ⟨2, ![1024, 6144]⟩
abbrev S6144x1024 : Shape := ⟨2, ![6144, 1024]⟩
abbrev S256x6144 : Shape := ⟨2, ![256, 6144]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 59
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S16384x5632, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x5632, .bf16⟩
  | .hbm, ⟨37, _⟩ => ⟨S16384x8x704, .bf16⟩
  | .hbm, ⟨38, _⟩ => ⟨S_, .i32⟩
  | .hbm, ⟨39, _⟩ => ⟨S_, .bf16⟩
  | .hbm, ⟨40, _⟩ => ⟨S16384x8x768, .bf16⟩
  | .hbm, ⟨41, _⟩ => ⟨S16384x6144, .bf16⟩
  | .hbm, ⟨42, _⟩ => ⟨S_, .f32⟩
  | .hbm, ⟨43, _⟩ => ⟨S1x1024, .f32⟩
  | .hbm, ⟨44, _⟩ => ⟨S8x1024, .f32⟩
  | .hbm, ⟨45, _⟩ => ⟨S1024x5632, .bf16⟩
  | .hbm, ⟨46, _⟩ => ⟨S1024x8x704, .bf16⟩
  | .hbm, ⟨47, _⟩ => ⟨S_, .i32⟩
  | .hbm, ⟨48, _⟩ => ⟨S_, .bf16⟩
  | .hbm, ⟨49, _⟩ => ⟨S1024x8x768, .bf16⟩
  | .hbm, ⟨50, _⟩ => ⟨S1024x6144, .bf16⟩
  | .hbm, ⟨51, _⟩ => ⟨S6144x1024, .bf16⟩
  | .hbm, ⟨52, _⟩ => ⟨S16384x1024, .bf16⟩
  | .hbm, ⟨53, _⟩ => ⟨S16384x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .local _ .vmem, ⟨0, _⟩ => ⟨S256x6144, .bf16⟩
  | .local _ .vmem, ⟨1, _⟩ => ⟨S256x6144, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S8x1024, .f32⟩
  | .local _ .vmem, ⟨11, _⟩ => ⟨S1x1024, .f32⟩
  | .local _ .vmem, ⟨12, _⟩ => ⟨S1x1024, .f32⟩
  | .local _ .vmem, ⟨13, _⟩ => ⟨S6144x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev main_v32_3 : Ref sig .tc := ⟨.hbm, 55, rfl⟩
abbrev main_v32_4 : Ref sig .tc := ⟨.hbm, 56, rfl⟩
abbrev main_v32_5 : Ref sig .tc := ⟨.hbm, 57, rfl⟩
abbrev main_v32_6 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6144x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnUpRefIdeal.lean ====
abbrev S16384x1024 : Shape := ⟨2, ![16384, 1024]⟩
abbrev S1x1024 : Shape := ⟨2, ![1, 1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 126
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S16384x5632, .f32⟩
  | .hbm, ⟨8, _⟩ => ⟨S16384x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x5632, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S16384x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S16384x1, .f32⟩
  | .hbm, ⟨92, _⟩ => ⟨S16384x1024, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384, .f32⟩
  | .hbm, ⟨106, _⟩ => ⟨S16384x1, .f32⟩
  | .hbm, ⟨107, _⟩ => ⟨S16384x1024, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S_, .f32⟩
  | .hbm, ⟨113, _⟩ => ⟨S16384, .f32⟩
  | .hbm, ⟨114, _⟩ => ⟨S16384x1024, .f32⟩
  | .hbm, ⟨115, _⟩ => ⟨S16384x1024, .f32⟩
  | .hbm, ⟨116, _⟩ => ⟨S16384x1024, .f32⟩
  | .hbm, ⟨117, _⟩ => ⟨S16384x1024, .f32⟩
  | .hbm, ⟨118, _⟩ => ⟨S16384x1024, .f32⟩
  | .hbm, ⟨119, _⟩ => ⟨S_, .f32⟩
  | .hbm, ⟨120, _⟩ => ⟨S1024, .f32⟩
  | .hbm, ⟨121, _⟩ => ⟨S1x1024, .f32⟩
  | .hbm, ⟨122, _⟩ => ⟨S_, .f32⟩
  | .hbm, ⟨123, _⟩ => ⟨S16384x1024, .f32⟩
  | .hbm, ⟨124, _⟩ => ⟨S16384x1024, .f32⟩
  | .hbm, ⟨125, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_22 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== FfnDown.lean ====
abbrev S16384x1024 : Shape := ⟨2, ![16384, 1024]⟩
abbrev S1x1024 : Shape := ⟨2, ![1, 1024]⟩
abbrev S16384x2816 : Shape := ⟨2, ![16384, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S2816x16384 : Shape := ⟨2, ![2816, 16384]⟩
abbrev S4x704x16384 : Shape := ⟨3, ![4, 704, 16384]⟩
abbrev S4x768x16384 : Shape := ⟨3, ![4, 768, 16384]⟩
abbrev S3072x16384 : Shape := ⟨2, ![3072, 16384]⟩
abbrev S16384x3072 : Shape := ⟨2, ![16384, 3072]⟩
abbrev S8x1024 : Shape := ⟨2, ![8, 1024]⟩
abbrev S4x704x1024 : Shape := ⟨3, ![4, 704, 1024]⟩
abbrev S4x768x1024 : Shape := ⟨3, ![4, 768, 1024]⟩
abbrev S3072x1024 : Shape := ⟨2, ![3072, 1024]⟩
abbrev S1x1 : Shape := ⟨2, ![1, 1]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 53
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x2816, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x2816, .bf16⟩
  | .hbm, ⟨31, _⟩ => ⟨S2816x16384, .bf16⟩
  | .hbm, ⟨32, _⟩ => ⟨S4x704x16384, .bf16⟩
  | .hbm, ⟨33, _⟩ => ⟨S_, .i32⟩
  | .hbm, ⟨34, _⟩ => ⟨S_, .bf16⟩
  | .hbm, ⟨35, _⟩ => ⟨S4x768x16384, .bf16⟩
  | .hbm, ⟨36, _⟩ => ⟨S3072x16384, .bf16⟩
  | .hbm, ⟨37, _⟩ => ⟨S16384x3072, .bf16⟩
  | .hbm, ⟨38, _⟩ => ⟨S_, .f32⟩
  | .hbm, ⟨39, _⟩ => ⟨S1x1024, .f32⟩
  | .hbm, ⟨40, _⟩ => ⟨S8x1024, .f32⟩
  | .hbm, ⟨41, _⟩ => ⟨S2816x1024, .bf16⟩
  | .hbm, ⟨42, _⟩ => ⟨S4x704x1024, .bf16⟩
  | .hbm, ⟨43, _⟩ => ⟨S_, .i32⟩
  | .hbm, ⟨44, _⟩ => ⟨S_, .bf16⟩
  | .hbm, ⟨45, _⟩ => ⟨S4x768x1024, .bf16⟩
  | .hbm, ⟨46, _⟩ => ⟨S3072x1024, .bf16⟩
  | .hbm, ⟨47, _⟩ => ⟨S16384x1024, .f32⟩
  | .hbm, ⟨48, _⟩ => ⟨S16384x1024, .bf16⟩
  | .hbm, ⟨49, _⟩ => ⟨S1x1, .f32⟩
  | .hbm, ⟨50, _⟩ => ⟨S1x1024, .f32⟩
  | .hbm, ⟨51, _⟩ => ⟨S1x1024, .f32⟩
  | .hbm, ⟨52, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S3072x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev main_v28_4 : Ref sig .tc := ⟨.hbm, 51, rfl⟩
abbrev main_v28_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnDownRefIdeal.lean ====
abbrev S16384x1024 : Shape := ⟨2, ![16384, 1024]⟩
abbrev S1x1024 : Shape := ⟨2, ![1, 1024]⟩
abbrev S16384x2816 : Shape := ⟨2, ![16384, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S16384x2816, .f32⟩
  | 4 => ⟨S1x1024, .f32⟩
  | 5 => ⟨S1x1024, .f32⟩
  | 6 => ⟨S1x1024, .f32⟩
  | 7 => ⟨S2816x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S16384x1024, .f32⟩
  | 16 => ⟨S16384x1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S_, .f32⟩
  | 27 => ⟨S16384x1, .f32⟩
  | 28 => ⟨S16384x1, .f32⟩
  | 29 => ⟨S16384x1, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S_, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S16384x1024, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S16384x1024, .f32⟩
  | 62 => ⟨S16384x1024, .f32⟩
  | 63 => ⟨S_, .f32⟩
  | 64 => ⟨S16384x1, .f32⟩
  | 65 => ⟨S16384x1, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S16384x1024, .f32⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S_, .f32⟩
  | 80 => ⟨S16384x1024, .f32⟩
  | 81 => ⟨S16384x1024, .f32⟩
  | 82 => ⟨S_, .f32⟩
  | 83 => ⟨S16384, .f32⟩
  | 84 => ⟨S_, .f32⟩
  | 85 => ⟨S16384, .f32⟩
  | 86 => ⟨S16384, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S16384, .f32⟩
  | 95 => ⟨S_, .f32⟩
  | 96 => ⟨S16384, .f32⟩
  | 97 => ⟨S16384, .f32⟩
  | 98 => ⟨S16384x1024, .f32⟩
  | 99 => ⟨S16384x1024, .f32⟩
  | 100 => ⟨S_, .f32⟩
  | 101 => ⟨S1024, .f32⟩
  | 102 => ⟨S1x1024, .f32⟩
  | 103 => ⟨S16384x1024, .f32⟩
  | 104 => ⟨S_, .f32⟩
  | 105 => ⟨S1024, .f32⟩
  | 106 => ⟨S1x1024, .f32⟩
  | 107 => ⟨S16384x1024, .f32⟩
  | 108 => ⟨S16384x1024, .f32⟩
  | 109 => ⟨S16384x1024, .f32⟩
  | 110 => ⟨S_, .f32⟩
  | 111 => ⟨S16384, .f32⟩
  | 112 => ⟨S16384x1, .f32⟩
  | 113 => ⟨S16384x1024, .f32⟩
  | 114 => ⟨S16384x1024, .f32⟩
  | 115 => ⟨S16384x1, .f32⟩
  | 116 => ⟨S16384x1024, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S16384, .f32⟩
  | 2 => ⟨S16384x1, .f32⟩
  | 3 => ⟨S16384x1024, .f32⟩
  | 4 => ⟨S16384x1, .f32⟩
  | 5 => ⟨S_, .f32⟩
  | 6 => ⟨S16384x1, .f32⟩
  | 7 => ⟨S16384x1, .f32⟩
  | 8 => ⟨S_, .f32⟩
  | 9 => ⟨S16384, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S1024, .f32⟩
  | 17 => ⟨S1x1024, .f32⟩
  | 18 => ⟨S16384x1024, .bf16⟩
  | 19 => ⟨S1x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_cst_17 : Ref sig .tc := ⟨.hbm, 91, rfl⟩
abbrev main_cst_18 : Ref sig .tc := ⟨.hbm, 92, rfl⟩
abbrev main_v64 : Ref sig .tc := ⟨.hbm, 93, rfl⟩
abbrev main_v65 : Ref sig .tc := ⟨.hbm, 94, rfl⟩
abbrev main_cst_19 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_22 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_cst_25 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_26 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_27 : Ref sig .tc := ⟨.hbm, 133, rfl⟩
abbrev main_v96 : Ref sig .tc := ⟨.hbm, 134, rfl⟩
abbrev main_v97 : Ref sig .tc := ⟨.hbm, 135, rfl⟩
abbrev main_cst_28 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_29 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]
-- ==== WinSink.lean ====
abbrev S16384x512 : Shape := ⟨2, ![16384, 512]⟩
abbrev S16640x128 : Shape := ⟨2, ![16640, 128]⟩
abbrev S1x8 : Shape := ⟨2, ![1, 8]⟩
abbrev S_ : Shape := ⟨0, ![]⟩
abbrev S16384x2x4x64 : Shape := ⟨4, ![16384, 2, 4, 64]⟩
abbrev S16384x16640 : Shape := ⟨2, ![16384, 16640]⟩
abbrev S16640x2x64 : Shape := ⟨3, ![16640, 2, 64]⟩
abbrev S2x16640x16384x4 : Shape := ⟨4, ![2, 16640, 16384, 4]⟩
abbrev S2x4x16384x16640 : Shape := ⟨4, ![2, 4, 16384, 16640]⟩
abbrev S2x4x1x1 : Shape := ⟨4, ![2, 4, 1, 1]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x4 : Shape := ⟨2, ![2, 4]⟩
abbrev S2x4x256 : Shape := ⟨3, ![2, 4, 256]⟩
abbrev S2x1024 : Shape := ⟨2, ![2, 1024]⟩
abbrev S2x1024x1 : Shape := ⟨3, ![2, 1024, 1]⟩
abbrev S2x1024x128 : Shape := ⟨3, ![2, 1024, 128]⟩
abbrev S512x16384 : Shape := ⟨2, ![512, 16384]⟩
abbrev S16640x64 : Shape := ⟨2, ![16640, 64]⟩
abbrev S16640x512 : Shape := ⟨2, ![16640, 512]⟩
abbrev S2x4x64x1x256 : Shape := ⟨5, ![2, 4, 64, 1, 256]⟩
abbrev S2x64x1x4x256 : Shape := ⟨5, ![2, 64, 1, 4, 256]⟩
abbrev S2x64x1024x1 : Shape := ⟨4, ![2, 64, 1024, 1]⟩
abbrev S2x64x16768 : Shape := ⟨3, ![2, 64, 16768]⟩
abbrev S256x256 : Shape := ⟨2, ![256, 256]⟩
abbrev S128x256 : Shape := ⟨2, ![128, 256]⟩
abbrev S1x1024x128 : Shape := ⟨3, ![1, 1024, 128]⟩
abbrev S1x1x1024x1 : Shape := ⟨4, ![1, 1, 1024, 1]⟩
abbrev S1x64x16768 : Shape := ⟨3, ![1, 64, 16768]⟩
abbrev S1x1024x1 : Shape := ⟨3, ![1, 1024, 1]⟩
abbrev S768x256 : Shape := ⟨2, ![768, 256]⟩
abbrev S1024x256 : Shape := ⟨2, ![1024, 256]⟩
abbrev S1024 : Shape := ⟨1, ![1024]⟩
abbrev S1024x1 : Shape := ⟨2, ![1024, 1]⟩
abbrev S1024x768 : Shape := ⟨2, ![1024, 768]⟩
abbrev S64x256 : Shape := ⟨2, ![64, 256]⟩
abbrev S64x1024 : Shape := ⟨2, ![64, 1024]⟩
abbrev S64x768 : Shape := ⟨2, ![64, 768]⟩
abbrev S1x64x512 : Shape := ⟨3, ![1, 64, 512]⟩
abbrev S64x512 : Shape := ⟨2, ![64, 512]⟩
abbrev S1x64x256 : Shape := ⟨3, ![1, 64, 256]⟩
abbrev S1024x128 : Shape := ⟨2, ![1024, 128]⟩

abbrev nBuf : Space → Nat
  | .hbm => 89
  | .vmem => 40
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S1x8, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x2x4x64, .f32⟩
  | .hbm, ⟨9, _⟩ => ⟨S16384x16640, .i32⟩
  | .hbm, ⟨10, _⟩ => ⟨S16384x16640, .i32⟩
  | .hbm, ⟨11, _⟩ => ⟨S_, .i32⟩
  | .hbm, ⟨12, _⟩ => ⟨S16384x16640, .i32⟩
  | .hbm, ⟨13, _⟩ => ⟨S16384x16640, .i1⟩
  | .hbm, ⟨14, _⟩ => ⟨S16384x16640, .i32⟩
  | .hbm, ⟨15, _⟩ => ⟨S16384x16640, .i32⟩
  | .hbm, ⟨16, _⟩ => ⟨S_, .i32⟩
  | .hbm, ⟨17, _⟩ => ⟨S16384x16640, .i32⟩
  | .hbm, ⟨18, _⟩ => ⟨S16384x16640, .i1⟩
  | .hbm, ⟨19, _⟩ => ⟨S16384x16640, .i1⟩
  | .hbm, ⟨20, _⟩ => ⟨S16640x2x64, .f32⟩
  | .hbm, ⟨21, _⟩ => ⟨S2x16640x16384x4, .f32⟩
  | .hbm, ⟨22, _⟩ => ⟨S2x4x16384x16640, .f32⟩
  | .hbm, ⟨23, _⟩ => ⟨S_, .f32⟩
  | .hbm, ⟨24, _⟩ => ⟨S_, .f32⟩
  | .hbm, ⟨25, _⟩ => ⟨S2x4x16384x16640, .i1⟩
  | .hbm, ⟨26, _⟩ => ⟨S2x4x16384x16640, .f32⟩
  | .hbm, ⟨27, _⟩ => ⟨S2x4x16384x16640, .f32⟩
  | .hbm, ⟨28, _⟩ => ⟨S2x4x1x1, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x1, .f32⟩
  | .hbm, ⟨33, _⟩ => ⟨S2x4x16384x1, .f32⟩
  | .hbm, ⟨34, _⟩ => ⟨S2x4x16384x16640, .f32⟩
  | .hbm, ⟨35, _⟩ => ⟨S2x4x16384x16640, .f32⟩
  | .hbm, ⟨36, _⟩ => ⟨S2x4x16384x16640, .f32⟩
  | .hbm, ⟨37, _⟩ => ⟨S_, .f32⟩
  | .hbm, ⟨38, _⟩ => ⟨S2x4x16384, .f32⟩
  | .hbm, ⟨39, _⟩ => ⟨S2x4x16384x1, .f32⟩
  | .hbm, ⟨40, _⟩ => ⟨S2x4x16384x1, .f32⟩
  | .hbm, ⟨41, _⟩ => ⟨S2x4x16384x1, .f32⟩
  | .hbm, ⟨42, _⟩ => ⟨S2x4x16384x1, .f32⟩
  | .hbm, ⟨43, _⟩ => ⟨S2x4x16384x1, .f32⟩
  | .hbm, ⟨44, _⟩ => ⟨S2x4x16384x16640, .f32⟩
  | .hbm, ⟨45, _⟩ => ⟨S2x4x16384x16640, .f32⟩
  | .hbm, ⟨46, _⟩ => ⟨S16640x2x64, .f32⟩
  | .hbm, ⟨47, _⟩ => ⟨S2x64x4x16384, .f32⟩
  | .hbm, ⟨48, _⟩ => ⟨S16384x2x4x64, .f32⟩
  | .hbm, ⟨49, _⟩ => ⟨S16384x512, .f32⟩
  | .hbm, ⟨50, _⟩ => ⟨S2x4x16384x1, .f32⟩
  | .hbm, ⟨51, _⟩ => ⟨S2x4x16384x1, .f32⟩
  | .hbm, ⟨52, _⟩ => ⟨S2x4x16384, .f32⟩
  | .hbm, ⟨53, _⟩ => ⟨S2x4, .f32⟩
  | .hbm, ⟨54, _⟩ => ⟨S2x4x256, .f32⟩
  | .hbm, ⟨55, _⟩ => ⟨S2x1024, .f32⟩
  | .hbm, ⟨56, _⟩ => ⟨S2x1024x1, .f32⟩
  | .hbm, ⟨57, _⟩ => ⟨S2x1024x128, .f32⟩
  | .hbm, ⟨58, _⟩ => ⟨S16384x512, .bf16⟩
  | .hbm, ⟨59, _⟩ => ⟨S512x16384, .bf16⟩
  | .hbm, ⟨60, _⟩ => ⟨S16640x64, .f32⟩
  | .hbm, ⟨61, _⟩ => ⟨S16640x64, .f32⟩
  | .hbm, ⟨62, _⟩ => ⟨S16640x64, .f32⟩
  | .hbm, ⟨63, _⟩ => ⟨S16640x64, .f32⟩
  | .hbm, ⟨64, _⟩ => ⟨S16640x64, .f32⟩
  | .hbm, ⟨65, _⟩ => ⟨S16640x64, .f32⟩
  | .hbm, ⟨66, _⟩ => ⟨S16640x64, .f32⟩
  | .hbm, ⟨67, _⟩ => ⟨S16640x64, .f32⟩
  | .hbm, ⟨68, _⟩ => ⟨S16640x512, .f32⟩
  | .hbm, ⟨69, _⟩ => ⟨S16640x512, .bf16⟩
  | .hbm, ⟨70, _⟩ => ⟨S16640x64, .f32⟩
  | .hbm, ⟨71, _⟩ => ⟨S16640x64, .f32⟩
  | .hbm, ⟨72, _⟩ => ⟨S16640x64, .f32⟩
  | .hbm, ⟨73, _⟩ => ⟨S16640x64, .f32⟩
  | .hbm, ⟨74, _⟩ => ⟨S16640x64, .f32⟩
  | .hbm, ⟨75, _⟩ => ⟨S16640x64, .f32⟩
  | .hbm, ⟨76, _⟩ => ⟨S16640x64, .f32⟩
  | .hbm, ⟨77, _⟩ => ⟨S16640x64, .f32⟩
  | .hbm, ⟨78, _⟩ => ⟨S16640x512, .f32⟩
  | .hbm, ⟨79, _⟩ => ⟨S16640x512, .bf16⟩
  | .hbm, ⟨80, _⟩ => ⟨S16384x512, .bf16⟩
  | .hbm, ⟨81, _⟩ => ⟨S512x16384, .bf16⟩
  | .hbm, ⟨82, _⟩ => ⟨S2x4x64x1x256, .f32⟩
  | .hbm, ⟨83, _⟩ => ⟨S2x64x1x4x256, .f32⟩
  | .hbm, ⟨84, _⟩ => ⟨S2x64x1024x1, .f32⟩
  | .hbm, ⟨85, _⟩ => ⟨S16384x512, .f32⟩
  | .hbm, ⟨86, _⟩ => ⟨S2x64x16768, .f32⟩
  | .hbm, ⟨87, _⟩ => ⟨S2x64x16768, .f32⟩
  | .hbm, ⟨88, _⟩ => ⟨S2x1024x1, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S256x256, .bf16⟩
  | .local _ .vmem, ⟨11, _⟩ => ⟨S256x256, .bf16⟩
  | .local _ .vmem, ⟨12, _⟩ => ⟨S128x256, .bf16⟩
  | .local _ .vmem, ⟨13, _⟩ => ⟨S128x256, .bf16⟩
  | .local _ .vmem, ⟨14, _⟩ => ⟨S256x256, .bf16⟩
  | .local _ .vmem, ⟨15, _⟩ => ⟨S256x256, .bf16⟩
  | .local _ .vmem, ⟨16, _⟩ => ⟨S128x256, .bf16⟩
  | .local _ .vmem, ⟨17, _⟩ => ⟨S128x256, .bf16⟩
  | .local _ .vmem, ⟨18, _⟩ => ⟨S256x256, .bf16⟩
  | .local _ .vmem, ⟨19, _⟩ => ⟨S256x256, .bf16⟩
  | .local _ .vmem, ⟨20, _⟩ => ⟨S1x1024x128, .f32⟩
  | .local _ .vmem, ⟨21, _⟩ => ⟨S1x1024x128, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .bf16⟩
  | .local _ .vmem, ⟨27, _⟩ => ⟨S256x256, .bf16⟩
  | .local _ .vmem, ⟨28, _⟩ => ⟨S1x1x1024x1, .f32⟩
  | .local _ .vmem, ⟨29, _⟩ => ⟨S1x1x1024x1, .f32⟩
  | .local _ .vmem, ⟨30, _⟩ => ⟨S256x256, .f32⟩
  | .local _ .vmem, ⟨31, _⟩ => ⟨S256x256, .f32⟩
  | .local _ .vmem, ⟨32, _⟩ => ⟨S1x64x16768, .f32⟩
  | .local _ .vmem, ⟨33, _⟩ => ⟨S1x64x16768, .f32⟩
  | .local _ .vmem, ⟨34, _⟩ => ⟨S1x64x16768, .f32⟩
  | .local _ .vmem, ⟨35, _⟩ => ⟨S1x64x16768, .f32⟩
  | .local _ .vmem, ⟨36, _⟩ => ⟨S1x1024x1, .f32⟩
  | .local _ .vmem, ⟨37, _⟩ => ⟨S1x1024x1, .f32⟩
  | .local _ .vmem, ⟨38, _⟩ => ⟨S768x256, .bf16⟩
  | .local _ .vmem, ⟨39, _⟩ => ⟨S768x256, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71_0 : Ref sig .tc := ⟨.hbm, 85, rfl⟩
abbrev main_v71_1 : Ref sig .tc := ⟨.hbm, 86, rfl⟩
abbrev main_v71_2 : Ref sig .tc := ⟨.hbm, 87, rfl⟩
abbrev main_v71_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c256_i32_90 : BitVec 32 := 256#32
  let v193 : BitVec 32 := Scalar.muli arg1 c256_i32_90
  v193
def k0_off1 (i : grid0.Coords) : Fin 3 → Nat :=
  let c0_91 : Index := 0#32
  let c0_92 : Index := 0#32
  let arg1 : BitVec 32 := BitVec.ofNat 32 (i 1).val
  let c256_i32_90 : BitVec 32 := 256#32
  let v193 : BitVec 32 := Scalar.muli arg1 c256_i32_90
  let v194 : BitVec 32 := v193
  let v195 : Index := Scalar.indexCast v194
  ![0, 0, v195.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c127_i32 : BitVec 32 := 127#32
  let v2 : BitVec 32 := Scalar.minsi v1 c127_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  ![c64_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c127_i32 : BitVec 32 := 127#32
  let v2 : BitVec 32 := Scalar.minsi v1 c127_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  ![c64_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x16768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x64x16768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1024x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== WinSinkRefIdeal.lean ====
abbrev S16384x512 : Shape := ⟨2, ![16384, 512]⟩
abbrev S16640x128 : Shape := ⟨2, ![16640, 128]⟩
abbrev S1x8 : Shape := ⟨2, ![1, 8]⟩
abbrev S2x4x1 : Shape := ⟨3, ![2, 4, 1]⟩
abbrev S2x4x16384 : Shape := ⟨3, ![2, 4, 16384]⟩
abbrev S_ : Shape := ⟨0, ![]⟩
abbrev S16384x2x4x64 : Shape := ⟨4, ![16384, 2, 4, 64]⟩
abbrev S16640x2x64 : Shape := ⟨3, ![16640, 2, 64]⟩
abbrev S16384x16640 : Shape := ⟨2, ![16384, 16640]⟩
abbrev S2x16640x16384x4 : Shape := ⟨4, ![2, 16640, 16384, 4]⟩
abbrev S2x4x16384x16640 : Shape := ⟨4, ![2, 4, 16384, 16640]⟩
abbrev S2x4x16384x1 : Shape := ⟨4, ![2, 4, 16384, 1]⟩
abbrev S2x64x4x16384 : Shape := ⟨4, ![2, 64, 4, 16384]⟩
abbrev S2x4x64x256 : Shape := ⟨4, ![2, 4, 64, 256]⟩
abbrev S2x4x256 : Shape := ⟨3, ![2, 4, 256]⟩
abbrev S2x1024x1 : Shape := ⟨3, ![2, 1024, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S1x8, .f32⟩
  | .hbm, ⟨4, _⟩ => ⟨S16384x512, .f32⟩
  | .hbm, ⟨5, _⟩ => ⟨S2x4x1, .f32⟩
  | .hbm, ⟨6, _⟩ => ⟨S2x4x16384, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S16384x2x4x64, .f32⟩
  | .hbm, ⟨11, _⟩ => ⟨S16640x2x64, .f32⟩
  | .hbm, ⟨12, _⟩ => ⟨S16640x2x64, .f32⟩
  | .hbm, ⟨13, _⟩ => ⟨S16384x16640, .i32⟩
  | .hbm, ⟨14, _⟩ => ⟨S16384x16640, .i32⟩
  | .hbm, ⟨15, _⟩ => ⟨S_, .i32⟩
  | .hbm, ⟨16, _⟩ => ⟨S16384x16640, .i32⟩
  | .hbm, ⟨17, _⟩ => ⟨S16384x16640, .i1⟩
  | .hbm, ⟨18, _⟩ => ⟨S16384x16640, .i32⟩
  | .hbm, ⟨19, _⟩ => ⟨S16384x16640, .i32⟩
  | .hbm, ⟨20, _⟩ => ⟨S_, .i32⟩
  | .hbm, ⟨21, _⟩ => ⟨S16384x16640, .i32⟩
  | .hbm, ⟨22, _⟩ => ⟨S16384x16640, .i1⟩
  | .hbm, ⟨23, _⟩ => ⟨S16384x16640, .i1⟩
  | .hbm, ⟨24, _⟩ => ⟨S2x16640x16384x4, .f32⟩
  | .hbm, ⟨25, _⟩ => ⟨S2x4x16384x16640, .f32⟩
  | .hbm, ⟨26, _⟩ => ⟨S_, .f32⟩
  | .hbm, ⟨27, _⟩ => ⟨S_, .f32⟩
  | .hbm, ⟨28, _⟩ => ⟨S2x4x16384x16640, .i1⟩
  | .hbm, ⟨29, _⟩ => ⟨S2x4x16384x16640, .f32⟩
  | .hbm, ⟨30, _⟩ => ⟨S2x4x16384x16640, .f32⟩
  | .hbm, ⟨31, _⟩ => ⟨S2x4x16384x1, .f32⟩
  | .hbm, ⟨32, _⟩ => ⟨S_, .f32⟩
  | .hbm, ⟨33, _⟩ => ⟨S2x4x16384, .f32⟩
  | .hbm, ⟨34, _⟩ => ⟨S2x4x16384x1, .f32⟩
  | .hbm, ⟨35, _⟩ => ⟨S2x4x16384x1, .f32⟩
  | .hbm, ⟨36, _⟩ => ⟨S2x4x16384x1, .i1⟩
  | .hbm, ⟨37, _⟩ => ⟨S2x4x16384x1, .i1⟩
  | .hbm, ⟨38, _⟩ => ⟨S_, .f32⟩
  | .hbm, ⟨39, _⟩ => ⟨S2x4x16384x1, .f32⟩
  | .hbm, ⟨40, _⟩ => ⟨S_, .f32⟩
  | .hbm, ⟨41, _⟩ => ⟨S2x4x16384x1, .f32⟩
  | .hbm, ⟨42, _⟩ => ⟨S_, .f32⟩
  | .hbm, ⟨43, _⟩ => ⟨S2x4x16384x1, .f32⟩
  | .hbm, ⟨44, _⟩ => ⟨S2x4x16384x1, .f32⟩
  | .hbm, ⟨45, _⟩ => ⟨S2x4x16384x1, .f32⟩
  | .hbm, ⟨46, _⟩ => ⟨S2x4x16384x16640, .f32⟩
  | .hbm, ⟨47, _⟩ => ⟨S2x4x16384x16640, .f32⟩
  | .hbm, ⟨48, _⟩ => ⟨S2x4x16384x16640, .f32⟩
  | .hbm, ⟨49, _⟩ => ⟨S_, .f32⟩
  | .hbm, ⟨50, _⟩ => ⟨S2x4x16384, .f32⟩
  | .hbm, ⟨51, _⟩ => ⟨S2x4x16384x1, .f32⟩
  | .hbm, ⟨52, _⟩ => ⟨S2x4x16384x1, .f32⟩
  | .hbm, ⟨53, _⟩ => ⟨S2x4x16384x1, .f32⟩
  | .hbm, ⟨54, _⟩ => ⟨S2x4x16384x1, .f32⟩
  | .hbm, ⟨55, _⟩ => ⟨S2x4x16384x16640, .f32⟩
  | .hbm, ⟨56, _⟩ => ⟨S2x4x16384x16640, .f32⟩
  | .hbm, ⟨57, _⟩ => ⟨S2x4x16384x1, .f32⟩
  | .hbm, ⟨58, _⟩ => ⟨S_, .f32⟩
  | .hbm, ⟨59, _⟩ => ⟨S2x4x16384x1, .f32⟩
  | .hbm, ⟨60, _⟩ => ⟨S2x4x16384x1, .f32⟩
  | .hbm, ⟨61, _⟩ => ⟨S2x64x4x16384, .f32⟩
  | .hbm, ⟨62, _⟩ => ⟨S16384x2x4x64, .f32⟩
  | .hbm, ⟨63, _⟩ => ⟨S16384x2x4x64, .f32⟩
  | .hbm, ⟨64, _⟩ => ⟨S2x64x4x16384, .f32⟩
  | .hbm, ⟨65, _⟩ => ⟨S2x4x16384x16640, .f32⟩
  | .hbm, ⟨66, _⟩ => ⟨S2x4x16384x16640, .f32⟩
  | .hbm, ⟨67, _⟩ => ⟨S2x4x16384x16640, .f32⟩
  | .hbm, ⟨68, _⟩ => ⟨S2x4x16384x16640, .f32⟩
  | .hbm, ⟨69, _⟩ => ⟨S_, .f32⟩
  | .hbm, ⟨70, _⟩ => ⟨S2x4x16384, .f32⟩
  | .hbm, ⟨71, _⟩ => ⟨S2x4x16384x1, .f32⟩
  | .hbm, ⟨72, _⟩ => ⟨S2x4x16384x1, .f32⟩
  | .hbm, ⟨73, _⟩ => ⟨S2x4x16384x16640, .f32⟩
  | .hbm, ⟨74, _⟩ => ⟨S2x4x16384x16640, .f32⟩
  | .hbm, ⟨75, _⟩ => ⟨S2x4x16384x1, .f32⟩
  | .hbm, ⟨76, _⟩ => ⟨S2x4x16384x1, .f32⟩
  | .hbm, ⟨77, _⟩ => ⟨S_, .f32⟩
  | .hbm, ⟨78, _⟩ => ⟨S2x4x16384, .f32⟩
  | .hbm, ⟨79, _⟩ => ⟨S2x4x16384x16640, .f32⟩
  | .hbm, ⟨80, _⟩ => ⟨S2x4x16384x16640, .f32⟩
  | .hbm, ⟨81, _⟩ => ⟨S2x4x16384x16640, .f32⟩
  | .hbm, ⟨82, _⟩ => ⟨S_, .f32⟩
  | .hbm, ⟨83, _⟩ => ⟨S2x4x16384, .f32⟩
  | .hbm, ⟨84, _⟩ => ⟨S2x4x16384x1, .f32⟩
  | .hbm, ⟨85, _⟩ => ⟨S2x4x16384x1, .f32⟩
  | .hbm, ⟨86, _⟩ => ⟨S2x4x16384x1, .f32⟩
  | .hbm, ⟨87, _⟩ => ⟨S2x4x16384x1, .f32⟩
  | .hbm, ⟨88, _⟩ => ⟨S2x4x16384x1, .f32⟩
  | .hbm, ⟨89, _⟩ => ⟨S_, .f32⟩
  | .hbm, ⟨90, _⟩ => ⟨S2x4x16384, .f32⟩
  | .hbm, ⟨91, _⟩ => ⟨S2x4x64x256, .f32⟩
  | .hbm, ⟨92, _⟩ => ⟨S_, .f32⟩
  | .hbm, ⟨93, _⟩ => ⟨S2x4x256, .f32⟩
  | .hbm, ⟨94, _⟩ => ⟨S2x1024x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Win.lean ====
abbrev S16384x512 : Shape := ⟨2, ![16384, 512]⟩
abbrev S16640x128 : Shape := ⟨2, ![16640, 128]⟩
abbrev S1x8 : Shape := ⟨2, ![1, 8]⟩
abbrev S_ : Shape := ⟨0, ![]⟩
abbrev S16384x2x4x64 : Shape := ⟨4, ![16384, 2, 4, 64]⟩
abbrev S16384x16640 : Shape := ⟨2, ![16384, 16640]⟩
abbrev S16640x2x64 : Shape := ⟨3, ![16640, 2, 64]⟩
abbrev S2x16640x16384x4 : Shape := ⟨4, ![2, 16640, 16384, 4]⟩
abbrev S2x4x16384x16640 : Shape := ⟨4, ![2, 4, 16384, 16640]⟩
abbrev S2x4x1x1 : Shape := ⟨4, ![2, 4, 1, 1]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x4 : Shape := ⟨2, ![2, 4]⟩
abbrev S2x4x256 : Shape := ⟨3, ![2, 4, 256]⟩
abbrev S2x1024 : Shape := ⟨2, ![2, 1024]⟩
abbrev S2x1024x1 : Shape := ⟨3, ![2, 1024, 1]⟩
abbrev S2x1024x128 : Shape := ⟨3, ![2, 1024, 128]⟩
abbrev S512x16384 : Shape := ⟨2, ![512, 16384]⟩
abbrev S16640x64 : Shape := ⟨2, ![16640, 64]⟩
abbrev S16640x512 : Shape := ⟨2, ![16640, 512]⟩
abbrev S2x4x64x1x256 : Shape := ⟨5, ![2, 4, 64, 1, 256]⟩
abbrev S2x64x1x4x256 : Shape := ⟨5, ![2, 64, 1, 4, 256]⟩
abbrev S2x64x1024x1 : Shape := ⟨4, ![2, 64, 1024, 1]⟩
abbrev S2x64x16768 : Shape := ⟨3, ![2, 64, 16768]⟩
abbrev S256x256 : Shape := ⟨2, ![256, 256]⟩
abbrev S128x256 : Shape := ⟨2, ![128, 256]⟩
abbrev S1x1024x128 : Shape := ⟨3, ![1, 1024, 128]⟩
abbrev S1x1x1024x1 : Shape := ⟨4, ![1, 1, 1024, 1]⟩
abbrev S1x64x16768 : Shape := ⟨3, ![1, 64, 16768]⟩
abbrev S1x1024x1 : Shape := ⟨3, ![1, 1024, 1]⟩
abbrev S768x256 : Shape := ⟨2, ![768, 256]⟩
abbrev S1024x256 : Shape := ⟨2, ![1024, 256]⟩
abbrev S1024 : Shape := ⟨1, ![1024]⟩
abbrev S1024x1 : Shape := ⟨2, ![1024, 1]⟩
abbrev S1024x768 : Shape := ⟨2, ![1024, 768]⟩
abbrev S64x256 : Shape := ⟨2, ![64, 256]⟩
abbrev S64x1024 : Shape := ⟨2, ![64, 1024]⟩
abbrev S64x768 : Shape := ⟨2, ![64, 768]⟩
abbrev S1x64x512 : Shape := ⟨3, ![1, 64, 512]⟩
abbrev S64x512 : Shape := ⟨2, ![64, 512]⟩
abbrev S1x64x256 : Shape := ⟨3, ![1, 64, 256]⟩
abbrev S1024x128 : Shape := ⟨2, ![1024, 128]⟩

abbrev nBuf : Space → Nat
  | .hbm => 89
  | .vmem => 40
  | .smem => 0
  | _ => 0

abbrev bufTy : (tb : Table) → Fin (tcTables nBuf tb) → BufTy
  | .hbm, ⟨0, _⟩ => ⟨S16384x512, .f32⟩
  | .hbm, ⟨1, _⟩ => ⟨S16640x128, .f32⟩
  | .hbm, ⟨2, _⟩ => ⟨S16640x128, .f32⟩
  | .hbm, ⟨3, _⟩ => ⟨S1x8, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x2x4x64, .f32⟩
  | .hbm, ⟨9, _⟩ => ⟨S16384x16640, .i32⟩
  | .hbm, ⟨10, _⟩ => ⟨S16384x16640, .i32⟩
  | .hbm, ⟨11, _⟩ => ⟨S_, .i32⟩
  | .hbm, ⟨12, _⟩ => ⟨S16384x16640, .i32⟩
  | .hbm, ⟨13, _⟩ => ⟨S16384x16640, .i1⟩
  | .hbm, ⟨14, _⟩ => ⟨S16384x16640, .i32⟩
  | .hbm, ⟨15, _⟩ => ⟨S16384x16640, .i32⟩
  | .hbm, ⟨16, _⟩ => ⟨S_, .i32⟩
  | .hbm, ⟨17, _⟩ => ⟨S16384x16640, .i32⟩
  | .hbm, ⟨18, _⟩ => ⟨S16384x16640, .i1⟩
  | .hbm, ⟨19, _⟩ => ⟨S16384x16640, .i1⟩
  | .hbm, ⟨20, _⟩ => ⟨S16640x2x64, .f32⟩
  | .hbm, ⟨21, _⟩ => ⟨S2x16640x16384x4, .f32⟩
  | .hbm, ⟨22, _⟩ => ⟨S2x4x16384x16640, .f32⟩
  | .hbm, ⟨23, _⟩ => ⟨S_, .f32⟩
  | .hbm, ⟨24, _⟩ => ⟨S_, .f32⟩
  | .hbm, ⟨25, _⟩ => ⟨S2x4x16384x16640, .i1⟩
  | .hbm, ⟨26, _⟩ => ⟨S2x4x16384x16640, .f32⟩
  | .hbm, ⟨27, _⟩ => ⟨S2x4x16384x16640, .f32⟩
  | .hbm, ⟨28, _⟩ => ⟨S2x4x1x1, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x1, .f32⟩
  | .hbm, ⟨33, _⟩ => ⟨S2x4x16384x1, .f32⟩
  | .hbm, ⟨34, _⟩ => ⟨S2x4x16384x16640, .f32⟩
  | .hbm, ⟨35, _⟩ => ⟨S2x4x16384x16640, .f32⟩
  | .hbm, ⟨36, _⟩ => ⟨S2x4x16384x16640, .f32⟩
  | .hbm, ⟨37, _⟩ => ⟨S_, .f32⟩
  | .hbm, ⟨38, _⟩ => ⟨S2x4x16384, .f32⟩
  | .hbm, ⟨39, _⟩ => ⟨S2x4x16384x1, .f32⟩
  | .hbm, ⟨40, _⟩ => ⟨S2x4x16384x1, .f32⟩
  | .hbm, ⟨41, _⟩ => ⟨S2x4x16384x1, .f32⟩
  | .hbm, ⟨42, _⟩ => ⟨S2x4x16384x1, .f32⟩
  | .hbm, ⟨43, _⟩ => ⟨S2x4x16384x1, .f32⟩
  | .hbm, ⟨44, _⟩ => ⟨S2x4x16384x16640, .f32⟩
  | .hbm, ⟨45, _⟩ => ⟨S2x4x16384x16640, .f32⟩
  | .hbm, ⟨46, _⟩ => ⟨S16640x2x64, .f32⟩
  | .hbm, ⟨47, _⟩ => ⟨S2x64x4x16384, .f32⟩
  | .hbm, ⟨48, _⟩ => ⟨S16384x2x4x64, .f32⟩
  | .hbm, ⟨49, _⟩ => ⟨S16384x512, .f32⟩
  | .hbm, ⟨50, _⟩ => ⟨S2x4x16384x1, .f32⟩
  | .hbm, ⟨51, _⟩ => ⟨S2x4x16384x1, .f32⟩
  | .hbm, ⟨52, _⟩ => ⟨S2x4x16384, .f32⟩
  | .hbm, ⟨53, _⟩ => ⟨S2x4, .f32⟩
  | .hbm, ⟨54, _⟩ => ⟨S2x4x256, .f32⟩
  | .hbm, ⟨55, _⟩ => ⟨S2x1024, .f32⟩
  | .hbm, ⟨56, _⟩ => ⟨S2x1024x1, .f32⟩
  | .hbm, ⟨57, _⟩ => ⟨S2x1024x128, .f32⟩
  | .hbm, ⟨58, _⟩ => ⟨S16384x512, .bf16⟩
  | .hbm, ⟨59, _⟩ => ⟨S512x16384, .bf16⟩
  | .hbm, ⟨60, _⟩ => ⟨S16640x64, .f32⟩
  | .hbm, ⟨61, _⟩ => ⟨S16640x64, .f32⟩
  | .hbm, ⟨62, _⟩ => ⟨S16640x64, .f32⟩
  | .hbm, ⟨63, _⟩ => ⟨S16640x64, .f32⟩
  | .hbm, ⟨64, _⟩ => ⟨S16640x64, .f32⟩
  | .hbm, ⟨65, _⟩ => ⟨S16640x64, .f32⟩
  | .hbm, ⟨66, _⟩ => ⟨S16640x64, .f32⟩
  | .hbm, ⟨67, _⟩ => ⟨S16640x64, .f32⟩
  | .hbm, ⟨68, _⟩ => ⟨S16640x512, .f32⟩
  | .hbm, ⟨69, _⟩ => ⟨S16640x512, .bf16⟩
  | .hbm, ⟨70, _⟩ => ⟨S16640x64, .f32⟩
  | .hbm, ⟨71, _⟩ => ⟨S16640x64, .f32⟩
  | .hbm, ⟨72, _⟩ => ⟨S16640x64, .f32⟩
  | .hbm, ⟨73, _⟩ => ⟨S16640x64, .f32⟩
  | .hbm, ⟨74, _⟩ => ⟨S16640x64, .f32⟩
  | .hbm, ⟨75, _⟩ => ⟨S16640x64, .f32⟩
  | .hbm, ⟨76, _⟩ => ⟨S16640x64, .f32⟩
  | .hbm, ⟨77, _⟩ => ⟨S16640x64, .f32⟩
  | .hbm, ⟨78, _⟩ => ⟨S16640x512, .f32⟩
  | .hbm, ⟨79, _⟩ => ⟨S16640x512, .bf16⟩
  | .hbm, ⟨80, _⟩ => ⟨S16384x512, .bf16⟩
  | .hbm, ⟨81, _⟩ => ⟨S512x16384, .bf16⟩
  | .hbm, ⟨82, _⟩ => ⟨S2x4x64x1x256, .f32⟩
  | .hbm, ⟨83, _⟩ => ⟨S2x64x1x4x256, .f32⟩
  | .hbm, ⟨84, _⟩ => ⟨S2x64x1024x1, .f32⟩
  | .hbm, ⟨85, _⟩ => ⟨S16384x512, .f32⟩
  | .hbm, ⟨86, _⟩ => ⟨S2x64x16768, .f32⟩
  | .hbm, ⟨87, _⟩ => ⟨S2x64x16768, .f32⟩
  | .hbm, ⟨88, _⟩ => ⟨S2x1024x1, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S256x256, .bf16⟩
  | .local _ .vmem, ⟨11, _⟩ => ⟨S256x256, .bf16⟩
  | .local _ .vmem, ⟨12, _⟩ => ⟨S128x256, .bf16⟩
  | .local _ .vmem, ⟨13, _⟩ => ⟨S128x256, .bf16⟩
  | .local _ .vmem, ⟨14, _⟩ => ⟨S256x256, .bf16⟩
  | .local _ .vmem, ⟨15, _⟩ => ⟨S256x256, .bf16⟩
  | .local _ .vmem, ⟨16, _⟩ => ⟨S128x256, .bf16⟩
  | .local _ .vmem, ⟨17, _⟩ => ⟨S128x256, .bf16⟩
  | .local _ .vmem, ⟨18, _⟩ => ⟨S256x256, .bf16⟩
  | .local _ .vmem, ⟨19, _⟩ => ⟨S256x256, .bf16⟩
  | .local _ .vmem, ⟨20, _⟩ => ⟨S1x1024x128, .f32⟩
  | .local _ .vmem, ⟨21, _⟩ => ⟨S1x1024x128, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .bf16⟩
  | .local _ .vmem, ⟨27, _⟩ => ⟨S256x256, .bf16⟩
  | .local _ .vmem, ⟨28, _⟩ => ⟨S1x1x1024x1, .f32⟩
  | .local _ .vmem, ⟨29, _⟩ => ⟨S1x1x1024x1, .f32⟩
  | .local _ .vmem, ⟨30, _⟩ => ⟨S256x256, .f32⟩
  | .local _ .vmem, ⟨31, _⟩ => ⟨S256x256, .f32⟩
  | .local _ .vmem, ⟨32, _⟩ => ⟨S1x64x16768, .f32⟩
  | .local _ .vmem, ⟨33, _⟩ => ⟨S1x64x16768, .f32⟩
  | .local _ .vmem, ⟨34, _⟩ => ⟨S1x64x16768, .f32⟩
  | .local _ .vmem, ⟨35, _⟩ => ⟨S1x64x16768, .f32⟩
  | .local _ .vmem, ⟨36, _⟩ => ⟨S1x1024x1, .f32⟩
  | .local _ .vmem, ⟨37, _⟩ => ⟨S1x1024x1, .f32⟩
  | .local _ .vmem, ⟨38, _⟩ => ⟨S768x256, .bf16⟩
  | .local _ .vmem, ⟨39, _⟩ => ⟨S768x256, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71_0 : Ref sig .tc := ⟨.hbm, 85, rfl⟩
abbrev main_v71_1 : Ref sig .tc := ⟨.hbm, 86, rfl⟩
abbrev main_v71_2 : Ref sig .tc := ⟨.hbm, 87, rfl⟩
abbrev main_v71_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c256_i32_90 : BitVec 32 := 256#32
  let v193 : BitVec 32 := Scalar.muli arg1 c256_i32_90
  v193
def k0_off1 (i : grid0.Coords) : Fin 3 → Nat :=
  let c0_91 : Index := 0#32
  let c0_92 : Index := 0#32
  let arg1 : BitVec 32 := BitVec.ofNat 32 (i 1).val
  let c256_i32_90 : BitVec 32 := 256#32
  let v193 : BitVec 32 := Scalar.muli arg1 c256_i32_90
  let v194 : BitVec 32 := v193
  let v195 : Index := Scalar.indexCast v194
  ![0, 0, v195.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c127_i32 : BitVec 32 := 127#32
  let v2 : BitVec 32 := Scalar.minsi v1 c127_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  ![c64_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c127_i32 : BitVec 32 := 127#32
  let v2 : BitVec 32 := Scalar.minsi v1 c127_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  ![c64_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x16768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x64x16768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1024x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== WinRefIdeal.lean ====
abbrev S16384x512 : Shape := ⟨2, ![16384, 512]⟩
abbrev S16640x128 : Shape := ⟨2, ![16640, 128]⟩
abbrev S1x8 : Shape := ⟨2, ![1, 8]⟩
abbrev S2x4x1 : Shape := ⟨3, ![2, 4, 1]⟩
abbrev S2x4x16384 : Shape := ⟨3, ![2, 4, 16384]⟩
abbrev S_ : Shape := ⟨0, ![]⟩
abbrev S16384x2x4x64 : Shape := ⟨4, ![16384, 2, 4, 64]⟩
abbrev S16640x2x64 : Shape := ⟨3, ![16640, 2, 64]⟩
abbrev S16384x16640 : Shape := ⟨2, ![16384, 16640]⟩
abbrev S2x16640x16384x4 : Shape := ⟨4, ![2, 16640, 16384, 4]⟩
abbrev S2x4x16384x16640 : Shape := ⟨4, ![2, 4, 16384, 16640]⟩
abbrev S2x4x16384x1 : Shape := ⟨4, ![2, 4, 16384, 1]⟩
abbrev S2x64x4x16384 : Shape := ⟨4, ![2, 64, 4, 16384]⟩
abbrev S2x64x16640 : Shape := ⟨3, ![2, 64, 16640]⟩
abbrev S2x16384x4x64 : Shape := ⟨4, ![2, 16384, 4, 64]⟩
abbrev S2x16640x64 : Shape := ⟨3, ![2, 16640, 64]⟩
abbrev S2x4x64x256 : Shape := ⟨4, ![2, 4, 64, 256]⟩
abbrev S2x4x256 : Shape := ⟨3, ![2, 4, 256]⟩
abbrev S2x1024x1 : Shape := ⟨3, ![2, 1024, 1]⟩
abbrev S2x64x16768 : Shape := ⟨3, ![2, 64, 16768]⟩

abbrev nBuf : Space → Nat
  | .hbm => 139
  | .vmem => 0
  | .smem => 0
  | _ => 0

abbrev hbmTy0_0 (i : Nat) : BufTy := match i % 128 with
  | 0 => ⟨S16384x512, .f32⟩
  | 1 => ⟨S16640x128, .f32⟩
  | 2 => ⟨S16640x128, .f32⟩
  | 3 => ⟨S1x8, .f32⟩
  | 4 => ⟨S16384x512, .f32⟩
  | 5 => ⟨S2x4x1, .f32⟩
  | 6 => ⟨S2x4x16384, .f32⟩
  | 7 => ⟨S_, .f32⟩
  | 8 => ⟨S16384x512, .f32⟩
  | 9 => ⟨S16384x512, .f32⟩
  | 10 => ⟨S16384x2x4x64, .f32⟩
  | 11 => ⟨S16640x2x64, .f32⟩
  | 12 => ⟨S16640x2x64, .f32⟩
  | 13 => ⟨S16384x16640, .i32⟩
  | 14 => ⟨S16384x16640, .i32⟩
  | 15 => ⟨S_, .i32⟩
  | 16 => ⟨S16384x16640, .i32⟩
  | 17 => ⟨S16384x16640, .i1⟩
  | 18 => ⟨S16384x16640, .i32⟩
  | 19 => ⟨S16384x16640, .i32⟩
  | 20 => ⟨S_, .i32⟩
  | 21 => ⟨S16384x16640, .i32⟩
  | 22 => ⟨S16384x16640, .i1⟩
  | 23 => ⟨S16384x16640, .i1⟩
  | 24 => ⟨S2x16640x16384x4, .f32⟩
  | 25 => ⟨S2x4x16384x16640, .f32⟩
  | 26 => ⟨S_, .f32⟩
  | 27 => ⟨S_, .f32⟩
  | 28 => ⟨S2x4x16384x16640, .i1⟩
  | 29 => ⟨S2x4x16384x16640, .f32⟩
  | 30 => ⟨S2x4x16384x16640, .f32⟩
  | 31 => ⟨S_, .f32⟩
  | 32 => ⟨S2x4x16384x16640, .f32⟩
  | 33 => ⟨S2x4x16384x1, .f32⟩
  | 34 => ⟨S_, .f32⟩
  | 35 => ⟨S2x4x16384, .f32⟩
  | 36 => ⟨S2x4x16384x1, .f32⟩
  | 37 => ⟨S2x4x16384x16640, .f32⟩
  | 38 => ⟨S2x4x16384x16640, .i1⟩
  | 39 => ⟨S2x4x16384x16640, .f32⟩
  | 40 => ⟨S_, .f32⟩
  | 41 => ⟨S2x4x16384, .f32⟩
  | 42 => ⟨S2x4x16384x1, .f32⟩
  | 43 => ⟨S2x4x16384x1, .f32⟩
  | 44 => ⟨S2x4x16384x1, .i1⟩
  | 45 => ⟨S2x4x16384x1, .i1⟩
  | 46 => ⟨S_, .f32⟩
  | 47 => ⟨S2x4x16384x1, .f32⟩
  | 48 => ⟨S_, .f32⟩
  | 49 => ⟨S2x4x16384x1, .f32⟩
  | 50 => ⟨S_, .f32⟩
  | 51 => ⟨S2x4x16384x1, .f32⟩
  | 52 => ⟨S2x4x16384x1, .f32⟩
  | 53 => ⟨S2x4x16384x1, .f32⟩
  | 54 => ⟨S2x4x16384x1, .i1⟩
  | 55 => ⟨S2x4x16384x1, .i1⟩
  | 56 => ⟨S_, .f32⟩
  | 57 => ⟨S2x4x16384x1, .f32⟩
  | 58 => ⟨S_, .f32⟩
  | 59 => ⟨S2x4x16384x1, .f32⟩
  | 60 => ⟨S_, .f32⟩
  | 61 => ⟨S2x4x16384x1, .f32⟩
  | 62 => ⟨S2x4x16384x1, .f32⟩
  | 63 => ⟨S2x4x16384x1, .f32⟩
  | 64 => ⟨S2x4x16384x16640, .f32⟩
  | 65 => ⟨S2x4x16384x16640, .f32⟩
  | 66 => ⟨S2x4x16384x16640, .f32⟩
  | 67 => ⟨S_, .f32⟩
  | 68 => ⟨S2x4x16384, .f32⟩
  | 69 => ⟨S2x4x16384x1, .f32⟩
  | 70 => ⟨S2x4x16384x1, .f32⟩
  | 71 => ⟨S2x4x16384x1, .f32⟩
  | 72 => ⟨S2x4x16384x1, .f32⟩
  | 73 => ⟨S2x4x16384x16640, .f32⟩
  | 74 => ⟨S2x4x16384x16640, .f32⟩
  | 75 => ⟨S2x4x16384x1, .f32⟩
  | 76 => ⟨S_, .f32⟩
  | 77 => ⟨S2x4x16384x1, .f32⟩
  | 78 => ⟨S2x4x16384x1, .f32⟩
  | 79 => ⟨S2x64x4x16384, .f32⟩
  | 80 => ⟨S16384x2x4x64, .f32⟩
  | 81 => ⟨S16384x2x4x64, .f32⟩
  | 82 => ⟨S2x64x4x16384, .f32⟩
  | 83 => ⟨S2x4x16384x16640, .f32⟩
  | 84 => ⟨S2x64x16640, .f32⟩
  | 85 => ⟨S16640x2x64, .f32⟩
  | 86 => ⟨S2x4x16384x16640, .f32⟩
  | 87 => ⟨S2x4x16384x16640, .f32⟩
  | 88 => ⟨S2x4x16384x16640, .f32⟩
  | 89 => ⟨S_, .f32⟩
  | 90 => ⟨S2x4x16384, .f32⟩
  | 91 => ⟨S2x4x16384x1, .f32⟩
  | 92 => ⟨S2x4x16384x1, .f32⟩
  | 93 => ⟨S2x4x16384x16640, .f32⟩
  | 94 => ⟨S2x4x16384x16640, .f32⟩
  | 95 => ⟨S2x4x16384x1, .f32⟩
  | 96 => ⟨S2x4x16384x1, .f32⟩
  | 97 => ⟨S_, .f32⟩
  | 98 => ⟨S2x4x16384, .f32⟩
  | 99 => ⟨S2x4x16384x16640, .f32⟩
  | 100 => ⟨S2x4x16384x16640, .f32⟩
  | 101 => ⟨S2x4x16384x16640, .f32⟩
  | 102 => ⟨S2x4x16384x16640, .f32⟩
  | 103 => ⟨S_, .f32⟩
  | 104 => ⟨S2x4x16384, .f32⟩
  | 105 => ⟨S2x4x16384x1, .f32⟩
  | 106 => ⟨S2x4x16384x1, .f32⟩
  | 107 => ⟨S2x4x16384x1, .f32⟩
  | 108 => ⟨S2x4x16384x1, .f32⟩
  | 109 => ⟨S2x4x16384x1, .f32⟩
  | 110 => ⟨S_, .f32⟩
  | 111 => ⟨S2x4x16384, .f32⟩
  | 112 => ⟨S2x4x16384, .f32⟩
  | 113 => ⟨S2x4x16384x16640, .f32⟩
  | 114 => ⟨S2x4x16384x16640, .f32⟩
  | 115 => ⟨S2x4x16384x16640, .f32⟩
  | 116 => ⟨S_, .f32⟩
  | 117 => ⟨S2x4x16384, .f32⟩
  | 118 => ⟨S_, .f32⟩
  | 119 => ⟨S2x4x16384x16640, .f32⟩
  | 120 => ⟨S2x4x16384x16640, .f32⟩
  | 121 => ⟨S2x16640x16384x4, .f32⟩
  | 122 => ⟨S2x16384x4x64, .f32⟩
  | 123 => ⟨S16384x2x4x64, .f32⟩
  | 124 => ⟨S2x16640x64, .f32⟩
  | 125 => ⟨S16640x2x64, .f32⟩
  | 126 => ⟨S2x4x64x256, .f32⟩
  | 127 => ⟨S_, .f32⟩
  | _ => ⟨S16384x512, .f32⟩

abbrev hbmTy0_1 (i : Nat) : BufTy := match i % 128 with
  | 0 => ⟨S2x4x256, .f32⟩
  | 1 => ⟨S2x1024x1, .f32⟩
  | 2 => ⟨S16384x512, .f32⟩
  | 3 => ⟨S2x64x16640, .f32⟩
  | 4 => ⟨S_, .i32⟩
  | 5 => ⟨S_, .f32⟩
  | 6 => ⟨S2x64x16768, .f32⟩
  | 7 => ⟨S2x64x16640, .f32⟩
  | 8 => ⟨S_, .i32⟩
  | 9 => ⟨S_, .f32⟩
  | 10 => ⟨S2x64x16768, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_call1_cst : Ref sig .tc := ⟨.hbm, 118, rfl⟩
abbrev main_call1_v0 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_18 : Ref sig .tc := ⟨.hbm, 132, rfl⟩
abbrev main_call2_v0 : Ref sig .tc := ⟨.hbm, 133, rfl⟩
abbrev main_v100 : Ref sig .tc := ⟨.hbm, 134, rfl⟩
abbrev main_v101 : Ref sig .tc := ⟨.hbm, 135, rfl⟩
abbrev main_c_19 : Ref sig .tc := ⟨.hbm, 136, rfl⟩
abbrev main_call3_v0 : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== Qk.lean ====
abbrev S16640x3584 : Shape := ⟨2, ![16640, 3584]⟩
abbrev S1x64 : Shape := ⟨2, ![1, 64]⟩
abbrev S16384x512 : Shape := ⟨2, ![16384, 512]⟩
abbrev S16640x128 : Shape := ⟨2, ![16640, 128]⟩
abbrev S16384x2048 : Shape := ⟨2, ![16384, 2048]⟩
abbrev S128x512 : Shape := ⟨2, ![128, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S16 : Shape := ⟨1, ![16]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S64 : Shape := ⟨1, ![64]⟩
abbrev S64x1 : Shape := ⟨2, ![64, 1]⟩
abbrev S64x16 : Shape := ⟨2, ![64, 16]⟩
abbrev S256x64x16 : Shape := ⟨3, ![256, 64, 16]⟩
abbrev S16384x16 : Shape := ⟨2, ![16384, 16]⟩
abbrev S1x64x1x16 : Shape := ⟨4, ![1, 64, 1, 16]⟩
abbrev S256x64x1x16 : Shape := ⟨4, ![256, 64, 1, 16]⟩
abbrev S16384x64 : Shape := ⟨2, ![16384, 64]⟩
abbrev S256x64 : Shape := ⟨2, ![256, 64]⟩
abbrev S16640x64 : Shape := ⟨2, ![16640, 64]⟩
abbrev S16640x512 : Shape := ⟨2, ![16640, 512]⟩
abbrev S128x16640 : Shape := ⟨2, ![128, 16640]⟩
abbrev S16384x256 : Shape := ⟨2, ![16384, 256]⟩
abbrev S16640x8x64 : Shape := ⟨3, ![16640, 8, 64]⟩
abbrev S16640x8 : Shape := ⟨2, ![16640, 8]⟩
abbrev S16640x8x1 : Shape := ⟨3, ![16640, 8, 1]⟩
abbrev S16640x5120 : Shape := ⟨2, ![16640, 5120]⟩
abbrev S1x5120 : Shape := ⟨2, ![1, 5120]⟩
abbrev S256x512 : Shape := ⟨2, ![256, 512]⟩
abbrev S256x2048 : Shape := ⟨2, ![256, 2048]⟩
abbrev S256x128 : Shape := ⟨2, ![256, 128]⟩
abbrev S128x256 : Shape := ⟨2, ![128, 256]⟩
abbrev S256x256 : Shape := ⟨2, ![256, 256]⟩
abbrev S256x5120 : Shape := ⟨2, ![256, 5120]⟩
abbrev S5120 : Shape := ⟨1, ![5120]⟩
abbrev S512 : Shape := ⟨1, ![512]⟩

abbrev nBuf : Space → Nat
  | .hbm => 129
  | .vmem => 37
  | .smem => 0
  | _ => 0

abbrev hbmTy0_0 (i : Nat) : BufTy := match i % 128 with
  | 0 => ⟨S16640x3584, .f32⟩
  | 1 => ⟨S1x64, .f32⟩
  | 2 => ⟨S1x64, .f32⟩
  | 3 => ⟨S16384x512, .f32⟩
  | 4 => ⟨S16640x128, .f32⟩
  | 5 => ⟨S16640x128, .f32⟩
  | 6 => ⟨S16384x512, .f32⟩
  | 7 => ⟨S16640x128, .f32⟩
  | 8 => ⟨S16640x128, .f32⟩
  | 9 => ⟨S16384x2048, .f32⟩
  | 10 => ⟨S128x512, .bf16⟩
  | 11 => ⟨S1x1x1x64, .f32⟩
  | 12 => ⟨S1x1x8x64, .f32⟩
  | 13 => ⟨S1x512, .f32⟩
  | 14 => ⟨S1x1x1x64, .f32⟩
  | 15 => ⟨S1x1x8x64, .f32⟩
  | 16 => ⟨S1x512, .f32⟩
  | 17 => ⟨S8x8, .i32⟩
  | 18 => ⟨S8x8, .i32⟩
  | 19 => ⟨S_, .i32⟩
  | 20 => ⟨S8x8, .i32⟩
  | 21 => ⟨S8x8, .i32⟩
  | 22 => ⟨S8x8, .i1⟩
  | 23 => ⟨S8x8, .f32⟩
  | 24 => ⟨S_, .f32⟩
  | 25 => ⟨S64x64, .f32⟩
  | 26 => ⟨S8x1x8x1, .f32⟩
  | 27 => ⟨S1x64x1x64, .f32⟩
  | 28 => ⟨S8x64x8x64, .f32⟩
  | 29 => ⟨S8x64x8x64, .f32⟩
  | 30 => ⟨S8x64x8x64, .f32⟩
  | 31 => ⟨S512x512, .f32⟩
  | 32 => ⟨S512x512, .bf16⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S256, .i32⟩
  | 42 => ⟨S256, .f32⟩
  | 43 => ⟨S256x1, .f32⟩
  | 44 => ⟨S1x16, .f32⟩
  | 45 => ⟨S256x16, .f32⟩
  | 46 => ⟨S256x16, .f32⟩
  | 47 => ⟨S256x16, .f32⟩
  | 48 => ⟨S64, .i32⟩
  | 49 => ⟨S64, .f32⟩
  | 50 => ⟨S64x1, .f32⟩
  | 51 => ⟨S1x16, .f32⟩
  | 52 => ⟨S64x16, .f32⟩
  | 53 => ⟨S64x16, .f32⟩
  | 54 => ⟨S64x16, .f32⟩
  | 55 => ⟨S256x16, .f32⟩
  | 56 => ⟨S256x64x16, .f32⟩
  | 57 => ⟨S16384x16, .f32⟩
  | 58 => ⟨S64x16, .f32⟩
  | 59 => ⟨S1x64x1x16, .f32⟩
  | 60 => ⟨S256x64x1x16, .f32⟩
  | 61 => ⟨S16384x16, .f32⟩
  | 62 => ⟨S16384x64, .f32⟩
  | 63 => ⟨S256x16, .f32⟩
  | 64 => ⟨S256x64x16, .f32⟩
  | 65 => ⟨S16384x16, .f32⟩
  | 66 => ⟨S64x16, .f32⟩
  | 67 => ⟨S1x64x1x16, .f32⟩
  | 68 => ⟨S256x64x1x16, .f32⟩
  | 69 => ⟨S16384x16, .f32⟩
  | 70 => ⟨S16384x16, .f32⟩
  | 71 => ⟨S16384x16, .f32⟩
  | 72 => ⟨S16384x64, .f32⟩
  | 73 => ⟨S_, .f32⟩
  | 74 => ⟨S256x64, .f32⟩
  | 75 => ⟨S16640x64, .f32⟩
  | 76 => ⟨S_, .f32⟩
  | 77 => ⟨S256x64, .f32⟩
  | 78 => ⟨S16640x64, .f32⟩
  | 79 => ⟨S16640x128, .f32⟩
  | 80 => ⟨S16640x128, .f32⟩
  | 81 => ⟨S16640x512, .f32⟩
  | 82 => ⟨S16640x64, .f32⟩
  | 83 => ⟨S16640x64, .f32⟩
  | 84 => ⟨S16640x64, .f32⟩
  | 85 => ⟨S16640x64, .f32⟩
  | 86 => ⟨S16640x64, .f32⟩
  | 87 => ⟨S16640x64, .f32⟩
  | 88 => ⟨S16640x64, .f32⟩
  | 89 => ⟨S16640x64, .f32⟩
  | 90 => ⟨S16640x512, .f32⟩
  | 91 => ⟨S128x16640, .f32⟩
  | 92 => ⟨S128x16640, .f32⟩
  | 93 => ⟨S16384x256, .f32⟩
  | 94 => ⟨S16384x256, .f32⟩
  | 95 => ⟨S128x16640, .f32⟩
  | 96 => ⟨S128x16640, .f32⟩
  | 97 => ⟨S16640x8x64, .f32⟩
  | 98 => ⟨S16640x8x64, .f32⟩
  | 99 => ⟨S_, .f32⟩
  | 100 => ⟨S16640x8, .f32⟩
  | 101 => ⟨S16640x8x1, .f32⟩
  | 102 => ⟨S_, .f32⟩
  | 103 => ⟨S16640x8x1, .f32⟩
  | 104 => ⟨S16640x8x1, .f32⟩
  | 105 => ⟨S_, .f32⟩
  | 106 => ⟨S16640x8x1, .f32⟩
  | 107 => ⟨S16640x8x1, .f32⟩
  | 108 => ⟨S16640x8x1, .f32⟩
  | 109 => ⟨S16640x8x64, .f32⟩
  | 110 => ⟨S16640x512, .f32⟩
  | 111 => ⟨S16640x8x64, .f32⟩
  | 112 => ⟨S16640x8x64, .f32⟩
  | 113 => ⟨S_, .f32⟩
  | 114 => ⟨S16640x8, .f32⟩
  | 115 => ⟨S16640x8x1, .f32⟩
  | 116 => ⟨S_, .f32⟩
  | 117 => ⟨S16640x8x1, .f32⟩
  | 118 => ⟨S16640x8x1, .f32⟩
  | 119 => ⟨S_, .f32⟩
  | 120 => ⟨S16640x8x1, .f32⟩
  | 121 => ⟨S16640x8x1, .f32⟩
  | 122 => ⟨S16640x8x1, .f32⟩
  | 123 => ⟨S16640x8x64, .f32⟩
  | 124 => ⟨S16640x512, .f32⟩
  | 125 => ⟨S16640x5120, .bf16⟩
  | 126 => ⟨S1x5120, .f32⟩
  | 127 => ⟨S1x512, .f32⟩
  | _ => ⟨S16640x3584, .f32⟩

abbrev hbmTy0_1 (i : Nat) : BufTy := match i % 128 with
  | 0 => ⟨S1x512, .f32⟩
  | _ => ⟨S16640x3584, .f32⟩

abbrev hbmTy (i : Nat) : BufTy := match i / 128 with
  | 0 => hbmTy0_0 i
  | 1 => hbmTy0_1 i
  | _ => ⟨S16640x3584, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x2048, .f32⟩
  | .local _ .vmem, ⟨3, _⟩ => ⟨S256x2048, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S1x512, .f32⟩
  | .local _ .vmem, ⟨29, _⟩ => ⟨S1x512, .f32⟩
  | .local _ .vmem, ⟨30, _⟩ => ⟨S512x512, .bf16⟩
  | .local _ .vmem, ⟨31, _⟩ => ⟨S128x512, .bf16⟩
  | .local _ .vmem, ⟨32, _⟩ => ⟨S256x5120, .bf16⟩
  | .local _ .vmem, ⟨33, _⟩ => ⟨S256x5120, .bf16⟩
  | .local _ .vmem, ⟨34, _⟩ => ⟨S1x5120, .f32⟩
  | .local _ .vmem, ⟨35, _⟩ => ⟨S1x512, .f32⟩
  | .local _ .vmem, ⟨36, _⟩ => ⟨S1x512, .f32⟩
  | _, _ => ⟨S16640x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_3 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_5 : Ref sig .tc := ⟨.hbm, 99, rfl⟩
abbrev main_v77 : Ref sig .tc := ⟨.hbm, 100, rfl⟩
abbrev main_v78 : Ref sig .tc := ⟨.hbm, 101, rfl⟩
abbrev main_cst_6 : Ref sig .tc := ⟨.hbm, 102, rfl⟩
abbrev main_v79 : Ref sig .tc := ⟨.hbm, 103, rfl⟩
abbrev main_v80 : Ref sig .tc := ⟨.hbm, 104, rfl⟩
abbrev main_cst_7 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_8 : Ref sig .tc := ⟨.hbm, 113, rfl⟩
abbrev main_v88 : Ref sig .tc := ⟨.hbm, 114, rfl⟩
abbrev main_v89 : Ref sig .tc := ⟨.hbm, 115, rfl⟩
abbrev main_cst_9 : Ref sig .tc := ⟨.hbm, 116, rfl⟩
abbrev main_v90 : Ref sig .tc := ⟨.hbm, 117, rfl⟩
abbrev main_v91 : Ref sig .tc := ⟨.hbm, 118, rfl⟩
abbrev main_cst_10 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97_0 : Ref sig .tc := ⟨.hbm, 125, rfl⟩
abbrev main_v97_1 : Ref sig .tc := ⟨.hbm, 126, rfl⟩
abbrev main_v97_2 : Ref sig .tc := ⟨.hbm, 127, rfl⟩
abbrev main_v97_3 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem18_1 : DmaSem sig := 33
abbrev cc0_sem19_0 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x5120 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x5120 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== QkRefIdeal.lean ====
abbrev S16640x3584 : Shape := ⟨2, ![16640, 3584]⟩
abbrev S1x64 : Shape := ⟨2, ![1, 64]⟩
abbrev S16384x512 : Shape := ⟨2, ![16384, 512]⟩
abbrev S16640x128 : Shape := ⟨2, ![16640, 128]⟩
abbrev S16384x2048 : Shape := ⟨2, ![16384, 2048]⟩
abbrev S16384 : Shape := ⟨1, ![16384]⟩
abbrev S16 : Shape := ⟨1, ![16]⟩
abbrev S_ : Shape := ⟨0, ![]⟩
abbrev S16384x1x1 : Shape := ⟨3, ![16384, 1, 1]⟩
abbrev S1x1x16 : Shape := ⟨3, ![1, 1, 16]⟩
abbrev S16384x1x16 : Shape := ⟨3, ![16384, 1, 16]⟩
abbrev S8x64 : Shape := ⟨2, ![8, 64]⟩
abbrev S2x64 : Shape := ⟨2, ![2, 64]⟩
abbrev S1x3584 : Shape := ⟨2, ![1, 3584]⟩
abbrev S16640x512 : Shape := ⟨2, ![16640, 512]⟩
abbrev S16640x8x64 : Shape := ⟨3, ![16640, 8, 64]⟩
abbrev S16384x8x64 : Shape := ⟨3, ![16384, 8, 64]⟩
abbrev S16384x8x32 : Shape := ⟨3, ![16384, 8, 32]⟩
abbrev S16384x8x16 : Shape := ⟨3, ![16384, 8, 16]⟩
abbrev S256x8x64 : Shape := ⟨3, ![256, 8, 64]⟩
abbrev S16640x2x64 : Shape := ⟨3, ![16640, 2, 64]⟩
abbrev S16384x2x64 : Shape := ⟨3, ![16384, 2, 64]⟩
abbrev S16384x2x32 : Shape := ⟨3, ![16384, 2, 32]⟩
abbrev S16384x2x16 : Shape := ⟨3, ![16384, 2, 16]⟩
abbrev S256x2x64 : Shape := ⟨3, ![256, 2, 64]⟩
abbrev S16640x8 : Shape := ⟨2, ![16640, 8]⟩
abbrev S16640x8x1 : Shape := ⟨3, ![16640, 8, 1]⟩
abbrev S1x8x64 : Shape := ⟨3, ![1, 8, 64]⟩
abbrev S16640x2 : Shape := ⟨2, ![16640, 2]⟩
abbrev S16640x2x1 : Shape := ⟨3, ![16640, 2, 1]⟩
abbrev S1x2x64 : Shape := ⟨3, ![1, 2, 64]⟩
abbrev S3584 : Shape := ⟨1, ![3584]⟩
abbrev S16640x2x1x64 : Shape := ⟨4, ![16640, 2, 1, 64]⟩
abbrev S16640x2x4x64 : Shape := ⟨4, ![16640, 2, 4, 64]⟩
abbrev S16640x2048 : Shape := ⟨2, ![16640, 2048]⟩
abbrev S16640x5120 : Shape := ⟨2, ![16640, 5120]⟩
abbrev S1x512 : Shape := ⟨2, ![1, 512]⟩
abbrev S1x128 : Shape := ⟨2, ![1, 128]⟩
abbrev S1x2x1x64 : Shape := ⟨4, ![1, 2, 1, 64]⟩
abbrev S1x2x4x64 : Shape := ⟨4, ![1, 2, 4, 64]⟩
abbrev S1x2048 : Shape := ⟨2, ![1, 2048]⟩
abbrev S1x5120 : Shape := ⟨2, ![1, 5120]⟩

abbrev nBuf : Space → Nat
  | .hbm => 579
  | .vmem => 0
  | .smem => 0
  | _ => 0

abbrev hbmTy0_0 (i : Nat) : BufTy := match i % 128 with
  | 0 => ⟨S16640x3584, .f32⟩
  | 1 => ⟨S1x64, .f32⟩
  | 2 => ⟨S1x64, .f32⟩
  | 3 => ⟨S16384x512, .f32⟩
  | 4 => ⟨S16640x128, .f32⟩
  | 5 => ⟨S16640x128, .f32⟩
  | 6 => ⟨S16384x512, .f32⟩
  | 7 => ⟨S16640x128, .f32⟩
  | 8 => ⟨S16640x128, .f32⟩
  | 9 => ⟨S16384x2048, .f32⟩
  | 10 => ⟨S16384, .i32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .i32⟩
  | 20 => ⟨S_, .i32⟩
  | 21 => ⟨S16384, .i32⟩
  | 22 => ⟨S16384, .i32⟩
  | 23 => ⟨S16384, .i32⟩
  | 24 => ⟨S_, .i32⟩
  | 25 => ⟨S16384, .i32⟩
  | 26 => ⟨S16384, .i1⟩
  | 27 => ⟨S16384, .i32⟩
  | 28 => ⟨S16384, .i32⟩
  | 29 => ⟨S_, .i32⟩
  | 30 => ⟨S16384, .i32⟩
  | 31 => ⟨S16384, .i1⟩
  | 32 => ⟨S16384, .i1⟩
  | 33 => ⟨S_, .i32⟩
  | 34 => ⟨S16384, .i32⟩
  | 35 => ⟨S16384, .i32⟩
  | 36 => ⟨S16384, .i32⟩
  | 37 => ⟨S16384, .f32⟩
  | 38 => ⟨S16384x1x1, .f32⟩
  | 39 => ⟨S1x1x16, .f32⟩
  | 40 => ⟨S16384x1x16, .f32⟩
  | 41 => ⟨S16384x1x16, .f32⟩
  | 42 => ⟨S16384x1x16, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S16384, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i1⟩
  | 57 => ⟨S_, .i32⟩
  | 58 => ⟨S_, .i1⟩
  | 59 => ⟨S16384, .i1⟩
  | 60 => ⟨S16384, .i1⟩
  | 61 => ⟨S16384, .i1⟩
  | 62 => ⟨S16384, .i32⟩
  | 63 => ⟨S16384, .i32⟩
  | 64 => ⟨S16384, .i32⟩
  | 65 => ⟨S16384, .f32⟩
  | 66 => ⟨S16384x1x1, .f32⟩
  | 67 => ⟨S1x1x16, .f32⟩
  | 68 => ⟨S16384x1x16, .f32⟩
  | 69 => ⟨S16384x1x16, .f32⟩
  | 70 => ⟨S16384x1x16, .f32⟩
  | 71 => ⟨S16384x1x16, .f32⟩
  | 72 => ⟨S16384x1x16, .f32⟩
  | 73 => ⟨S16384x1x16, .f32⟩
  | 74 => ⟨S16384x1x16, .f32⟩
  | 75 => ⟨S8x64, .f32⟩
  | 76 => ⟨S2x64, .f32⟩
  | 77 => ⟨S_, .f32⟩
  | 78 => ⟨S1x3584, .f32⟩
  | 79 => ⟨S16640x3584, .f32⟩
  | 80 => ⟨S16640x3584, .f32⟩
  | 81 => ⟨S16640x512, .f32⟩
  | 82 => ⟨S16640x8x64, .f32⟩
  | 83 => ⟨S16384x8x64, .f32⟩
  | 84 => ⟨S16384x8x32, .f32⟩
  | 85 => ⟨S16384x8x32, .f32⟩
  | 86 => ⟨S16384x8x16, .f32⟩
  | 87 => ⟨S16384x8x16, .f32⟩
  | 88 => ⟨S16384x8x16, .f32⟩
  | 89 => ⟨S16384x8x16, .f32⟩
  | 90 => ⟨S16384x8x16, .f32⟩
  | 91 => ⟨S16384x8x16, .f32⟩
  | 92 => ⟨S16384x8x16, .f32⟩
  | 93 => ⟨S16384x8x16, .f32⟩
  | 94 => ⟨S16384x8x16, .f32⟩
  | 95 => ⟨S16384x8x16, .f32⟩
  | 96 => ⟨S16384x8x16, .f32⟩
  | 97 => ⟨S16384x8x16, .f32⟩
  | 98 => ⟨S16384x8x32, .f32⟩
  | 99 => ⟨S16384x8x16, .f32⟩
  | 100 => ⟨S16384x8x16, .f32⟩
  | 101 => ⟨S16384x8x16, .f32⟩
  | 102 => ⟨S16384x8x16, .f32⟩
  | 103 => ⟨S16384x8x16, .f32⟩
  | 104 => ⟨S16384x8x16, .f32⟩
  | 105 => ⟨S16384x8x16, .f32⟩
  | 106 => ⟨S16384x8x16, .f32⟩
  | 107 => ⟨S16384x8x16, .f32⟩
  | 108 => ⟨S16384x8x16, .f32⟩
  | 109 => ⟨S16384x8x16, .f32⟩
  | 110 => ⟨S16384x8x16, .f32⟩
  | 111 => ⟨S16384x8x32, .f32⟩
  | 112 => ⟨S16384x8x64, .f32⟩
  | 113 => ⟨S256x8x64, .f32⟩
  | 114 => ⟨S16640x8x64, .f32⟩
  | 115 => ⟨S16384x8x64, .f32⟩
  | 116 => ⟨S_, .f32⟩
  | 117 => ⟨S16384x8x64, .f32⟩
  | 118 => ⟨S16384x8x64, .f32⟩
  | 119 => ⟨S16640x128, .f32⟩
  | 120 => ⟨S16640x2x64, .f32⟩
  | 121 => ⟨S16384x2x64, .f32⟩
  | 122 => ⟨S16384x2x32, .f32⟩
  | 123 => ⟨S16384x2x32, .f32⟩
  | 124 => ⟨S16384x2x16, .f32⟩
  | 125 => ⟨S16384x2x16, .f32⟩
  | 126 => ⟨S16384x2x16, .f32⟩
  | 127 => ⟨S16384x2x16, .f32⟩
  | _ => ⟨S16640x3584, .f32⟩

abbrev hbmTy0_1 (i : Nat) : BufTy := match i % 128 with
  | 0 => ⟨S16384x2x16, .f32⟩
  | 1 => ⟨S16384x2x16, .f32⟩
  | 2 => ⟨S16384x2x16, .f32⟩
  | 3 => ⟨S16384x2x16, .f32⟩
  | 4 => ⟨S16384x2x16, .f32⟩
  | 5 => ⟨S16384x2x16, .f32⟩
  | 6 => ⟨S16384x2x16, .f32⟩
  | 7 => ⟨S16384x2x16, .f32⟩
  | 8 => ⟨S16384x2x32, .f32⟩
  | 9 => ⟨S16384x2x16, .f32⟩
  | 10 => ⟨S16384x2x16, .f32⟩
  | 11 => ⟨S16384x2x16, .f32⟩
  | 12 => ⟨S16384x2x16, .f32⟩
  | 13 => ⟨S16384x2x16, .f32⟩
  | 14 => ⟨S16384x2x16, .f32⟩
  | 15 => ⟨S16384x2x16, .f32⟩
  | 16 => ⟨S16384x2x16, .f32⟩
  | 17 => ⟨S16384x2x16, .f32⟩
  | 18 => ⟨S16384x2x16, .f32⟩
  | 19 => ⟨S16384x2x16, .f32⟩
  | 20 => ⟨S16384x2x16, .f32⟩
  | 21 => ⟨S16384x2x32, .f32⟩
  | 22 => ⟨S16384x2x64, .f32⟩
  | 23 => ⟨S256x2x64, .f32⟩
  | 24 => ⟨S16640x2x64, .f32⟩
  | 25 => ⟨S16640x512, .f32⟩
  | 26 => ⟨S16640x8x64, .f32⟩
  | 27 => ⟨S16640x8x64, .f32⟩
  | 28 => ⟨S_, .f32⟩
  | 29 => ⟨S16640x8, .f32⟩
  | 30 => ⟨S16640x8x1, .f32⟩
  | 31 => ⟨S_, .f32⟩
  | 32 => ⟨S16640x8x1, .f32⟩
  | 33 => ⟨S16640x8x1, .f32⟩
  | 34 => ⟨S_, .f32⟩
  | 35 => ⟨S16640x8x1, .f32⟩
  | 36 => ⟨S16640x8x1, .f32⟩
  | 37 => ⟨S16640x8x1, .f32⟩
  | 38 => ⟨S16640x8x1, .f32⟩
  | 39 => ⟨S_, .f32⟩
  | 40 => ⟨S16640x8x1, .f32⟩
  | 41 => ⟨S16640x8x1, .f32⟩
  | 42 => ⟨S16640x8x64, .f32⟩
  | 43 => ⟨S16640x8x64, .f32⟩
  | 44 => ⟨S1x8x64, .f32⟩
  | 45 => ⟨S16640x8x64, .f32⟩
  | 46 => ⟨S16640x8x64, .f32⟩
  | 47 => ⟨S16384x8x64, .f32⟩
  | 48 => ⟨S16384x8x32, .f32⟩
  | 49 => ⟨S16384x8x32, .f32⟩
  | 50 => ⟨S16384x8x16, .f32⟩
  | 51 => ⟨S16384x8x16, .f32⟩
  | 52 => ⟨S16384x8x16, .f32⟩
  | 53 => ⟨S16384x8x16, .f32⟩
  | 54 => ⟨S16384x8x16, .f32⟩
  | 55 => ⟨S16384x8x16, .f32⟩
  | 56 => ⟨S16384x8x16, .f32⟩
  | 57 => ⟨S16384x8x16, .f32⟩
  | 58 => ⟨S16384x8x16, .f32⟩
  | 59 => ⟨S16384x8x16, .f32⟩
  | 60 => ⟨S16384x8x16, .f32⟩
  | 61 => ⟨S16384x8x16, .f32⟩
  | 62 => ⟨S16384x8x32, .f32⟩
  | 63 => ⟨S16384x8x16, .f32⟩
  | 64 => ⟨S16384x8x16, .f32⟩
  | 65 => ⟨S16384x8x16, .f32⟩
  | 66 => ⟨S16384x8x16, .f32⟩
  | 67 => ⟨S16384x8x16, .f32⟩
  | 68 => ⟨S16384x8x16, .f32⟩
  | 69 => ⟨S16384x8x16, .f32⟩
  | 70 => ⟨S16384x8x16, .f32⟩
  | 71 => ⟨S16384x8x16, .f32⟩
  | 72 => ⟨S16384x8x16, .f32⟩
  | 73 => ⟨S16384x8x16, .f32⟩
  | 74 => ⟨S16384x8x16, .f32⟩
  | 75 => ⟨S16384x8x32, .f32⟩
  | 76 => ⟨S16384x8x64, .f32⟩
  | 77 => ⟨S256x8x64, .f32⟩
  | 78 => ⟨S16640x8x64, .f32⟩
  | 79 => ⟨S16384x8x64, .f32⟩
  | 80 => ⟨S_, .f32⟩
  | 81 => ⟨S16384x8x64, .f32⟩
  | 82 => ⟨S16384x8x64, .f32⟩
  | 83 => ⟨S16640x128, .f32⟩
  | 84 => ⟨S16640x2x64, .f32⟩
  | 85 => ⟨S16640x2x64, .f32⟩
  | 86 => ⟨S_, .f32⟩
  | 87 => ⟨S16640x2, .f32⟩
  | 88 => ⟨S16640x2x1, .f32⟩
  | 89 => ⟨S_, .f32⟩
  | 90 => ⟨S16640x2x1, .f32⟩
  | 91 => ⟨S16640x2x1, .f32⟩
  | 92 => ⟨S_, .f32⟩
  | 93 => ⟨S16640x2x1, .f32⟩
  | 94 => ⟨S16640x2x1, .f32⟩
  | 95 => ⟨S16640x2x1, .f32⟩
  | 96 => ⟨S16640x2x1, .f32⟩
  | 97 => ⟨S_, .f32⟩
  | 98 => ⟨S16640x2x1, .f32⟩
  | 99 => ⟨S16640x2x1, .f32⟩
  | 100 => ⟨S16640x2x64, .f32⟩
  | 101 => ⟨S16640x2x64, .f32⟩
  | 102 => ⟨S1x2x64, .f32⟩
  | 103 => ⟨S16640x2x64, .f32⟩
  | 104 => ⟨S16640x2x64, .f32⟩
  | 105 => ⟨S16384x2x64, .f32⟩
  | 106 => ⟨S16384x2x32, .f32⟩
  | 107 => ⟨S16384x2x32, .f32⟩
  | 108 => ⟨S16384x2x16, .f32⟩
  | 109 => ⟨S16384x2x16, .f32⟩
  | 110 => ⟨S16384x2x16, .f32⟩
  | 111 => ⟨S16384x2x16, .f32⟩
  | 112 => ⟨S16384x2x16, .f32⟩
  | 113 => ⟨S16384x2x16, .f32⟩
  | 114 => ⟨S16384x2x16, .f32⟩
  | 115 => ⟨S16384x2x16, .f32⟩
  | 116 => ⟨S16384x2x16, .f32⟩
  | 117 => ⟨S16384x2x16, .f32⟩
  | 118 => ⟨S16384x2x16, .f32⟩
  | 119 => ⟨S16384x2x16, .f32⟩
  | 120 => ⟨S16384x2x32, .f32⟩
  | 121 => ⟨S16384x2x16, .f32⟩
  | 122 => ⟨S16384x2x16, .f32⟩
  | 123 => ⟨S16384x2x16, .f32⟩
  | 124 => ⟨S16384x2x16, .f32⟩
  | 125 => ⟨S16384x2x16, .f32⟩
  | 126 => ⟨S16384x2x16, .f32⟩
  | 127 => ⟨S16384x2x16, .f32⟩
  | _ => ⟨S16640x3584, .f32⟩

abbrev hbmTy0_2 (i : Nat) : BufTy := match i % 128 with
  | 0 => ⟨S16384x2x16, .f32⟩
  | 1 => ⟨S16384x2x16, .f32⟩
  | 2 => ⟨S16384x2x16, .f32⟩
  | 3 => ⟨S16384x2x16, .f32⟩
  | 4 => ⟨S16384x2x16, .f32⟩
  | 5 => ⟨S16384x2x32, .f32⟩
  | 6 => ⟨S16384x2x64, .f32⟩
  | 7 => ⟨S256x2x64, .f32⟩
  | 8 => ⟨S16640x2x64, .f32⟩
  | 9 => ⟨S16384x512, .f32⟩
  | 10 => ⟨S16640x128, .f32⟩
  | 11 => ⟨S16640x128, .f32⟩
  | 12 => ⟨S16384x512, .f32⟩
  | 13 => ⟨S16640x128, .f32⟩
  | 14 => ⟨S16640x128, .f32⟩
  | 15 => ⟨S16384x2048, .f32⟩
  | 16 => ⟨S_, .f32⟩
  | 17 => ⟨S16640x3584, .f32⟩
  | 18 => ⟨S_, .f32⟩
  | 19 => ⟨S16640x3584, .f32⟩
  | 20 => ⟨S16640x3584, .f32⟩
  | 21 => ⟨S16640x2x64, .f32⟩
  | 22 => ⟨S16384x8x64, .f32⟩
  | 23 => ⟨S_, .f32⟩
  | 24 => ⟨S16640x3584, .f32⟩
  | 25 => ⟨S16640x3584, .f32⟩
  | 26 => ⟨S16640x2x64, .f32⟩
  | 27 => ⟨S16384x8x64, .f32⟩
  | 28 => ⟨S16384x2x64, .f32⟩
  | 29 => ⟨S256x2x64, .f32⟩
  | 30 => ⟨S_, .f32⟩
  | 31 => ⟨S16640x2x64, .f32⟩
  | 32 => ⟨S16384x2x32, .f32⟩
  | 33 => ⟨S16384x2x32, .f32⟩
  | 34 => ⟨S16384x2x16, .f32⟩
  | 35 => ⟨S16384x2x16, .f32⟩
  | 36 => ⟨S16384x2x16, .f32⟩
  | 37 => ⟨S16384x2x16, .f32⟩
  | 38 => ⟨S16384x2x16, .f32⟩
  | 39 => ⟨S16384x2x16, .f32⟩
  | 40 => ⟨S16384x2x16, .f32⟩
  | 41 => ⟨S16384x2x16, .f32⟩
  | 42 => ⟨S16384x2x16, .f32⟩
  | 43 => ⟨S16384x2x16, .f32⟩
  | 44 => ⟨S16384x2x16, .f32⟩
  | 45 => ⟨S16384x2x16, .f32⟩
  | 46 => ⟨S16384x2x16, .f32⟩
  | 47 => ⟨S16384x2x32, .f32⟩
  | 48 => ⟨S16384x2x16, .f32⟩
  | 49 => ⟨S16384x2x16, .f32⟩
  | 50 => ⟨S16384x2x16, .f32⟩
  | 51 => ⟨S16384x2x16, .f32⟩
  | 52 => ⟨S16384x2x16, .f32⟩
  | 53 => ⟨S16384x2x16, .f32⟩
  | 54 => ⟨S16384x2x16, .f32⟩
  | 55 => ⟨S16384x2x16, .f32⟩
  | 56 => ⟨S16384x2x16, .f32⟩
  | 57 => ⟨S16384x2x16, .f32⟩
  | 58 => ⟨S16384x2x16, .f32⟩
  | 59 => ⟨S16384x2x16, .f32⟩
  | 60 => ⟨S16384x2x16, .f32⟩
  | 61 => ⟨S16384x2x32, .f32⟩
  | 62 => ⟨S16384x2x64, .f32⟩
  | 63 => ⟨S_, .f32⟩
  | 64 => ⟨S16640x2x64, .f32⟩
  | 65 => ⟨S16640x2x64, .f32⟩
  | 66 => ⟨S16640x2x64, .f32⟩
  | 67 => ⟨S_, .f32⟩
  | 68 => ⟨S2x64, .f32⟩
  | 69 => ⟨S1x2x64, .f32⟩
  | 70 => ⟨S16640x2x64, .f32⟩
  | 71 => ⟨S16640x2x64, .f32⟩
  | 72 => ⟨S_, .f32⟩
  | 73 => ⟨S2x64, .f32⟩
  | 74 => ⟨S16640x2x64, .f32⟩
  | 75 => ⟨S_, .f32⟩
  | 76 => ⟨S16640x2, .f32⟩
  | 77 => ⟨S16640x2x1, .f32⟩
  | 78 => ⟨S16640x2x64, .f32⟩
  | 79 => ⟨S16640x2x64, .f32⟩
  | 80 => ⟨S16640x2x1, .f32⟩
  | 81 => ⟨S_, .f32⟩
  | 82 => ⟨S16640x2x1, .f32⟩
  | 83 => ⟨S16640x2x1, .f32⟩
  | 84 => ⟨S_, .f32⟩
  | 85 => ⟨S16640x2, .f32⟩
  | 86 => ⟨S16640x2x64, .f32⟩
  | 87 => ⟨S16640x2x64, .f32⟩
  | 88 => ⟨S16640x2x64, .f32⟩
  | 89 => ⟨S16640x2x64, .f32⟩
  | 90 => ⟨S16640x2x64, .f32⟩
  | 91 => ⟨S16640x128, .f32⟩
  | 92 => ⟨S_, .f32⟩
  | 93 => ⟨S16640x3584, .f32⟩
  | 94 => ⟨S16640x3584, .f32⟩
  | 95 => ⟨S_, .f32⟩
  | 96 => ⟨S16384x8x64, .f32⟩
  | 97 => ⟨S16384x8x64, .f32⟩
  | 98 => ⟨S_, .f32⟩
  | 99 => ⟨S16640x8x64, .f32⟩
  | 100 => ⟨S16384x8x64, .f32⟩
  | 101 => ⟨S256x8x64, .f32⟩
  | 102 => ⟨S_, .f32⟩
  | 103 => ⟨S16640x8x64, .f32⟩
  | 104 => ⟨S16384x8x32, .f32⟩
  | 105 => ⟨S16384x8x32, .f32⟩
  | 106 => ⟨S16384x8x16, .f32⟩
  | 107 => ⟨S16384x8x16, .f32⟩
  | 108 => ⟨S16384x8x16, .f32⟩
  | 109 => ⟨S16384x8x16, .f32⟩
  | 110 => ⟨S16384x8x16, .f32⟩
  | 111 => ⟨S16384x8x16, .f32⟩
  | 112 => ⟨S16384x8x16, .f32⟩
  | 113 => ⟨S16384x8x16, .f32⟩
  | 114 => ⟨S16384x8x16, .f32⟩
  | 115 => ⟨S16384x8x16, .f32⟩
  | 116 => ⟨S16384x8x16, .f32⟩
  | 117 => ⟨S16384x8x16, .f32⟩
  | 118 => ⟨S16384x8x16, .f32⟩
  | 119 => ⟨S16384x8x32, .f32⟩
  | 120 => ⟨S16384x8x16, .f32⟩
  | 121 => ⟨S16384x8x16, .f32⟩
  | 122 => ⟨S16384x8x16, .f32⟩
  | 123 => ⟨S16384x8x16, .f32⟩
  | 124 => ⟨S16384x8x16, .f32⟩
  | 125 => ⟨S16384x8x16, .f32⟩
  | 126 => ⟨S16384x8x16, .f32⟩
  | 127 => ⟨S16384x8x16, .f32⟩
  | _ => ⟨S16640x3584, .f32⟩

abbrev hbmTy0_3 (i : Nat) : BufTy := match i % 128 with
  | 0 => ⟨S16384x8x16, .f32⟩
  | 1 => ⟨S16384x8x16, .f32⟩
  | 2 => ⟨S16384x8x16, .f32⟩
  | 3 => ⟨S16384x8x16, .f32⟩
  | 4 => ⟨S16384x8x16, .f32⟩
  | 5 => ⟨S16384x8x32, .f32⟩
  | 6 => ⟨S16384x8x64, .f32⟩
  | 7 => ⟨S_, .f32⟩
  | 8 => ⟨S16640x8x64, .f32⟩
  | 9 => ⟨S16640x8x64, .f32⟩
  | 10 => ⟨S16640x8x64, .f32⟩
  | 11 => ⟨S_, .f32⟩
  | 12 => ⟨S8x64, .f32⟩
  | 13 => ⟨S1x8x64, .f32⟩
  | 14 => ⟨S16640x8x64, .f32⟩
  | 15 => ⟨S16640x8x64, .f32⟩
  | 16 => ⟨S_, .f32⟩
  | 17 => ⟨S8x64, .f32⟩
  | 18 => ⟨S16640x8x64, .f32⟩
  | 19 => ⟨S_, .f32⟩
  | 20 => ⟨S16640x8, .f32⟩
  | 21 => ⟨S16640x8x1, .f32⟩
  | 22 => ⟨S16640x8x64, .f32⟩
  | 23 => ⟨S16640x8x64, .f32⟩
  | 24 => ⟨S16640x8x1, .f32⟩
  | 25 => ⟨S_, .f32⟩
  | 26 => ⟨S16640x8x1, .f32⟩
  | 27 => ⟨S16640x8x1, .f32⟩
  | 28 => ⟨S_, .f32⟩
  | 29 => ⟨S16640x8, .f32⟩
  | 30 => ⟨S16640x8x64, .f32⟩
  | 31 => ⟨S16640x8x64, .f32⟩
  | 32 => ⟨S16640x8x64, .f32⟩
  | 33 => ⟨S16640x8x64, .f32⟩
  | 34 => ⟨S16640x8x64, .f32⟩
  | 35 => ⟨S16640x512, .f32⟩
  | 36 => ⟨S_, .f32⟩
  | 37 => ⟨S16640x3584, .f32⟩
  | 38 => ⟨S16640x3584, .f32⟩
  | 39 => ⟨S16384x2x64, .f32⟩
  | 40 => ⟨S256x2x64, .f32⟩
  | 41 => ⟨S_, .f32⟩
  | 42 => ⟨S16640x2x64, .f32⟩
  | 43 => ⟨S16384x2x32, .f32⟩
  | 44 => ⟨S16384x2x32, .f32⟩
  | 45 => ⟨S16384x2x16, .f32⟩
  | 46 => ⟨S16384x2x16, .f32⟩
  | 47 => ⟨S16384x2x16, .f32⟩
  | 48 => ⟨S16384x2x16, .f32⟩
  | 49 => ⟨S16384x2x16, .f32⟩
  | 50 => ⟨S16384x2x16, .f32⟩
  | 51 => ⟨S16384x2x16, .f32⟩
  | 52 => ⟨S16384x2x16, .f32⟩
  | 53 => ⟨S16384x2x16, .f32⟩
  | 54 => ⟨S16384x2x16, .f32⟩
  | 55 => ⟨S16384x2x16, .f32⟩
  | 56 => ⟨S16384x2x16, .f32⟩
  | 57 => ⟨S16384x2x16, .f32⟩
  | 58 => ⟨S16384x2x32, .f32⟩
  | 59 => ⟨S16384x2x16, .f32⟩
  | 60 => ⟨S16384x2x16, .f32⟩
  | 61 => ⟨S16384x2x16, .f32⟩
  | 62 => ⟨S16384x2x16, .f32⟩
  | 63 => ⟨S16384x2x16, .f32⟩
  | 64 => ⟨S16384x2x16, .f32⟩
  | 65 => ⟨S16384x2x16, .f32⟩
  | 66 => ⟨S16384x2x16, .f32⟩
  | 67 => ⟨S16384x2x16, .f32⟩
  | 68 => ⟨S16384x2x16, .f32⟩
  | 69 => ⟨S16384x2x16, .f32⟩
  | 70 => ⟨S16384x2x16, .f32⟩
  | 71 => ⟨S16384x2x16, .f32⟩
  | 72 => ⟨S16384x2x32, .f32⟩
  | 73 => ⟨S16384x2x64, .f32⟩
  | 74 => ⟨S_, .f32⟩
  | 75 => ⟨S16640x2x64, .f32⟩
  | 76 => ⟨S16640x2x64, .f32⟩
  | 77 => ⟨S16640x128, .f32⟩
  | 78 => ⟨S_, .f32⟩
  | 79 => ⟨S16640x3584, .f32⟩
  | 80 => ⟨S16640x3584, .f32⟩
  | 81 => ⟨S_, .f32⟩
  | 82 => ⟨S16384x8x64, .f32⟩
  | 83 => ⟨S16384x8x64, .f32⟩
  | 84 => ⟨S_, .f32⟩
  | 85 => ⟨S16640x8x64, .f32⟩
  | 86 => ⟨S16384x8x64, .f32⟩
  | 87 => ⟨S256x8x64, .f32⟩
  | 88 => ⟨S_, .f32⟩
  | 89 => ⟨S16640x8x64, .f32⟩
  | 90 => ⟨S16384x8x32, .f32⟩
  | 91 => ⟨S16384x8x32, .f32⟩
  | 92 => ⟨S16384x8x16, .f32⟩
  | 93 => ⟨S16384x8x16, .f32⟩
  | 94 => ⟨S16384x8x16, .f32⟩
  | 95 => ⟨S16384x8x16, .f32⟩
  | 96 => ⟨S16384x8x16, .f32⟩
  | 97 => ⟨S16384x8x16, .f32⟩
  | 98 => ⟨S16384x8x16, .f32⟩
  | 99 => ⟨S16384x8x16, .f32⟩
  | 100 => ⟨S16384x8x16, .f32⟩
  | 101 => ⟨S16384x8x16, .f32⟩
  | 102 => ⟨S16384x8x16, .f32⟩
  | 103 => ⟨S16384x8x16, .f32⟩
  | 104 => ⟨S16384x8x16, .f32⟩
  | 105 => ⟨S16384x8x32, .f32⟩
  | 106 => ⟨S16384x8x16, .f32⟩
  | 107 => ⟨S16384x8x16, .f32⟩
  | 108 => ⟨S16384x8x16, .f32⟩
  | 109 => ⟨S16384x8x16, .f32⟩
  | 110 => ⟨S16384x8x16, .f32⟩
  | 111 => ⟨S16384x8x16, .f32⟩
  | 112 => ⟨S16384x8x16, .f32⟩
  | 113 => ⟨S16384x8x16, .f32⟩
  | 114 => ⟨S16384x8x16, .f32⟩
  | 115 => ⟨S16384x8x16, .f32⟩
  | 116 => ⟨S16384x8x16, .f32⟩
  | 117 => ⟨S16384x8x16, .f32⟩
  | 118 => ⟨S16384x8x16, .f32⟩
  | 119 => ⟨S16384x8x32, .f32⟩
  | 120 => ⟨S16384x8x64, .f32⟩
  | 121 => ⟨S_, .f32⟩
  | 122 => ⟨S16640x8x64, .f32⟩
  | 123 => ⟨S16640x8x64, .f32⟩
  | 124 => ⟨S16640x512, .f32⟩
  | 125 => ⟨S_, .f32⟩
  | 126 => ⟨S16640x3584, .f32⟩
  | 127 => ⟨S16640x3584, .f32⟩
  | _ => ⟨S16640x3584, .f32⟩

abbrev hbmTy0_4 (i : Nat) : BufTy := match i % 128 with
  | 0 => ⟨S_, .f32⟩
  | 1 => ⟨S3584, .f32⟩
  | 2 => ⟨S1x3584, .f32⟩
  | 3 => ⟨S16640x512, .f32⟩
  | 4 => ⟨S16640x128, .f32⟩
  | 5 => ⟨S16640x2x1x64, .f32⟩
  | 6 => ⟨S_, .i32⟩
  | 7 => ⟨S_, .f32⟩
  | 8 => ⟨S16640x2x4x64, .f32⟩
  | 9 => ⟨S16640x512, .f32⟩
  | 10 => ⟨S16640x128, .f32⟩
  | 11 => ⟨S16640x2x1x64, .f32⟩
  | 12 => ⟨S_, .i32⟩
  | 13 => ⟨S_, .f32⟩
  | 14 => ⟨S16640x2x4x64, .f32⟩
  | 15 => ⟨S16640x512, .f32⟩
  | 16 => ⟨S16640x512, .f32⟩
  | 17 => ⟨S16640x128, .f32⟩
  | 18 => ⟨S16640x2x1x64, .f32⟩
  | 19 => ⟨S_, .i32⟩
  | 20 => ⟨S_, .f32⟩
  | 21 => ⟨S16640x2x4x64, .f32⟩
  | 22 => ⟨S16640x512, .f32⟩
  | 23 => ⟨S16640x128, .f32⟩
  | 24 => ⟨S16640x2x1x64, .f32⟩
  | 25 => ⟨S_, .i32⟩
  | 26 => ⟨S_, .f32⟩
  | 27 => ⟨S16640x2x4x64, .f32⟩
  | 28 => ⟨S16640x512, .f32⟩
  | 29 => ⟨S16640x2048, .f32⟩
  | 30 => ⟨S16640x5120, .f32⟩
  | 31 => ⟨S16640x5120, .bf16⟩
  | 32 => ⟨S1x512, .f32⟩
  | 33 => ⟨S1x128, .f32⟩
  | 34 => ⟨S1x2x1x64, .f32⟩
  | 35 => ⟨S_, .i32⟩
  | 36 => ⟨S_, .f32⟩
  | 37 => ⟨S1x2x4x64, .f32⟩
  | 38 => ⟨S1x512, .f32⟩
  | 39 => ⟨S1x128, .f32⟩
  | 40 => ⟨S1x2x1x64, .f32⟩
  | 41 => ⟨S_, .i32⟩
  | 42 => ⟨S_, .f32⟩
  | 43 => ⟨S1x2x4x64, .f32⟩
  | 44 => ⟨S1x512, .f32⟩
  | 45 => ⟨S1x512, .f32⟩
  | 46 => ⟨S1x128, .f32⟩
  | 47 => ⟨S1x2x1x64, .f32⟩
  | 48 => ⟨S_, .i32⟩
  | 49 => ⟨S_, .f32⟩
  | 50 => ⟨S1x2x4x64, .f32⟩
  | 51 => ⟨S1x512, .f32⟩
  | 52 => ⟨S1x128, .f32⟩
  | 53 => ⟨S1x2x1x64, .f32⟩
  | 54 => ⟨S_, .i32⟩
  | 55 => ⟨S_, .f32⟩
  | 56 => ⟨S1x2x4x64, .f32⟩
  | 57 => ⟨S1x512, .f32⟩
  | 58 => ⟨S1x2048, .f32⟩
  | 59 => ⟨S1x5120, .f32⟩
  | 60 => ⟨S1x512, .f32⟩
  | 61 => ⟨S1x128, .f32⟩
  | 62 => ⟨S1x2x1x64, .f32⟩
  | 63 => ⟨S_, .i32⟩
  | 64 => ⟨S_, .f32⟩
  | 65 => ⟨S1x2x4x64, .f32⟩
  | 66 => ⟨S1x512, .f32⟩
  | _ => ⟨S16640x3584, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16640x3584, .f32⟩

abbrev bufTy : (tb : Table) → Fin (tcTables nBuf tb) → BufTy
  | .hbm, ⟨i, _⟩ => hbmTy i
  | _, _ => ⟨S16640x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_1 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_2 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_3 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_4 : Ref sig .tc := ⟨.hbm, 156, rfl⟩
abbrev main_v104 : Ref sig .tc := ⟨.hbm, 157, rfl⟩
abbrev main_v105 : Ref sig .tc := ⟨.hbm, 158, rfl⟩
abbrev main_cst_5 : Ref sig .tc := ⟨.hbm, 159, rfl⟩
abbrev main_v106 : Ref sig .tc := ⟨.hbm, 160, rfl⟩
abbrev main_v107 : Ref sig .tc := ⟨.hbm, 161, rfl⟩
abbrev main_cst_6 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_7 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_8 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_9 : Ref sig .tc := ⟨.hbm, 214, rfl⟩
abbrev main_v157 : Ref sig .tc := ⟨.hbm, 215, rfl⟩
abbrev main_v158 : Ref sig .tc := ⟨.hbm, 216, rfl⟩
abbrev main_cst_10 : Ref sig .tc := ⟨.hbm, 217, rfl⟩
abbrev main_v159 : Ref sig .tc := ⟨.hbm, 218, rfl⟩
abbrev main_v160 : Ref sig .tc := ⟨.hbm, 219, rfl⟩
abbrev main_cst_11 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_12 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_13 : Ref sig .tc := ⟨.hbm, 272, rfl⟩
abbrev main_v211 : Ref sig .tc := ⟨.hbm, 273, rfl⟩
abbrev main_cst_14 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_15 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_cst_16 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_cst_17 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_cst_18 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_19 : Ref sig .tc := ⟨.hbm, 328, rfl⟩
abbrev main_v261 : Ref sig .tc := ⟨.hbm, 329, rfl⟩
abbrev main_v262 : Ref sig .tc := ⟨.hbm, 330, rfl⟩
abbrev main_cst_20 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_cst_21 : Ref sig .tc := ⟨.hbm, 337, rfl⟩
abbrev main_v268 : Ref sig .tc := ⟨.hbm, 338, rfl⟩
abbrev main_v269 : Ref sig .tc := ⟨.hbm, 339, rfl⟩
abbrev main_cst_22 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_cst_23 : Ref sig .tc := ⟨.hbm, 348, rfl⟩
abbrev main_v277 : Ref sig .tc := ⟨.hbm, 349, rfl⟩
abbrev main_v278 : Ref sig .tc := ⟨.hbm, 350, rfl⟩
abbrev main_cst_24 : Ref sig .tc := ⟨.hbm, 351, rfl⟩
abbrev main_v279 : Ref sig .tc := ⟨.hbm, 352, rfl⟩
abbrev main_v280 : Ref sig .tc := ⟨.hbm, 353, rfl⟩
abbrev main_cst_25 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_cst_26 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_cst_27 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_cst_28 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_cst_29 : Ref sig .tc := ⟨.hbm, 400, rfl⟩
abbrev main_v323 : Ref sig .tc := ⟨.hbm, 401, rfl⟩
abbrev main_v324 : Ref sig .tc := ⟨.hbm, 402, rfl⟩
abbrev main_cst_30 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_cst_31 : Ref sig .tc := ⟨.hbm, 409, rfl⟩
abbrev main_v330 : Ref sig .tc := ⟨.hbm, 410, rfl⟩
abbrev main_v331 : Ref sig .tc := ⟨.hbm, 411, rfl⟩
abbrev main_cst_32 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_cst_33 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_cst_34 : Ref sig .tc := ⟨.hbm, 425, rfl⟩
abbrev main_v343 : Ref sig .tc := ⟨.hbm, 426, rfl⟩
abbrev main_v344 : Ref sig .tc := ⟨.hbm, 427, rfl⟩
abbrev main_v345 : Ref sig .tc := ⟨.hbm, 428, rfl⟩
abbrev main_v346 : Ref sig .tc := ⟨.hbm, 429, rfl⟩
abbrev main_v347 : Ref sig .tc := ⟨.hbm, 430, rfl⟩
abbrev main_v348 : Ref sig .tc := ⟨.hbm, 431, rfl⟩
abbrev main_v349 : Ref sig .tc := ⟨.hbm, 432, rfl⟩
abbrev main_v350 : Ref sig .tc := ⟨.hbm, 433, rfl⟩
abbrev main_v351 : Ref sig .tc := ⟨.hbm, 434, rfl⟩
abbrev main_v352 : Ref sig .tc := ⟨.hbm, 435, rfl⟩
abbrev main_v353 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_cst_35 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_cst_36 : Ref sig .tc := ⟨.hbm, 462, rfl⟩
abbrev main_v378 : Ref sig .tc := ⟨.hbm, 463, rfl⟩
abbrev main_v379 : Ref sig .tc := ⟨.hbm, 464, rfl⟩
abbrev main_cst_37 : Ref sig .tc := ⟨.hbm, 465, rfl⟩
abbrev main_v380 : Ref sig .tc := ⟨.hbm, 466, rfl⟩
abbrev main_v381 : Ref sig .tc := ⟨.hbm, 467, rfl⟩
abbrev main_cst_38 : Ref sig .tc := ⟨.hbm, 468, rfl⟩
abbrev main_v382 : Ref sig .tc := ⟨.hbm, 469, rfl⟩
abbrev main_v383 : Ref sig .tc := ⟨.hbm, 470, rfl⟩
abbrev main_v384 : Ref sig .tc := ⟨.hbm, 471, rfl⟩
abbrev main_cst_39 : Ref sig .tc := ⟨.hbm, 472, rfl⟩
abbrev main_v385 : Ref sig .tc := ⟨.hbm, 473, rfl⟩
abbrev main_v386 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_v408 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_v415 : Ref sig .tc := ⟨.hbm, 503, rfl⟩
abbrev main_v416 : Ref sig .tc := ⟨.hbm, 504, rfl⟩
abbrev main_cst_40 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_cst_41 : Ref sig .tc := ⟨.hbm, 509, rfl⟩
abbrev main_v420 : Ref sig .tc := ⟨.hbm, 510, rfl⟩
abbrev main_v421 : Ref sig .tc := ⟨.hbm, 511, rfl⟩
abbrev main_cst_42 : Ref sig .tc := ⟨.hbm, 512, rfl⟩
abbrev main_v422 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_v426 : Ref sig .tc := ⟨.hbm, 517, rfl⟩
abbrev main_c_43 : Ref sig .tc := ⟨.hbm, 518, rfl⟩
abbrev main_call2_v0 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_c_44 : Ref sig .tc := ⟨.hbm, 524, rfl⟩
abbrev main_call3_v0 : Ref sig .tc := ⟨.hbm, 525, rfl⟩
abbrev main_v431 : Ref sig .tc := ⟨.hbm, 526, rfl⟩
abbrev main_v432 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_c_45 : Ref sig .tc := ⟨.hbm, 531, rfl⟩
abbrev main_call4_v0 : Ref sig .tc := ⟨.hbm, 532, rfl⟩
abbrev main_v436 : Ref sig .tc := ⟨.hbm, 533, rfl⟩
abbrev main_v437 : Ref sig .tc := ⟨.hbm, 534, rfl⟩
abbrev main_v438 : Ref sig .tc := ⟨.hbm, 535, rfl⟩
abbrev main_v439 : Ref sig .tc := ⟨.hbm, 536, rfl⟩
abbrev main_c_46 : Ref sig .tc := ⟨.hbm, 537, rfl⟩
abbrev main_call5_v0 : Ref sig .tc := ⟨.hbm, 538, rfl⟩
abbrev main_v440 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩
abbrev main_v444 : Ref sig .tc := ⟨.hbm, 543, rfl⟩
abbrev main_v445 : Ref sig .tc := ⟨.hbm, 544, rfl⟩
abbrev main_v446 : Ref sig .tc := ⟨.hbm, 545, rfl⟩
abbrev main_v447 : Ref sig .tc := ⟨.hbm, 546, rfl⟩
abbrev main_c_47 : Ref sig .tc := ⟨.hbm, 547, rfl⟩
abbrev main_call6_v0 : Ref sig .tc := ⟨.hbm, 548, rfl⟩
abbrev main_v448 : Ref sig .tc := ⟨.hbm, 549, rfl⟩
abbrev main_v449 : Ref sig .tc := ⟨.hbm, 550, rfl⟩
abbrev main_v450 : Ref sig .tc := ⟨.hbm, 551, rfl⟩
abbrev main_v451 : Ref sig .tc := ⟨.hbm, 552, rfl⟩
abbrev main_c_48 : Ref sig .tc := ⟨.hbm, 553, rfl⟩
abbrev main_call7_v0 : Ref sig .tc := ⟨.hbm, 554, rfl⟩
abbrev main_v452 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_c_49 : Ref sig .tc := ⟨.hbm, 560, rfl⟩
abbrev main_call8_v0 : Ref sig .tc := ⟨.hbm, 561, rfl⟩
abbrev main_v457 : Ref sig .tc := ⟨.hbm, 562, rfl⟩
abbrev main_v458 : Ref sig .tc := ⟨.hbm, 563, rfl⟩
abbrev main_v459 : Ref sig .tc := ⟨.hbm, 564, rfl⟩
abbrev main_v460 : Ref sig .tc := ⟨.hbm, 565, rfl⟩
abbrev main_c_50 : Ref sig .tc := ⟨.hbm, 566, rfl⟩
abbrev main_call9_v0 : Ref sig .tc := ⟨.hbm, 567, rfl⟩
abbrev main_v461 : Ref sig .tc := ⟨.hbm, 568, rfl⟩
abbrev main_v462 : Ref sig .tc := ⟨.hbm, 569, rfl⟩
abbrev main_v463 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_v467 : Ref sig .tc := ⟨.hbm, 574, rfl⟩
abbrev main_c_51 : Ref sig .tc := ⟨.hbm, 575, rfl⟩
abbrev main_call10_v0 : Ref sig .tc := ⟨.hbm, 576, rfl⟩
abbrev main_v468 : Ref sig .tc := ⟨.hbm, 577, rfl⟩
abbrev main_v469 : Ref sig .tc := ⟨.hbm, 578, rfl⟩

abbrev nD : Nat := 1
abbrev τ : Topo := Topo.v7x

variable {F : FTy → Type} [FloatOps F]
-- ==== Proof.Merge.Blocks.lean ====
/- What the gate's gradient call leaves in each of its five result arrays. -/
module

public import proofs.«01_k».proof.Proof.Gen.MergeIdeal.Value
public import proofs.«01_k».proof.Proof.Gen.MergeRefIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Grad

open Cert.MergeIdeal Cert.MergeIdeal.Gen
open Cert.MergeRefIdeal.Read

variable (m : (ℓ : Loc nD τ sig) → Buf (Elt Ideal) ℓ)

/-- Where each window's block lies: the row windows move with the grid, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The reference's gate is the logistic function of the gate's logits. -/
theorem gate_eq (x : FVec Ideal Cert.MergeRefIdeal.S16384x2048 .f32) (r : Fin 16384) (l : Fin 2048) :
    val_main_v7 (F := Ideal) x (ix2 r l) = Ideal.logistic (x (ix2 r l)) := by
  pointwise [val_main_v7, val_main_v6, val_main_v5, val_main_v4, val_main_v3, val_main_v2, val_main_cst_0, val_main_cst, Ideal.logistic]

/-- The first branch's gated cotangent is the reference's. -/
theorem final7 (c : Dev nD) : (dats m 0 c).arrAt 7 (cfgs 0).N
    = val_main_v24 (F := Ideal) (m ((c : Thread nD τ).loc main_arg2)) (m ((c : Thread nD τ).loc main_arg5))
        (m ((c : Thread nD τ).loc main_arg6)) := by
  refine (dats m 0 c).arrAt_eq_of_covers 7 _ (by decide +kernel) fun t _ y => ?_
  blk_simp
  rw [after0_7]; frame_out
  pointwise [k0_pay10, k0_pay5, k0_pay2, k0_pay3, val_main_v24, val_main_v20, val_main_v11, val_main_v17, gate_eq]
  rw [mul_comm]
  blk_point [iblk, V, idx t]

/-- The second branch's gated cotangent is the reference's. -/
theorem final8 (c : Dev nD) : (dats m 0 c).arrAt 8 (cfgs 0).N
    = val_main_v25 (F := Ideal) (m ((c : Thread nD τ).loc main_arg2)) (m ((c : Thread nD τ).loc main_arg5))
        (m ((c : Thread nD τ).loc main_arg6)) := by
  refine (dats m 0 c).arrAt_eq_of_covers 8 _ (by decide +kernel) fun t _ y => ?_
  blk_simp
  rw [after0_8]; frame_out
  pointwise [k0_pay1, k0_pay6, k0_pay2, k0_pay4, val_main_v25, val_main_v18, val_main_v12, val_main_v17, gate_eq]
  rw [mul_comm]
  blk_point [iblk, V, idx t]

/-- The first branch's own cotangent is the reference's. -/
theorem final10 (c : Dev nD) : (dats m 0 c).arrAt 10 (cfgs 0).N
    = val_main_v26 (F := Ideal) (m ((c : Thread nD τ).loc main_arg2)) (m ((c : Thread nD τ).loc main_arg3))
        (m ((c : Thread nD τ).loc main_arg5)) (m ((c : Thread nD τ).loc main_arg6)) := by
  refine (dats m 0 c).arrAt_eq_of_covers 10 _ (by decide +kernel) fun t _ y => ?_
  blk_simp
  rw [after0_10]; frame_out
  pointwise [k0_pay8, k0_pay5, k0_pay2, k0_pay3, val_main_v26, val_main_v20, val_main_v11, val_main_v17, gate_eq]
  set_option backward.isDefEq.respectTransparency false in simp only [mul_comm (Ideal.logistic _)]
  blk_point [iblk, V, idx t]

/-- The second branch's own cotangent is the reference's. -/
theorem final11 (c : Dev nD) : (dats m 0 c).arrAt 11 (cfgs 0).N
    = val_main_v27 (F := Ideal) (m ((c : Thread nD τ).loc main_arg2)) (m ((c : Thread nD τ).loc main_arg4))
        (m ((c : Thread nD τ).loc main_arg5)) (m ((c : Thread nD τ).loc main_arg6)) := by
  refine (dats m 0 c).arrAt_eq_of_covers 11 _ (by decide +kernel) fun t _ y => ?_
  blk_simp
  rw [after0_11]; frame_out
  pointwise [k0_pay9, k0_pay6, k0_pay2, k0_pay4, val_main_v27, val_main_v18, val_main_v12, val_main_v17, gate_eq]
  set_option backward.isDefEq.respectTransparency false in simp only [mul_comm (Ideal.logistic _)]
  blk_point [iblk, V, idx t]

/-- Row `r` of a row block at grid point `t` is row `t * 256 + r` of its array. -/
def row (t : Fin cfg0.N) (r : Fin 256) : Fin 16384 :=
  ⟨t.val * 256 + r.val, by have h : t.val < 64 := lt_of_lt_of_eq t.isLt (by decide); omega⟩

/-- The first branch's saved product, as staged, is the product that the reference takes. -/
theorem in1 (c : Dev nD) (t : Fin cfg0.N) (r : Fin 256) (l : Fin 1024) : iblk m c 1 t (ix2 r l)
    = val_main_v0 (F := Ideal) (m ((c : Thread nD τ).loc main_arg0)) (m ((c : Thread nD τ).loc main_arg3)) (ix2 (row t r) l) := by
  blk_simp [iblk]
  entry_read
  rw [show ((cfg0.win 1).blk t).view.emb (ix2 r l) = ix2 (row t r) l by blk_ext [idx t, row]]
  rfl

/-- The second branch's saved product, as staged, is the product that the reference takes. -/
theorem in2 (c : Dev nD) (t : Fin cfg0.N) (r : Fin 256) (l : Fin 1024) : iblk m c 2 t (ix2 r l)
    = val_main_v1 (F := Ideal) (m ((c : Thread nD τ).loc main_arg1)) (m ((c : Thread nD τ).loc main_arg4)) (ix2 (row t r) l) := by
  blk_simp [iblk]
  entry_read
  rw [show ((cfg0.win 2).blk t).view.emb (ix2 r l) = ix2 (row t r) l by blk_ext [idx t, row]]
  rfl

/-- The gate's logits, as staged. -/
theorem in3 (c : Dev nD) (t : Fin cfg0.N) (r : Fin 256) (l : Fin 2048) : iblk m c 3 t (ix2 r l)
    = m ((c : Thread nD τ).loc main_arg2) (ix2 (row t r) l) := by
  blk_ext [iblk, V, idx t, row]

/-- The merged cotangent `dy · w_outᵀ` of a block's rows is the reference's. -/
theorem dm_eq (c : Dev nD) (t : Fin cfg0.N) (r : Fin 256) (l : Fin 1024) :
    k0_pay2 (F := Ideal) (iblk m c 0 t) (iblk m c 4 t) (ix2 r l)
      = val_main_v17 (F := Ideal) (m ((c : Thread nD τ).loc main_arg5)) (m ((c : Thread nD τ).loc main_arg6)) (ix2 (row t r) l) := by
  pointwise [k0_pay2, val_main_v17]
  blk_point [iblk, V, idx t, row]

/-- The gradient of the gate's logits is the reference's. -/
theorem final9 (c : Dev nD) : (dats m 0 c).arrAt 9 (cfgs 0).N
    = val_main_v23 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 9 _ (by decide +kernel) fun t _ y => ?_
  blk_simp
  rw [after0_9]; frame_out
  idx_vars y
  rw [show ((cfg0.win 9).blk t).view.emb (ix2 y0 y1) = ix2 (row t y0) y1 by blk_ext [idx t, row]]
  pointwise [k0_pay7, k0_pay3, k0_pay4, val_main_v23, val_main_v22, val_main_v21, val_main_v19, val_main_v10,
    val_main_v9, val_main_v8, val_main_cst_1, gate_eq, dm_eq, in1, in2, in3]
  by_cases h : (y1 : ℕ) < 1024
  · simp only [dif_pos h, mul_assoc]
  · rw [dif_neg h, dif_neg h]
    have e : (⟨1024 + (y1.val - 1024), by omega⟩ : Fin 2048) = y1 := Fin.ext (by simp only; omega)
    simp only [mul_assoc, e]

end Cert.MergeIdeal.Grad

end
-- ==== Proof.Merge.Claim.lean ====
/- The gradient of the gated merge: kernel and reference give the same five arrays. -/
module

public import proofs.«01_k».proof.Defs
public import proofs.«01_k».proof.Proof.Merge.Blocks
public import proofs.«01_k».proof.Proof.Gen.MergeRefIdeal.Run

@[expose] public section

set_option maxRecDepth 16384

noncomputable section

open Idealize.ShloMosaic Idealize.ShloMosaic.TcCoe Idealize.SL.Sem

namespace Cert.MergeIdeal.Grad

set_option maxHeartbeats 1600000 in
/-- Over the extended reals the gate's gradient call returns the derivative of the forward lines, in all five results. -/
theorem algebraic : Cert.algebraic_MergeIdeal_MergeRefIdeal := by
  pair_intro
  · run_from Cert.MergeIdeal.Value.run_blocks m g
  · run_from Cert.MergeRefIdeal.Value.run m' g'
    · exact (final7 m c).symm
    · exact (final8 m c).symm
    · refine (Cert.MergeRefIdeal.Read.val_main_v23_eq (F := Ideal) _ _ _ _ _ _ _).trans ?_
      obtain ⟨h0, h1, h2, h3, h4, h5, h6⟩ := hagree c
      rw [h3, h4, h5, h6]
      exact (final9 m c).symm
    · exact (final10 m c).symm
    · exact (final11 m c).symm

end Cert.MergeIdeal.Grad

end
-- ==== Proof.Glob.Run.lean ====
module

public import proofs.«01_k».proof.Proof.Gen.GlobIdeal.Frame
public import proofs.«01_k».proof.Proof.Gen.GlobIdeal.Skeleton
public import Idealize.ShloMosaic.Lib.Pipeline.ValueKit

/-! # One point of the global attention's backward call

What the body computes at a grid point, as functions of the blocks it is handed: the two buffers of probabilities and of
score gradients, the rows of dq it writes, and the accumulators of dk and dv. The body's run leaves just these. -/

@[expose] public section

set_option maxRecDepth 16384

noncomputable section

namespace Cert.GlobIdeal.Grad

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks of the eight inputs at a point: the queries and their transpose, the keys, the values, the cotangent and its
transpose, the rows' log-sums and the rows' sums of cotangent times output. -/
structure Blk (F : FTy → Type) [FloatOps F] where
  q : Vec F S512x256 .bf16
  qt : Vec F S256x512 .bf16
  k : Vec F S1280x256 .bf16
  v : Vec F S1280x256 .bf16
  ct : Vec F S512x256 .f32
  ctt : Vec F S256x512 .bf16
  lse : Vec F S1x1x2048x1 .f32
  delta : Vec F S1x1x2048x1 .f32

variable (i : grid0.Coords) (b : Blk F)

/-- The queries with one head's lanes kept in each quarter of the rows. -/
def qs : FVec F S2048x256 .bf16 := k0_pay10 (k0_pay5 b.q) (k0_pay6 b.q) k0_pay7 (k0_pay8 b.q) (k0_pay9 b.q) 2#32

/-- The cotangent laid out likewise. -/
def cs : FVec F S2048x256 .bf16 := k0_pay16 (k0_pay11 b.ct) (k0_pay12 b.ct) k0_pay13 k0_pay14 k0_pay15

/-- Rows `o` to `o + 255` of a block of keys or values. -/
def rows (x : Vec F S1280x256 .bf16) (o : ℕ) (h : ∀ a, (![o, 0] : Fin 2 → ℕ) a + S256x256.size a ≤ S1280x256.size a) :
    Vec F S256x256 .bf16 := View.ld x (Rect.unit (s := S1280x256) ![o, 0] S256x256.size h)

/-- The cotangent against the first rows of values. -/
def cv0 (x : Vec F S256x256 .bf16) : FVec F S2048x256 .f32 :=
  k0_pay20 (k0_pay11 b.ct) (k0_pay12 b.ct) k0_pay13 k0_pay14 k0_pay15 x

/-- The tiles of probabilities, the newest first. -/
def pTiles : List (View.Piece (Elt F) S2048x1280 .bf16) :=
  [⟨Rect.unit ![0, 1152] S2048x128.size inb_S2048x1280_S2048x128_0_1152, k0_pay60 (qs b) (k0_pay17 b.lse) (rows b.k 1024 inb_S1280x256_S256x256_1024_0)⟩,
   ⟨Rect.unit ![0, 1024] S2048x128.size inb_S2048x1280_S2048x128_0_1024, k0_pay57 (qs b) (k0_pay17 b.lse) (rows b.k 1024 inb_S1280x256_S256x256_1024_0)⟩,
   ⟨Rect.unit ![0, 896] S2048x128.size inb_S2048x1280_S2048x128_0_896, k0_pay51 (qs b) (k0_pay17 b.lse) (rows b.k 768 inb_S1280x256_S256x256_768_0)⟩,
   ⟨Rect.unit ![0, 768] S2048x128.size inb_S2048x1280_S2048x128_0_768, k0_pay48 (qs b) (k0_pay17 b.lse) (rows b.k 768 inb_S1280x256_S256x256_768_0)⟩,
   ⟨Rect.unit ![0, 640] S2048x128.size inb_S2048x1280_S2048x128_0_640, k0_pay43 (k0_pay42 (qs b) (k0_pay17 b.lse) (rows b.k 512 inb_S1280x256_S256x256_512_0))⟩,
   ⟨Rect.unit ![0, 512] S2048x128.size inb_S2048x1280_S2048x128_0_512, k0_pay40 (qs b) (k0_pay17 b.lse) (rows b.k 512 inb_S1280x256_S256x256_512_0)⟩,
   ⟨Rect.unit ![0, 384] S2048x128.size inb_S2048x1280_S2048x128_0_384, k0_pay35 (k0_pay17 b.lse) (k0_pay28 (qs b) (rows b.k 256 inb_S1280x256_S256x256_256_0))⟩,
   ⟨Rect.unit ![0, 256] S2048x128.size inb_S2048x1280_S2048x128_0_256, k0_pay31 (qs b) (k0_pay17 b.lse) (rows b.k 256 inb_S1280x256_S256x256_256_0)⟩,
   ⟨Rect.unit ![0, 128] S2048x128.size inb_S2048x1280_S2048x128_0_128, k0_pay26 (k0_pay17 b.lse) (k0_pay19 (qs b) (rows b.k 0 inb_S1280x256_S256x256_0_0))⟩,
   ⟨Rect.unit ![0, 0] S2048x128.size inb_S2048x1280_S2048x128_0_0, k0_pay23 (k0_pay22 (qs b) b.lse (rows b.k 0 inb_S1280x256_S256x256_0_0))⟩]

/-- The probabilities of the point's queries against its keys. -/
def pBuf : Vec F S2048x1280 .bf16 := View.canon (pTiles b)

/-- The tiles of score gradients, the newest first. -/
def dsTiles : List (View.Piece (Elt F) S2048x1280 .bf16) :=
  [⟨Rect.unit ![0, 1152] S2048x128.size inb_S2048x1280_S2048x128_0_1152, k0_pay61 (qs b) (cs b) (k0_pay17 b.lse) (k0_pay18 b.delta) (rows b.k 1024 inb_S1280x256_S256x256_1024_0) (rows b.v 1024 inb_S1280x256_S256x256_1024_0)⟩,
   ⟨Rect.unit ![0, 1024] S2048x128.size inb_S2048x1280_S2048x128_0_1024, k0_pay58 (qs b) (cs b) (k0_pay17 b.lse) (k0_pay18 b.delta) (rows b.k 1024 inb_S1280x256_S256x256_1024_0) (rows b.v 1024 inb_S1280x256_S256x256_1024_0)⟩,
   ⟨Rect.unit ![0, 896] S2048x128.size inb_S2048x1280_S2048x128_0_896, k0_pay53 (k0_pay18 b.delta) (k0_pay50 (qs b) (k0_pay17 b.lse) (rows b.k 768 inb_S1280x256_S256x256_768_0)) (k0_pay52 (cs b) (rows b.v 768 inb_S1280x256_S256x256_768_0))⟩,
   ⟨Rect.unit ![0, 768] S2048x128.size inb_S2048x1280_S2048x128_0_768, k0_pay49 (qs b) (cs b) (k0_pay17 b.lse) (k0_pay18 b.delta) (rows b.k 768 inb_S1280x256_S256x256_768_0) (rows b.v 768 inb_S1280x256_S256x256_768_0)⟩,
   ⟨Rect.unit ![0, 640] S2048x128.size inb_S2048x1280_S2048x128_0_640, k0_pay44 (k0_pay18 b.delta) (k0_pay38 (cs b) (rows b.v 512 inb_S1280x256_S256x256_512_0)) (k0_pay42 (qs b) (k0_pay17 b.lse) (rows b.k 512 inb_S1280x256_S256x256_512_0))⟩,
   ⟨Rect.unit ![0, 512] S2048x128.size inb_S2048x1280_S2048x128_0_512, k0_pay41 (qs b) (cs b) (k0_pay17 b.lse) (k0_pay18 b.delta) (rows b.k 512 inb_S1280x256_S256x256_512_0) (rows b.v 512 inb_S1280x256_S256x256_512_0)⟩,
   ⟨Rect.unit ![0, 384] S2048x128.size inb_S2048x1280_S2048x128_0_384, k0_pay36 (k0_pay17 b.lse) (k0_pay18 b.delta) (k0_pay28 (qs b) (rows b.k 256 inb_S1280x256_S256x256_256_0)) (k0_pay29 (cs b) (rows b.v 256 inb_S1280x256_S256x256_256_0))⟩,
   ⟨Rect.unit ![0, 256] S2048x128.size inb_S2048x1280_S2048x128_0_256, k0_pay33 (k0_pay32 (qs b) (cs b) (k0_pay17 b.lse) (k0_pay18 b.delta) (rows b.k 256 inb_S1280x256_S256x256_256_0) (rows b.v 256 inb_S1280x256_S256x256_256_0))⟩,
   ⟨Rect.unit ![0, 128] S2048x128.size inb_S2048x1280_S2048x128_0_128, k0_pay27 (k0_pay17 b.lse) (k0_pay18 b.delta) (k0_pay19 (qs b) (rows b.k 0 inb_S1280x256_S256x256_0_0)) (cv0 b (rows b.v 0 inb_S1280x256_S256x256_0_0))⟩,
   ⟨Rect.unit ![0, 0] S2048x128.size inb_S2048x1280_S2048x128_0_0, k0_pay24 (k0_pay18 b.delta) (cv0 b (rows b.v 0 inb_S1280x256_S256x256_0_0)) (k0_pay21 (qs b) b.lse (rows b.k 0 inb_S1280x256_S256x256_0_0))⟩]

/-- The score gradients of the point's queries against its keys. -/
def dsBuf : Vec F S2048x1280 .bf16 := View.canon (dsTiles b)

/-- The point's part of the queries' gradient. -/
def dqPart : FVec F S512x256 .f32 :=
  k0_pay67 (k0_pay63 (dsBuf b) b.k) (k0_pay64 (dsBuf b) b.k) k0_pay65 (k0_pay66 (dsBuf b) b.k) 3#32

/-- The first of the rows of dq that the point's queries are. -/
theorem off1 : k0_off1 i = ![512 * (i 1).val, 0] := by
  have h : ∀ j : Fin 32, (Scalar.indexCast (Scalar.muli (BitVec.ofNat 32 j.val) 512#32) : Index).toNat = 512 * j.val := by
    decide +kernel
  exact congrArg (fun n : ℕ => (![n, 0] : Fin 2 → ℕ)) (h (i 1))

theorem qrows_inb : ∀ a, k0_off1 i a + S512x256.size a ≤ S16384x256.size a := by
  rw [off1]
  have h : (i 1).val < 32 := (i 1).isLt
  exact Fin.forall_fin_two.mpr ⟨by show 512 * (i 1).val + 512 ≤ 16384; omega, by show 0 + 256 ≤ 256; omega⟩

/-- The rows of dq that the point's queries are. -/
def qrows : Rect S16384x256 := Rect.unit (s := S16384x256) (k0_off1 i) S512x256.size (qrows_inb i)

/-- The point's rows of dq: its part, over nothing in the first block of keys and added to the earlier blocks' sum in
the others. -/
def dqRows (x : Vec F S16384x256 .f32) : FVec F S512x256 .f32 :=
  if k0_cond2 i = 1#1 then dqPart b else
    k0_pay68 (k0_pay63 (dsBuf b) b.k) (k0_pay64 (dsBuf b) b.k) k0_pay65 (k0_pay66 (dsBuf b) b.k) 3#32
      (View.ld x (Rect.unit (s := S16384x256) (k0_off1 i) S512x256.size (qrows_inb i)))

/-- What the point leaves in dq: those rows, the others as found. -/
def dqNext (x : Vec F S16384x256 .f32) : Vec F S16384x256 .f32 := (qrows i).overlay x (dqRows i b x)

/-- Whether the point is the first of its block of keys. -/
abbrev first : Prop := Scalar.cmpi .ne (Scalar.extui (Scalar.cmpi .eq (BitVec.ofNat 32 (i 1).val) 0#32) : BitVec 32) 0#32 = 1#1

/-- What the point leaves in the keys' gradient (transposed): its part added to what it found, or to zero. -/
def dkNext (x : Vec F S64x1280 .f32) : Vec F S64x1280 .f32 :=
  k0_pay1 (k0_pay70 (if first i then k0_pay2 else x)) (k0_pay71 b.qt) (k0_pay72 b.qt) (k0_pay73 b.qt) (k0_pay74 b.qt)
    (k0_pay75 b.qt) (k0_pay76 b.qt) (dsBuf b)

/-- What it leaves in the values' gradient (transposed). -/
def dvNext (x : Vec F S64x1280 .f32) : Vec F S64x1280 .f32 :=
  k0_pay69 (if first i then k0_pay3 else x) b.ctt (pBuf b)

/-- The block of keys is the first, or it is not: never both branches, never neither. -/
theorem cond3_iff : k0_cond3 i = 1#1 ↔ ¬ k0_cond2 i = 1#1 := by
  have h : ∀ j : Fin 13, (Scalar.cmpi .ne (Scalar.extui (Scalar.cmpi .sgt (BitVec.ofNat 32 j.val) 0#32) : BitVec 32) 0#32 = 1#1 ↔
      ¬ Scalar.cmpi .ne (Scalar.extui (Scalar.cmpi .eq (BitVec.ofNat 32 j.val) 0#32) : BitVec 32) 0#32 = 1#1) := by
    decide +kernel
  exact h (i 0)

/-- One write over any contents, read back: the write's payload on its rectangle, the contents elsewhere. -/
theorem read_write_overlay {κ : Kind} {sp : Space} {s : Shape} {e : EltTy} (v : View sig κ sp s e) (f : v.ty.Contents (Elt F))
    (r : Rect s) (w : r.shape.Idx → Elt F e) :
    v.read (Elt F) (v.writes (Elt F) f [(⟨r, w⟩ : View.Piece (Elt F) s e)]) = r.overlay (v.read (Elt F) f) w := by
  funext y
  by_cases hy : y ∈ r.set
  · obtain ⟨x, rfl⟩ := r.exists_idx_of_mem hy
    exact (View.read_writes_cons_emb v f r w [] x).trans (r.overlay_emb _ w x).symm
  · rw [r.overlay_of_not_mem _ _ hy, View.writes_cons]
    exact View.read_slice_write_of_not_mem r _ _ _ (by rwa [Rect.map_emb_univ])

/-- A covering write, the newest of several, read back. -/
theorem read_writes_whole {κ : Kind} {sp : Space} {s : Shape} {e : EltTy} (v : View sig κ sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ fun y => ⟨_, List.mem_cons_self, View.mem_set_unit_zero (funext h) inb y⟩]
  exact View.canon_cons_unit_zero (funext h) inb w L

/-- A whole load of what stores left: their contents. -/
theorem readCov_whole {κ : Kind} {sp : Space} {s : Shape} {e : EltTy} (v : View sig κ sp s e)
    {off : Fin s.rank → ℕ} (h : ∀ a, off a = 0) (inb : ∀ a, off a + s.size a ≤ s.size a) (L : List (View.Piece (Elt F) s e)) :
    v.readCov L (Rect.unit off (no_index s.size) inb).toLoadRect = View.canon L :=
  (View.readCov_eq_canon' v L _).trans (View.ld_unit_zero (funext h) inb (View.canon L))

set_option maxHeartbeats 2000000 in
/-- THE BODY AT A POINT: from the input blocks and the three outputs' buffers it leaves the inputs as they were, the
outputs' buffers at `dqNext`, `dkNext`, `dvNext`, and the two scratch buffers at something. -/
theorem body_run (c : Dev nD) (arg2 : Memref sig .tc .vmem S512x256 .bf16) (harg2 : arg2.IsWhole) (arg3 : Memref sig .tc .vmem S256x512 .bf16) (harg3 : arg3.IsWhole) (arg4 : Memref sig .tc .vmem S1280x256 .bf16) (harg4 : arg4.IsWhole) (arg5 : Memref sig .tc .vmem S1280x256 .bf16) (harg5 : arg5.IsWhole) (arg6 : Memref sig .tc .vmem S512x256 .f32) (harg6 : arg6.IsWhole) (arg7 : Memref sig .tc .vmem S256x512 .bf16) (harg7 : arg7.IsWhole) (arg8 : Memref sig .tc .vmem S1x1x2048x1 .f32) (harg8 : arg8.IsWhole) (arg9 : Memref sig .tc .vmem S1x1x2048x1 .f32) (harg9 : arg9.IsWhole) (arg10 : Memref sig .tc .vmem S16384x256 .f32) (harg10 : arg10.IsWhole) (arg11 : Memref sig .tc .vmem S64x1280 .f32) (harg11 : arg11.IsWhole) (arg12 : Memref sig .tc .vmem S64x1280 .f32) (harg12 : arg12.IsWhole) (arg13 : Memref sig .tc .vmem S2048x1280 .bf16) (harg13 : arg13.IsWhole) (arg14 : Memref sig .tc .vmem S2048x1280 .bf16) (harg14 : arg14.IsWhole)
    (x8 : Vec F S16384x256 .f32) (x9 x10 : Vec F S64x1280 .f32) (E : Set ℕ) (K : PUnit → sProp 𝕄) :
    iprop(owns (c : Thread nD τ) arg2 fullShare b.q ∗ owns (c : Thread nD τ) arg3 fullShare b.qt ∗ owns (c : Thread nD τ) arg4 fullShare b.k ∗ owns (c : Thread nD τ) arg5 fullShare b.v ∗ owns (c : Thread nD τ) arg6 fullShare b.ct ∗ owns (c : Thread nD τ) arg7 fullShare b.ctt ∗ owns (c : Thread nD τ) arg8 fullShare b.lse ∗ owns (c : Thread nD τ) arg9 fullShare b.delta ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
        ∗ (iprop(owns (c : Thread nD τ) arg2 fullShare b.q ∗ owns (c : Thread nD τ) arg3 fullShare b.qt ∗ owns (c : Thread nD τ) arg4 fullShare b.k ∗ owns (c : Thread nD τ) arg5 fullShare b.v ∗ owns (c : Thread nD τ) arg6 fullShare b.ct ∗ owns (c : Thread nD τ) arg7 fullShare b.ctt ∗ owns (c : Thread nD τ) arg8 fullShare b.lse ∗ owns (c : Thread nD τ) arg9 fullShare b.delta ∗ owns (c : Thread nD τ) arg10 fullShare (dqNext i b x8) ∗ owns (c : Thread nD τ) arg11 fullShare (dkNext i b x9) ∗ owns (c : Thread nD τ) arg12 fullShare (dvNext i b x10) ∗ (∃ d, owns (c : Thread nD τ) arg13 fullShare d) ∗ (∃ d, owns (c : Thread nD τ) arg14 fullShare d)) -∗ K ⟨⟩))
      ⊢ wp frame (wpE (defs₀ (F := F)) Variants.none c none) E (cc0_glob_bwd_h0 i arg2 harg2 arg3 harg3 arg4 harg4 arg5 harg5 arg6 harg6 arg7 harg7 arg8 harg8 arg9 harg9 arg10 harg10 arg11 harg11 arg12 harg12 arg13 harg13 arg14 harg14) K := by
  simp only [cc0_glob_bwd_h0_eq_skeleton]; unfold cc0_glob_bwd_h0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, %f13, -, HS0⟩, ⟨%d14, %f14, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  have hc3 := cond3_iff i
  by_cases hc0 : first i <;> by_cases hc1 : k0_cond2 i = 1#1
  all_goals
    have hc2 : k0_cond3 i = 1#1 ↔ _ := hc3
    simp only [hc1, not_true_eq_false, not_false_eq_true, iff_true, iff_false] at hc2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexact H8
      · ipureintro
        refine (read_write_overlay _ _ _ _).trans ?_
        sl_unfold_run_names
        simp (disch := decide) only [View.canon_cons_unit_lit', View.ld_unit_lit', View.readCov_unit_lit', readCov_whole, View.readAt_eq_ld, Memref.IsWhole.read_unread]
        first | exact congrArg ((qrows i).overlay x8) (if_pos hc1).symm | exact congrArg ((qrows i).overlay x8) (if_neg hc1).symm
    isplitl [H9]
    · iexists _; isplitr; swap
      · iexact H9
      · ipureintro
        rw [read_writes_whole _ _ (by decide)]
        sl_unfold_run_names
        simp (disch := decide) only [View.canon_cons_unit_lit', View.ld_unit_lit', View.readCov_unit_lit', readCov_whole, View.readAt_eq_ld, Memref.IsWhole.read_unread]
        unfold dkNext
        first | rw [if_pos hc0] | rw [if_neg hc0]
        rfl
    isplitl [H10]
    · iexists _; isplitr; swap
      · iexact H10
      · ipureintro
        rw [read_writes_whole _ _ (by decide)]
        sl_unfold_run_names
        simp (disch := decide) only [View.canon_cons_unit_lit', View.ld_unit_lit', View.readCov_unit_lit', readCov_whole, View.readAt_eq_ld, Memref.IsWhole.read_unread]
        unfold dvNext
        first | rw [if_pos hc0] | rw [if_neg hc0]
        rfl
    isplitl [HS0]
    · iexists _; iexists _; isplitr; swap
      · iexact HS0
      · ipureintro; exact rfl
    iexists _; iexists _; isplitr; swap
    · iexact HS1
    · ipureintro; exact rfl

end Cert.GlobIdeal.Grad

end
-- ==== Proof.Glob.Blocks.lean ====
module

public import proofs.«01_k».proof.Proof.Glob.Run
public import Idealize.ShloMosaic.Lib.Pointwise

/-! # The point's blocks, entry by entry over the extended reals

A stacked row names a query of the point's block and a query head of the group: two tiles of 256 queries, each four
times over, once for each head. -/

@[expose] public section

set_option maxRecDepth 16384

noncomputable section

namespace Cert.GlobIdeal.Grad

open Cert.GlobIdeal Cert.GlobIdeal.Gen
open Idealize.ShloMosaic Idealize.ShloMosaic.TcCoe Idealize.SL.Sem

variable (b : Blk Ideal)

/-- The query of stacked row `r`, within the point's block. -/
def qrow (r : Fin 2048) : Fin 512 := ⟨r.val / 1024 * 256 + r.val % 256, by omega⟩

/-- The head of stacked row `r`, within the group. -/
def grp (r : Fin 2048) : Fin 4 := ⟨r.val % 1024 / 256, by omega⟩

/-- The lanes of head `n` are those whose number, shifted right by six, is `n`. -/
theorem select_head {α : Type} (c : Fin 256) (n : ℕ) (hn : n < 4) (x y : α) :
    Scalar.select (IntOp.cmpi .eq (IntOp.shrsi .vector (BitVec.ofNat 32 c.val) 6#32) (BitVec.ofNat 32 n)) x y
      = if c.val / 64 = n then x else y := by
  have h : ∀ (c : Fin 256) (n : Fin 4), (IntOp.cmpi .eq (IntOp.shrsi .vector (BitVec.ofNat 32 c.val) 6#32)
      (BitVec.ofNat 32 n.val) = 1#1) ↔ c.val / 64 = n.val := by decide +kernel
  exact if_congr (h c ⟨n, hn⟩) rfl rfl

/-- The eight tiles of the stack, one below the other, are one rule. -/
theorem stack_ite (x : S512x256.Idx → EReal) (r : Fin 2048) (c : Fin 256) :
    (if h : r.val < 1024 then
      if h1 : r.val < 256 then if c.val / 64 = 0 then x (ix2 ⟨r.val, by omega⟩ c) else 0
      else if h2 : r.val - 256 < 256 then if c.val / 64 = 1 then x (ix2 ⟨r.val - 256, by omega⟩ c) else 0
      else if h3 : r.val - 256 - 256 < 256 then if c.val / 64 = 2 then x (ix2 ⟨r.val - 256 - 256, by omega⟩ c) else 0
      else if c.val / 64 = 3 then x (ix2 ⟨r.val - 256 - 256 - 256, by omega⟩ c) else 0
    else
      if h1 : r.val - 1024 < 256 then if c.val / 64 = 0 then x (ix2 ⟨256 + (r.val - 1024), by omega⟩ c) else 0
      else if h2 : r.val - 1024 - 256 < 256 then
        if c.val / 64 = 1 then x (ix2 ⟨256 + (r.val - 1024 - 256), by omega⟩ c) else 0
      else if h3 : r.val - 1024 - 256 - 256 < 256 then
        if c.val / 64 = 2 then x (ix2 ⟨256 + (r.val - 1024 - 256 - 256), by omega⟩ c) else 0
      else if c.val / 64 = 3 then x (ix2 ⟨256 + (r.val - 1024 - 256 - 256 - 256), by omega⟩ c) else 0)
    = if c.val / 64 = r.val % 1024 / 256 then x (ix2 (qrow r) c) else 0 := by
  have hr := r.isLt
  have key : ∀ (a : Fin 512) (n : ℕ), a.val = r.val / 1024 * 256 + r.val % 256 → n = r.val % 1024 / 256 →
      (if c.val / 64 = n then x (ix2 a c) else 0) = if c.val / 64 = r.val % 1024 / 256 then x (ix2 (qrow r) c) else 0 :=
    fun a n ha hn => by rw [hn, show a = qrow r from Fin.ext ha]
  split
  · split
    · exact key _ _ (by show _ = _; dsimp only; omega) (by omega)
    · split
      · exact key _ _ (by dsimp only; omega) (by omega)
      · split
        · exact key _ _ (by dsimp only; omega) (by omega)
        · exact key _ _ (by dsimp only; omega) (by omega)
  · split
    · exact key _ _ (by dsimp only; omega) (by omega)
    · split
      · exact key _ _ (by dsimp only; omega) (by omega)
      · split
        · exact key _ _ (by dsimp only; omega) (by omega)
        · exact key _ _ (by dsimp only; omega) (by omega)

/-- The stacked queries: a row keeps its own head's lanes. -/
theorem qs_apply (r : Fin 2048) (c : Fin 256) :
    qs b (ix2 r c : S2048x256.Idx) = if c.val / 64 = r.val % 1024 / 256 then b.q (ix2 (qrow r) c) else 0 := by
  pointwise [qs, k0_pay4, k0_pay5, k0_pay6, k0_pay7, k0_pay8, k0_pay9, k0_pay10]
  simp only [select_head c 0 (by decide), select_head c 1 (by decide), select_head c 2 (by decide),
    select_head c 3 (by decide)]
  exact stack_ite b.q r c

/-- The stacked cotangent likewise. -/
theorem cs_apply (r : Fin 2048) (c : Fin 256) :
    cs b (ix2 r c : S2048x256.Idx) = if c.val / 64 = r.val % 1024 / 256 then b.ct (ix2 (qrow r) c) else 0 := by
  pointwise [cs, k0_pay11, k0_pay12, k0_pay13, k0_pay14, k0_pay15, k0_pay16]
  simp only [select_head c 0 (by decide), select_head c 1 (by decide), select_head c 2 (by decide),
    select_head c 3 (by decide)]
  exact stack_ite b.ct r c

/-- The probability that stacked row `r` gives key `l` of the point's block. -/
def pE (r : Fin 2048) (l : Fin 1280) : EReal :=
  Ideal.exp (∑ c : Fin 256, qs b (ix2 r c) * b.k (ix2 l c) - b.lse (ix4 0 0 r 0))

/-- The gradient of their score. -/
def dsE (r : Fin 2048) (l : Fin 1280) : EReal :=
  pE b r l * (∑ c : Fin 256, cs b (ix2 r c) * b.v (ix2 l c) - b.delta (ix4 0 0 r 0))

theorem tile_lo (x : FVec Ideal S2048x256 .bf16) (l : Vec Ideal S1x1x2048x1 .f32) (k : Vec Ideal S256x256 .bf16)
    (r : Fin 2048) (a : Fin 128) :
    k0_pay57 x (k0_pay17 l) k (ix2 r a : S2048x128.Idx)
      = Ideal.exp (∑ c : Fin 256, x (ix2 r c) * k (ix2 ⟨a.val, by omega⟩ c) - l (ix4 0 0 r 0)) := by
  pointwise [k0_pay57, k0_pay56, k0_pay54, k0_pay17]

theorem tile_hi (x : FVec Ideal S2048x256 .bf16) (l : Vec Ideal S1x1x2048x1 .f32) (k : Vec Ideal S256x256 .bf16)
    (r : Fin 2048) (a : Fin 128) :
    k0_pay60 x (k0_pay17 l) k (ix2 r a : S2048x128.Idx)
      = Ideal.exp (∑ c : Fin 256, x (ix2 r c) * k (ix2 ⟨128 + a.val, by omega⟩ c) - l (ix4 0 0 r 0)) := by
  pointwise [k0_pay60, k0_pay59, k0_pay54, k0_pay17]

theorem dtile_lo (x w : FVec Ideal S2048x256 .bf16) (l d : Vec Ideal S1x1x2048x1 .f32) (k v : Vec Ideal S256x256 .bf16)
    (r : Fin 2048) (a : Fin 128) :
    k0_pay58 x w (k0_pay17 l) (k0_pay18 d) k v (ix2 r a : S2048x128.Idx)
      = k0_pay57 x (k0_pay17 l) k (ix2 r a : S2048x128.Idx)
        * (∑ c : Fin 256, w (ix2 r c) * v (ix2 ⟨a.val, by omega⟩ c) - d (ix4 0 0 r 0)) := by
  pointwise [k0_pay58, k0_pay57, k0_pay56, k0_pay55, k0_pay54, k0_pay17, k0_pay18]

theorem dtile_hi (x w : FVec Ideal S2048x256 .bf16) (l d : Vec Ideal S1x1x2048x1 .f32) (k v : Vec Ideal S256x256 .bf16)
    (r : Fin 2048) (a : Fin 128) :
    k0_pay61 x w (k0_pay17 l) (k0_pay18 d) k v (ix2 r a : S2048x128.Idx)
      = k0_pay60 x (k0_pay17 l) k (ix2 r a : S2048x128.Idx)
        * (∑ c : Fin 256, w (ix2 r c) * v (ix2 ⟨128 + a.val, by omega⟩ c) - d (ix4 0 0 r 0)) := by
  pointwise [k0_pay61, k0_pay60, k0_pay59, k0_pay55, k0_pay54, k0_pay17, k0_pay18]

theorem rows_apply (x : Vec Ideal S1280x256 .bf16) (o : ℕ) (h) (a c : Fin 256) (l : Fin 1280) (hl : l.val = o + a.val) :
    rows x o h (ix2 a c : S256x256.Idx) = x (ix2 l c) := by
  pointwise [rows]
  blk_ext

/-- A tile of 128 keys, the first half of its 256, and the second. -/
theorem p_lo (o : ℕ) (h) (r : Fin 2048) (a : Fin 128) (l : Fin 1280) (hl : l.val = o + a.val) :
    k0_pay57 (qs b) (k0_pay17 b.lse) (rows b.k o h) (ix2 r a : S2048x128.Idx) = pE b r l :=
  (tile_lo _ _ _ r a).trans (congrArg (fun s => Ideal.exp (s - b.lse (ix4 0 0 r 0)))
    (Finset.sum_congr rfl fun c _ => congrArg (qs b (ix2 r c) * ·) (rows_apply b.k o h _ c l hl)))

theorem p_hi (o : ℕ) (h) (r : Fin 2048) (a : Fin 128) (l : Fin 1280) (hl : l.val = o + 128 + a.val) :
    k0_pay60 (qs b) (k0_pay17 b.lse) (rows b.k o h) (ix2 r a : S2048x128.Idx) = pE b r l :=
  (tile_hi _ _ _ r a).trans (congrArg (fun s => Ideal.exp (s - b.lse (ix4 0 0 r 0)))
    (Finset.sum_congr rfl fun c _ => congrArg (qs b (ix2 r c) * ·) (rows_apply b.k o h _ c l (by dsimp only; omega))))

theorem ds_lo (o : ℕ) (h) (r : Fin 2048) (a : Fin 128) (l : Fin 1280) (hl : l.val = o + a.val) :
    k0_pay58 (qs b) (cs b) (k0_pay17 b.lse) (k0_pay18 b.delta) (rows b.k o h) (rows b.v o h) (ix2 r a : S2048x128.Idx) = dsE b r l :=
  (dtile_lo _ _ _ _ _ _ r a).trans (congrArg₂ (fun p s => p * (s - b.delta (ix4 0 0 r 0))) (p_lo b o h r a l hl)
    (Finset.sum_congr rfl fun c _ => congrArg (cs b (ix2 r c) * ·) (rows_apply b.v o h _ c l hl)))

theorem ds_hi (o : ℕ) (h) (r : Fin 2048) (a : Fin 128) (l : Fin 1280) (hl : l.val = o + 128 + a.val) :
    k0_pay61 (qs b) (cs b) (k0_pay17 b.lse) (k0_pay18 b.delta) (rows b.k o h) (rows b.v o h) (ix2 r a : S2048x128.Idx) = dsE b r l :=
  (dtile_hi _ _ _ _ _ _ r a).trans (congrArg₂ (fun p s => p * (s - b.delta (ix4 0 0 r 0))) (p_hi b o h r a l hl)
    (Finset.sum_congr rfl fun c _ => congrArg (cs b (ix2 r c) * ·) (rows_apply b.v o h _ c l (by dsimp only; omega))))

section
variable {F : FTy → Type} [FloatOps F] (x w : FVec F S2048x256 .bf16) (l d : Vec F S1x1x2048x1 .f32) (k v : Vec F S256x256 .bf16)

/-- The ten stores print the same two operations in several cuts; each is one of the two. -/
theorem p0 : k0_pay23 (k0_pay22 x l k) = k0_pay57 x (k0_pay17 l) k := rfl
theorem p1 : k0_pay26 (k0_pay17 l) (k0_pay19 x k) = k0_pay60 x (k0_pay17 l) k := rfl
theorem p2 : k0_pay31 x (k0_pay17 l) k = k0_pay57 x (k0_pay17 l) k := rfl
theorem p3 : k0_pay35 (k0_pay17 l) (k0_pay28 x k) = k0_pay60 x (k0_pay17 l) k := rfl
theorem p4 : k0_pay40 x (k0_pay17 l) k = k0_pay57 x (k0_pay17 l) k := rfl
theorem p5 : k0_pay43 (k0_pay42 x (k0_pay17 l) k) = k0_pay60 x (k0_pay17 l) k := rfl
theorem p6 : k0_pay48 x (k0_pay17 l) k = k0_pay57 x (k0_pay17 l) k := rfl
theorem p7 : k0_pay51 x (k0_pay17 l) k = k0_pay60 x (k0_pay17 l) k := rfl
theorem d0 (b : Blk F) : k0_pay24 (k0_pay18 d) (cv0 b v) (k0_pay21 x l k) = k0_pay58 x (cs b) (k0_pay17 l) (k0_pay18 d) k v := rfl
theorem d1 (b : Blk F) : k0_pay27 (k0_pay17 l) (k0_pay18 d) (k0_pay19 x k) (cv0 b v)
    = k0_pay61 x (cs b) (k0_pay17 l) (k0_pay18 d) k v := rfl
theorem d2 : k0_pay33 (k0_pay32 x w (k0_pay17 l) (k0_pay18 d) k v) = k0_pay58 x w (k0_pay17 l) (k0_pay18 d) k v := rfl
theorem d3 : k0_pay36 (k0_pay17 l) (k0_pay18 d) (k0_pay28 x k) (k0_pay29 w v) = k0_pay61 x w (k0_pay17 l) (k0_pay18 d) k v := rfl
theorem d4 : k0_pay41 x w (k0_pay17 l) (k0_pay18 d) k v = k0_pay58 x w (k0_pay17 l) (k0_pay18 d) k v := rfl
theorem d5 : k0_pay44 (k0_pay18 d) (k0_pay38 w v) (k0_pay42 x (k0_pay17 l) k) = k0_pay61 x w (k0_pay17 l) (k0_pay18 d) k v := rfl
theorem d6 : k0_pay49 x w (k0_pay17 l) (k0_pay18 d) k v = k0_pay58 x w (k0_pay17 l) (k0_pay18 d) k v := rfl
theorem d7 : k0_pay53 (k0_pay18 d) (k0_pay50 x (k0_pay17 l) k) (k0_pay52 w v) = k0_pay61 x w (k0_pay17 l) (k0_pay18 d) k v := rfl
end

/-- The buffer of probabilities and that of score gradients, whole. -/
theorem pBuf_apply (r : Fin 2048) (l : Fin 1280) : pBuf b (ix2 r l) = pE b r l := by
  unfold pBuf pTiles
  rw [p0, p1, p2, p3, p4, p5, p6, p7]
  canon_tiles x h
  all_goals
    idx_vars x
    obtain rfl : r = x0 := Fin.ext h0
    first
      | with_reducible exact p_hi b _ _ r x1 l (by omega)
      | with_reducible exact p_lo b _ _ r x1 l (by omega)

theorem dsBuf_apply (r : Fin 2048) (l : Fin 1280) : dsBuf b (ix2 r l) = dsE b r l := by
  unfold dsBuf dsTiles
  rw [d0, d1, d2, d3, d4, d5, d6, d7]
  canon_tiles x h
  all_goals
    idx_vars x
    obtain rfl : r = x0 := Fin.ext h0
    first
      | with_reducible exact ds_hi b _ _ r x1 l (by omega)
      | with_reducible exact ds_lo b _ _ r x1 l (by omega)

end Cert.GlobIdeal.Grad
-- ==== Proof.Glob.Steps.lean ====
module

public import proofs.«01_k».proof.Proof.Glob.Blocks

/-! # What a point adds to each gradient

Over the extended reals a point adds to dq the score gradients against the keys, each query head read off its own row of
the stack; to dk the transposed queries against the score gradients, and to dv the transposed cotangent against the
probabilities, over all stacked rows. -/

@[expose] public section

set_option maxRecDepth 16384

noncomputable section

namespace Cert.GlobIdeal.Grad

open Cert.GlobIdeal Cert.GlobIdeal.Gen
open Idealize.ShloMosaic Idealize.ShloMosaic.TcCoe Idealize.SL.Sem

variable (i : grid0.Coords) (b : Blk Ideal)

/-- The stacked row of query `a` and lane `c`'s head. -/
def srow (a : Fin 512) (c : Fin 256) : Fin 2048 := ⟨a.val / 256 * 1024 + c.val / 64 * 256 + a.val % 256, by omega⟩

/-- The lane of stacked row `r`'s head that is its `e`th. -/
def lane (e : Fin 64) (r : Fin 2048) : Fin 256 := ⟨r.val % 1024 / 256 * 64 + e.val, by omega⟩

theorem dq_fold (d : Vec Ideal S2048x1280 .bf16) (k : Vec Ideal S1280x256 .bf16) (a : Fin 512) (c : Fin 256) :
    k0_pay67 (k0_pay63 d k) (k0_pay64 d k) k0_pay65 (k0_pay66 d k) 3#32 (ix2 a c : S512x256.Idx)
      = ∑ l : Fin 1280, d (ix2 (srow a c) l) * k (ix2 l c) := by
  pointwise [k0_pay67, k0_pay63, k0_pay64, k0_pay65, k0_pay66, k0_pay62]
  simp only [select_head c 0 (by decide), select_head c 1 (by decide), select_head c 2 (by decide),
    select_head c 3 (by decide)]
  have key : ∀ r : Fin 2048, r.val = a.val / 256 * 1024 + c.val / 64 * 256 + a.val % 256 →
      ∑ l : Fin 1280, d (ix2 r l) * k (ix2 l c) = ∑ l : Fin 1280, d (ix2 (srow a c) l) * k (ix2 l c) :=
    fun r hr => by rw [show r = srow a c from Fin.ext hr]
  have hc := c.isLt
  repeat' split
  all_goals first
    | (refine key _ ?_; dsimp only; omega)
    | (exfalso; omega)

/-- One of the eight tiles, laid side by side, of the transposed queries or cotangent. -/
theorem tile_cols (q : Vec Ideal S256x512 .bf16) (e : Fin 64) (x : Fin 2048) :
    (if h : x.val < 256 then q (ix2 ⟨e.val, by omega⟩ ⟨x.val, by omega⟩)
      else if h : x.val - 256 < 256 then q (ix2 ⟨64 + e.val, by omega⟩ ⟨x.val - 256, by omega⟩)
      else if h : x.val - 256 - 256 < 256 then q (ix2 ⟨128 + e.val, by omega⟩ ⟨x.val - 256 - 256, by omega⟩)
      else if h : x.val - 256 - 256 - 256 < 256 then q (ix2 ⟨192 + e.val, by omega⟩ ⟨x.val - 256 - 256 - 256, by omega⟩)
      else if h : x.val - 256 - 256 - 256 - 256 < 256 then
        q (ix2 ⟨e.val, by omega⟩ ⟨256 + (x.val - 256 - 256 - 256 - 256), by omega⟩)
      else if h : x.val - 256 - 256 - 256 - 256 - 256 < 256 then
        q (ix2 ⟨64 + e.val, by omega⟩ ⟨256 + (x.val - 256 - 256 - 256 - 256 - 256), by omega⟩)
      else if h : x.val - 256 - 256 - 256 - 256 - 256 - 256 < 256 then
        q (ix2 ⟨128 + e.val, by omega⟩ ⟨256 + (x.val - 256 - 256 - 256 - 256 - 256 - 256), by omega⟩)
      else q (ix2 ⟨192 + e.val, by omega⟩ ⟨256 + (x.val - 256 - 256 - 256 - 256 - 256 - 256 - 256), by omega⟩))
      = q (ix2 (lane e x) (qrow x)) := by
  have key : ∀ (u : Fin 256) (v : Fin 512), u.val = x.val % 1024 / 256 * 64 + e.val → v.val = x.val / 1024 * 256 + x.val % 256 →
      q (ix2 u v) = q (ix2 (lane e x) (qrow x)) :=
    fun u v hu hv => by rw [show u = lane e x from Fin.ext hu, show v = qrow x from Fin.ext hv]
  have hx := x.isLt
  repeat' split
  all_goals (refine key _ _ ?_ ?_ <;> dsimp only <;> omega)

theorem dk_add (x : Vec Ideal S64x1280 .f32) (q : Vec Ideal S256x512 .bf16) (d : Vec Ideal S2048x1280 .bf16) (e : Fin 64) (l : Fin 1280) :
    k0_pay1 (k0_pay70 x) (k0_pay71 q) (k0_pay72 q) (k0_pay73 q) (k0_pay74 q)
      (k0_pay75 q) (k0_pay76 q) d (ix2 e l : S64x1280.Idx)
      = x (ix2 e l) + ∑ r : Fin 2048, q (ix2 (lane e r) (qrow r)) * d (ix2 r l) := by
  pointwise [k0_pay1, k0_pay70, k0_pay71, k0_pay72, k0_pay73, k0_pay74, k0_pay75, k0_pay76]
  exact congrArg (x (ix2 e l) + ·) (Finset.sum_congr rfl fun r _ => congrArg (· * d (ix2 r l)) (tile_cols q e r))

theorem dv_add (x : Vec Ideal S64x1280 .f32) (q : Vec Ideal S256x512 .bf16) (d : Vec Ideal S2048x1280 .bf16) (e : Fin 64) (l : Fin 1280) :
    k0_pay69 x q d (ix2 e l : S64x1280.Idx)
      = x (ix2 e l) + ∑ r : Fin 2048, q (ix2 (lane e r) (qrow r)) * d (ix2 r l) := by
  pointwise [k0_pay69]
  exact congrArg (x (ix2 e l) + ·) (Finset.sum_congr rfl fun r _ => congrArg (· * d (ix2 r l)) (tile_cols q e r))

/-- The point's part of dq. -/
theorem dqPart_apply (a : Fin 512) (c : Fin 256) :
    dqPart b (ix2 a c) = ∑ l : Fin 1280, dsE b (srow a c) l * b.k (ix2 l c) :=
  (dq_fold (dsBuf b) b.k a c).trans (Finset.sum_congr rfl fun l _ => congrArg (· * b.k (ix2 l c)) (dsBuf_apply b _ l))

/-- The point's step of dk and of dv. -/
theorem dkNext_apply (x : Vec Ideal S64x1280 .f32) (e : Fin 64) (l : Fin 1280) :
    dkNext i b x (ix2 e l)
      = (if first i then 0 else x (ix2 e l)) + ∑ r : Fin 2048, b.qt (ix2 (lane e r) (qrow r)) * dsE b r l := by
  refine (dk_add _ _ _ e l).trans (congrArg₂ (· + ·) ?_ (Finset.sum_congr rfl fun r _ => congrArg (_ * ·) (dsBuf_apply b r l)))
  by_cases h : first i
  · rw [if_pos h, if_pos h]; pointwise [k0_pay2]
  · rw [if_neg h, if_neg h]

theorem dvNext_apply (x : Vec Ideal S64x1280 .f32) (e : Fin 64) (l : Fin 1280) :
    dvNext i b x (ix2 e l)
      = (if first i then 0 else x (ix2 e l)) + ∑ r : Fin 2048, b.ctt (ix2 (lane e r) (qrow r)) * pE b r l := by
  refine (dv_add _ _ _ e l).trans (congrArg₂ (· + ·) ?_ (Finset.sum_congr rfl fun r _ => congrArg (_ * ·) (pBuf_apply b r l)))
  by_cases h : first i
  · rw [if_pos h, if_pos h]; pointwise [k0_pay3]
  · rw [if_neg h, if_neg h]

end Cert.GlobIdeal.Grad
-- ==== Proof.Glob.Frame.lean ====
module

public import proofs.«01_k».proof.Proof.Glob.Run

/-! # The frame of the global attention's backward call

The pipeline with relational proof data: an input's buffer is left as found, an output's as `Run` says from what was found
there. So every run ends, the arguments are as launched and the counters are zero. -/

@[expose] public section

set_option maxRecDepth 16384

noncomputable section

namespace Cert.GlobIdeal.Grad

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the inputs at point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- The proof data: what the body leaves in each window's buffer, from what it finds there. -/
def rd (c : Dev nD) : RDat τ (Elt F) Unit ℕ (UR sig nD τ) ℕ cfg0 c where
  A := fun w => V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => X = dqNext (grid0.coords t) (blk m c t) Y
    | 9 => fun t Y X => X = dkNext (grid0.coords t) (blk m c t) Y
    | 10 => fun t Y X => X = dvNext (grid0.coords t) (blk m c t) Y
  Φ := fun _ => Pipeline.ΦA spec0 c
  q := fun _ => fullShare
  owed := fun _ => 0

/-- The scratch buffers and the generator's register, as the body takes them. -/
theorem phi_eq (c : Dev nD) :
    (Pipeline.ΦA spec0 c : sProp 𝕄)
      = iprop(iprop((∃ d, owns (c : Thread nD τ) (Memref.whole cc0_scratch0 : Memref sig .tc .vmem S2048x1280 .bf16) fullShare d)
          ∗ (∃ d, owns (c : Thread nD τ) (Memref.whole cc0_scratch1 : Memref sig .tc .vmem S2048x1280 .bf16) fullShare d)) ∗ (∃ r, prngReg c r)) := by
  unfold Pipeline.ΦA; rw [scopedRest0_eq]; simp only [owns_whole]; try rfl

/-- The body table's row at point `t`. -/
theorem body_row (t : Fin cfg0.N) :
    defs₀ (F := F) .tc cfg0.body (cfg0.bodyArgs t (cfg0.slots t)) = bodyAt0 t := by
  unfold defs₀; rw [Defs.onTc_tc]

set_option maxHeartbeats 2000000 in
/-- The body keeps the proof data's promise at every point. -/
theorem body_ok (c : Dev nD) : (rd m c).BodyObligation (defs₀ (F := F)) Variants.none () Set.univ := by
  intro t Y hY
  have e0 : Y 0 = iblk m c 0 t := ((rd m c).finds_in_eq_fetched 0 rfl (fun _ _ _ => rfl) (fun _ _ _ h => h) t (Y 0) (hY 0)).elim fun d hd => hd
  have e1 : Y 1 = iblk m c 1 t := ((rd m c).finds_in_eq_fetched 1 rfl (fun _ _ _ => rfl) (fun _ _ _ h => h) t (Y 1) (hY 1)).elim fun d hd => hd
  have e2 : Y 2 = iblk m c 2 t := ((rd m c).finds_in_eq_fetched 2 rfl (fun _ _ _ => rfl) (fun _ _ _ h => h) t (Y 2) (hY 2)).elim fun d hd => hd
  have e3 : Y 3 = iblk m c 3 t := ((rd m c).finds_in_eq_fetched 3 rfl (fun _ _ _ => rfl) (fun _ _ _ h => h) t (Y 3) (hY 3)).elim fun d hd => hd
  have e4 : Y 4 = iblk m c 4 t := ((rd m c).finds_in_eq_fetched 4 rfl (fun _ _ _ => rfl) (fun _ _ _ h => h) t (Y 4) (hY 4)).elim fun d hd => hd
  have e5 : Y 5 = iblk m c 5 t := ((rd m c).finds_in_eq_fetched 5 rfl (fun _ _ _ => rfl) (fun _ _ _ h => h) t (Y 5) (hY 5)).elim fun d hd => hd
  have e6 : Y 6 = iblk m c 6 t := ((rd m c).finds_in_eq_fetched 6 rfl (fun _ _ _ => rfl) (fun _ _ _ h => h) t (Y 6) (hY 6)).elim fun d hd => hd
  have e7 : Y 7 = iblk m c 7 t := ((rd m c).finds_in_eq_fetched 7 rfl (fun _ _ _ => rfl) (fun _ _ _ h => h) t (Y 7) (hY 7)).elim fun d hd => hd
  rw [bigSep_W0, bigSep_W0, body_row, show (rd m c).Φ t.castSucc = _ from phi_eq c, show (rd m c).Φ t.succ = _ from phi_eq c]
  rw [e0, e1, e2, e3, e4, e5, e6, e7]
  generalize Y 8 = y8; generalize Y 9 = y9; generalize Y 10 = y10
  have h := fun K => body_run (grid0.coords t) (blk m c t) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) y8 y9 y10 Set.univ K
  refine (?_ : _ ⊢ _).trans (h _)
  iintro ⟨⟨⟨HS0, HS1⟩, Hg⟩, Ho, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]
  · iexists _; isplitr; swap
    · iexact H0
    · ipureintro; rfl
  isplitl [H1]
  · iexists _; isplitr; swap
    · iexact H1
    · ipureintro; rfl
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H8]
  · iexists _; isplitr; swap
    · iexact H8
    · ipureintro; rfl
  isplitl [H9]
  · iexists _; isplitr; swap
    · iexact H9
    · ipureintro; rfl
  iexists _; isplitr; swap
  · iexact H10
  · ipureintro; rfl

set_option backward.isDefEq.respectTransparency.types false in
/-- THE RUN: every run of the program ends, each window's array at contents the proof data allow, every other buffer as the
region found it, every counter at zero. -/
theorem run : θ_run defs (onTc (τ := τ) (main (F := F))) (s₀ m ρ)
    (fun r => RDat.FramePost cfg0 (rd m) (V m) r ∧ r.2.sem = fun _ => 0) :=
  RDat.θ_run_frame cfgs 0 launch0 defs₀ Variants.none (rd m) m ρ main (fun c => body_ok m c) (fun _ _ => by
    unfold RDat.share; exact ite_self _) (fun _ _ => rfl) (V m) (hmain m Variants.none) (fun _ _ => rfl) (fun _ _ => rfl) _
    (fun _ h => h)

/-- THE FRAME: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (cast (congrFun ((rd m c).ArrAt_in 4 rfl _) _) ((h.1 c).1 4) : _ = _).trans (V_main_arg3 m c)⟩, h.2⟩) (run m ρ)

end Cert.GlobIdeal.Grad

end
-- ==== Proof.Glob.Sums.lean ====
module

public import proofs.«01_k».proof.Proof.Glob.Steps
public import proofs.«01_k».proof.Proof.Glob.Frame

/-! # What the gradients' buffers hold at each point

By induction on the points: the two accumulators hold the sum of the parts of the block of keys so far, and the buffer of dq
holds, in the rows of each block of queries, the sum of their parts over the blocks of keys so far. -/

@[expose] public section

set_option maxRecDepth 16384

noncomputable section

namespace Cert.GlobIdeal.Grad

open Cert.GlobIdeal Cert.GlobIdeal.Gen
open Idealize.ShloMosaic Idealize.ShloMosaic.TcCoe Idealize.SL.Sem
open Idealize.ShloMosaic.Pipeline (RDat)

variable (m : (ℓ : Loc nD τ sig) → Buf (Elt Ideal) ℓ) (c : Dev nD)

/-- The point of block of keys `j` and block of queries `i`. -/
def pt (j i : ℕ) : Fin cfg0.N := ⟨(32 * j + i) % 416, lt_of_lt_of_eq (Nat.mod_lt _ (by decide)) (by decide)⟩

theorem pt_self (t : Fin cfg0.N) : pt (t.val / 32) (t.val % 32) = t := by
  have h : t.val < 416 := lt_of_lt_of_eq t.isLt (by decide)
  exact Fin.ext (by show (32 * (t.val / 32) + t.val % 32) % 416 = t.val; omega)

theorem coords_val : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

theorem first_iff (t : Fin cfg0.N) : first (grid0.coords t) ↔ t.val % 32 = 0 := by
  have h : ∀ j : Fin 32, (Scalar.cmpi .ne (Scalar.extui (Scalar.cmpi .eq (BitVec.ofNat 32 j.val) 0#32) : BitVec 32) 0#32 = 1#1 ↔
      j.val = 0) := by decide +kernel
  rw [← (coords_val t).2]; exact h (grid0.coords t 1)

theorem cond2_iff (t : Fin cfg0.N) : k0_cond2 (grid0.coords t) = 1#1 ↔ t.val / 32 = 0 := by
  have h : ∀ j : Fin 13, (Scalar.cmpi .ne (Scalar.extui (Scalar.cmpi .eq (BitVec.ofNat 32 j.val) 0#32) : BitVec 32) 0#32 = 1#1 ↔
      j.val = 0) := by decide +kernel
  rw [← (coords_val t).1]; exact h (grid0.coords t 0)

/-- A point's part of dk and of dv. -/
def dkPart (b : Blk Ideal) (e : Fin 64) (l : Fin 1280) : EReal := ∑ r : Fin 2048, b.qt (ix2 (lane e r) (qrow r)) * dsE b r l
def dvPart (b : Blk Ideal) (e : Fin 64) (l : Fin 1280) : EReal := ∑ r : Fin 2048, b.ctt (ix2 (lane e r) (qrow r)) * pE b r l

/-- An accumulator that starts over at each block of keys and gains a part at each point holds the parts so far. -/
theorem acc_sum (L : Fin cfg0.N → (S64x1280.Idx → EReal) → Prop) (part : Fin cfg0.N → Fin 64 → Fin 1280 → EReal)
    (step : ∀ t X, L t X → ∃ Y, (∀ u : Fin cfg0.N, u.val + 1 = t.val → t.val % 32 ≠ 0 → L u Y)
      ∧ ∀ e l, X (ix2 e l) = (if t.val % 32 = 0 then 0 else Y (ix2 e l)) + part t e l) :
    ∀ (n : ℕ) (t : Fin cfg0.N), t.val = n → ∀ X, L t X → ∀ e l,
      X (ix2 e l) = ∑ i ∈ Finset.range (t.val % 32 + 1), part (pt (t.val / 32) i) e l := by
  intro n
  induction n with
  | zero =>
    intro t ht X hX e l
    obtain ⟨Y, -, h⟩ := step t X hX
    have h0 : t.val % 32 = 0 := by omega
    rw [h e l, if_pos h0, h0, zero_add, Finset.sum_range_one, show pt (t.val / 32) 0 = t by rw [← h0]; exact pt_self t]
  | succ n ih =>
    intro t ht X hX e l
    obtain ⟨Y, hY, h⟩ := step t X hX
    by_cases h0 : t.val % 32 = 0
    · rw [h e l, if_pos h0, h0, zero_add, Finset.sum_range_one, show pt (t.val / 32) 0 = t by rw [← h0]; exact pt_self t]
    · have hN : t.val < 416 := lt_of_lt_of_eq t.isLt (by decide)
      let u : Fin cfg0.N := ⟨n, by have := t.isLt; omega⟩
      have hu := ih u rfl Y (hY u ht.symm h0) e l
      have hu1 : u.val / 32 = t.val / 32 := by show n / 32 = _; omega
      have hu2 : u.val % 32 + 1 = t.val % 32 := by show n % 32 + 1 = _; omega
      rw [h e l, if_neg h0, hu, hu1, hu2, Finset.sum_range_succ, pt_self]

theorem leaves9 (t : Fin cfg0.N) (X : Vec Ideal S64x1280 .f32) (h : (rd m c).Leaves 9 t X) (e : Fin 64) (l : Fin 1280) :
    X (ix2 e l) = ∑ i ∈ Finset.range (t.val % 32 + 1), dkPart (blk m c (pt (t.val / 32) i)) e l := by
  refine acc_sum (fun t X => (rd m c).Leaves 9 t X) (fun t => dkPart (blk m c t)) ?_ t.val t rfl X h e l
  rintro t X ⟨Y, hY, hX⟩
  refine ⟨Y, fun u hu h0 => ?_, fun e l => ?_⟩
  · rcases ((rd m c).finds_of_pos (w := 9) (t := t) rfl (by omega) Y).mp hY with hf | hl
    · exact absurd ((flush0_9 _).mp hf) (by dsimp only; omega)
    · rwa [show (⟨t.val - 1, Nat.lt_of_le_of_lt (Nat.sub_le _ _) t.isLt⟩ : Fin cfg0.N) = u from Fin.ext (by show t.val - 1 = u.val; omega)] at hl
  · rw [show X = dkNext (grid0.coords t) (blk m c t) Y from hX, dkNext_apply]
    simp only [first_iff]; rfl

theorem leaves10 (t : Fin cfg0.N) (X : Vec Ideal S64x1280 .f32) (h : (rd m c).Leaves 10 t X) (e : Fin 64) (l : Fin 1280) :
    X (ix2 e l) = ∑ i ∈ Finset.range (t.val % 32 + 1), dvPart (blk m c (pt (t.val / 32) i)) e l := by
  refine acc_sum (fun t X => (rd m c).Leaves 10 t X) (fun t => dvPart (blk m c t)) ?_ t.val t rfl X h e l
  rintro t X ⟨Y, hY, hX⟩
  refine ⟨Y, fun u hu h0 => ?_, fun e l => ?_⟩
  · rcases ((rd m c).finds_of_pos (w := 10) (t := t) rfl (by omega) Y).mp hY with hf | hl
    · exact absurd ((flush0_10 _).mp hf) (by dsimp only; omega)
    · rwa [show (⟨t.val - 1, Nat.lt_of_le_of_lt (Nat.sub_le _ _) t.isLt⟩ : Fin cfg0.N) = u from Fin.ext (by show t.val - 1 = u.val; omega)] at hl
  · rw [show X = dvNext (grid0.coords t) (blk m c t) Y from hX, dvNext_apply]
    simp only [first_iff]; rfl

theorem dq_step (b : Blk Ideal) (x : Vec Ideal S512x256 .f32) (y : S512x256.Idx) :
    k0_pay68 (k0_pay63 (dsBuf b) b.k) (k0_pay64 (dsBuf b) b.k) k0_pay65 (k0_pay66 (dsBuf b) b.k) 3#32 x y = x y + dqPart b y := by
  unfold dqPart
  idx_vars y
  pointwise [k0_pay68]

/-- The rows that a point writes, and the others. -/
theorem dqNext_apply (t : Fin cfg0.N) (b : Blk Ideal) (x : Vec Ideal S16384x256 .f32) (A : Fin 16384) (c : Fin 256) :
    dqNext (grid0.coords t) b x (ix2 A c)
      = if A.val / 512 = t.val % 32 then
          (if t.val / 32 = 0 then 0 else x (ix2 A c)) + dqPart b (ix2 ⟨A.val % 512, by omega⟩ c)
        else x (ix2 A c) := by
  have ho : k0_off1 (grid0.coords t) = ![512 * (t.val % 32), 0] := by rw [off1, (coords_val t).2]
  have hm : t.val % 32 < 32 := Nat.mod_lt _ (by decide)
  unfold dqNext
  by_cases h : A.val / 512 = t.val % 32
  · rw [if_pos h]
    have he : (qrows (grid0.coords t)).emb (ix2 (⟨A.val % 512, by omega⟩ : Fin 512) c : S512x256.Idx) = (ix2 A c : S16384x256.Idx) := by
      unfold qrows
      refine funext fun a => ?_
      revert a
      refine Fin.forall_fin_two.mpr ⟨Fin.ext ?_, Fin.ext ?_⟩
      · show k0_off1 (grid0.coords t) 0 + 1 * (A.val % 512) = A.val
        rw [ho]; show 512 * (t.val % 32) + 1 * (A.val % 512) = A.val; omega
      · show k0_off1 (grid0.coords t) 1 + 1 * c.val = c.val
        rw [ho]; show 0 + 1 * c.val = c.val; omega
    refine (congrArg ((qrows (grid0.coords t)).overlay x (dqRows (grid0.coords t) b x)) he.symm).trans
      (((qrows (grid0.coords t)).overlay_emb x (dqRows (grid0.coords t) b x) _).trans ?_)
    unfold dqRows
    by_cases h2 : t.val / 32 = 0
    · rw [if_pos ((cond2_iff t).mpr h2), if_pos h2, zero_add]
    · rw [if_neg (fun h3 => h2 ((cond2_iff t).mp h3)), if_neg h2]
      exact (dq_step b _ _).trans (congrArg (· + dqPart b (ix2 ⟨A.val % 512, by omega⟩ c)) (congrArg x he))
  · rw [if_neg h]
    refine (qrows (grid0.coords t)).overlay_of_not_mem x (dqRows (grid0.coords t) b x) fun hm' => h ?_
    unfold qrows at hm'
    have h0 := Rect.mem_set_unit.mp hm' 0
    rw [ho] at h0
    have h1 : 512 * (t.val % 32) ≤ A.val := h0.1
    have h2 : A.val < 512 * (t.val % 32) + 512 := h0.2
    omega

/-- The sum, over the first `n` blocks of keys, of the parts of dq. -/
def dqSum (n : ℕ) (A : Fin 16384) (l : Fin 256) : EReal :=
  ∑ j ∈ Finset.range n, dqPart (blk m c (pt j (A.val / 512))) (ix2 ⟨A.val % 512, by omega⟩ l)

/-- The buffer of dq after each point: the rows up to the point's block of queries have the blocks of keys up to its own,
the rows below one block fewer. -/
theorem leaves8 (n : ℕ) : ∀ (t : Fin cfg0.N), t.val = n → ∀ X : Vec Ideal S16384x256 .f32, (rd m c).Leaves 8 t X →
    ∀ (A : Fin 16384) (l : Fin 256), (A.val / 512 ≤ t.val % 32 → X (ix2 A l) = dqSum m c (t.val / 32 + 1) A l)
      ∧ (0 < t.val / 32 → t.val % 32 < A.val / 512 → X (ix2 A l) = dqSum m c (t.val / 32) A l) := by
  induction n with
  | zero =>
    rintro t ht X ⟨Y, -, hX⟩ A l
    have h1 : t.val / 32 = 0 := by omega
    refine ⟨fun hA => ?_, fun h => absurd h (by omega)⟩
    have h2 : A.val / 512 = t.val % 32 := by omega
    rw [show X = dqNext (grid0.coords t) (blk m c t) Y from hX, dqNext_apply, if_pos h2, if_pos h1, zero_add, dqSum, h1, zero_add,
      Finset.sum_range_one, h2, show pt 0 (t.val % 32) = t by rw [← h1]; exact pt_self t]
  | succ n ih =>
    rintro t ht X ⟨Y, hY, hX⟩ A l
    have hN : t.val < 416 := lt_of_lt_of_eq t.isLt (by decide)
    have hA := A.isLt
    have hu : (rd m c).Leaves 8 ⟨n, by have := t.isLt; omega⟩ Y := by
      rcases ((rd m c).finds_of_pos (w := 8) (t := t) rfl (by omega) Y).mp hY with hf | hl
      · exact absurd ((flush0_8 _).mp hf) (by dsimp only; omega)
      · rwa [show (⟨t.val - 1, Nat.lt_of_le_of_lt (Nat.sub_le _ _) t.isLt⟩ : Fin cfg0.N) = ⟨n, by have := t.isLt; omega⟩ from
          Fin.ext (by show t.val - 1 = n; omega)] at hl
    obtain ⟨i1, i2⟩ := ih _ rfl Y hu A l
    dsimp only at i1 i2
    rw [show X = dqNext (grid0.coords t) (blk m c t) Y from hX, dqNext_apply]
    by_cases h2 : A.val / 512 = t.val % 32
    · rw [if_pos h2]
      refine ⟨fun _ => ?_, fun _ h => absurd h (by omega)⟩
      have e : dqSum m c (t.val / 32 + 1) A l = dqSum m c (t.val / 32) A l
          + dqPart (blk m c t) (ix2 ⟨A.val % 512, by omega⟩ l) := by
        unfold dqSum
        rw [Finset.sum_range_succ, h2, pt_self]
      rw [e]
      refine congrArg (· + dqPart (blk m c t) (ix2 ⟨A.val % 512, by omega⟩ l)) ?_
      by_cases h1 : t.val / 32 = 0
      · rw [if_pos h1, h1]; exact (Finset.sum_range_zero _).symm
      · rw [if_neg h1]
        by_cases h3 : t.val % 32 = 0
        · rw [i1 (by omega), show n / 32 + 1 = t.val / 32 by omega]
        · rw [i2 (by omega) (by omega), show n / 32 = t.val / 32 by omega]
    · rw [if_neg h2]
      refine ⟨fun h => ?_, fun h h' => ?_⟩
      · rw [i1 (by omega), show n / 32 = t.val / 32 by omega]
      · by_cases h3 : t.val % 32 = 0
        · rw [i1 (by omega), show n / 32 + 1 = t.val / 32 by omega]
        · rw [i2 (by omega) (by omega), show n / 32 = t.val / 32 by omega]

end Cert.GlobIdeal.Grad
-- ==== Proof.Glob.Arrays.lean ====
module

public import proofs.«01_k».proof.Proof.Glob.Sums
public import Idealize.ShloMosaic.Lib.Pipeline.ArrRel

/-! # The three gradients at the end of the run -/

@[expose] public section

set_option maxRecDepth 16384

noncomputable section

namespace Cert.GlobIdeal.Grad

open Cert.GlobIdeal Cert.GlobIdeal.Gen
open Idealize.ShloMosaic Idealize.ShloMosaic.TcCoe Idealize.SL.Sem
open Idealize.ShloMosaic.Pipeline (RDat Dat)

variable (m : (ℓ : Loc nD τ sig) → Buf (Elt Ideal) ℓ) (ρ : Dev nD → PrngReg) (c : Dev nD)

/-- The gradients as sums over the points, a key's block being its number over 1280. -/
def dqOut : Vec Ideal S16384x256 .f32 := fun y => dqSum m c 13 (y 0) (y 1)
def dkOut : Vec Ideal S64x16640 .f32 := fun y =>
  ∑ i ∈ Finset.range 32, dkPart (blk m c (pt ((y 1).val / 1280) i)) (y 0) ⟨(y 1).val % 1280, Nat.mod_lt _ (by decide)⟩
def dvOut : Vec Ideal S64x16640 .f32 := fun y =>
  ∑ i ∈ Finset.range 32, dvPart (blk m c (pt ((y 1).val / 1280) i)) (y 0) ⟨(y 1).val % 1280, Nat.mod_lt _ (by decide)⟩

/-- The blocks of the outputs at each point. -/
theorem idx : ∀ t : Fin cfg0.N, win0_8.index t = ![0, 0] ∧ win0_9.index t = ![0, t.val / 32] ∧ win0_10.index t = ![0, t.val / 32] :=
  (by decide +kernel : ∀ t : Fin grid0.N, _)

section
variable (after : (w : Fin cfg0.W) → Fin cfg0.N → (cfg0.win w).block.Idx → Elt Ideal (cfg0.win w).elt)
  (hL : ∀ (w : Fin cfg0.W) (u : Fin cfg0.N), (cfg0.win w).flush u = true → (rd m c).Leaves w u (after w u))
include hL

theorem arr8 : ((rd m c).withAfter after).arrAt 8 cfg0.N = dqOut m c := by
  refine ((rd m c).withAfter after).arrAt_eq_of_covers 8 _ (by decide +kernel) fun t ht y => ?_
  have hN : t.val < 416 := lt_of_lt_of_eq t.isLt (by decide)
  have ht' : t.val = 415 := by have := (flush0_8 t).mp ht; omega
  have hL' := leaves8 m c t.val t rfl _ (hL 8 t ht)
  rw [ht'] at hL'
  blk_simp
  idx_vars y
  rw [show ((cfg0.win 8).blk t).view.emb (ix2 y0 y1) = ix2 y0 y1 by blk_ext [idx t]]
  have hA := y0.isLt
  exact (hL' y0 y1).1 (by omega)

omit hL in
theorem dkOut_at (j : ℕ) (e : Fin 64) (l : Fin 1280) (k : Fin 16640) (hk : k.val = j * 1280 + l.val) :
    dkOut m c (ix2 e k) = ∑ i ∈ Finset.range (31 + 1), dkPart (blk m c (pt j i)) e l := by
  have e1 : k.val / 1280 = j := by omega
  have e2 : (⟨k.val % 1280, Nat.mod_lt _ (by decide)⟩ : Fin 1280) = l := Fin.ext (by dsimp only; omega)
  exact Finset.sum_congr rfl fun i _ => congrArg₂ (fun n l => dkPart (blk m c (pt n i)) e l) e1 e2

theorem arr9 : ((rd m c).withAfter after).arrAt 9 cfg0.N = dkOut m c := by
  refine ((rd m c).withAfter after).arrAt_eq_of_covers 9 _ (by decide +kernel) fun t ht y => ?_
  have ht' := (flush0_9 t).mp ht
  have hN : t.val < 416 := lt_of_lt_of_eq t.isLt (by decide)
  have hL' := leaves9 m c t _ (hL 9 t ht)
  rw [ht'] at hL'
  blk_simp
  idx_vars y
  rw [show ((cfg0.win 9).blk t).view.emb (ix2 y0 y1) = ix2 y0 ⟨t.val / 32 * 1280 + y1.val, by omega⟩ by blk_ext [idx t]]
  exact (hL' y0 y1).trans (dkOut_at m c (t.val / 32) y0 y1 _ rfl).symm

omit hL in
theorem dvOut_at (j : ℕ) (e : Fin 64) (l : Fin 1280) (k : Fin 16640) (hk : k.val = j * 1280 + l.val) :
    dvOut m c (ix2 e k) = ∑ i ∈ Finset.range (31 + 1), dvPart (blk m c (pt j i)) e l := by
  have e1 : k.val / 1280 = j := by omega
  have e2 : (⟨k.val % 1280, Nat.mod_lt _ (by decide)⟩ : Fin 1280) = l := Fin.ext (by dsimp only; omega)
  exact Finset.sum_congr rfl fun i _ => congrArg₂ (fun n l => dvPart (blk m c (pt n i)) e l) e1 e2

theorem arr10 : ((rd m c).withAfter after).arrAt 10 cfg0.N = dvOut m c := by
  refine ((rd m c).withAfter after).arrAt_eq_of_covers 10 _ (by decide +kernel) fun t ht y => ?_
  have ht' := (flush0_10 t).mp ht
  have hN : t.val < 416 := lt_of_lt_of_eq t.isLt (by decide)
  have hL' := leaves10 m c t _ (hL 10 t ht)
  rw [ht'] at hL'
  blk_simp
  idx_vars y
  rw [show ((cfg0.win 10).blk t).view.emb (ix2 y0 y1) = ix2 y0 ⟨t.val / 32 * 1280 + y1.val, by omega⟩ by blk_ext [idx t]]
  exact (hL' y0 y1).trans (dvOut_at m c (t.val / 32) y0 y1 _ rfl).symm
end

/-- At the end of a run the three outputs' arrays are those sums. -/
theorem arrays (r : PUnit × MemSt nD τ sig (Elt Ideal)) (h : RDat.FramePost cfg0 (rd m) (V m) r) :
    r.2.mem ((c.tc : Thread nD τ).loc main_v56_0) = dqOut m c
      ∧ r.2.mem ((c.tc : Thread nD τ).loc main_v56_1) = dkOut m c
      ∧ r.2.mem ((c.tc : Thread nD τ).loc main_v56_2) = dvOut m c := by
  obtain ⟨after, hL, hA⟩ := RDat.FramePost.exists_exact h c
  exact ⟨(hA 8).trans (arr8 m c after hL), (hA 9).trans (arr9 m c after hL), (hA 10).trans (arr10 m c after hL)⟩

end Cert.GlobIdeal.Grad
-- ==== Proof.Glob.Host.lean ====
module

public import proofs.«01_k».proof.Proof.Glob.Frame
public import proofs.«01_k».proof.Proof.Glob.Blocks

/-! What the host's lines hand to the kernel, as functions of the arguments, each read at an index. -/

@[expose] public section

set_option maxRecDepth 16384

noncomputable section

namespace Cert.GlobIdeal.Grad

open Cert.GlobIdeal Cert.GlobIdeal.Gen Cert.GlobIdeal.Facts
open Idealize.ShloMosaic Idealize.ShloMosaic.TcCoe Idealize.SL.Sem

/-- An array of floats of a shape. -/
abbrev Arr (s : Shape) : Type := FVec Ideal s .f32

/-- The scaled queries. -/
def scaled (q : Arr S16384x512) : Arr S16384x512 :=
  mulf q (broadcastInDim S16384x512 ![] bcast_S_S16384x512 (constant (F := Ideal) S_ .f32 0x3E000000#32))

/-- The scores of both key heads. -/
def scores (q : Arr S16384x512) (k : Arr S16640x128) : Arr S2x4x16384x16640 :=
  transpose S2x4x16384x16640 [0, 3, 2, 1]
    (Host.dotGeneral dot_S16640x2x64_S16384x2x4x64_S2x16640x16384x4_2_3_0_02_1_1 none
      (shapeCast S16640x2x64 k shapeCasts_S16640x128_S16640x2x64 : Arr S16640x2x64)
      (shapeCast S16384x2x4x64 (scaled q) shapeCasts_S16384x512_S16384x2x4x64 : Arr S16384x2x4x64))
    transposes_S2x16640x16384x4_S2x4x16384x16640_0_3_2_1

/-- Each row's greatest score. -/
def tops (s : Arr S2x4x16384x16640) : Arr S2x4x16384x1 :=
  broadcastInDim S2x4x16384x1 ![0, 1, 2] bcast_S2x4x16384_S2x4x16384x1_0_1_2
    (Host.reduce (FloatOps.maximumf (F := Ideal) (φ := .f32)) s (constant (F := Ideal) S_ .f32 0xFF800000#32) reducesTo_S2x4x16384x16640_S2x4x16384_d3 h_S_ : Arr S2x4x16384)

/-- The exponentials of the scores below their row's greatest. -/
def exps (s : Arr S2x4x16384x16640) : Arr S2x4x16384x16640 :=
  Host.exp (F := Ideal) (subf s (broadcastInDim S2x4x16384x16640 ![0, 1, 2, 3] bcast_S2x4x16384x1_S2x4x16384x16640_0_1_2_3 (tops s)))

/-- Each row's sum of exponentials. -/
def dens (e : Arr S2x4x16384x16640) : Arr S2x4x16384x1 :=
  broadcastInDim S2x4x16384x1 ![0, 1, 2] bcast_S2x4x16384_S2x4x16384x1_0_1_2
    (Host.reduceAdd (F := Ideal) e (constant (F := Ideal) S_ .f32 0x00000000#32) reducesTo_S2x4x16384x16640_S2x4x16384_d3 h_S_ : Arr S2x4x16384)

/-- Each row's log-sum. -/
def lses (s : Arr S2x4x16384x16640) : Arr S2x4x16384 :=
  shapeCast S2x4x16384 (addf (tops s) (Host.log (F := Ideal) (dens (exps s))) : Arr S2x4x16384x1) shapeCasts_S2x4x16384x1_S2x4x16384

/-- A quantity of each row, stacked by blocks of 512 queries. -/
def stacked (x : Arr S2x4x16384) : Arr S2x32x2048x1 :=
  shapeCast S2x32x2048x1 (transpose S2x32x2x4x256 [0, 2, 3, 1, 4]
    (shapeCast S2x4x32x2x256 x shapeCasts_S2x4x16384_S2x4x32x2x256 : Arr S2x4x32x2x256)
    transposes_S2x4x32x2x256_S2x32x2x4x256_0_2_3_1_4 : Arr S2x32x2x4x256) shapeCasts_S2x32x2x4x256_S2x32x2048x1

/-- The forward pass's output. -/
def outs (e : Arr S2x4x16384x16640) (v : Arr S16640x128) : Arr S16384x512 :=
  shapeCast S16384x512 (transpose S16384x2x4x64 [3, 0, 2, 1]
    (Host.dotGeneral dot_S16640x2x64_S2x4x16384x16640_S2x64x4x16384_0_3_2_12_1_0 none
      (shapeCast S16640x2x64 v shapeCasts_S16640x128_S16640x2x64 : Arr S16640x2x64)
      (Host.divf (F := Ideal) e (broadcastInDim S2x4x16384x16640 ![0, 1, 2, 3] bcast_S2x4x16384x1_S2x4x16384x16640_0_1_2_3 (dens e)) : Arr S2x4x16384x16640))
    transposes_S2x64x4x16384_S16384x2x4x64_3_0_2_1 : Arr S16384x2x4x64) shapeCasts_S16384x2x4x64_S16384x512

/-- Each row's sum of the cotangent times the output. -/
def deltas (d o : Arr S16384x512) : Arr S2x4x16384 :=
  transpose S2x4x16384 [1, 2, 0]
    (Host.reduceAdd (F := Ideal) (shapeCast S16384x2x4x64 (mulf d o) shapeCasts_S16384x512_S16384x2x4x64 : Arr S16384x2x4x64)
      (constant (F := Ideal) S_ .f32 0x00000000#32) reducesTo_S16384x2x4x64_S16384x2x4_d3 h_S_ : Arr S16384x2x4)
    transposes_S16384x2x4_S2x4x16384_1_2_0

/-- Each head's 64 columns four times over. -/
def rep (k : Arr S16640x128) : Arr S16640x512 :=
  concatenate S16640x512 1
    [⟨S16640x64, (extractStridedSlice S16640x64 ![0, 0] k slices_S16640x128_S16640x64_0_0 : Arr S16640x64)⟩,
     ⟨S16640x64, (extractStridedSlice S16640x64 ![0, 0] k slices_S16640x128_S16640x64_0_0 : Arr S16640x64)⟩,
     ⟨S16640x64, (extractStridedSlice S16640x64 ![0, 0] k slices_S16640x128_S16640x64_0_0 : Arr S16640x64)⟩,
     ⟨S16640x64, (extractStridedSlice S16640x64 ![0, 0] k slices_S16640x128_S16640x64_0_0 : Arr S16640x64)⟩,
     ⟨S16640x64, (extractStridedSlice S16640x64 ![0, 64] k slices_S16640x128_S16640x64_0_64 : Arr S16640x64)⟩,
     ⟨S16640x64, (extractStridedSlice S16640x64 ![0, 64] k slices_S16640x128_S16640x64_0_64 : Arr S16640x64)⟩,
     ⟨S16640x64, (extractStridedSlice S16640x64 ![0, 64] k slices_S16640x128_S16640x64_0_64 : Arr S16640x64)⟩,
     ⟨S16640x64, (extractStridedSlice S16640x64 ![0, 64] k slices_S16640x128_S16640x64_0_64 : Arr S16640x64)⟩]
    concatenates_S16640x64_S16640x64_S16640x64_S16640x64_S16640x64_S16640x64_S16640x64_S16640x64_S16640x512_d1

section
variable (m : (ℓ : Loc nD τ sig) → Buf (Elt Ideal) ℓ) (c : Dev nD)

theorem V37 : V m c main_v37 = rep (m ((c : Thread nD τ).loc main_arg1)) := by sl_kernel_rfl

theorem V47 : V m c main_v47 = rep (m ((c : Thread nD τ).loc main_arg2)) := by sl_kernel_rfl

set_option maxHeartbeats 1600000 in
theorem V51 : V m c main_v51 =
    stacked (lses (scores (m ((c : Thread nD τ).loc main_arg0)) (m ((c : Thread nD τ).loc main_arg1)))) := by
  entry_read
  rfl

set_option maxHeartbeats 1600000 in
theorem V55 : V m c main_v55 =
    stacked (deltas (m ((c : Thread nD τ).loc main_arg3))
      (outs (exps (scores (m ((c : Thread nD τ).loc main_arg0)) (m ((c : Thread nD τ).loc main_arg1))))
        (m ((c : Thread nD τ).loc main_arg2)))) := by
  entry_read
  rfl

end

end Cert.GlobIdeal.Grad
-- ==== Proof.Glob.Reads.lean ====
module

public import proofs.«01_k».proof.Proof.Glob.Host

/-! The host's arrays read at an index. -/

@[expose] public section

set_option maxRecDepth 16384

noncomputable section

namespace Cert.GlobIdeal.Grad

open Cert.GlobIdeal Cert.GlobIdeal.Gen Cert.GlobIdeal.Facts
open Idealize.ShloMosaic Idealize.ShloMosaic.TcCoe Idealize.SL.Sem

theorem scaled_apply (q : Arr S16384x512) (a : Fin 16384) (l : Fin 512) :
    scaled q (ix2 a l) = q (ix2 a l) * Ideal.ofBits .f32 0x3E000000#32 := by
  pointwise [scaled]

theorem rep_apply (k : Arr S16640x128) (K : Fin 16640) (l : Fin 256) :
    rep k (ix2 K ⟨l.val, by omega⟩) = k (ix2 K ⟨l.val % 64, by omega⟩) := by
  pointwise [rep]
  have hl := l.isLt
  split_ifs <;> first
    | (refine congrArg k (congrArg (ix2 K) (Fin.ext ?_)); dsimp only; omega)
    | (exfalso; omega)

theorem stacked_apply (x : Arr S2x4x16384) (i : Fin 32) (r : Fin 2048) (a : Fin 16384)
    (ha : a.val = i.val * 512 + (qrow r).val) :
    stacked x (ix4 0 i r 0) = x (ix3 0 (grp r) a) := by
  pointwise [stacked]
  refine congrArg x (congrArg₂ (ix3 0) (Fin.ext ?_) (Fin.ext ?_))
  · show r.val / 256 % 4 = r.val % 1024 / 256
    omega
  · rw [ha]
    show i.val * 512 + r.val / 1024 * 256 + r.val % 256 = i.val * 512 + (r.val / 1024 * 256 + r.val % 256)
    omega

/-- One row's score of one key, of the first key head. -/
def sc (q : Arr S16384x512) (k : Arr S16640x128) (g : Fin 4) (a : Fin 16384) (l : Fin 16640) : EReal :=
  ∑ d : Fin 64, k (ix2 l ⟨d.val, by omega⟩) * (q (ix2 a ⟨g.val * 64 + d.val, by omega⟩) * Ideal.ofBits .f32 0x3E000000#32)

theorem scores_apply (q : Arr S16384x512) (k : Arr S16640x128) (g : Fin 4) (a : Fin 16384) (l : Fin 16640) :
    scores q k (ix4 0 g a l) = sc q k g a l := by
  pointwise [scores, sc, scaled]

theorem tops_apply (s : Arr S2x4x16384x16640) (g : Fin 4) (a : Fin 16384) :
    tops s (ix4 0 g a 0) = Finset.fold max ⊥ (fun l : Fin 16640 => s (ix4 0 g a l)) Finset.univ := by
  pointwise [tops]
  rw [show Ideal.ofBits FTy.f32 4286578688#32 = (⊥ : EReal) by simp [Ideal.ofBits, Ideal.ieee]]

theorem exps_apply (s : Arr S2x4x16384x16640) (g : Fin 4) (a : Fin 16384) (l : Fin 16640) :
    exps s (ix4 0 g a l) = Ideal.exp (s (ix4 0 g a l) - tops s (ix4 0 g a 0)) := by
  pointwise [exps]

theorem dens_apply (s : Arr S2x4x16384x16640) (g : Fin 4) (a : Fin 16384) :
    dens s (ix4 0 g a 0) = ∑ l : Fin 16640, s (ix4 0 g a l) := by
  pointwise [dens]

theorem flat_apply (x : Arr S2x4x16384x1) (g : Fin 4) (a : Fin 16384) :
    (shapeCast S2x4x16384 x shapeCasts_S2x4x16384x1_S2x4x16384 : Arr S2x4x16384) (ix3 0 g a) = x (ix4 0 g a 0) := by
  pointwise

theorem lse_apply (t d : Arr S2x4x16384x1) (g : Fin 4) (a : Fin 16384) :
    (addf t (Host.log (F := Ideal) d) : Arr S2x4x16384x1) (ix4 0 g a 0) = t (ix4 0 g a 0) + Ideal.log (d (ix4 0 g a 0)) := by
  pointwise

theorem lses_eq (s : Arr S2x4x16384x16640) :
    lses s = (shapeCast S2x4x16384 (addf (tops s) (Host.log (F := Ideal) (dens (exps s))) : Arr S2x4x16384x1) shapeCasts_S2x4x16384x1_S2x4x16384 : Arr S2x4x16384) := by
  unfold lses
  rfl

theorem lses_apply (s : Arr S2x4x16384x16640) (g : Fin 4) (a : Fin 16384) :
    lses s (ix3 0 g a) = tops s (ix4 0 g a 0) + Ideal.log (dens (exps s) (ix4 0 g a 0)) := by
  rw [lses_eq, flat_apply, lse_apply]

theorem outs_apply (e : Arr S2x4x16384x16640) (v : Arr S16640x128) (a : Fin 16384) (l : Fin 256) :
    outs e v (ix2 a ⟨l.val, by omega⟩) = ∑ j : Fin 16640, v (ix2 j ⟨l.val % 64, by omega⟩) *
      Ideal.div (e (ix4 0 ⟨l.val / 64, by omega⟩ a j)) (dens e (ix4 0 ⟨l.val / 64, by omega⟩ a 0)) := by
  pointwise [outs]
  have e1 : ∀ h, (⟨l.val / 256, h⟩ : Fin 2) = 0 := fun h => Fin.ext (by show l.val / 256 = 0; omega)
  have e2 : ∀ h, (⟨l.val / 64 % 4, h⟩ : Fin 4) = ⟨l.val / 64, by omega⟩ :=
    fun h => Fin.ext (by show l.val / 64 % 4 = l.val / 64; omega)
  have e3 : ∀ h, (⟨l.val / 256 * 64 + l.val % 64, h⟩ : Fin 128) = ⟨l.val % 64, by omega⟩ :=
    fun h => Fin.ext (by show l.val / 256 * 64 + l.val % 64 = l.val % 64; omega)
  simp only [e1, e2, e3]

theorem deltas_apply (d o : Arr S16384x512) (g : Fin 4) (a : Fin 16384) :
    deltas d o (ix3 0 g a) = ∑ x : Fin 64, d (ix2 a ⟨g.val * 64 + x.val, by omega⟩) * o (ix2 a ⟨g.val * 64 + x.val, by omega⟩) := by
  pointwise [deltas]

end Cert.GlobIdeal.Grad
-- ==== Proof.Glob.Inputs.lean ====
module

public import proofs.«01_k».proof.Proof.Glob.Frame
public import proofs.«01_k».proof.Proof.Glob.Blocks
public import proofs.«01_k».proof.Proof.Glob.Reads

/-! # The blocks that a point is handed, read off the arguments -/

@[expose] public section

set_option maxRecDepth 16384

noncomputable section

namespace Cert.GlobIdeal.Grad

open Cert.GlobIdeal Cert.GlobIdeal.Gen
open Idealize.ShloMosaic Idealize.ShloMosaic.TcCoe Idealize.SL.Sem

variable (m : (ℓ : Loc nD τ sig) → Buf (Elt Ideal) ℓ) (c : Dev nD)

theorem inIdx : ∀ t : Fin cfg0.N, win0_0.index t = ![t.val % 32, 0] ∧ win0_1.index t = ![0, t.val % 32]
    ∧ win0_2.index t = ![t.val / 32, 0] ∧ win0_3.index t = ![t.val / 32, 0] ∧ win0_4.index t = ![t.val % 32, 0]
    ∧ win0_5.index t = ![0, t.val % 32] ∧ win0_6.index t = ![0, t.val % 32, 0, 0] ∧ win0_7.index t = ![0, t.val % 32, 0, 0] :=
  (by decide +kernel : ∀ t : Fin grid0.N, _)

/-- Row `a` of the point's block of queries, and key `l` of its block of keys. -/
def qi (t : Fin cfg0.N) (a : Fin 512) : Fin 16384 := ⟨t.val % 32 * 512 + a.val, by omega⟩
def ki (t : Fin cfg0.N) (l : Fin 1280) : Fin 16640 :=
  ⟨t.val / 32 * 1280 + l.val, by have h : t.val < 416 := lt_of_lt_of_eq t.isLt (by decide); omega⟩

theorem b4 (t : Fin cfg0.N) (a : Fin 512) (l : Fin 256) :
    iblk m c 4 t (ix2 a l) = m ((c : Thread nD τ).loc main_arg3) (ix2 (qi t a) ⟨l.val, by omega⟩) := by
  blk_ext [iblk, V, inIdx t, qi]

/-- The queries, the keys, the values and the cotangent that the kernel is given. -/
abbrev argQ : Arr S16384x512 := m ((c : Thread nD τ).loc main_arg0)
abbrev argK : Arr S16640x128 := m ((c : Thread nD τ).loc main_arg1)
abbrev argV : Arr S16640x128 := m ((c : Thread nD τ).loc main_arg2)
abbrev argG : Arr S16384x512 := m ((c : Thread nD τ).loc main_arg3)

theorem b0 (t : Fin cfg0.N) (a : Fin 512) (l : Fin 256) :
    iblk m c 0 t (ix2 a l) = argQ m c (ix2 (qi t a) ⟨l.val, by omega⟩) * Ideal.ofBits .f32 0x3E000000#32 := by
  blk_simp [iblk]
  entry_read
  rw [show ((cfg0.win 0).blk t).view.emb (ix2 a l) = ix2 (qi t a) ⟨l.val, by omega⟩ by blk_ext [inIdx t, qi]]
  pointwise

theorem b1 (t : Fin cfg0.N) (a : Fin 512) (l : Fin 256) :
    iblk m c 1 t (ix2 l a) = argQ m c (ix2 (qi t a) ⟨l.val, by omega⟩) * Ideal.ofBits .f32 0x3E000000#32 := by
  blk_simp [iblk]
  entry_read
  rw [show ((cfg0.win 1).blk t).view.emb (ix2 l a) = ix2 ⟨l.val, by omega⟩ (qi t a) by blk_ext [inIdx t, qi]]
  pointwise

theorem b5 (t : Fin cfg0.N) (a : Fin 512) (l : Fin 256) :
    iblk m c 5 t (ix2 l a) = argG m c (ix2 (qi t a) ⟨l.val, by omega⟩) := by
  blk_simp [iblk]
  entry_read
  rw [show ((cfg0.win 5).blk t).view.emb (ix2 l a) = ix2 ⟨l.val, by omega⟩ (qi t a) by blk_ext [inIdx t, qi]]
  pointwise

theorem b2 (t : Fin cfg0.N) (k : Fin 1280) (l : Fin 256) :
    iblk m c 2 t (ix2 k l) = argK m c (ix2 (ki t k) ⟨l.val % 64, by omega⟩) := by
  blk_simp [iblk]
  rw [V37, show ((cfg0.win 2).blk t).view.emb (ix2 k l) = ix2 (ki t k) ⟨l.val, by omega⟩ by blk_ext [inIdx t, ki]]
  exact rep_apply _ _ l

theorem b3 (t : Fin cfg0.N) (k : Fin 1280) (l : Fin 256) :
    iblk m c 3 t (ix2 k l) = argV m c (ix2 (ki t k) ⟨l.val % 64, by omega⟩) := by
  blk_simp [iblk]
  rw [V47, show ((cfg0.win 3).blk t).view.emb (ix2 k l) = ix2 (ki t k) ⟨l.val, by omega⟩ by blk_ext [inIdx t, ki]]
  exact rep_apply _ _ l

theorem emb6 (t : Fin cfg0.N) (r : Fin 2048) :
   ((cfg0.win 6).blk t).view.emb (ix4 0 0 r 0) = ix4 0 (⟨t.val % 32, by omega⟩ : Fin 32) r 0 := by blk_ext [inIdx t]

theorem read6 (t : Fin cfg0.N) (r : Fin 2048) (X : (b : Ref sig .tc) → Buf (Elt Ideal) ((c : Thread nD τ).loc b)) :
    ((cfg0.win 6).blk t).view.read (Elt Ideal) (X (Pipeline.arrRef spec0 6)) (ix4 0 0 r 0)
      = X main_v51 (ix4 0 (⟨t.val % 32, by omega⟩ : Fin 32) r 0) := by
  blk_simp
  rw [emb6]

theorem emb7 (t : Fin cfg0.N) (r : Fin 2048) :
   ((cfg0.win 7).blk t).view.emb (ix4 0 0 r 0) = ix4 0 (⟨t.val % 32, by omega⟩ : Fin 32) r 0 := by blk_ext [inIdx t]

theorem read7 (t : Fin cfg0.N) (r : Fin 2048) (X : (b : Ref sig .tc) → Buf (Elt Ideal) ((c : Thread nD τ).loc b)) :
    ((cfg0.win 7).blk t).view.read (Elt Ideal) (X (Pipeline.arrRef spec0 7)) (ix4 0 0 r 0)
      = X main_v55 (ix4 0 (⟨t.val % 32, by omega⟩ : Fin 32) r 0) := by
  blk_simp
  rw [emb7]

theorem e6 (t : Fin cfg0.N) (r : Fin 2048) :
    iblk m c 6 t (ix4 0 0 r 0) = V m c main_v51 (ix4 0 (⟨t.val % 32, by omega⟩ : Fin 32) r 0) :=
  read6 c t r (V m c)

theorem e7 (t : Fin cfg0.N) (r : Fin 2048) :
    iblk m c 7 t (ix4 0 0 r 0) = V m c main_v55 (ix4 0 (⟨t.val % 32, by omega⟩ : Fin 32) r 0) :=
  read7 c t r (V m c)

theorem qi_val (t : Fin cfg0.N) (a : Fin 512) : (qi t a).val = t.val % 32 * 512 + a.val := rfl

theorem b6 (t : Fin cfg0.N) (r : Fin 2048) :
    iblk m c 6 t (ix4 0 0 r 0) = lses (scores (argQ m c) (argK m c)) (ix3 0 (grp r) (qi t (qrow r))) :=
  (e6 m c t r).trans ((congrFun (V51 m c) _).trans
    (stacked_apply _ ⟨t.val % 32, by omega⟩ r (qi t (qrow r)) (qi_val t (qrow r))))

theorem b7 (t : Fin cfg0.N) (r : Fin 2048) :
    iblk m c 7 t (ix4 0 0 r 0)
      = deltas (argG m c) (outs (exps (scores (argQ m c) (argK m c))) (argV m c)) (ix3 0 (grp r) (qi t (qrow r))) :=
  (e7 m c t r).trans ((congrFun (V55 m c) _).trans
    (stacked_apply _ ⟨t.val % 32, by omega⟩ r (qi t (qrow r)) (qi_val t (qrow r))))

end Cert.GlobIdeal.Grad
-- ==== Proof.Glob.Ref.lean ====
module

public import proofs.«01_k».proof.Proof.Gen.GlobRefIdeal.Read
public import Idealize.ShloMosaic.Lib.Pointwise
public import Idealize.ShloMosaic.Lib.Claim

/-! # The reference's arrays read at an index -/

@[expose] public section

set_option maxRecDepth 16384

noncomputable section

namespace Cert.GlobRefIdeal.Grad

open Cert.GlobRefIdeal Cert.GlobRefIdeal.Gen Cert.GlobRefIdeal.Read
open Idealize.ShloMosaic Idealize.ShloMosaic.TcCoe Idealize.SL.Sem

variable (q : FVec Ideal S16384x512 .f32) (k v : FVec Ideal S16640x128 .f32) (d : FVec Ideal S16384x512 .f32)
variable (g : Fin 4) (a : Fin 16384) (l : Fin 16640) (x : Fin 64)

theorem q_apply : val_main_v4 (F := Ideal) q (ix3 a g x) = q (ix2 a ⟨g.val * 64 + x.val, by omega⟩) * Ideal.ofBits .f32 0x3E000000#32 := by
  pointwise [val_main_v4, val_main_v3, val_main_v2, val_main_v1, val_main_v0, val_main_cst]

theorem score_apply : val_main_v8 (F := Ideal) q k (ix3 g a l) = ∑ x : Fin 64, k (ix2 l ⟨x.val, by omega⟩) * val_main_v4 (F := Ideal) q (ix3 a g x) := by
  pointwise [val_main_v8, val_main_v7, val_main_v5]

theorem max_apply : val_main_v9 (F := Ideal) q k (ix2 g a) = Finset.fold max ⊥ (fun l : Fin 16640 => val_main_v8 (F := Ideal) q k (ix3 g a l)) Finset.univ := by
  unfold val_main_v9
  generalize val_main_v8 (F := Ideal) q k = s
  pointwise [val_main_cst_0]
  rw [show Ideal.ofBits FTy.f32 4286578688#32 = (⊥ : EReal) by simp [Ideal.ofBits, Ideal.ieee]]

theorem spread_apply : val_main_v27 (F := Ideal) q k (ix3 g a l) = val_main_v16 (F := Ideal) q k (ix2 g a) := by
  pointwise [val_main_v27, val_main_v26]

theorem bot_apply (i : S4x16384.Idx) : val_main_v15 (F := Ideal) i = (⊥ : EReal) := by
  pointwise [val_main_v15, val_main_cst_2]
  simp [Ideal.ofBits, Ideal.ieee]

theorem max_bot (b s : Ideal .f32) (h : b = (⊥ : EReal)) : FloatOps.maximumf (F := Ideal) (φ := .f32) b s = s := by
  subst h
  exact max_eq_right bot_le

theorem either_apply (i : S4x16384.Idx) : val_main_v16 (F := Ideal) q k i = val_main_v9 (F := Ideal) q k i :=
  (val_main_v16_apply (F := Ideal) q k i).trans (max_bot _ _ (bot_apply i))

theorem top_apply : val_main_v27 (F := Ideal) q k (ix3 g a l)
    = Finset.fold max ⊥ (fun l : Fin 16640 => val_main_v8 (F := Ideal) q k (ix3 g a l)) Finset.univ :=
  (spread_apply q k g a l).trans ((either_apply q k _).trans (max_apply q k g a))

theorem exp_apply : val_main_v29 (F := Ideal) q k (ix3 g a l) = Ideal.exp (val_main_v8 (F := Ideal) q k (ix3 g a l) - val_main_v27 (F := Ideal) q k (ix3 g a l)) := by
  pointwise [val_main_v29, val_main_v28]

theorem den_apply : val_main_v31 (F := Ideal) q k (ix3 g a 0) = ∑ l : Fin 16640, val_main_v29 (F := Ideal) q k (ix3 g a l) := by
  pointwise [val_main_v31, val_main_v30, val_main_cst_8]

theorem prob_apply : val_main_v33 (F := Ideal) q k (ix3 g a l)
    = Ideal.div (val_main_v29 (F := Ideal) q k (ix3 g a l)) (val_main_v31 (F := Ideal) q k (ix3 g a 0)) := by
  pointwise [val_main_v33, val_main_v32]

theorem d_apply : val_main_v42 (F := Ideal) d (ix3 x g a) = d (ix2 a ⟨g.val * 64 + x.val, by omega⟩) := by
  pointwise [val_main_v42, val_main_v41, val_main_v40, val_main_v39]

theorem dprob_apply : val_main_v43 (F := Ideal) v d (ix3 g a l) = ∑ x : Fin 64, val_main_v42 (F := Ideal) d (ix3 x g a) * v (ix2 l ⟨x.val, by omega⟩) := by
  pointwise [val_main_v43, val_main_v6]

theorem sum_apply : val_main_v55 (F := Ideal) q k v d (ix3 g a l)
    = -(∑ l : Fin 16640, val_main_v43 (F := Ideal) v d (ix3 g a l)
        * Ideal.div 1 (val_main_v31 (F := Ideal) q k (ix3 g a 0) * val_main_v31 (F := Ideal) q k (ix3 g a 0))
        * val_main_v29 (F := Ideal) q k (ix3 g a l)) := by
  pointwise [val_main_v55, val_main_v54, val_main_v51, val_main_v50, val_main_v49, val_main_v48, val_main_v47, val_main_v46, val_main_v36, val_main_v35, val_main_v34, val_main_cst_11, val_main_cst_10, val_main_cst_9]
  exact Fin.sum_univ_one _

theorem grad_apply : val_main_v57 (F := Ideal) q k v d (ix3 g a l)
    = (Ideal.div (val_main_v43 (F := Ideal) v d (ix3 g a l)) (val_main_v31 (F := Ideal) q k (ix3 g a 0))
        + val_main_v55 (F := Ideal) q k v d (ix3 g a l)) * val_main_v29 (F := Ideal) q k (ix3 g a l) := by
  pointwise [val_main_v57, val_main_v56, val_main_v53, val_main_v52]

theorem dq_apply (y : Fin 256) : val_main_v61 (F := Ideal) q k v d (ix2 a y)
    = ∑ l : Fin 16640, val_main_v57 (F := Ideal) q k v d (ix3 ⟨y.val / 64, by omega⟩ a l) * k (ix2 l ⟨y.val % 64, by omega⟩) := by
  pointwise [val_main_v61, val_main_v59, val_main_v58, val_main_v5]

theorem dk_apply : val_main_v62 (F := Ideal) q k v d (ix2 x l)
    = ∑ a : Fin 16384, ∑ g : Fin 4, val_main_v57 (F := Ideal) q k v d (ix3 g a l) * val_main_v4 (F := Ideal) q (ix3 a g x) := by
  pointwise [val_main_v62, val_main_v60, val_main_v58]

theorem dv_apply : val_main_v63 (F := Ideal) q k d (ix2 x l)
    = ∑ g : Fin 4, ∑ a : Fin 16384, val_main_v42 (F := Ideal) d (ix3 x g a) * val_main_v33 (F := Ideal) q k (ix3 g a l) := by
  pointwise [val_main_v63, val_main_v45, val_main_v44]

end Cert.GlobRefIdeal.Grad
-- ==== Proof.Shared.Softmax.lean ====
module

public import Idealize.ShloMosaic.Lib.Pointwise
public import Idealize.ShloMosaic.Lib.Claim

/-! # The softmax of finite scores and its gradient, over the reals -/

@[expose] public section

noncomputable section

namespace Cert.Softmax

open Idealize.ShloMosaic

theorem coe_sum {ι : Type} (S : Finset ι) (f : ι → ℝ) : ∑ i ∈ S, (f i : EReal) = ((∑ i ∈ S, f i : ℝ) : EReal) := by
  classical
  refine Finset.induction_on S (by simp) fun a T ha h => ?_
  rw [Finset.sum_insert ha, Finset.sum_insert ha, h, EReal.coe_add]

/-- An extended real below plus infinity in absolute value is real. -/
theorem real_of_cmp {x : EReal} (h : Ideal.cmp .olt (max x (-x)) (Ideal.ofBits .f32 0x7F800000#32) = 1#1) :
    (x.toReal : EReal) = x := by
  rw [show Ideal.ofBits FTy.f32 0x7F800000#32 = (⊤ : EReal) by simp [Ideal.ofBits, Ideal.ieee]] at h
  induction x using EReal.rec with
  | bot => simp [Ideal.cmp] at h
  | top => simp [Ideal.cmp] at h
  | coe r => rfl

variable {ι : Type} [Fintype ι] [Nonempty ι]

/-- The greatest of finitely many reals is real. -/
theorem fold_max_coe (s : ι → ℝ) : ∃ μ : ℝ, Finset.fold max ⊥ (fun l => (s l : EReal)) Finset.univ = μ := by
  obtain ⟨i, _, h⟩ := Finset.exists_mem_eq_sup Finset.univ Finset.univ_nonempty (fun l => (s l : EReal))
  exact ⟨s i, h⟩

/-- The softmax of real scores. -/
def prob (s : ι → ℝ) (l : ι) : ℝ := Real.exp (s l) / ∑ j, Real.exp (s j)

/-- The gradient of the scores, from that of the probabilities. -/
def grad (s dp : ι → ℝ) (l : ι) : ℝ := prob s l * (dp l - ∑ j, prob s j * dp j)

theorem den_pos (s : ι → ℝ) (μ : ℝ) : 0 < ∑ j, Real.exp (s j - μ) :=
  Finset.sum_pos (fun _ _ => Real.exp_pos _) Finset.univ_nonempty

theorem prob_shift (s : ι → ℝ) (μ : ℝ) (l : ι) : Real.exp (s l - μ) / ∑ j, Real.exp (s j - μ) = prob s l := by
  unfold prob
  simp only [Real.exp_sub, ← Finset.sum_div]
  have h : 0 < ∑ j, Real.exp (s j) := Finset.sum_pos (fun _ _ => Real.exp_pos _) Finset.univ_nonempty
  have h' := Real.exp_pos μ
  field_simp

theorem den_coe (s : ι → ℝ) (μ : ℝ) :
    ∑ j, Ideal.exp ((s j : EReal) - (μ : EReal)) = ((∑ j, Real.exp (s j - μ) : ℝ) : EReal) := by
  rw [← coe_sum]
  exact Finset.sum_congr rfl fun j _ => by rw [← EReal.coe_sub, Ideal.exp_coe]

theorem div_coe_coe (a : ℝ) {b : ℝ} (h : b ≠ 0) : Ideal.div (a : EReal) (b : EReal) = ((a / b : ℝ) : EReal) := by
  rw [Ideal.div_coe h, ← EReal.coe_mul, mul_one_div]

/-- A probability as an exponential divided by the sum of all. -/
theorem div_eq (s : ι → ℝ) {M : EReal} (hM : ∃ μ : ℝ, M = μ) (l : ι) :
    Ideal.div (Ideal.exp ((s l : EReal) - M)) (∑ j, Ideal.exp ((s j : EReal) - M)) = (prob s l : EReal) := by
  obtain ⟨μ, rfl⟩ := hM
  rw [den_coe, ← EReal.coe_sub, Ideal.exp_coe, div_coe_coe _ (den_pos s μ).ne', prob_shift]

/-- A probability as the exponential of a score below its row's log-sum. -/
theorem exp_lse_eq (s : ι → ℝ) {M : EReal} (hM : ∃ μ : ℝ, M = μ) (l : ι) :
    Ideal.exp ((s l : EReal) - (M + Ideal.log (∑ j, Ideal.exp ((s j : EReal) - M)))) = (prob s l : EReal) := by
  obtain ⟨μ, rfl⟩ := hM
  have hd := den_pos s μ
  rw [den_coe, Ideal.log_coe, if_neg (not_le.mpr hd), ← EReal.coe_add, ← EReal.coe_sub, Ideal.exp_coe, ← prob_shift s μ,
    ← sub_sub, Real.exp_sub, Real.exp_log hd]

/-- The gradient of a score, by the derivatives of the quotient, the sum and the exponential. -/
theorem grad_eq (s dp : ι → ℝ) {M : EReal} (hM : ∃ μ : ℝ, M = μ) (l : ι) :
    (Ideal.div (dp l : EReal) (∑ j, Ideal.exp ((s j : EReal) - M))
      + -(∑ j, (dp j : EReal) * Ideal.div 1 ((∑ j, Ideal.exp ((s j : EReal) - M)) * ∑ j, Ideal.exp ((s j : EReal) - M))
          * Ideal.exp ((s j : EReal) - M))) * Ideal.exp ((s l : EReal) - M) = (grad s dp l : EReal) := by
  obtain ⟨μ, rfl⟩ := hM
  have hd := den_pos s μ
  have h2 : (∑ j, Real.exp (s j - μ)) * ∑ j, Real.exp (s j - μ) ≠ 0 := (mul_pos hd hd).ne'
  rw [den_coe, ← EReal.coe_mul, div_coe_coe _ hd.ne', ← EReal.coe_one, div_coe_coe _ h2]
  simp only [← EReal.coe_sub, Ideal.exp_coe, ← EReal.coe_mul, coe_sum, ← EReal.coe_neg, ← EReal.coe_add]
  congr 1
  unfold grad
  simp only [← prob_shift s μ]
  generalize hD : ∑ j, Real.exp (s j - μ) = D at hd h2
  have e : ∑ j, dp j * (1 / (D * D)) * Real.exp (s j - μ) = (∑ j, Real.exp (s j - μ) / D * dp j) / D := by
    rw [Finset.sum_div]
    refine Finset.sum_congr rfl fun j _ => ?_
    field_simp
  rw [e]
  field_simp
  ring

end Cert.Softmax
-- ==== Proof.Glob.Real.lean ====
module

public import proofs.«01_k».proof.Proof.Glob.Ref
public import proofs.«01_k».proof.Proof.Shared.Softmax

/-! # The probabilities and their gradient as real numbers, and the reference's in their terms -/

@[expose] public section

set_option maxRecDepth 16384

noncomputable section

namespace Cert.GlobRefIdeal.Grad

open Cert.GlobRefIdeal Cert.GlobRefIdeal.Gen Cert.GlobRefIdeal.Read Cert.Softmax
open Idealize.ShloMosaic Idealize.ShloMosaic.TcCoe Idealize.SL.Sem

/-- Every element of an array is a real number. -/
def Real {s : Shape} (x : FVec Ideal s .f32) : Prop := ∀ i, ((x i : EReal).toReal : EReal) = x i

theorem scale_real : ((Ideal.ofBits .f32 0x3E000000#32 : EReal).toReal : EReal) = Ideal.ofBits .f32 0x3E000000#32 := by
  have h : ∃ r : ℝ, Ideal.ofBits .f32 0x3E000000#32 = (r : EReal) := ⟨_, by simp [Ideal.ofBits, Ideal.ieee]; rfl⟩
  obtain ⟨r, h⟩ := h
  rw [h, EReal.toReal_coe]

variable (q : FVec Ideal S16384x512 .f32) (k v : FVec Ideal S16640x128 .f32) (d : FVec Ideal S16384x512 .f32)
variable (g : Fin 4) (a : Fin 16384)

/-- The scores of one row. -/
def scoreR (l : Fin 16640) : ℝ :=
  ∑ x : Fin 64, (k (ix2 l ⟨x.val, by omega⟩) : EReal).toReal
    * ((q (ix2 a ⟨g.val * 64 + x.val, by omega⟩) : EReal).toReal * (Ideal.ofBits .f32 0x3E000000#32 : EReal).toReal)

/-- The gradient of one row's probabilities. -/
def dprobR (l : Fin 16640) : ℝ :=
  ∑ x : Fin 64, (d (ix2 a ⟨g.val * 64 + x.val, by omega⟩) : EReal).toReal * (v (ix2 l ⟨x.val, by omega⟩) : EReal).toReal

theorem scoreR_eq (hq : Real q) (hk : Real k) (l : Fin 16640) :
    ∑ x : Fin 64, k (ix2 l ⟨x.val, by omega⟩) * (q (ix2 a ⟨g.val * 64 + x.val, by omega⟩) * Ideal.ofBits .f32 0x3E000000#32)
      = (scoreR q k g a l : EReal) := by
  unfold scoreR
  rw [← coe_sum]
  exact Finset.sum_congr rfl fun x _ => by rw [EReal.coe_mul, EReal.coe_mul, hk, hq, scale_real]

theorem dprobR_eq (hv : Real v) (hd : Real d) (l : Fin 16640) :
    ∑ x : Fin 64, d (ix2 a ⟨g.val * 64 + x.val, by omega⟩) * v (ix2 l ⟨x.val, by omega⟩)
      = (dprobR v d g a l : EReal) := by
  unfold dprobR
  rw [← coe_sum]
  exact Finset.sum_congr rfl fun x _ => by rw [EReal.coe_mul, hd, hv]

theorem score_real (hq : Real q) (hk : Real k) (l : Fin 16640) :
    val_main_v8 (F := Ideal) q k (ix3 g a l) = (scoreR q k g a l : EReal) := by
  rw [score_apply, ← scoreR_eq q k g a hq hk]
  exact Finset.sum_congr rfl fun x _ => by rw [q_apply]

theorem top_real (hq : Real q) (hk : Real k) (l : Fin 16640) :
    val_main_v27 (F := Ideal) q k (ix3 g a l)
      = Finset.fold max ⊥ (fun l : Fin 16640 => (scoreR q k g a l : EReal)) Finset.univ := by
  rw [top_apply]
  exact Finset.fold_congr fun l _ => score_real q k g a hq hk l

theorem exp_real (hq : Real q) (hk : Real k) (l : Fin 16640) :
    val_main_v29 (F := Ideal) q k (ix3 g a l) = Ideal.exp ((scoreR q k g a l : EReal)
      - Finset.fold max ⊥ (fun l : Fin 16640 => (scoreR q k g a l : EReal)) Finset.univ) := by
  rw [exp_apply, top_real q k g a hq hk, score_real q k g a hq hk]

theorem den_real (hq : Real q) (hk : Real k) :
    val_main_v31 (F := Ideal) q k (ix3 g a 0) = ∑ l : Fin 16640, Ideal.exp ((scoreR q k g a l : EReal)
      - Finset.fold max ⊥ (fun l : Fin 16640 => (scoreR q k g a l : EReal)) Finset.univ) := by
  rw [den_apply]
  exact Finset.sum_congr rfl fun l _ => exp_real q k g a hq hk l

/-- The reference's probabilities. -/
theorem prob_real (hq : Real q) (hk : Real k) (l : Fin 16640) :
    val_main_v33 (F := Ideal) q k (ix3 g a l) = (prob (scoreR q k g a) l : EReal) := by
  rw [prob_apply, exp_real q k g a hq hk, den_real q k g a hq hk]
  exact div_eq (scoreR q k g a) (fold_max_coe _) l

theorem dprob_real (hv : Real v) (hd : Real d) (l : Fin 16640) :
    val_main_v43 (F := Ideal) v d (ix3 g a l) = (dprobR v d g a l : EReal) := by
  rw [dprob_apply, ← dprobR_eq v d g a hv hd]
  exact Finset.sum_congr rfl fun x _ => by rw [d_apply]

/-- The reference's gradient of the scores. -/
theorem grad_real (hq : Real q) (hk : Real k) (hv : Real v) (hd : Real d) (l : Fin 16640) :
    val_main_v57 (F := Ideal) q k v d (ix3 g a l) = (grad (scoreR q k g a) (dprobR v d g a) l : EReal) := by
  rw [grad_apply, sum_apply]
  simp only [exp_real q k g a hq hk, den_real q k g a hq hk, dprob_real v d g a hv hd]
  exact grad_eq (scoreR q k g a) (dprobR v d g a) (fold_max_coe _) l

end Cert.GlobRefIdeal.Grad
-- ==== Proof.Glob.Value.lean ====
module

public import proofs.«01_k».proof.Proof.Glob.Arrays
public import proofs.«01_k».proof.Proof.Glob.Inputs
public import proofs.«01_k».proof.Proof.Glob.Real

/-! # The kernel's arrays are the reference's -/

@[expose] public section

set_option maxRecDepth 16384

noncomputable section

namespace Cert.GlobIdeal.Grad

open Cert.GlobIdeal Cert.GlobIdeal.Gen Cert.Softmax
open Cert.GlobRefIdeal.Grad (Real scoreR dprobR scoreR_eq dprobR_eq)
open Idealize.ShloMosaic Idealize.ShloMosaic.TcCoe Idealize.SL.Sem

/-- A contraction over all lanes of an operand that is zero outside one head is that head's. -/
theorem head_sum (n : ℕ) (hn : n < 4) (f h : Fin 256 → EReal) :
    ∑ c : Fin 256, (if c.val / 64 = n then f c else 0) * h c
      = ∑ x : Fin 64, f ⟨n * 64 + x.val, by omega⟩ * h ⟨n * 64 + x.val, by omega⟩ := by
  rw [Fin.sum_univ_tiles 4 64 rfl]
  rw [Finset.sum_eq_single (⟨n, hn⟩ : Fin 4)]
  · refine Finset.sum_congr rfl fun x _ => ?_
    rw [if_pos (by show (n * 64 + x.val) / 64 = n; omega)]
  · intro j _ hj
    refine Finset.sum_eq_zero fun x _ => ?_
    rw [if_neg (by
      intro e
      refine hj (Fin.ext ?_)
      have e' : (j.val * 64 + x.val) / 64 = n := e
      show j.val = n
      omega), zero_mul]
  · intro h; exact absurd (Finset.mem_univ _) h

/-- The stacked rows of all blocks of queries are the pairs of a query and a head. -/
theorem rows_sum (f : Fin 16384 → Fin 4 → EReal) :
    ∑ i : Fin 32, ∑ r : Fin 2048, f ⟨i.val * 512 + (qrow r).val, by omega⟩ (grp r) = ∑ a : Fin 16384, ∑ g : Fin 4, f a g := by
  rw [Fin.sum_univ_tiles 32 512 rfl]
  refine Finset.sum_congr rfl fun i _ => ?_
  rw [Fin.sum_univ_tiles 2 1024 rfl, Fin.sum_univ_tiles 2 256 rfl]
  refine Finset.sum_congr rfl fun h _ => ?_
  rw [Fin.sum_univ_tiles 4 256 rfl, Finset.sum_comm]
  refine Finset.sum_congr rfl fun x _ => Finset.sum_congr rfl fun g _ => congrArg₂ f (Fin.ext ?_) (Fin.ext ?_)
  · show i.val * 512 + ((h.val * 1024 + (g.val * 256 + x.val)) / 1024 * 256 + (h.val * 1024 + (g.val * 256 + x.val)) % 256)
      = i.val * 512 + (h.val * 256 + x.val)
    omega
  · show (h.val * 1024 + (g.val * 256 + x.val)) % 1024 / 256 = g.val
    omega

variable (m : (ℓ : Loc nD τ sig) → Buf (Elt Ideal) ℓ) (c : Dev nD)

section
variable (hq : Real (argQ m c)) (hk : Real (argK m c)) (hv : Real (argV m c)) (hd : Real (argG m c))

include hq hk in
theorem score_blk (t : Fin cfg0.N) (r : Fin 2048) (l : Fin 1280) :
    ∑ x : Fin 256, qs (blk m c t) (ix2 r x) * (blk m c t).k (ix2 l x)
      = (scoreR (argQ m c) (argK m c) (grp r) (qi t (qrow r)) (ki t l) : EReal) := by
  rw [← scoreR_eq _ _ _ _ hq hk]
  refine (Finset.sum_congr rfl fun x _ => congrArg (· * _) (qs_apply (blk m c t) r x)).trans ?_
  refine (head_sum (r.val % 1024 / 256) (by omega) (fun x => (blk m c t).q (ix2 (qrow r) x)) (fun x => (blk m c t).k (ix2 l x))).trans ?_
  refine Finset.sum_congr rfl fun x _ => (mul_comm _ _).trans (congrArg₂ (· * ·) ?_ ?_)
  · refine (b2 m c t l _).trans (congrArg (argK m c) (congrArg (ix2 _) (Fin.ext ?_)))
    show (r.val % 1024 / 256 * 64 + x.val) % 64 = x.val
    omega
  · exact b0 m c t (qrow r) _

include hv hd in
theorem dprob_blk (t : Fin cfg0.N) (r : Fin 2048) (l : Fin 1280) :
    ∑ x : Fin 256, cs (blk m c t) (ix2 r x) * (blk m c t).v (ix2 l x)
      = (dprobR (argV m c) (argG m c) (grp r) (qi t (qrow r)) (ki t l) : EReal) := by
  rw [← dprobR_eq _ _ _ _ hv hd]
  refine (Finset.sum_congr rfl fun x _ => congrArg (· * _) (cs_apply (blk m c t) r x)).trans ?_
  refine (head_sum (r.val % 1024 / 256) (by omega) (fun x => (blk m c t).ct (ix2 (qrow r) x)) (fun x => (blk m c t).v (ix2 l x))).trans ?_
  refine Finset.sum_congr rfl fun x _ => congrArg₂ (· * ·) ?_ ?_
  · exact b4 m c t (qrow r) _
  · refine (b3 m c t l _).trans (congrArg (argV m c) (congrArg (ix2 _) (Fin.ext ?_)))
    show (r.val % 1024 / 256 * 64 + x.val) % 64 = x.val
    omega

/-- A row's greatest score. -/
def topR (g : Fin 4) (a : Fin 16384) : EReal :=
  Finset.fold max ⊥ (fun l : Fin 16640 => (scoreR (argQ m c) (argK m c) g a l : EReal)) Finset.univ

include hq hk in
theorem top_host (g : Fin 4) (a : Fin 16384) : tops (scores (argQ m c) (argK m c)) (ix4 0 g a 0) = topR m c g a := by
  rw [tops_apply]
  exact Finset.fold_congr fun l _ => (scores_apply _ _ g a l).trans (scoreR_eq _ _ g a hq hk l)

include hq hk in
theorem exp_host (g : Fin 4) (a : Fin 16384) (l : Fin 16640) :
    exps (scores (argQ m c) (argK m c)) (ix4 0 g a l)
      = Ideal.exp ((scoreR (argQ m c) (argK m c) g a l : EReal) - topR m c g a) := by
  rw [exps_apply, top_host m c hq hk, scores_apply]
  exact congrArg (fun z => Ideal.exp (z - _)) (scoreR_eq _ _ g a hq hk l)

include hq hk in
theorem den_host (g : Fin 4) (a : Fin 16384) :
    dens (exps (scores (argQ m c) (argK m c))) (ix4 0 g a 0)
      = ∑ l : Fin 16640, Ideal.exp ((scoreR (argQ m c) (argK m c) g a l : EReal) - topR m c g a) := by
  rw [dens_apply]
  exact Finset.sum_congr rfl fun l _ => exp_host m c hq hk g a l

include hq hk in
/-- The kernel's probabilities. -/
theorem p_real (t : Fin cfg0.N) (r : Fin 2048) (l : Fin 1280) :
    pE (blk m c t) r l = (prob (scoreR (argQ m c) (argK m c) (grp r) (qi t (qrow r))) (ki t l) : EReal) := by
  have e : (blk m c t).lse (ix4 0 0 r 0) = topR m c (grp r) (qi t (qrow r)) + Ideal.log (∑ l : Fin 16640,
      Ideal.exp ((scoreR (argQ m c) (argK m c) (grp r) (qi t (qrow r)) l : EReal) - topR m c (grp r) (qi t (qrow r)))) := by
    refine (b6 m c t r).trans ?_
    rw [lses_apply, den_host m c hq hk, top_host m c hq hk]
  unfold pE
  rw [score_blk m c hq hk, e]
  exact exp_lse_eq _ (fold_max_coe _) _

include hq hk hv hd in
/-- A row's sum of the cotangent times the output. -/
theorem delta_host (g : Fin 4) (a : Fin 16384) :
    deltas (argG m c) (outs (exps (scores (argQ m c) (argK m c))) (argV m c)) (ix3 0 g a)
      = ((∑ l : Fin 16640, prob (scoreR (argQ m c) (argK m c) g a) l * dprobR (argV m c) (argG m c) g a l : ℝ) : EReal) := by
  rw [deltas_apply]
  have e : ∀ x : Fin 64, outs (exps (scores (argQ m c) (argK m c))) (argV m c) (ix2 a ⟨g.val * 64 + x.val, by omega⟩)
      = ((∑ l : Fin 16640, (argV m c (ix2 l ⟨x.val, by omega⟩) : EReal).toReal * prob (scoreR (argQ m c) (argK m c) g a) l : ℝ) : EReal) := by
    intro x
    refine (outs_apply _ _ a ⟨g.val * 64 + x.val, by omega⟩).trans ?_
    rw [← coe_sum]
    refine Finset.sum_congr rfl fun l _ => ?_
    rw [EReal.coe_mul, hv]
    refine congrArg₂ (· * ·) (congrArg (argV m c) (congrArg (ix2 l) (Fin.ext ?_))) ?_
    · show (g.val * 64 + x.val) % 64 = x.val
      omega
    · have eg : (⟨(g.val * 64 + x.val) / 64, by omega⟩ : Fin 4) = g :=
        Fin.ext (by show (g.val * 64 + x.val) / 64 = g.val; omega)
      rw [eg, exp_host m c hq hk, den_host m c hq hk]
      exact div_eq _ (fold_max_coe _) l
  simp only [e]
  have e2 : ∀ x : Fin 64, (argG m c (ix2 a ⟨g.val * 64 + x.val, by omega⟩) : EReal)
      * ((∑ l : Fin 16640, (argV m c (ix2 l ⟨x.val, by omega⟩) : EReal).toReal * prob (scoreR (argQ m c) (argK m c) g a) l : ℝ) : EReal)
      = (((argG m c (ix2 a ⟨g.val * 64 + x.val, by omega⟩) : EReal).toReal
      * (∑ l : Fin 16640, (argV m c (ix2 l ⟨x.val, by omega⟩) : EReal).toReal * prob (scoreR (argQ m c) (argK m c) g a) l) : ℝ) : EReal) := by
    intro x
    rw [EReal.coe_mul, hd]
  refine (Finset.sum_congr rfl fun x _ => e2 x).trans ?_
  rw [coe_sum]
  refine congrArg (fun z : ℝ => (z : EReal)) ?_
  unfold dprobR
  simp only [Finset.mul_sum]
  rw [Finset.sum_comm]
  exact Finset.sum_congr rfl fun l _ => Finset.sum_congr rfl fun x _ => by ring

include hq hk hv hd in
/-- The kernel's gradient of the scores. -/
theorem ds_real (t : Fin cfg0.N) (r : Fin 2048) (l : Fin 1280) :
    dsE (blk m c t) r l = (grad (scoreR (argQ m c) (argK m c) (grp r) (qi t (qrow r)))
      (dprobR (argV m c) (argG m c) (grp r) (qi t (qrow r))) (ki t l) : EReal) := by
  have e : (blk m c t).delta (ix4 0 0 r 0) = _ := (b7 m c t r).trans (delta_host m c hq hk hv hd (grp r) (qi t (qrow r)))
  unfold dsE
  rw [p_real m c hq hk, dprob_blk m c hv hd, e, ← EReal.coe_sub, ← EReal.coe_mul]
  rfl

/-- The place in the whole array of a row of queries of a point. -/
theorem qi_pt (j i : ℕ) (hj : j < 13) (hi : i < 32) (a : Fin 512) : qi (pt j i) a = ⟨i * 512 + a.val, by omega⟩ :=
  Fin.ext (by show (32 * j + i) % 416 % 32 * 512 + a.val = i * 512 + a.val; omega)

/-- The place in the whole array of a key of a point. -/
theorem ki_pt (j i : ℕ) (hj : j < 13) (hi : i < 32) (l : Fin 1280) : ki (pt j i) l = ⟨j * 1280 + l.val, by omega⟩ :=
  Fin.ext (by show (32 * j + i) % 416 / 32 * 1280 + l.val = j * 1280 + l.val; omega)

theorem ki_div (L : Fin 16640) (i : Fin 32) : ki (pt (L.val / 1280) i.val) ⟨L.val % 1280, Nat.mod_lt _ (by decide)⟩ = L := by
  rw [ki_pt _ _ (by omega) i.isLt]
  exact Fin.ext (by show L.val / 1280 * 1280 + L.val % 1280 = L.val; omega)

/-- The two reals of a query, a head and a key. -/
def gradAt (g : Fin 4) (a : Fin 16384) (l : Fin 16640) : EReal :=
  ((grad (scoreR (argQ m c) (argK m c) g a) (dprobR (argV m c) (argG m c) g a) l : ℝ) : EReal)
def probAt (g : Fin 4) (a : Fin 16384) (l : Fin 16640) : EReal :=
  ((prob (scoreR (argQ m c) (argK m c) g a) l : ℝ) : EReal)

theorem gradAt_congr {g g' : Fin 4} {a a' : Fin 16384} {l l' : Fin 16640} (hg : g = g') (ha : a = a') (hl : l = l') :
    gradAt m c g a l = gradAt m c g' a' l' := by subst hg ha hl; rfl
theorem probAt_congr {g g' : Fin 4} {a a' : Fin 16384} {l l' : Fin 16640} (hg : g = g') (ha : a = a') (hl : l = l') :
    probAt m c g a l = probAt m c g' a' l' := by subst hg ha hl; rfl

include hq hk hv hd in
theorem ds_at (t : Fin cfg0.N) (r : Fin 2048) (l : Fin 1280) :
    dsE (blk m c t) r l = gradAt m c (grp r) (qi t (qrow r)) (ki t l) := ds_real m c hq hk hv hd t r l
include hq hk in
theorem p_at (t : Fin cfg0.N) (r : Fin 2048) (l : Fin 1280) :
    pE (blk m c t) r l = probAt m c (grp r) (qi t (qrow r)) (ki t l) := p_real m c hq hk t r l
include hq hk hv hd in
theorem grad_at (g : Fin 4) (a : Fin 16384) (l : Fin 16640) :
    Cert.GlobRefIdeal.Read.val_main_v57 (F := Ideal) (argQ m c) (argK m c) (argV m c) (argG m c) (ix3 g a l) = gradAt m c g a l :=
  Cert.GlobRefIdeal.Grad.grad_real _ _ _ _ _ _ hq hk hv hd l
include hq hk in
theorem prob_at (g : Fin 4) (a : Fin 16384) (l : Fin 16640) :
    Cert.GlobRefIdeal.Read.val_main_v33 (F := Ideal) (argQ m c) (argK m c) (ix3 g a l) = probAt m c g a l :=
  Cert.GlobRefIdeal.Grad.prob_real _ _ _ _ hq hk l

theorem k_pt (j i : ℕ) (hj : j < 13) (hi : i < 32) (l : Fin 1280) (x : Fin 256) :
    (blk m c (pt j i)).k (ix2 l x) = argK m c (ix2 ⟨j * 1280 + l.val, by omega⟩ ⟨x.val % 64, by omega⟩) := by
  rw [← ki_pt j i hj hi l]
  exact b2 m c (pt j i) l x
theorem q_pt (j i : ℕ) (hj : j < 13) (hi : i < 32) (a : Fin 512) (g : Fin 4) (x : Fin 64) (y : Fin 256) (h : y.val = g.val * 64 + x.val) :
    (blk m c (pt j i)).qt (ix2 y a)
      = Cert.GlobRefIdeal.Read.val_main_v4 (F := Ideal) (argQ m c) (ix3 ⟨i * 512 + a.val, by omega⟩ g x) := by
  rw [Cert.GlobRefIdeal.Grad.q_apply, ← qi_pt j i hj hi a]
  refine (b1 m c (pt j i) a y).trans ?_
  exact congrArg (fun z => argQ m c (ix2 (qi (pt j i) a) z) * Ideal.ofBits .f32 0x3E000000#32) (Fin.ext h)
theorem g_pt (j i : ℕ) (hj : j < 13) (hi : i < 32) (a : Fin 512) (g : Fin 4) (x : Fin 64) (y : Fin 256) (h : y.val = g.val * 64 + x.val) :
    (blk m c (pt j i)).ctt (ix2 y a)
      = Cert.GlobRefIdeal.Read.val_main_v42 (F := Ideal) (argG m c) (ix3 x g ⟨i * 512 + a.val, by omega⟩) := by
  rw [Cert.GlobRefIdeal.Grad.d_apply, ← qi_pt j i hj hi a]
  refine (b5 m c (pt j i) a y).trans ?_
  exact congrArg (fun z => argG m c (ix2 (qi (pt j i) a) z)) (Fin.ext h)

/-- The keys' and the values' gradients at an entry, the indices as variables. -/
theorem dk_at (x : Fin 64) (L : Fin 16640) : dkOut m c (ix2 x L)
    = ∑ i : Fin 32, ∑ r : Fin 2048, (blk m c (pt (L.val / 1280) i.val)).qt (ix2 (lane x r) (qrow r))
      * dsE (blk m c (pt (L.val / 1280) i.val)) r ⟨L.val % 1280, Nat.mod_lt _ (by decide)⟩ := Finset.sum_range _
theorem dv_at (x : Fin 64) (L : Fin 16640) : dvOut m c (ix2 x L)
    = ∑ i : Fin 32, ∑ r : Fin 2048, (blk m c (pt (L.val / 1280) i.val)).ctt (ix2 (lane x r) (qrow r))
      * pE (blk m c (pt (L.val / 1280) i.val)) r ⟨L.val % 1280, Nat.mod_lt _ (by decide)⟩ := Finset.sum_range _

include hq hk hv hd in
/-- The gradient of the queries. -/
theorem dqOut_eq : dqOut m c = Cert.GlobRefIdeal.Read.val_main_v61 (F := Ideal) (argQ m c) (argK m c) (argV m c) (argG m c) := by
  funext y
  idx_vars y
  rw [Cert.GlobRefIdeal.Grad.dq_apply]
  simp only [grad_at m c hq hk hv hd]
  rw [Fin.sum_univ_tiles 13 1280 rfl]
  refine (Finset.sum_range _).trans ?_
  refine Finset.sum_congr rfl fun j _ => (dqPart_apply _ _ _).trans ?_
  refine Finset.sum_congr rfl fun l _ => ?_
  rw [ds_at m c hq hk hv hd]
  have eg : grp (srow ⟨y0.val % 512, by omega⟩ y1) = ⟨y1.val / 64, by omega⟩ :=
    Fin.ext (by show (y0.val % 512 / 256 * 1024 + y1.val / 64 * 256 + y0.val % 512 % 256) % 1024 / 256 = y1.val / 64; omega)
  have ea : qi (pt j.val (y0.val / 512)) (qrow (srow ⟨y0.val % 512, by omega⟩ y1)) = y0 := by
    rw [qi_pt _ _ j.isLt (by omega)]
    refine Fin.ext ?_
    show y0.val / 512 * 512 + ((y0.val % 512 / 256 * 1024 + y1.val / 64 * 256 + y0.val % 512 % 256) / 1024 * 256
      + (y0.val % 512 / 256 * 1024 + y1.val / 64 * 256 + y0.val % 512 % 256) % 256) = y0.val
    omega
  have ek := ki_pt j.val (y0.val / 512) j.isLt (by omega) l
  refine congrArg₂ (· * ·) ?_ ?_
  · exact gradAt_congr m c eg ea ek
  · exact k_pt m c j.val (y0.val / 512) j.isLt (by omega) l y1

include hq hk hv hd in
/-- The gradient of the keys. -/
theorem dkOut_eq : dkOut m c = Cert.GlobRefIdeal.Read.val_main_v62 (F := Ideal) (argQ m c) (argK m c) (argV m c) (argG m c) := by
  funext y
  idx_vars y
  rw [Cert.GlobRefIdeal.Grad.dk_apply]
  simp only [grad_at m c hq hk hv hd]
  refine Eq.trans ?_ (rows_sum fun a g => gradAt m c g a y1
    * Cert.GlobRefIdeal.Read.val_main_v4 (F := Ideal) (argQ m c) (ix3 a g y0))
  refine (dk_at m c y0 y1).trans ?_
  refine Finset.sum_congr rfl fun i _ => Finset.sum_congr rfl fun r _ => (mul_comm _ _).trans ?_
  have ea := qi_pt (y1.val / 1280) i.val (by omega) i.isLt (qrow r)
  refine congrArg₂ (· * ·) ?_ ?_
  · exact (ds_at m c hq hk hv hd _ r _).trans (gradAt_congr m c rfl ea (ki_div y1 i))
  · exact q_pt m c (y1.val / 1280) i.val (by omega) i.isLt (qrow r) (grp r) y0 (lane y0 r) rfl

include hq hk hd in
/-- The gradient of the values. -/
theorem dvOut_eq : dvOut m c = Cert.GlobRefIdeal.Read.val_main_v63 (F := Ideal) (argQ m c) (argK m c) (argG m c) := by
  funext y
  idx_vars y
  rw [Cert.GlobRefIdeal.Grad.dv_apply, Finset.sum_comm]
  simp only [prob_at m c hq hk]
  refine Eq.trans ?_ (rows_sum fun a g => Cert.GlobRefIdeal.Read.val_main_v42 (F := Ideal) (argG m c) (ix3 y0 g a)
    * probAt m c g a y1)
  refine (dv_at m c y0 y1).trans ?_
  refine Finset.sum_congr rfl fun i _ => Finset.sum_congr rfl fun r _ => ?_
  have ea := qi_pt (y1.val / 1280) i.val (by omega) i.isLt (qrow r)
  refine congrArg₂ (· * ·) ?_ ?_
  · exact g_pt m c (y1.val / 1280) i.val (by omega) i.isLt (qrow r) (grp r) y0 (lane y0 r) rfl
  · exact (p_at m c hq hk _ r _).trans (probAt_congr m c rfl ea (ki_div y1 i))

end

end Cert.GlobIdeal.Grad
-- ==== Proof.Glob.Claim.lean ====
/- The gradient of the global attention's first group of heads: kernel and reference give the same three arrays. -/
module

public import proofs.«01_k».proof.Defs
public import proofs.«01_k».proof.Proof.Glob.Value
public import proofs.«01_k».proof.Proof.Gen.GlobRefIdeal.Run

@[expose] public section

set_option maxRecDepth 16384

noncomputable section

open Idealize.ShloMosaic Idealize.ShloMosaic.TcCoe Idealize.SL.Sem

namespace Cert.GlobIdeal.Grad

open Cert.GlobIdeal

/-- The precondition says that the four arguments are real numbers. -/
theorem real_of_pre [Cert.Pre_finite_glob.Facts] (m : (ℓ : Loc nD τ sig) → Buf (Elt Ideal) ℓ)
    (h : Cert.Pre_GlobIdeal_finite_glob m) (c : Dev nD) :
    Cert.GlobRefIdeal.Grad.Real (argQ m c) ∧ Cert.GlobRefIdeal.Grad.Real (argK m c)
      ∧ Cert.GlobRefIdeal.Grad.Real (argV m c) ∧ Cert.GlobRefIdeal.Grad.Real (argG m c) :=
  ⟨fun i => Cert.Softmax.real_of_cmp (congrFun (h c).1 i), fun i => Cert.Softmax.real_of_cmp (congrFun (h c).2.1 i),
    fun i => Cert.Softmax.real_of_cmp (congrFun (h c).2.2.1 i), fun i => Cert.Softmax.real_of_cmp (congrFun (h c).2.2.2 i)⟩

/-- The kernel's own text is the ideal program's, read over the machine's floats: the run is the same. -/
theorem frame_kernel [Cert.Glob.Facts] : Cert.quiescent_Glob :=
  have h := fun m ρ (_ : True) => frame (F := Bits) m ρ
  cast (by sl_kernel_rfl) h

set_option maxHeartbeats 1600000 in
/-- Over the reals the attention's gradient call returns the derivative of the forward lines, in all three results. -/
theorem algebraic [Cert.Pre_finite_glob.Facts] : Cert.algebraic_GlobIdeal_GlobRefIdeal_pre_finite_glob := by
  intro m g m' g' hpre hagree
  refine ⟨fun c => dqOut m c, fun c => dkOut m c, fun c => dvOut m c, ?_, ?_⟩
  · refine (θ_run defs _ _).mono (fun r h c => ?_) (Cert.GlobIdeal.Grad.run (F := Ideal) m g)
    obtain ⟨a0, a1, a2⟩ := arrays m c r h.1
    refine ⟨a0, a1, a2, ?_, ?_, ?_, ?_⟩
    · exact ((h.1 c).2 main_arg0 (Pipeline.mem_restRefs_of main_arg0 (by decide) (by decide))).trans (Gen.V_main_arg0 m c)
    · exact ((h.1 c).2 main_arg1 (Pipeline.mem_restRefs_of main_arg1 (by decide) (by decide))).trans (Gen.V_main_arg1 m c)
    · exact ((h.1 c).2 main_arg2 (Pipeline.mem_restRefs_of main_arg2 (by decide) (by decide))).trans (Gen.V_main_arg2 m c)
    · exact (cast (congrFun ((rd m c).ArrAt_in 4 rfl _) _) ((h.1 c).1 4) : _ = _).trans (Gen.V_main_arg3 m c)
  · refine (θ_run Cert.GlobRefIdeal.defs _ _).mono (fun r h c => ?_) (Cert.GlobRefIdeal.Value.run m' g')
    obtain ⟨hq, hk, hv, hd⟩ := real_of_pre m hpre c
    obtain ⟨e0, e1, e2, rest⟩ := h c
    obtain ⟨h0, h1, h2, h3⟩ := hagree c
    refine ⟨e0.trans ?_, e1.trans ?_, e2.trans ?_, rest⟩
    · refine (Cert.GlobRefIdeal.Read.val_main_v61_eq (F := Ideal) m' c).trans ?_
      rw [h0, h1, h2, h3]
      exact (dqOut_eq m c hq hk hv hd).symm
    · refine (Cert.GlobRefIdeal.Read.val_main_v62_eq (F := Ideal) m' c).trans ?_
      rw [h0, h1, h2, h3]
      exact (dkOut_eq m c hq hk hv hd).symm
    · refine (Cert.GlobRefIdeal.Read.val_main_v63_eq (F := Ideal) _ _ _).trans ?_
      rw [h0, h1, h3]
      exact (dvOut_eq m c hq hk hd).symm

end Cert.GlobIdeal.Grad

end
-- ==== Proof.GlobB.Run.lean ====
module

public import proofs.«01_k».proof.Proof.Gen.GlobBIdeal.Frame
public import proofs.«01_k».proof.Proof.Gen.GlobBIdeal.Skeleton
public import Idealize.ShloMosaic.Lib.Pipeline.ValueKit

/-! # One point of the global attention's backward call

What the body computes at a grid point, as functions of the blocks it is handed: the two buffers of probabilities and of
score gradients, the rows of dq it writes, and the accumulators of dk and dv. The body's run leaves just these. -/

@[expose] public section

set_option maxRecDepth 16384

noncomputable section

namespace Cert.GlobBIdeal.Grad

open Cert.GlobBIdeal Cert.GlobBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks of the eight inputs at a point: the queries and their transpose, the keys, the values, the cotangent and its
transpose, the rows' log-sums and the rows' sums of cotangent times output. -/
structure Blk (F : FTy → Type) [FloatOps F] where
  q : Vec F S512x256 .bf16
  qt : Vec F S256x512 .bf16
  k : Vec F S1280x256 .bf16
  v : Vec F S1280x256 .bf16
  ct : Vec F S512x256 .f32
  ctt : Vec F S256x512 .bf16
  lse : Vec F S1x1x2048x1 .f32
  delta : Vec F S1x1x2048x1 .f32

variable (i : grid0.Coords) (b : Blk F)

/-- The queries with one head's lanes kept in each quarter of the rows. -/
def qs : FVec F S2048x256 .bf16 := k0_pay10 (k0_pay5 b.q) (k0_pay6 b.q) k0_pay7 (k0_pay8 b.q) (k0_pay9 b.q) 2#32

/-- The cotangent laid out likewise. -/
def cs : FVec F S2048x256 .bf16 := k0_pay16 (k0_pay11 b.ct) (k0_pay12 b.ct) k0_pay13 k0_pay14 k0_pay15

/-- Rows `o` to `o + 255` of a block of keys or values. -/
def rows (x : Vec F S1280x256 .bf16) (o : ℕ) (h : ∀ a, (![o, 0] : Fin 2 → ℕ) a + S256x256.size a ≤ S1280x256.size a) :
    Vec F S256x256 .bf16 := View.ld x (Rect.unit (s := S1280x256) ![o, 0] S256x256.size h)

/-- The cotangent against the first rows of values. -/
def cv0 (x : Vec F S256x256 .bf16) : FVec F S2048x256 .f32 :=
  k0_pay20 (k0_pay11 b.ct) (k0_pay12 b.ct) k0_pay13 k0_pay14 k0_pay15 x

/-- The tiles of probabilities, the newest first. -/
def pTiles : List (View.Piece (Elt F) S2048x1280 .bf16) :=
  [⟨Rect.unit ![0, 1152] S2048x128.size inb_S2048x1280_S2048x128_0_1152, k0_pay60 (qs b) (k0_pay17 b.lse) (rows b.k 1024 inb_S1280x256_S256x256_1024_0)⟩,
   ⟨Rect.unit ![0, 1024] S2048x128.size inb_S2048x1280_S2048x128_0_1024, k0_pay57 (qs b) (k0_pay17 b.lse) (rows b.k 1024 inb_S1280x256_S256x256_1024_0)⟩,
   ⟨Rect.unit ![0, 896] S2048x128.size inb_S2048x1280_S2048x128_0_896, k0_pay51 (qs b) (k0_pay17 b.lse) (rows b.k 768 inb_S1280x256_S256x256_768_0)⟩,
   ⟨Rect.unit ![0, 768] S2048x128.size inb_S2048x1280_S2048x128_0_768, k0_pay48 (qs b) (k0_pay17 b.lse) (rows b.k 768 inb_S1280x256_S256x256_768_0)⟩,
   ⟨Rect.unit ![0, 640] S2048x128.size inb_S2048x1280_S2048x128_0_640, k0_pay43 (k0_pay42 (qs b) (k0_pay17 b.lse) (rows b.k 512 inb_S1280x256_S256x256_512_0))⟩,
   ⟨Rect.unit ![0, 512] S2048x128.size inb_S2048x1280_S2048x128_0_512, k0_pay40 (qs b) (k0_pay17 b.lse) (rows b.k 512 inb_S1280x256_S256x256_512_0)⟩,
   ⟨Rect.unit ![0, 384] S2048x128.size inb_S2048x1280_S2048x128_0_384, k0_pay35 (k0_pay17 b.lse) (k0_pay28 (qs b) (rows b.k 256 inb_S1280x256_S256x256_256_0))⟩,
   ⟨Rect.unit ![0, 256] S2048x128.size inb_S2048x1280_S2048x128_0_256, k0_pay31 (qs b) (k0_pay17 b.lse) (rows b.k 256 inb_S1280x256_S256x256_256_0)⟩,
   ⟨Rect.unit ![0, 128] S2048x128.size inb_S2048x1280_S2048x128_0_128, k0_pay26 (k0_pay17 b.lse) (k0_pay19 (qs b) (rows b.k 0 inb_S1280x256_S256x256_0_0))⟩,
   ⟨Rect.unit ![0, 0] S2048x128.size inb_S2048x1280_S2048x128_0_0, k0_pay23 (k0_pay22 (qs b) b.lse (rows b.k 0 inb_S1280x256_S256x256_0_0))⟩]

/-- The probabilities of the point's queries against its keys. -/
def pBuf : Vec F S2048x1280 .bf16 := View.canon (pTiles b)

/-- The tiles of score gradients, the newest first. -/
def dsTiles : List (View.Piece (Elt F) S2048x1280 .bf16) :=
  [⟨Rect.unit ![0, 1152] S2048x128.size inb_S2048x1280_S2048x128_0_1152, k0_pay61 (qs b) (cs b) (k0_pay17 b.lse) (k0_pay18 b.delta) (rows b.k 1024 inb_S1280x256_S256x256_1024_0) (rows b.v 1024 inb_S1280x256_S256x256_1024_0)⟩,
   ⟨Rect.unit ![0, 1024] S2048x128.size inb_S2048x1280_S2048x128_0_1024, k0_pay58 (qs b) (cs b) (k0_pay17 b.lse) (k0_pay18 b.delta) (rows b.k 1024 inb_S1280x256_S256x256_1024_0) (rows b.v 1024 inb_S1280x256_S256x256_1024_0)⟩,
   ⟨Rect.unit ![0, 896] S2048x128.size inb_S2048x1280_S2048x128_0_896, k0_pay53 (k0_pay18 b.delta) (k0_pay50 (qs b) (k0_pay17 b.lse) (rows b.k 768 inb_S1280x256_S256x256_768_0)) (k0_pay52 (cs b) (rows b.v 768 inb_S1280x256_S256x256_768_0))⟩,
   ⟨Rect.unit ![0, 768] S2048x128.size inb_S2048x1280_S2048x128_0_768, k0_pay49 (qs b) (cs b) (k0_pay17 b.lse) (k0_pay18 b.delta) (rows b.k 768 inb_S1280x256_S256x256_768_0) (rows b.v 768 inb_S1280x256_S256x256_768_0)⟩,
   ⟨Rect.unit ![0, 640] S2048x128.size inb_S2048x1280_S2048x128_0_640, k0_pay44 (k0_pay18 b.delta) (k0_pay38 (cs b) (rows b.v 512 inb_S1280x256_S256x256_512_0)) (k0_pay42 (qs b) (k0_pay17 b.lse) (rows b.k 512 inb_S1280x256_S256x256_512_0))⟩,
   ⟨Rect.unit ![0, 512] S2048x128.size inb_S2048x1280_S2048x128_0_512, k0_pay41 (qs b) (cs b) (k0_pay17 b.lse) (k0_pay18 b.delta) (rows b.k 512 inb_S1280x256_S256x256_512_0) (rows b.v 512 inb_S1280x256_S256x256_512_0)⟩,
   ⟨Rect.unit ![0, 384] S2048x128.size inb_S2048x1280_S2048x128_0_384, k0_pay36 (k0_pay17 b.lse) (k0_pay18 b.delta) (k0_pay28 (qs b) (rows b.k 256 inb_S1280x256_S256x256_256_0)) (k0_pay29 (cs b) (rows b.v 256 inb_S1280x256_S256x256_256_0))⟩,
   ⟨Rect.unit ![0, 256] S2048x128.size inb_S2048x1280_S2048x128_0_256, k0_pay33 (k0_pay32 (qs b) (cs b) (k0_pay17 b.lse) (k0_pay18 b.delta) (rows b.k 256 inb_S1280x256_S256x256_256_0) (rows b.v 256 inb_S1280x256_S256x256_256_0))⟩,
   ⟨Rect.unit ![0, 128] S2048x128.size inb_S2048x1280_S2048x128_0_128, k0_pay27 (k0_pay17 b.lse) (k0_pay18 b.delta) (k0_pay19 (qs b) (rows b.k 0 inb_S1280x256_S256x256_0_0)) (cv0 b (rows b.v 0 inb_S1280x256_S256x256_0_0))⟩,
   ⟨Rect.unit ![0, 0] S2048x128.size inb_S2048x1280_S2048x128_0_0, k0_pay24 (k0_pay18 b.delta) (cv0 b (rows b.v 0 inb_S1280x256_S256x256_0_0)) (k0_pay21 (qs b) b.lse (rows b.k 0 inb_S1280x256_S256x256_0_0))⟩]

/-- The score gradients of the point's queries against its keys. -/
def dsBuf : Vec F S2048x1280 .bf16 := View.canon (dsTiles b)

/-- The point's part of the queries' gradient. -/
def dqPart : FVec F S512x256 .f32 :=
  k0_pay67 (k0_pay63 (dsBuf b) b.k) (k0_pay64 (dsBuf b) b.k) k0_pay65 (k0_pay66 (dsBuf b) b.k) 3#32

/-- The first of the rows of dq that the point's queries are. -/
theorem off1 : k0_off1 i = ![512 * (i 1).val, 0] := by
  have h : ∀ j : Fin 32, (Scalar.indexCast (Scalar.muli (BitVec.ofNat 32 j.val) 512#32) : Index).toNat = 512 * j.val := by
    decide +kernel
  exact congrArg (fun n : ℕ => (![n, 0] : Fin 2 → ℕ)) (h (i 1))

theorem qrows_inb : ∀ a, k0_off1 i a + S512x256.size a ≤ S16384x256.size a := by
  rw [off1]
  have h : (i 1).val < 32 := (i 1).isLt
  exact Fin.forall_fin_two.mpr ⟨by show 512 * (i 1).val + 512 ≤ 16384; omega, by show 0 + 256 ≤ 256; omega⟩

/-- The rows of dq that the point's queries are. -/
def qrows : Rect S16384x256 := Rect.unit (s := S16384x256) (k0_off1 i) S512x256.size (qrows_inb i)

/-- The point's rows of dq: its part, over nothing in the first block of keys and added to the earlier blocks' sum in
the others. -/
def dqRows (x : Vec F S16384x256 .f32) : FVec F S512x256 .f32 :=
  if k0_cond2 i = 1#1 then dqPart b else
    k0_pay68 (k0_pay63 (dsBuf b) b.k) (k0_pay64 (dsBuf b) b.k) k0_pay65 (k0_pay66 (dsBuf b) b.k) 3#32
      (View.ld x (Rect.unit (s := S16384x256) (k0_off1 i) S512x256.size (qrows_inb i)))

/-- What the point leaves in dq: those rows, the others as found. -/
def dqNext (x : Vec F S16384x256 .f32) : Vec F S16384x256 .f32 := (qrows i).overlay x (dqRows i b x)

/-- Whether the point is the first of its block of keys. -/
abbrev first : Prop := Scalar.cmpi .ne (Scalar.extui (Scalar.cmpi .eq (BitVec.ofNat 32 (i 1).val) 0#32) : BitVec 32) 0#32 = 1#1

/-- What the point leaves in the keys' gradient (transposed): its part added to what it found, or to zero. -/
def dkNext (x : Vec F S64x1280 .f32) : Vec F S64x1280 .f32 :=
  k0_pay1 (k0_pay70 (if first i then k0_pay2 else x)) (k0_pay71 b.qt) (k0_pay72 b.qt) (k0_pay73 b.qt) (k0_pay74 b.qt)
    (k0_pay75 b.qt) (k0_pay76 b.qt) (dsBuf b)

/-- What it leaves in the values' gradient (transposed). -/
def dvNext (x : Vec F S64x1280 .f32) : Vec F S64x1280 .f32 :=
  k0_pay69 (if first i then k0_pay3 else x) b.ctt (pBuf b)

/-- The block of keys is the first, or it is not: never both branches, never neither. -/
theorem cond3_iff : k0_cond3 i = 1#1 ↔ ¬ k0_cond2 i = 1#1 := by
  have h : ∀ j : Fin 13, (Scalar.cmpi .ne (Scalar.extui (Scalar.cmpi .sgt (BitVec.ofNat 32 j.val) 0#32) : BitVec 32) 0#32 = 1#1 ↔
      ¬ Scalar.cmpi .ne (Scalar.extui (Scalar.cmpi .eq (BitVec.ofNat 32 j.val) 0#32) : BitVec 32) 0#32 = 1#1) := by
    decide +kernel
  exact h (i 0)

/-- One write over any contents, read back: the write's payload on its rectangle, the contents elsewhere. -/
theorem read_write_overlay {κ : Kind} {sp : Space} {s : Shape} {e : EltTy} (v : View sig κ sp s e) (f : v.ty.Contents (Elt F))
    (r : Rect s) (w : r.shape.Idx → Elt F e) :
    v.read (Elt F) (v.writes (Elt F) f [(⟨r, w⟩ : View.Piece (Elt F) s e)]) = r.overlay (v.read (Elt F) f) w := by
  funext y
  by_cases hy : y ∈ r.set
  · obtain ⟨x, rfl⟩ := r.exists_idx_of_mem hy
    exact (View.read_writes_cons_emb v f r w [] x).trans (r.overlay_emb _ w x).symm
  · rw [r.overlay_of_not_mem _ _ hy, View.writes_cons]
    exact View.read_slice_write_of_not_mem r _ _ _ (by rwa [Rect.map_emb_univ])

/-- A covering write, the newest of several, read back. -/
theorem read_writes_whole {κ : Kind} {sp : Space} {s : Shape} {e : EltTy} (v : View sig κ sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ fun y => ⟨_, List.mem_cons_self, View.mem_set_unit_zero (funext h) inb y⟩]
  exact View.canon_cons_unit_zero (funext h) inb w L

/-- A whole load of what stores left: their contents. -/
theorem readCov_whole {κ : Kind} {sp : Space} {s : Shape} {e : EltTy} (v : View sig κ sp s e)
    {off : Fin s.rank → ℕ} (h : ∀ a, off a = 0) (inb : ∀ a, off a + s.size a ≤ s.size a) (L : List (View.Piece (Elt F) s e)) :
    v.readCov L (Rect.unit off (no_index s.size) inb).toLoadRect = View.canon L :=
  (View.readCov_eq_canon' v L _).trans (View.ld_unit_zero (funext h) inb (View.canon L))

set_option maxHeartbeats 2000000 in
/-- THE BODY AT A POINT: from the input blocks and the three outputs' buffers it leaves the inputs as they were, the
outputs' buffers at `dqNext`, `dkNext`, `dvNext`, and the two scratch buffers at something. -/
theorem body_run (c : Dev nD) (arg2 : Memref sig .tc .vmem S512x256 .bf16) (harg2 : arg2.IsWhole) (arg3 : Memref sig .tc .vmem S256x512 .bf16) (harg3 : arg3.IsWhole) (arg4 : Memref sig .tc .vmem S1280x256 .bf16) (harg4 : arg4.IsWhole) (arg5 : Memref sig .tc .vmem S1280x256 .bf16) (harg5 : arg5.IsWhole) (arg6 : Memref sig .tc .vmem S512x256 .f32) (harg6 : arg6.IsWhole) (arg7 : Memref sig .tc .vmem S256x512 .bf16) (harg7 : arg7.IsWhole) (arg8 : Memref sig .tc .vmem S1x1x2048x1 .f32) (harg8 : arg8.IsWhole) (arg9 : Memref sig .tc .vmem S1x1x2048x1 .f32) (harg9 : arg9.IsWhole) (arg10 : Memref sig .tc .vmem S16384x256 .f32) (harg10 : arg10.IsWhole) (arg11 : Memref sig .tc .vmem S64x1280 .f32) (harg11 : arg11.IsWhole) (arg12 : Memref sig .tc .vmem S64x1280 .f32) (harg12 : arg12.IsWhole) (arg13 : Memref sig .tc .vmem S2048x1280 .bf16) (harg13 : arg13.IsWhole) (arg14 : Memref sig .tc .vmem S2048x1280 .bf16) (harg14 : arg14.IsWhole)
    (x8 : Vec F S16384x256 .f32) (x9 x10 : Vec F S64x1280 .f32) (E : Set ℕ) (K : PUnit → sProp 𝕄) :
    iprop(owns (c : Thread nD τ) arg2 fullShare b.q ∗ owns (c : Thread nD τ) arg3 fullShare b.qt ∗ owns (c : Thread nD τ) arg4 fullShare b.k ∗ owns (c : Thread nD τ) arg5 fullShare b.v ∗ owns (c : Thread nD τ) arg6 fullShare b.ct ∗ owns (c : Thread nD τ) arg7 fullShare b.ctt ∗ owns (c : Thread nD τ) arg8 fullShare b.lse ∗ owns (c : Thread nD τ) arg9 fullShare b.delta ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
        ∗ (iprop(owns (c : Thread nD τ) arg2 fullShare b.q ∗ owns (c : Thread nD τ) arg3 fullShare b.qt ∗ owns (c : Thread nD τ) arg4 fullShare b.k ∗ owns (c : Thread nD τ) arg5 fullShare b.v ∗ owns (c : Thread nD τ) arg6 fullShare b.ct ∗ owns (c : Thread nD τ) arg7 fullShare b.ctt ∗ owns (c : Thread nD τ) arg8 fullShare b.lse ∗ owns (c : Thread nD τ) arg9 fullShare b.delta ∗ owns (c : Thread nD τ) arg10 fullShare (dqNext i b x8) ∗ owns (c : Thread nD τ) arg11 fullShare (dkNext i b x9) ∗ owns (c : Thread nD τ) arg12 fullShare (dvNext i b x10) ∗ (∃ d, owns (c : Thread nD τ) arg13 fullShare d) ∗ (∃ d, owns (c : Thread nD τ) arg14 fullShare d)) -∗ K ⟨⟩))
      ⊢ wp frame (wpE (defs₀ (F := F)) Variants.none c none) E (cc0_glob_bwd_h1 i arg2 harg2 arg3 harg3 arg4 harg4 arg5 harg5 arg6 harg6 arg7 harg7 arg8 harg8 arg9 harg9 arg10 harg10 arg11 harg11 arg12 harg12 arg13 harg13 arg14 harg14) K := by
  simp only [cc0_glob_bwd_h1_eq_skeleton]; unfold cc0_glob_bwd_h1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, %f13, -, HS0⟩, ⟨%d14, %f14, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  have hc3 := cond3_iff i
  by_cases hc0 : first i <;> by_cases hc1 : k0_cond2 i = 1#1
  all_goals
    have hc2 : k0_cond3 i = 1#1 ↔ _ := hc3
    simp only [hc1, not_true_eq_false, not_false_eq_true, iff_true, iff_false] at hc2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexact H8
      · ipureintro
        refine (read_write_overlay _ _ _ _).trans ?_
        sl_unfold_run_names
        simp (disch := decide) only [View.canon_cons_unit_lit', View.ld_unit_lit', View.readCov_unit_lit', readCov_whole, View.readAt_eq_ld, Memref.IsWhole.read_unread]
        first | exact congrArg ((qrows i).overlay x8) (if_pos hc1).symm | exact congrArg ((qrows i).overlay x8) (if_neg hc1).symm
    isplitl [H9]
    · iexists _; isplitr; swap
      · iexact H9
      · ipureintro
        rw [read_writes_whole _ _ (by decide)]
        sl_unfold_run_names
        simp (disch := decide) only [View.canon_cons_unit_lit', View.ld_unit_lit', View.readCov_unit_lit', readCov_whole, View.readAt_eq_ld, Memref.IsWhole.read_unread]
        unfold dkNext
        first | rw [if_pos hc0] | rw [if_neg hc0]
        rfl
    isplitl [H10]
    · iexists _; isplitr; swap
      · iexact H10
      · ipureintro
        rw [read_writes_whole _ _ (by decide)]
        sl_unfold_run_names
        simp (disch := decide) only [View.canon_cons_unit_lit', View.ld_unit_lit', View.readCov_unit_lit', readCov_whole, View.readAt_eq_ld, Memref.IsWhole.read_unread]
        unfold dvNext
        first | rw [if_pos hc0] | rw [if_neg hc0]
        rfl
    isplitl [HS0]
    · iexists _; iexists _; isplitr; swap
      · iexact HS0
      · ipureintro; exact rfl
    iexists _; iexists _; isplitr; swap
    · iexact HS1
    · ipureintro; exact rfl

end Cert.GlobBIdeal.Grad

end
-- ==== Proof.GlobB.Blocks.lean ====
module

public import proofs.«01_k».proof.Proof.GlobB.Run
public import Idealize.ShloMosaic.Lib.Pointwise

/-! # The point's blocks, entry by entry over the extended reals

A stacked row names a query of the point's block and a query head of the group: two tiles of 256 queries, each four
times over, once for each head. -/

@[expose] public section

set_option maxRecDepth 16384

noncomputable section

namespace Cert.GlobBIdeal.Grad

open Cert.GlobBIdeal Cert.GlobBIdeal.Gen
open Idealize.ShloMosaic Idealize.ShloMosaic.TcCoe Idealize.SL.Sem

variable (b : Blk Ideal)

/-- The query of stacked row `r`, within the point's block. -/
def qrow (r : Fin 2048) : Fin 512 := ⟨r.val / 1024 * 256 + r.val % 256, by omega⟩

/-- The head of stacked row `r`, within the group. -/
def grp (r : Fin 2048) : Fin 4 := ⟨r.val % 1024 / 256, by omega⟩

/-- The lanes of head `n` are those whose number, shifted right by six, is `n`. -/
theorem select_head {α : Type} (c : Fin 256) (n : ℕ) (hn : n < 4) (x y : α) :
    Scalar.select (IntOp.cmpi .eq (IntOp.shrsi .vector (BitVec.ofNat 32 c.val) 6#32) (BitVec.ofNat 32 n)) x y
      = if c.val / 64 = n then x else y := by
  have h : ∀ (c : Fin 256) (n : Fin 4), (IntOp.cmpi .eq (IntOp.shrsi .vector (BitVec.ofNat 32 c.val) 6#32)
      (BitVec.ofNat 32 n.val) = 1#1) ↔ c.val / 64 = n.val := by decide +kernel
  exact if_congr (h c ⟨n, hn⟩) rfl rfl

/-- The eight tiles of the stack, one below the other, are one rule. -/
theorem stack_ite (x : S512x256.Idx → EReal) (r : Fin 2048) (c : Fin 256) :
    (if h : r.val < 1024 then
      if h1 : r.val < 256 then if c.val / 64 = 0 then x (ix2 ⟨r.val, by omega⟩ c) else 0
      else if h2 : r.val - 256 < 256 then if c.val / 64 = 1 then x (ix2 ⟨r.val - 256, by omega⟩ c) else 0
      else if h3 : r.val - 256 - 256 < 256 then if c.val / 64 = 2 then x (ix2 ⟨r.val - 256 - 256, by omega⟩ c) else 0
      else if c.val / 64 = 3 then x (ix2 ⟨r.val - 256 - 256 - 256, by omega⟩ c) else 0
    else
      if h1 : r.val - 1024 < 256 then if c.val / 64 = 0 then x (ix2 ⟨256 + (r.val - 1024), by omega⟩ c) else 0
      else if h2 : r.val - 1024 - 256 < 256 then
        if c.val / 64 = 1 then x (ix2 ⟨256 + (r.val - 1024 - 256), by omega⟩ c) else 0
      else if h3 : r.val - 1024 - 256 - 256 < 256 then
        if c.val / 64 = 2 then x (ix2 ⟨256 + (r.val - 1024 - 256 - 256), by omega⟩ c) else 0
      else if c.val / 64 = 3 then x (ix2 ⟨256 + (r.val - 1024 - 256 - 256 - 256), by omega⟩ c) else 0)
    = if c.val / 64 = r.val % 1024 / 256 then x (ix2 (qrow r) c) else 0 := by
  have hr := r.isLt
  have key : ∀ (a : Fin 512) (n : ℕ), a.val = r.val / 1024 * 256 + r.val % 256 → n = r.val % 1024 / 256 →
      (if c.val / 64 = n then x (ix2 a c) else 0) = if c.val / 64 = r.val % 1024 / 256 then x (ix2 (qrow r) c) else 0 :=
    fun a n ha hn => by rw [hn, show a = qrow r from Fin.ext ha]
  split
  · split
    · exact key _ _ (by show _ = _; dsimp only; omega) (by omega)
    · split
      · exact key _ _ (by dsimp only; omega) (by omega)
      · split
        · exact key _ _ (by dsimp only; omega) (by omega)
        · exact key _ _ (by dsimp only; omega) (by omega)
  · split
    · exact key _ _ (by dsimp only; omega) (by omega)
    · split
      · exact key _ _ (by dsimp only; omega) (by omega)
      · split
        · exact key _ _ (by dsimp only; omega) (by omega)
        · exact key _ _ (by dsimp only; omega) (by omega)

/-- The stacked queries: a row keeps its own head's lanes. -/
theorem qs_apply (r : Fin 2048) (c : Fin 256) :
    qs b (ix2 r c : S2048x256.Idx) = if c.val / 64 = r.val % 1024 / 256 then b.q (ix2 (qrow r) c) else 0 := by
  pointwise [qs, k0_pay4, k0_pay5, k0_pay6, k0_pay7, k0_pay8, k0_pay9, k0_pay10]
  simp only [select_head c 0 (by decide), select_head c 1 (by decide), select_head c 2 (by decide),
    select_head c 3 (by decide)]
  exact stack_ite b.q r c

/-- The stacked cotangent likewise. -/
theorem cs_apply (r : Fin 2048) (c : Fin 256) :
    cs b (ix2 r c : S2048x256.Idx) = if c.val / 64 = r.val % 1024 / 256 then b.ct (ix2 (qrow r) c) else 0 := by
  pointwise [cs, k0_pay11, k0_pay12, k0_pay13, k0_pay14, k0_pay15, k0_pay16]
  simp only [select_head c 0 (by decide), select_head c 1 (by decide), select_head c 2 (by decide),
    select_head c 3 (by decide)]
  exact stack_ite b.ct r c

/-- The probability that stacked row `r` gives key `l` of the point's block. -/
def pE (r : Fin 2048) (l : Fin 1280) : EReal :=
  Ideal.exp (∑ c : Fin 256, qs b (ix2 r c) * b.k (ix2 l c) - b.lse (ix4 0 0 r 0))

/-- The gradient of their score. -/
def dsE (r : Fin 2048) (l : Fin 1280) : EReal :=
  pE b r l * (∑ c : Fin 256, cs b (ix2 r c) * b.v (ix2 l c) - b.delta (ix4 0 0 r 0))

theorem tile_lo (x : FVec Ideal S2048x256 .bf16) (l : Vec Ideal S1x1x2048x1 .f32) (k : Vec Ideal S256x256 .bf16)
    (r : Fin 2048) (a : Fin 128) :
    k0_pay57 x (k0_pay17 l) k (ix2 r a : S2048x128.Idx)
      = Ideal.exp (∑ c : Fin 256, x (ix2 r c) * k (ix2 ⟨a.val, by omega⟩ c) - l (ix4 0 0 r 0)) := by
  pointwise [k0_pay57, k0_pay56, k0_pay54, k0_pay17]

theorem tile_hi (x : FVec Ideal S2048x256 .bf16) (l : Vec Ideal S1x1x2048x1 .f32) (k : Vec Ideal S256x256 .bf16)
    (r : Fin 2048) (a : Fin 128) :
    k0_pay60 x (k0_pay17 l) k (ix2 r a : S2048x128.Idx)
      = Ideal.exp (∑ c : Fin 256, x (ix2 r c) * k (ix2 ⟨128 + a.val, by omega⟩ c) - l (ix4 0 0 r 0)) := by
  pointwise [k0_pay60, k0_pay59, k0_pay54, k0_pay17]

theorem dtile_lo (x w : FVec Ideal S2048x256 .bf16) (l d : Vec Ideal S1x1x2048x1 .f32) (k v : Vec Ideal S256x256 .bf16)
    (r : Fin 2048) (a : Fin 128) :
    k0_pay58 x w (k0_pay17 l) (k0_pay18 d) k v (ix2 r a : S2048x128.Idx)
      = k0_pay57 x (k0_pay17 l) k (ix2 r a : S2048x128.Idx)
        * (∑ c : Fin 256, w (ix2 r c) * v (ix2 ⟨a.val, by omega⟩ c) - d (ix4 0 0 r 0)) := by
  pointwise [k0_pay58, k0_pay57, k0_pay56, k0_pay55, k0_pay54, k0_pay17, k0_pay18]

theorem dtile_hi (x w : FVec Ideal S2048x256 .bf16) (l d : Vec Ideal S1x1x2048x1 .f32) (k v : Vec Ideal S256x256 .bf16)
    (r : Fin 2048) (a : Fin 128) :
    k0_pay61 x w (k0_pay17 l) (k0_pay18 d) k v (ix2 r a : S2048x128.Idx)
      = k0_pay60 x (k0_pay17 l) k (ix2 r a : S2048x128.Idx)
        * (∑ c : Fin 256, w (ix2 r c) * v (ix2 ⟨128 + a.val, by omega⟩ c) - d (ix4 0 0 r 0)) := by
  pointwise [k0_pay61, k0_pay60, k0_pay59, k0_pay55, k0_pay54, k0_pay17, k0_pay18]

theorem rows_apply (x : Vec Ideal S1280x256 .bf16) (o : ℕ) (h) (a c : Fin 256) (l : Fin 1280) (hl : l.val = o + a.val) :
    rows x o h (ix2 a c : S256x256.Idx) = x (ix2 l c) := by
  pointwise [rows]
  blk_ext

/-- A tile of 128 keys, the first half of its 256, and the second. -/
theorem p_lo (o : ℕ) (h) (r : Fin 2048) (a : Fin 128) (l : Fin 1280) (hl : l.val = o + a.val) :
    k0_pay57 (qs b) (k0_pay17 b.lse) (rows b.k o h) (ix2 r a : S2048x128.Idx) = pE b r l :=
  (tile_lo _ _ _ r a).trans (congrArg (fun s => Ideal.exp (s - b.lse (ix4 0 0 r 0)))
    (Finset.sum_congr rfl fun c _ => congrArg (qs b (ix2 r c) * ·) (rows_apply b.k o h _ c l hl)))

theorem p_hi (o : ℕ) (h) (r : Fin 2048) (a : Fin 128) (l : Fin 1280) (hl : l.val = o + 128 + a.val) :
    k0_pay60 (qs b) (k0_pay17 b.lse) (rows b.k o h) (ix2 r a : S2048x128.Idx) = pE b r l :=
  (tile_hi _ _ _ r a).trans (congrArg (fun s => Ideal.exp (s - b.lse (ix4 0 0 r 0)))
    (Finset.sum_congr rfl fun c _ => congrArg (qs b (ix2 r c) * ·) (rows_apply b.k o h _ c l (by dsimp only; omega))))

theorem ds_lo (o : ℕ) (h) (r : Fin 2048) (a : Fin 128) (l : Fin 1280) (hl : l.val = o + a.val) :
    k0_pay58 (qs b) (cs b) (k0_pay17 b.lse) (k0_pay18 b.delta) (rows b.k o h) (rows b.v o h) (ix2 r a : S2048x128.Idx) = dsE b r l :=
  (dtile_lo _ _ _ _ _ _ r a).trans (congrArg₂ (fun p s => p * (s - b.delta (ix4 0 0 r 0))) (p_lo b o h r a l hl)
    (Finset.sum_congr rfl fun c _ => congrArg (cs b (ix2 r c) * ·) (rows_apply b.v o h _ c l hl)))

theorem ds_hi (o : ℕ) (h) (r : Fin 2048) (a : Fin 128) (l : Fin 1280) (hl : l.val = o + 128 + a.val) :
    k0_pay61 (qs b) (cs b) (k0_pay17 b.lse) (k0_pay18 b.delta) (rows b.k o h) (rows b.v o h) (ix2 r a : S2048x128.Idx) = dsE b r l :=
  (dtile_hi _ _ _ _ _ _ r a).trans (congrArg₂ (fun p s => p * (s - b.delta (ix4 0 0 r 0))) (p_hi b o h r a l hl)
    (Finset.sum_congr rfl fun c _ => congrArg (cs b (ix2 r c) * ·) (rows_apply b.v o h _ c l (by dsimp only; omega))))

section
variable {F : FTy → Type} [FloatOps F] (x w : FVec F S2048x256 .bf16) (l d : Vec F S1x1x2048x1 .f32) (k v : Vec F S256x256 .bf16)

/-- The ten stores print the same two operations in several cuts; each is one of the two. -/
theorem p0 : k0_pay23 (k0_pay22 x l k) = k0_pay57 x (k0_pay17 l) k := rfl
theorem p1 : k0_pay26 (k0_pay17 l) (k0_pay19 x k) = k0_pay60 x (k0_pay17 l) k := rfl
theorem p2 : k0_pay31 x (k0_pay17 l) k = k0_pay57 x (k0_pay17 l) k := rfl
theorem p3 : k0_pay35 (k0_pay17 l) (k0_pay28 x k) = k0_pay60 x (k0_pay17 l) k := rfl
theorem p4 : k0_pay40 x (k0_pay17 l) k = k0_pay57 x (k0_pay17 l) k := rfl
theorem p5 : k0_pay43 (k0_pay42 x (k0_pay17 l) k) = k0_pay60 x (k0_pay17 l) k := rfl
theorem p6 : k0_pay48 x (k0_pay17 l) k = k0_pay57 x (k0_pay17 l) k := rfl
theorem p7 : k0_pay51 x (k0_pay17 l) k = k0_pay60 x (k0_pay17 l) k := rfl
theorem d0 (b : Blk F) : k0_pay24 (k0_pay18 d) (cv0 b v) (k0_pay21 x l k) = k0_pay58 x (cs b) (k0_pay17 l) (k0_pay18 d) k v := rfl
theorem d1 (b : Blk F) : k0_pay27 (k0_pay17 l) (k0_pay18 d) (k0_pay19 x k) (cv0 b v)
    = k0_pay61 x (cs b) (k0_pay17 l) (k0_pay18 d) k v := rfl
theorem d2 : k0_pay33 (k0_pay32 x w (k0_pay17 l) (k0_pay18 d) k v) = k0_pay58 x w (k0_pay17 l) (k0_pay18 d) k v := rfl
theorem d3 : k0_pay36 (k0_pay17 l) (k0_pay18 d) (k0_pay28 x k) (k0_pay29 w v) = k0_pay61 x w (k0_pay17 l) (k0_pay18 d) k v := rfl
theorem d4 : k0_pay41 x w (k0_pay17 l) (k0_pay18 d) k v = k0_pay58 x w (k0_pay17 l) (k0_pay18 d) k v := rfl
theorem d5 : k0_pay44 (k0_pay18 d) (k0_pay38 w v) (k0_pay42 x (k0_pay17 l) k) = k0_pay61 x w (k0_pay17 l) (k0_pay18 d) k v := rfl
theorem d6 : k0_pay49 x w (k0_pay17 l) (k0_pay18 d) k v = k0_pay58 x w (k0_pay17 l) (k0_pay18 d) k v := rfl
theorem d7 : k0_pay53 (k0_pay18 d) (k0_pay50 x (k0_pay17 l) k) (k0_pay52 w v) = k0_pay61 x w (k0_pay17 l) (k0_pay18 d) k v := rfl
end

/-- The buffer of probabilities and that of score gradients, whole. -/
theorem pBuf_apply (r : Fin 2048) (l : Fin 1280) : pBuf b (ix2 r l) = pE b r l := by
  unfold pBuf pTiles
  rw [p0, p1, p2, p3, p4, p5, p6, p7]
  canon_tiles x h
  all_goals
    idx_vars x
    obtain rfl : r = x0 := Fin.ext h0
    first
      | with_reducible exact p_hi b _ _ r x1 l (by omega)
      | with_reducible exact p_lo b _ _ r x1 l (by omega)

theorem dsBuf_apply (r : Fin 2048) (l : Fin 1280) : dsBuf b (ix2 r l) = dsE b r l := by
  unfold dsBuf dsTiles
  rw [d0, d1, d2, d3, d4, d5, d6, d7]
  canon_tiles x h
  all_goals
    idx_vars x
    obtain rfl : r = x0 := Fin.ext h0
    first
      | with_reducible exact ds_hi b _ _ r x1 l (by omega)
      | with_reducible exact ds_lo b _ _ r x1 l (by omega)

end Cert.GlobBIdeal.Grad
-- ==== Proof.GlobB.Steps.lean ====
module

public import proofs.«01_k».proof.Proof.GlobB.Blocks

/-! # What a point adds to each gradient

Over the extended reals a point adds to dq the score gradients against the keys, each query head read off its own row of
the stack; to dk the transposed queries against the score gradients, and to dv the transposed cotangent against the
probabilities, over all stacked rows. -/

@[expose] public section

set_option maxRecDepth 16384

noncomputable section

namespace Cert.GlobBIdeal.Grad

open Cert.GlobBIdeal Cert.GlobBIdeal.Gen
open Idealize.ShloMosaic Idealize.ShloMosaic.TcCoe Idealize.SL.Sem

variable (i : grid0.Coords) (b : Blk Ideal)

/-- The stacked row of query `a` and lane `c`'s head. -/
def srow (a : Fin 512) (c : Fin 256) : Fin 2048 := ⟨a.val / 256 * 1024 + c.val / 64 * 256 + a.val % 256, by omega⟩

/-- The lane of stacked row `r`'s head that is its `e`th. -/
def lane (e : Fin 64) (r : Fin 2048) : Fin 256 := ⟨r.val % 1024 / 256 * 64 + e.val, by omega⟩

theorem dq_fold (d : Vec Ideal S2048x1280 .bf16) (k : Vec Ideal S1280x256 .bf16) (a : Fin 512) (c : Fin 256) :
    k0_pay67 (k0_pay63 d k) (k0_pay64 d k) k0_pay65 (k0_pay66 d k) 3#32 (ix2 a c : S512x256.Idx)
      = ∑ l : Fin 1280, d (ix2 (srow a c) l) * k (ix2 l c) := by
  pointwise [k0_pay67, k0_pay63, k0_pay64, k0_pay65, k0_pay66, k0_pay62]
  simp only [select_head c 0 (by decide), select_head c 1 (by decide), select_head c 2 (by decide),
    select_head c 3 (by decide)]
  have key : ∀ r : Fin 2048, r.val = a.val / 256 * 1024 + c.val / 64 * 256 + a.val % 256 →
      ∑ l : Fin 1280, d (ix2 r l) * k (ix2 l c) = ∑ l : Fin 1280, d (ix2 (srow a c) l) * k (ix2 l c) :=
    fun r hr => by rw [show r = srow a c from Fin.ext hr]
  have hc := c.isLt
  repeat' split
  all_goals first
    | (refine key _ ?_; dsimp only; omega)
    | (exfalso; omega)

/-- One of the eight tiles, laid side by side, of the transposed queries or cotangent. -/
theorem tile_cols (q : Vec Ideal S256x512 .bf16) (e : Fin 64) (x : Fin 2048) :
    (if h : x.val < 256 then q (ix2 ⟨e.val, by omega⟩ ⟨x.val, by omega⟩)
      else if h : x.val - 256 < 256 then q (ix2 ⟨64 + e.val, by omega⟩ ⟨x.val - 256, by omega⟩)
      else if h : x.val - 256 - 256 < 256 then q (ix2 ⟨128 + e.val, by omega⟩ ⟨x.val - 256 - 256, by omega⟩)
      else if h : x.val - 256 - 256 - 256 < 256 then q (ix2 ⟨192 + e.val, by omega⟩ ⟨x.val - 256 - 256 - 256, by omega⟩)
      else if h : x.val - 256 - 256 - 256 - 256 < 256 then
        q (ix2 ⟨e.val, by omega⟩ ⟨256 + (x.val - 256 - 256 - 256 - 256), by omega⟩)
      else if h : x.val - 256 - 256 - 256 - 256 - 256 < 256 then
        q (ix2 ⟨64 + e.val, by omega⟩ ⟨256 + (x.val - 256 - 256 - 256 - 256 - 256), by omega⟩)
      else if h : x.val - 256 - 256 - 256 - 256 - 256 - 256 < 256 then
        q (ix2 ⟨128 + e.val, by omega⟩ ⟨256 + (x.val - 256 - 256 - 256 - 256 - 256 - 256), by omega⟩)
      else q (ix2 ⟨192 + e.val, by omega⟩ ⟨256 + (x.val - 256 - 256 - 256 - 256 - 256 - 256 - 256), by omega⟩))
      = q (ix2 (lane e x) (qrow x)) := by
  have key : ∀ (u : Fin 256) (v : Fin 512), u.val = x.val % 1024 / 256 * 64 + e.val → v.val = x.val / 1024 * 256 + x.val % 256 →
      q (ix2 u v) = q (ix2 (lane e x) (qrow x)) :=
    fun u v hu hv => by rw [show u = lane e x from Fin.ext hu, show v = qrow x from Fin.ext hv]
  have hx := x.isLt
  repeat' split
  all_goals (refine key _ _ ?_ ?_ <;> dsimp only <;> omega)

theorem dk_add (x : Vec Ideal S64x1280 .f32) (q : Vec Ideal S256x512 .bf16) (d : Vec Ideal S2048x1280 .bf16) (e : Fin 64) (l : Fin 1280) :
    k0_pay1 (k0_pay70 x) (k0_pay71 q) (k0_pay72 q) (k0_pay73 q) (k0_pay74 q)
      (k0_pay75 q) (k0_pay76 q) d (ix2 e l : S64x1280.Idx)
      = x (ix2 e l) + ∑ r : Fin 2048, q (ix2 (lane e r) (qrow r)) * d (ix2 r l) := by
  pointwise [k0_pay1, k0_pay70, k0_pay71, k0_pay72, k0_pay73, k0_pay74, k0_pay75, k0_pay76]
  exact congrArg (x (ix2 e l) + ·) (Finset.sum_congr rfl fun r _ => congrArg (· * d (ix2 r l)) (tile_cols q e r))

theorem dv_add (x : Vec Ideal S64x1280 .f32) (q : Vec Ideal S256x512 .bf16) (d : Vec Ideal S2048x1280 .bf16) (e : Fin 64) (l : Fin 1280) :
    k0_pay69 x q d (ix2 e l : S64x1280.Idx)
      = x (ix2 e l) + ∑ r : Fin 2048, q (ix2 (lane e r) (qrow r)) * d (ix2 r l) := by
  pointwise [k0_pay69]
  exact congrArg (x (ix2 e l) + ·) (Finset.sum_congr rfl fun r _ => congrArg (· * d (ix2 r l)) (tile_cols q e r))

/-- The point's part of dq. -/
theorem dqPart_apply (a : Fin 512) (c : Fin 256) :
    dqPart b (ix2 a c) = ∑ l : Fin 1280, dsE b (srow a c) l * b.k (ix2 l c) :=
  (dq_fold (dsBuf b) b.k a c).trans (Finset.sum_congr rfl fun l _ => congrArg (· * b.k (ix2 l c)) (dsBuf_apply b _ l))

/-- The point's step of dk and of dv. -/
theorem dkNext_apply (x : Vec Ideal S64x1280 .f32) (e : Fin 64) (l : Fin 1280) :
    dkNext i b x (ix2 e l)
      = (if first i then 0 else x (ix2 e l)) + ∑ r : Fin 2048, b.qt (ix2 (lane e r) (qrow r)) * dsE b r l := by
  refine (dk_add _ _ _ e l).trans (congrArg₂ (· + ·) ?_ (Finset.sum_congr rfl fun r _ => congrArg (_ * ·) (dsBuf_apply b r l)))
  by_cases h : first i
  · rw [if_pos h, if_pos h]; pointwise [k0_pay2]
  · rw [if_neg h, if_neg h]

theorem dvNext_apply (x : Vec Ideal S64x1280 .f32) (e : Fin 64) (l : Fin 1280) :
    dvNext i b x (ix2 e l)
      = (if first i then 0 else x (ix2 e l)) + ∑ r : Fin 2048, b.ctt (ix2 (lane e r) (qrow r)) * pE b r l := by
  refine (dv_add _ _ _ e l).trans (congrArg₂ (· + ·) ?_ (Finset.sum_congr rfl fun r _ => congrArg (_ * ·) (pBuf_apply b r l)))
  by_cases h : first i
  · rw [if_pos h, if_pos h]; pointwise [k0_pay3]
  · rw [if_neg h, if_neg h]

end Cert.GlobBIdeal.Grad
-- ==== Proof.GlobB.Frame.lean ====
module

public import proofs.«01_k».proof.Proof.GlobB.Run

/-! # The frame of the global attention's backward call

The pipeline with relational proof data: an input's buffer is left as found, an output's as `Run` says from what was found
there. So every run ends, the arguments are as launched and the counters are zero. -/

@[expose] public section

set_option maxRecDepth 16384

noncomputable section

namespace Cert.GlobBIdeal.Grad

open Cert.GlobBIdeal Cert.GlobBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the inputs at point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- The proof data: what the body leaves in each window's buffer, from what it finds there. -/
def rd (c : Dev nD) : RDat τ (Elt F) Unit ℕ (UR sig nD τ) ℕ cfg0 c where
  A := fun w => V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun t Y X => X = dqNext (grid0.coords t) (blk m c t) Y
    | 9 => fun t Y X => X = dkNext (grid0.coords t) (blk m c t) Y
    | 10 => fun t Y X => X = dvNext (grid0.coords t) (blk m c t) Y
  Φ := fun _ => Pipeline.ΦA spec0 c
  q := fun _ => fullShare
  owed := fun _ => 0

/-- The scratch buffers and the generator's register, as the body takes them. -/
theorem phi_eq (c : Dev nD) :
    (Pipeline.ΦA spec0 c : sProp 𝕄)
      = iprop(iprop((∃ d, owns (c : Thread nD τ) (Memref.whole cc0_scratch0 : Memref sig .tc .vmem S2048x1280 .bf16) fullShare d)
          ∗ (∃ d, owns (c : Thread nD τ) (Memref.whole cc0_scratch1 : Memref sig .tc .vmem S2048x1280 .bf16) fullShare d)) ∗ (∃ r, prngReg c r)) := by
  unfold Pipeline.ΦA; rw [scopedRest0_eq]; simp only [owns_whole]; try rfl

/-- The body table's row at point `t`. -/
theorem body_row (t : Fin cfg0.N) :
    defs₀ (F := F) .tc cfg0.body (cfg0.bodyArgs t (cfg0.slots t)) = bodyAt0 t := by
  unfold defs₀; rw [Defs.onTc_tc]

set_option maxHeartbeats 2000000 in
/-- The body keeps the proof data's promise at every point. -/
theorem body_ok (c : Dev nD) : (rd m c).BodyObligation (defs₀ (F := F)) Variants.none () Set.univ := by
  intro t Y hY
  have e0 : Y 0 = iblk m c 0 t := ((rd m c).finds_in_eq_fetched 0 rfl (fun _ _ _ => rfl) (fun _ _ _ h => h) t (Y 0) (hY 0)).elim fun d hd => hd
  have e1 : Y 1 = iblk m c 1 t := ((rd m c).finds_in_eq_fetched 1 rfl (fun _ _ _ => rfl) (fun _ _ _ h => h) t (Y 1) (hY 1)).elim fun d hd => hd
  have e2 : Y 2 = iblk m c 2 t := ((rd m c).finds_in_eq_fetched 2 rfl (fun _ _ _ => rfl) (fun _ _ _ h => h) t (Y 2) (hY 2)).elim fun d hd => hd
  have e3 : Y 3 = iblk m c 3 t := ((rd m c).finds_in_eq_fetched 3 rfl (fun _ _ _ => rfl) (fun _ _ _ h => h) t (Y 3) (hY 3)).elim fun d hd => hd
  have e4 : Y 4 = iblk m c 4 t := ((rd m c).finds_in_eq_fetched 4 rfl (fun _ _ _ => rfl) (fun _ _ _ h => h) t (Y 4) (hY 4)).elim fun d hd => hd
  have e5 : Y 5 = iblk m c 5 t := ((rd m c).finds_in_eq_fetched 5 rfl (fun _ _ _ => rfl) (fun _ _ _ h => h) t (Y 5) (hY 5)).elim fun d hd => hd
  have e6 : Y 6 = iblk m c 6 t := ((rd m c).finds_in_eq_fetched 6 rfl (fun _ _ _ => rfl) (fun _ _ _ h => h) t (Y 6) (hY 6)).elim fun d hd => hd
  have e7 : Y 7 = iblk m c 7 t := ((rd m c).finds_in_eq_fetched 7 rfl (fun _ _ _ => rfl) (fun _ _ _ h => h) t (Y 7) (hY 7)).elim fun d hd => hd
  rw [bigSep_W0, bigSep_W0, body_row, show (rd m c).Φ t.castSucc = _ from phi_eq c, show (rd m c).Φ t.succ = _ from phi_eq c]
  rw [e0, e1, e2, e3, e4, e5, e6, e7]
  generalize Y 8 = y8; generalize Y 9 = y9; generalize Y 10 = y10
  have h := fun K => body_run (grid0.coords t) (blk m c t) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) y8 y9 y10 Set.univ K
  refine (?_ : _ ⊢ _).trans (h _)
  iintro ⟨⟨⟨HS0, HS1⟩, Hg⟩, Ho, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]
  · iexists _; isplitr; swap
    · iexact H0
    · ipureintro; rfl
  isplitl [H1]
  · iexists _; isplitr; swap
    · iexact H1
    · ipureintro; rfl
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H8]
  · iexists _; isplitr; swap
    · iexact H8
    · ipureintro; rfl
  isplitl [H9]
  · iexists _; isplitr; swap
    · iexact H9
    · ipureintro; rfl
  iexists _; isplitr; swap
  · iexact H10
  · ipureintro; rfl

set_option backward.isDefEq.respectTransparency.types false in
/-- THE RUN: every run of the program ends, each window's array at contents the proof data allow, every other buffer as the
region found it, every counter at zero. -/
theorem run : θ_run defs (onTc (τ := τ) (main (F := F))) (s₀ m ρ)
    (fun r => RDat.FramePost cfg0 (rd m) (V m) r ∧ r.2.sem = fun _ => 0) :=
  RDat.θ_run_frame cfgs 0 launch0 defs₀ Variants.none (rd m) m ρ main (fun c => body_ok m c) (fun _ _ => by
    unfold RDat.share; exact ite_self _) (fun _ _ => rfl) (V m) (hmain m Variants.none) (fun _ _ => rfl) (fun _ _ => rfl) _
    (fun _ h => h)

/-- THE FRAME: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (cast (congrFun ((rd m c).ArrAt_in 4 rfl _) _) ((h.1 c).1 4) : _ = _).trans (V_main_arg3 m c)⟩, h.2⟩) (run m ρ)

end Cert.GlobBIdeal.Grad

end
-- ==== Proof.GlobB.Sums.lean ====
module

public import proofs.«01_k».proof.Proof.GlobB.Steps
public import proofs.«01_k».proof.Proof.GlobB.Frame

/-! # What the gradients' buffers hold at each point

By induction on the points: the two accumulators hold the sum of the parts of the block of keys so far, and the buffer of dq
holds, in the rows of each block of queries, the sum of their parts over the blocks of keys so far. -/

@[expose] public section

set_option maxRecDepth 16384

noncomputable section

namespace Cert.GlobBIdeal.Grad

open Cert.GlobBIdeal Cert.GlobBIdeal.Gen
open Idealize.ShloMosaic Idealize.ShloMosaic.TcCoe Idealize.SL.Sem
open Idealize.ShloMosaic.Pipeline (RDat)

variable (m : (ℓ : Loc nD τ sig) → Buf (Elt Ideal) ℓ) (c : Dev nD)

/-- The point of block of keys `j` and block of queries `i`. -/
def pt (j i : ℕ) : Fin cfg0.N := ⟨(32 * j + i) % 416, lt_of_lt_of_eq (Nat.mod_lt _ (by decide)) (by decide)⟩

theorem pt_self (t : Fin cfg0.N) : pt (t.val / 32) (t.val % 32) = t := by
  have h : t.val < 416 := lt_of_lt_of_eq t.isLt (by decide)
  exact Fin.ext (by show (32 * (t.val / 32) + t.val % 32) % 416 = t.val; omega)

theorem coords_val : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

theorem first_iff (t : Fin cfg0.N) : first (grid0.coords t) ↔ t.val % 32 = 0 := by
  have h : ∀ j : Fin 32, (Scalar.cmpi .ne (Scalar.extui (Scalar.cmpi .eq (BitVec.ofNat 32 j.val) 0#32) : BitVec 32) 0#32 = 1#1 ↔
      j.val = 0) := by decide +kernel
  rw [← (coords_val t).2]; exact h (grid0.coords t 1)

theorem cond2_iff (t : Fin cfg0.N) : k0_cond2 (grid0.coords t) = 1#1 ↔ t.val / 32 = 0 := by
  have h : ∀ j : Fin 13, (Scalar.cmpi .ne (Scalar.extui (Scalar.cmpi .eq (BitVec.ofNat 32 j.val) 0#32) : BitVec 32) 0#32 = 1#1 ↔
      j.val = 0) := by decide +kernel
  rw [← (coords_val t).1]; exact h (grid0.coords t 0)

/-- A point's part of dk and of dv. -/
def dkPart (b : Blk Ideal) (e : Fin 64) (l : Fin 1280) : EReal := ∑ r : Fin 2048, b.qt (ix2 (lane e r) (qrow r)) * dsE b r l
def dvPart (b : Blk Ideal) (e : Fin 64) (l : Fin 1280) : EReal := ∑ r : Fin 2048, b.ctt (ix2 (lane e r) (qrow r)) * pE b r l

/-- An accumulator that starts over at each block of keys and gains a part at each point holds the parts so far. -/
theorem acc_sum (L : Fin cfg0.N → (S64x1280.Idx → EReal) → Prop) (part : Fin cfg0.N → Fin 64 → Fin 1280 → EReal)
    (step : ∀ t X, L t X → ∃ Y, (∀ u : Fin cfg0.N, u.val + 1 = t.val → t.val % 32 ≠ 0 → L u Y)
      ∧ ∀ e l, X (ix2 e l) = (if t.val % 32 = 0 then 0 else Y (ix2 e l)) + part t e l) :
    ∀ (n : ℕ) (t : Fin cfg0.N), t.val = n → ∀ X, L t X → ∀ e l,
      X (ix2 e l) = ∑ i ∈ Finset.range (t.val % 32 + 1), part (pt (t.val / 32) i) e l := by
  intro n
  induction n with
  | zero =>
    intro t ht X hX e l
    obtain ⟨Y, -, h⟩ := step t X hX
    have h0 : t.val % 32 = 0 := by omega
    rw [h e l, if_pos h0, h0, zero_add, Finset.sum_range_one, show pt (t.val / 32) 0 = t by rw [← h0]; exact pt_self t]
  | succ n ih =>
    intro t ht X hX e l
    obtain ⟨Y, hY, h⟩ := step t X hX
    by_cases h0 : t.val % 32 = 0
    · rw [h e l, if_pos h0, h0, zero_add, Finset.sum_range_one, show pt (t.val / 32) 0 = t by rw [← h0]; exact pt_self t]
    · have hN : t.val < 416 := lt_of_lt_of_eq t.isLt (by decide)
      let u : Fin cfg0.N := ⟨n, by have := t.isLt; omega⟩
      have hu := ih u rfl Y (hY u ht.symm h0) e l
      have hu1 : u.val / 32 = t.val / 32 := by show n / 32 = _; omega
      have hu2 : u.val % 32 + 1 = t.val % 32 := by show n % 32 + 1 = _; omega
      rw [h e l, if_neg h0, hu, hu1, hu2, Finset.sum_range_succ, pt_self]

theorem leaves9 (t : Fin cfg0.N) (X : Vec Ideal S64x1280 .f32) (h : (rd m c).Leaves 9 t X) (e : Fin 64) (l : Fin 1280) :
    X (ix2 e l) = ∑ i ∈ Finset.range (t.val % 32 + 1), dkPart (blk m c (pt (t.val / 32) i)) e l := by
  refine acc_sum (fun t X => (rd m c).Leaves 9 t X) (fun t => dkPart (blk m c t)) ?_ t.val t rfl X h e l
  rintro t X ⟨Y, hY, hX⟩
  refine ⟨Y, fun u hu h0 => ?_, fun e l => ?_⟩
  · rcases ((rd m c).finds_of_pos (w := 9) (t := t) rfl (by omega) Y).mp hY with hf | hl
    · exact absurd ((flush0_9 _).mp hf) (by dsimp only; omega)
    · rwa [show (⟨t.val - 1, Nat.lt_of_le_of_lt (Nat.sub_le _ _) t.isLt⟩ : Fin cfg0.N) = u from Fin.ext (by show t.val - 1 = u.val; omega)] at hl
  · rw [show X = dkNext (grid0.coords t) (blk m c t) Y from hX, dkNext_apply]
    simp only [first_iff]; rfl

theorem leaves10 (t : Fin cfg0.N) (X : Vec Ideal S64x1280 .f32) (h : (rd m c).Leaves 10 t X) (e : Fin 64) (l : Fin 1280) :
    X (ix2 e l) = ∑ i ∈ Finset.range (t.val % 32 + 1), dvPart (blk m c (pt (t.val / 32) i)) e l := by
  refine acc_sum (fun t X => (rd m c).Leaves 10 t X) (fun t => dvPart (blk m c t)) ?_ t.val t rfl X h e l
  rintro t X ⟨Y, hY, hX⟩
  refine ⟨Y, fun u hu h0 => ?_, fun e l => ?_⟩
  · rcases ((rd m c).finds_of_pos (w := 10) (t := t) rfl (by omega) Y).mp hY with hf | hl
    · exact absurd ((flush0_10 _).mp hf) (by dsimp only; omega)
    · rwa [show (⟨t.val - 1, Nat.lt_of_le_of_lt (Nat.sub_le _ _) t.isLt⟩ : Fin cfg0.N) = u from Fin.ext (by show t.val - 1 = u.val; omega)] at hl
  · rw [show X = dvNext (grid0.coords t) (blk m c t) Y from hX, dvNext_apply]
    simp only [first_iff]; rfl

theorem dq_step (b : Blk Ideal) (x : Vec Ideal S512x256 .f32) (y : S512x256.Idx) :
    k0_pay68 (k0_pay63 (dsBuf b) b.k) (k0_pay64 (dsBuf b) b.k) k0_pay65 (k0_pay66 (dsBuf b) b.k) 3#32 x y = x y + dqPart b y := by
  unfold dqPart
  idx_vars y
  pointwise [k0_pay68]

/-- The rows that a point writes, and the others. -/
theorem dqNext_apply (t : Fin cfg0.N) (b : Blk Ideal) (x : Vec Ideal S16384x256 .f32) (A : Fin 16384) (c : Fin 256) :
    dqNext (grid0.coords t) b x (ix2 A c)
      = if A.val / 512 = t.val % 32 then
          (if t.val / 32 = 0 then 0 else x (ix2 A c)) + dqPart b (ix2 ⟨A.val % 512, by omega⟩ c)
        else x (ix2 A c) := by
  have ho : k0_off1 (grid0.coords t) = ![512 * (t.val % 32), 0] := by rw [off1, (coords_val t).2]
  have hm : t.val % 32 < 32 := Nat.mod_lt _ (by decide)
  unfold dqNext
  by_cases h : A.val / 512 = t.val % 32
  · rw [if_pos h]
    have he : (qrows (grid0.coords t)).emb (ix2 (⟨A.val % 512, by omega⟩ : Fin 512) c : S512x256.Idx) = (ix2 A c : S16384x256.Idx) := by
      unfold qrows
      refine funext fun a => ?_
      revert a
      refine Fin.forall_fin_two.mpr ⟨Fin.ext ?_, Fin.ext ?_⟩
      · show k0_off1 (grid0.coords t) 0 + 1 * (A.val % 512) = A.val
        rw [ho]; show 512 * (t.val % 32) + 1 * (A.val % 512) = A.val; omega
      · show k0_off1 (grid0.coords t) 1 + 1 * c.val = c.val
        rw [ho]; show 0 + 1 * c.val = c.val; omega
    refine (congrArg ((qrows (grid0.coords t)).overlay x (dqRows (grid0.coords t) b x)) he.symm).trans
      (((qrows (grid0.coords t)).overlay_emb x (dqRows (grid0.coords t) b x) _).trans ?_)
    unfold dqRows
    by_cases h2 : t.val / 32 = 0
    · rw [if_pos ((cond2_iff t).mpr h2), if_pos h2, zero_add]
    · rw [if_neg (fun h3 => h2 ((cond2_iff t).mp h3)), if_neg h2]
      exact (dq_step b _ _).trans (congrArg (· + dqPart b (ix2 ⟨A.val % 512, by omega⟩ c)) (congrArg x he))
  · rw [if_neg h]
    refine (qrows (grid0.coords t)).overlay_of_not_mem x (dqRows (grid0.coords t) b x) fun hm' => h ?_
    unfold qrows at hm'
    have h0 := Rect.mem_set_unit.mp hm' 0
    rw [ho] at h0
    have h1 : 512 * (t.val % 32) ≤ A.val := h0.1
    have h2 : A.val < 512 * (t.val % 32) + 512 := h0.2
    omega

/-- The sum, over the first `n` blocks of keys, of the parts of dq. -/
def dqSum (n : ℕ) (A : Fin 16384) (l : Fin 256) : EReal :=
  ∑ j ∈ Finset.range n, dqPart (blk m c (pt j (A.val / 512))) (ix2 ⟨A.val % 512, by omega⟩ l)

/-- The buffer of dq after each point: the rows up to the point's block of queries have the blocks of keys up to its own,
the rows below one block fewer. -/
theorem leaves8 (n : ℕ) : ∀ (t : Fin cfg0.N), t.val = n → ∀ X : Vec Ideal S16384x256 .f32, (rd m c).Leaves 8 t X →
    ∀ (A : Fin 16384) (l : Fin 256), (A.val / 512 ≤ t.val % 32 → X (ix2 A l) = dqSum m c (t.val / 32 + 1) A l)
      ∧ (0 < t.val / 32 → t.val % 32 < A.val / 512 → X (ix2 A l) = dqSum m c (t.val / 32) A l) := by
  induction n with
  | zero =>
    rintro t ht X ⟨Y, -, hX⟩ A l
    have h1 : t.val / 32 = 0 := by omega
    refine ⟨fun hA => ?_, fun h => absurd h (by omega)⟩
    have h2 : A.val / 512 = t.val % 32 := by omega
    rw [show X = dqNext (grid0.coords t) (blk m c t) Y from hX, dqNext_apply, if_pos h2, if_pos h1, zero_add, dqSum, h1, zero_add,
      Finset.sum_range_one, h2, show pt 0 (t.val % 32) = t by rw [← h1]; exact pt_self t]
  | succ n ih =>
    rintro t ht X ⟨Y, hY, hX⟩ A l
    have hN : t.val < 416 := lt_of_lt_of_eq t.isLt (by decide)
    have hA := A.isLt
    have hu : (rd m c).Leaves 8 ⟨n, by have := t.isLt; omega⟩ Y := by
      rcases ((rd m c).finds_of_pos (w := 8) (t := t) rfl (by omega) Y).mp hY with hf | hl
      · exact absurd ((flush0_8 _).mp hf) (by dsimp only; omega)
      · rwa [show (⟨t.val - 1, Nat.lt_of_le_of_lt (Nat.sub_le _ _) t.isLt⟩ : Fin cfg0.N) = ⟨n, by have := t.isLt; omega⟩ from
          Fin.ext (by show t.val - 1 = n; omega)] at hl
    obtain ⟨i1, i2⟩ := ih _ rfl Y hu A l
    dsimp only at i1 i2
    rw [show X = dqNext (grid0.coords t) (blk m c t) Y from hX, dqNext_apply]
    by_cases h2 : A.val / 512 = t.val % 32
    · rw [if_pos h2]
      refine ⟨fun _ => ?_, fun _ h => absurd h (by omega)⟩
      have e : dqSum m c (t.val / 32 + 1) A l = dqSum m c (t.val / 32) A l
          + dqPart (blk m c t) (ix2 ⟨A.val % 512, by omega⟩ l) := by
        unfold dqSum
        rw [Finset.sum_range_succ, h2, pt_self]
      rw [e]
      refine congrArg (· + dqPart (blk m c t) (ix2 ⟨A.val % 512, by omega⟩ l)) ?_
      by_cases h1 : t.val / 32 = 0
      · rw [if_pos h1, h1]; exact (Finset.sum_range_zero _).symm
      · rw [if_neg h1]
        by_cases h3 : t.val % 32 = 0
        · rw [i1 (by omega), show n / 32 + 1 = t.val / 32 by omega]
        · rw [i2 (by omega) (by omega), show n / 32 = t.val / 32 by omega]
    · rw [if_neg h2]
      refine ⟨fun h => ?_, fun h h' => ?_⟩
      · rw [i1 (by omega), show n / 32 = t.val / 32 by omega]
      · by_cases h3 : t.val % 32 = 0
        · rw [i1 (by omega), show n / 32 + 1 = t.val / 32 by omega]
        · rw [i2 (by omega) (by omega), show n / 32 = t.val / 32 by omega]

end Cert.GlobBIdeal.Grad
-- ==== Proof.GlobB.Arrays.lean ====
module

public import proofs.«01_k».proof.Proof.GlobB.Sums
public import Idealize.ShloMosaic.Lib.Pipeline.ArrRel

/-! # The three gradients at the end of the run -/

@[expose] public section

set_option maxRecDepth 16384

noncomputable section

namespace Cert.GlobBIdeal.Grad

open Cert.GlobBIdeal Cert.GlobBIdeal.Gen
open Idealize.ShloMosaic Idealize.ShloMosaic.TcCoe Idealize.SL.Sem
open Idealize.ShloMosaic.Pipeline (RDat Dat)

variable (m : (ℓ : Loc nD τ sig) → Buf (Elt Ideal) ℓ) (ρ : Dev nD → PrngReg) (c : Dev nD)

/-- The gradients as sums over the points, a key's block being its number over 1280. -/
def dqOut : Vec Ideal S16384x256 .f32 := fun y => dqSum m c 13 (y 0) (y 1)
def dkOut : Vec Ideal S64x16640 .f32 := fun y =>
  ∑ i ∈ Finset.range 32, dkPart (blk m c (pt ((y 1).val / 1280) i)) (y 0) ⟨(y 1).val % 1280, Nat.mod_lt _ (by decide)⟩
def dvOut : Vec Ideal S64x16640 .f32 := fun y =>
  ∑ i ∈ Finset.range 32, dvPart (blk m c (pt ((y 1).val / 1280) i)) (y 0) ⟨(y 1).val % 1280, Nat.mod_lt _ (by decide)⟩

/-- The blocks of the outputs at each point. -/
theorem idx : ∀ t : Fin cfg0.N, win0_8.index t = ![0, 0] ∧ win0_9.index t = ![0, t.val / 32] ∧ win0_10.index t = ![0, t.val / 32] :=
  (by decide +kernel : ∀ t : Fin grid0.N, _)

section
variable (after : (w : Fin cfg0.W) → Fin cfg0.N → (cfg0.win w).block.Idx → Elt Ideal (cfg0.win w).elt)
  (hL : ∀ (w : Fin cfg0.W) (u : Fin cfg0.N), (cfg0.win w).flush u = true → (rd m c).Leaves w u (after w u))
include hL

theorem arr8 : ((rd m c).withAfter after).arrAt 8 cfg0.N = dqOut m c := by
  refine ((rd m c).withAfter after).arrAt_eq_of_covers 8 _ (by decide +kernel) fun t ht y => ?_
  have hN : t.val < 416 := lt_of_lt_of_eq t.isLt (by decide)
  have ht' : t.val = 415 := by have := (flush0_8 t).mp ht; omega
  have hL' := leaves8 m c t.val t rfl _ (hL 8 t ht)
  rw [ht'] at hL'
  blk_simp
  idx_vars y
  rw [show ((cfg0.win 8).blk t).view.emb (ix2 y0 y1) = ix2 y0 y1 by blk_ext [idx t]]
  have hA := y0.isLt
  exact (hL' y0 y1).1 (by omega)

omit hL in
theorem dkOut_at (j : ℕ) (e : Fin 64) (l : Fin 1280) (k : Fin 16640) (hk : k.val = j * 1280 + l.val) :
    dkOut m c (ix2 e k) = ∑ i ∈ Finset.range (31 + 1), dkPart (blk m c (pt j i)) e l := by
  have e1 : k.val / 1280 = j := by omega
  have e2 : (⟨k.val % 1280, Nat.mod_lt _ (by decide)⟩ : Fin 1280) = l := Fin.ext (by dsimp only; omega)
  exact Finset.sum_congr rfl fun i _ => congrArg₂ (fun n l => dkPart (blk m c (pt n i)) e l) e1 e2

theorem arr9 : ((rd m c).withAfter after).arrAt 9 cfg0.N = dkOut m c := by
  refine ((rd m c).withAfter after).arrAt_eq_of_covers 9 _ (by decide +kernel) fun t ht y => ?_
  have ht' := (flush0_9 t).mp ht
  have hN : t.val < 416 := lt_of_lt_of_eq t.isLt (by decide)
  have hL' := leaves9 m c t _ (hL 9 t ht)
  rw [ht'] at hL'
  blk_simp
  idx_vars y
  rw [show ((cfg0.win 9).blk t).view.emb (ix2 y0 y1) = ix2 y0 ⟨t.val / 32 * 1280 + y1.val, by omega⟩ by blk_ext [idx t]]
  exact (hL' y0 y1).trans (dkOut_at m c (t.val / 32) y0 y1 _ rfl).symm

omit hL in
theorem dvOut_at (j : ℕ) (e : Fin 64) (l : Fin 1280) (k : Fin 16640) (hk : k.val = j * 1280 + l.val) :
    dvOut m c (ix2 e k) = ∑ i ∈ Finset.range (31 + 1), dvPart (blk m c (pt j i)) e l := by
  have e1 : k.val / 1280 = j := by omega
  have e2 : (⟨k.val % 1280, Nat.mod_lt _ (by decide)⟩ : Fin 1280) = l := Fin.ext (by dsimp only; omega)
  exact Finset.sum_congr rfl fun i _ => congrArg₂ (fun n l => dvPart (blk m c (pt n i)) e l) e1 e2

theorem arr10 : ((rd m c).withAfter after).arrAt 10 cfg0.N = dvOut m c := by
  refine ((rd m c).withAfter after).arrAt_eq_of_covers 10 _ (by decide +kernel) fun t ht y => ?_
  have ht' := (flush0_10 t).mp ht
  have hN : t.val < 416 := lt_of_lt_of_eq t.isLt (by decide)
  have hL' := leaves10 m c t _ (hL 10 t ht)
  rw [ht'] at hL'
  blk_simp
  idx_vars y
  rw [show ((cfg0.win 10).blk t).view.emb (ix2 y0 y1) = ix2 y0 ⟨t.val / 32 * 1280 + y1.val, by omega⟩ by blk_ext [idx t]]
  exact (hL' y0 y1).trans (dvOut_at m c (t.val / 32) y0 y1 _ rfl).symm
end

/-- At the end of a run the three outputs' arrays are those sums. -/
theorem arrays (r : PUnit × MemSt nD τ sig (Elt Ideal)) (h : RDat.FramePost cfg0 (rd m) (V m) r) :
    r.2.mem ((c.tc : Thread nD τ).loc main_v56_0) = dqOut m c
      ∧ r.2.mem ((c.tc : Thread nD τ).loc main_v56_1) = dkOut m c
      ∧ r.2.mem ((c.tc : Thread nD τ).loc main_v56_2) = dvOut m c := by
  obtain ⟨after, hL, hA⟩ := RDat.FramePost.exists_exact h c
  exact ⟨(hA 8).trans (arr8 m c after hL), (hA 9).trans (arr9 m c after hL), (hA 10).trans (arr10 m c after hL)⟩

end Cert.GlobBIdeal.Grad
-- ==== Proof.GlobB.Host.lean ====
module

public import proofs.«01_k».proof.Proof.GlobB.Frame
public import proofs.«01_k».proof.Proof.GlobB.Blocks

/-! What the host's lines hand to the kernel, as functions of the arguments, each read at an index. -/

@[expose] public section

set_option maxRecDepth 16384

noncomputable section

namespace Cert.GlobBIdeal.Grad

open Cert.GlobBIdeal Cert.GlobBIdeal.Gen Cert.GlobBIdeal.Facts
open Idealize.ShloMosaic Idealize.ShloMosaic.TcCoe Idealize.SL.Sem

/-- An array of floats of a shape. -/
abbrev Arr (s : Shape) : Type := FVec Ideal s .f32

/-- The scaled queries. -/
def scaled (q : Arr S16384x512) : Arr S16384x512 :=
  mulf q (broadcastInDim S16384x512 ![] bcast_S_S16384x512 (constant (F := Ideal) S_ .f32 0x3E000000#32))

/-- The scores of both key heads. -/
def scores (q : Arr S16384x512) (k : Arr S16640x128) : Arr S2x4x16384x16640 :=
  transpose S2x4x16384x16640 [0, 3, 2, 1]
    (Host.dotGeneral dot_S16640x2x64_S16384x2x4x64_S2x16640x16384x4_2_3_0_02_1_1 none
      (shapeCast S16640x2x64 k shapeCasts_S16640x128_S16640x2x64 : Arr S16640x2x64)
      (shapeCast S16384x2x4x64 (scaled q) shapeCasts_S16384x512_S16384x2x4x64 : Arr S16384x2x4x64))
    transposes_S2x16640x16384x4_S2x4x16384x16640_0_3_2_1

/-- Each row's greatest score. -/
def tops (s : Arr S2x4x16384x16640) : Arr S2x4x16384x1 :=
  broadcastInDim S2x4x16384x1 ![0, 1, 2] bcast_S2x4x16384_S2x4x16384x1_0_1_2
    (Host.reduce (FloatOps.maximumf (F := Ideal) (φ := .f32)) s (constant (F := Ideal) S_ .f32 0xFF800000#32) reducesTo_S2x4x16384x16640_S2x4x16384_d3 h_S_ : Arr S2x4x16384)

/-- The exponentials of the scores below their row's greatest. -/
def exps (s : Arr S2x4x16384x16640) : Arr S2x4x16384x16640 :=
  Host.exp (F := Ideal) (subf s (broadcastInDim S2x4x16384x16640 ![0, 1, 2, 3] bcast_S2x4x16384x1_S2x4x16384x16640_0_1_2_3 (tops s)))

/-- Each row's sum of exponentials. -/
def dens (e : Arr S2x4x16384x16640) : Arr S2x4x16384x1 :=
  broadcastInDim S2x4x16384x1 ![0, 1, 2] bcast_S2x4x16384_S2x4x16384x1_0_1_2
    (Host.reduceAdd (F := Ideal) e (constant (F := Ideal) S_ .f32 0x00000000#32) reducesTo_S2x4x16384x16640_S2x4x16384_d3 h_S_ : Arr S2x4x16384)

/-- Each row's log-sum. -/
def lses (s : Arr S2x4x16384x16640) : Arr S2x4x16384 :=
  shapeCast S2x4x16384 (addf (tops s) (Host.log (F := Ideal) (dens (exps s))) : Arr S2x4x16384x1) shapeCasts_S2x4x16384x1_S2x4x16384

/-- A quantity of each row, stacked by blocks of 512 queries. -/
def stacked (x : Arr S2x4x16384) : Arr S2x32x2048x1 :=
  shapeCast S2x32x2048x1 (transpose S2x32x2x4x256 [0, 2, 3, 1, 4]
    (shapeCast S2x4x32x2x256 x shapeCasts_S2x4x16384_S2x4x32x2x256 : Arr S2x4x32x2x256)
    transposes_S2x4x32x2x256_S2x32x2x4x256_0_2_3_1_4 : Arr S2x32x2x4x256) shapeCasts_S2x32x2x4x256_S2x32x2048x1

/-- The forward pass's output. -/
def outs (e : Arr S2x4x16384x16640) (v : Arr S16640x128) : Arr S16384x512 :=
  shapeCast S16384x512 (transpose S16384x2x4x64 [3, 0, 2, 1]
    (Host.dotGeneral dot_S16640x2x64_S2x4x16384x16640_S2x64x4x16384_0_3_2_12_1_0 none
      (shapeCast S16640x2x64 v shapeCasts_S16640x128_S16640x2x64 : Arr S16640x2x64)
      (Host.divf (F := Ideal) e (broadcastInDim S2x4x16384x16640 ![0, 1, 2, 3] bcast_S2x4x16384x1_S2x4x16384x16640_0_1_2_3 (dens e)) : Arr S2x4x16384x16640))
    transposes_S2x64x4x16384_S16384x2x4x64_3_0_2_1 : Arr S16384x2x4x64) shapeCasts_S16384x2x4x64_S16384x512

/-- Each row's sum of the cotangent times the output. -/
def deltas (d o : Arr S16384x512) : Arr S2x4x16384 :=
  transpose S2x4x16384 [1, 2, 0]
    (Host.reduceAdd (F := Ideal) (shapeCast S16384x2x4x64 (mulf d o) shapeCasts_S16384x512_S16384x2x4x64 : Arr S16384x2x4x64)
      (constant (F := Ideal) S_ .f32 0x00000000#32) reducesTo_S16384x2x4x64_S16384x2x4_d3 h_S_ : Arr S16384x2x4)
    transposes_S16384x2x4_S2x4x16384_1_2_0

/-- Each head's 64 columns four times over. -/
def rep (k : Arr S16640x128) : Arr S16640x512 :=
  concatenate S16640x512 1
    [⟨S16640x64, (extractStridedSlice S16640x64 ![0, 0] k slices_S16640x128_S16640x64_0_0 : Arr S16640x64)⟩,
     ⟨S16640x64, (extractStridedSlice S16640x64 ![0, 0] k slices_S16640x128_S16640x64_0_0 : Arr S16640x64)⟩,
     ⟨S16640x64, (extractStridedSlice S16640x64 ![0, 0] k slices_S16640x128_S16640x64_0_0 : Arr S16640x64)⟩,
     ⟨S16640x64, (extractStridedSlice S16640x64 ![0, 0] k slices_S16640x128_S16640x64_0_0 : Arr S16640x64)⟩,
     ⟨S16640x64, (extractStridedSlice S16640x64 ![0, 64] k slices_S16640x128_S16640x64_0_64 : Arr S16640x64)⟩,
     ⟨S16640x64, (extractStridedSlice S16640x64 ![0, 64] k slices_S16640x128_S16640x64_0_64 : Arr S16640x64)⟩,
     ⟨S16640x64, (extractStridedSlice S16640x64 ![0, 64] k slices_S16640x128_S16640x64_0_64 : Arr S16640x64)⟩,
     ⟨S16640x64, (extractStridedSlice S16640x64 ![0, 64] k slices_S16640x128_S16640x64_0_64 : Arr S16640x64)⟩]
    concatenates_S16640x64_S16640x64_S16640x64_S16640x64_S16640x64_S16640x64_S16640x64_S16640x64_S16640x512_d1

section
variable (m : (ℓ : Loc nD τ sig) → Buf (Elt Ideal) ℓ) (c : Dev nD)

theorem V37 : V m c main_v37 = rep (m ((c : Thread nD τ).loc main_arg1)) := by sl_kernel_rfl

theorem V47 : V m c main_v47 = rep (m ((c : Thread nD τ).loc main_arg2)) := by sl_kernel_rfl

set_option maxHeartbeats 1600000 in
theorem V51 : V m c main_v51 =
    stacked (lses (scores (m ((c : Thread nD τ).loc main_arg0)) (m ((c : Thread nD τ).loc main_arg1)))) := by
  entry_read
  rfl

set_option maxHeartbeats 1600000 in
theorem V55 : V m c main_v55 =
    stacked (deltas (m ((c : Thread nD τ).loc main_arg3))
      (outs (exps (scores (m ((c : Thread nD τ).loc main_arg0)) (m ((c : Thread nD τ).loc main_arg1))))
        (m ((c : Thread nD τ).loc main_arg2)))) := by
  entry_read
  rfl

end

end Cert.GlobBIdeal.Grad
-- ==== Proof.GlobB.Reads.lean ====
module

public import proofs.«01_k».proof.Proof.GlobB.Host

/-! The host's arrays read at an index. -/

@[expose] public section

set_option maxRecDepth 16384

noncomputable section

namespace Cert.GlobBIdeal.Grad

open Cert.GlobBIdeal Cert.GlobBIdeal.Gen Cert.GlobBIdeal.Facts
open Idealize.ShloMosaic Idealize.ShloMosaic.TcCoe Idealize.SL.Sem

theorem scaled_apply (q : Arr S16384x512) (a : Fin 16384) (l : Fin 512) :
    scaled q (ix2 a l) = q (ix2 a l) * Ideal.ofBits .f32 0x3E000000#32 := by
  pointwise [scaled]

theorem rep_apply (k : Arr S16640x128) (K : Fin 16640) (l : Fin 256) :
    rep k (ix2 K ⟨256 + l.val, by omega⟩) = k (ix2 K ⟨64 + l.val % 64, by omega⟩) := by
  pointwise [rep]
  have hl := l.isLt
  split_ifs <;> first
    | (refine congrArg k (congrArg (ix2 K) (Fin.ext ?_)); dsimp only; omega)
    | (exfalso; omega)

theorem stacked_apply (x : Arr S2x4x16384) (i : Fin 32) (r : Fin 2048) (a : Fin 16384)
    (ha : a.val = i.val * 512 + (qrow r).val) :
    stacked x (ix4 1 i r 0) = x (ix3 1 (grp r) a) := by
  pointwise [stacked]
  refine congrArg x (congrArg₂ (ix3 1) (Fin.ext ?_) (Fin.ext ?_))
  · show r.val / 256 % 4 = r.val % 1024 / 256
    omega
  · rw [ha]
    show i.val * 512 + r.val / 1024 * 256 + r.val % 256 = i.val * 512 + (r.val / 1024 * 256 + r.val % 256)
    omega

/-- One row's score of one key, of the second key head. -/
def sc (q : Arr S16384x512) (k : Arr S16640x128) (g : Fin 4) (a : Fin 16384) (l : Fin 16640) : EReal :=
  ∑ d : Fin 64, k (ix2 l ⟨64 + d.val, by omega⟩) * (q (ix2 a ⟨256 + g.val * 64 + d.val, by omega⟩) * Ideal.ofBits .f32 0x3E000000#32)

theorem scores_apply (q : Arr S16384x512) (k : Arr S16640x128) (g : Fin 4) (a : Fin 16384) (l : Fin 16640) :
    scores q k (ix4 1 g a l) = sc q k g a l := by
  pointwise [scores, sc, scaled]

theorem tops_apply (s : Arr S2x4x16384x16640) (g : Fin 4) (a : Fin 16384) :
    tops s (ix4 1 g a 0) = Finset.fold max ⊥ (fun l : Fin 16640 => s (ix4 1 g a l)) Finset.univ := by
  pointwise [tops]
  rw [show Ideal.ofBits FTy.f32 4286578688#32 = (⊥ : EReal) by simp [Ideal.ofBits, Ideal.ieee]]

theorem exps_apply (s : Arr S2x4x16384x16640) (g : Fin 4) (a : Fin 16384) (l : Fin 16640) :
    exps s (ix4 1 g a l) = Ideal.exp (s (ix4 1 g a l) - tops s (ix4 1 g a 0)) := by
  pointwise [exps]

theorem dens_apply (s : Arr S2x4x16384x16640) (g : Fin 4) (a : Fin 16384) :
    dens s (ix4 1 g a 0) = ∑ l : Fin 16640, s (ix4 1 g a l) := by
  pointwise [dens]

theorem flat_apply (x : Arr S2x4x16384x1) (g : Fin 4) (a : Fin 16384) :
    (shapeCast S2x4x16384 x shapeCasts_S2x4x16384x1_S2x4x16384 : Arr S2x4x16384) (ix3 1 g a) = x (ix4 1 g a 0) := by
  pointwise

theorem lse_apply (t d : Arr S2x4x16384x1) (g : Fin 4) (a : Fin 16384) :
    (addf t (Host.log (F := Ideal) d) : Arr S2x4x16384x1) (ix4 1 g a 0) = t (ix4 1 g a 0) + Ideal.log (d (ix4 1 g a 0)) := by
  pointwise

theorem lses_eq (s : Arr S2x4x16384x16640) :
    lses s = (shapeCast S2x4x16384 (addf (tops s) (Host.log (F := Ideal) (dens (exps s))) : Arr S2x4x16384x1) shapeCasts_S2x4x16384x1_S2x4x16384 : Arr S2x4x16384) := by
  unfold lses
  rfl

theorem lses_apply (s : Arr S2x4x16384x16640) (g : Fin 4) (a : Fin 16384) :
    lses s (ix3 1 g a) = tops s (ix4 1 g a 0) + Ideal.log (dens (exps s) (ix4 1 g a 0)) := by
  rw [lses_eq, flat_apply, lse_apply]

theorem outs_apply (e : Arr S2x4x16384x16640) (v : Arr S16640x128) (a : Fin 16384) (l : Fin 256) :
    outs e v (ix2 a ⟨256 + l.val, by omega⟩) = ∑ j : Fin 16640, v (ix2 j ⟨64 + l.val % 64, by omega⟩) *
      Ideal.div (e (ix4 1 ⟨l.val / 64, by omega⟩ a j)) (dens e (ix4 1 ⟨l.val / 64, by omega⟩ a 0)) := by
  pointwise [outs]
  have e1 : ∀ h, (⟨(256 + l.val) / 256, h⟩ : Fin 2) = 1 := fun h => Fin.ext (by show (256 + l.val) / 256 = 1; omega)
  have e2 : ∀ h, (⟨(256 + l.val) / 64 % 4, h⟩ : Fin 4) = ⟨l.val / 64, by omega⟩ :=
    fun h => Fin.ext (by show (256 + l.val) / 64 % 4 = l.val / 64; omega)
  have e3 : ∀ h, (⟨(256 + l.val) / 256 * 64 + (256 + l.val) % 64, h⟩ : Fin 128) = ⟨64 + l.val % 64, by omega⟩ :=
    fun h => Fin.ext (by show (256 + l.val) / 256 * 64 + (256 + l.val) % 64 = 64 + l.val % 64; omega)
  simp only [e1, e2, e3]

theorem deltas_apply (d o : Arr S16384x512) (g : Fin 4) (a : Fin 16384) :
    deltas d o (ix3 1 g a) = ∑ x : Fin 64, d (ix2 a ⟨256 + g.val * 64 + x.val, by omega⟩) * o (ix2 a ⟨256 + g.val * 64 + x.val, by omega⟩) := by
  pointwise [deltas]

end Cert.GlobBIdeal.Grad
-- ==== Proof.GlobB.Inputs.lean ====
module

public import proofs.«01_k».proof.Proof.GlobB.Frame
public import proofs.«01_k».proof.Proof.GlobB.Blocks
public import proofs.«01_k».proof.Proof.GlobB.Reads

/-! # The blocks that a point is handed, read off the arguments -/

@[expose] public section

set_option maxRecDepth 16384

noncomputable section

namespace Cert.GlobBIdeal.Grad

open Cert.GlobBIdeal Cert.GlobBIdeal.Gen
open Idealize.ShloMosaic Idealize.ShloMosaic.TcCoe Idealize.SL.Sem

variable (m : (ℓ : Loc nD τ sig) → Buf (Elt Ideal) ℓ) (c : Dev nD)

theorem inIdx : ∀ t : Fin cfg0.N, win0_0.index t = ![t.val % 32, 1] ∧ win0_1.index t = ![1, t.val % 32]
    ∧ win0_2.index t = ![t.val / 32, 1] ∧ win0_3.index t = ![t.val / 32, 1] ∧ win0_4.index t = ![t.val % 32, 1]
    ∧ win0_5.index t = ![1, t.val % 32] ∧ win0_6.index t = ![1, t.val % 32, 0, 0] ∧ win0_7.index t = ![1, t.val % 32, 0, 0] :=
  (by decide +kernel : ∀ t : Fin grid0.N, _)

/-- Row `a` of the point's block of queries, and key `l` of its block of keys. -/
def qi (t : Fin cfg0.N) (a : Fin 512) : Fin 16384 := ⟨t.val % 32 * 512 + a.val, by omega⟩
def ki (t : Fin cfg0.N) (l : Fin 1280) : Fin 16640 :=
  ⟨t.val / 32 * 1280 + l.val, by have h : t.val < 416 := lt_of_lt_of_eq t.isLt (by decide); omega⟩

theorem b4 (t : Fin cfg0.N) (a : Fin 512) (l : Fin 256) :
    iblk m c 4 t (ix2 a l) = m ((c : Thread nD τ).loc main_arg3) (ix2 (qi t a) ⟨256 + l.val, by omega⟩) := by
  blk_ext [iblk, V, inIdx t, qi]

/-- The queries, the keys, the values and the cotangent that the kernel is given. -/
abbrev argQ : Arr S16384x512 := m ((c : Thread nD τ).loc main_arg0)
abbrev argK : Arr S16640x128 := m ((c : Thread nD τ).loc main_arg1)
abbrev argV : Arr S16640x128 := m ((c : Thread nD τ).loc main_arg2)
abbrev argG : Arr S16384x512 := m ((c : Thread nD τ).loc main_arg3)

theorem b0 (t : Fin cfg0.N) (a : Fin 512) (l : Fin 256) :
    iblk m c 0 t (ix2 a l) = argQ m c (ix2 (qi t a) ⟨256 + l.val, by omega⟩) * Ideal.ofBits .f32 0x3E000000#32 := by
  blk_simp [iblk]
  entry_read
  rw [show ((cfg0.win 0).blk t).view.emb (ix2 a l) = ix2 (qi t a) ⟨256 + l.val, by omega⟩ by blk_ext [inIdx t, qi]]
  pointwise

theorem b1 (t : Fin cfg0.N) (a : Fin 512) (l : Fin 256) :
    iblk m c 1 t (ix2 l a) = argQ m c (ix2 (qi t a) ⟨256 + l.val, by omega⟩) * Ideal.ofBits .f32 0x3E000000#32 := by
  blk_simp [iblk]
  entry_read
  rw [show ((cfg0.win 1).blk t).view.emb (ix2 l a) = ix2 ⟨256 + l.val, by omega⟩ (qi t a) by blk_ext [inIdx t, qi]]
  pointwise

theorem b5 (t : Fin cfg0.N) (a : Fin 512) (l : Fin 256) :
    iblk m c 5 t (ix2 l a) = argG m c (ix2 (qi t a) ⟨256 + l.val, by omega⟩) := by
  blk_simp [iblk]
  entry_read
  rw [show ((cfg0.win 5).blk t).view.emb (ix2 l a) = ix2 ⟨256 + l.val, by omega⟩ (qi t a) by blk_ext [inIdx t, qi]]
  pointwise

theorem b2 (t : Fin cfg0.N) (k : Fin 1280) (l : Fin 256) :
    iblk m c 2 t (ix2 k l) = argK m c (ix2 (ki t k) ⟨64 + l.val % 64, by omega⟩) := by
  blk_simp [iblk]
  rw [V37, show ((cfg0.win 2).blk t).view.emb (ix2 k l) = ix2 (ki t k) ⟨256 + l.val, by omega⟩ by blk_ext [inIdx t, ki]]
  exact rep_apply _ _ l

theorem b3 (t : Fin cfg0.N) (k : Fin 1280) (l : Fin 256) :
    iblk m c 3 t (ix2 k l) = argV m c (ix2 (ki t k) ⟨64 + l.val % 64, by omega⟩) := by
  blk_simp [iblk]
  rw [V47, show ((cfg0.win 3).blk t).view.emb (ix2 k l) = ix2 (ki t k) ⟨256 + l.val, by omega⟩ by blk_ext [inIdx t, ki]]
  exact rep_apply _ _ l

theorem emb6 (t : Fin cfg0.N) (r : Fin 2048) :
   ((cfg0.win 6).blk t).view.emb (ix4 0 0 r 0) = ix4 1 (⟨t.val % 32, by omega⟩ : Fin 32) r 0 := by blk_ext [inIdx t]

theorem read6 (t : Fin cfg0.N) (r : Fin 2048) (X : (b : Ref sig .tc) → Buf (Elt Ideal) ((c : Thread nD τ).loc b)) :
    ((cfg0.win 6).blk t).view.read (Elt Ideal) (X (Pipeline.arrRef spec0 6)) (ix4 0 0 r 0)
      = X main_v51 (ix4 1 (⟨t.val % 32, by omega⟩ : Fin 32) r 0) := by
  blk_simp
  rw [emb6]

theorem emb7 (t : Fin cfg0.N) (r : Fin 2048) :
   ((cfg0.win 7).blk t).view.emb (ix4 0 0 r 0) = ix4 1 (⟨t.val % 32, by omega⟩ : Fin 32) r 0 := by blk_ext [inIdx t]

theorem read7 (t : Fin cfg0.N) (r : Fin 2048) (X : (b : Ref sig .tc) → Buf (Elt Ideal) ((c : Thread nD τ).loc b)) :
    ((cfg0.win 7).blk t).view.read (Elt Ideal) (X (Pipeline.arrRef spec0 7)) (ix4 0 0 r 0)
      = X main_v55 (ix4 1 (⟨t.val % 32, by omega⟩ : Fin 32) r 0) := by
  blk_simp
  rw [emb7]

theorem e6 (t : Fin cfg0.N) (r : Fin 2048) :
    iblk m c 6 t (ix4 0 0 r 0) = V m c main_v51 (ix4 1 (⟨t.val % 32, by omega⟩ : Fin 32) r 0) :=
  read6 c t r (V m c)

theorem e7 (t : Fin cfg0.N) (r : Fin 2048) :
    iblk m c 7 t (ix4 0 0 r 0) = V m c main_v55 (ix4 1 (⟨t.val % 32, by omega⟩ : Fin 32) r 0) :=
  read7 c t r (V m c)

theorem qi_val (t : Fin cfg0.N) (a : Fin 512) : (qi t a).val = t.val % 32 * 512 + a.val := rfl

theorem b6 (t : Fin cfg0.N) (r : Fin 2048) :
    iblk m c 6 t (ix4 0 0 r 0) = lses (scores (argQ m c) (argK m c)) (ix3 1 (grp r) (qi t (qrow r))) :=
  (e6 m c t r).trans ((congrFun (V51 m c) _).trans
    (stacked_apply _ ⟨t.val % 32, by omega⟩ r (qi t (qrow r)) (qi_val t (qrow r))))

theorem b7 (t : Fin cfg0.N) (r : Fin 2048) :
    iblk m c 7 t (ix4 0 0 r 0)
      = deltas (argG m c) (outs (exps (scores (argQ m c) (argK m c))) (argV m c)) (ix3 1 (grp r) (qi t (qrow r))) :=
  (e7 m c t r).trans ((congrFun (V55 m c) _).trans
    (stacked_apply _ ⟨t.val % 32, by omega⟩ r (qi t (qrow r)) (qi_val t (qrow r))))

end Cert.GlobBIdeal.Grad
-- ==== Proof.GlobB.Ref.lean ====
module

public import proofs.«01_k».proof.Proof.Gen.GlobBRefIdeal.Read
public import Idealize.ShloMosaic.Lib.Pointwise
public import Idealize.ShloMosaic.Lib.Claim

/-! # The reference's arrays read at an index -/

@[expose] public section

set_option maxRecDepth 16384

noncomputable section

namespace Cert.GlobBRefIdeal.Grad

open Cert.GlobBRefIdeal Cert.GlobBRefIdeal.Gen Cert.GlobBRefIdeal.Read
open Idealize.ShloMosaic Idealize.ShloMosaic.TcCoe Idealize.SL.Sem

variable (q : FVec Ideal S16384x512 .f32) (k v : FVec Ideal S16640x128 .f32) (d : FVec Ideal S16384x512 .f32)
variable (g : Fin 4) (a : Fin 16384) (l : Fin 16640) (x : Fin 64)

theorem q_apply : val_main_v4 (F := Ideal) q (ix3 a g x) = q (ix2 a ⟨256 + g.val * 64 + x.val, by omega⟩) * Ideal.ofBits .f32 0x3E000000#32 := by
  pointwise [val_main_v4, val_main_v3, val_main_v2, val_main_v1, val_main_v0, val_main_cst]

theorem score_apply : val_main_v8 (F := Ideal) q k (ix3 g a l) = ∑ x : Fin 64, k (ix2 l ⟨64 + x.val, by omega⟩) * val_main_v4 (F := Ideal) q (ix3 a g x) := by
  pointwise [val_main_v8, val_main_v7, val_main_v5]

theorem max_apply : val_main_v9 (F := Ideal) q k (ix2 g a) = Finset.fold max ⊥ (fun l : Fin 16640 => val_main_v8 (F := Ideal) q k (ix3 g a l)) Finset.univ := by
  unfold val_main_v9
  generalize val_main_v8 (F := Ideal) q k = s
  pointwise [val_main_cst_0]
  rw [show Ideal.ofBits FTy.f32 4286578688#32 = (⊥ : EReal) by simp [Ideal.ofBits, Ideal.ieee]]

theorem spread_apply : val_main_v27 (F := Ideal) q k (ix3 g a l) = val_main_v16 (F := Ideal) q k (ix2 g a) := by
  pointwise [val_main_v27, val_main_v26]

theorem bot_apply (i : S4x16384.Idx) : val_main_v15 (F := Ideal) i = (⊥ : EReal) := by
  pointwise [val_main_v15, val_main_cst_2]
  simp [Ideal.ofBits, Ideal.ieee]

theorem max_bot (b s : Ideal .f32) (h : b = (⊥ : EReal)) : FloatOps.maximumf (F := Ideal) (φ := .f32) b s = s := by
  subst h
  exact max_eq_right bot_le

theorem either_apply (i : S4x16384.Idx) : val_main_v16 (F := Ideal) q k i = val_main_v9 (F := Ideal) q k i :=
  (val_main_v16_apply (F := Ideal) q k i).trans (max_bot _ _ (bot_apply i))

theorem top_apply : val_main_v27 (F := Ideal) q k (ix3 g a l)
    = Finset.fold max ⊥ (fun l : Fin 16640 => val_main_v8 (F := Ideal) q k (ix3 g a l)) Finset.univ :=
  (spread_apply q k g a l).trans ((either_apply q k _).trans (max_apply q k g a))

theorem exp_apply : val_main_v29 (F := Ideal) q k (ix3 g a l) = Ideal.exp (val_main_v8 (F := Ideal) q k (ix3 g a l) - val_main_v27 (F := Ideal) q k (ix3 g a l)) := by
  pointwise [val_main_v29, val_main_v28]

theorem den_apply : val_main_v31 (F := Ideal) q k (ix3 g a 0) = ∑ l : Fin 16640, val_main_v29 (F := Ideal) q k (ix3 g a l) := by
  pointwise [val_main_v31, val_main_v30, val_main_cst_8]

theorem prob_apply : val_main_v33 (F := Ideal) q k (ix3 g a l)
    = Ideal.div (val_main_v29 (F := Ideal) q k (ix3 g a l)) (val_main_v31 (F := Ideal) q k (ix3 g a 0)) := by
  pointwise [val_main_v33, val_main_v32]

theorem d_apply : val_main_v42 (F := Ideal) d (ix3 x g a) = d (ix2 a ⟨256 + g.val * 64 + x.val, by omega⟩) := by
  pointwise [val_main_v42, val_main_v41, val_main_v40, val_main_v39]

theorem dprob_apply : val_main_v43 (F := Ideal) v d (ix3 g a l) = ∑ x : Fin 64, val_main_v42 (F := Ideal) d (ix3 x g a) * v (ix2 l ⟨64 + x.val, by omega⟩) := by
  pointwise [val_main_v43, val_main_v6]

theorem sum_apply : val_main_v55 (F := Ideal) q k v d (ix3 g a l)
    = -(∑ l : Fin 16640, val_main_v43 (F := Ideal) v d (ix3 g a l)
        * Ideal.div 1 (val_main_v31 (F := Ideal) q k (ix3 g a 0) * val_main_v31 (F := Ideal) q k (ix3 g a 0))
        * val_main_v29 (F := Ideal) q k (ix3 g a l)) := by
  pointwise [val_main_v55, val_main_v54, val_main_v51, val_main_v50, val_main_v49, val_main_v48, val_main_v47, val_main_v46, val_main_v36, val_main_v35, val_main_v34, val_main_cst_11, val_main_cst_10, val_main_cst_9]
  exact Fin.sum_univ_one _

theorem grad_apply : val_main_v57 (F := Ideal) q k v d (ix3 g a l)
    = (Ideal.div (val_main_v43 (F := Ideal) v d (ix3 g a l)) (val_main_v31 (F := Ideal) q k (ix3 g a 0))
        + val_main_v55 (F := Ideal) q k v d (ix3 g a l)) * val_main_v29 (F := Ideal) q k (ix3 g a l) := by
  pointwise [val_main_v57, val_main_v56, val_main_v53, val_main_v52]

theorem dq_apply (y : Fin 256) : val_main_v61 (F := Ideal) q k v d (ix2 a y)
    = ∑ l : Fin 16640, val_main_v57 (F := Ideal) q k v d (ix3 ⟨y.val / 64, by omega⟩ a l) * k (ix2 l ⟨64 + y.val % 64, by omega⟩) := by
  pointwise [val_main_v61, val_main_v59, val_main_v58, val_main_v5]

theorem dk_apply : val_main_v62 (F := Ideal) q k v d (ix2 x l)
    = ∑ a : Fin 16384, ∑ g : Fin 4, val_main_v57 (F := Ideal) q k v d (ix3 g a l) * val_main_v4 (F := Ideal) q (ix3 a g x) := by
  pointwise [val_main_v62, val_main_v60, val_main_v58]

theorem dv_apply : val_main_v63 (F := Ideal) q k d (ix2 x l)
    = ∑ g : Fin 4, ∑ a : Fin 16384, val_main_v42 (F := Ideal) d (ix3 x g a) * val_main_v33 (F := Ideal) q k (ix3 g a l) := by
  pointwise [val_main_v63, val_main_v45, val_main_v44]

end Cert.GlobBRefIdeal.Grad
-- ==== Proof.GlobB.Real.lean ====
module

public import proofs.«01_k».proof.Proof.GlobB.Ref
public import proofs.«01_k».proof.Proof.Shared.Softmax

/-! # The probabilities and their gradient as real numbers, and the reference's in their terms -/

@[expose] public section

set_option maxRecDepth 16384

noncomputable section

namespace Cert.GlobBRefIdeal.Grad

open Cert.GlobBRefIdeal Cert.GlobBRefIdeal.Gen Cert.GlobBRefIdeal.Read Cert.Softmax
open Idealize.ShloMosaic Idealize.ShloMosaic.TcCoe Idealize.SL.Sem

/-- Every element of an array is a real number. -/
def Real {s : Shape} (x : FVec Ideal s .f32) : Prop := ∀ i, ((x i : EReal).toReal : EReal) = x i

theorem scale_real : ((Ideal.ofBits .f32 0x3E000000#32 : EReal).toReal : EReal) = Ideal.ofBits .f32 0x3E000000#32 := by
  have h : ∃ r : ℝ, Ideal.ofBits .f32 0x3E000000#32 = (r : EReal) := ⟨_, by simp [Ideal.ofBits, Ideal.ieee]; rfl⟩
  obtain ⟨r, h⟩ := h
  rw [h, EReal.toReal_coe]

variable (q : FVec Ideal S16384x512 .f32) (k v : FVec Ideal S16640x128 .f32) (d : FVec Ideal S16384x512 .f32)
variable (g : Fin 4) (a : Fin 16384)

/-- The scores of one row. -/
def scoreR (l : Fin 16640) : ℝ :=
  ∑ x : Fin 64, (k (ix2 l ⟨64 + x.val, by omega⟩) : EReal).toReal
    * ((q (ix2 a ⟨256 + g.val * 64 + x.val, by omega⟩) : EReal).toReal * (Ideal.ofBits .f32 0x3E000000#32 : EReal).toReal)

/-- The gradient of one row's probabilities. -/
def dprobR (l : Fin 16640) : ℝ :=
  ∑ x : Fin 64, (d (ix2 a ⟨256 + g.val * 64 + x.val, by omega⟩) : EReal).toReal * (v (ix2 l ⟨64 + x.val, by omega⟩) : EReal).toReal

theorem scoreR_eq (hq : Real q) (hk : Real k) (l : Fin 16640) :
    ∑ x : Fin 64, k (ix2 l ⟨64 + x.val, by omega⟩) * (q (ix2 a ⟨256 + g.val * 64 + x.val, by omega⟩) * Ideal.ofBits .f32 0x3E000000#32)
      = (scoreR q k g a l : EReal) := by
  unfold scoreR
  rw [← coe_sum]
  exact Finset.sum_congr rfl fun x _ => by rw [EReal.coe_mul, EReal.coe_mul, hk, hq, scale_real]

theorem dprobR_eq (hv : Real v) (hd : Real d) (l : Fin 16640) :
    ∑ x : Fin 64, d (ix2 a ⟨256 + g.val * 64 + x.val, by omega⟩) * v (ix2 l ⟨64 + x.val, by omega⟩)
      = (dprobR v d g a l : EReal) := by
  unfold dprobR
  rw [← coe_sum]
  exact Finset.sum_congr rfl fun x _ => by rw [EReal.coe_mul, hd, hv]

theorem score_real (hq : Real q) (hk : Real k) (l : Fin 16640) :
    val_main_v8 (F := Ideal) q k (ix3 g a l) = (scoreR q k g a l : EReal) := by
  rw [score_apply, ← scoreR_eq q k g a hq hk]
  exact Finset.sum_congr rfl fun x _ => by rw [q_apply]

theorem top_real (hq : Real q) (hk : Real k) (l : Fin 16640) :
    val_main_v27 (F := Ideal) q k (ix3 g a l)
      = Finset.fold max ⊥ (fun l : Fin 16640 => (scoreR q k g a l : EReal)) Finset.univ := by
  rw [top_apply]
  exact Finset.fold_congr fun l _ => score_real q k g a hq hk l

theorem exp_real (hq : Real q) (hk : Real k) (l : Fin 16640) :
    val_main_v29 (F := Ideal) q k (ix3 g a l) = Ideal.exp ((scoreR q k g a l : EReal)
      - Finset.fold max ⊥ (fun l : Fin 16640 => (scoreR q k g a l : EReal)) Finset.univ) := by
  rw [exp_apply, top_real q k g a hq hk, score_real q k g a hq hk]

theorem den_real (hq : Real q) (hk : Real k) :
    val_main_v31 (F := Ideal) q k (ix3 g a 0) = ∑ l : Fin 16640, Ideal.exp ((scoreR q k g a l : EReal)
      - Finset.fold max ⊥ (fun l : Fin 16640 => (scoreR q k g a l : EReal)) Finset.univ) := by
  rw [den_apply]
  exact Finset.sum_congr rfl fun l _ => exp_real q k g a hq hk l

/-- The reference's probabilities. -/
theorem prob_real (hq : Real q) (hk : Real k) (l : Fin 16640) :
    val_main_v33 (F := Ideal) q k (ix3 g a l) = (prob (scoreR q k g a) l : EReal) := by
  rw [prob_apply, exp_real q k g a hq hk, den_real q k g a hq hk]
  exact div_eq (scoreR q k g a) (fold_max_coe _) l

theorem dprob_real (hv : Real v) (hd : Real d) (l : Fin 16640) :
    val_main_v43 (F := Ideal) v d (ix3 g a l) = (dprobR v d g a l : EReal) := by
  rw [dprob_apply, ← dprobR_eq v d g a hv hd]
  exact Finset.sum_congr rfl fun x _ => by rw [d_apply]

/-- The reference's gradient of the scores. -/
theorem grad_real (hq : Real q) (hk : Real k) (hv : Real v) (hd : Real d) (l : Fin 16640) :
    val_main_v57 (F := Ideal) q k v d (ix3 g a l) = (grad (scoreR q k g a) (dprobR v d g a) l : EReal) := by
  rw [grad_apply, sum_apply]
  simp only [exp_real q k g a hq hk, den_real q k g a hq hk, dprob_real v d g a hv hd]
  exact grad_eq (scoreR q k g a) (dprobR v d g a) (fold_max_coe _) l

end Cert.GlobBRefIdeal.Grad
-- ==== Proof.GlobB.Value.lean ====
module

public import proofs.«01_k».proof.Proof.GlobB.Arrays
public import proofs.«01_k».proof.Proof.GlobB.Inputs
public import proofs.«01_k».proof.Proof.GlobB.Real

/-! # The kernel's arrays are the reference's -/

@[expose] public section

set_option maxRecDepth 16384

noncomputable section

namespace Cert.GlobBIdeal.Grad

open Cert.GlobBIdeal Cert.GlobBIdeal.Gen Cert.Softmax
open Cert.GlobBRefIdeal.Grad (Real scoreR dprobR scoreR_eq dprobR_eq)
open Idealize.ShloMosaic Idealize.ShloMosaic.TcCoe Idealize.SL.Sem

/-- A contraction over all lanes of an operand that is zero outside one head is that head's. -/
theorem head_sum (n : ℕ) (hn : n < 4) (f h : Fin 256 → EReal) :
    ∑ c : Fin 256, (if c.val / 64 = n then f c else 0) * h c
      = ∑ x : Fin 64, f ⟨n * 64 + x.val, by omega⟩ * h ⟨n * 64 + x.val, by omega⟩ := by
  rw [Fin.sum_univ_tiles 4 64 rfl]
  rw [Finset.sum_eq_single (⟨n, hn⟩ : Fin 4)]
  · refine Finset.sum_congr rfl fun x _ => ?_
    rw [if_pos (by show (n * 64 + x.val) / 64 = n; omega)]
  · intro j _ hj
    refine Finset.sum_eq_zero fun x _ => ?_
    rw [if_neg (by
      intro e
      refine hj (Fin.ext ?_)
      have e' : (j.val * 64 + x.val) / 64 = n := e
      show j.val = n
      omega), zero_mul]
  · intro h; exact absurd (Finset.mem_univ _) h

/-- The stacked rows of all blocks of queries are the pairs of a query and a head. -/
theorem rows_sum (f : Fin 16384 → Fin 4 → EReal) :
    ∑ i : Fin 32, ∑ r : Fin 2048, f ⟨i.val * 512 + (qrow r).val, by omega⟩ (grp r) = ∑ a : Fin 16384, ∑ g : Fin 4, f a g := by
  rw [Fin.sum_univ_tiles 32 512 rfl]
  refine Finset.sum_congr rfl fun i _ => ?_
  rw [Fin.sum_univ_tiles 2 1024 rfl, Fin.sum_univ_tiles 2 256 rfl]
  refine Finset.sum_congr rfl fun h _ => ?_
  rw [Fin.sum_univ_tiles 4 256 rfl, Finset.sum_comm]
  refine Finset.sum_congr rfl fun x _ => Finset.sum_congr rfl fun g _ => congrArg₂ f (Fin.ext ?_) (Fin.ext ?_)
  · show i.val * 512 + ((h.val * 1024 + (g.val * 256 + x.val)) / 1024 * 256 + (h.val * 1024 + (g.val * 256 + x.val)) % 256)
      = i.val * 512 + (h.val * 256 + x.val)
    omega
  · show (h.val * 1024 + (g.val * 256 + x.val)) % 1024 / 256 = g.val
    omega

variable (m : (ℓ : Loc nD τ sig) → Buf (Elt Ideal) ℓ) (c : Dev nD)

section
variable (hq : Real (argQ m c)) (hk : Real (argK m c)) (hv : Real (argV m c)) (hd : Real (argG m c))

include hq hk in
theorem score_blk (t : Fin cfg0.N) (r : Fin 2048) (l : Fin 1280) :
    ∑ x : Fin 256, qs (blk m c t) (ix2 r x) * (blk m c t).k (ix2 l x)
      = (scoreR (argQ m c) (argK m c) (grp r) (qi t (qrow r)) (ki t l) : EReal) := by
  rw [← scoreR_eq _ _ _ _ hq hk]
  refine (Finset.sum_congr rfl fun x _ => congrArg (· * _) (qs_apply (blk m c t) r x)).trans ?_
  refine (head_sum (r.val % 1024 / 256) (by omega) (fun x => (blk m c t).q (ix2 (qrow r) x)) (fun x => (blk m c t).k (ix2 l x))).trans ?_
  refine Finset.sum_congr rfl fun x _ => (mul_comm _ _).trans (congrArg₂ (· * ·) ?_ ?_)
  · refine (b2 m c t l _).trans (congrArg (argK m c) (congrArg (ix2 _) (Fin.ext ?_)))
    show 64 + (r.val % 1024 / 256 * 64 + x.val) % 64 = 64 + x.val
    omega
  · refine (b0 m c t (qrow r) _).trans (congrArg (fun z => argQ m c (ix2 (qi t (qrow r)) z) * Ideal.ofBits .f32 0x3E000000#32) (Fin.ext ?_))
    show 256 + (r.val % 1024 / 256 * 64 + x.val) = 256 + r.val % 1024 / 256 * 64 + x.val
    omega

include hv hd in
theorem dprob_blk (t : Fin cfg0.N) (r : Fin 2048) (l : Fin 1280) :
    ∑ x : Fin 256, cs (blk m c t) (ix2 r x) * (blk m c t).v (ix2 l x)
      = (dprobR (argV m c) (argG m c) (grp r) (qi t (qrow r)) (ki t l) : EReal) := by
  rw [← dprobR_eq _ _ _ _ hv hd]
  refine (Finset.sum_congr rfl fun x _ => congrArg (· * _) (cs_apply (blk m c t) r x)).trans ?_
  refine (head_sum (r.val % 1024 / 256) (by omega) (fun x => (blk m c t).ct (ix2 (qrow r) x)) (fun x => (blk m c t).v (ix2 l x))).trans ?_
  refine Finset.sum_congr rfl fun x _ => congrArg₂ (· * ·) ?_ ?_
  · refine (b4 m c t (qrow r) _).trans (congrArg (fun z => argG m c (ix2 (qi t (qrow r)) z)) (Fin.ext ?_))
    show 256 + (r.val % 1024 / 256 * 64 + x.val) = 256 + r.val % 1024 / 256 * 64 + x.val
    omega
  · refine (b3 m c t l _).trans (congrArg (argV m c) (congrArg (ix2 _) (Fin.ext ?_)))
    show 64 + (r.val % 1024 / 256 * 64 + x.val) % 64 = 64 + x.val
    omega

/-- A row's greatest score. -/
def topR (g : Fin 4) (a : Fin 16384) : EReal :=
  Finset.fold max ⊥ (fun l : Fin 16640 => (scoreR (argQ m c) (argK m c) g a l : EReal)) Finset.univ

include hq hk in
theorem top_host (g : Fin 4) (a : Fin 16384) : tops (scores (argQ m c) (argK m c)) (ix4 1 g a 0) = topR m c g a := by
  rw [tops_apply]
  exact Finset.fold_congr fun l _ => (scores_apply _ _ g a l).trans (scoreR_eq _ _ g a hq hk l)

include hq hk in
theorem exp_host (g : Fin 4) (a : Fin 16384) (l : Fin 16640) :
    exps (scores (argQ m c) (argK m c)) (ix4 1 g a l)
      = Ideal.exp ((scoreR (argQ m c) (argK m c) g a l : EReal) - topR m c g a) := by
  rw [exps_apply, top_host m c hq hk, scores_apply]
  exact congrArg (fun z => Ideal.exp (z - _)) (scoreR_eq _ _ g a hq hk l)

include hq hk in
theorem den_host (g : Fin 4) (a : Fin 16384) :
    dens (exps (scores (argQ m c) (argK m c))) (ix4 1 g a 0)
      = ∑ l : Fin 16640, Ideal.exp ((scoreR (argQ m c) (argK m c) g a l : EReal) - topR m c g a) := by
  rw [dens_apply]
  exact Finset.sum_congr rfl fun l _ => exp_host m c hq hk g a l

include hq hk in
/-- The kernel's probabilities. -/
theorem p_real (t : Fin cfg0.N) (r : Fin 2048) (l : Fin 1280) :
    pE (blk m c t) r l = (prob (scoreR (argQ m c) (argK m c) (grp r) (qi t (qrow r))) (ki t l) : EReal) := by
  have e : (blk m c t).lse (ix4 0 0 r 0) = topR m c (grp r) (qi t (qrow r)) + Ideal.log (∑ l : Fin 16640,
      Ideal.exp ((scoreR (argQ m c) (argK m c) (grp r) (qi t (qrow r)) l : EReal) - topR m c (grp r) (qi t (qrow r)))) := by
    refine (b6 m c t r).trans ?_
    rw [lses_apply, den_host m c hq hk, top_host m c hq hk]
  unfold pE
  rw [score_blk m c hq hk, e]
  exact exp_lse_eq _ (fold_max_coe _) _

include hq hk hv hd in
/-- A row's sum of the cotangent times the output. -/
theorem delta_host (g : Fin 4) (a : Fin 16384) :
    deltas (argG m c) (outs (exps (scores (argQ m c) (argK m c))) (argV m c)) (ix3 1 g a)
      = ((∑ l : Fin 16640, prob (scoreR (argQ m c) (argK m c) g a) l * dprobR (argV m c) (argG m c) g a l : ℝ) : EReal) := by
  rw [deltas_apply]
  have e : ∀ x : Fin 64, outs (exps (scores (argQ m c) (argK m c))) (argV m c) (ix2 a ⟨256 + g.val * 64 + x.val, by omega⟩)
      = ((∑ l : Fin 16640, (argV m c (ix2 l ⟨64 + x.val, by omega⟩) : EReal).toReal * prob (scoreR (argQ m c) (argK m c) g a) l : ℝ) : EReal) := by
    intro x
    have ec : (⟨256 + g.val * 64 + x.val, by omega⟩ : Fin 512) = ⟨256 + (g.val * 64 + x.val), by omega⟩ :=
      Fin.ext (by show 256 + g.val * 64 + x.val = 256 + (g.val * 64 + x.val); omega)
    refine ((congrArg (fun z => outs (exps (scores (argQ m c) (argK m c))) (argV m c) (ix2 a z)) ec).trans
      (outs_apply _ _ a ⟨g.val * 64 + x.val, by omega⟩)).trans ?_
    rw [← coe_sum]
    refine Finset.sum_congr rfl fun l _ => ?_
    rw [EReal.coe_mul, hv]
    refine congrArg₂ (· * ·) (congrArg (argV m c) (congrArg (ix2 l) (Fin.ext ?_))) ?_
    · show 64 + (g.val * 64 + x.val) % 64 = 64 + x.val
      omega
    · have eg : (⟨(g.val * 64 + x.val) / 64, by omega⟩ : Fin 4) = g :=
        Fin.ext (by show (g.val * 64 + x.val) / 64 = g.val; omega)
      rw [eg, exp_host m c hq hk, den_host m c hq hk]
      exact div_eq _ (fold_max_coe _) l
  simp only [e]
  have e2 : ∀ x : Fin 64, (argG m c (ix2 a ⟨256 + g.val * 64 + x.val, by omega⟩) : EReal)
      * ((∑ l : Fin 16640, (argV m c (ix2 l ⟨64 + x.val, by omega⟩) : EReal).toReal * prob (scoreR (argQ m c) (argK m c) g a) l : ℝ) : EReal)
      = (((argG m c (ix2 a ⟨256 + g.val * 64 + x.val, by omega⟩) : EReal).toReal
      * (∑ l : Fin 16640, (argV m c (ix2 l ⟨64 + x.val, by omega⟩) : EReal).toReal * prob (scoreR (argQ m c) (argK m c) g a) l) : ℝ) : EReal) := by
    intro x
    rw [EReal.coe_mul, hd]
  refine (Finset.sum_congr rfl fun x _ => e2 x).trans ?_
  rw [coe_sum]
  refine congrArg (fun z : ℝ => (z : EReal)) ?_
  unfold dprobR
  simp only [Finset.mul_sum]
  rw [Finset.sum_comm]
  exact Finset.sum_congr rfl fun l _ => Finset.sum_congr rfl fun x _ => by ring

include hq hk hv hd in
/-- The kernel's gradient of the scores. -/
theorem ds_real (t : Fin cfg0.N) (r : Fin 2048) (l : Fin 1280) :
    dsE (blk m c t) r l = (grad (scoreR (argQ m c) (argK m c) (grp r) (qi t (qrow r)))
      (dprobR (argV m c) (argG m c) (grp r) (qi t (qrow r))) (ki t l) : EReal) := by
  have e : (blk m c t).delta (ix4 0 0 r 0) = _ := (b7 m c t r).trans (delta_host m c hq hk hv hd (grp r) (qi t (qrow r)))
  unfold dsE
  rw [p_real m c hq hk, dprob_blk m c hv hd, e, ← EReal.coe_sub, ← EReal.coe_mul]
  rfl

/-- The place in the whole array of a row of queries of a point. -/
theorem qi_pt (j i : ℕ) (hj : j < 13) (hi : i < 32) (a : Fin 512) : qi (pt j i) a = ⟨i * 512 + a.val, by omega⟩ :=
  Fin.ext (by show (32 * j + i) % 416 % 32 * 512 + a.val = i * 512 + a.val; omega)

/-- The place in the whole array of a key of a point. -/
theorem ki_pt (j i : ℕ) (hj : j < 13) (hi : i < 32) (l : Fin 1280) : ki (pt j i) l = ⟨j * 1280 + l.val, by omega⟩ :=
  Fin.ext (by show (32 * j + i) % 416 / 32 * 1280 + l.val = j * 1280 + l.val; omega)

theorem ki_div (L : Fin 16640) (i : Fin 32) : ki (pt (L.val / 1280) i.val) ⟨L.val % 1280, Nat.mod_lt _ (by decide)⟩ = L := by
  rw [ki_pt _ _ (by omega) i.isLt]
  exact Fin.ext (by show L.val / 1280 * 1280 + L.val % 1280 = L.val; omega)

/-- The two reals of a query, a head and a key. -/
def gradAt (g : Fin 4) (a : Fin 16384) (l : Fin 16640) : EReal :=
  ((grad (scoreR (argQ m c) (argK m c) g a) (dprobR (argV m c) (argG m c) g a) l : ℝ) : EReal)
def probAt (g : Fin 4) (a : Fin 16384) (l : Fin 16640) : EReal :=
  ((prob (scoreR (argQ m c) (argK m c) g a) l : ℝ) : EReal)

theorem gradAt_congr {g g' : Fin 4} {a a' : Fin 16384} {l l' : Fin 16640} (hg : g = g') (ha : a = a') (hl : l = l') :
    gradAt m c g a l = gradAt m c g' a' l' := by subst hg ha hl; rfl
theorem probAt_congr {g g' : Fin 4} {a a' : Fin 16384} {l l' : Fin 16640} (hg : g = g') (ha : a = a') (hl : l = l') :
    probAt m c g a l = probAt m c g' a' l' := by subst hg ha hl; rfl

include hq hk hv hd in
theorem ds_at (t : Fin cfg0.N) (r : Fin 2048) (l : Fin 1280) :
    dsE (blk m c t) r l = gradAt m c (grp r) (qi t (qrow r)) (ki t l) := ds_real m c hq hk hv hd t r l
include hq hk in
theorem p_at (t : Fin cfg0.N) (r : Fin 2048) (l : Fin 1280) :
    pE (blk m c t) r l = probAt m c (grp r) (qi t (qrow r)) (ki t l) := p_real m c hq hk t r l
include hq hk hv hd in
theorem grad_at (g : Fin 4) (a : Fin 16384) (l : Fin 16640) :
    Cert.GlobBRefIdeal.Read.val_main_v57 (F := Ideal) (argQ m c) (argK m c) (argV m c) (argG m c) (ix3 g a l) = gradAt m c g a l :=
  Cert.GlobBRefIdeal.Grad.grad_real _ _ _ _ _ _ hq hk hv hd l
include hq hk in
theorem prob_at (g : Fin 4) (a : Fin 16384) (l : Fin 16640) :
    Cert.GlobBRefIdeal.Read.val_main_v33 (F := Ideal) (argQ m c) (argK m c) (ix3 g a l) = probAt m c g a l :=
  Cert.GlobBRefIdeal.Grad.prob_real _ _ _ _ hq hk l

theorem k_pt (j i : ℕ) (hj : j < 13) (hi : i < 32) (l : Fin 1280) (x : Fin 256) :
    (blk m c (pt j i)).k (ix2 l x) = argK m c (ix2 ⟨j * 1280 + l.val, by omega⟩ ⟨64 + x.val % 64, by omega⟩) := by
  rw [← ki_pt j i hj hi l]
  exact b2 m c (pt j i) l x
theorem q_pt (j i : ℕ) (hj : j < 13) (hi : i < 32) (a : Fin 512) (g : Fin 4) (x : Fin 64) (y : Fin 256) (h : y.val = g.val * 64 + x.val) :
    (blk m c (pt j i)).qt (ix2 y a)
      = Cert.GlobBRefIdeal.Read.val_main_v4 (F := Ideal) (argQ m c) (ix3 ⟨i * 512 + a.val, by omega⟩ g x) := by
  rw [Cert.GlobBRefIdeal.Grad.q_apply, ← qi_pt j i hj hi a]
  refine (b1 m c (pt j i) a y).trans ?_
  exact congrArg (fun z => argQ m c (ix2 (qi (pt j i) a) z) * Ideal.ofBits .f32 0x3E000000#32) (Fin.ext (by show 256 + y.val = 256 + g.val * 64 + x.val; omega))
theorem g_pt (j i : ℕ) (hj : j < 13) (hi : i < 32) (a : Fin 512) (g : Fin 4) (x : Fin 64) (y : Fin 256) (h : y.val = g.val * 64 + x.val) :
    (blk m c (pt j i)).ctt (ix2 y a)
      = Cert.GlobBRefIdeal.Read.val_main_v42 (F := Ideal) (argG m c) (ix3 x g ⟨i * 512 + a.val, by omega⟩) := by
  rw [Cert.GlobBRefIdeal.Grad.d_apply, ← qi_pt j i hj hi a]
  refine (b5 m c (pt j i) a y).trans ?_
  exact congrArg (fun z => argG m c (ix2 (qi (pt j i) a) z)) (Fin.ext (by show 256 + y.val = 256 + g.val * 64 + x.val; omega))

/-- The keys' and the values' gradients at an entry, the indices as variables. -/
theorem dk_at (x : Fin 64) (L : Fin 16640) : dkOut m c (ix2 x L)
    = ∑ i : Fin 32, ∑ r : Fin 2048, (blk m c (pt (L.val / 1280) i.val)).qt (ix2 (lane x r) (qrow r))
      * dsE (blk m c (pt (L.val / 1280) i.val)) r ⟨L.val % 1280, Nat.mod_lt _ (by decide)⟩ := Finset.sum_range _
theorem dv_at (x : Fin 64) (L : Fin 16640) : dvOut m c (ix2 x L)
    = ∑ i : Fin 32, ∑ r : Fin 2048, (blk m c (pt (L.val / 1280) i.val)).ctt (ix2 (lane x r) (qrow r))
      * pE (blk m c (pt (L.val / 1280) i.val)) r ⟨L.val % 1280, Nat.mod_lt _ (by decide)⟩ := Finset.sum_range _

include hq hk hv hd in
/-- The gradient of the queries. -/
theorem dqOut_eq : dqOut m c = Cert.GlobBRefIdeal.Read.val_main_v61 (F := Ideal) (argQ m c) (argK m c) (argV m c) (argG m c) := by
  funext y
  idx_vars y
  rw [Cert.GlobBRefIdeal.Grad.dq_apply]
  simp only [grad_at m c hq hk hv hd]
  rw [Fin.sum_univ_tiles 13 1280 rfl]
  refine (Finset.sum_range _).trans ?_
  refine Finset.sum_congr rfl fun j _ => (dqPart_apply _ _ _).trans ?_
  refine Finset.sum_congr rfl fun l _ => ?_
  rw [ds_at m c hq hk hv hd]
  have eg : grp (srow ⟨y0.val % 512, by omega⟩ y1) = ⟨y1.val / 64, by omega⟩ :=
    Fin.ext (by show (y0.val % 512 / 256 * 1024 + y1.val / 64 * 256 + y0.val % 512 % 256) % 1024 / 256 = y1.val / 64; omega)
  have ea : qi (pt j.val (y0.val / 512)) (qrow (srow ⟨y0.val % 512, by omega⟩ y1)) = y0 := by
    rw [qi_pt _ _ j.isLt (by omega)]
    refine Fin.ext ?_
    show y0.val / 512 * 512 + ((y0.val % 512 / 256 * 1024 + y1.val / 64 * 256 + y0.val % 512 % 256) / 1024 * 256
      + (y0.val % 512 / 256 * 1024 + y1.val / 64 * 256 + y0.val % 512 % 256) % 256) = y0.val
    omega
  have ek := ki_pt j.val (y0.val / 512) j.isLt (by omega) l
  refine congrArg₂ (· * ·) ?_ ?_
  · exact gradAt_congr m c eg ea ek
  · exact k_pt m c j.val (y0.val / 512) j.isLt (by omega) l y1

include hq hk hv hd in
/-- The gradient of the keys. -/
theorem dkOut_eq : dkOut m c = Cert.GlobBRefIdeal.Read.val_main_v62 (F := Ideal) (argQ m c) (argK m c) (argV m c) (argG m c) := by
  funext y
  idx_vars y
  rw [Cert.GlobBRefIdeal.Grad.dk_apply]
  simp only [grad_at m c hq hk hv hd]
  refine Eq.trans ?_ (rows_sum fun a g => gradAt m c g a y1
    * Cert.GlobBRefIdeal.Read.val_main_v4 (F := Ideal) (argQ m c) (ix3 a g y0))
  refine (dk_at m c y0 y1).trans ?_
  refine Finset.sum_congr rfl fun i _ => Finset.sum_congr rfl fun r _ => (mul_comm _ _).trans ?_
  have ea := qi_pt (y1.val / 1280) i.val (by omega) i.isLt (qrow r)
  refine congrArg₂ (· * ·) ?_ ?_
  · exact (ds_at m c hq hk hv hd _ r _).trans (gradAt_congr m c rfl ea (ki_div y1 i))
  · exact q_pt m c (y1.val / 1280) i.val (by omega) i.isLt (qrow r) (grp r) y0 (lane y0 r) rfl

include hq hk hd in
/-- The gradient of the values. -/
theorem dvOut_eq : dvOut m c = Cert.GlobBRefIdeal.Read.val_main_v63 (F := Ideal) (argQ m c) (argK m c) (argG m c) := by
  funext y
  idx_vars y
  rw [Cert.GlobBRefIdeal.Grad.dv_apply, Finset.sum_comm]
  simp only [prob_at m c hq hk]
  refine Eq.trans ?_ (rows_sum fun a g => Cert.GlobBRefIdeal.Read.val_main_v42 (F := Ideal) (argG m c) (ix3 y0 g a)
    * probAt m c g a y1)
  refine (dv_at m c y0 y1).trans ?_
  refine Finset.sum_congr rfl fun i _ => Finset.sum_congr rfl fun r _ => ?_
  have ea := qi_pt (y1.val / 1280) i.val (by omega) i.isLt (qrow r)
  refine congrArg₂ (· * ·) ?_ ?_
  · exact g_pt m c (y1.val / 1280) i.val (by omega) i.isLt (qrow r) (grp r) y0 (lane y0 r) rfl
  · exact (p_at m c hq hk _ r _).trans (probAt_congr m c rfl ea (ki_div y1 i))

end

end Cert.GlobBIdeal.Grad
-- ==== Proof.GlobB.Claim.lean ====
/- The gradient of the global attention's second group of heads: kernel and reference give the same three arrays. -/
module

public import proofs.«01_k».proof.Defs
public import proofs.«01_k».proof.Proof.GlobB.Value
public import proofs.«01_k».proof.Proof.Gen.GlobBRefIdeal.Run

@[expose] public section

set_option maxRecDepth 16384

noncomputable section

open Idealize.ShloMosaic Idealize.ShloMosaic.TcCoe Idealize.SL.Sem

namespace Cert.GlobBIdeal.Grad

open Cert.GlobBIdeal

/-- The precondition says that the four arguments are real numbers. -/
theorem real_of_pre [Cert.Pre_finite_glob.Facts] (m : (ℓ : Loc nD τ sig) → Buf (Elt Ideal) ℓ)
    (h : Cert.Pre_GlobBIdeal_finite_glob m) (c : Dev nD) :
    Cert.GlobBRefIdeal.Grad.Real (argQ m c) ∧ Cert.GlobBRefIdeal.Grad.Real (argK m c)
      ∧ Cert.GlobBRefIdeal.Grad.Real (argV m c) ∧ Cert.GlobBRefIdeal.Grad.Real (argG m c) :=
  ⟨fun i => Cert.Softmax.real_of_cmp (congrFun (h c).1 i), fun i => Cert.Softmax.real_of_cmp (congrFun (h c).2.1 i),
    fun i => Cert.Softmax.real_of_cmp (congrFun (h c).2.2.1 i), fun i => Cert.Softmax.real_of_cmp (congrFun (h c).2.2.2 i)⟩

/-- The kernel's own text is the ideal program's, read over the machine's floats: the run is the same. -/
theorem frame_kernel [Cert.GlobB.Facts] : Cert.quiescent_GlobB :=
  have h := fun m ρ (_ : True) => frame (F := Bits) m ρ
  cast (by sl_kernel_rfl) h

set_option maxHeartbeats 1600000 in
/-- Over the reals the attention's gradient call returns the derivative of the forward lines, in all three results. -/
theorem algebraic [Cert.Pre_finite_glob.Facts] : Cert.algebraic_GlobBIdeal_GlobBRefIdeal_pre_finite_glob := by
  intro m g m' g' hpre hagree
  refine ⟨fun c => dqOut m c, fun c => dkOut m c, fun c => dvOut m c, ?_, ?_⟩
  · refine (θ_run defs _ _).mono (fun r h c => ?_) (Cert.GlobBIdeal.Grad.run (F := Ideal) m g)
    obtain ⟨a0, a1, a2⟩ := arrays m c r h.1
    refine ⟨a0, a1, a2, ?_, ?_, ?_, ?_⟩
    · exact ((h.1 c).2 main_arg0 (Pipeline.mem_restRefs_of main_arg0 (by decide) (by decide))).trans (Gen.V_main_arg0 m c)
    · exact ((h.1 c).2 main_arg1 (Pipeline.mem_restRefs_of main_arg1 (by decide) (by decide))).trans (Gen.V_main_arg1 m c)
    · exact ((h.1 c).2 main_arg2 (Pipeline.mem_restRefs_of main_arg2 (by decide) (by decide))).trans (Gen.V_main_arg2 m c)
    · exact (cast (congrFun ((rd m c).ArrAt_in 4 rfl _) _) ((h.1 c).1 4) : _ = _).trans (Gen.V_main_arg3 m c)
  · refine (θ_run Cert.GlobBRefIdeal.defs _ _).mono (fun r h c => ?_) (Cert.GlobBRefIdeal.Value.run m' g')
    obtain ⟨hq, hk, hv, hd⟩ := real_of_pre m hpre c
    obtain ⟨e0, e1, e2, rest⟩ := h c
    obtain ⟨h0, h1, h2, h3⟩ := hagree c
    refine ⟨e0.trans ?_, e1.trans ?_, e2.trans ?_, rest⟩
    · refine (Cert.GlobBRefIdeal.Read.val_main_v61_eq (F := Ideal) m' c).trans ?_
      rw [h0, h1, h2, h3]
      exact (dqOut_eq m c hq hk hv hd).symm
    · refine (Cert.GlobBRefIdeal.Read.val_main_v62_eq (F := Ideal) m' c).trans ?_
      rw [h0, h1, h2, h3]
      exact (dkOut_eq m c hq hk hv hd).symm
    · refine (Cert.GlobBRefIdeal.Read.val_main_v63_eq (F := Ideal) _ _ _).trans ?_
      rw [h0, h1, h3]
      exact (dvOut_eq m c hq hk hd).symm

end Cert.GlobBIdeal.Grad

end
-- ==== Proof.Shared.Columns.lean ====
module

public import Idealize.ShloMosaic.Lib.Pointwise

/-! # The combined columns

A key or a value head, of 64 columns, stands four times in the combined layout of 5120 columns; its gradient stands in
the first place alone. -/

@[expose] public section

noncomputable section

open Idealize.ShloMosaic

namespace Cert.Columns

/-- The projection's column that a combined column is a copy of. -/
def src (k : Fin 5120) : Fin 3584 :=
  ⟨if k.val < 512 then k.val else if k.val < 1536 then 512 + (k.val - 512) / 256 * 64 + (k.val - 512) % 64
    else if k.val < 2048 then k.val - 768 else if k.val < 3072 then 1280 + (k.val - 2048) / 256 * 64 + (k.val - 2048) % 64
    else k.val - 1536, by split_ifs <;> omega⟩

/-- Whether a combined column is the first copy. -/
def isFirst (k : Fin 5120) : Prop :=
  k.val < 512 ∨ (1536 ≤ k.val ∧ k.val < 2048) ∨ 3072 ≤ k.val ∨ k.val % 256 < 64

instance (k : Fin 5120) : Decidable (isFirst k) := by unfold isFirst; infer_instance

/-- The first copy of a column. -/
def dst (j : Fin 3584) : Fin 5120 :=
  ⟨if j.val < 512 then j.val else if j.val < 768 then 512 + (j.val - 512) / 64 * 256 + (j.val - 512) % 64
    else if j.val < 1280 then j.val + 768 else if j.val < 1536 then 2048 + (j.val - 1280) / 64 * 256 + (j.val - 1280) % 64
    else j.val + 1536, by split_ifs <;> omega⟩

theorem src_dst (j : Fin 3584) : src (dst j) = j := by
  refine Fin.ext ?_
  simp only [src, dst]
  split_ifs <;> omega

theorem isFirst_dst (j : Fin 3584) : isFirst (dst j) := by
  simp only [isFirst, dst]
  split_ifs <;> omega

theorem dst_src (k : Fin 5120) (h : isFirst k) : dst (src k) = k := by
  refine Fin.ext ?_
  simp only [isFirst] at h
  simp only [src, dst]
  split_ifs <;> omega

/-- A sum over the combined columns whose terms are zero off the first copies is the sum over the columns. -/
theorem sum_first (f : Fin 3584 → EReal) :
    ∑ k : Fin 5120, (if isFirst k then f (src k) else 0) = ∑ j : Fin 3584, f j := by
  rw [← Finset.sum_filter]
  refine Finset.sum_nbij' src dst (fun _ _ => Finset.mem_univ _) (fun j _ => ?_) (fun k hk => ?_) (fun j _ => src_dst j) (fun _ _ => rfl)
  · exact Finset.mem_filter.2 ⟨Finset.mem_univ _, isFirst_dst j⟩
  · exact dst_src k (Finset.mem_filter.1 hk).2

/-- A product over the combined columns, of a gradient with a copied weight. -/
theorem dot_first (a w : Fin 3584 → EReal) :
    ∑ k : Fin 5120, (if isFirst k then a (src k) else 0) * w (src k) = ∑ j : Fin 3584, a j * w j := by
  rw [← sum_first]
  refine Finset.sum_congr rfl fun k _ => ?_
  split_ifs
  · rfl
  · exact zero_mul _

theorem dite_to {α : Sort*} {p : Prop} [Decidable p] {a : p → α} {b : ¬p → α} {z : α} (h1 : ∀ h, a h = z) (h2 : ∀ h, b h = z) :
    dite p a b = z := by
  by_cases h : p
  · rw [dif_pos h]; exact h1 h
  · rw [dif_neg h]; exact h2 h

theorem ite_to {α : Sort*} {p : Prop} [Decidable p] {a b z : α} (h1 : p → a = z) (h2 : ¬p → b = z) : ite p a b = z := by
  by_cases h : p
  · rw [if_pos h]; exact h1 h
  · rw [if_neg h]; exact h2 h

/-! ## The layouts, as operations on whole arrays -/

abbrev Sh (n k : ℕ) : Shape := ⟨2, ![n, k]⟩

/-- The slices and the joins that lay out a gradient of `n` rows. -/
structure Placed (n : ℕ) : Prop where
  s0 : (Sh n 3584).Slices ![0, 0] (Sh n 512)
  s512 : (Sh n 3584).Slices ![0, 512] (Sh n 64)
  s576 : (Sh n 3584).Slices ![0, 576] (Sh n 64)
  s640 : (Sh n 3584).Slices ![0, 640] (Sh n 64)
  s704 : (Sh n 3584).Slices ![0, 704] (Sh n 64)
  s768 : (Sh n 3584).Slices ![0, 768] (Sh n 512)
  s1280 : (Sh n 3584).Slices ![0, 1280] (Sh n 64)
  s1344 : (Sh n 3584).Slices ![0, 1344] (Sh n 64)
  s1408 : (Sh n 3584).Slices ![0, 1408] (Sh n 64)
  s1472 : (Sh n 3584).Slices ![0, 1472] (Sh n 64)
  s1536 : (Sh n 3584).Slices ![0, 1536] (Sh n 2048)
  zeros : (⟨0, ![]⟩ : Shape).BroadcastsInDim (Sh n 192) ![]
  join1 : Shape.Concatenates [Sh n 512, Sh n 64, Sh n 192, Sh n 64, Sh n 192, Sh n 64, Sh n 192, Sh n 64, Sh n 192, Sh n 512,
    Sh n 64, Sh n 192, Sh n 64, Sh n 192, Sh n 64, Sh n 192] (Sh n 2816) 1
  join2 : Shape.Concatenates [Sh n 64, Sh n 192, Sh n 2048] (Sh n 2304) 1
  join3 : Shape.Concatenates [Sh n 2816, Sh n 2304] (Sh n 5120) 1

section
variable {n : ℕ} (h : Placed n) (d : FVec Ideal (Sh n 3584) .bf16)

/-- 192 columns of zeros. -/
def blank : FVec Ideal (Sh n 192) .bf16 :=
  broadcastInDim (Sh n 192) ![] (h.zeros) (constant (F := Ideal) ⟨0, ![]⟩ .bf16 0x0000#16)

/-- The columns of the queries and of the first three quarters of the keys and values. -/
def placeA : FVec Ideal (Sh n 2816) .bf16 :=
  concatenate (Sh n 2816) 1
      [⟨Sh n 512, (extractStridedSlice (Sh n 512) ![0, 0] d h.s0 : FVec Ideal (Sh n 512) .bf16)⟩,
       ⟨Sh n 64, (extractStridedSlice (Sh n 64) ![0, 512] d h.s512 : FVec Ideal (Sh n 64) .bf16)⟩, ⟨Sh n 192, blank h⟩,
       ⟨Sh n 64, (extractStridedSlice (Sh n 64) ![0, 576] d h.s576 : FVec Ideal (Sh n 64) .bf16)⟩, ⟨Sh n 192, blank h⟩,
       ⟨Sh n 64, (extractStridedSlice (Sh n 64) ![0, 640] d h.s640 : FVec Ideal (Sh n 64) .bf16)⟩, ⟨Sh n 192, blank h⟩,
       ⟨Sh n 64, (extractStridedSlice (Sh n 64) ![0, 704] d h.s704 : FVec Ideal (Sh n 64) .bf16)⟩, ⟨Sh n 192, blank h⟩,
       ⟨Sh n 512, (extractStridedSlice (Sh n 512) ![0, 768] d h.s768 : FVec Ideal (Sh n 512) .bf16)⟩,
       ⟨Sh n 64, (extractStridedSlice (Sh n 64) ![0, 1280] d h.s1280 : FVec Ideal (Sh n 64) .bf16)⟩, ⟨Sh n 192, blank h⟩,
       ⟨Sh n 64, (extractStridedSlice (Sh n 64) ![0, 1344] d h.s1344 : FVec Ideal (Sh n 64) .bf16)⟩, ⟨Sh n 192, blank h⟩,
       ⟨Sh n 64, (extractStridedSlice (Sh n 64) ![0, 1408] d h.s1408 : FVec Ideal (Sh n 64) .bf16)⟩, ⟨Sh n 192, blank h⟩] h.join1

/-- The last value head, and the gates' columns. -/
def placeB : FVec Ideal (Sh n 2304) .bf16 :=
  concatenate (Sh n 2304) 1
      [⟨Sh n 64, (extractStridedSlice (Sh n 64) ![0, 1472] d h.s1472 : FVec Ideal (Sh n 64) .bf16)⟩, ⟨Sh n 192, blank h⟩,
       ⟨Sh n 2048, (extractStridedSlice (Sh n 2048) ![0, 1536] d h.s1536 : FVec Ideal (Sh n 2048) .bf16)⟩] h.join2

/-- A gradient's columns in the combined layout: each head in the first of its four places. -/
def place : FVec Ideal (Sh n 5120) .bf16 :=
  concatenate (Sh n 5120) 1 [⟨Sh n 2816, placeA h d⟩, ⟨Sh n 2304, placeB h d⟩] h.join3

end

theorem join8 : Shape.Concatenates [Sh 1024 64, Sh 1024 64, Sh 1024 64, Sh 1024 64, Sh 1024 64, Sh 1024 64, Sh 1024 64,
    Sh 1024 64] (Sh 1024 512) 1 := by decide

theorem join7 : Shape.Concatenates [Sh 1024 512, Sh 1024 512, Sh 1024 512, Sh 1024 512, Sh 1024 512, Sh 1024 512,
    Sh 1024 2048] (Sh 1024 5120) 1 := by decide

/-- The weight's columns four times over, transposed. -/
def copies (w : FVec Ideal (Sh 1024 3584) .bf16) (a b : ℕ) (ha : (Sh 1024 3584).Slices ![0, a] (Sh 1024 64))
    (hb : (Sh 1024 3584).Slices ![0, b] (Sh 1024 64)) : FVec Ideal (Sh 1024 512) .bf16 :=
  concatenate (Sh 1024 512) 1
    [⟨Sh 1024 64, (extractStridedSlice (Sh 1024 64) ![0, a] w ha : FVec Ideal (Sh 1024 64) .bf16)⟩,
     ⟨Sh 1024 64, (extractStridedSlice (Sh 1024 64) ![0, a] w ha : FVec Ideal (Sh 1024 64) .bf16)⟩,
     ⟨Sh 1024 64, (extractStridedSlice (Sh 1024 64) ![0, a] w ha : FVec Ideal (Sh 1024 64) .bf16)⟩,
     ⟨Sh 1024 64, (extractStridedSlice (Sh 1024 64) ![0, a] w ha : FVec Ideal (Sh 1024 64) .bf16)⟩,
     ⟨Sh 1024 64, (extractStridedSlice (Sh 1024 64) ![0, b] w hb : FVec Ideal (Sh 1024 64) .bf16)⟩,
     ⟨Sh 1024 64, (extractStridedSlice (Sh 1024 64) ![0, b] w hb : FVec Ideal (Sh 1024 64) .bf16)⟩,
     ⟨Sh 1024 64, (extractStridedSlice (Sh 1024 64) ![0, b] w hb : FVec Ideal (Sh 1024 64) .bf16)⟩,
     ⟨Sh 1024 64, (extractStridedSlice (Sh 1024 64) ![0, b] w hb : FVec Ideal (Sh 1024 64) .bf16)⟩] join8

theorem copies_apply (w : FVec Ideal (Sh 1024 3584) .bf16) (a b : ℕ) (ha hb) (l : Fin 1024) (k : Fin 512) (j : Fin 3584)
    (hj : j.val = (if k.val < 256 then a else b) + k.val % 64) : copies w a b ha hb (ix2 l k) = w (ix2 l j) := by
  pointwise [copies]
  have hk := k.isLt
  repeat' refine dite_to (fun _ => ?_) (fun _ => ?_)
  all_goals refine congrArg w (congrArg (ix2 l) (Fin.ext ?_)); simp only [hj]; split_ifs <;> omega

def extend (w : FVec Ideal (Sh 1024 3584) .bf16) : FVec Ideal (Sh 5120 1024) .bf16 :=
  transpose (Sh 5120 1024) [1, 0] (concatenate (Sh 1024 5120) 1
    [⟨Sh 1024 512, (extractStridedSlice (Sh 1024 512) ![0, 0] w (by decide) : FVec Ideal (Sh 1024 512) .bf16)⟩,
     ⟨Sh 1024 512, copies w 512 576 (by decide) (by decide)⟩, ⟨Sh 1024 512, copies w 640 704 (by decide) (by decide)⟩,
     ⟨Sh 1024 512, (extractStridedSlice (Sh 1024 512) ![0, 768] w (by decide) : FVec Ideal (Sh 1024 512) .bf16)⟩,
     ⟨Sh 1024 512, copies w 1280 1344 (by decide) (by decide)⟩, ⟨Sh 1024 512, copies w 1408 1472 (by decide) (by decide)⟩,
     ⟨Sh 1024 2048, (extractStridedSlice (Sh 1024 2048) ![0, 1536] w (by decide) : FVec Ideal (Sh 1024 2048) .bf16)⟩]
    join7 : FVec Ideal (Sh 1024 5120) .bf16) (by decide)

set_option maxHeartbeats 2000000 in
set_option maxRecDepth 65536 in
theorem extend_apply (w : FVec Ideal (Sh 1024 3584) .bf16) (k : Fin 5120) (l : Fin 1024) :
    extend w (ix2 k l) = w (ix2 l (src k)) := by
  pointwise [extend]
  have hk := k.isLt
  repeat' refine dite_to (fun _ => ?_) (fun _ => ?_)
  all_goals first
    | (refine congrArg w (congrArg (ix2 l) (Fin.ext ?_)); simp only [src]; split_ifs <;> omega)
    | (refine copies_apply w _ _ _ _ l _ (src k) ?_; simp only [src]; split_ifs <;> omega)

end Cert.Columns

end
-- ==== Proof.Inproj.Place.lean ====
module

public import Idealize.ShloMosaic.Lib.Pointwise
public import proofs.«01_k».proof.Proof.Shared.Columns

@[expose] public section

set_option maxRecDepth 65536

noncomputable section

open Idealize.ShloMosaic

namespace Cert.InprojIdeal.Grad

open Cert.Columns

variable (h : Placed 16384) (d : FVec Ideal (Sh 16384 3584) .bf16) (r : Fin 16384)

set_option maxHeartbeats 1000000 in
theorem placeA_apply (k : Fin 2816) (k' : Fin 5120) (e : k'.val = k.val) :
    placeA h d (ix2 r k) = if isFirst k' then d (ix2 r (src k')) else 0 := by
  pointwise [placeA, blank]
  have hk := k.isLt
  repeat' first | refine dite_to (fun _ => ?_) (fun _ => ?_) | refine ite_to (fun _ => ?_) (fun _ => ?_)
  all_goals first
    | exact (if_neg (by simp only [isFirst]; omega)).symm
    | (refine Eq.trans ?_ (if_pos (by simp only [isFirst]; omega)).symm
       refine congrArg d (congrArg (ix2 r) (Fin.ext ?_)); simp only [src]; split_ifs <;> omega)

set_option maxHeartbeats 1000000 in
theorem placeB_apply (k : Fin 2304) (k' : Fin 5120) (e : k'.val = 2816 + k.val) :
    placeB h d (ix2 r k) = if isFirst k' then d (ix2 r (src k')) else 0 := by
  pointwise [placeB, blank]
  have hk := k.isLt
  repeat' first | refine dite_to (fun _ => ?_) (fun _ => ?_) | refine ite_to (fun _ => ?_) (fun _ => ?_)
  all_goals first
    | exact (if_neg (by simp only [isFirst]; omega)).symm
    | (refine Eq.trans ?_ (if_pos (by simp only [isFirst]; omega)).symm
       refine congrArg d (congrArg (ix2 r) (Fin.ext ?_)); simp only [src]; split_ifs <;> omega)

theorem place_apply (k : Fin 5120) : place h d (ix2 r k) = if isFirst k then d (ix2 r (src k)) else 0 := by
  pointwise [place]
  have hk := k.isLt
  refine dite_to (fun _ => ?_) (fun _ => ?_)
  · exact placeA_apply h d r _ k rfl
  · exact placeB_apply h d r _ k (by dsimp only; omega)

end Cert.InprojIdeal.Grad

end

end
-- ==== Proof.Inproj.Blocks.lean ====
/- What the input projection's gradient call leaves in each of its three result arrays. -/
module

public import proofs.«01_k».proof.Proof.Gen.InprojIdeal.Value
public import proofs.«01_k».proof.Proof.Gen.InprojRefIdeal.Read
public import proofs.«01_k».proof.Proof.Inproj.Place
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojIdeal.Grad

open Cert.InprojIdeal Cert.InprojIdeal.Gen Cert.Columns
open Cert.InprojRefIdeal.Read

variable (m : (ℓ : Loc nD τ sig) → Buf (Elt Ideal) ℓ)

/-- Where each window's block lies: the row windows move with the grid, the weights and the sums stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] :=
  (by decide +kernel : ∀ t : Fin grid0.N, _)

/-- Row `r` of a row block at grid point `t` is row `t * 256 + r` of its array. -/
def row (t : Fin cfg0.N) (r : Fin 256) : Fin 16384 :=
  ⟨t.val * 256 + r.val, by have h : t.val < 64 := lt_of_lt_of_eq t.isLt (by decide); omega⟩

theorem placed : Placed 16384 := by constructor <;> decide

/-- The host's layout of the cotangent. -/
theorem V60 (c : Dev nD) : V m c main_v60 = place placed (m ((c : Thread nD τ).loc main_arg3)) := by sl_kernel_rfl

/-- The host's layout of the weight. -/
theorem V41 (c : Dev nD) : V m c main_v41 = extend (m ((c : Thread nD τ).loc main_arg2)) := by sl_kernel_rfl

/-- A row of zeros. -/
def zeroRow : FVec Ideal (Sh 1 1024) .f32 :=
  broadcastInDim (Sh 1 1024) ![] bcast_S_S1x1024 (constant (F := Ideal) ⟨0, ![]⟩ .f32 0x00000000#32)

theorem rows8 : Shape.Concatenates [Sh 1 1024, Sh 1 1024, Sh 1 1024, Sh 1 1024, Sh 1 1024, Sh 1 1024, Sh 1 1024, Sh 1 1024]
    (Sh 8 1024) 0 := by decide

/-- The eight rows of a modulation with the scale in the second row. -/
def rows (s : FVec Ideal (Sh 1 1024) .f32) : FVec Ideal (Sh 8 1024) .f32 :=
  concatenate (Sh 8 1024) 0 [⟨Sh 1 1024, zeroRow⟩, ⟨Sh 1 1024, s⟩, ⟨Sh 1 1024, zeroRow⟩, ⟨Sh 1 1024, zeroRow⟩,
    ⟨Sh 1 1024, zeroRow⟩, ⟨Sh 1 1024, zeroRow⟩, ⟨Sh 1 1024, zeroRow⟩, ⟨Sh 1 1024, zeroRow⟩] rows8

theorem rows_apply (s : FVec Ideal (Sh 1 1024) .f32) (l : Fin 1024) : rows s (ix2 1 l) = s (ix2 0 l) := by
  pointwise [rows]

/-- The host's rows of the modulation. -/
theorem V64 (c : Dev nD) : V m c main_v64 = rows (m ((c : Thread nD τ).loc main_arg1)) := by sl_kernel_rfl

/-- The cotangent of the projection, in the combined columns. -/
theorem in0 (c : Dev nD) (t : Fin cfg0.N) (r : Fin 256) (k : Fin 5120) : iblk m c 0 t (ix2 r k)
    = if isFirst k then m ((c : Thread nD τ).loc main_arg3) (ix2 (row t r) (src k)) else (0 : EReal) := by
  blk_simp [iblk]
  rw [show ((cfg0.win 0).blk t).view.emb (ix2 r k) = ix2 (row t r) k by blk_ext [idx t, row]]
  exact (congrFun (V60 m c) _).trans (place_apply placed _ _ _)

/-- The weight, transposed, in the combined columns. -/
theorem in4 (c : Dev nD) (t : Fin cfg0.N) (k : Fin 5120) (l : Fin 1024) : iblk m c 4 t (ix2 k l)
    = m ((c : Thread nD τ).loc main_arg2) (ix2 l (src k)) := by
  blk_simp [iblk]
  rw [show ((cfg0.win 4).blk t).view.emb (ix2 k l) = ix2 k l by blk_ext [idx t]]
  exact (congrFun (V41 m c) _).trans (extend_apply _ _ _)

end Cert.InprojIdeal.Grad

end
-- ==== Proof.Inproj.Sums.lean ====
/- What the body computes from its blocks, at one index. -/
module

public import proofs.«01_k».proof.Proof.Inproj.Blocks

@[expose] public section

set_option maxRecDepth 16384

noncomputable section

open Idealize.ShloMosaic Idealize.ShloMosaic.TcCoe Idealize.SL.Sem
open Idealize.ShloMosaic.Pipeline (Dat)

namespace Cert.InprojIdeal.Grad

open Cert.InprojIdeal Cert.InprojIdeal.Gen Cert.Columns
open Cert.InprojRefIdeal.Read

section
variable (v0 : Vec Ideal S256x5120 .bf16) (v2 v11 : Vec Ideal S256x1024 .f32) (v3 : Vec Ideal S5120x1024 .bf16)

/-- The gradient of the modulated input: one row of the cotangent against one column of the weight. -/
theorem pay1_apply (r : Fin 256) (l : Fin 1024) :
    k0_pay1 (F := Ideal) v0 v3 (ix2 r l) = ∑ k : Fin 5120, v0 (ix2 r k) * v3 (ix2 k l) := by
  pointwise [k0_pay1]

theorem pay2_apply (v13 : Vec Ideal S1x1024 .f32) (r : Fin 256) (l : Fin 1024) : k0_pay2 (F := Ideal) v0 v3 v11 v13 (ix2 r l)
    = v11 (ix2 r l) + k0_pay1 (F := Ideal) v0 v3 (ix2 r l) * (1 + v13 (ix2 0 l)) := by
  pointwise [k0_pay2]

theorem pay3_apply (j : S1x1024.Idx) : k0_pay3 (F := Ideal) j = (0 : EReal) := by
  pointwise [k0_pay3]

theorem pay4_apply (j : S1x1024.Idx) : k0_pay4 (F := Ideal) j = (0 : EReal) := by
  pointwise [k0_pay4]

theorem pay5_apply (acc : Vec Ideal S1x1024 .f32) (j : S1x1024.Idx) : k0_pay5 (F := Ideal) v0 v2 v3 acc j
    = acc j + ∑ r : Fin 256, k0_pay1 (F := Ideal) v0 v3 (ix2 r (j 1)) * v2 (ix2 r (j 1)) := by
  idx_vars j
  pointwise [k0_pay5]

theorem pay6_apply (acc : Vec Ideal S1x1024 .f32) (j : S1x1024.Idx) : k0_pay6 (F := Ideal) v0 v3 acc j
    = acc j + ∑ r : Fin 256, k0_pay1 (F := Ideal) v0 v3 (ix2 r (j 1)) := by
  idx_vars j
  pointwise [k0_pay6]
end

end Cert.InprojIdeal.Grad

end
-- ==== Proof.Inproj.Final.lean ====
/- What the call leaves in each of its three result arrays. -/
module

public import proofs.«01_k».proof.Proof.Inproj.Sums

@[expose] public section

set_option maxRecDepth 16384

noncomputable section

open Idealize.ShloMosaic Idealize.ShloMosaic.TcCoe Idealize.SL.Sem
open Idealize.ShloMosaic.Pipeline (Dat)

namespace Cert.InprojIdeal.Grad

open Cert.InprojIdeal Cert.InprojIdeal.Gen Cert.Columns
open Cert.InprojRefIdeal.Read

variable (m : (ℓ : Loc nD τ sig) → Buf (Elt Ideal) ℓ)

/-- The layer's input, a block of rows. -/
theorem in1 (c : Dev nD) (t : Fin cfg0.N) (r : Fin 256) (l : Fin 1024) : iblk m c 1 t (ix2 r l)
    = m ((c : Thread nD τ).loc main_arg0) (ix2 (row t r) l) := by
  blk_ext [iblk, V, idx t, row]

/-- The gradient that comes around the layer, a block of rows. -/
theorem in2 (c : Dev nD) (t : Fin cfg0.N) (r : Fin 256) (l : Fin 1024) : iblk m c 2 t (ix2 r l)
    = val_main_v11 (F := Ideal) (m ((c : Thread nD τ).loc main_arg4)) (ix2 (row t r) l) := by
  blk_simp [iblk]
  entry_read
  rw [show ((cfg0.win 2).blk t).view.emb (ix2 r l) = ix2 (row t r) l by blk_ext [idx t, row]]
  rfl

/-- The modulation's scale: the second of the eight rows. -/
theorem in3 (c : Dev nD) (t : Fin cfg0.N) (l : Fin 1024) : iblk m c 3 t (ix2 1 l)
    = m ((c : Thread nD τ).loc main_arg1) (ix2 0 l) := by
  blk_simp [iblk]
  rw [show ((cfg0.win 3).blk t).view.emb (ix2 1 l) = ix2 1 l by blk_ext [idx t]]
  exact (congrFun (V64 m c) _).trans (rows_apply _ _)

section
variable (x0 x4 : FVec Ideal S16384x1024 .f32) (x1 : FVec Ideal S1x1024 .f32) (x2 : FVec Ideal S1024x3584 .f32)
  (x3 : FVec Ideal S16384x3584 .f32)

theorem ref12 (r : Fin 16384) (l : Fin 1024) : val_main_v12 (F := Ideal) x2 x3 (ix2 r l)
    = ∑ k : Fin 3584, x3 (ix2 r k) * x2 (ix2 l k) := by
  pointwise [val_main_v12]

theorem ref20 (r : Fin 16384) (l : Fin 1024) : val_main_v20 (F := Ideal) x1 x2 x3 x4 (ix2 r l)
    = val_main_v11 (F := Ideal) x4 (ix2 r l) + val_main_v12 (F := Ideal) x2 x3 (ix2 r l) * (1 + x1 (ix2 0 l)) := by
  pointwise [val_main_v20, val_main_v19, val_main_v18, val_main_v2, val_main_v1, val_main_cst_0]

theorem ref17 (j : S1x1024.Idx) : val_main_v17 (F := Ideal) x0 x2 x3 j
    = ∑ k : Fin 16384, val_main_v12 (F := Ideal) x2 x3 (ix2 k (j 1)) * x0 (ix2 k (j 1)) := by
  idx_vars j
  pointwise [val_main_v17, val_main_v16, val_main_v15, val_main_cst_4]
  exact Finset.sum_congr rfl fun k _ => mul_comm _ _

theorem ref14 (j : S1x1024.Idx) : val_main_v14 (F := Ideal) x2 x3 j
    = ∑ k : Fin 16384, val_main_v12 (F := Ideal) x2 x3 (ix2 k (j 1)) := by
  idx_vars j
  pointwise [val_main_v14, val_main_v13, val_main_cst_3]
end

/-- The row of the scale is read out of the eight. -/
theorem ld_row (b : Vec Ideal S8x1024 .f32) (l : Fin 1024) :
    View.ld b (Rect.unit ![1, 0] ![1, 1024] inb_S8x1024_S1x1024_1_0) (ix2 0 l) = b (ix2 1 l) := by
  refine congrArg b (funext fun a => Fin.ext ?_)
  fin_cases a
  · rfl
  · exact (Nat.zero_add _).trans (Nat.one_mul _)

/-- The row blocks of the grid's points, one after the other, are the array's rows. -/
theorem row_at (t : Fin cfg0.N) (s : Fin 64) (h : 64 * (t.val / 64) + s.val < cfg0.N) (r : Fin 256) (hl : s.val * 256 + r.val < 16384) :
    row ⟨64 * (t.val / 64) + s.val, h⟩ r = ⟨s.val * 256 + r.val, hl⟩ := by
  have ht : t.val < 64 := lt_of_lt_of_eq t.isLt (by decide)
  exact Fin.ext (by simp only [row]; omega)

/-- A block of the gradient of the modulated input is the block of the reference's. -/
theorem dh_eq (c : Dev nD) (t : Fin cfg0.N) (r : Fin 256) (l : Fin 1024) :
    k0_pay1 (F := Ideal) (iblk m c 0 t) (iblk m c 4 t) (ix2 r l) = val_main_v12 (F := Ideal)
      (m ((c : Thread nD τ).loc main_arg2)) (m ((c : Thread nD τ).loc main_arg3)) (ix2 (row t r) l) := by
  rw [pay1_apply, ref12]
  simp only [in0, in4]
  exact dot_first (fun k => m ((c : Thread nD τ).loc main_arg3) (ix2 (row t r) k))
    (fun k => m ((c : Thread nD τ).loc main_arg2) (ix2 l k))

/-- The gradient of the layer's input. -/
theorem final5 (c : Dev nD) : (dats m 0 c).arrAt 5 cfg0.N = val_main_v20 (F := Ideal) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [show ((cfg0.win 5).blk t).view.emb (ix2 y0 y1) = ix2 (row t y0) y1 by blk_ext [idx t, row]]
  have key : ∀ v13 : Vec Ideal S1x1024 .f32, v13 (ix2 0 y1) = m ((c : Thread nD τ).loc main_arg1) (ix2 0 y1) →
      k0_pay2 (F := Ideal) (iblk m c 0 t) (iblk m c 4 t) (iblk m c 2 t) v13 (ix2 y0 y1)
        = val_main_v20 (F := Ideal) (m ((c : Thread nD τ).loc main_arg1)) (m ((c : Thread nD τ).loc main_arg2))
          (m ((c : Thread nD τ).loc main_arg3)) (m ((c : Thread nD τ).loc main_arg4)) (ix2 (row t y0) y1) := by
    intro v13 h
    rw [pay2_apply, dh_eq, in2, h, ref20]
  by_cases h0 : t.val % 64 = 0
  · rw [outsAt0_A m c t h0]; frame_out
    exact key _ ((ld_row _ y1).trans (in3 m c t y1))
  · rw [outsAt0_B m c t h0]; frame_out
    exact key _ ((ld_row _ y1).trans (in3 m c t y1))

/-- The points' column sums, together, are the column sums of the whole array. -/
theorem sum_scale (c : Dev nD) (t : Fin cfg0.N) (l : Fin 1024) (h : ∀ s : Fin 64, 64 * (t.val / 64) + s.val < cfg0.N) :
    ∑ s : Fin 64, ∑ r : Fin 256, k0_pay1 (F := Ideal) (iblk m c 0 ⟨64 * (t.val / 64) + s.val, h s⟩)
        (iblk m c 4 ⟨64 * (t.val / 64) + s.val, h s⟩) (ix2 r l) * iblk m c 1 ⟨64 * (t.val / 64) + s.val, h s⟩ (ix2 r l)
      = ∑ k : Fin 16384, val_main_v12 (F := Ideal) (m ((c : Thread nD τ).loc main_arg2)) (m ((c : Thread nD τ).loc main_arg3))
        (ix2 k l) * m ((c : Thread nD τ).loc main_arg0) (ix2 k l) := by
  refine ((Fin.sum_univ_tiles 64 256 (by decide) _).trans (Finset.sum_congr rfl fun s _ => Finset.sum_congr rfl fun r _ => ?_)).symm
  rw [dh_eq, in1, row_at]

theorem sum_shift (c : Dev nD) (t : Fin cfg0.N) (l : Fin 1024) (h : ∀ s : Fin 64, 64 * (t.val / 64) + s.val < cfg0.N) :
    ∑ s : Fin 64, ∑ r : Fin 256, k0_pay1 (F := Ideal) (iblk m c 0 ⟨64 * (t.val / 64) + s.val, h s⟩)
        (iblk m c 4 ⟨64 * (t.val / 64) + s.val, h s⟩) (ix2 r l)
      = ∑ k : Fin 16384, val_main_v12 (F := Ideal) (m ((c : Thread nD τ).loc main_arg2)) (m ((c : Thread nD τ).loc main_arg3))
        (ix2 k l) := by
  refine ((Fin.sum_univ_tiles 64 256 (by decide) _).trans (Finset.sum_congr rfl fun s _ => Finset.sum_congr rfl fun r _ => ?_)).symm
  rw [dh_eq, row_at]

/-- The gradient of the modulation's scale. -/
theorem final6 (c : Dev nD) : (dats m 0 c).arrAt 6 cfg0.N = val_main_v17 (F := Ideal) (m ((c : Thread nD τ).loc main_arg0))
    (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.1) 64 (fun _ => 0) _
    (fun t h j => by rw [outsAt0_A m c t h]; frame_out; rw [pay5_apply, pay3_apply])
    (fun t h j => by rw [outsAt0_B m c t h]; frame_out; rw [pay5_apply]) t ((flush0_6 t).mp hf) _, zero_add]
  rw [show ((cfg0.win 6).blk t).view.emb y = y by blk_ext [idx t]]
  exact (sum_scale m c t (y 1) fun s => Pipeline.run_point_lt_of_flush t ((flush0_6 t).mp hf) s).trans (ref17 _ _ _ y).symm

/-- The gradient of the modulation's shift. -/
theorem final7 (c : Dev nD) : (dats m 0 c).arrAt 7 cfg0.N = val_main_v14 (F := Ideal)
    (m ((c : Thread nD τ).loc main_arg2)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2) 64 (fun _ => 0) _
    (fun t h j => by rw [outsAt0_A m c t h]; frame_out; rw [pay6_apply, pay4_apply])
    (fun t h j => by rw [outsAt0_B m c t h]; frame_out; rw [pay6_apply]) t ((flush0_7 t).mp hf) _, zero_add]
  rw [show ((cfg0.win 7).blk t).view.emb y = y by blk_ext [idx t]]
  exact (sum_shift m c t (y 1) fun s => Pipeline.run_point_lt_of_flush t ((flush0_7 t).mp hf) s).trans (ref14 _ _ y).symm

end Cert.InprojIdeal.Grad

end
-- ==== Proof.Inproj.Claim.lean ====
/- The input projection's gradient call computes the reference's three gradients. -/
module

public import proofs.«01_k».proof.Defs
public import proofs.«01_k».proof.Proof.Inproj.Final
public import proofs.«01_k».proof.Proof.Gen.InprojRefIdeal.Run

@[expose] public section

set_option maxRecDepth 16384

noncomputable section

open Idealize.ShloMosaic Idealize.ShloMosaic.TcCoe Idealize.SL.Sem

namespace Cert.InprojIdeal.Grad

open Cert.InprojIdeal Cert.InprojIdeal.Gen

set_option maxHeartbeats 1600000 in
/-- Over the extended reals the call returns the derivative of the forward lines, in all three results. -/
theorem algebraic : Cert.algebraic_InprojIdeal_InprojRefIdeal := by
  intro m g m' g' _ hagree
  refine ⟨fun c => (dats m 0 c).arrAt 5 cfg0.N, fun c => (dats m 0 c).arrAt 6 cfg0.N, fun c => (dats m 0 c).arrAt 7 cfg0.N, ?_, ?_⟩
  · run_from Cert.InprojIdeal.Value.run_blocks m g
  · refine (θ_run Cert.InprojRefIdeal.defs _ _).mono (fun r h c => ?_) (Cert.InprojRefIdeal.Value.run m' g')
    obtain ⟨e0, e1, e2, rest⟩ := h c
    obtain ⟨h0, h1, h2, h3, h4⟩ := hagree c
    refine ⟨e0.trans ?_, e1.trans ?_, e2.trans ?_, rest⟩
    · refine (Cert.InprojRefIdeal.Read.val_main_v20_eq (F := Ideal) _ _ _ _).trans ?_
      rw [h1, h2, h3, h4]
      exact (final5 m c).symm
    · refine (Cert.InprojRefIdeal.Read.val_main_v17_eq (F := Ideal) _ _ _).trans ?_
      rw [h0, h2, h3]
      exact (final6 m c).symm
    · refine (Cert.InprojRefIdeal.Read.val_main_v14_eq (F := Ideal) _ _).trans ?_
      rw [h2, h3]
      exact (final7 m c).symm

end Cert.InprojIdeal.Grad

end
-- ==== Proof.InprojCtx.Place.lean ====
module

public import Idealize.ShloMosaic.Lib.Pointwise
public import proofs.«01_k».proof.Proof.Shared.Columns

@[expose] public section

set_option maxRecDepth 65536

noncomputable section

open Idealize.ShloMosaic

namespace Cert.InprojCtxIdeal.Grad

open Cert.Columns

variable (h : Placed 16640) (d : FVec Ideal (Sh 16640 3584) .bf16) (r : Fin 16640)

set_option maxHeartbeats 1000000 in
theorem placeA_apply (k : Fin 2816) (k' : Fin 5120) (e : k'.val = k.val) :
    placeA h d (ix2 r k) = if isFirst k' then d (ix2 r (src k')) else 0 := by
  pointwise [placeA, blank]
  have hk := k.isLt
  repeat' first | refine dite_to (fun _ => ?_) (fun _ => ?_) | refine ite_to (fun _ => ?_) (fun _ => ?_)
  all_goals first
    | exact (if_neg (by simp only [isFirst]; omega)).symm
    | (refine Eq.trans ?_ (if_pos (by simp only [isFirst]; omega)).symm
       refine congrArg d (congrArg (ix2 r) (Fin.ext ?_)); simp only [src]; split_ifs <;> omega)

set_option maxHeartbeats 1000000 in
theorem placeB_apply (k : Fin 2304) (k' : Fin 5120) (e : k'.val = 2816 + k.val) :
    placeB h d (ix2 r k) = if isFirst k' then d (ix2 r (src k')) else 0 := by
  pointwise [placeB, blank]
  have hk := k.isLt
  repeat' first | refine dite_to (fun _ => ?_) (fun _ => ?_) | refine ite_to (fun _ => ?_) (fun _ => ?_)
  all_goals first
    | exact (if_neg (by simp only [isFirst]; omega)).symm
    | (refine Eq.trans ?_ (if_pos (by simp only [isFirst]; omega)).symm
       refine congrArg d (congrArg (ix2 r) (Fin.ext ?_)); simp only [src]; split_ifs <;> omega)

theorem place_apply (k : Fin 5120) : place h d (ix2 r k) = if isFirst k then d (ix2 r (src k)) else 0 := by
  pointwise [place]
  have hk := k.isLt
  refine dite_to (fun _ => ?_) (fun _ => ?_)
  · exact placeA_apply h d r _ k rfl
  · exact placeB_apply h d r _ k (by dsimp only; omega)

end Cert.InprojCtxIdeal.Grad

end

end
-- ==== Proof.InprojCtx.Blocks.lean ====
/- The input projection's gradient call at the context rows: what it leaves in its two result arrays. -/
module

public import proofs.«01_k».proof.Proof.Gen.InprojCtxIdeal.Value
public import proofs.«01_k».proof.Proof.Gen.InprojCtxRefIdeal.Read
public import proofs.«01_k».proof.Proof.InprojCtx.Place
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojCtxIdeal.Grad

open Cert.InprojCtxIdeal Cert.InprojCtxIdeal.Gen Cert.Columns
open Cert.InprojCtxRefIdeal.Read

variable (m : (ℓ : Loc nD τ sig) → Buf (Elt Ideal) ℓ)

/-- Each window's block at the one grid point: the context rows lie after the sequence's 64 row blocks. -/
theorem idx : ∀ t : Fin cfg0.N, win0_0.index t = ![64, 0] ∧ win0_1.index t = ![64, 0] ∧ win0_2.index t = ![0, 0]
    ∧ win0_3.index t = ![0, 0] ∧ win0_4.index t = ![0, 0] ∧ win0_5.index t = ![0, 0] :=
  (by decide +kernel : ∀ t : Fin grid0.N, _)

/-- Context row `r` of an array of all rows. -/
def row (r : Fin 256) : Fin 16640 := ⟨16384 + r.val, by omega⟩

theorem placed : Placed 16640 := by constructor <;> decide

/-- The host's layouts of the cotangent and of the weight. -/
theorem V61 (c : Dev nD) : V m c main_v61 = place placed (m ((c : Thread nD τ).loc main_arg3)) := by sl_kernel_rfl

theorem V41 (c : Dev nD) : V m c main_v41 = extend (m ((c : Thread nD τ).loc main_arg2)) := by sl_kernel_rfl

/-- All rows: the sequence's, then the context's. -/
def stack (x : FVec Ideal S16384x1024 .f32) (y : FVec Ideal S256x1024 .f32) : FVec Ideal S16640x1024 .f32 :=
  concatenate S16640x1024 0 [⟨S16384x1024, x⟩, ⟨S256x1024, y⟩] concatenates_S16384x1024_S256x1024_S16640x1024_d0

theorem stack_apply (x y) (r : Fin 256) (l : Fin 1024) : stack x y (ix2 (row r) l) = y (ix2 r l) := by
  pointwise [stack, row]

theorem V42 (c : Dev nD) : V m c main_v42 = stack (m ((c : Thread nD τ).loc main_arg0)) (m ((c : Thread nD τ).loc main_arg1)) := by
  sl_kernel_rfl

/-- The cotangent's context rows, in the combined columns. -/
theorem in0 (c : Dev nD) (t : Fin cfg0.N) (r : Fin 256) (k : Fin 5120) : iblk m c 0 t (ix2 r k)
    = if isFirst k then m ((c : Thread nD τ).loc main_arg3) (ix2 (row r) (src k)) else (0 : EReal) := by
  blk_simp [iblk]
  rw [show ((cfg0.win 0).blk t).view.emb (ix2 r k) = ix2 (row r) k by blk_ext [idx t, row]]
  exact (congrFun (V61 m c) _).trans (place_apply placed _ _ _)

/-- The context rows. -/
theorem in1 (c : Dev nD) (t : Fin cfg0.N) (r : Fin 256) (l : Fin 1024) : iblk m c 1 t (ix2 r l)
    = m ((c : Thread nD τ).loc main_arg1) (ix2 r l) := by
  blk_simp [iblk]
  rw [show ((cfg0.win 1).blk t).view.emb (ix2 r l) = ix2 (row r) l by blk_ext [idx t, row]]
  exact (congrFun (V42 m c) _).trans (stack_apply _ _ _ _)

/-- The weight, transposed, in the combined columns. -/
theorem in3 (c : Dev nD) (t : Fin cfg0.N) (k : Fin 5120) (l : Fin 1024) : iblk m c 3 t (ix2 k l)
    = m ((c : Thread nD τ).loc main_arg2) (ix2 l (src k)) := by
  blk_simp [iblk]
  rw [show ((cfg0.win 3).blk t).view.emb (ix2 k l) = ix2 k l by blk_ext [idx t]]
  exact (congrFun (V41 m c) _).trans (extend_apply _ _ _)

section
variable (v0 : Vec Ideal S256x5120 .bf16) (v2 : Vec Ideal S256x1024 .f32) (v3 : Vec Ideal S5120x1024 .bf16)
  (acc : Vec Ideal S1x1024 .f32) (x1 : FVec Ideal S256x1024 .f32) (x2 : FVec Ideal S1024x3584 .f32)
  (x3 : FVec Ideal S16640x3584 .f32)

theorem pay1_apply (r : Fin 256) (l : Fin 1024) :
    k0_pay1 (F := Ideal) v0 v3 (ix2 r l) = ∑ k : Fin 5120, v0 (ix2 r k) * v3 (ix2 k l) := by
  pointwise [k0_pay1]

theorem pay4_apply (j : S1x1024.Idx) : k0_pay4 (F := Ideal) v0 v2 v3 (k0_pay2 (F := Ideal)) j
    = ∑ r : Fin 256, k0_pay1 (F := Ideal) v0 v3 (ix2 r (j 1)) * v2 (ix2 r (j 1)) := by
  idx_vars j
  pointwise [k0_pay4, k0_pay2]

theorem pay5_apply (j : S1x1024.Idx) : k0_pay5 (F := Ideal) v0 v3 (k0_pay3 (F := Ideal)) j
    = ∑ r : Fin 256, k0_pay1 (F := Ideal) v0 v3 (ix2 r (j 1)) := by
  idx_vars j
  pointwise [k0_pay5, k0_pay3]

theorem ref9 (r : Fin 256) (l : Fin 1024) : val_main_v9 (F := Ideal) x2 x3 (ix2 r l)
    = ∑ k : Fin 3584, x3 (ix2 (row r) k) * x2 (ix2 l k) := by
  pointwise [val_main_v9, val_main_v8, row]

theorem ref14 (j : S1x1024.Idx) : val_main_v14 (F := Ideal) x1 x2 x3 j
    = ∑ k : Fin 256, val_main_v9 (F := Ideal) x2 x3 (ix2 k (j 1)) * x1 (ix2 k (j 1)) := by
  idx_vars j
  pointwise [val_main_v14, val_main_v13, val_main_v12, val_main_cst_2]
  exact Finset.sum_congr rfl fun k _ => mul_comm _ _

theorem ref11 (j : S1x1024.Idx) : val_main_v11 (F := Ideal) x2 x3 j
    = ∑ k : Fin 256, val_main_v9 (F := Ideal) x2 x3 (ix2 k (j 1)) := by
  idx_vars j
  pointwise [val_main_v11, val_main_v10, val_main_cst_1]
end

/-- The gradient of the modulated context. -/
theorem dh_eq (c : Dev nD) (t : Fin cfg0.N) (r : Fin 256) (l : Fin 1024) :
    k0_pay1 (F := Ideal) (iblk m c 0 t) (iblk m c 3 t) (ix2 r l) = val_main_v9 (F := Ideal)
      (m ((c : Thread nD τ).loc main_arg2)) (m ((c : Thread nD τ).loc main_arg3)) (ix2 r l) := by
  rw [pay1_apply, ref9]
  simp only [in0, in3]
  exact dot_first (fun k => m ((c : Thread nD τ).loc main_arg3) (ix2 (row r) k))
    (fun k => m ((c : Thread nD τ).loc main_arg2) (ix2 l k))

/-- The column sums over the block of context rows. -/
theorem sum_scale (c : Dev nD) (t : Fin cfg0.N) (l : Fin 1024) :
    ∑ r : Fin 256, k0_pay1 (F := Ideal) (iblk m c 0 t) (iblk m c 3 t) (ix2 r l) * iblk m c 1 t (ix2 r l)
      = ∑ k : Fin 256, val_main_v9 (F := Ideal) (m ((c : Thread nD τ).loc main_arg2)) (m ((c : Thread nD τ).loc main_arg3))
        (ix2 k l) * m ((c : Thread nD τ).loc main_arg1) (ix2 k l) :=
  Finset.sum_congr rfl fun r _ => by rw [dh_eq, in1]

theorem sum_shift (c : Dev nD) (t : Fin cfg0.N) (l : Fin 1024) :
    ∑ r : Fin 256, k0_pay1 (F := Ideal) (iblk m c 0 t) (iblk m c 3 t) (ix2 r l)
      = ∑ k : Fin 256, val_main_v9 (F := Ideal) (m ((c : Thread nD τ).loc main_arg2)) (m ((c : Thread nD τ).loc main_arg3))
        (ix2 k l) :=
  Finset.sum_congr rfl fun r _ => by rw [dh_eq]

/-- The gradient of the scale at the context. -/
theorem final4 (c : Dev nD) : (dats m 0 c).arrAt 4 cfg0.N = val_main_v14 (F := Ideal) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, outsAt0]
  frame_out

  rw [show ((cfg0.win 4).blk t).view.emb y = y by blk_ext [idx t]]
  exact (pay4_apply _ _ _ y).trans ((sum_scale m c t (y 1)).trans (ref14 _ _ _ y).symm)

/-- The gradient of the shift at the context. -/
theorem final5 (c : Dev nD) : (dats m 0 c).arrAt 5 cfg0.N = val_main_v11 (F := Ideal)
    (m ((c : Thread nD τ).loc main_arg2)) (m ((c : Thread nD τ).loc main_arg3)) := by
  refine (dats m 0 c).arrAt_eq_of_covers 5 _ (by decide +kernel) fun t _ y => ?_
  blk_simp
  rw [after0_5, outsAt0]
  frame_out

  rw [show ((cfg0.win 5).blk t).view.emb y = y by blk_ext [idx t]]
  exact (pay5_apply _ _ y).trans ((sum_shift m c t (y 1)).trans (ref11 _ _ y).symm)

end Cert.InprojCtxIdeal.Grad

end
-- ==== Proof.InprojCtx.Claim.lean ====
/- The input projection's gradient call at the context rows computes the reference's two gradients. -/
module

public import proofs.«01_k».proof.Defs
public import proofs.«01_k».proof.Proof.InprojCtx.Blocks
public import proofs.«01_k».proof.Proof.Gen.InprojCtxRefIdeal.Run

@[expose] public section

set_option maxRecDepth 16384

noncomputable section

open Idealize.ShloMosaic Idealize.ShloMosaic.TcCoe Idealize.SL.Sem

namespace Cert.InprojCtxIdeal.Grad

open Cert.InprojCtxIdeal Cert.InprojCtxIdeal.Gen

set_option maxHeartbeats 1600000 in
/-- Over the extended reals the call returns the derivative of the forward lines, in all two results. -/
theorem algebraic : Cert.algebraic_InprojCtxIdeal_InprojCtxRefIdeal := by
  intro m g m' g' _ hagree
  refine ⟨fun c => (dats m 0 c).arrAt 4 cfg0.N, fun c => (dats m 0 c).arrAt 5 cfg0.N, ?_, ?_⟩
  · run_from Cert.InprojCtxIdeal.Value.run_blocks m g
  · refine (θ_run Cert.InprojCtxRefIdeal.defs _ _).mono (fun r h c => ?_) (Cert.InprojCtxRefIdeal.Value.run m' g')
    obtain ⟨e0, e1, rest⟩ := h c
    obtain ⟨h0, h1, h2, h3⟩ := hagree c
    refine ⟨e0.trans ?_, e1.trans ?_, rest⟩
    · refine (Cert.InprojCtxRefIdeal.Read.val_main_v14_eq (F := Ideal) _ _ _).trans ?_
      rw [h1, h2, h3]
      exact (final4 m c).symm
    · refine (Cert.InprojCtxRefIdeal.Read.val_main_v11_eq (F := Ideal) _ _).trans ?_
      rw [h2, h3]
      exact (final5 m c).symm

end Cert.InprojCtxIdeal.Grad

end
-- ==== Proof.Shared.Silu.lean ====
module

public import proofs.«01_k».proof.Proof.Shared.Softmax

/-! # Real numbers among the extended reals, and the gradient of the silu

An extended real is *real* when it is the coercion of its real part. -/

@[expose] public section

noncomputable section

namespace Cert.Silu

open Idealize.ShloMosaic

/-- `x` is a real number. -/
def IsReal (x : EReal) : Prop := ∃ r : ℝ, x = r

theorem IsReal.of_toReal {x : EReal} (h : (x.toReal : EReal) = x) : IsReal x := ⟨_, h.symm⟩

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.sum {ι : Type} [Fintype ι] {f : ι → EReal} (h : ∀ i, IsReal (f i)) : IsReal (∑ i, f i) := by
  choose g hg using h
  exact ⟨∑ i, g i, by simp only [hg]; exact Cert.Softmax.coe_sum _ _⟩

/-- The logistic function of a real number is real. -/
theorem IsReal.logistic {x : EReal} (hx : IsReal x) : IsReal (Ideal.logistic x) := by
  obtain ⟨a, rfl⟩ := hx
  have h : (1 : ℝ) + Real.exp (-a) ≠ 0 := by have := Real.exp_pos (-a); positivity
  refine ⟨1 / (1 + Real.exp (-a)), ?_⟩
  rw [show Ideal.logistic (a : EReal) = Ideal.div 1 (1 + Ideal.exp (-(a : EReal))) from rfl, ← EReal.coe_neg, Ideal.exp_coe,
    ← EReal.coe_one, ← EReal.coe_add]
  exact Cert.Softmax.div_coe_coe 1 h

/-- The gradient of `x * s`, where `s` is the logistic function of `x`: in one product, and by the product rule. -/
theorem grad_eq {d x s : EReal} (hd : IsReal d) (hx : IsReal x) (hs : IsReal s) :
    d * (s * (1 + x * (1 - s))) = d * s + x * d * (s * (1 - s)) := by
  obtain ⟨d, rfl⟩ := hd; obtain ⟨x, rfl⟩ := hx; obtain ⟨s, rfl⟩ := hs
  rw [← EReal.coe_one]
  simp only [← EReal.coe_sub, ← EReal.coe_mul, ← EReal.coe_add]
  exact congrArg (fun z : ℝ => (z : EReal)) (by ring)

end Cert.Silu

end
-- ==== Proof.Mod.Body.lean ====
/- What the modulation gradient call computes at its one grid point. -/
module

public import proofs.«01_k».proof.Proof.Gen.ModIdeal.Value
public import proofs.«01_k».proof.Proof.Gen.ModRefIdeal.Read
public import proofs.«01_k».proof.Proof.Shared.Silu
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.Grad

open Cert.ModIdeal Cert.ModIdeal.Gen
open Cert.ModRefIdeal.Read

/-- The gradients of the modulation as the kernel multiplies them: the first eight rows as they are, their row 8 the sum
of the last eight, then nothing. -/
theorem pay4_apply (v4 : Vec Ideal S16x768 .f32) (v5 v6 v8 v10 v12 v14 v16 v18 : Vec Ideal S1x768 .f32) (r : Fin 16) (l : Fin 768) :
    k0_pay4 (F := Ideal) v4 v5 v6 v8 v10 v12 v14 v16 v18 (ix2 r l)
      = if r.val < 8 then v4 (ix2 r l) else if r.val = 8 then
          v5 (ix2 0 l) + v6 (ix2 0 l) + v8 (ix2 0 l) + v10 (ix2 0 l) + v12 (ix2 0 l) + v14 (ix2 0 l) + v16 (ix2 0 l) + v18 (ix2 0 l)
        else 0 := by
  pointwise [k0_pay4]
  fin_cases r <;> rfl

theorem pay5_apply (v0 : Vec Ideal S16x1024 .f32) (v4 : Vec Ideal S16x768 .f32) (v5 v6 v8 v10 v12 v14 v16 v18 : Vec Ideal S1x768 .f32) (i : Fin 1024)
    (l : Fin 768) :
    k0_pay5 (F := Ideal) v0 v4 v5 v6 v8 v10 v12 v14 v16 v18 (ix2 i l)
      = ∑ r : Fin 16, (v0 (ix2 r i) * Ideal.logistic (v0 (ix2 r i))) * k0_pay4 (F := Ideal) v4 v5 v6 v8 v10 v12 v14 v16 v18 (ix2 r l) := by
  pointwise [k0_pay5, k0_pay2, k0_pay3]

theorem pay6_apply (v0 : Vec Ideal S16x1024 .f32) (v29 : Vec Ideal S16x768 .f32) (v32 : Vec Ideal S1024x768 .f32) (r : Fin 16)
    (i : Fin 1024) :
    k0_pay6 (F := Ideal) (k0_pay2 v0) (k0_pay3 v0) v29 v32 (ix2 r i)
      = (∑ l : Fin 768, v29 (ix2 r l) * v32 (ix2 i l))
        * (Ideal.logistic (v0 (ix2 r i)) * (1 + v0 (ix2 r i) * (1 - Ideal.logistic (v0 (ix2 r i))))) := by
  pointwise [k0_pay6, k0_pay2, k0_pay3]

/-- The sum of sixteen rows, one after the other. -/
theorem pay1_apply (v42 v43 v45 v47 v49 v51 v53 v55 v57 v59 v61 v63 v65 v67 v69 v71 : Vec Ideal S1x6144 .f32) (l : Fin 6144) :
    k0_pay1 (F := Ideal) (k0_pay7 v42 v43 v45 v47 v49 v51 v53 v55 v57 v59 v61) v63 v65 v67 v69 v71 (ix2 0 l)
      = v42 (ix2 0 l) + v43 (ix2 0 l) + v45 (ix2 0 l) + v47 (ix2 0 l) + v49 (ix2 0 l) + v51 (ix2 0 l) + v53 (ix2 0 l)
        + v55 (ix2 0 l) + v57 (ix2 0 l) + v59 (ix2 0 l) + v61 (ix2 0 l) + v63 (ix2 0 l) + v65 (ix2 0 l) + v67 (ix2 0 l)
        + v69 (ix2 0 l) + v71 (ix2 0 l) := by
  pointwise [k0_pay1, k0_pay7]

end Cert.ModIdeal.Grad

end
-- ==== Proof.Mod.Ref.lean ====
/- The reference's modulation gradients, entry by entry. -/
module

public import proofs.«01_k».proof.Proof.Gen.ModIdeal.Value
public import proofs.«01_k».proof.Proof.Gen.ModRefIdeal.Read
public import proofs.«01_k».proof.Proof.Shared.Silu
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.Grad

open Cert.ModIdeal Cert.ModIdeal.Gen
open Cert.ModRefIdeal.Read

theorem sg0 (x1 : Vec Ideal S1024 .f32) (i : Fin 1024) : val_main_v0_2 (F := Ideal) x1 (ix1 i) = Ideal.logistic (x1 (ix1 i)) := by
  pointwise [val_main_v0_2, val_main_call0_v4, val_main_call0_cst_0, val_main_call0_v3, val_main_call0_v2, val_main_call0_cst,
    val_main_call0_v1, val_main_call0_v0]
  rfl

theorem sg3 (x0 : Vec Ideal S8x1024 .f32) (r : Fin 8) (i : Fin 1024) :
    val_main_v3_2 (F := Ideal) x0 (ix2 r i) = Ideal.logistic (x0 (ix2 r i)) := by
  pointwise [val_main_v3_2, val_main_call1_v4, val_main_call1_cst_0, val_main_call1_v3, val_main_call1_v2, val_main_call1_cst,
    val_main_call1_v1, val_main_call1_v0]
  rfl

theorem ref8 (x3 : Vec Ideal S16x768 .f32) (l : Fin 768) :
    val_main_v8 (F := Ideal) x3 (ix1 l) = ∑ s : Fin 8, x3 (ix2 ⟨8 + s.val, by omega⟩ l) := by
  pointwise [val_main_v8, val_main_v7, val_main_cst]

theorem ref16 (x0 : Vec Ideal S8x1024 .f32) (x1 : Vec Ideal S1024 .f32) (x3 : Vec Ideal S16x768 .f32) (i : Fin 1024) (l : Fin 768) :
    val_main_v16 (F := Ideal) x0 x1 x3 (ix2 i l)
      = (∑ r : Fin 8, x3 (ix2 ⟨r.val, by omega⟩ l) * (x0 (ix2 r i) * val_main_v3_2 (F := Ideal) x0 (ix2 r i)))
        + val_main_v8 (F := Ideal) x3 (ix1 l) * (x1 (ix1 i) * val_main_v0_2 (F := Ideal) x1 (ix1 i)) := by
  pointwise [val_main_v16, val_main_v11, val_main_v10, val_main_v6, val_main_v3_0, val_main_v15, val_main_v14, val_main_v9,
    val_main_v1, val_main_v0_0]
  exact congrArg _ (Fin.sum_univ_one _)

theorem ref13 (x0 : Vec Ideal S8x1024 .f32) (x2 : Vec Ideal S1024x768 .f32) (x3 : Vec Ideal S16x768 .f32) (r : Fin 8) (i : Fin 1024) :
    val_main_v13 (F := Ideal) x0 x2 x3 (ix2 r i)
      = (∑ l : Fin 768, x3 (ix2 ⟨r.val, by omega⟩ l) * x2 (ix2 i l)) * val_main_v3_2 (F := Ideal) x0 (ix2 r i)
        + x0 (ix2 r i) * (∑ l : Fin 768, x3 (ix2 ⟨r.val, by omega⟩ l) * x2 (ix2 i l))
          * (val_main_v3_2 (F := Ideal) x0 (ix2 r i) * (1 - val_main_v3_2 (F := Ideal) x0 (ix2 r i))) := by
  pointwise [val_main_v13, val_main_call2_v1, val_main_call2_v2, val_main_call2_v0, val_main_v12, val_main_v6, val_main_v3_1,
    val_main_call1_v7, val_main_call1_v6, val_main_call1_cst_1]

theorem ref19 (x1 : Vec Ideal S1024 .f32) (x2 : Vec Ideal S1024x768 .f32) (x3 : Vec Ideal S16x768 .f32) (i : Fin 1024) :
    val_main_v19 (F := Ideal) x1 x2 x3 (ix1 i)
      = (∑ l : Fin 768, val_main_v8 (F := Ideal) x3 (ix1 l) * x2 (ix2 i l)) * val_main_v0_2 (F := Ideal) x1 (ix1 i)
        + x1 (ix1 i) * (∑ l : Fin 768, val_main_v8 (F := Ideal) x3 (ix1 l) * x2 (ix2 i l))
          * (val_main_v0_2 (F := Ideal) x1 (ix1 i) * (1 - val_main_v0_2 (F := Ideal) x1 (ix1 i))) := by
  pointwise [val_main_v19, val_main_call3_v1, val_main_call3_v2, val_main_call3_v0, val_main_v18, val_main_v17, val_main_v9,
    val_main_cst_0, val_main_v0_1, val_main_call0_v7, val_main_call0_v6, val_main_call0_cst_1]
  rw [Fin.sum_univ_one]

theorem ref26 (x0 : Vec Ideal S8x1024 .f32) (x1 : Vec Ideal S1024 .f32) (x2 : Vec Ideal S1024x768 .f32) (x3 : Vec Ideal S16x768 .f32)
    (r : Fin 16) (i : Fin 1024) :
    val_main_v26 (F := Ideal) x0 x1 x2 x3 (ix2 r i)
      = if h : r.val < 8 then val_main_v13 (F := Ideal) x0 x2 x3 (ix2 ⟨r.val, h⟩ i)
        else if r.val = 8 then val_main_v19 (F := Ideal) x1 x2 x3 (ix1 i) else 0 := by
  pointwise [val_main_v26, val_main_v24, val_main_v25, val_main_cst_3]
  fin_cases r <;> rfl

theorem ref23 (x4 : Vec Ideal S16x6144 .f32) (l : Fin 6144) :
    val_main_v23 (F := Ideal) x4 (ix2 0 l) = ∑ s : Fin 16, x4 (ix2 s l) := by
  pointwise [val_main_v23, val_main_v22, val_main_cst_2]

end Cert.ModIdeal.Grad

end
-- ==== Proof.Mod.Final.lean ====
/- The three arrays that the modulation gradient call returns are the reference's. -/
module

public import proofs.«01_k».proof.Proof.Mod.Body
public import proofs.«01_k».proof.Proof.Mod.Ref
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.Grad

open Cert.ModIdeal Cert.ModIdeal.Gen
open Cert.ModRefIdeal.Read

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem rows3 : Shape.Concatenates [S8x1024, S1x1024, S7x1024] S16x1024 0 := by decide

/-- The conditioning's rows: the eight devices', the context's, and seven of zeros. -/
def conds (x0 : FVec Ideal S8x1024 .f32) (x1 : FVec Ideal S1024 .f32) : FVec Ideal S16x1024 .f32 :=
  concatenate S16x1024 0 [⟨S8x1024, x0⟩, ⟨S1x1024, shapeCast S1x1024 x1 shapeCasts_S1024_S1x1024⟩,
    ⟨S7x1024, broadcastInDim S7x1024 ![] bcast_S_S7x1024 (constant (F := Ideal) S_ .f32 0x00000000#32)⟩] rows3

theorem conds_apply (x0 : FVec Ideal S8x1024 .f32) (x1 : FVec Ideal S1024 .f32) (r : Fin 16) (i : Fin 1024) :
    conds x0 x1 (ix2 r i)
      = if h : r.val < 8 then x0 (ix2 ⟨r.val, h⟩ i) else if r.val = 8 then x1 (ix1 i) else (0 : EReal) := by
  pointwise [conds]
  fin_cases r <;> rfl

theorem V2 (c : Dev nD) : V m c main_v2 = conds (m ((c : Thread nD τ).loc main_arg0)) (m ((c : Thread nD τ).loc main_arg1)) := by
  sl_kernel_rfl

theorem in0 (c : Dev nD) (t : Fin cfg0.N) (r : Fin 16) (i : Fin 1024) : iblk m c 0 t (ix2 r i)
    = conds (m ((c : Thread nD τ).loc main_arg0)) (m ((c : Thread nD τ).loc main_arg1)) (ix2 r i) := by
  blk_simp [iblk]
  rw [show ((cfg0.win 0).blk t).view.emb (ix2 r i) = ix2 r i by blk_ext [idx t]]
  exact congrFun (V2 m c) _

theorem in1 (c : Dev nD) (t : Fin cfg0.N) (i : Fin 1024) (l : Fin 768) :
    iblk m c 1 t (ix2 i l) = m ((c : Thread nD τ).loc main_arg2) (ix2 i l) := by blk_ext [iblk, V, idx t]

theorem in2 (c : Dev nD) (t : Fin cfg0.N) (r : Fin 16) (l : Fin 768) :
    iblk m c 2 t (ix2 r l) = m ((c : Thread nD τ).loc main_arg3) (ix2 r l) := by blk_ext [iblk, V, idx t]

theorem in3 (c : Dev nD) (t : Fin cfg0.N) (r : Fin 16) (l : Fin 6144) :
    iblk m c 3 t (ix2 r l) = m ((c : Thread nD τ).loc main_arg4) (ix2 r l) := by blk_ext [iblk, V, idx t]

/-- A load of one row of a window reads that row. -/
theorem ld_row {n : ℕ} (b : (⟨⟨2, ![16, n]⟩, .f32⟩ : BufTy).Contents (Elt Ideal)) (k : Fin 16)
    (h : ∀ a, (![k.val, 0] : Fin 2 → ℕ) a + (![1, n] : Fin 2 → ℕ) a ≤ (⟨2, ![16, n]⟩ : Shape).size a) (l : Fin n) :
    View.ld b (Rect.unit (s := ⟨2, ![16, n]⟩) ![k.val, 0] ![1, n] h) (ix2 0 l) = b (ix2 k l) := by
  refine congrArg b (funext fun a => Fin.ext ?_)
  fin_cases a
  · rfl
  · exact (Nat.zero_add _).trans (Nat.one_mul _)

/-- Sixteen terms, of which the last seven are zero. -/
theorem sum16 (f : Fin 16 → EReal) (h : ∀ r : Fin 16, 8 < r.val → f r = 0) :
    ∑ r, f r = (∑ r : Fin 8, f ⟨r.val, by omega⟩) + f 8 := by
  refine (Fin.sum_univ_add (a := 8) (b := 8) f).trans (congrArg (fun z => (∑ r : Fin 8, f ⟨r.val, by omega⟩) + z) ?_)
  refine Finset.sum_eq_single (0 : Fin 8) (fun r _ hr => h _ ?_) (fun h => absurd (Finset.mem_univ _) h)
  have : r.val ≠ 0 := fun h => hr (Fin.ext h)
  show 8 < 8 + r.val
  omega

/-- The gradients of the modulation as the kernel multiplies them, from the argument. -/
def mods (x3 : FVec Ideal S16x768 .f32) (r : Fin 16) (l : Fin 768) : EReal :=
  if r.val < 8 then x3 (ix2 r l) else if r.val = 8 then val_main_v8 (F := Ideal) x3 (ix1 l) else 0

/-- The weight's gradient, from the arguments. -/
theorem dw_eq (x0 : FVec Ideal S8x1024 .f32) (x1 : FVec Ideal S1024 .f32) (x3 : FVec Ideal S16x768 .f32) (i : Fin 1024) (l : Fin 768) :
    ∑ r : Fin 16, (conds x0 x1 (ix2 r i) * Ideal.logistic (conds x0 x1 (ix2 r i))) * mods x3 r l
      = val_main_v16 (F := Ideal) x0 x1 x3 (ix2 i l) := by
  rw [ref16, sum16 _ fun r hr => by rw [mods, if_neg (by omega), if_neg (by omega), mul_zero]]
  refine congrArg₂ (fun a b : EReal => a + b) (Finset.sum_congr rfl fun r _ => ?_) ?_
  · rw [conds_apply, dif_pos (show r.val < 8 by omega), mods, if_pos (show r.val < 8 by omega), sg3]
    exact mul_comm _ _
  · rw [conds_apply, dif_neg (by decide), if_pos (by decide), mods, if_neg (by decide), if_pos (by decide), sg0]
    exact mul_comm _ _

/-- The conditioning's gradient, from real arguments. -/
theorem dc_eq (x0 : FVec Ideal S8x1024 .f32) (x1 : FVec Ideal S1024 .f32) (x2 : FVec Ideal S1024x768 .f32) (x3 : FVec Ideal S16x768 .f32)
    (h0 : ∀ i, Cert.Silu.IsReal (x0 i)) (h1 : ∀ i, Cert.Silu.IsReal (x1 i)) (h2 : ∀ i, Cert.Silu.IsReal (x2 i))
    (h3 : ∀ i, Cert.Silu.IsReal (x3 i)) (r : Fin 16) (i : Fin 1024) :
    (∑ l : Fin 768, mods x3 r l * x2 (ix2 i l)) * (Ideal.logistic (conds x0 x1 (ix2 r i))
        * (1 + conds x0 x1 (ix2 r i) * (1 - Ideal.logistic (conds x0 x1 (ix2 r i)))))
      = val_main_v26 (F := Ideal) x0 x1 x2 x3 (ix2 r i) := by
  have hr8 : ∀ l, Cert.Silu.IsReal (val_main_v8 (F := Ideal) x3 (ix1 l)) := fun l => by
    rw [ref8]; exact Cert.Silu.IsReal.sum fun s => h3 _
  rw [ref26]
  by_cases h : r.val < 8
  · rw [conds_apply, dif_pos h, dif_pos h, ref13, sg3]
    refine (congrArg (fun z : EReal => z * _) (Finset.sum_congr rfl fun l _ => congrArg (fun z : EReal => z * _) (if_pos h))).trans ?_
    exact Cert.Silu.grad_eq (Cert.Silu.IsReal.sum fun l => (h3 _).mul (h2 _)) (h0 _) (h0 _).logistic
  · by_cases h8 : r.val = 8
    · rw [conds_apply, dif_neg h, dif_neg h, if_pos h8, if_pos h8, ref19, sg0]
      refine (congrArg (fun z : EReal => z * _) (Finset.sum_congr rfl fun l _ => congrArg (fun z : EReal => z * _)
        ((if_neg h).trans (if_pos h8)))).trans ?_
      exact Cert.Silu.grad_eq (Cert.Silu.IsReal.sum fun l => (hr8 l).mul (h2 _)) (h1 _) (h1 _).logistic
    · rw [dif_neg h, if_neg h8]
      refine (congrArg (fun z : EReal => z * _) (Finset.sum_eq_zero fun l _ => ?_)).trans (zero_mul _)
      rw [mods, if_neg h, if_neg h8, zero_mul]

theorem last8 (f : Fin 16 → EReal) :
    f 8 + f 9 + f 10 + f 11 + f 12 + f 13 + f 14 + f 15 = ∑ s : Fin 8, f ⟨8 + s.val, by omega⟩ := by
  rw [Fin.sum_univ_eight]
  rfl

/-- The rows that the kernel multiplies are those of the argument, whatever its loads are called. -/
theorem pay4_eq (x3 v4 : Vec Ideal S16x768 .f32) (v5 v6 v8 v10 v12 v14 v16 v18 : Vec Ideal S1x768 .f32)
    (h4 : ∀ r l, v4 (ix2 r l) = x3 (ix2 r l)) (h5 : ∀ l, v5 (ix2 0 l) = x3 (ix2 8 l)) (h6 : ∀ l, v6 (ix2 0 l) = x3 (ix2 9 l))
    (h8 : ∀ l, v8 (ix2 0 l) = x3 (ix2 10 l)) (h10 : ∀ l, v10 (ix2 0 l) = x3 (ix2 11 l))
    (h12 : ∀ l, v12 (ix2 0 l) = x3 (ix2 12 l)) (h14 : ∀ l, v14 (ix2 0 l) = x3 (ix2 13 l))
    (h16 : ∀ l, v16 (ix2 0 l) = x3 (ix2 14 l)) (h18 : ∀ l, v18 (ix2 0 l) = x3 (ix2 15 l)) (r : Fin 16) (l : Fin 768) :
    k0_pay4 (F := Ideal) v4 v5 v6 v8 v10 v12 v14 v16 v18 (ix2 r l) = mods x3 r l := by
  rw [pay4_apply, h4, h5, h6, h8, h10, h12, h14, h16, h18, mods, ref8]
  have h := last8 fun s => x3 (ix2 s l)
  rw [h]

theorem rows4 (c : Dev nD) (t : Fin cfg0.N) (r : Fin 16) (l : Fin 768) :
    k0_pay4 (F := Ideal) (iblk m c 2 t) (View.ld (iblk m c 2 t) r0_2) (View.ld (iblk m c 2 t) r0_3) (View.ld (iblk m c 2 t) r0_4)
      (View.ld (iblk m c 2 t) r0_5) (View.ld (iblk m c 2 t) r0_6) (View.ld (iblk m c 2 t) r0_7) (View.ld (iblk m c 2 t) r0_8)
      (View.ld (iblk m c 2 t) r0_9) (ix2 r l) = mods (m ((c : Thread nD τ).loc main_arg3)) r l :=
  pay4_eq _ _ _ _ _ _ _ _ _ _ (in2 m c t) (fun l => (ld_row _ 8 _ l).trans (in2 m c t 8 l))
    (fun l => (ld_row _ 9 _ l).trans (in2 m c t 9 l)) (fun l => (ld_row _ 10 _ l).trans (in2 m c t 10 l))
    (fun l => (ld_row _ 11 _ l).trans (in2 m c t 11 l)) (fun l => (ld_row _ 12 _ l).trans (in2 m c t 12 l))
    (fun l => (ld_row _ 13 _ l).trans (in2 m c t 13 l)) (fun l => (ld_row _ 14 _ l).trans (in2 m c t 14 l))
    (fun l => (ld_row _ 15 _ l).trans (in2 m c t 15 l)) r l

theorem add2 {a b a' b' : EReal} (h : a = a') (h' : b = b') : a + b = a' + b' := by rw [h, h']

theorem all16 (f : Fin 16 → EReal) :
    f 0 + f 1 + f 2 + f 3 + f 4 + f 5 + f 6 + f 7 + f 8 + f 9 + f 10 + f 11 + f 12 + f 13 + f 14 + f 15 = ∑ s, f s := by
  simp only [Fin.sum_univ_succ, Finset.univ_eq_empty, Finset.sum_empty, add_zero, ← add_assoc]
  rfl

theorem dw_sum (x0 : FVec Ideal S8x1024 .f32) (x1 : FVec Ideal S1024 .f32) (x3 : FVec Ideal S16x768 .f32)
    (w : FVec Ideal S16x1024 .f32) (a : FVec Ideal S16x768 .f32) (hw : ∀ r i, w (ix2 r i) = conds x0 x1 (ix2 r i))
    (ha : ∀ r l, a (ix2 r l) = mods x3 r l) (i : Fin 1024) (l : Fin 768) :
    ∑ r : Fin 16, (w (ix2 r i) * Ideal.logistic (w (ix2 r i))) * a (ix2 r l) = val_main_v16 (F := Ideal) x0 x1 x3 (ix2 i l) := by
  rw [← dw_eq]
  exact Finset.sum_congr rfl fun r _ => by rw [hw, ha]

/-- The whole array of the weight's gradient. -/
theorem final4 (c : Dev nD) : (dats m 0 c).arrAt 4 cfg0.N
    = val_main_v16 (F := Ideal) (m ((c : Thread nD τ).loc main_arg0)) (m ((c : Thread nD τ).loc main_arg1)) (m ((c : Thread nD τ).loc main_arg3)) := by
  refine (dats m 0 c).arrAt_eq_of_covers 4 _ (by decide +kernel) fun t _ y => ?_
  blk_simp
  rw [after0_4]
  idx_vars y
  rw [show ((cfg0.win 4).blk t).view.emb (ix2 y0 y1) = ix2 y0 y1 by blk_ext [idx t]]
  frame_out
  rw [pay5_apply]
  exact dw_sum _ _ _ _ _ (in0 m c t) (rows4 m c t) y0 y1

/-- The whole array of the conditioning's gradient. -/
theorem final5 (c : Dev nD) (h0 : ∀ i, Cert.Silu.IsReal (m ((c : Thread nD τ).loc main_arg0) i))
    (h1 : ∀ i, Cert.Silu.IsReal (m ((c : Thread nD τ).loc main_arg1) i))
    (h2 : ∀ i, Cert.Silu.IsReal (m ((c : Thread nD τ).loc main_arg2) i))
    (h3 : ∀ i, Cert.Silu.IsReal (m ((c : Thread nD τ).loc main_arg3) i)) : (dats m 0 c).arrAt 5 cfg0.N
    = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  rw [show ((cfg0.win 5).blk t).view.emb (ix2 y0 y1) = ix2 y0 y1 by blk_ext [idx t]]
  frame_out
  rw [pay6_apply]
  refine Eq.trans ?_ (dc_eq _ _ _ _ h0 h1 h2 h3 y0 y1)
  rw [in0]
  refine congrArg (fun z : EReal => z * _) (Finset.sum_congr rfl fun l _ => ?_)
  rw [in1]
  exact congrArg (fun z : EReal => z * _) (rows4 m c t y0 l)

theorem final6 (c : Dev nD) : (dats m 0 c).arrAt 6 cfg0.N = val_main_v23 (F := Ideal) (m ((c : Thread nD τ).loc main_arg4)) := by
  refine (dats m 0 c).arrAt_eq_of_covers 6 _ (by decide +kernel) fun t _ y => ?_
  blk_simp
  rw [after0_6]
  idx_vars y
  rw [show ((cfg0.win 6).blk t).view.emb (ix2 y0 y1) = ix2 y0 y1 by blk_ext [idx t]]
  rw [Subsingleton.elim y0 0]
  frame_out
  rw [pay1_apply, ref23]
  refine Eq.trans ?_ (all16 fun s => m ((c : Thread nD τ).loc main_arg4) (ix2 s y1))
  simp only [← in3 m c t]
  have h := fun k hk => ld_row (iblk m c 3 t) k hk y1
  exact add2 (add2 (add2 (add2 (add2 (add2 (add2 (add2 (add2 (add2 (add2 (add2 (add2 (add2 (add2 (h 0 _) (h 1 _)) (h 2 _)) (h 3 _)) (h 4 _)) (h 5 _)) (h 6 _)) (h 7 _)) (h 8 _)) (h 9 _)) (h 10 _)) (h 11 _)) (h 12 _)) (h 13 _)) (h 14 _)) (h 15 _)

end Cert.ModIdeal.Grad

end
-- ==== Proof.Mod.Claim.lean ====
/- The modulation gradient: kernel and reference give the same three arrays. -/
module

public import proofs.«01_k».proof.Defs
public import proofs.«01_k».proof.Proof.Mod.Final
public import proofs.«01_k».proof.Proof.Gen.ModRefIdeal.Run

@[expose] public section

set_option maxRecDepth 16384

noncomputable section

open Idealize.ShloMosaic Idealize.ShloMosaic.TcCoe Idealize.SL.Sem

namespace Cert.ModIdeal.Grad

open Cert.ModIdeal Cert.ModIdeal.Gen

set_option maxHeartbeats 1600000 in
/-- Over the reals the modulation gradient call returns the derivative of the forward lines, in all three results. -/
theorem algebraic [Cert.Pre_finite_mod.Facts] : Cert.algebraic_ModIdeal_ModRefIdeal_pre_finite_mod := by
  intro m g m' g' hpre hagree
  refine ⟨fun c => (dats m 0 c).arrAt 4 cfg0.N, fun c => (dats m 0 c).arrAt 5 cfg0.N, fun c => (dats m 0 c).arrAt 6 cfg0.N, ?_, ?_⟩
  · run_from Cert.ModIdeal.Value.run_blocks m g
  · refine (θ_run Cert.ModRefIdeal.defs _ _).mono (fun r h c => ?_) (Cert.ModRefIdeal.Value.run m' g')
    have p0 := fun i => Cert.Silu.IsReal.of_toReal (Cert.Softmax.real_of_cmp (congrFun (hpre c).1 i))
    have p1 := fun i => Cert.Silu.IsReal.of_toReal (Cert.Softmax.real_of_cmp (congrFun (hpre c).2.1 i))
    have p2 := fun i => Cert.Silu.IsReal.of_toReal (Cert.Softmax.real_of_cmp (congrFun (hpre c).2.2.1 i))
    have p3 := fun i => Cert.Silu.IsReal.of_toReal (Cert.Softmax.real_of_cmp (congrFun (hpre c).2.2.2 i))
    obtain ⟨e0, e1, e2, rest⟩ := h c
    obtain ⟨h0, h1, h2, h3, h4⟩ := hagree c
    refine ⟨e0.trans ?_, e1.trans ?_, e2.trans ?_, rest⟩
    · refine (Cert.ModRefIdeal.Read.val_main_v16_eq (F := Ideal) _ _ _).trans ?_
      rw [h0, h1, h3]
      exact (final4 m c).symm
    · refine (Cert.ModRefIdeal.Read.val_main_v26_eq (F := Ideal) _ _ _ _).trans ?_
      rw [h0, h1, h2, h3]
      exact (final5 m c p0 p1 p2 p3).symm
    · refine (Cert.ModRefIdeal.Read.val_main_v23_eq (F := Ideal) _).trans ?_
      rw [h4]
      exact (final6 m c).symm

end Cert.ModIdeal.Grad

end
-- ==== Proof.Swiglu.Columns.lean ====
/- The padded columns of the hidden layer, and the arrays that the host lays out in them. -/
module

public import proofs.«01_k».proof.Proof.Gen.SwigluIdeal.Value
public import proofs.«01_k».proof.Proof.Gen.SwigluRefIdeal.Read
public import proofs.«01_k».proof.Proof.Shared.Silu
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluIdeal.Grad

open Cert.SwigluIdeal Cert.SwigluIdeal.Gen
open Cert.SwigluRefIdeal.Read

/-- Whether a padded column holds one of the layer's: 704 of each 768 do. -/
def valid (k : ℕ) : Prop := k % 768 < 704

instance (k : ℕ) : Decidable (valid k) := by unfold valid; infer_instance

/-- The column that a padded column holds. -/
def src (k : Fin 6144) : Fin 5632 := ⟨k.val / 768 * 704 + (if k.val % 768 < 704 then k.val % 768 else 0), by split_ifs <;> omega⟩

/-- The same in the gate's half. -/
def srcH (k : Fin 3072) : Fin 2816 := ⟨k.val / 768 * 704 + (if k.val % 768 < 704 then k.val % 768 else 0), by split_ifs <;> omega⟩

/-- The zero that fills the padding. -/
abbrev fill : FVec Ideal S_ .f32 := sitofp (F := Ideal) .f32 (constantI S_ 32 0#32)

/-- The rows of the hidden layer, in the padded columns. -/
def padU (x : FVec Ideal S16384x5632 .f32) : FVec Ideal S16384x6144 .f32 :=
  shapeCast S16384x6144 (pad S16384x8x768 ![0, 0, 0] ![0, 0, 64] ![0, 0, 0]
    (shapeCast S16384x8x704 x shapeCasts_S16384x5632_S16384x8x704) fill
    pads_S16384x8x704_S16384x8x768_000_000_0640 h_S_) shapeCasts_S16384x8x768_S16384x6144

/-- The rows of the gated product's cotangent, in the padded columns. -/
def padA (x : FVec Ideal S16384x2816 .f32) : FVec Ideal S16384x3072 .f32 :=
  transpose S16384x3072 [1, 0] (shapeCast S3072x16384 (pad S4x768x16384 ![0, 0, 0] ![0, 64, 0] ![0, 0, 0]
    (shapeCast S4x704x16384 (transpose S2816x16384 [1, 0] x transposes_S16384x2816_S2816x16384_1_0) shapeCasts_S2816x16384_S4x704x16384)
    fill pads_S4x704x16384_S4x768x16384_000_0640_000 h_S_) shapeCasts_S4x768x16384_S3072x16384) transposes_S3072x16384_S16384x3072_1_0

/-- The three taps, in the padded columns and eight rows. -/
def padW (x : FVec Ideal S3x5632 .f32) : FVec Ideal S8x6144 .f32 :=
  pad S8x6144 ![0, 0] ![5, 0] ![0, 0] (shapeCast S3x6144 (pad S3x8x768 ![0, 0, 0] ![0, 0, 64] ![0, 0, 0]
    (shapeCast S3x8x704 x shapeCasts_S3x5632_S3x8x704) fill pads_S3x8x704_S3x8x768_000_000_0640 h_S_) shapeCasts_S3x8x768_S3x6144)
    fill pads_S3x6144_S8x6144_050_000 h_S_

/-- The bias, in the padded columns. -/
def padB (x : FVec Ideal S1x5632 .f32) : FVec Ideal S1x6144 .f32 :=
  shapeCast S1x6144 (pad S1x8x768 ![0, 0, 0] ![0, 0, 64] ![0, 0, 0] (shapeCast S1x8x704 x shapeCasts_S1x5632_S1x8x704) fill
    pads_S1x8x704_S1x8x768_000_000_0640 h_S_) shapeCasts_S1x8x768_S1x6144

theorem fill0 : (FloatOps.sitofp FTy.f32 (0#32 : BitVec 32) : Ideal .f32) = (0 : EReal) := by
  show (((0#32 : BitVec 32).toInt : ℝ) : EReal) = 0
  simp

theorem padU_apply (x : FVec Ideal S16384x5632 .f32) (r : Fin 16384) (k : Fin 6144) :
    padU x (ix2 r k) = if valid k.val then x (ix2 r (src k)) else (0 : EReal) := by
  pointwise [padU]
  by_cases h : valid k.val
  · rw [if_pos h, dif_pos ⟨by omega, h⟩]
    exact congrArg x (congrArg (ix2 r) (Fin.ext (by simp only [src]; exact congrArg _ (if_pos h).symm)))
  · rw [if_neg h, dif_neg fun h' => h h'.2, fill0]

theorem padA_apply (x : FVec Ideal S16384x2816 .f32) (r : Fin 16384) (k : Fin 3072) :
    padA x (ix2 r k) = if valid k.val then x (ix2 r (srcH k)) else (0 : EReal) := by
  pointwise [padA]
  by_cases h : valid k.val
  · rw [if_pos h, dif_pos ⟨by omega, h⟩]
    exact congrArg x (congrArg (ix2 r) (Fin.ext (by simp only [srcH]; exact congrArg _ (if_pos h).symm)))
  · rw [if_neg h, dif_neg fun h' => h h'.2, fill0]

theorem padW_apply (x : FVec Ideal S3x5632 .f32) (s : Fin 3) (k : Fin 6144) :
    padW x (ix2 ⟨s.val, by omega⟩ k) = if valid k.val then x (ix2 s (src k)) else (0 : EReal) := by
  pointwise [padW]
  by_cases h : valid k.val
  · rw [if_pos h, dif_pos ⟨by omega, h⟩]
    exact congrArg x (congrArg (ix2 s) (Fin.ext (by simp only [src]; exact congrArg _ (if_pos h).symm)))
  · rw [if_neg h, dif_neg fun h' => h h'.2, fill0]

theorem padB_apply (x : FVec Ideal S1x5632 .f32) (k : Fin 6144) :
    padB x (ix2 0 k) = if valid k.val then x (ix2 0 (src k)) else (0 : EReal) := by
  pointwise [padB]
  by_cases h : valid k.val
  · rw [if_pos h, dif_pos ⟨by omega, h⟩]
    exact congrArg x (congrArg (ix2 0) (Fin.ext (by simp only [src]; exact congrArg _ (if_pos h).symm)))
  · rw [if_neg h, dif_neg fun h' => h h'.2, fill0]

variable (m : (ℓ : Loc nD τ sig) → Buf (Elt Ideal) ℓ)

theorem V7 (c : Dev nD) : V m c main_v7 = padU (m ((c : Thread nD τ).loc main_arg0)) := by sl_kernel_rfl
theorem V4 (c : Dev nD) : V m c main_v4 = padA (m ((c : Thread nD τ).loc main_arg3)) := by sl_kernel_rfl
theorem V11 (c : Dev nD) : V m c main_v11 = padW (m ((c : Thread nD τ).loc main_arg1)) := by sl_kernel_rfl
theorem V14 (c : Dev nD) : V m c main_v14 = padB (m ((c : Thread nD τ).loc main_arg2)) := by sl_kernel_rfl

theorem idx : ∀ t : Fin cfg0.N, win0_0.index t = ![t.val, 0] ∧ win0_1.index t = ![t.val * 16 - 1, 0]
    ∧ win0_2.index t = ![min ((t.val + 1) * 16) 2047, 0] ∧ win0_3.index t = ![t.val, 0] ∧ win0_4.index t = ![t.val * 16 - 1, 0]
    ∧ win0_5.index t = ![min ((t.val + 1) * 16) 2047, 0] ∧ win0_6.index t = ![0, 0] ∧ win0_7.index t = ![0, 0] :=
  (by decide +kernel : ∀ t : Fin grid0.N, _)

theorem idxOut : ∀ t : Fin cfg0.N, win0_8.index t = ![t.val, 0] ∧ win0_9.index t = ![0, 0] ∧ win0_10.index t = ![0, 0]
    ∧ win0_11.index t = ![0, 0] ∧ win0_12.index t = ![0, 0] :=
  (by decide +kernel : ∀ t : Fin grid0.N, _)

theorem point : ∀ t : Fin cfg0.N, (grid0.coords t 0).val = t.val := (by decide +kernel : ∀ t : Fin grid0.N, _)

theorem lt128 (t : Fin cfg0.N) : t.val < 128 := lt_of_lt_of_eq t.isLt (by decide)

/-- Row `r` of a row block at grid point `t`. -/
def row (t : Fin cfg0.N) (r : Fin 128) : Fin 16384 := ⟨t.val * 128 + r.val, by have := lt128 t; omega⟩

/-- Row `r` of the eight rows before a row block (at the first block, of the first eight). -/
def rowP (t : Fin cfg0.N) (r : Fin 8) : Fin 16384 := ⟨(t.val * 16 - 1) * 8 + r.val, by have := lt128 t; omega⟩

/-- Row `r` of the eight rows after a row block (at the last block, of the last eight). -/
def rowN (t : Fin cfg0.N) (r : Fin 8) : Fin 16384 := ⟨min ((t.val + 1) * 16) 2047 * 8 + r.val, by have := lt128 t; omega⟩

theorem in0 (c : Dev nD) (t : Fin cfg0.N) (r : Fin 128) (k : Fin 6144) :
    iblk m c 0 t (ix2 r k) = padU (m ((c : Thread nD τ).loc main_arg0)) (ix2 (row t r) k) := by
  blk_simp [iblk]
  rw [show ((cfg0.win 0).blk t).view.emb (ix2 r k) = ix2 (row t r) k by blk_ext [idx t, row]]
  exact congrFun (V7 m c) _

theorem in1 (c : Dev nD) (t : Fin cfg0.N) (r : Fin 8) (k : Fin 6144) :
    iblk m c 1 t (ix2 r k) = padU (m ((c : Thread nD τ).loc main_arg0)) (ix2 (rowP t r) k) := by
  blk_simp [iblk]
  rw [show ((cfg0.win 1).blk t).view.emb (ix2 r k) = ix2 (rowP t r) k by blk_ext [idx t, rowP]]
  exact congrFun (V7 m c) _

theorem in2 (c : Dev nD) (t : Fin cfg0.N) (r : Fin 8) (k : Fin 6144) :
    iblk m c 2 t (ix2 r k) = padU (m ((c : Thread nD τ).loc main_arg0)) (ix2 (rowN t r) k) := by
  blk_simp [iblk]
  rw [show ((cfg0.win 2).blk t).view.emb (ix2 r k) = ix2 (rowN t r) k by blk_ext [idx t, rowN]]
  exact congrFun (V7 m c) _

theorem in3 (c : Dev nD) (t : Fin cfg0.N) (r : Fin 128) (k : Fin 3072) :
    iblk m c 3 t (ix2 r k) = padA (m ((c : Thread nD τ).loc main_arg3)) (ix2 (row t r) k) := by
  blk_simp [iblk]
  rw [show ((cfg0.win 3).blk t).view.emb (ix2 r k) = ix2 (row t r) k by blk_ext [idx t, row]]
  exact congrFun (V4 m c) _

theorem in4 (c : Dev nD) (t : Fin cfg0.N) (r : Fin 8) (k : Fin 3072) :
    iblk m c 4 t (ix2 r k) = padA (m ((c : Thread nD τ).loc main_arg3)) (ix2 (rowP t r) k) := by
  blk_simp [iblk]
  rw [show ((cfg0.win 4).blk t).view.emb (ix2 r k) = ix2 (rowP t r) k by blk_ext [idx t, rowP]]
  exact congrFun (V4 m c) _

theorem in5 (c : Dev nD) (t : Fin cfg0.N) (r : Fin 8) (k : Fin 3072) :
    iblk m c 5 t (ix2 r k) = padA (m ((c : Thread nD τ).loc main_arg3)) (ix2 (rowN t r) k) := by
  blk_simp [iblk]
  rw [show ((cfg0.win 5).blk t).view.emb (ix2 r k) = ix2 (rowN t r) k by blk_ext [idx t, rowN]]
  exact congrFun (V4 m c) _

theorem in6 (c : Dev nD) (t : Fin cfg0.N) (r : Fin 8) (k : Fin 6144) :
    iblk m c 6 t (ix2 r k) = padW (m ((c : Thread nD τ).loc main_arg1)) (ix2 r k) := by
  blk_simp [iblk]
  rw [show ((cfg0.win 6).blk t).view.emb (ix2 r k) = ix2 r k by blk_ext [idx t]]
  exact congrFun (V11 m c) _

theorem in7 (c : Dev nD) (t : Fin cfg0.N) (k : Fin 6144) :
    iblk m c 7 t (ix2 0 k) = padB (m ((c : Thread nD τ).loc main_arg2)) (ix2 0 k) := by
  blk_simp [iblk]
  rw [show ((cfg0.win 7).blk t).view.emb (ix2 0 k) = ix2 0 k by blk_ext [idx t]]
  exact congrFun (V14 m c) _

end Cert.SwigluIdeal.Grad

end
-- ==== Proof.Swiglu.Body.lean ====
/- The rows that one grid point works on: its block, and eight rows on either side, zero beyond the ends. -/
module

public import proofs.«01_k».proof.Proof.Swiglu.Columns
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluIdeal.Grad

open Cert.SwigluIdeal Cert.SwigluIdeal.Gen
open Cert.SwigluRefIdeal.Read

/-- Row `n` of the rows, counted from eight above the first, with zeros beyond both ends. -/
def ext (f : Fin 16384 → EReal) (n : ℕ) : EReal := if h : 8 ≤ n ∧ n < 16392 then f ⟨n - 8, by omega⟩ else 0

theorem select_first {α : Type} (n : ℕ) (h : n < 128) (a b : α) :
    Scalar.select (Scalar.cmpi CmpIPredicate.eq (Scalar.addi (BitVec.ofNat 32 n) 0#32) 0#32) a b = if n = 0 then a else b := by
  have hb : (Scalar.addi (BitVec.ofNat 32 n) 0#32 = 0#32) ↔ n = 0 := by
    show BitVec.ofNat 32 n + 0#32 = 0#32 ↔ n = 0
    rw [BitVec.add_zero, ← BitVec.toNat_inj, BitVec.toNat_ofNat]
    show n % 2 ^ 32 = 0 ↔ n = 0
    omega
  by_cases h0 : n = 0
  · subst h0; rfl
  · rw [if_neg h0]
    have : ¬Scalar.addi (BitVec.ofNat 32 n) 0#32 = 0#32 := fun e => h0 (hb.mp e)
    simp [Scalar.select, Scalar.cmpi, IntOp.cmpi, beq_eq_false_iff_ne.mpr this]

theorem select_last {α : Type} (n : ℕ) (h : n < 128) (a b : α) :
    Scalar.select (Scalar.cmpi CmpIPredicate.eq (Scalar.addi (BitVec.ofNat 32 n) 0#32) 127#32) a b = if n = 127 then a else b := by
  have hb : (Scalar.addi (BitVec.ofNat 32 n) 0#32 = 127#32) ↔ n = 127 := by
    show BitVec.ofNat 32 n + 0#32 = 127#32 ↔ n = 127
    rw [BitVec.add_zero, ← BitVec.toNat_inj, BitVec.toNat_ofNat]
    show n % 2 ^ 32 = 127 ↔ n = 127
    omega
  by_cases h0 : n = 127
  · subst h0; rfl
  · rw [if_neg h0]
    have : ¬Scalar.addi (BitVec.ofNat 32 n) 0#32 = 127#32 := fun e => h0 (hb.mp e)
    simp [Scalar.select, Scalar.cmpi, IntOp.cmpi, beq_eq_false_iff_ne.mpr this]

/-- Eight rows before, a block, and eight rows after it, as the kernel joins them. -/
theorem pay1_apply (i : grid0.Coords) (v3 : Vec Ideal S8x6144 .f32) (v7 : Vec Ideal S128x6144 .f32) (v9 : Vec Ideal S8x6144 .f32)
    (q : Fin 144) (k : Fin 6144) :
    k0_pay1 (F := Ideal) i v3 v7 v9 (ix2 q k)
      = if h : q.val < 8 then (if (i 0).val = 0 then 0 else v3 (ix2 ⟨q.val, h⟩ k))
        else if h' : q.val < 136 then v7 (ix2 ⟨q.val - 8, by omega⟩ k)
        else if (i 0).val = 127 then 0 else v9 (ix2 ⟨q.val - 136, by omega⟩ k) := by
  have hi : (i 0).val < 128 := (i 0).isLt
  pointwise [k0_pay1]
  by_cases h : q.val < 8
  · rw [dif_pos h, dif_pos h, select_first _ hi]
  · rw [dif_neg h, dif_neg h]
    by_cases h' : q.val < 136
    · rw [dif_pos (by omega), dif_pos h']
    · rw [dif_neg (by omega), dif_neg h', select_last _ hi]
      exact congrArg (fun z => if (i 0).val = 127 then (0 : EReal) else v9 (ix2 z k)) (Fin.ext (by show q.val - 8 - 128 = q.val - 136; omega))

/-- They are the rows of one array, with zeros beyond its ends. -/
theorem pay1_ext (t : Fin cfg0.N) (x : FVec Ideal S16384x6144 .f32) (v3 : Vec Ideal S8x6144 .f32) (v7 : Vec Ideal S128x6144 .f32)
    (v9 : Vec Ideal S8x6144 .f32) (h3 : ∀ r k, v3 (ix2 r k) = x (ix2 (rowP t r) k)) (h7 : ∀ r k, v7 (ix2 r k) = x (ix2 (row t r) k))
    (h9 : ∀ r k, v9 (ix2 r k) = x (ix2 (rowN t r) k)) (q : Fin 144) (k : Fin 6144) :
    k0_pay1 (F := Ideal) (grid0.coords t) v3 v7 v9 (ix2 q k) = ext (fun r => x (ix2 r k)) (t.val * 128 + q.val) := by
  have ht := lt128 t
  rw [pay1_apply, point t, ext]
  by_cases h : q.val < 8
  · rw [dif_pos h]
    by_cases h0 : t.val = 0
    · rw [if_pos h0, dif_neg (by omega)]
    · rw [if_neg h0, dif_pos (by omega), h3]
      exact congrArg (fun z => x (ix2 z k)) (Fin.ext (by show (t.val * 16 - 1) * 8 + q.val = t.val * 128 + q.val - 8; omega))
  · rw [dif_neg h]
    by_cases h' : q.val < 136
    · rw [dif_pos h', dif_pos (by omega), h7]
      exact congrArg (fun z => x (ix2 z k)) (Fin.ext (by show t.val * 128 + (q.val - 8) = t.val * 128 + q.val - 8; omega))
    · rw [dif_neg h']
      by_cases h1 : t.val = 127
      · rw [if_pos h1, dif_neg (by omega)]
      · rw [if_neg h1, dif_pos (by omega), h9]
        exact congrArg (fun z => x (ix2 z k)) (Fin.ext (by
          show min ((t.val + 1) * 16) 2047 * 8 + (q.val - 136) = t.val * 128 + q.val - 8; omega))

/-- Eight rows before, a block, and eight rows after it, as the kernel joins them. -/
theorem pay2_apply (i : grid0.Coords) (v3 : Vec Ideal S8x3072 .f32) (v7 : Vec Ideal S128x3072 .f32) (v9 : Vec Ideal S8x3072 .f32)
    (q : Fin 144) (k : Fin 3072) :
    k0_pay2 (F := Ideal) i v3 v7 v9 (ix2 q k)
      = if h : q.val < 8 then (if (i 0).val = 0 then 0 else v3 (ix2 ⟨q.val, h⟩ k))
        else if h' : q.val < 136 then v7 (ix2 ⟨q.val - 8, by omega⟩ k)
        else if (i 0).val = 127 then 0 else v9 (ix2 ⟨q.val - 136, by omega⟩ k) := by
  have hi : (i 0).val < 128 := (i 0).isLt
  pointwise [k0_pay2]
  by_cases h : q.val < 8
  · rw [dif_pos h, dif_pos h, select_first _ hi]
  · rw [dif_neg h, dif_neg h]
    by_cases h' : q.val < 136
    · rw [dif_pos (by omega), dif_pos h']
    · rw [dif_neg (by omega), dif_neg h', select_last _ hi]
      exact congrArg (fun z => if (i 0).val = 127 then (0 : EReal) else v9 (ix2 z k)) (Fin.ext (by show q.val - 8 - 128 = q.val - 136; omega))

/-- They are the rows of one array, with zeros beyond its ends. -/
theorem pay2_ext (t : Fin cfg0.N) (x : FVec Ideal S16384x3072 .f32) (v3 : Vec Ideal S8x3072 .f32) (v7 : Vec Ideal S128x3072 .f32)
    (v9 : Vec Ideal S8x3072 .f32) (h3 : ∀ r k, v3 (ix2 r k) = x (ix2 (rowP t r) k)) (h7 : ∀ r k, v7 (ix2 r k) = x (ix2 (row t r) k))
    (h9 : ∀ r k, v9 (ix2 r k) = x (ix2 (rowN t r) k)) (q : Fin 144) (k : Fin 3072) :
    k0_pay2 (F := Ideal) (grid0.coords t) v3 v7 v9 (ix2 q k) = ext (fun r => x (ix2 r k)) (t.val * 128 + q.val) := by
  have ht := lt128 t
  rw [pay2_apply, point t, ext]
  by_cases h : q.val < 8
  · rw [dif_pos h]
    by_cases h0 : t.val = 0
    · rw [if_pos h0, dif_neg (by omega)]
    · rw [if_neg h0, dif_pos (by omega), h3]
      exact congrArg (fun z => x (ix2 z k)) (Fin.ext (by show (t.val * 16 - 1) * 8 + q.val = t.val * 128 + q.val - 8; omega))
  · rw [dif_neg h]
    by_cases h' : q.val < 136
    · rw [dif_pos h', dif_pos (by omega), h7]
      exact congrArg (fun z => x (ix2 z k)) (Fin.ext (by show t.val * 128 + (q.val - 8) = t.val * 128 + q.val - 8; omega))
    · rw [dif_neg h']
      by_cases h1 : t.val = 127
      · rw [if_pos h1, dif_neg (by omega)]
      · rw [if_neg h1, dif_pos (by omega), h9]
        exact congrArg (fun z => x (ix2 z k)) (Fin.ext (by
          show min ((t.val + 1) * 16) 2047 * 8 + (q.val - 136) = t.val * 128 + q.val - 8; omega))

/-- The rows one above. -/
theorem pay3_apply (i : grid0.Coords) (v3 : Vec Ideal S8x6144 .f32) (v7 : Vec Ideal S128x6144 .f32) (v9 : Vec Ideal S8x6144 .f32)
    (q : Fin 144) (k : Fin 6144) (h : 1 ≤ q.val) :
    k0_pay3 (F := Ideal) i v3 v7 v9 (ix2 q k) = k0_pay1 (F := Ideal) i v3 v7 v9 (ix2 ⟨q.val - 1, by omega⟩ k) := by
  pointwise [k0_pay3]
  exact congrArg (fun z => k0_pay1 (F := Ideal) i v3 v7 v9 (ix2 z k)) (Fin.ext (by show (q.val + 144 - 1) % 144 = q.val - 1; omega))

/-- The rows one below. -/
theorem pay4_apply (i : grid0.Coords) (v3 : Vec Ideal S8x6144 .f32) (v7 : Vec Ideal S128x6144 .f32) (v9 : Vec Ideal S8x6144 .f32)
    (q : Fin 144) (k : Fin 6144) (h : q.val + 1 < 144) :
    k0_pay4 (F := Ideal) i v3 v7 v9 (ix2 q k) = k0_pay1 (F := Ideal) i v3 v7 v9 (ix2 ⟨q.val + 1, h⟩ k) := by
  pointwise [k0_pay4]
  exact congrArg (fun z => k0_pay1 (F := Ideal) i v3 v7 v9 (ix2 z k)) (Fin.ext (by show (q.val + 144 - 143) % 144 = q.val + 1; omega))

theorem pay5_apply (i : grid0.Coords) (v3 : Vec Ideal S8x6144 .f32) (v7 : Vec Ideal S128x6144 .f32) (v9 : Vec Ideal S8x6144 .f32)
    (v27 : Vec Ideal S1x6144 .f32) (q : Fin 144) (k : Fin 6144) :
    k0_pay5 (F := Ideal) i v3 v7 v9 v27 (ix2 q k) = v27 (ix2 0 k) * k0_pay3 (F := Ideal) i v3 v7 v9 (ix2 q k) := by
  pointwise [k0_pay5]

theorem pay6_apply (v31 : Vec Ideal S1x6144 .f32) (q : Fin 144) (k : Fin 6144) :
    k0_pay6 (F := Ideal) v31 (ix2 q k) = v31 (ix2 0 k) := by
  pointwise [k0_pay6]

/-! ## The gate and its gradient, in one column -/

/-- The convolution with three taps. -/
def conv (w0 w1 w2 b : EReal) (u : ℕ → EReal) (n : ℕ) : EReal := w0 * u (n - 1) + w1 * u n + w2 * u (n + 1) + b

/-- The gradient of the gate's half. -/
def dGate (a g v : EReal) : EReal := a * v * (Ideal.logistic g * (1 + g * (1 - Ideal.logistic g)))

/-- The gradient of the other half. -/
def dVal (a g : EReal) : EReal := a * (g * Ideal.logistic g)

theorem dGate_zero (g v : EReal) : dGate 0 g v = 0 := by rw [dGate, zero_mul, zero_mul]

theorem dVal_zero (g : EReal) : dVal 0 g = 0 := zero_mul _

/-- The gradient of the gate's and the other half's inputs, from the rows of both halves. -/
def dHidden (u : ℕ → Fin 6144 → EReal) (a : ℕ → Fin 3072 → EReal) (w : Fin 3 → Fin 6144 → EReal) (b : Fin 6144 → EReal) (n : ℕ)
    (k : Fin 6144) : EReal :=
  if h : k.val < 3072 then
    dGate (a n ⟨k.val, h⟩) (conv (w 0 k) (w 1 k) (w 2 k) (b k) (u · k) n)
      (conv (w 0 ⟨3072 + k.val, by omega⟩) (w 1 ⟨3072 + k.val, by omega⟩) (w 2 ⟨3072 + k.val, by omega⟩) (b ⟨3072 + k.val, by omega⟩)
        (u · ⟨3072 + k.val, by omega⟩) n)
  else
    dVal (a n ⟨k.val - 3072, by omega⟩)
      (conv (w 0 ⟨k.val - 3072, by omega⟩) (w 1 ⟨k.val - 3072, by omega⟩) (w 2 ⟨k.val - 3072, by omega⟩) (b ⟨k.val - 3072, by omega⟩)
        (u · ⟨k.val - 3072, by omega⟩) n)

/-- What the kernel computes for a row of its block, over whatever rows it has joined. -/
theorem pay7_eq (u : ℕ → Fin 6144 → EReal) (a : ℕ → Fin 3072 → EReal) (w : Fin 3 → Fin 6144 → EReal) (b : Fin 6144 → EReal) (T : ℕ)
    (v13 : Vec Ideal S144x6144 .f32) (v24 : Vec Ideal S144x3072 .f32) (v26 v30 v33 : Vec Ideal S144x6144 .f32)
    (v36 v41 : Vec Ideal S1x6144 .f32) (h13 : ∀ q k, v13 (ix2 q k) = u (T + q.val) k) (h24 : ∀ q k, v24 (ix2 q k) = a (T + q.val) k)
    (h26 : ∀ q k, q.val + 1 < 144 → v26 (ix2 q k) = u (T + q.val + 1) k)
    (h30 : ∀ q k, 1 ≤ q.val → v30 (ix2 q k) = w 0 k * u (T + q.val - 1) k) (h33 : ∀ q k, v33 (ix2 q k) = w 1 k)
    (h36 : ∀ k, v36 (ix2 0 k) = w 2 k) (h41 : ∀ k, v41 (ix2 0 k) = b k) (q : Fin 144) (hq : 1 ≤ q.val) (hq' : q.val + 1 < 144)
    (k : Fin 6144) :
    k0_pay7 (F := Ideal) v13 v24 v26 v30 v33 v36 v41 (ix2 q k) = dHidden u a w b (T + q.val) k := by
  pointwise [k0_pay7]
  rw [dHidden]
  simp only [h13, h24, h26 q _ hq', h30 q _ hq, h33, h36, h41]
  rfl

theorem pay9_apply (v13 : Vec Ideal S144x6144 .f32) (v24 : Vec Ideal S144x3072 .f32) (v26 v30 v33 : Vec Ideal S144x6144 .f32)
    (v36 v41 v59 v64 v69 : Vec Ideal S1x6144 .f32) (r : Fin 128) (k : Fin 6144) :
    k0_pay9 (F := Ideal) v13 v24 v26 v30 v33 v36 v41 v59 v64 v69 (ix2 r k)
      = v59 (ix2 0 k) * k0_pay7 (F := Ideal) v13 v24 v26 v30 v33 v36 v41 (ix2 ⟨8 + r.val + 1, by omega⟩ k)
        + v64 (ix2 0 k) * k0_pay7 (F := Ideal) v13 v24 v26 v30 v33 v36 v41 (ix2 ⟨8 + r.val, by omega⟩ k)
        + v69 (ix2 0 k) * k0_pay7 (F := Ideal) v13 v24 v26 v30 v33 v36 v41 (ix2 ⟨8 + r.val - 1, by omega⟩ k) := by
  pointwise [k0_pay9]
  have e1 : (⟨(8 + r.val + 144 - 143) % 144, Nat.mod_lt _ (by decide)⟩ : Fin 144) = ⟨8 + r.val + 1, by omega⟩ := Fin.ext (by show (8 + r.val + 144 - 143) % 144 = 8 + r.val + 1; omega)
  have e2 : (⟨(8 + r.val + 144 - 1) % 144, Nat.mod_lt _ (by decide)⟩ : Fin 144) = ⟨8 + r.val - 1, by omega⟩ := Fin.ext (by show (8 + r.val + 144 - 1) % 144 = 8 + r.val - 1; omega)
  simp only [e1, e2]

theorem pay8_apply (v13 : Vec Ideal S144x6144 .f32) (v24 : Vec Ideal S144x3072 .f32) (v26 v30 v33 : Vec Ideal S144x6144 .f32)
    (v36 v41 : Vec Ideal S1x6144 .f32) (r : Fin 128) (k : Fin 6144) :
    k0_pay8 (F := Ideal) v13 v24 v26 v30 v33 v36 v41 (ix2 r k)
      = k0_pay7 (F := Ideal) v13 v24 v26 v30 v33 v36 v41 (ix2 ⟨8 + r.val, by omega⟩ k) := by
  pointwise [k0_pay8]

theorem pay10_apply (v13 : Vec Ideal S144x6144 .f32) (v24 : Vec Ideal S144x3072 .f32) (v26 v30 v33 : Vec Ideal S144x6144 .f32)
    (v36 v41 : Vec Ideal S1x6144 .f32) (k : Fin 6144) :
    k0_pay10 (F := Ideal) v13 v24 v26 v30 v33 v36 v41 (ix2 0 k)
      = ∑ r : Fin 128, k0_pay8 (F := Ideal) v13 v24 v26 v30 v33 v36 v41 (ix2 r k) := by
  pointwise [k0_pay10]

theorem pay16_apply (v78 v96 : Vec Ideal S1x6144 .f32) (j : S1x6144.Idx) : k0_pay16 (F := Ideal) v78 v96 j = v96 j + v78 j := by
  idx_vars j
  pointwise [k0_pay16]

theorem pay17_apply (v25 : Vec Ideal S144x6144 .f32) (v75 : Vec Ideal S128x6144 .f32) (v100 : Vec Ideal S1x6144 .f32) (j : S1x6144.Idx) :
    k0_pay17 (F := Ideal) v25 v75 v100 j = v100 j + ∑ r : Fin 128, v25 (ix2 ⟨8 + r.val, by omega⟩ (j 1)) * v75 (ix2 r (j 1)) := by
  idx_vars j
  pointwise [k0_pay17]

theorem pay18_apply (v13 : Vec Ideal S144x6144 .f32) (v75 : Vec Ideal S128x6144 .f32) (v104 : Vec Ideal S1x6144 .f32) (j : S1x6144.Idx) :
    k0_pay18 (F := Ideal) v13 v75 v104 j = v104 j + ∑ r : Fin 128, v13 (ix2 ⟨8 + r.val, by omega⟩ (j 1)) * v75 (ix2 r (j 1)) := by
  idx_vars j
  pointwise [k0_pay18]

theorem pay19_apply (v26 : Vec Ideal S144x6144 .f32) (v75 : Vec Ideal S128x6144 .f32) (v108 : Vec Ideal S1x6144 .f32) (j : S1x6144.Idx) :
    k0_pay19 (F := Ideal) v26 v75 v108 j = v108 j + ∑ r : Fin 128, v26 (ix2 ⟨8 + r.val, by omega⟩ (j 1)) * v75 (ix2 r (j 1)) := by
  idx_vars j
  pointwise [k0_pay19]

theorem pay12_apply (j : S1x6144.Idx) : k0_pay12 (F := Ideal) j = (0 : EReal) := by pointwise [k0_pay12]
theorem pay13_apply (j : S1x6144.Idx) : k0_pay13 (F := Ideal) j = (0 : EReal) := by pointwise [k0_pay13]
theorem pay14_apply (j : S1x6144.Idx) : k0_pay14 (F := Ideal) j = (0 : EReal) := by pointwise [k0_pay14]
theorem pay15_apply (j : S1x6144.Idx) : k0_pay15 (F := Ideal) j = (0 : EReal) := by pointwise [k0_pay15]

end Cert.SwigluIdeal.Grad

end
-- ==== Proof.Swiglu.Ref.lean ====
/- The reference's gradients of the gate and the convolution, entry by entry. -/
module

public import proofs.«01_k».proof.Proof.Swiglu.Body
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluIdeal.Grad

open Cert.SwigluIdeal Cert.SwigluIdeal.Gen
open Cert.SwigluRefIdeal.Read

variable (x0 : FVec Ideal S16384x5632 .f32) (x1 : FVec Ideal S3x5632 .f32) (x2 : FVec Ideal S1x5632 .f32) (x3 : FVec Ideal S16384x2816 .f32)

/-- The rows of the hidden layer, and zeros. -/
def rowsU (n : ℕ) (j : Fin 5632) : EReal := ext (fun r => x0 (ix2 r j)) n

/-- The rows of the cotangent, and zeros. -/
def rowsA (n : ℕ) (j : Fin 2816) : EReal := ext (fun r => x3 (ix2 r j)) n

/-- The convolution's rows. -/
def rowsC (n : ℕ) (j : Fin 5632) : EReal := conv (x1 (ix2 0 j)) (x1 (ix2 1 j)) (x1 (ix2 2 j)) (x2 (ix2 0 j)) (rowsU x0 · j) n

/-- The gradient of the convolution's rows. -/
def rowsD (n : ℕ) (j : Fin 5632) : EReal :=
  if h : j.val < 2816 then dGate (rowsA x3 n ⟨j.val, h⟩) (rowsC x0 x1 x2 n j) (rowsC x0 x1 x2 n ⟨2816 + j.val, by omega⟩)
  else dVal (rowsA x3 n ⟨j.val - 2816, by omega⟩) (rowsC x0 x1 x2 n ⟨j.val - 2816, by omega⟩)

theorem rowsD_out (n : ℕ) (hn : n < 8 ∨ 16392 ≤ n) (j : Fin 5632) : rowsD x0 x1 x2 x3 n j = 0 := by
  have h0 : ∀ l, rowsA x3 n l = 0 := fun l => by rw [rowsA, ext, dif_neg (by omega)]
  rw [rowsD]
  split
  · rw [h0, dGate_zero]
  · rw [h0, dVal_zero]

theorem ext_in (f : Fin 16384 → EReal) (i : Fin 16384) : ext f (i.val + 8) = f i := by
  rw [ext, dif_pos (by omega)]
  exact congrArg f (Fin.ext (Nat.add_sub_cancel _ _))

theorem ref5 (p : Fin 16386) (j : Fin 5632) : val_main_v5 (F := Ideal) x0 (ix2 p j) = rowsU x0 (p.val + 7) j := by
  pointwise [val_main_v5, val_main_v4, val_main_v6, val_main_cst, val_main_cst_0]
  rw [rowsU, ext]
  by_cases h : 1 ≤ p.val ∧ p.val < 16385
  · rw [dif_neg (by omega), dif_pos (by omega), dif_pos (by omega)]
    exact congrArg x0 (congrArg (ix2 · j) (Fin.ext (by show p.val - 1 = p.val + 7 - 8; omega)))
  · rw [dif_neg (by omega : ¬(8 ≤ p.val + 7 ∧ p.val + 7 < 16392))]
    by_cases h1 : p.val < 1
    · rw [dif_pos h1]
    · rw [dif_neg h1, dif_neg (by omega)]

theorem ref20 (i : Fin 16384) (j : Fin 5632) : val_main_v20 (F := Ideal) x0 x1 x2 (ix2 i j) = rowsC x0 x1 x2 (i.val + 8) j := by
  pointwise [val_main_v20, val_main_v19, val_main_v18, val_main_v17, val_main_v16, val_main_v15, val_main_v14, val_main_v13,
    val_main_v12, val_main_v11, val_main_v10, val_main_v9, val_main_v8, val_main_v2, val_main_v1, val_main_v0]
  rw [ref5, ref5, ref5, rowsC, conv]
  have e : ∀ a b : ℕ, a = b → rowsU x0 a j = rowsU x0 b j := fun a b h => by rw [h]
  rw [mul_comm (rowsU x0 _ j), mul_comm (rowsU x0 _ j), mul_comm (rowsU x0 _ j), e (i.val + 7) (i.val + 8 - 1) (by omega),
    e (1 + i.val + 7) (i.val + 8) (by omega), e (2 + i.val + 7) (i.val + 8 + 1) (by omega)]

theorem sg (i : Fin 16384) (j : Fin 2816) :
    val_main_v23_2 (F := Ideal) x0 x1 x2 (ix2 i j) = Ideal.logistic (val_main_v21 (F := Ideal) x0 x1 x2 (ix2 i j)) := by
  pointwise [val_main_v23_2, val_main_call0_v4, val_main_call0_cst_0, val_main_call0_v3, val_main_call0_v2, val_main_call0_cst,
    val_main_call0_v1, val_main_call0_v0]
  rfl

theorem ref21 (i : Fin 16384) (j : Fin 2816) :
    val_main_v21 (F := Ideal) x0 x1 x2 (ix2 i j) = val_main_v20 (F := Ideal) x0 x1 x2 (ix2 i ⟨j.val, by omega⟩) := by
  pointwise [val_main_v21]

theorem ref22 (i : Fin 16384) (j : Fin 2816) :
    val_main_v22 (F := Ideal) x0 x1 x2 (ix2 i j) = val_main_v20 (F := Ideal) x0 x1 x2 (ix2 i ⟨2816 + j.val, by omega⟩) := by
  pointwise [val_main_v22]

theorem ref27 (i : Fin 16384) (j : Fin 2816) :
    val_main_v27 (F := Ideal) x0 x1 x2 x3 (ix2 i j)
      = x3 (ix2 i j) * val_main_v22 (F := Ideal) x0 x1 x2 (ix2 i j) * val_main_v23_2 (F := Ideal) x0 x1 x2 (ix2 i j)
        + val_main_v21 (F := Ideal) x0 x1 x2 (ix2 i j) * (x3 (ix2 i j) * val_main_v22 (F := Ideal) x0 x1 x2 (ix2 i j))
          * (val_main_v23_2 (F := Ideal) x0 x1 x2 (ix2 i j) * (1 - val_main_v23_2 (F := Ideal) x0 x1 x2 (ix2 i j))) := by
  pointwise [val_main_v27, val_main_call1_v1, val_main_call1_v2, val_main_call1_v0, val_main_v26, val_main_v23_1, val_main_call0_v7,
    val_main_call0_v6, val_main_call0_cst_1]

theorem ref25 (i : Fin 16384) (j : Fin 2816) :
    val_main_v25 (F := Ideal) x0 x1 x2 x3 (ix2 i j)
      = val_main_v21 (F := Ideal) x0 x1 x2 (ix2 i j) * val_main_v23_2 (F := Ideal) x0 x1 x2 (ix2 i j) * x3 (ix2 i j) := by
  pointwise [val_main_v25, val_main_v23_0]

theorem ref28_split (i : Fin 16384) (j : Fin 5632) :
    val_main_v28 (F := Ideal) x0 x1 x2 x3 (ix2 i j)
      = if h : j.val < 2816 then val_main_v27 (F := Ideal) x0 x1 x2 x3 (ix2 i ⟨j.val, h⟩)
        else val_main_v25 (F := Ideal) x0 x1 x2 x3 (ix2 i ⟨j.val - 2816, by omega⟩) := by
  pointwise [val_main_v28]

/-- All four arguments are real numbers. -/
structure AllReal : Prop where
  h0 : ∀ i, Cert.Silu.IsReal (x0 i)
  h1 : ∀ i, Cert.Silu.IsReal (x1 i)
  h2 : ∀ i, Cert.Silu.IsReal (x2 i)
  h3 : ∀ i, Cert.Silu.IsReal (x3 i)

theorem real_ext {f : Fin 16384 → EReal} (h : ∀ i, Cert.Silu.IsReal (f i)) (n : ℕ) : Cert.Silu.IsReal (ext f n) := by
  rw [ext]
  split
  · exact h _
  · exact Cert.Silu.isReal_zero

theorem real_conv (h : AllReal x0 x1 x2 x3) (n : ℕ) (j : Fin 5632) : Cert.Silu.IsReal (rowsC x0 x1 x2 n j) := by
  have hu : ∀ n, Cert.Silu.IsReal (rowsU x0 n j) := fun n => real_ext (fun r => h.h0 _) n
  exact ((((h.h1 _).mul (hu _)).add ((h.h1 _).mul (hu _))).add ((h.h1 _).mul (hu _))).add (h.h2 _)

theorem ref28 (h : AllReal x0 x1 x2 x3) (i : Fin 16384) (j : Fin 5632) :
    val_main_v28 (F := Ideal) x0 x1 x2 x3 (ix2 i j) = rowsD x0 x1 x2 x3 (i.val + 8) j := by
  have ha : ∀ l, rowsA x3 (i.val + 8) l = x3 (ix2 i l) := fun l => ext_in _ i
  rw [ref28_split, rowsD]
  by_cases hj : j.val < 2816
  · rw [dif_pos hj, dif_pos hj, ref27, sg, ref21, ref22, ref20, ref20, ha, dGate]
    exact (Cert.Silu.grad_eq ((h.h3 _).mul (real_conv x0 x1 x2 x3 h _ _)) (real_conv x0 x1 x2 x3 h _ _)
      (real_conv x0 x1 x2 x3 h _ _).logistic).symm
  · rw [dif_neg hj, dif_neg hj, ref25, sg, ref21, ref20, ha, dVal]
    exact mul_comm _ _

theorem ref52 (h : AllReal x0 x1 x2 x3) (i : Fin 16384) (j : Fin 5632) :
    val_main_v52 (F := Ideal) x0 x1 x2 x3 (ix2 i j)
      = x1 (ix2 0 j) * rowsD x0 x1 x2 x3 (i.val + 9) j + x1 (ix2 1 j) * rowsD x0 x1 x2 x3 (i.val + 8) j
        + x1 (ix2 2 j) * rowsD x0 x1 x2 x3 (i.val + 7) j := by
  pointwise [val_main_v52, val_main_v50, val_main_v49, val_main_v43, val_main_v42, val_main_v36, val_main_v35, val_main_v41, val_main_v48,
    val_main_v34, val_main_v40, val_main_v47, val_main_v0, val_main_v1, val_main_v2, val_main_cst_4, val_main_cst_6, val_main_cst_8]
  have eA : (if h : 2 ≤ 1 + i.val ∧ 1 + i.val - 2 < 16384 then
      val_main_v28 (F := Ideal) x0 x1 x2 x3 (ix2 ⟨1 + i.val - 2, h.2⟩ j) * x1 (ix2 2 j) else (0 : EReal))
      = x1 (ix2 2 j) * rowsD x0 x1 x2 x3 (i.val + 7) j := by
    by_cases hi : 1 ≤ i.val
    · rw [dif_pos (by omega), ref28 _ _ _ _ h, mul_comm]
      exact congrArg (fun n => x1 (ix2 2 j) * rowsD x0 x1 x2 x3 n j) (by show 1 + i.val - 2 + 8 = i.val + 7; omega)
    · rw [dif_neg (by omega), rowsD_out _ _ _ _ _ (by omega), mul_zero]
  have eC : (if h : 1 + i.val < 16384 then
      val_main_v28 (F := Ideal) x0 x1 x2 x3 (ix2 ⟨1 + i.val, h⟩ j) * x1 (ix2 0 j) else (0 : EReal))
      = x1 (ix2 0 j) * rowsD x0 x1 x2 x3 (i.val + 9) j := by
    by_cases hi : 1 + i.val < 16384
    · rw [dif_pos hi, ref28 _ _ _ _ h, mul_comm]
      exact congrArg (fun n => x1 (ix2 0 j) * rowsD x0 x1 x2 x3 n j) (by show 1 + i.val + 8 = i.val + 9; omega)
    · rw [dif_neg hi, rowsD_out _ _ _ _ _ (by omega), mul_zero]
  refine (congrArg₂ (fun a b : EReal => a + val_main_v28 (F := Ideal) x0 x1 x2 x3 (ix2 i j) * x1 (ix2 1 j) + b) eA eC).trans ?_
  rw [ref28 _ _ _ _ h, mul_comm (rowsD x0 x1 x2 x3 (i.val + 8) j), add_comm (_ * _), add_comm (_ + _), ← add_assoc, add_comm (x1 (ix2 0 j) * _) _,
    add_comm (x1 (ix2 1 j) * _) (x1 (ix2 0 j) * _)]

/-- The padding of the columns, read at a padded column. -/
theorem spread (f : Fin 5632 → EReal) (k : Fin 6144) :
    (if h : k.val / 768 < 8 ∧ k.val % 768 < 704 then f ⟨k.val / 768 * 704 + k.val % 768, by omega⟩
      else (FloatOps.sitofp FTy.f32 (0#32 : BitVec 32) : Ideal .f32)) = if valid k.val then f (src k) else (0 : EReal) := by
  by_cases h : valid k.val
  · rw [if_pos h, dif_pos ⟨by omega, h⟩]
    exact congrArg f (Fin.ext (by simp only [src]; exact congrArg _ (if_pos h).symm))
  · rw [if_neg h, dif_neg fun h' => h h'.2, fill0]

theorem ref57 (h : AllReal x0 x1 x2 x3) (i : Fin 16384) (k : Fin 6144) : val_main_v57 (F := Ideal) x0 x1 x2 x3 (ix2 i k)
    = if valid k.val then x1 (ix2 0 (src k)) * rowsD x0 x1 x2 x3 (i.val + 9) (src k) + x1 (ix2 1 (src k)) * rowsD x0 x1 x2 x3 (i.val + 8) (src k)
        + x1 (ix2 2 (src k)) * rowsD x0 x1 x2 x3 (i.val + 7) (src k) else (0 : EReal) := by
  rw [← ref52 x0 x1 x2 x3 h i (src k)]
  pointwise [val_main_v57, val_main_v56, val_main_v55, val_main_v54, val_main_call2_v0, val_main_c]
  exact spread (fun j => val_main_v52 (F := Ideal) x0 x1 x2 x3 (ix2 i j)) k

theorem ref60 (h : AllReal x0 x1 x2 x3) (k : Fin 6144) : val_main_v60 (F := Ideal) x0 x1 x2 x3 (ix2 0 k)
    = if valid k.val then ∑ i : Fin 16384, rowsD x0 x1 x2 x3 (i.val + 8) (src k) else (0 : EReal) := by
  simp only [← ref28 x0 x1 x2 x3 h]
  pointwise [val_main_v60, val_main_v59, val_main_v58, val_main_v30, val_main_v29, val_main_cst_2, val_main_call3_v0, val_main_c_9]
  exact spread (fun j => ∑ i : Fin 16384, val_main_v28 (F := Ideal) x0 x1 x2 x3 (ix2 i j)) k

theorem ref63 (h : AllReal x0 x1 x2 x3) (k : Fin 6144) : val_main_v63 (F := Ideal) x0 x1 x2 x3 (ix2 0 k)
    = if valid k.val then ∑ i : Fin 16384, rowsU x0 (i.val + 7) (src k) * rowsD x0 x1 x2 x3 (i.val + 8) (src k) else (0 : EReal) := by
  simp only [← ref28 x0 x1 x2 x3 h]
  pointwise [val_main_v63, val_main_v62, val_main_v61, val_main_v46, val_main_v45, val_main_v44, val_main_v8, val_main_cst_7, val_main_call4_v0, val_main_c_10]
  simp only [ref5]
  exact spread (fun j => ∑ i : Fin 16384, rowsU x0 (i.val + 7) j * val_main_v28 (F := Ideal) x0 x1 x2 x3 (ix2 i j)) k

theorem ref66 (h : AllReal x0 x1 x2 x3) (k : Fin 6144) : val_main_v66 (F := Ideal) x0 x1 x2 x3 (ix2 0 k)
    = if valid k.val then ∑ i : Fin 16384, rowsU x0 (i.val + 8) (src k) * rowsD x0 x1 x2 x3 (i.val + 8) (src k) else (0 : EReal) := by
  simp only [← ref28 x0 x1 x2 x3 h]
  pointwise [val_main_v66, val_main_v65, val_main_v64, val_main_v39, val_main_v38, val_main_v37, val_main_v11, val_main_cst_5, val_main_call5_v0, val_main_c_11]
  simp only [ref5]
  refine (spread (fun j => ∑ i : Fin 16384, rowsU x0 (1 + i.val + 7) j * val_main_v28 (F := Ideal) x0 x1 x2 x3 (ix2 i j)) k).trans ?_
  simp only [show ∀ n : ℕ, 1 + n + 7 = n + 8 from fun n => by omega]

theorem ref69 (h : AllReal x0 x1 x2 x3) (k : Fin 6144) : val_main_v69 (F := Ideal) x0 x1 x2 x3 (ix2 0 k)
    = if valid k.val then ∑ i : Fin 16384, rowsU x0 (i.val + 9) (src k) * rowsD x0 x1 x2 x3 (i.val + 8) (src k) else (0 : EReal) := by
  simp only [← ref28 x0 x1 x2 x3 h]
  pointwise [val_main_v69, val_main_v68, val_main_v67, val_main_v33, val_main_v32, val_main_v31, val_main_v15, val_main_cst_3, val_main_call6_v0, val_main_c_12]
  simp only [ref5]
  refine (spread (fun j => ∑ i : Fin 16384, rowsU x0 (2 + i.val + 7) j * val_main_v28 (F := Ideal) x0 x1 x2 x3 (ix2 i j)) k).trans ?_
  simp only [show ∀ n : ℕ, 2 + n + 7 = n + 9 from fun n => by omega]

/-- The rows of the padded hidden layer, and zeros. -/
def padRowsU (n : ℕ) (k : Fin 6144) : EReal := ext (fun r => padU x0 (ix2 r k)) n

/-- The rows of the padded cotangent, and zeros. -/
def padRowsA (n : ℕ) (k : Fin 3072) : EReal := ext (fun r => padA x3 (ix2 r k)) n

theorem ext_if (p : Prop) [Decidable p] (f g : Fin 16384 → EReal) (h : ∀ r, g r = if p then f r else 0) (n : ℕ) :
    ext g n = if p then ext f n else 0 := by
  rw [ext, ext]
  split
  · exact h _
  · exact (ite_self _).symm

theorem padRowsU_eq (n : ℕ) (k : Fin 6144) : padRowsU x0 n k = if valid k.val then rowsU x0 n (src k) else 0 :=
  ext_if _ _ _ (fun r => padU_apply x0 r k) n

theorem padRowsA_eq (n : ℕ) (k : Fin 3072) : padRowsA x3 n k = if valid k.val then rowsA x3 n (srcH k) else 0 :=
  ext_if _ _ _ (fun r => padA_apply x3 r k) n

theorem conv_pad (n : ℕ) (k : Fin 6144) (h : valid k.val) :
    conv (padW x1 (ix2 (0 : Fin 8) k)) (padW x1 (ix2 (1 : Fin 8) k)) (padW x1 (ix2 (2 : Fin 8) k)) (padB x2 (ix2 0 k)) (padRowsU x0 · k) n
      = rowsC x0 x1 x2 n (src k) := by
  have e0 : padW x1 (ix2 (0 : Fin 8) k) = x1 (ix2 0 (src k)) := (padW_apply x1 0 k).trans (if_pos h)
  have e1 : padW x1 (ix2 (1 : Fin 8) k) = x1 (ix2 1 (src k)) := (padW_apply x1 1 k).trans (if_pos h)
  have e2 : padW x1 (ix2 (2 : Fin 8) k) = x1 (ix2 2 (src k)) := (padW_apply x1 2 k).trans (if_pos h)
  have eb : padB x2 (ix2 0 k) = x2 (ix2 0 (src k)) := (padB_apply x2 k).trans (if_pos h)
  have eu : ∀ n, padRowsU x0 n k = rowsU x0 n (src k) := fun n => (padRowsU_eq x0 n k).trans (if_pos h)
  rw [conv, e0, e1, e2, eb, eu, eu, eu, rowsC, conv]

/-- The kernel's gradient of the convolution's rows in the padded columns. -/
theorem dHidden_pad (n : ℕ) (k : Fin 6144) :
    dHidden (padRowsU x0) (padRowsA x3) (fun s k => padW x1 (ix2 (⟨s.val, by omega⟩ : Fin 8) k)) (fun k => padB x2 (ix2 0 k)) n k
      = if valid k.val then rowsD x0 x1 x2 x3 n (src k) else 0 := by
  rw [dHidden]
  by_cases hk : k.val < 3072
  · rw [dif_pos hk, padRowsA_eq]
    by_cases hv : valid k.val
    · have hv' : valid (3072 + k.val) := by unfold valid at *; omega
      have hs : (src k).val < 2816 := by simp only [src]; split_ifs <;> omega
      rw [if_pos hv, if_pos hv, rowsD, dif_pos hs]
      have c1 := conv_pad x0 x1 x2 n k hv
      have c2 := conv_pad x0 x1 x2 n ⟨3072 + k.val, by omega⟩ hv'
      refine (congrArg₂ (dGate _) c1 c2).trans ?_
      have es : src ⟨3072 + k.val, by omega⟩ = ⟨2816 + (src k).val, by omega⟩ := Fin.ext (by simp only [src]; split_ifs <;> omega)
      rw [es]
      rfl
    · rw [if_neg hv, if_neg hv, dGate_zero]
  · rw [dif_neg hk, padRowsA_eq]
    by_cases hv : valid k.val
    · have hv' : valid (k.val - 3072) := by unfold valid at *; omega
      have hs : ¬(src k).val < 2816 := by simp only [src]; split_ifs <;> omega
      rw [if_pos hv', if_pos hv, rowsD, dif_neg hs]
      have c1 := conv_pad x0 x1 x2 n ⟨k.val - 3072, by omega⟩ hv'
      refine (congrArg (dVal _) c1).trans ?_
      have es : src ⟨k.val - 3072, by omega⟩ = ⟨(src k).val - 2816, by omega⟩ := Fin.ext (by simp only [src]; split_ifs <;> omega)
      have ea : srcH ⟨k.val - 3072, by omega⟩ = ⟨(src k).val - 2816, by omega⟩ := Fin.ext (by simp only [src, srcH]; split_ifs <;> omega)
      rw [es, ea]
    · have hv' : ¬valid (k.val - 3072) := by unfold valid at *; omega
      rw [if_neg hv', if_neg hv, dVal_zero]

end Cert.SwigluIdeal.Grad

end
-- ==== Proof.Swiglu.Final.lean ====
/- What the kernel leaves in its output arrays. -/
module

public import proofs.«01_k».proof.Proof.Swiglu.Ref
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluIdeal.Grad

open Cert.SwigluIdeal Cert.SwigluIdeal.Gen
open Cert.SwigluRefIdeal.Read

variable (m : (ℓ : Loc nD τ sig) → Buf (Elt Ideal) ℓ)

/-! ## The values of one block -/

/-- The joined rows of the hidden layer, those above them and those below them, and the joined rows of the cotangent. -/
abbrev bU (c : Dev nD) (t : Fin cfg0.N) : Vec Ideal S144x6144 .f32 := k0_pay1 (F := Ideal) (grid0.coords t) (iblk m c 1 t) (iblk m c 0 t) (iblk m c 2 t)
abbrev bUp (c : Dev nD) (t : Fin cfg0.N) : Vec Ideal S144x6144 .f32 := k0_pay3 (F := Ideal) (grid0.coords t) (iblk m c 1 t) (iblk m c 0 t) (iblk m c 2 t)
abbrev bUn (c : Dev nD) (t : Fin cfg0.N) : Vec Ideal S144x6144 .f32 := k0_pay4 (F := Ideal) (grid0.coords t) (iblk m c 1 t) (iblk m c 0 t) (iblk m c 2 t)
abbrev bA (c : Dev nD) (t : Fin cfg0.N) : Vec Ideal S144x3072 .f32 := k0_pay2 (F := Ideal) (grid0.coords t) (iblk m c 4 t) (iblk m c 3 t) (iblk m c 5 t)

/-- The three taps. -/
abbrev tap0 (c : Dev nD) (t : Fin cfg0.N) : Vec Ideal S1x6144 .f32 := View.ld (iblk m c 6 t) (Rect.unit ![0, 0] ![1, 6144] inb_S8x6144_S1x6144_0_0)
abbrev tap1 (c : Dev nD) (t : Fin cfg0.N) : Vec Ideal S1x6144 .f32 := View.ld (iblk m c 6 t) (Rect.unit ![1, 0] ![1, 6144] inb_S8x6144_S1x6144_1_0)
abbrev tap2 (c : Dev nD) (t : Fin cfg0.N) : Vec Ideal S1x6144 .f32 := View.ld (iblk m c 6 t) (Rect.unit ![2, 0] ![1, 6144] inb_S8x6144_S1x6144_2_0)

/-- The gradient of the convolution's rows, of all joined rows and of the block's own. -/
abbrev bD (c : Dev nD) (t : Fin cfg0.N) : Vec Ideal S144x6144 .f32 := k0_pay7 (F := Ideal) (bU m c t) (bA m c t) (bUn m c t)
  (k0_pay5 (grid0.coords t) (iblk m c 1 t) (iblk m c 0 t) (iblk m c 2 t) (tap0 m c t)) (k0_pay6 (tap1 m c t)) (tap2 m c t) (iblk m c 7 t)
abbrev bD8 (c : Dev nD) (t : Fin cfg0.N) : Vec Ideal S128x6144 .f32 := k0_pay8 (F := Ideal) (bU m c t) (bA m c t) (bUn m c t)
  (k0_pay5 (grid0.coords t) (iblk m c 1 t) (iblk m c 0 t) (iblk m c 2 t) (tap0 m c t)) (k0_pay6 (tap1 m c t)) (tap2 m c t) (iblk m c 7 t)

/-- One row is read out of the eight. -/
theorem ld_row {n : ℕ} (b : (⟨⟨2, ![8, n]⟩, .f32⟩ : BufTy).Contents (Elt Ideal)) (k : Fin 8)
    (h : ∀ a, (![k.val, 0] : Fin 2 → ℕ) a + (![1, n] : Fin 2 → ℕ) a ≤ (⟨2, ![8, n]⟩ : Shape).size a) (l : Fin n) :
    View.ld b (Rect.unit (s := ⟨2, ![8, n]⟩) ![k.val, 0] ![1, n] h) (ix2 0 l) = b (ix2 k l) := by
  refine congrArg b (funext fun a => Fin.ext ?_)
  fin_cases a
  · rfl
  · exact (Nat.zero_add _).trans (Nat.one_mul _)

/-- The padded tap. -/
abbrev wP (c : Dev nD) (s : Fin 3) (k : Fin 6144) : EReal := padW (m ((c : Thread nD τ).loc main_arg1)) (ix2 (⟨s.val, by omega⟩ : Fin 8) k)

theorem tap0_eq (c : Dev nD) (t : Fin cfg0.N) (k : Fin 6144) : tap0 m c t (ix2 0 k) = wP m c 0 k := (ld_row _ 0 _ k).trans (in6 m c t 0 k)
theorem tap1_eq (c : Dev nD) (t : Fin cfg0.N) (k : Fin 6144) : tap1 m c t (ix2 0 k) = wP m c 1 k := (ld_row _ 1 _ k).trans (in6 m c t 1 k)
theorem tap2_eq (c : Dev nD) (t : Fin cfg0.N) (k : Fin 6144) : tap2 m c t (ix2 0 k) = wP m c 2 k := (ld_row _ 2 _ k).trans (in6 m c t 2 k)

theorem bU_eq (c : Dev nD) (t : Fin cfg0.N) (q : Fin 144) (k : Fin 6144) :
    bU m c t (ix2 q k) = padRowsU (m ((c : Thread nD τ).loc main_arg0)) (t.val * 128 + q.val) k :=
  pay1_ext t _ _ _ _ (in1 m c t) (in0 m c t) (in2 m c t) q k

theorem bA_eq (c : Dev nD) (t : Fin cfg0.N) (q : Fin 144) (k : Fin 3072) :
    bA m c t (ix2 q k) = padRowsA (m ((c : Thread nD τ).loc main_arg3)) (t.val * 128 + q.val) k :=
  pay2_ext t _ _ _ _ (in4 m c t) (in3 m c t) (in5 m c t) q k

theorem bUn_eq (c : Dev nD) (t : Fin cfg0.N) (q : Fin 144) (k : Fin 6144) (h : q.val + 1 < 144) :
    bUn m c t (ix2 q k) = padRowsU (m ((c : Thread nD τ).loc main_arg0)) (t.val * 128 + q.val + 1) k :=
  (pay4_apply _ _ _ _ q k h).trans (bU_eq m c t _ k)

theorem bUp_eq (c : Dev nD) (t : Fin cfg0.N) (q : Fin 144) (k : Fin 6144) (h : 1 ≤ q.val) :
    bUp m c t (ix2 q k) = padRowsU (m ((c : Thread nD τ).loc main_arg0)) (t.val * 128 + q.val - 1) k := by
  refine (pay3_apply _ _ _ _ q k h).trans ((bU_eq m c t _ k).trans ?_)
  exact congrArg (padRowsU (m ((c : Thread nD τ).loc main_arg0)) · k) (by show t.val * 128 + (q.val - 1) = _; omega)

/-- The reference's gradient of the convolution's rows, in the padded columns. -/
abbrev dP (c : Dev nD) (n : ℕ) (k : Fin 6144) : EReal := if valid k.val then rowsD (m ((c : Thread nD τ).loc main_arg0))
    (m ((c : Thread nD τ).loc main_arg1)) (m ((c : Thread nD τ).loc main_arg2)) (m ((c : Thread nD τ).loc main_arg3)) n (src k) else 0

theorem bD_eq (c : Dev nD) (t : Fin cfg0.N) (q : Fin 144) (h1 : 1 ≤ q.val) (h2 : q.val + 1 < 144) (k : Fin 6144) :
    bD m c t (ix2 q k) = dP m c (t.val * 128 + q.val) k := by
  refine (pay7_eq (padRowsU (m ((c : Thread nD τ).loc main_arg0))) (padRowsA (m ((c : Thread nD τ).loc main_arg3))) (wP m c)
    (fun k => padB (m ((c : Thread nD τ).loc main_arg2)) (ix2 0 k)) (t.val * 128) _ _ _ _ _ _ _ (bU_eq m c t) (bA_eq m c t) (bUn_eq m c t) ?_ ?_
    (tap2_eq m c t) (in7 m c t) q h1 h2 k).trans (dHidden_pad (m ((c : Thread nD τ).loc main_arg0))
    (m ((c : Thread nD τ).loc main_arg1)) (m ((c : Thread nD τ).loc main_arg2)) (m ((c : Thread nD τ).loc main_arg3)) _ k)
  · intro q k h
    refine (pay5_apply _ _ _ _ _ q k).trans ?_
    exact congrArg₂ (fun a b : EReal => a * b) (tap0_eq m c t k) (bUp_eq m c t q k h)
  · intro q k
    exact (pay6_apply _ q k).trans (tap1_eq m c t k)

theorem bD8_eq (c : Dev nD) (t : Fin cfg0.N) (r : Fin 128) (k : Fin 6144) :
    bD8 m c t (ix2 r k) = dP m c ((row t r).val + 8) k := by
  refine (pay8_apply _ _ _ _ _ _ _ r k).trans ((bD_eq m c t _ (by show 1 ≤ 8 + r.val; omega) (by show 8 + r.val + 1 < 144; omega) k).trans ?_)
  exact congrArg (dP m c · k) (by show t.val * 128 + (8 + r.val) = t.val * 128 + r.val + 8; omega)

/-! ## The outputs -/

/-- The gradient of the hidden layer. -/
theorem final8 (c : Dev nD) (hr : AllReal (m ((c : Thread nD τ).loc main_arg0))
    (m ((c : Thread nD τ).loc main_arg1)) (m ((c : Thread nD τ).loc main_arg2)) (m ((c : Thread nD τ).loc main_arg3))) :
    (dats m 0 c).arrAt 8 cfg0.N = val_main_v57 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  idx_vars y
  rw [show ((cfg0.win 8).blk t).view.emb (ix2 y0 y1) = ix2 (row t y0) y1 by blk_ext [idxOut t, row]]
  have key : k0_pay9 (F := Ideal) (bU m c t) (bA m c t) (bUn m c t)
      (k0_pay5 (grid0.coords t) (iblk m c 1 t) (iblk m c 0 t) (iblk m c 2 t) (tap0 m c t)) (k0_pay6 (tap1 m c t)) (tap2 m c t) (iblk m c 7 t)
      (tap0 m c t) (tap1 m c t) (tap2 m c t) (ix2 y0 y1) = val_main_v57 (F := Ideal) (m ((c : Thread nD τ).loc main_arg0))
    (m ((c : Thread nD τ).loc main_arg1)) (m ((c : Thread nD τ).loc main_arg2)) (m ((c : Thread nD τ).loc main_arg3)) (ix2 (row t y0) y1) := by
    rw [pay9_apply, ref57 _ _ _ _ hr]
    have e1 := bD_eq m c t ⟨8 + y0.val + 1, by omega⟩ (by show 1 ≤ 8 + y0.val + 1; omega) (by show 8 + y0.val + 1 + 1 < 144; omega) y1
    have e2 := bD_eq m c t ⟨8 + y0.val, by omega⟩ (by show 1 ≤ 8 + y0.val; omega) (by show 8 + y0.val + 1 < 144; omega) y1
    have e3 := bD_eq m c t ⟨8 + y0.val - 1, by omega⟩ (by show 1 ≤ 8 + y0.val - 1; omega) (by show 8 + y0.val - 1 + 1 < 144; omega) y1
    have n1 : t.val * 128 + (8 + y0.val + 1) = (row t y0).val + 9 := by simp only [row]; omega
    have n2 : t.val * 128 + (8 + y0.val) = (row t y0).val + 8 := by simp only [row]; omega
    have n3 : t.val * 128 + (8 + y0.val - 1) = (row t y0).val + 7 := by simp only [row]; omega
    simp only [n1, n2, n3] at e1 e2 e3
    refine (congrArg₂ (fun a b : EReal => a + b) (congrArg₂ (fun a b : EReal => a + b)
      (congrArg₂ (fun a b : EReal => a * b) ((tap0_eq m c t y1).trans (padW_apply _ 0 y1)) e1)
      (congrArg₂ (fun a b : EReal => a * b) ((tap1_eq m c t y1).trans (padW_apply _ 1 y1)) e2))
      (congrArg₂ (fun a b : EReal => a * b) ((tap2_eq m c t y1).trans (padW_apply _ 2 y1)) e3)).trans ?_
    by_cases hv : valid y1.val
    · simp only [dP, if_pos hv]
    · simp only [dP, if_neg hv, mul_zero, add_zero]
  by_cases h0 : t.val % 128 = 0
  · rw [outsAt0_A m c t h0]; frame_out
    exact key
  · rw [outsAt0_B m c t h0]; frame_out
    exact key

/-- The row blocks of the grid's points, one after the other, are the array's rows. -/
theorem sum_rows (t : Fin cfg0.N) (g : Fin cfg0.N → Fin 128 → EReal) (f : Fin 16384 → EReal) (hg : ∀ t r, g t r = f (row t r))
    (h : ∀ s : Fin 128, 128 * (t.val / 128) + s.val < cfg0.N) :
    ∑ s : Fin 128, ∑ r : Fin 128, g ⟨128 * (t.val / 128) + s.val, h s⟩ r = ∑ i : Fin 16384, f i := by
  refine ((Fin.sum_univ_tiles 128 128 (by decide) _).trans (Finset.sum_congr rfl fun s _ => Finset.sum_congr rfl fun r _ => ?_)).symm
  rw [hg]
  have ht := lt128 t
  exact congrArg f (Fin.ext (by simp only [row]; omega))

theorem sum_if {ι : Type} [Fintype ι] (p : Prop) [Decidable p] (f : ι → EReal) :
    ∑ i, (if p then f i else 0) = if p then ∑ i, f i else 0 := by
  split
  · rfl
  · exact Finset.sum_const_zero

theorem mul_if (p : Prop) [Decidable p] (a b : EReal) : (if p then a else 0) * (if p then b else 0) = if p then a * b else 0 := by
  split
  · rfl
  · exact mul_zero _

theorem pay10_at (v13 : Vec Ideal S144x6144 .f32) (v24 : Vec Ideal S144x3072 .f32) (v26 v30 v33 : Vec Ideal S144x6144 .f32)
    (v36 v41 : Vec Ideal S1x6144 .f32) (j : S1x6144.Idx) :
    k0_pay10 (F := Ideal) v13 v24 v26 v30 v33 v36 v41 j
      = ∑ r : Fin 128, k0_pay8 (F := Ideal) v13 v24 v26 v30 v33 v36 v41 (ix2 r (j 1)) := by
  idx_vars j
  pointwise [k0_pay10]

/-- The gradient of the bias. -/
theorem final9 (c : Dev nD) (hr : AllReal (m ((c : Thread nD τ).loc main_arg0))
    (m ((c : Thread nD τ).loc main_arg1)) (m ((c : Thread nD τ).loc main_arg2)) (m ((c : Thread nD τ).loc main_arg3))) :
    (dats m 0 c).arrAt 9 cfg0.N = val_main_v60 (F := Ideal) (m ((c : Thread nD τ).loc main_arg0))
    (m ((c : Thread nD τ).loc main_arg1)) (m ((c : Thread nD τ).loc main_arg2)) (m ((c : Thread nD τ).loc main_arg3)) := by
  have sums : ∀ (t : Fin cfg0.N) (j : S1x6144.Idx) (h : ∀ s : Fin 128, 128 * (t.val / 128) + s.val < cfg0.N),
      ∑ s : Fin 128, ∑ r : Fin 128, bD8 m c ⟨128 * (t.val / 128) + s.val, h s⟩ (ix2 r (j 1)) = val_main_v60 (F := Ideal) (m ((c : Thread nD τ).loc main_arg0))
    (m ((c : Thread nD τ).loc main_arg1)) (m ((c : Thread nD τ).loc main_arg2)) (m ((c : Thread nD τ).loc main_arg3)) j := by
    intro t j h
    idx_vars j
    obtain rfl : j0 = 0 := Subsingleton.elim _ _
    rw [ref60 _ _ _ _ hr, ← sum_if]
    exact sum_rows t (fun t r => bD8 m c t (ix2 r j1)) _ (fun t r => bD8_eq m c t r j1) h
  refine (dats m 0 c).arrAt_eq_of_covers 9 _ (by decide +kernel) fun t hf y => ?_
  blk_simp
  rw [after0_9, Pipeline.eq_sum_fin_of_reset_step_apply_of_flush (fun n h => (outsAt0 m c n h).2.1) 128 (fun _ => 0) _
    (fun t h j => by rw [outsAt0_A m c t h]; frame_out; rw [pay16_apply, pay12_apply, pay10_at])
    (fun t h j => by rw [outsAt0_B m c t h]; frame_out; rw [pay16_apply, pay10_at]) t ((flush0_9 t).mp hf) _, zero_add]
  rw [show ((cfg0.win 9).blk t).view.emb y = y by blk_ext [idxOut t]]
  exact sums t y fun s => Pipeline.run_point_lt_of_flush t ((flush0_9 t).mp hf) s

/-- The gradient of the first tap. -/
theorem final10 (c : Dev nD) (hr : AllReal (m ((c : Thread nD τ).loc main_arg0))
    (m ((c : Thread nD τ).loc main_arg1)) (m ((c : Thread nD τ).loc main_arg2)) (m ((c : Thread nD τ).loc main_arg3))) :
    (dats m 0 c).arrAt 10 cfg0.N = val_main_v63 (F := Ideal) (m ((c : Thread nD τ).loc main_arg0))
    (m ((c : Thread nD τ).loc main_arg1)) (m ((c : Thread nD τ).loc main_arg2)) (m ((c : Thread nD τ).loc main_arg3)) := by
  have sums : ∀ (t : Fin cfg0.N) (j : S1x6144.Idx) (h : ∀ s : Fin 128, 128 * (t.val / 128) + s.val < cfg0.N),
      ∑ s : Fin 128, ∑ r : Fin 128, bUp m c ⟨128 * (t.val / 128) + s.val, h s⟩ (ix2 ⟨8 + r.val, by omega⟩ (j 1))
        * bD8 m c ⟨128 * (t.val / 128) + s.val, h s⟩ (ix2 r (j 1)) = val_main_v63 (F := Ideal) (m ((c : Thread nD τ).loc main_arg0))
    (m ((c : Thread nD τ).loc main_arg1)) (m ((c : Thread nD τ).loc main_arg2)) (m ((c : Thread nD τ).loc main_arg3)) j := by
    intro t j h
    idx_vars j
    obtain rfl : j0 = 0 := Subsingleton.elim _ _
    rw [ref63 _ _ _ _ hr, ← sum_if]
    refine sum_rows t (fun t r => bUp m c t (ix2 ⟨8 + r.val, by omega⟩ j1) * bD8 m c t (ix2 r j1)) _ (fun t r => ?_) h
    have e : bUp m c t (ix2 ⟨8 + r.val, by omega⟩ j1) = padRowsU (m ((c : Thread nD τ).loc main_arg0)) ((row t r).val + 7) j1 :=
      (bUp_eq m c t _ j1 (by show 1 ≤ 8 + r.val; omega)).trans (congrArg (padRowsU (m ((c : Thread nD τ).loc main_arg0)) · j1) (by show t.val * 128 + (8 + r.val) - 1 = t.val * 128 + r.val + 7; omega))
    exact (congrArg₂ (fun a b : EReal => a * b) (e.trans (padRowsU_eq _ _ j1)) (bD8_eq m c t r j1)).trans (mul_if _ _ _)
  refine (dats m 0 c).arrAt_eq_of_covers 10 _ (by decide +kernel) fun t hf y => ?_
  blk_simp
  rw [after0_10, Pipeline.eq_sum_fin_of_reset_step_apply_of_flush (fun n h => (outsAt0 m c n h).2.2.1) 128 (fun _ => 0) _
    (fun t h j => by rw [outsAt0_A m c t h]; frame_out; rw [pay17_apply, pay13_apply])
    (fun t h j => by rw [outsAt0_B m c t h]; frame_out; rw [pay17_apply]) t ((flush0_10 t).mp hf) _, zero_add]
  rw [show ((cfg0.win 10).blk t).view.emb y = y by blk_ext [idxOut t]]
  exact sums t y fun s => Pipeline.run_point_lt_of_flush t ((flush0_10 t).mp hf) s

/-- The gradient of the second tap. -/
theorem final11 (c : Dev nD) (hr : AllReal (m ((c : Thread nD τ).loc main_arg0))
    (m ((c : Thread nD τ).loc main_arg1)) (m ((c : Thread nD τ).loc main_arg2)) (m ((c : Thread nD τ).loc main_arg3))) :
    (dats m 0 c).arrAt 11 cfg0.N = val_main_v66 (F := Ideal) (m ((c : Thread nD τ).loc main_arg0))
    (m ((c : Thread nD τ).loc main_arg1)) (m ((c : Thread nD τ).loc main_arg2)) (m ((c : Thread nD τ).loc main_arg3)) := by
  have sums : ∀ (t : Fin cfg0.N) (j : S1x6144.Idx) (h : ∀ s : Fin 128, 128 * (t.val / 128) + s.val < cfg0.N),
      ∑ s : Fin 128, ∑ r : Fin 128, bU m c ⟨128 * (t.val / 128) + s.val, h s⟩ (ix2 ⟨8 + r.val, by omega⟩ (j 1))
        * bD8 m c ⟨128 * (t.val / 128) + s.val, h s⟩ (ix2 r (j 1)) = val_main_v66 (F := Ideal) (m ((c : Thread nD τ).loc main_arg0))
    (m ((c : Thread nD τ).loc main_arg1)) (m ((c : Thread nD τ).loc main_arg2)) (m ((c : Thread nD τ).loc main_arg3)) j := by
    intro t j h
    idx_vars j
    obtain rfl : j0 = 0 := Subsingleton.elim _ _
    rw [ref66 _ _ _ _ hr, ← sum_if]
    refine sum_rows t (fun t r => bU m c t (ix2 ⟨8 + r.val, by omega⟩ j1) * bD8 m c t (ix2 r j1)) _ (fun t r => ?_) h
    have e : bU m c t (ix2 ⟨8 + r.val, by omega⟩ j1) = padRowsU (m ((c : Thread nD τ).loc main_arg0)) ((row t r).val + 8) j1 :=
      (bU_eq m c t _ j1 ).trans (congrArg (padRowsU (m ((c : Thread nD τ).loc main_arg0)) · j1) (by show t.val * 128 + (8 + r.val) = t.val * 128 + r.val + 8; omega))
    exact (congrArg₂ (fun a b : EReal => a * b) (e.trans (padRowsU_eq _ _ j1)) (bD8_eq m c t r j1)).trans (mul_if _ _ _)
  refine (dats m 0 c).arrAt_eq_of_covers 11 _ (by decide +kernel) fun t hf y => ?_
  blk_simp
  rw [after0_11, Pipeline.eq_sum_fin_of_reset_step_apply_of_flush (fun n h => (outsAt0 m c n h).2.2.2.1) 128 (fun _ => 0) _
    (fun t h j => by rw [outsAt0_A m c t h]; frame_out; rw [pay18_apply, pay14_apply])
    (fun t h j => by rw [outsAt0_B m c t h]; frame_out; rw [pay18_apply]) t ((flush0_11 t).mp hf) _, zero_add]
  rw [show ((cfg0.win 11).blk t).view.emb y = y by blk_ext [idxOut t]]
  exact sums t y fun s => Pipeline.run_point_lt_of_flush t ((flush0_11 t).mp hf) s

/-- The gradient of the third tap. -/
theorem final12 (c : Dev nD) (hr : AllReal (m ((c : Thread nD τ).loc main_arg0))
    (m ((c : Thread nD τ).loc main_arg1)) (m ((c : Thread nD τ).loc main_arg2)) (m ((c : Thread nD τ).loc main_arg3))) :
    (dats m 0 c).arrAt 12 cfg0.N = val_main_v69 (F := Ideal) (m ((c : Thread nD τ).loc main_arg0))
    (m ((c : Thread nD τ).loc main_arg1)) (m ((c : Thread nD τ).loc main_arg2)) (m ((c : Thread nD τ).loc main_arg3)) := by
  have sums : ∀ (t : Fin cfg0.N) (j : S1x6144.Idx) (h : ∀ s : Fin 128, 128 * (t.val / 128) + s.val < cfg0.N),
      ∑ s : Fin 128, ∑ r : Fin 128, bUn m c ⟨128 * (t.val / 128) + s.val, h s⟩ (ix2 ⟨8 + r.val, by omega⟩ (j 1))
        * bD8 m c ⟨128 * (t.val / 128) + s.val, h s⟩ (ix2 r (j 1)) = val_main_v69 (F := Ideal) (m ((c : Thread nD τ).loc main_arg0))
    (m ((c : Thread nD τ).loc main_arg1)) (m ((c : Thread nD τ).loc main_arg2)) (m ((c : Thread nD τ).loc main_arg3)) j := by
    intro t j h
    idx_vars j
    obtain rfl : j0 = 0 := Subsingleton.elim _ _
    rw [ref69 _ _ _ _ hr, ← sum_if]
    refine sum_rows t (fun t r => bUn m c t (ix2 ⟨8 + r.val, by omega⟩ j1) * bD8 m c t (ix2 r j1)) _ (fun t r => ?_) h
    have e : bUn m c t (ix2 ⟨8 + r.val, by omega⟩ j1) = padRowsU (m ((c : Thread nD τ).loc main_arg0)) ((row t r).val + 9) j1 :=
      (bUn_eq m c t _ j1 (by show 8 + r.val + 1 < 144; omega)).trans (congrArg (padRowsU (m ((c : Thread nD τ).loc main_arg0)) · j1) (by show t.val * 128 + (8 + r.val) + 1 = t.val * 128 + r.val + 9; omega))
    exact (congrArg₂ (fun a b : EReal => a * b) (e.trans (padRowsU_eq _ _ j1)) (bD8_eq m c t r j1)).trans (mul_if _ _ _)
  refine (dats m 0 c).arrAt_eq_of_covers 12 _ (by decide +kernel) fun t hf y => ?_
  blk_simp
  rw [after0_12, Pipeline.eq_sum_fin_of_reset_step_apply_of_flush (fun n h => (outsAt0 m c n h).2.2.2.2) 128 (fun _ => 0) _
    (fun t h j => by rw [outsAt0_A m c t h]; frame_out; rw [pay19_apply, pay15_apply])
    (fun t h j => by rw [outsAt0_B m c t h]; frame_out; rw [pay19_apply]) t ((flush0_12 t).mp hf) _, zero_add]
  rw [show ((cfg0.win 12).blk t).view.emb y = y by blk_ext [idxOut t]]
  exact sums t y fun s => Pipeline.run_point_lt_of_flush t ((flush0_12 t).mp hf) s

end Cert.SwigluIdeal.Grad

end
-- ==== Proof.Swiglu.Claim.lean ====
/- The gradient of the convolution and the gate: kernel and reference give the same five arrays. -/
module

public import proofs.«01_k».proof.Defs
public import proofs.«01_k».proof.Proof.Swiglu.Final
public import proofs.«01_k».proof.Proof.Gen.SwigluRefIdeal.Run

@[expose] public section

set_option maxRecDepth 16384

noncomputable section

open Idealize.ShloMosaic Idealize.ShloMosaic.TcCoe Idealize.SL.Sem

namespace Cert.SwigluIdeal.Grad

open Cert.SwigluIdeal Cert.SwigluIdeal.Gen

set_option maxHeartbeats 1600000 in
/-- Over the reals the call returns the derivative of the convolution and the gate, in all five results, for real arguments. -/
theorem algebraic [Cert.Pre_finite_swiglu.Facts] : Cert.algebraic_SwigluIdeal_SwigluRefIdeal_pre_finite_swiglu := by
  intro m g m' g' hpre hagree
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, ?_, ?_⟩
  · run_from Cert.SwigluIdeal.Value.run_blocks m g
  · refine (θ_run Cert.SwigluRefIdeal.defs _ _).mono (fun r h c => ?_) (Cert.SwigluRefIdeal.Value.run m' g')
    have hr : AllReal (m ((c : Thread nD τ).loc main_arg0)) (m ((c : Thread nD τ).loc main_arg1)) (m ((c : Thread nD τ).loc main_arg2))
        (m ((c : Thread nD τ).loc main_arg3)) :=
      ⟨fun i => Cert.Silu.IsReal.of_toReal (Cert.Softmax.real_of_cmp (congrFun (hpre c).1 i)),
        fun i => Cert.Silu.IsReal.of_toReal (Cert.Softmax.real_of_cmp (congrFun (hpre c).2.1 i)),
        fun i => Cert.Silu.IsReal.of_toReal (Cert.Softmax.real_of_cmp (congrFun (hpre c).2.2.1 i)),
        fun i => Cert.Silu.IsReal.of_toReal (Cert.Softmax.real_of_cmp (congrFun (hpre c).2.2.2 i))⟩
    obtain ⟨e0, e1, e2, e3, e4, rest⟩ := h c
    obtain ⟨h0, h1, h2, h3⟩ := hagree c
    refine ⟨e0.trans ?_, e1.trans ?_, e2.trans ?_, e3.trans ?_, e4.trans ?_, rest⟩
    · refine (Cert.SwigluRefIdeal.Read.val_main_v57_eq (F := Ideal) m' c).trans ?_
      rw [h0, h1, h2, h3]
      exact (final8 m c hr).symm
    · refine (Cert.SwigluRefIdeal.Read.val_main_v60_eq (F := Ideal) m' c).trans ?_
      rw [h0, h1, h2, h3]
      exact (final9 m c hr).symm
    · refine (Cert.SwigluRefIdeal.Read.val_main_v63_eq (F := Ideal) m' c).trans ?_
      rw [h0, h1, h2, h3]
      exact (final10 m c hr).symm
    · refine (Cert.SwigluRefIdeal.Read.val_main_v66_eq (F := Ideal) m' c).trans ?_
      rw [h0, h1, h2, h3]
      exact (final11 m c hr).symm
    · refine (Cert.SwigluRefIdeal.Read.val_main_v69_eq (F := Ideal) m' c).trans ?_
      rw [h0, h1, h2, h3]
      exact (final12 m c hr).symm

end Cert.SwigluIdeal.Grad

end
-- ==== Proof.Shared.Padding.lean ====
module

public import Idealize.ShloMosaic.Lib.Pointwise

/-! # The padded columns of the hidden layer

The hidden layer's 5632 columns are eight groups of 704, and each group is followed by 64 columns of zeros. -/

@[expose] public section

noncomputable section

namespace Cert.Padding

open Idealize.ShloMosaic

/-- Whether a padded column holds one of the layer's: 704 of each 768 do. -/
def valid (k : ℕ) : Prop := k % 768 < 704

instance (k : ℕ) : Decidable (valid k) := by unfold valid; infer_instance

/-- The column that a padded column holds. -/
def src (k : Fin 6144) : Fin 5632 := ⟨k.val / 768 * 704 + (if k.val % 768 < 704 then k.val % 768 else 0), by split_ifs <;> omega⟩

/-- One group. -/
theorem sum_group (g : Fin 768 → EReal) (f : Fin 704 → EReal) (h : ∀ b : Fin 704, g ⟨b.val, by omega⟩ = f b)
    (h0 : ∀ b : Fin 768, 704 ≤ b.val → g b = 0) : ∑ b, g b = ∑ b, f b := by
  refine (Fin.sum_univ_add (a := 704) (b := 64) g).trans ?_
  rw [show ∑ i : Fin 64, g (Fin.natAdd 704 i) = 0 from Finset.sum_eq_zero fun i _ => h0 _ (by show 704 ≤ 704 + i.val; omega), add_zero]
  exact Finset.sum_congr rfl fun b _ => h b

/-- A sum over the padded columns is the sum over the layer's columns. -/
theorem sum_valid (f : Fin 5632 → EReal) : ∑ k : Fin 6144, (if valid k.val then f (src k) else 0) = ∑ j, f j := by
  rw [Fin.sum_univ_tiles 8 768 (by decide), Fin.sum_univ_tiles 8 704 (by decide) f]
  refine Finset.sum_congr rfl fun a _ => sum_group _ _ (fun b => ?_) fun b hb => ?_
  · have hv : (a.val * 768 + b.val) % 768 < 704 := by omega
    refine (if_pos hv).trans (congrArg f (Fin.ext ?_))
    simp only [src, if_pos hv]
    omega
  · exact if_neg (show ¬ (a.val * 768 + b.val) % 768 < 704 by omega)

/-- The half of the hidden layer that the gate keeps: four groups. -/
def srcH (k : Fin 3072) : Fin 2816 := ⟨k.val / 768 * 704 + (if k.val % 768 < 704 then k.val % 768 else 0), by split_ifs <;> omega⟩

/-- A sum over the padded columns of the half is the sum over its columns. -/
theorem sum_validH (f : Fin 2816 → EReal) : ∑ k : Fin 3072, (if valid k.val then f (srcH k) else 0) = ∑ j, f j := by
  rw [Fin.sum_univ_tiles 4 768 (by decide), Fin.sum_univ_tiles 4 704 (by decide) f]
  refine Finset.sum_congr rfl fun a _ => sum_group _ _ (fun b => ?_) fun b hb =>
    if_neg (show ¬ (a.val * 768 + b.val) % 768 < 704 by omega)
  have hv : (a.val * 768 + b.val) % 768 < 704 := by omega
  exact (if_pos hv).trans (congrArg f (Fin.ext (by simp only [srcH, if_pos hv]; omega)))

end Cert.Padding

end
-- ==== Proof.Shared.LayerNorm.lean ====
module

public import proofs.«01_k».proof.Proof.Shared.Silu

/-! # The gradient of the normalisation of a row

A row of 1024 entries less its mean, times the reciprocal of its deviation. The cotangent's way through it is written in two
forms: by the normalised row, and by the product rule through the mean, the deviations and the reciprocal square root. For a
row and a cotangent of real numbers they are one. -/

@[expose] public section

noncomputable section

namespace Cert.LayerNorm

open Idealize.ShloMosaic
open Cert.Silu Cert.Softmax

/-- The length of a row, as the programs write it. -/
abbrev len : EReal := Ideal.ofBits .f32 0x44800000#32
/-- What is added to the variance. -/
abbrev eps : EReal := Ideal.ofBits .f32 0x3727C5AC#32

theorem len_eq : len = ((1024 : ℝ) : EReal) := by
  norm_num [len, Ideal.ofBits, Ideal.ieee, Nat.shiftRight_eq_div_pow, show BitVec.extractLsb' 31 1 (1149239296#32 : BitVec 32) = 0#1 by decide]

theorem eps_pos : ∃ e : ℝ, 0 < e ∧ eps = (e : EReal) := by
  refine ⟨10995116 * (2 : ℝ) ^ (-40 : ℤ), by positivity, ?_⟩
  norm_num [eps, Ideal.ofBits, Ideal.ieee, Nat.shiftRight_eq_div_pow, show BitVec.extractLsb' 31 1 (925353388#32 : BitVec 32) = 0#1 by decide]

theorem two_eq : Ideal.ofBits .f32 0x40000000#32 = ((2 : ℝ) : EReal) := by
  norm_num [Ideal.ofBits, Ideal.ieee, Nat.shiftRight_eq_div_pow, show BitVec.extractLsb' 31 1 (1073741824#32 : BitVec 32) = 0#1 by decide]

theorem half_eq : Ideal.ofBits .f32 0xBF000000#32 = ((-1 / 2 : ℝ) : EReal) := by
  norm_num [Ideal.ofBits, Ideal.ieee, Nat.shiftRight_eq_div_pow, show BitVec.extractLsb' 31 1 (3204448256#32 : BitVec 32) = 1#1 by decide]

variable (u d : Fin 1024 → EReal)

def mean : EReal := Ideal.div (∑ l, u l) len
def dev (l : Fin 1024) : EReal := u l - mean u
def vare : EReal := mean (fun l => dev u l * dev u l) + eps
def rstd : EReal := Ideal.rsqrt (vare u)
def xhat (l : Fin 1024) : EReal := dev u l * rstd u

/-- The gradient by the normalised row. -/
def gradK (l : Fin 1024) : EReal := rstd u * (d l - mean d - xhat u l * mean fun k => d k * xhat u k)

/-- The cotangent of the square of a deviation, times its derivative. -/
def sqR (l : Fin 1024) : EReal :=
  Ideal.div ((∑ k, dev u k * d k) * (Ideal.ofBits .f32 0xBF000000#32 * Ideal.div (rstd u) (vare u))) len
    * (Ideal.ofBits .f32 0x40000000#32 * dev u l)

/-- The gradient by the product rule. -/
def gradR (l : Fin 1024) : EReal :=
  d l * rstd u + sqR u d l + Ideal.div ((∑ k, -(d k * rstd u)) + ∑ k, -(sqR u d k)) len

theorem mean_coe (f : Fin 1024 → ℝ) : mean (fun l => (f l : EReal)) = (((∑ l, f l) / 1024 : ℝ) : EReal) := by
  unfold mean
  rw [coe_sum, len_eq, div_coe_coe _ (by norm_num)]

/-- The variance and the reciprocal deviation of a row of reals. -/
theorem stats (f : Fin 1024 → ℝ) : ∃ v : ℝ, 0 < v ∧ vare (fun l => (f l : EReal)) = (v : EReal) ∧
    rstd (fun l => (f l : EReal)) = (((Real.sqrt v)⁻¹ : ℝ) : EReal) := by
  obtain ⟨e, he, hee⟩ := eps_pos
  have h : vare (fun l => (f l : EReal)) = (((∑ l, (f l - (∑ k, f k) / 1024) * (f l - (∑ k, f k) / 1024)) / 1024 + e : ℝ) : EReal) := by
    unfold vare
    simp only [dev, mean_coe, ← EReal.coe_sub, ← EReal.coe_mul, hee, ← EReal.coe_add]
  have hv : 0 < (∑ l, (f l - (∑ k, f k) / 1024) * (f l - (∑ k, f k) / 1024)) / 1024 + e := by
    have : 0 ≤ ∑ l, (f l - (∑ k, f k) / 1024) * (f l - (∑ k, f k) / 1024) := Finset.sum_nonneg fun l _ => mul_self_nonneg _
    positivity
  refine ⟨_, hv, h, ?_⟩
  unfold rstd
  rw [h]
  show (if _ < 0 then ⊥ else if _ = 0 then ⊤ else _) = _
  rw [if_neg (not_lt.mpr hv.le), if_neg hv.ne']

theorem IsReal.rstd {u : Fin 1024 → EReal} (hu : ∀ l, IsReal (u l)) : IsReal (rstd u) := by
  choose f hf using hu
  obtain rfl : u = fun l => (f l : EReal) := funext hf
  obtain ⟨v, _, _, h⟩ := stats f
  exact ⟨_, h⟩

theorem IsReal.mean {u : Fin 1024 → EReal} (hu : ∀ l, IsReal (u l)) : IsReal (mean u) := by
  choose f hf using hu
  obtain rfl : u = fun l => (f l : EReal) := funext hf
  exact ⟨_, mean_coe f⟩

theorem IsReal.xhat {u : Fin 1024 → EReal} (hu : ∀ l, IsReal (u l)) (l : Fin 1024) : IsReal (xhat u l) :=
  ((hu l).sub (IsReal.mean hu)).mul (IsReal.rstd hu)

/-- The two forms of the gradient agree on rows of reals. -/
theorem grad_eq {u d : Fin 1024 → EReal} (hu : ∀ l, IsReal (u l)) (hd : ∀ l, IsReal (d l)) (l : Fin 1024) :
    gradK u d l = gradR u d l := by
  choose f hf using hu
  choose g hg using hd
  obtain rfl : u = fun l => (f l : EReal) := funext hf
  obtain rfl : d = fun l => (g l : EReal) := funext hg
  obtain ⟨v, hv, hve, hs⟩ := stats f
  set s : ℝ := (Real.sqrt v)⁻¹ with hsd
  have hsv : s / v = s * s * s := by
    have h2 : s * s = v⁻¹ := by rw [hsd, ← mul_inv, Real.mul_self_sqrt hv.le]
    rw [div_eq_mul_inv, ← h2]; ring
  set μ : ℝ := (∑ k, f k) / 1024 with hμ
  have hc : ∑ k, (f k - μ) = 0 := by
    rw [Finset.sum_sub_distrib, Finset.sum_const, Finset.card_univ, Fintype.card_fin, hμ]
    simp only [nsmul_eq_mul]; push_cast; ring
  have hK : gradK (fun l => (f l : EReal)) (fun l => (g l : EReal)) l
      = ((s * (g l - (∑ k, g k) / 1024 - (f l - μ) * s * ((∑ k, g k * ((f k - μ) * s)) / 1024)) : ℝ) : EReal) := by
    unfold gradK
    simp only [xhat, dev, hs, mean_coe, ← EReal.coe_sub, ← EReal.coe_mul, ← hμ]
  have hsq : ∀ l, sqR (fun l => (f l : EReal)) (fun l => (g l : EReal)) l
      = ((((∑ k, (f k - μ) * g k) * (-1 / 2 * (s / v))) / 1024 * (2 * (f l - μ)) : ℝ) : EReal) := by
    intro l
    unfold sqR
    rw [half_eq, two_eq, hs, hve, len_eq, div_coe_coe _ hv.ne']
    simp only [dev, mean_coe, ← EReal.coe_sub, ← EReal.coe_mul, ← hμ]
    rw [coe_sum, ← EReal.coe_mul, div_coe_coe _ (by norm_num), ← EReal.coe_mul]
  have hR : gradR (fun l => (f l : EReal)) (fun l => (g l : EReal)) l
      = ((g l * s + ((∑ k, (f k - μ) * g k) * (-1 / 2 * (s / v))) / 1024 * (2 * (f l - μ))
        + ((∑ k, -(g k * s)) + ∑ k, -(((∑ k, (f k - μ) * g k) * (-1 / 2 * (s / v))) / 1024 * (2 * (f k - μ)))) / 1024 : ℝ) : EReal) := by
    unfold gradR
    simp only [hsq, hs, ← EReal.coe_mul, ← EReal.coe_neg]
    simp only [coe_sum, len_eq, ← EReal.coe_add, div_coe_coe _ (show (1024 : ℝ) ≠ 0 by norm_num)]
  rw [hK, hR]
  refine congrArg (fun z : ℝ => (z : EReal)) ?_
  rw [hsv]
  have h1 : ∑ k, -(g k * s) = -((∑ k, g k) * s) := by rw [Finset.sum_neg_distrib, Finset.sum_mul]
  have h2 : ∀ a : ℝ, ∑ k, -(a * (2 * (f k - μ))) = 0 := fun a => by
    rw [Finset.sum_neg_distrib, ← Finset.mul_sum, ← Finset.mul_sum, hc]; ring
  have h3 : ∑ k, g k * ((f k - μ) * s) = (∑ k, (f k - μ) * g k) * s := by
    rw [Finset.sum_mul]; exact Finset.sum_congr rfl fun k _ => by ring
  rw [h1, h2, h3]
  ring

end Cert.LayerNorm
-- ==== Proof.FfnUp.Host.lean ====
/- The arrays the host lays out for the first layer norm's backward call. -/
module

public import proofs.«01_k».proof.Proof.Gen.FfnUpIdeal.Value
public import proofs.«01_k».proof.Proof.Gen.FfnUpRefIdeal.Read
public import proofs.«01_k».proof.Proof.Shared.Padding
public import proofs.«01_k».proof.Proof.Shared.LayerNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUpIdeal.Grad

open Cert.FfnUpIdeal Cert.FfnUpIdeal.Gen
open Cert.FfnUpRefIdeal.Read

open Cert.Padding

/-- The zero that fills the padding. -/
abbrev fill : FVec Ideal S_ .bf16 := sitofp (F := Ideal) .bf16 (constantI S_ 32 0#32)

/-- The rows of the hidden layer's cotangent, in the padded columns. -/
def padU (x : FVec Ideal S16384x5632 .f32) : FVec Ideal S16384x6144 .bf16 :=
  shapeCast S16384x6144 (pad S16384x8x768 ![0, 0, 0] ![0, 0, 64] ![0, 0, 0]
    (shapeCast S16384x8x704 (truncf .bf16 x bitsLt_bf16_f32) shapeCasts_S16384x5632_S16384x8x704) fill
    pads_S16384x8x704_S16384x8x768_000_000_0640 h_S_) shapeCasts_S16384x8x768_S16384x6144

/-- The weight, transposed, in the padded columns. -/
def padW (x : FVec Ideal S1024x5632 .f32) : FVec Ideal S6144x1024 .bf16 :=
  transpose S6144x1024 [1, 0] (shapeCast S1024x6144 (pad S1024x8x768 ![0, 0, 0] ![0, 0, 64] ![0, 0, 0]
    (shapeCast S1024x8x704 (truncf .bf16 x bitsLt_bf16_f32) shapeCasts_S1024x5632_S1024x8x704) fill
    pads_S1024x8x704_S1024x8x768_000_000_0640 h_S_) shapeCasts_S1024x8x768_S1024x6144) transposes_S1024x6144_S6144x1024_1_0

theorem fill0 : (FloatOps.sitofp FTy.bf16 (0#32 : BitVec 32) : Ideal .bf16) = (0 : EReal) := by
  show (((0#32 : BitVec 32).toInt : ℝ) : EReal) = 0
  simp

theorem padU_apply (x : FVec Ideal S16384x5632 .f32) (r : Fin 16384) (k : Fin 6144) :
    padU x (ix2 r k) = if valid k.val then x (ix2 r (src k)) else (0 : EReal) := by
  pointwise [padU]
  by_cases h : valid k.val
  · rw [if_pos h, dif_pos ⟨by omega, h⟩]
    exact congrArg x (congrArg (ix2 r) (Fin.ext (by simp only [src]; exact congrArg _ (if_pos h).symm)))
  · rw [if_neg h, dif_neg fun h' => h h'.2, fill0]

theorem padW_apply (x : FVec Ideal S1024x5632 .f32) (l : Fin 1024) (k : Fin 6144) :
    padW x (ix2 k l) = if valid k.val then x (ix2 l (src k)) else (0 : EReal) := by
  pointwise [padW]
  by_cases h : valid k.val
  · rw [if_pos h, dif_pos ⟨by omega, h⟩]
    exact congrArg x (congrArg (ix2 l) (Fin.ext (by simp only [src]; exact congrArg _ (if_pos h).symm)))
  · rw [if_neg h, dif_neg fun h' => h h'.2, fill0]

/-- A row of zeros. -/
abbrev zeros : FVec Ideal S1x1024 .f32 := broadcastInDim S1x1024 ![] bcast_S_S1x1024 (constant (F := Ideal) S_ .f32 0x00000000#32)

/-- The modulation's rows, of which the call reads the fifth, the gate, and the seventh, the scale. -/
def modRows (g s : FVec Ideal S1x1024 .f32) : FVec Ideal S8x1024 .f32 :=
  concatenate S8x1024 0 [⟨S1x1024, zeros⟩, ⟨S1x1024, zeros⟩, ⟨S1x1024, zeros⟩, ⟨S1x1024, zeros⟩, ⟨S1x1024, g⟩, ⟨S1x1024, zeros⟩,
    ⟨S1x1024, s⟩, ⟨S1x1024, zeros⟩] concatenates_S1x1024_S1x1024_S1x1024_S1x1024_S1x1024_S1x1024_S1x1024_S1x1024_S8x1024_d0

theorem modRows_gate (g s : FVec Ideal S1x1024 .f32) (l : Fin 1024) : modRows g s (ix2 4 l) = g (ix2 0 l) := by
  pointwise [modRows]

theorem modRows_scale (g s : FVec Ideal S1x1024 .f32) (l : Fin 1024) : modRows g s (ix2 6 l) = s (ix2 0 l) := by
  pointwise [modRows]

variable (m : (ℓ : Loc nD τ sig) → Buf (Elt Ideal) ℓ)

theorem V18 (c : Dev nD) : V m c main_v18 = val_main_v23 (F := Ideal) (m ((c : Thread nD τ).loc main_arg0)) (m ((c : Thread nD τ).loc main_arg1)) (m ((c : Thread nD τ).loc main_arg2)) := by sl_kernel_rfl
theorem V20 (c : Dev nD) : V m c main_v20 = val_main_v28 (F := Ideal) (m ((c : Thread nD τ).loc main_arg0)) (m ((c : Thread nD τ).loc main_arg1)) (m ((c : Thread nD τ).loc main_arg2)) := by sl_kernel_rfl
theorem V24 (c : Dev nD) : V m c main_v24 = padU (m ((c : Thread nD τ).loc main_arg7)) := by sl_kernel_rfl
theorem V26 (c : Dev nD) : V m c main_v26 = modRows (m ((c : Thread nD τ).loc main_arg2)) (m ((c : Thread nD τ).loc main_arg5)) := by sl_kernel_rfl
theorem V31 (c : Dev nD) : V m c main_v31 = padW (m ((c : Thread nD τ).loc main_arg6)) := by sl_kernel_rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] := (by decide +kernel : ∀ t : Fin grid0.N, _)

theorem idxOut : ∀ t : Fin cfg0.N, win0_9.index t = ![t.val, 0] ∧ win0_10.index t = ![t.val, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, _)

/-- Row `r` of a row block at grid point `t`. -/
def row (t : Fin cfg0.N) (r : Fin 256) : Fin 16384 :=
  ⟨t.val * 256 + r.val, by have h : t.val < 64 := lt_of_lt_of_eq t.isLt (by decide); omega⟩

theorem in0 (c : Dev nD) (t : Fin cfg0.N) (r : Fin 256) (k : Fin 6144) :
    iblk m c 0 t (ix2 r k) = padU (m ((c : Thread nD τ).loc main_arg7)) (ix2 (row t r) k) := by
  blk_simp [iblk]
  rw [show ((cfg0.win 0).blk t).view.emb (ix2 r k) = ix2 (row t r) k by blk_ext [idx t, row]]
  exact congrFun (V24 m c) _

theorem in1 (c : Dev nD) (t : Fin cfg0.N) (r : Fin 256) (k : Fin 1024) :
    iblk m c 1 t (ix2 r k) = (m ((c : Thread nD τ).loc main_arg8)) (ix2 (row t r) k) := by blk_ext [iblk, V, idx t, row]

theorem in2 (c : Dev nD) (t : Fin cfg0.N) (r : Fin 256) (k : Fin 1024) :
    iblk m c 2 t (ix2 r k) = val_main_v28 (F := Ideal) (m ((c : Thread nD τ).loc main_arg0)) (m ((c : Thread nD τ).loc main_arg1)) (m ((c : Thread nD τ).loc main_arg2)) (ix2 (row t r) k) := by
  blk_simp [iblk]
  rw [show ((cfg0.win 2).blk t).view.emb (ix2 r k) = ix2 (row t r) k by blk_ext [idx t, row]]
  exact congrFun (V20 m c) _

theorem in3 (c : Dev nD) (t : Fin cfg0.N) (r : Fin 256) (k : Fin 1024) :
    iblk m c 3 t (ix2 r k) = (m ((c : Thread nD τ).loc main_arg1)) (ix2 (row t r) k) := by blk_ext [iblk, V, idx t, row]

theorem in4 (c : Dev nD) (t : Fin cfg0.N) (r : Fin 256) (k : Fin 1) :
    iblk m c 4 t (ix2 r k) = val_main_v23 (F := Ideal) (m ((c : Thread nD τ).loc main_arg0)) (m ((c : Thread nD τ).loc main_arg1)) (m ((c : Thread nD τ).loc main_arg2)) (ix2 (row t r) k) := by
  blk_simp [iblk]
  rw [show ((cfg0.win 4).blk t).view.emb (ix2 r k) = ix2 (row t r) k by blk_ext [idx t, row]]
  exact congrFun (V18 m c) _

theorem in5 (c : Dev nD) (t : Fin cfg0.N) (r : Fin 8) (k : Fin 1024) :
    iblk m c 5 t (ix2 r k) = modRows (m ((c : Thread nD τ).loc main_arg2)) (m ((c : Thread nD τ).loc main_arg5)) (ix2 r k) := by
  blk_simp [iblk]
  rw [show ((cfg0.win 5).blk t).view.emb (ix2 r k) = ix2 r k by blk_ext [idx t]]
  exact congrFun (V26 m c) _

theorem in6 (c : Dev nD) (t : Fin cfg0.N) (k : Fin 1024) :
    iblk m c 6 t (ix2 0 k) = (m ((c : Thread nD τ).loc main_arg3)) (ix2 0 k) := by blk_ext [iblk, V, idx t]

theorem in7 (c : Dev nD) (t : Fin cfg0.N) (k : Fin 1024) :
    iblk m c 7 t (ix2 0 k) = (m ((c : Thread nD τ).loc main_arg4)) (ix2 0 k) := by blk_ext [iblk, V, idx t]

theorem in8 (c : Dev nD) (t : Fin cfg0.N) (r : Fin 6144) (k : Fin 1024) :
    iblk m c 8 t (ix2 r k) = padW (m ((c : Thread nD τ).loc main_arg6)) (ix2 r k) := by
  blk_simp [iblk]
  rw [show ((cfg0.win 8).blk t).view.emb (ix2 r k) = ix2 r k by blk_ext [idx t]]
  exact congrFun (V31 m c) _

end Cert.FfnUpIdeal.Grad

end
-- ==== Proof.Shared.Rows.lean ====
/- Rows of a block and sums over blocks of 256 rows. -/
module

public import Idealize.ShloMosaic.Lib.Pointwise
public import Idealize.ShloMosaic.Lib.Pipeline.ValueKit

@[expose] public section

noncomputable section

namespace Cert.Rows

open Idealize.ShloMosaic

/-- One row is read out of eight. -/
theorem ld_row {n : ℕ} (b : (⟨⟨2, ![8, n]⟩, .f32⟩ : BufTy).Contents (Elt Ideal)) (k : Fin 8)
    (h : ∀ a, (![k.val, 0] : Fin 2 → ℕ) a + (![1, n] : Fin 2 → ℕ) a ≤ (⟨2, ![8, n]⟩ : Shape).size a) (l : Fin n) :
    View.ld b (Rect.unit (s := ⟨2, ![8, n]⟩) ![k.val, 0] ![1, n] h) (ix2 0 l) = b (ix2 k l) := by
  refine congrArg b (funext fun a => Fin.ext ?_)
  fin_cases a
  · rfl
  · exact (Nat.zero_add _).trans (Nat.one_mul _)

/-- A sum that starts at zero and adds the rows of 64 blocks, one after the other, is the sum of all rows. -/
theorem acc_eq {N : ℕ} (hN : N = 64) {ι : Type} (row : Fin N → Fin 256 → Fin 16384) (hrow : ∀ t r, (row t r).val = t.val * 256 + r.val)
    (f : (n : ℕ) → n < N → ι → EReal) (p : Fin N → Fin 256 → ι → EReal) (q : Fin 16384 → ι → EReal)
    (hq : ∀ t r j, p t r j = q (row t r) j)
    (hA : ∀ t : Fin N, t.val % 64 = 0 → ∀ j, f t.val t.isLt j = 0 + ∑ r : Fin 256, p t r j)
    (hB : ∀ t : Fin N, ¬ t.val % 64 = 0 → ∀ j,
      f t.val t.isLt j = f (t.val - 1) (Nat.lt_of_le_of_lt (Nat.sub_le _ _) t.isLt) j + ∑ r : Fin 256, p t r j)
    (t : Fin N) (ht : t.val % 64 = 64 - 1) (j : ι) : f t.val t.isLt j = ∑ n : Fin 16384, q n j := by
  rw [Pipeline.eq_sum_fin_of_reset_step_apply_of_flush f 64 (fun _ => 0) (fun t j => ∑ r : Fin 256, p t r j) hA hB t ht j, zero_add]
  refine ((Fin.sum_univ_tiles 64 256 (by decide) _).trans (Finset.sum_congr rfl fun s _ => Finset.sum_congr rfl fun r _ => ?_)).symm
  have h : t.val < 64 := lt_of_lt_of_eq t.isLt hN
  refine Eq.trans ?_ (hq _ r j).symm
  exact congrArg (q · j) (Fin.ext (by rw [hrow]; simp only []; omega))

end Cert.Rows

end
-- ==== Proof.FfnUp.Body.lean ====
/- The body of the first layer norm's backward call, entry by entry. -/
module

public import proofs.«01_k».proof.Proof.Gen.FfnUpIdeal.Value
public import proofs.«01_k».proof.Proof.Gen.FfnUpRefIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUpIdeal.Grad

open Cert.FfnUpIdeal Cert.FfnUpIdeal.Gen
open Cert.FfnUpRefIdeal.Read

theorem pay5_apply (x : FVec Ideal S256x1024 .f32) (r : Fin 256) (l : Fin 1024) : k0_pay5 (F := Ideal) x (ix2 r l) = x (ix2 r l) := by
  pointwise [k0_pay5]

theorem pay6_apply (q : FVec Ideal S256x1 .f32) (r : Fin 256) : k0_pay6 (F := Ideal) q (ix2 r 0) = q (ix2 r 0) := by
  pointwise [k0_pay6]

theorem pay7_apply (a : FVec Ideal S256x6144 .bf16) (w : FVec Ideal S6144x1024 .bf16) (r : Fin 256) (l : Fin 1024) :
    k0_pay7 (F := Ideal) a w (ix2 r l) = ∑ k : Fin 6144, a (ix2 r k) * w (ix2 k l) := by
  pointwise [k0_pay7]

theorem pay8_apply (x : FVec Ideal S256x1024 .f32) (g b : FVec Ideal S1x1024 .f32) (r : Fin 256) (l : Fin 1024) :
    k0_pay8 (F := Ideal) x g b (ix2 r l) = x (ix2 r l) * g (ix2 0 l) + b (ix2 0 l) := by
  pointwise [k0_pay8, k0_pay5]

theorem pay9_apply (a : FVec Ideal S256x6144 .bf16) (d : FVec Ideal S256x1024 .f32) (w : FVec Ideal S6144x1024 .bf16) (s : FVec Ideal S1x1024 .f32)
    (r : Fin 256) (l : Fin 1024) : k0_pay9 (F := Ideal) a d w s (ix2 r l)
      = Ideal.ofBits .f32 0x3F9837F0#32 * d (ix2 r l) + k0_pay7 (F := Ideal) a w (ix2 r l) * (Ideal.ofBits .f32 0x3F800000#32 + s (ix2 0 l)) := by
  pointwise [k0_pay9]

theorem pay10_apply (a : FVec Ideal S256x6144 .bf16) (d : FVec Ideal S256x1024 .f32) (w : FVec Ideal S6144x1024 .bf16) (s g : FVec Ideal S1x1024 .f32)
    (r : Fin 256) (l : Fin 1024) : k0_pay10 (F := Ideal) a d w s g (ix2 r l) = k0_pay9 (F := Ideal) a d w s (ix2 r l) * g (ix2 0 l) := by
  pointwise [k0_pay10]

theorem pay11_apply (a : FVec Ideal S256x6144 .bf16) (d : FVec Ideal S256x1024 .f32) (w : FVec Ideal S6144x1024 .bf16) (s g : FVec Ideal S1x1024 .f32)
    (r : Fin 256) : k0_pay11 (F := Ideal) a d w s g (ix2 r 0)
      = Ideal.div (∑ k : Fin 1024, k0_pay10 (F := Ideal) a d w s g (ix2 r k)) (Ideal.ofBits .f32 0x44800000#32) := by
  pointwise [k0_pay11]

theorem pay12_apply (a : FVec Ideal S256x6144 .bf16) (d x : FVec Ideal S256x1024 .f32) (w : FVec Ideal S6144x1024 .bf16) (s g : FVec Ideal S1x1024 .f32)
    (r : Fin 256) (l : Fin 1024) : k0_pay12 (F := Ideal) a d x w s g (ix2 r l) = k0_pay10 (F := Ideal) a d w s g (ix2 r l) * x (ix2 r l) := by
  pointwise [k0_pay12, k0_pay5]

theorem pay13_apply (x : FVec Ideal S256x1024 .f32) (q : FVec Ideal S256x1 .f32) (d : FVec Ideal S256x1024 .f32) (μ : FVec Ideal S256x1 .f32)
    (p : FVec Ideal S256x1024 .f32) (r : Fin 256) (l : Fin 1024) : k0_pay13 (F := Ideal) x q d μ p (ix2 r l)
      = q (ix2 r 0) * (d (ix2 r l) - μ (ix2 r 0) - x (ix2 r l) * Ideal.div (∑ k : Fin 1024, p (ix2 r k)) (Ideal.ofBits .f32 0x44800000#32)) := by
  pointwise [k0_pay13]

theorem pay18_apply (x : FVec Ideal S256x1024 .f32) (q : FVec Ideal S256x1 .f32) (d : FVec Ideal S256x1024 .f32) (μ : FVec Ideal S256x1 .f32)
    (p : FVec Ideal S256x1024 .f32) (r : Fin 256) (l : Fin 1024) : k0_pay18 (F := Ideal) x q d μ p (ix2 r l)
      = Ideal.ofBits .f32 0x3F9837F0#32 * k0_pay13 (F := Ideal) x q d μ p (ix2 r l) := by
  pointwise [k0_pay18]

theorem pay19_apply (x : FVec Ideal S256x1024 .f32) (q : FVec Ideal S256x1 .f32) (d : FVec Ideal S256x1024 .f32) (μ : FVec Ideal S256x1 .f32)
    (p : FVec Ideal S256x1024 .f32) (g : FVec Ideal S1x1024 .f32) (r : Fin 256) (l : Fin 1024) : k0_pay19 (F := Ideal) x q d μ p g (ix2 r l)
      = k0_pay13 (F := Ideal) x q d μ p (ix2 r l) * g (ix2 0 l) := by
  pointwise [k0_pay19]

/-! ## The five column sums -/

theorem zeros_apply (j : S1x1024.Idx) : k0_pay20 (F := Ideal) j = (0 : EReal) := by
  pointwise [k0_pay20]

theorem pay25_apply (h x : FVec Ideal S256x1024 .f32) (s : FVec Ideal S1x1024 .f32) (j : S1x1024.Idx) :
    k0_pay25 (F := Ideal) h x s j = s j + ∑ r : Fin 256, h (ix2 r (j 1)) * x (ix2 r (j 1)) := by
  idx_vars j
  pointwise [k0_pay25]

theorem pay1_apply (h : FVec Ideal S256x1024 .f32) (s : FVec Ideal S1x1024 .f32) (j : S1x1024.Idx) :
    k0_pay1 (F := Ideal) (k0_pay14 h) s j = s j + ∑ r : Fin 256, h (ix2 r (j 1)) := by
  idx_vars j
  pointwise [k0_pay1, k0_pay14]

theorem pay2_apply (x h : FVec Ideal S256x1024 .f32) (s : FVec Ideal S1x1024 .f32) (j : S1x1024.Idx) :
    k0_pay2 (F := Ideal) (k0_pay15 x h) s j = s j + ∑ r : Fin 256, h (ix2 r (j 1)) * x (ix2 r (j 1)) := by
  idx_vars j
  pointwise [k0_pay2, k0_pay15]

theorem pay3_apply (h : FVec Ideal S256x1024 .f32) (s : FVec Ideal S1x1024 .f32) (j : S1x1024.Idx) :
    k0_pay3 (F := Ideal) (k0_pay16 h) s j = s j + ∑ r : Fin 256, h (ix2 r (j 1)) := by
  idx_vars j
  pointwise [k0_pay3, k0_pay16]

theorem pay4_apply (x y : FVec Ideal S256x1024 .f32) (q : FVec Ideal S256x1 .f32) (d : FVec Ideal S256x1024 .f32) (μ : FVec Ideal S256x1 .f32)
    (p : FVec Ideal S256x1024 .f32) (s : FVec Ideal S1x1024 .f32) (j : S1x1024.Idx) :
    k0_pay4 (F := Ideal) (k0_pay17 x y q d μ p) s j
      = s j + ∑ r : Fin 256, k0_pay13 (F := Ideal) x q d μ p (ix2 r (j 1)) * y (ix2 r (j 1)) := by
  idx_vars j
  pointwise [k0_pay4, k0_pay17]

end Cert.FfnUpIdeal.Grad

end
-- ==== Proof.FfnUp.Ref.lean ====
/- The derivative of the first layer norm's forward lines, entry by entry. -/
module

public import proofs.«01_k».proof.Proof.Gen.FfnUpRefIdeal.Read
public import proofs.«01_k».proof.Proof.Shared.LayerNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUpRefIdeal.Grad

open Cert.FfnUpRefIdeal
open Cert.FfnUpRefIdeal.Read

open Cert.LayerNorm

variable (x0 x1 : FVec Ideal S16384x1024 .f32) (x2 x3 x4 x5 : FVec Ideal S1x1024 .f32) (x6 : FVec Ideal S1024x5632 .f32)
  (x7 : FVec Ideal S16384x5632 .f32) (x8 : FVec Ideal S16384x1024 .f32)

/-- The residual's row `n`, before its normalisation. -/
abbrev res (n : Fin 16384) (l : Fin 1024) : EReal := val_main_v5 (F := Ideal) x0 x1 x2 (ix2 n l)

/-- The cotangent of the normalised row `n`. -/
abbrev cot (n : Fin 16384) (l : Fin 1024) : EReal := val_main_v52 (F := Ideal) x5 x6 x7 x8 (ix2 n l) * x3 (ix2 0 l)

theorem res_apply (n : Fin 16384) (l : Fin 1024) :
    res x0 x1 x2 n l = Ideal.ofBits .f32 0x3F9837F0#32 * x0 (ix2 n l) + x2 (ix2 0 l) * x1 (ix2 n l) := by
  show val_main_v5 (F := Ideal) x0 x1 x2 (ix2 n l) = _
  pointwise [val_main_v5, val_main_v4, val_main_v3, val_main_v2, val_main_v1, val_main_cst_0]

theorem rstd_apply (n : Fin 16384) : val_main_v23 (F := Ideal) x0 x1 x2 (ix2 n 0) = rstd (res x0 x1 x2 n) := by
  pointwise [val_main_v23, val_main_v22, val_main_v21, val_main_v18, val_main_v17, val_main_v16, val_main_v15, val_main_v12, val_main_v11,
    val_main_v10, val_main_v9, val_main_v8, val_main_v7, val_main_v6, val_main_cst_1, val_main_cst_2, val_main_cst_4, val_main_cst_5, val_main_cst_6,
    rstd, vare, mean, dev]

theorem xhat_apply (n : Fin 16384) (l : Fin 1024) : val_main_v28 (F := Ideal) x0 x1 x2 (ix2 n l) = xhat (res x0 x1 x2 n) l := by
  pointwise [val_main_v28, val_main_v27, val_main_v20, val_main_v19, val_main_v9, val_main_v8, val_main_v7, val_main_v6, val_main_cst_1, val_main_cst_2]
  rw [rstd_apply]
  rfl

theorem hidden_apply (n : Fin 16384) (l : Fin 1024) :
    val_main_v44 (F := Ideal) x6 x7 (ix2 n l) = ∑ k : Fin 5632, x7 (ix2 n k) * x6 (ix2 l k) := by
  pointwise [val_main_v44]

theorem cotangent_apply (n : Fin 16384) (l : Fin 1024) :
    val_main_v52 (F := Ideal) x5 x6 x7 x8 (ix2 n l) = Ideal.ofBits .f32 0x3F9837F0#32 * x8 (ix2 n l)
      + val_main_v44 (F := Ideal) x6 x7 (ix2 n l) * (Ideal.ofBits .f32 0x3F800000#32 + x5 (ix2 0 l)) := by
  pointwise [val_main_v52, val_main_v43, val_main_v42, val_main_v51, val_main_v50, val_main_v34, val_main_v33, val_main_cst_10, val_main_cst_8]

theorem scaled_apply (n : Fin 16384) (l : Fin 1024) :
    val_main_v32 (F := Ideal) x0 x1 x2 x3 x4 (ix2 n l) = val_main_v28 (F := Ideal) x0 x1 x2 (ix2 n l) * x3 (ix2 0 l) + x4 (ix2 0 l) := by
  pointwise [val_main_v32, val_main_v30, val_main_v31, val_main_v29]

theorem sq_apply (n : Fin 16384) (l : Fin 1024) :
    val_main_v73 (F := Ideal) x0 x1 x2 x3 x5 x6 x7 x8 (ix2 n l) = sqR (res x0 x1 x2 n) (cot x3 x5 x6 x7 x8 n) l := by
  pointwise [val_main_v73, val_main_v72, val_main_v71, val_main_v70, val_main_v69, val_main_v65, val_main_v62, val_main_v61, val_main_v60, val_main_v59,
    val_main_v58, val_main_v26, val_main_v25, val_main_v24, val_main_v22, val_main_v21, val_main_v18, val_main_v17, val_main_v16, val_main_v15, val_main_v12, val_main_v20, val_main_v19,
    val_main_v14, val_main_v13, val_main_v11, val_main_v10,
    val_main_v9, val_main_v8, val_main_v7, val_main_v6, val_main_cst_1, val_main_cst_2, val_main_cst_3, val_main_cst_4, val_main_cst_5, val_main_cst_6, val_main_cst_7,
    val_main_cst_15, val_main_cst_17, val_main_cst_18, Fin.sum_univ_one, rstd_apply, sqR, vare, mean, dev]

theorem grad_apply (n : Fin 16384) (l : Fin 1024) :
    val_main_v83 (F := Ideal) x0 x1 x2 x3 x5 x6 x7 x8 (ix2 n l) = gradR (res x0 x1 x2 n) (cot x3 x5 x6 x7 x8 n) l := by
  pointwise [val_main_v83, val_main_v82, val_main_v81, val_main_v80, val_main_v79, val_main_v78, val_main_v77, val_main_v76, val_main_v75, val_main_v74,
    val_main_v68, val_main_v67, val_main_v66, val_main_v64, val_main_v63, val_main_v59, val_main_v58, val_main_cst_16, val_main_cst_19, val_main_cst_20, val_main_cst_21,
    Fin.sum_univ_one, rstd_apply, sq_apply, gradR]

theorem ref91 (n : Fin 16384) (l : Fin 1024) : val_main_v91 (F := Ideal) x0 x1 x2 x3 x5 x6 x7 x8 (ix2 n l)
    = x2 (ix2 0 l) * val_main_v83 (F := Ideal) x0 x1 x2 x3 x5 x6 x7 x8 (ix2 n l) := by
  pointwise [val_main_v91, val_main_v85, val_main_v84]
theorem ref90 (n : Fin 16384) (l : Fin 1024) : val_main_v90 (F := Ideal) x0 x1 x2 x3 x5 x6 x7 x8 (ix2 n l)
    = Ideal.ofBits .f32 0x3F9837F0#32 * val_main_v83 (F := Ideal) x0 x1 x2 x3 x5 x6 x7 x8 (ix2 n l) := by
  pointwise [val_main_v90, val_main_v89, val_main_cst_23]
theorem ref46 (l : Fin 1024) : val_main_v46 (F := Ideal) x6 x7 (ix2 0 l) = ∑ n : Fin 16384, val_main_v44 (F := Ideal) x6 x7 (ix2 n l) := by
  pointwise [val_main_v46, val_main_v45, val_main_cst_11]
theorem ref49 (l : Fin 1024) : val_main_v49 (F := Ideal) x0 x1 x2 x3 x4 x6 x7 (ix2 0 l)
    = ∑ n : Fin 16384, val_main_v32 (F := Ideal) x0 x1 x2 x3 x4 (ix2 n l) * val_main_v44 (F := Ideal) x6 x7 (ix2 n l) := by
  pointwise [val_main_v49, val_main_v48, val_main_v47, val_main_cst_12]
theorem ref54 (l : Fin 1024) : val_main_v54 (F := Ideal) x5 x6 x7 x8 (ix2 0 l) = ∑ n : Fin 16384, val_main_v52 (F := Ideal) x5 x6 x7 x8 (ix2 n l) := by
  pointwise [val_main_v54, val_main_v53, val_main_cst_13]
theorem ref57 (l : Fin 1024) : val_main_v57 (F := Ideal) x0 x1 x2 x5 x6 x7 x8 (ix2 0 l)
    = ∑ n : Fin 16384, val_main_v28 (F := Ideal) x0 x1 x2 (ix2 n l) * val_main_v52 (F := Ideal) x5 x6 x7 x8 (ix2 n l) := by
  pointwise [val_main_v57, val_main_v56, val_main_v55, val_main_cst_14]
theorem ref88 (l : Fin 1024) : val_main_v88 (F := Ideal) x0 x1 x2 x3 x5 x6 x7 x8 (ix2 0 l)
    = ∑ n : Fin 16384, val_main_v83 (F := Ideal) x0 x1 x2 x3 x5 x6 x7 x8 (ix2 n l) * x1 (ix2 n l) := by
  pointwise [val_main_v88, val_main_v87, val_main_v86, val_main_cst_22]

end Cert.FfnUpRefIdeal.Grad

end
-- ==== Proof.FfnUp.Final.lean ====
/- The results of the first layer norm's backward call. -/
module

public import proofs.«01_k».proof.Proof.FfnUp.Host
public import proofs.«01_k».proof.Proof.Shared.Rows
public import proofs.«01_k».proof.Proof.FfnUp.Body
public import proofs.«01_k».proof.Proof.FfnUp.Ref
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUpIdeal.Grad

open Cert.FfnUpIdeal Cert.FfnUpIdeal.Gen
open Cert.FfnUpRefIdeal.Read

open Cert.Padding Cert.LayerNorm Cert.Silu Cert.Rows
open Cert.FfnUpRefIdeal.Grad

variable (m : (ℓ : Loc nD τ sig) → Buf (Elt Ideal) ℓ)

/-! ## The arguments -/

abbrev a0 (c : Dev nD) : FVec Ideal S16384x1024 .f32 := m ((c : Thread nD τ).loc main_arg0)
abbrev a1 (c : Dev nD) : FVec Ideal S16384x1024 .f32 := m ((c : Thread nD τ).loc main_arg1)
abbrev a2 (c : Dev nD) : FVec Ideal S1x1024 .f32 := m ((c : Thread nD τ).loc main_arg2)
abbrev a3 (c : Dev nD) : FVec Ideal S1x1024 .f32 := m ((c : Thread nD τ).loc main_arg3)
abbrev a4 (c : Dev nD) : FVec Ideal S1x1024 .f32 := m ((c : Thread nD τ).loc main_arg4)
abbrev a5 (c : Dev nD) : FVec Ideal S1x1024 .f32 := m ((c : Thread nD τ).loc main_arg5)
abbrev a6 (c : Dev nD) : FVec Ideal S1024x5632 .f32 := m ((c : Thread nD τ).loc main_arg6)
abbrev a7 (c : Dev nD) : FVec Ideal S16384x5632 .f32 := m ((c : Thread nD τ).loc main_arg7)
abbrev a8 (c : Dev nD) : FVec Ideal S16384x1024 .f32 := m ((c : Thread nD τ).loc main_arg8)

/-! ## The values of one block -/

/-- The gate and the scale. -/
abbrev gateRow (c : Dev nD) (t : Fin cfg0.N) : FVec Ideal S1x1024 .f32 := View.ld (iblk m c 5 t) (Rect.unit ![4, 0] ![1, 1024] inb_S8x1024_S1x1024_4_0)
abbrev scaleRow (c : Dev nD) (t : Fin cfg0.N) : FVec Ideal S1x1024 .f32 := View.ld (iblk m c 5 t) (Rect.unit ![6, 0] ![1, 1024] inb_S8x1024_S1x1024_6_0)

theorem gateRow_eq (c : Dev nD) (t : Fin cfg0.N) (l : Fin 1024) : gateRow m c t (ix2 0 l) = (a2 m c) (ix2 0 l) :=
  (ld_row _ 4 _ l).trans ((in5 m c t 4 l).trans (modRows_gate _ _ l))
theorem scaleRow_eq (c : Dev nD) (t : Fin cfg0.N) (l : Fin 1024) : scaleRow m c t (ix2 0 l) = (a5 m c) (ix2 0 l) :=
  (ld_row _ 6 _ l).trans ((in5 m c t 6 l).trans (modRows_scale _ _ l))

/-- The hidden rows' cotangent through the weight, that of the normalised rows before and after their scale, its mean, its
product with the normalised rows, and the residual's cotangent. -/
abbrev bH (c : Dev nD) (t : Fin cfg0.N) : FVec Ideal S256x1024 .f32 := k0_pay7 (F := Ideal) (iblk m c 0 t) (iblk m c 8 t)
abbrev bC (c : Dev nD) (t : Fin cfg0.N) : FVec Ideal S256x1024 .f32 := k0_pay9 (F := Ideal) (iblk m c 0 t) (iblk m c 1 t) (iblk m c 8 t) (scaleRow m c t)
abbrev bD (c : Dev nD) (t : Fin cfg0.N) : FVec Ideal S256x1024 .f32 := k0_pay10 (F := Ideal) (iblk m c 0 t) (iblk m c 1 t) (iblk m c 8 t) (scaleRow m c t) (iblk m c 6 t)
abbrev bM (c : Dev nD) (t : Fin cfg0.N) : FVec Ideal S256x1 .f32 := k0_pay11 (F := Ideal) (iblk m c 0 t) (iblk m c 1 t) (iblk m c 8 t) (scaleRow m c t) (iblk m c 6 t)
abbrev bP (c : Dev nD) (t : Fin cfg0.N) : FVec Ideal S256x1024 .f32 := k0_pay12 (F := Ideal) (iblk m c 0 t) (iblk m c 1 t) (iblk m c 2 t) (iblk m c 8 t) (scaleRow m c t) (iblk m c 6 t)
abbrev bG (c : Dev nD) (t : Fin cfg0.N) : FVec Ideal S256x1024 .f32 := k0_pay13 (F := Ideal) (k0_pay5 (iblk m c 2 t)) (k0_pay6 (iblk m c 4 t)) (bD m c t) (bM m c t) (bP m c t)
abbrev bX (c : Dev nD) (t : Fin cfg0.N) : FVec Ideal S256x1024 .f32 := k0_pay8 (F := Ideal) (iblk m c 2 t) (iblk m c 6 t) (iblk m c 7 t)

/-- The call's arguments, but the bias, are real numbers. -/
structure AllReal (c : Dev nD) : Prop where
  x : ∀ i, IsReal ((a0 m c) i)
  y : ∀ i, IsReal ((a1 m c) i)
  gate : ∀ i, IsReal ((a2 m c) i)
  g : ∀ i, IsReal ((a3 m c) i)
  scale : ∀ i, IsReal ((a5 m c) i)
  w : ∀ i, IsReal ((a6 m c) i)
  du : ∀ i, IsReal ((a7 m c) i)
  dr : ∀ i, IsReal ((a8 m c) i)

/-- The cotangent of the normalised row. -/
abbrev cotM (c : Dev nD) (n : Fin 16384) (l : Fin 1024) : EReal := cot (a3 m c) (a5 m c) (a6 m c) (a7 m c) (a8 m c) n l
abbrev resM (c : Dev nD) (n : Fin 16384) (l : Fin 1024) : EReal := res (a0 m c) (a1 m c) (a2 m c) n l

theorem bH_eq (c : Dev nD) (t : Fin cfg0.N) (r : Fin 256) (l : Fin 1024) :
    bH m c t (ix2 r l) = val_main_v44 (F := Ideal) (a6 m c) (a7 m c) (ix2 (row t r) l) := by
  rw [hidden_apply]
  refine (pay7_apply _ _ r l).trans ((Finset.sum_congr rfl fun k _ => ?_).trans (sum_valid _))
  refine (congrArg₂ (fun a b : EReal => a * b) ((in0 m c t r k).trans (padU_apply _ _ k)) ((in8 m c t k l).trans (padW_apply _ l k))).trans ?_
  split
  · rfl
  · exact zero_mul _

theorem bX_eq (c : Dev nD) (t : Fin cfg0.N) (r : Fin 256) (l : Fin 1024) :
    bX m c t (ix2 r l) = val_main_v32 (F := Ideal) (a0 m c) (a1 m c) (a2 m c) (a3 m c) (a4 m c) (ix2 (row t r) l) := by
  rw [scaled_apply]
  exact (pay8_apply _ _ _ r l).trans (congrArg₂ (fun a b : EReal => a + b)
    (congrArg₂ (fun a b : EReal => a * b) (in2 m c t r l) (in6 m c t l)) (in7 m c t l))

theorem bC_eq (c : Dev nD) (t : Fin cfg0.N) (r : Fin 256) (l : Fin 1024) :
    bC m c t (ix2 r l) = val_main_v52 (F := Ideal) (a5 m c) (a6 m c) (a7 m c) (a8 m c) (ix2 (row t r) l) := by
  rw [cotangent_apply]
  exact (pay9_apply _ _ _ _ r l).trans (congrArg₂ (fun a b : EReal => a + b) (congrArg _ (in1 m c t r l))
    (congrArg₂ (fun a b : EReal => a * b) (bH_eq m c t r l) (congrArg _ (scaleRow_eq m c t l))))

theorem bD_eq (c : Dev nD) (t : Fin cfg0.N) (r : Fin 256) (l : Fin 1024) : bD m c t (ix2 r l) = cotM m c (row t r) l :=
  (pay10_apply _ _ _ _ _ r l).trans (congrArg₂ (fun a b : EReal => a * b) (bC_eq m c t r l) (in6 m c t l))

theorem in2x (c : Dev nD) (t : Fin cfg0.N) (r : Fin 256) (l : Fin 1024) : iblk m c 2 t (ix2 r l) = xhat (resM m c (row t r)) l :=
  (in2 m c t r l).trans (xhat_apply _ _ _ _ l)

theorem bM_eq (c : Dev nD) (t : Fin cfg0.N) (r : Fin 256) : bM m c t (ix2 r 0) = mean (cotM m c (row t r)) :=
  (pay11_apply _ _ _ _ _ r).trans (congrArg (Ideal.div · len) (Finset.sum_congr rfl fun k _ => bD_eq m c t r k))

theorem bP_eq (c : Dev nD) (t : Fin cfg0.N) (r : Fin 256) (l : Fin 1024) :
    bP m c t (ix2 r l) = cotM m c (row t r) l * xhat (resM m c (row t r)) l :=
  (pay12_apply _ _ _ _ _ _ r l).trans (congrArg₂ (fun a b : EReal => a * b) (bD_eq m c t r l) (in2x m c t r l))

theorem consts : IsReal (Ideal.ofBits .f32 0x3F9837F0#32) ∧ IsReal (Ideal.ofBits .f32 0x3F800000#32) := ⟨⟨_, rfl⟩, ⟨_, rfl⟩⟩

theorem res_real (c : Dev nD) (hr : AllReal m c) (n : Fin 16384) (l : Fin 1024) : IsReal (resM m c n l) := by
  have e : resM m c n l = Ideal.ofBits .f32 0x3F9837F0#32 * (a0 m c) (ix2 n l) + (a2 m c) (ix2 0 l) * (a1 m c) (ix2 n l) := res_apply _ _ _ n l
  rw [e]
  exact (consts.1.mul (hr.x _)).add ((hr.gate _).mul (hr.y _))

theorem cot_real (c : Dev nD) (hr : AllReal m c) (n : Fin 16384) (l : Fin 1024) : IsReal (cotM m c n l) := by
  unfold cotM cot
  rw [cotangent_apply, hidden_apply]
  exact ((consts.1.mul (hr.dr _)).add ((IsReal.sum fun k => (hr.du _).mul (hr.w _)).mul (consts.2.add (hr.scale _)))).mul (hr.g _)

theorem bG_eq (c : Dev nD) (hr : AllReal m c) (t : Fin cfg0.N) (r : Fin 256) (l : Fin 1024) :
    bG m c t (ix2 r l) = val_main_v83 (F := Ideal) (a0 m c) (a1 m c) (a2 m c) (a3 m c) (a5 m c) (a6 m c) (a7 m c) (a8 m c) (ix2 (row t r) l) := by
  rw [grad_apply, ← grad_eq (res_real m c hr _) (cot_real m c hr _)]
  refine (pay13_apply _ _ _ _ _ r l).trans ?_
  refine congrArg₂ (fun a b : EReal => a * b) ?_ (congrArg₂ (fun a b : EReal => a - b)
    (congrArg₂ (fun a b : EReal => a - b) (bD_eq m c t r l) (bM_eq m c t r)) (congrArg₂ (fun a b : EReal => a * b) ?_
      (congrArg (Ideal.div · len) (Finset.sum_congr rfl fun k _ => bP_eq m c t r k))))
  · exact (pay6_apply _ r).trans ((in4 m c t r 0).trans (rstd_apply _ _ _ _))
  · exact (pay5_apply _ r l).trans (in2x m c t r l)

/-! ## The two results of rows -/

/-- The cotangent of the gated branch. -/
theorem final9 (c : Dev nD) (hr : AllReal m c) : (dats m 0 c).arrAt 9 cfg0.N = val_main_v91 (F := Ideal) (a0 m c) (a1 m c) (a2 m c) (a3 m c) (a5 m c) (a6 m c) (a7 m c) (a8 m c) := by
  refine (dats m 0 c).arrAt_eq_of_covers 9 _ (by decide +kernel) fun t _ y => ?_
  blk_simp
  rw [after0_9]
  idx_vars y
  rw [show ((cfg0.win 9).blk t).view.emb (ix2 y0 y1) = ix2 (row t y0) y1 by blk_ext [idxOut t, row], ref91]
  have key : k0_pay19 (F := Ideal) (k0_pay5 (iblk m c 2 t)) (k0_pay6 (iblk m c 4 t)) (bD m c t) (bM m c t) (bP m c t) (gateRow m c t) (ix2 y0 y1)
      = (a2 m c) (ix2 0 y1) * val_main_v83 (F := Ideal) (a0 m c) (a1 m c) (a2 m c) (a3 m c) (a5 m c) (a6 m c) (a7 m c) (a8 m c) (ix2 (row t y0) y1) :=
    (pay19_apply _ _ _ _ _ _ y0 y1).trans ((congrArg₂ (fun a b : EReal => a * b) (bG_eq m c hr t y0 y1) (gateRow_eq m c t y1)).trans (mul_comm _ _))
  by_cases h0 : t.val % 64 = 0
  · rw [outsAt0_A m c t h0]; frame_out; exact key
  · rw [outsAt0_B m c t h0]; frame_out; exact key

/-- The cotangent of the layer's input. -/
theorem final10 (c : Dev nD) (hr : AllReal m c) : (dats m 0 c).arrAt 10 cfg0.N = val_main_v90 (F := Ideal) (a0 m c) (a1 m c) (a2 m c) (a3 m c) (a5 m c) (a6 m c) (a7 m c) (a8 m c) := by
  refine (dats m 0 c).arrAt_eq_of_covers 10 _ (by decide +kernel) fun t _ y => ?_
  blk_simp
  rw [after0_10]
  idx_vars y
  rw [show ((cfg0.win 10).blk t).view.emb (ix2 y0 y1) = ix2 (row t y0) y1 by blk_ext [idxOut t, row], ref90]
  have key : k0_pay18 (F := Ideal) (k0_pay5 (iblk m c 2 t)) (k0_pay6 (iblk m c 4 t)) (bD m c t) (bM m c t) (bP m c t) (ix2 y0 y1)
      = Ideal.ofBits .f32 0x3F9837F0#32 * val_main_v83 (F := Ideal) (a0 m c) (a1 m c) (a2 m c) (a3 m c) (a5 m c) (a6 m c) (a7 m c) (a8 m c) (ix2 (row t y0) y1) :=
    (pay18_apply _ _ _ _ _ y0 y1).trans (congrArg _ (bG_eq m c hr t y0 y1))
  by_cases h0 : t.val % 64 = 0
  · rw [outsAt0_A m c t h0]; frame_out; exact key
  · rw [outsAt0_B m c t h0]; frame_out; exact key

/-! ## The five column sums -/

/-- The scale's gradient. -/
theorem final11 (c : Dev nD) : (dats m 0 c).arrAt 11 cfg0.N = val_main_v49 (F := Ideal) (a0 m c) (a1 m c) (a2 m c) (a3 m c) (a4 m c) (a6 m c) (a7 m c) := by
  refine (dats m 0 c).arrAt_eq_of_covers 11 _ (by decide +kernel) fun t hf y => ?_
  blk_simp
  rw [after0_11, show ((cfg0.win 11).blk t).view.emb y = y by blk_ext [idxOut t]]
  refine (acc_eq (by decide) row (fun _ _ => rfl) (fun n h => (outsAt0 m c n h).2.2.1) (fun t r j => bH m c t (ix2 r (j 1)) * bX m c t (ix2 r (j 1)))
    (fun n j => val_main_v44 (F := Ideal) (a6 m c) (a7 m c) (ix2 n (j 1)) * val_main_v32 (F := Ideal) (a0 m c) (a1 m c) (a2 m c) (a3 m c) (a4 m c) (ix2 n (j 1)))
    (fun t r j => congrArg₂ (fun a b : EReal => a * b) (bH_eq m c t r _) (bX_eq m c t r _))
    (fun t h j => by rw [outsAt0_A m c t h]; frame_out; exact (pay25_apply _ _ _ j).trans (congrArg (fun a : EReal => a + _) (zeros_apply j)))
    (fun t h j => by rw [outsAt0_B m c t h]; frame_out; exact pay25_apply _ _ _ j) t ((flush0_11 t).mp hf) y).trans ?_
  idx_vars y
  obtain rfl : y0 = 0 := Subsingleton.elim _ _
  rw [ref49]
  exact Finset.sum_congr rfl fun n _ => mul_comm _ _

/-- The shift's gradient. -/
theorem final12 (c : Dev nD) : (dats m 0 c).arrAt 12 cfg0.N = val_main_v46 (F := Ideal) (a6 m c) (a7 m c) := by
  refine (dats m 0 c).arrAt_eq_of_covers 12 _ (by decide +kernel) fun t hf y => ?_
  blk_simp
  rw [after0_12, show ((cfg0.win 12).blk t).view.emb y = y by blk_ext [idxOut t]]
  refine (acc_eq (by decide) row (fun _ _ => rfl) (fun n h => (outsAt0 m c n h).2.2.2.1) (fun t r j => bH m c t (ix2 r (j 1)))
    (fun n j => val_main_v44 (F := Ideal) (a6 m c) (a7 m c) (ix2 n (j 1)))
    (fun t r j => bH_eq m c t r _)
    (fun t h j => by rw [outsAt0_A m c t h]; frame_out; exact (pay1_apply _ _ j).trans (congrArg (fun a : EReal => a + _) (zeros_apply j)))
    (fun t h j => by rw [outsAt0_B m c t h]; frame_out; exact pay1_apply _ _ j) t ((flush0_12 t).mp hf) y).trans ?_
  idx_vars y
  obtain rfl : y0 = 0 := Subsingleton.elim _ _
  rw [ref46]

/-- The gradient of the normalisation's scale. -/
theorem final13 (c : Dev nD) : (dats m 0 c).arrAt 13 cfg0.N = val_main_v57 (F := Ideal) (a0 m c) (a1 m c) (a2 m c) (a5 m c) (a6 m c) (a7 m c) (a8 m c) := by
  refine (dats m 0 c).arrAt_eq_of_covers 13 _ (by decide +kernel) fun t hf y => ?_
  blk_simp
  rw [after0_13, show ((cfg0.win 13).blk t).view.emb y = y by blk_ext [idxOut t]]
  refine (acc_eq (by decide) row (fun _ _ => rfl) (fun n h => (outsAt0 m c n h).2.2.2.2.1) (fun t r j => bC m c t (ix2 r (j 1)) * k0_pay5 (F := Ideal) (iblk m c 2 t) (ix2 r (j 1)))
    (fun n j => val_main_v52 (F := Ideal) (a5 m c) (a6 m c) (a7 m c) (a8 m c) (ix2 n (j 1)) * val_main_v28 (F := Ideal) (a0 m c) (a1 m c) (a2 m c) (ix2 n (j 1)))
    (fun t r j => congrArg₂ (fun a b : EReal => a * b) (bC_eq m c t r _) ((pay5_apply _ r _).trans (in2 m c t r _)))
    (fun t h j => by rw [outsAt0_A m c t h]; frame_out; exact (pay2_apply _ _ _ j).trans (congrArg (fun a : EReal => a + _) (zeros_apply j)))
    (fun t h j => by rw [outsAt0_B m c t h]; frame_out; exact pay2_apply _ _ _ j) t ((flush0_13 t).mp hf) y).trans ?_
  idx_vars y
  obtain rfl : y0 = 0 := Subsingleton.elim _ _
  rw [ref57]
  exact Finset.sum_congr rfl fun n _ => mul_comm _ _

/-- The gradient of the normalisation's bias. -/
theorem final14 (c : Dev nD) : (dats m 0 c).arrAt 14 cfg0.N = val_main_v54 (F := Ideal) (a5 m c) (a6 m c) (a7 m c) (a8 m c) := by
  refine (dats m 0 c).arrAt_eq_of_covers 14 _ (by decide +kernel) fun t hf y => ?_
  blk_simp
  rw [after0_14, show ((cfg0.win 14).blk t).view.emb y = y by blk_ext [idxOut t]]
  refine (acc_eq (by decide) row (fun _ _ => rfl) (fun n h => (outsAt0 m c n h).2.2.2.2.2.1) (fun t r j => bC m c t (ix2 r (j 1)))
    (fun n j => val_main_v52 (F := Ideal) (a5 m c) (a6 m c) (a7 m c) (a8 m c) (ix2 n (j 1)))
    (fun t r j => bC_eq m c t r _)
    (fun t h j => by rw [outsAt0_A m c t h]; frame_out; exact (pay3_apply _ _ j).trans (congrArg (fun a : EReal => a + _) (zeros_apply j)))
    (fun t h j => by rw [outsAt0_B m c t h]; frame_out; exact pay3_apply _ _ j) t ((flush0_14 t).mp hf) y).trans ?_
  idx_vars y
  obtain rfl : y0 = 0 := Subsingleton.elim _ _
  rw [ref54]

/-- The gate's gradient. -/
theorem final15 (c : Dev nD) (hr : AllReal m c) : (dats m 0 c).arrAt 15 cfg0.N = val_main_v88 (F := Ideal) (a0 m c) (a1 m c) (a2 m c) (a3 m c) (a5 m c) (a6 m c) (a7 m c) (a8 m c) := by
  refine (dats m 0 c).arrAt_eq_of_covers 15 _ (by decide +kernel) fun t hf y => ?_
  blk_simp
  rw [after0_15, show ((cfg0.win 15).blk t).view.emb y = y by blk_ext [idxOut t]]
  refine (acc_eq (by decide) row (fun _ _ => rfl) (fun n h => (outsAt0 m c n h).2.2.2.2.2.2) (fun t r j => bG m c t (ix2 r (j 1)) * iblk m c 3 t (ix2 r (j 1)))
    (fun n j => val_main_v83 (F := Ideal) (a0 m c) (a1 m c) (a2 m c) (a3 m c) (a5 m c) (a6 m c) (a7 m c) (a8 m c) (ix2 n (j 1)) * a1 m c (ix2 n (j 1)))
    (fun t r j => congrArg₂ (fun a b : EReal => a * b) (bG_eq m c hr t r _) (in3 m c t r _))
    (fun t h j => by rw [outsAt0_A m c t h]; frame_out; exact (pay4_apply _ _ _ _ _ _ _ j).trans (congrArg (fun a : EReal => a + _) (zeros_apply j)))
    (fun t h j => by rw [outsAt0_B m c t h]; frame_out; exact pay4_apply _ _ _ _ _ _ _ j) t ((flush0_15 t).mp hf) y).trans ?_
  idx_vars y
  obtain rfl : y0 = 0 := Subsingleton.elim _ _
  rw [ref88]

end Cert.FfnUpIdeal.Grad

end
-- ==== Proof.FfnUp.Claim.lean ====
/- The backward call of the first layer norm and the product with the up weights: kernel and reference give the same seven arrays. -/
module

public import proofs.«01_k».proof.Defs
public import proofs.«01_k».proof.Proof.FfnUp.Final
public import proofs.«01_k».proof.Proof.Gen.FfnUpRefIdeal.Run

@[expose] public section

set_option maxRecDepth 16384

noncomputable section

open Idealize.ShloMosaic Idealize.ShloMosaic.TcCoe Idealize.SL.Sem

namespace Cert.FfnUpIdeal.Grad

open Cert.FfnUpIdeal Cert.FfnUpIdeal.Gen

set_option maxHeartbeats 1600000 in
/-- Over the reals the call returns the derivative of the layer norm, the modulation and the product, in all seven results. -/
theorem algebraic [Cert.Pre_finite_ffn_up.Facts] : Cert.algebraic_FfnUpIdeal_FfnUpRefIdeal_pre_finite_ffn_up := by
  intro m g m' g' hpre hagree
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, ?_, ?_⟩
  · run_from Cert.FfnUpIdeal.Value.run_blocks m g
  · refine (θ_run Cert.FfnUpRefIdeal.defs _ _).mono (fun r h c => ?_) (Cert.FfnUpRefIdeal.Value.run m' g')
    have hr : AllReal m c :=
      ⟨fun i => Cert.Silu.IsReal.of_toReal (Cert.Softmax.real_of_cmp (congrFun (hpre c).1 i)),
        fun i => Cert.Silu.IsReal.of_toReal (Cert.Softmax.real_of_cmp (congrFun (hpre c).2.1 i)),
        fun i => Cert.Silu.IsReal.of_toReal (Cert.Softmax.real_of_cmp (congrFun (hpre c).2.2.1 i)),
        fun i => Cert.Silu.IsReal.of_toReal (Cert.Softmax.real_of_cmp (congrFun (hpre c).2.2.2.1 i)),
        fun i => Cert.Silu.IsReal.of_toReal (Cert.Softmax.real_of_cmp (congrFun (hpre c).2.2.2.2.1 i)),
        fun i => Cert.Silu.IsReal.of_toReal (Cert.Softmax.real_of_cmp (congrFun (hpre c).2.2.2.2.2.1 i)),
        fun i => Cert.Silu.IsReal.of_toReal (Cert.Softmax.real_of_cmp (congrFun (hpre c).2.2.2.2.2.2.1 i)),
        fun i => Cert.Silu.IsReal.of_toReal (Cert.Softmax.real_of_cmp (congrFun (hpre c).2.2.2.2.2.2.2 i))⟩
    obtain ⟨e0, e1, e2, e3, e4, e5, e6, rest⟩ := h c
    obtain ⟨h0, h1, h2, h3, h4, h5, h6, h7, h8⟩ := hagree c
    refine ⟨e0.trans ?_, e1.trans ?_, e2.trans ?_, e3.trans ?_, e4.trans ?_, e5.trans ?_, e6.trans ?_, rest⟩
    · refine (Cert.FfnUpRefIdeal.Read.val_main_v91_eq (F := Ideal) m' c).trans ?_
      simp only [h0, h1, h2, h3, h4, h5, h6, h7, h8]
      exact (final9 m c hr).symm
    · refine (Cert.FfnUpRefIdeal.Read.val_main_v90_eq (F := Ideal) m' c).trans ?_
      simp only [h0, h1, h2, h3, h4, h5, h6, h7, h8]
      exact (final10 m c hr).symm
    · refine (Cert.FfnUpRefIdeal.Read.val_main_v49_eq (F := Ideal) _ _ _ _ _ _ _).trans ?_
      simp only [h0, h1, h2, h3, h4, h5, h6, h7, h8]
      exact (final11 m c).symm
    · refine (Cert.FfnUpRefIdeal.Read.val_main_v46_eq (F := Ideal) _ _).trans ?_
      simp only [h0, h1, h2, h3, h4, h5, h6, h7, h8]
      exact (final12 m c).symm
    · refine (Cert.FfnUpRefIdeal.Read.val_main_v57_eq (F := Ideal) _ _ _ _ _ _ _).trans ?_
      simp only [h0, h1, h2, h3, h4, h5, h6, h7, h8]
      exact (final13 m c).symm
    · refine (Cert.FfnUpRefIdeal.Read.val_main_v54_eq (F := Ideal) _ _ _ _).trans ?_
      simp only [h0, h1, h2, h3, h4, h5, h6, h7, h8]
      exact (final14 m c).symm
    · refine (Cert.FfnUpRefIdeal.Read.val_main_v88_eq (F := Ideal) m' c).trans ?_
      simp only [h0, h1, h2, h3, h4, h5, h6, h7, h8]
      exact (final15 m c hr).symm

end Cert.FfnUpIdeal.Grad

end
-- ==== Proof.FfnDown.Host.lean ====
/- The arrays the host lays out for the call with the second layer norm and the loss. -/
module

public import proofs.«01_k».proof.Proof.Gen.FfnDownIdeal.Value
public import proofs.«01_k».proof.Proof.Gen.FfnDownRefIdeal.Read
public import proofs.«01_k».proof.Proof.Shared.Padding
public import proofs.«01_k».proof.Proof.Shared.LayerNorm
public import proofs.«01_k».proof.Proof.Shared.Rows
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownIdeal.Grad

open Cert.FfnDownIdeal Cert.FfnDownIdeal.Gen
open Cert.FfnDownRefIdeal.Read

open Cert.Padding

/-- The zero that fills the padding. -/
abbrev fill : FVec Ideal S_ .bf16 := sitofp (F := Ideal) .bf16 (constantI S_ 32 0#32)

/-- The gated rows, in the padded columns. -/
def padA (x : FVec Ideal S16384x2816 .f32) : FVec Ideal S16384x3072 .bf16 :=
  transpose S16384x3072 [1, 0] (shapeCast S3072x16384 (pad S4x768x16384 ![0, 0, 0] ![0, 64, 0] ![0, 0, 0]
    (shapeCast S4x704x16384 (transpose S2816x16384 [1, 0] (truncf .bf16 x bitsLt_bf16_f32) transposes_S16384x2816_S2816x16384_1_0)
      shapeCasts_S2816x16384_S4x704x16384) fill
    pads_S4x704x16384_S4x768x16384_000_0640_000 h_S_) shapeCasts_S4x768x16384_S3072x16384) transposes_S3072x16384_S16384x3072_1_0

/-- The weight, in the padded rows. -/
def padW (x : FVec Ideal S2816x1024 .f32) : FVec Ideal S3072x1024 .bf16 :=
  shapeCast S3072x1024 (pad S4x768x1024 ![0, 0, 0] ![0, 64, 0] ![0, 0, 0]
    (shapeCast S4x704x1024 (truncf .bf16 x bitsLt_bf16_f32) shapeCasts_S2816x1024_S4x704x1024) fill
    pads_S4x704x1024_S4x768x1024_000_0640_000 h_S_) shapeCasts_S4x768x1024_S3072x1024

theorem fill0 : (FloatOps.sitofp FTy.bf16 (0#32 : BitVec 32) : Ideal .bf16) = (0 : EReal) := by
  show (((0#32 : BitVec 32).toInt : ℝ) : EReal) = 0
  simp

theorem padA_apply (x : FVec Ideal S16384x2816 .f32) (r : Fin 16384) (k : Fin 3072) :
    padA x (ix2 r k) = if valid k.val then x (ix2 r (srcH k)) else (0 : EReal) := by
  pointwise [padA]
  by_cases h : valid k.val
  · rw [if_pos h, dif_pos ⟨by omega, h⟩]
    exact congrArg x (congrArg (ix2 r) (Fin.ext (by simp only [srcH]; exact congrArg _ (if_pos h).symm)))
  · rw [if_neg h, dif_neg fun h' => h h'.2, fill0]

theorem padW_apply (x : FVec Ideal S2816x1024 .f32) (l : Fin 1024) (k : Fin 3072) :
    padW x (ix2 k l) = if valid k.val then x (ix2 (srcH k) l) else (0 : EReal) := by
  pointwise [padW]
  by_cases h : valid k.val
  · rw [if_pos h, dif_pos ⟨by omega, h⟩]
    exact congrArg (fun q => x (ix2 q l)) (Fin.ext (by simp only [srcH]; exact congrArg _ (if_pos h).symm))
  · rw [if_neg h, dif_neg fun h' => h h'.2, fill0]

/-- A row of zeros. -/
abbrev zeros : FVec Ideal S1x1024 .f32 := broadcastInDim S1x1024 ![] bcast_S_S1x1024 (constant (F := Ideal) S_ .f32 0x00000000#32)

/-- The modulation's rows, of which the call reads the last, the gate. -/
def modRows (g : FVec Ideal S1x1024 .f32) : FVec Ideal S8x1024 .f32 :=
  concatenate S8x1024 0 [⟨S1x1024, zeros⟩, ⟨S1x1024, zeros⟩, ⟨S1x1024, zeros⟩, ⟨S1x1024, zeros⟩, ⟨S1x1024, zeros⟩, ⟨S1x1024, zeros⟩,
    ⟨S1x1024, zeros⟩, ⟨S1x1024, g⟩] concatenates_S1x1024_S1x1024_S1x1024_S1x1024_S1x1024_S1x1024_S1x1024_S1x1024_S8x1024_d0

theorem modRows_gate (g : FVec Ideal S1x1024 .f32) (l : Fin 1024) : modRows g (ix2 7 l) = g (ix2 0 l) := by
  pointwise [modRows]

variable (m : (ℓ : Loc nD τ sig) → Buf (Elt Ideal) ℓ)

/-! ## The arguments -/

abbrev a0 (c : Dev nD) : FVec Ideal S16384x1024 .f32 := m ((c : Thread nD τ).loc main_arg0)
abbrev a1 (c : Dev nD) : FVec Ideal S1x1024 .f32 := m ((c : Thread nD τ).loc main_arg1)
abbrev a2 (c : Dev nD) : FVec Ideal S1x1024 .f32 := m ((c : Thread nD τ).loc main_arg2)
abbrev a3 (c : Dev nD) : FVec Ideal S16384x2816 .f32 := m ((c : Thread nD τ).loc main_arg3)
abbrev a4 (c : Dev nD) : FVec Ideal S1x1024 .f32 := m ((c : Thread nD τ).loc main_arg4)
abbrev a5 (c : Dev nD) : FVec Ideal S1x1024 .f32 := m ((c : Thread nD τ).loc main_arg5)
abbrev a6 (c : Dev nD) : FVec Ideal S1x1024 .f32 := m ((c : Thread nD τ).loc main_arg6)
abbrev a7 (c : Dev nD) : FVec Ideal S2816x1024 .f32 := m ((c : Thread nD τ).loc main_arg7)
abbrev a8 (c : Dev nD) : FVec Ideal S16384x1024 .f32 := m ((c : Thread nD τ).loc main_arg8)

theorem V15 (c : Dev nD) : V m c main_v15 = val_main_v17 (F := Ideal) (a0 m c) := by sl_kernel_rfl
theorem V21 (c : Dev nD) : V m c main_v21 = padA (a3 m c) := by sl_kernel_rfl
theorem V23 (c : Dev nD) : V m c main_v23 = modRows (a4 m c) := by sl_kernel_rfl
theorem V27 (c : Dev nD) : V m c main_v27 = padW (a7 m c) := by sl_kernel_rfl

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] := (by decide +kernel : ∀ t : Fin grid0.N, _)

theorem idxOut : ∀ t : Fin cfg0.N, win0_9.index t = ![t.val, 0] ∧ win0_10.index t = ![t.val, 0] ∧ win0_11.index t = ![0, 0]
    ∧ win0_12.index t = ![0, 0] ∧ win0_13.index t = ![0, 0] ∧ win0_14.index t = ![0, 0] :=
  (by decide +kernel : ∀ t : Fin grid0.N, _)

/-- Row `r` of a row block at grid point `t`. -/
def row (t : Fin cfg0.N) (r : Fin 256) : Fin 16384 :=
  ⟨t.val * 256 + r.val, by have h : t.val < 64 := lt_of_lt_of_eq t.isLt (by decide); omega⟩

theorem in0 (c : Dev nD) (t : Fin cfg0.N) (r : Fin 256) (k : Fin 3072) : iblk m c 0 t (ix2 r k) = padA (a3 m c) (ix2 (row t r) k) := by
  blk_simp [iblk]
  rw [show ((cfg0.win 0).blk t).view.emb (ix2 r k) = ix2 (row t r) k by blk_ext [idx t, row]]
  exact congrFun (V21 m c) _

theorem in1 (c : Dev nD) (t : Fin cfg0.N) (r : Fin 256) (k : Fin 1024) : iblk m c 1 t (ix2 r k) = val_main_v17 (F := Ideal) (a0 m c) (ix2 (row t r) k) := by
  blk_simp [iblk]
  rw [show ((cfg0.win 1).blk t).view.emb (ix2 r k) = ix2 (row t r) k by blk_ext [idx t, row]]
  exact congrFun (V15 m c) _

theorem in2 (c : Dev nD) (t : Fin cfg0.N) (r : Fin 256) (k : Fin 1024) : iblk m c 2 t (ix2 r k) = (a8 m c) (ix2 (row t r) k) := by
  blk_ext [iblk, V, idx t, row]

theorem in3 (c : Dev nD) (t : Fin cfg0.N) (r : Fin 8) (k : Fin 1024) : iblk m c 3 t (ix2 r k) = modRows (a4 m c) (ix2 r k) := by
  blk_simp [iblk]
  rw [show ((cfg0.win 3).blk t).view.emb (ix2 r k) = ix2 r k by blk_ext [idx t, row]]
  exact congrFun (V23 m c) _

theorem in8 (c : Dev nD) (t : Fin cfg0.N) (r : Fin 3072) (k : Fin 1024) : iblk m c 8 t (ix2 r k) = padW (a7 m c) (ix2 r k) := by
  blk_simp [iblk]
  rw [show ((cfg0.win 8).blk t).view.emb (ix2 r k) = ix2 r k by blk_ext [idx t, row]]
  exact congrFun (V27 m c) _

theorem in4 (c : Dev nD) (t : Fin cfg0.N) (k : Fin 1024) : iblk m c 4 t (ix2 0 k) = (a1 m c) (ix2 0 k) := by blk_ext [iblk, V, idx t]
theorem in5 (c : Dev nD) (t : Fin cfg0.N) (k : Fin 1024) : iblk m c 5 t (ix2 0 k) = (a2 m c) (ix2 0 k) := by blk_ext [iblk, V, idx t]
theorem in6 (c : Dev nD) (t : Fin cfg0.N) (k : Fin 1024) : iblk m c 6 t (ix2 0 k) = (a5 m c) (ix2 0 k) := by blk_ext [iblk, V, idx t]
theorem in7 (c : Dev nD) (t : Fin cfg0.N) (k : Fin 1024) : iblk m c 7 t (ix2 0 k) = (a6 m c) (ix2 0 k) := by blk_ext [iblk, V, idx t]

end Cert.FfnDownIdeal.Grad

end
-- ==== Proof.FfnDown.Body.lean ====
/- The values the call with the second layer norm computes, entry by entry. -/
module

public import proofs.«01_k».proof.Proof.Gen.FfnDownIdeal.Value
public import proofs.«01_k».proof.Proof.Gen.FfnDownRefIdeal.Read
public import proofs.«01_k».proof.Proof.Shared.LayerNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownIdeal.Grad

open Cert.FfnDownIdeal Cert.FfnDownIdeal.Gen
open Cert.FfnDownRefIdeal.Read

open Cert.LayerNorm

section
variable (a : FVec Ideal S256x3072 .bf16) (x : FVec Ideal S256x1024 .f32) (w : FVec Ideal S3072x1024 .bf16) (g b q : FVec Ideal S1x1024 .f32)

theorem pay10_apply (r : Fin 256) (l : Fin 1024) :
    k0_pay10 (F := Ideal) a w (ix2 r l) = ∑ k : Fin 3072, a (ix2 r k) * w (ix2 k l) := by
  pointwise [k0_pay10]

/-- The second residual's row, before its normalisation. -/
def resK (r : Fin 256) (l : Fin 1024) : EReal :=
  Ideal.ofBits .f32 0x3F9837F0#32 * (x (ix2 r l) * g (ix2 0 l) + b (ix2 0 l)) + q (ix2 0 l) * k0_pay10 (F := Ideal) a w (ix2 r l)

theorem pay12_apply (r : Fin 256) (l : Fin 1024) : k0_pay12 (F := Ideal) a x w g b q (ix2 r l) = dev (resK a x w g b q r) l := by
  pointwise [k0_pay12, k0_pay11, dev, mean, resK]

theorem pay13_apply (r : Fin 256) : k0_pay13 (F := Ideal) a x w g b q (ix2 r 0) = rstd (resK a x w g b q r) := by
  pointwise [k0_pay13, pay12_apply, rstd, vare, mean]

theorem pay14_apply (r : Fin 256) (l : Fin 1024) : k0_pay14 (F := Ideal) a x w g b q (ix2 r l) = xhat (resK a x w g b q r) l := by
  pointwise [k0_pay14, pay12_apply, pay13_apply, xhat]

end

variable (y x : FVec Ideal S256x1024 .f32) (s : FVec Ideal S256x1 .f32) (g b p : FVec Ideal S1x1024 .f32)

theorem pay15_apply (r : Fin 256) (l : Fin 1024) :
    k0_pay15 (F := Ideal) y x g b (ix2 r l) = x (ix2 r l) * g (ix2 0 l) + b (ix2 0 l) - y (ix2 r l) := by
  pointwise [k0_pay15]

theorem pay17_apply (r : Fin 256) (l : Fin 1024) :
    k0_pay17 (F := Ideal) y x g b (ix2 r l) = k0_pay15 (F := Ideal) y x g b (ix2 r l) * Ideal.ofBits .f32 0x3A800000#32 := by
  pointwise [k0_pay17]

theorem pay18_apply (r : Fin 256) (l : Fin 1024) : k0_pay18 (F := Ideal) y s x g b p (ix2 r l)
    = s (ix2 r 0) * (k0_pay17 (F := Ideal) y x g b (ix2 r l) * p (ix2 0 l) - mean (fun k => k0_pay17 (F := Ideal) y x g b (ix2 r k) * p (ix2 0 k))
      - x (ix2 r l) * mean fun k => k0_pay17 (F := Ideal) y x g b (ix2 r k) * p (ix2 0 k) * x (ix2 r k)) := by
  pointwise [k0_pay18, mean]

theorem pay1_apply (r : Fin 256) (l : Fin 1024) : k0_pay1 (F := Ideal) (k0_pay11 g) x (ix2 r l) = x (ix2 r l) * g (ix2 0 l) := by
  pointwise [k0_pay1, k0_pay11]

/-! ## The loss and the three column sums -/

theorem zero_apply (j : S1x1.Idx) : k0_pay2 (F := Ideal) j = (0 : EReal) := by
  pointwise [k0_pay2]

theorem zeros_apply (j : S1x1024.Idx) : k0_pay3 (F := Ideal) j = (0 : EReal) := by
  pointwise [k0_pay3]

theorem pay6_apply (v : FVec Ideal S1x1 .f32) (j : S1x1.Idx) : k0_pay6 (F := Ideal) (k0_pay16 y x g b) v j
    = v j + Ideal.ofBits .f32 0x3F000000#32 * ∑ r : Fin 256, mean fun l => k0_pay15 (F := Ideal) y x g b (ix2 r l) * k0_pay15 (F := Ideal) y x g b (ix2 r l) := by
  idx_vars j
  obtain rfl : j0 = 0 := Subsingleton.elim _ _
  obtain rfl : j1 = 0 := Subsingleton.elim _ _
  pointwise [k0_pay6, k0_pay16, mean]

theorem pay7_apply (v : FVec Ideal S1x1024 .f32) (j : S1x1024.Idx) : k0_pay7 (F := Ideal) (k0_pay19 y x g b) v j
    = v j + ∑ r : Fin 256, k0_pay17 (F := Ideal) y x g b (ix2 r (j 1)) * x (ix2 r (j 1)) := by
  idx_vars j
  pointwise [k0_pay7, k0_pay19]

theorem pay8_apply (v : FVec Ideal S1x1024 .f32) (j : S1x1024.Idx) : k0_pay8 (F := Ideal) (k0_pay20 y x g b) v j
    = v j + ∑ r : Fin 256, k0_pay17 (F := Ideal) y x g b (ix2 r (j 1)) := by
  idx_vars j
  pointwise [k0_pay8, k0_pay20]

theorem pay9_apply (z : FVec Ideal S256x1024 .f32) (v : FVec Ideal S1x1024 .f32) (j : S1x1024.Idx) :
    k0_pay9 (F := Ideal) (k0_pay21 y z s x g b p) v j
      = v j + ∑ r : Fin 256, k0_pay18 (F := Ideal) y s x g b p (ix2 r (j 1)) * z (ix2 r (j 1)) := by
  idx_vars j
  pointwise [k0_pay9, k0_pay21]

end Cert.FfnDownIdeal.Grad

end
-- ==== Proof.FfnDown.Ref.lean ====
/- The derivative of the second layer norm and the loss, entry by entry. -/
module

public import proofs.«01_k».proof.Proof.Gen.FfnDownRefIdeal.Read
public import proofs.«01_k».proof.Proof.Shared.LayerNorm
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownRefIdeal.Grad

open Cert.FfnDownRefIdeal
open Cert.FfnDownRefIdeal.Read

open Cert.LayerNorm

variable (x0 : FVec Ideal S16384x1024 .f32) (x1 x2 : FVec Ideal S1x1024 .f32) (x3 : FVec Ideal S16384x2816 .f32)
  (x4 x5 x6 : FVec Ideal S1x1024 .f32) (x7 : FVec Ideal S2816x1024 .f32) (x8 : FVec Ideal S16384x1024 .f32)

/-- The second residual's row `n`, before its normalisation. -/
abbrev res (n : Fin 16384) (l : Fin 1024) : EReal := val_main_v27 (F := Ideal) x0 x1 x2 x3 x4 x7 (ix2 n l)

/-- The cotangent of the normalised row `n`. -/
abbrev cot (n : Fin 16384) (l : Fin 1024) : EReal := val_main_v69 (F := Ideal) x0 x1 x2 x3 x4 x5 x6 x7 x8 (ix2 n l) * x5 (ix2 0 l)

/-- The first layer's normalised row. -/
theorem first_apply (n : Fin 16384) (l : Fin 1024) : val_main_v17 (F := Ideal) x0 (ix2 n l) = xhat (fun k => x0 (ix2 n k)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1, val_main_cst_2, val_main_cst_3, xhat, rstd, vare, mean, dev]

theorem branch_apply (n : Fin 16384) (l : Fin 1024) : val_main_v24 (F := Ideal) x3 x7 (ix2 n l) = ∑ k : Fin 2816, x3 (ix2 n k) * x7 (ix2 k l) := by
  pointwise [val_main_v24]

theorem res_apply (n : Fin 16384) (l : Fin 1024) : res x0 x1 x2 x3 x4 x7 n l
    = Ideal.ofBits .f32 0x3F9837F0#32 * (val_main_v17 (F := Ideal) x0 (ix2 n l) * x1 (ix2 0 l) + x2 (ix2 0 l)) + x4 (ix2 0 l) * val_main_v24 (F := Ideal) x3 x7 (ix2 n l) := by
  show val_main_v27 (F := Ideal) x0 x1 x2 x3 x4 x7 (ix2 n l) = _
  pointwise [val_main_v27, val_main_v26, val_main_v25, val_main_v23, val_main_v22, val_main_v21, val_main_v20, val_main_v19, val_main_v18, val_main_cst_4]

theorem dev_apply (n : Fin 16384) (l : Fin 1024) : val_main_v42 (F := Ideal) x0 x1 x2 x3 x4 x7 (ix2 n l) = dev (res x0 x1 x2 x3 x4 x7 n) l := by
  pointwise [val_main_v42, val_main_v41, val_main_v31, val_main_v30, val_main_v29, val_main_v28, val_main_cst_5, val_main_cst_6, dev, mean]

theorem var_apply (n : Fin 16384) : val_main_v44 (F := Ideal) x0 x1 x2 x3 x4 x7 (ix2 n 0) = vare (res x0 x1 x2 x3 x4 x7 n) := by
  pointwise [val_main_v44, val_main_v43, val_main_v40, val_main_v39, val_main_v38, val_main_v37, val_main_v34, val_main_v33, val_main_v32, val_main_v31, val_main_v30, val_main_v29, val_main_v28, val_main_cst_5, val_main_cst_6, val_main_cst_8, val_main_cst_9, val_main_cst_10, vare, dev, mean]

theorem rstd_apply (n : Fin 16384) : val_main_v45 (F := Ideal) x0 x1 x2 x3 x4 x7 (ix2 n 0) = rstd (res x0 x1 x2 x3 x4 x7 n) := by
  pointwise [val_main_v45, var_apply, rstd]

theorem xhat_apply (n : Fin 16384) (l : Fin 1024) : val_main_v50 (F := Ideal) x0 x1 x2 x3 x4 x7 (ix2 n l) = xhat (res x0 x1 x2 x3 x4 x7 n) l := by
  pointwise [val_main_v50, val_main_v49, dev_apply, rstd_apply, xhat]

theorem diff_apply (n : Fin 16384) (l : Fin 1024) :
    val_main_v55 (F := Ideal) x0 x1 x2 x3 x4 x5 x6 x7 x8 (ix2 n l) = xhat (res x0 x1 x2 x3 x4 x7 n) l * x5 (ix2 0 l) + x6 (ix2 0 l) - x8 (ix2 n l) := by
  pointwise [val_main_v55, val_main_v54, val_main_v53, val_main_v52, val_main_v51, xhat_apply]

theorem dout_apply (n : Fin 16384) (l : Fin 1024) : val_main_v69 (F := Ideal) x0 x1 x2 x3 x4 x5 x6 x7 x8 (ix2 n l)
    = Ideal.div (Ideal.ofBits .f32 0x3F000000#32 * Ideal.ofBits .f32 0x3F800000#32) len * (Ideal.ofBits .f32 0x40000000#32 * val_main_v55 (F := Ideal) x0 x1 x2 x3 x4 x5 x6 x7 x8 (ix2 n l)) := by
  pointwise [val_main_v69, val_main_v68, val_main_v67, val_main_v66, val_main_v65, val_main_v64, val_main_v58, val_main_v57, val_main_cst_12, val_main_cst_17, val_main_cst_18, val_main_cst_19]

theorem sq_apply (n : Fin 16384) (l : Fin 1024) :
    val_main_v90 (F := Ideal) x0 x1 x2 x3 x4 x5 x6 x7 x8 (ix2 n l) = sqR (res x0 x1 x2 x3 x4 x7 n) (cot x0 x1 x2 x3 x4 x5 x6 x7 x8 n) l := by
  have h : val_main_v33 (F := Ideal) x0 x1 x2 x3 x4 x7 (ix2 n l) = dev (res x0 x1 x2 x3 x4 x7 n) l := dev_apply _ _ _ _ _ _ n l
  pointwise [val_main_v90, val_main_v89, val_main_v88, val_main_v87, val_main_v86, val_main_v82, val_main_v79, val_main_v78, val_main_v77, val_main_v76, val_main_v75, val_main_v48, val_main_v47, val_main_v46, val_main_v36, val_main_v35, val_main_cst_7, val_main_cst_11, val_main_cst_22, val_main_cst_24, val_main_cst_25, Fin.sum_univ_one, h, dev_apply, var_apply, rstd_apply, sqR]

theorem grad_apply (n : Fin 16384) (l : Fin 1024) :
    val_main_v100 (F := Ideal) x0 x1 x2 x3 x4 x5 x6 x7 x8 (ix2 n l) = gradR (res x0 x1 x2 x3 x4 x7 n) (cot x0 x1 x2 x3 x4 x5 x6 x7 x8 n) l := by
  pointwise [val_main_v100, val_main_v99, val_main_v98, val_main_v97, val_main_v96, val_main_v95, val_main_v94, val_main_v93, val_main_v92, val_main_v91, val_main_v85, val_main_v84, val_main_v83, val_main_v81, val_main_v80, val_main_v76, val_main_v75, val_main_cst_23, val_main_cst_26, val_main_cst_27, val_main_cst_28, Fin.sum_univ_one, rstd_apply, sq_apply, gradR]

theorem ref106 (n : Fin 16384) (l : Fin 1024) : val_main_v106 (F := Ideal) x0 x1 x2 x3 x4 x5 x6 x7 x8 (ix2 n l) = x4 (ix2 0 l) * val_main_v100 (F := Ideal) x0 x1 x2 x3 x4 x5 x6 x7 x8 (ix2 n l) := by
  pointwise [val_main_v106, val_main_v102, val_main_v101]

theorem ref107 : val_main_v107 (F := Ideal) x0 x1 x2 x3 x4 x5 x6 x7 x8 (ix2 0 0)
    = Ideal.ofBits .f32 0x3F000000#32 * ∑ n : Fin 16384, mean fun l => val_main_v55 (F := Ideal) x0 x1 x2 x3 x4 x5 x6 x7 x8 (ix2 n l) * val_main_v55 (F := Ideal) x0 x1 x2 x3 x4 x5 x6 x7 x8 (ix2 n l) := by
  pointwise [val_main_v107, val_main_v63, val_main_v62, val_main_v61, val_main_v60, val_main_v59, val_main_v56, val_main_cst_13, val_main_cst_14, val_main_cst_15, val_main_cst_16, mean]

theorem ref74 (l : Fin 1024) : val_main_v74 (F := Ideal) x0 x1 x2 x3 x4 x5 x6 x7 x8 (ix2 0 l) = ∑ n : Fin 16384, val_main_v50 (F := Ideal) x0 x1 x2 x3 x4 x7 (ix2 n l) * val_main_v69 (F := Ideal) x0 x1 x2 x3 x4 x5 x6 x7 x8 (ix2 n l) := by
  pointwise [val_main_v74, val_main_v73, val_main_v72, val_main_cst_21]

theorem ref71 (l : Fin 1024) : val_main_v71 (F := Ideal) x0 x1 x2 x3 x4 x5 x6 x7 x8 (ix2 0 l) = ∑ n : Fin 16384, val_main_v69 (F := Ideal) x0 x1 x2 x3 x4 x5 x6 x7 x8 (ix2 n l) := by
  pointwise [val_main_v71, val_main_v70, val_main_cst_20]

theorem ref105 (l : Fin 1024) : val_main_v105 (F := Ideal) x0 x1 x2 x3 x4 x5 x6 x7 x8 (ix2 0 l) = ∑ n : Fin 16384, val_main_v100 (F := Ideal) x0 x1 x2 x3 x4 x5 x6 x7 x8 (ix2 n l) * val_main_v24 (F := Ideal) x3 x7 (ix2 n l) := by
  pointwise [val_main_v105, val_main_v104, val_main_v103, val_main_cst_29]

end Cert.FfnDownRefIdeal.Grad

end
-- ==== Proof.FfnDown.Final.lean ====
/- The six results of the call with the second layer norm and the loss are those of the derivative. -/
module

public import proofs.«01_k».proof.Proof.FfnDown.Host
public import proofs.«01_k».proof.Proof.FfnDown.Body
public import proofs.«01_k».proof.Proof.FfnDown.Ref
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownIdeal.Grad

open Cert.FfnDownIdeal Cert.FfnDownIdeal.Gen
open Cert.FfnDownRefIdeal.Read

open Cert.Padding Cert.LayerNorm Cert.Silu Cert.Rows
open Cert.FfnDownRefIdeal.Grad

variable (m : (ℓ : Loc nD τ sig) → Buf (Elt Ideal) ℓ)

/-! ## The values of one block -/

/-- The gate. -/
abbrev gateRow (c : Dev nD) (t : Fin cfg0.N) : FVec Ideal S1x1024 .f32 := View.ld (iblk m c 3 t) (Rect.unit ![7, 0] ![1, 1024] inb_S8x1024_S1x1024_7_0)

theorem gateRow_eq (c : Dev nD) (t : Fin cfg0.N) (l : Fin 1024) : gateRow m c t (ix2 0 l) = (a4 m c) (ix2 0 l) :=
  (ld_row _ 7 _ l).trans ((in3 m c t 7 l).trans (modRows_gate _ l))

/-- The branch, the reciprocal deviation, the normalised rows, their distance from the target, its cotangent, and the residual's. -/
abbrev bY (c : Dev nD) (t : Fin cfg0.N) : FVec Ideal S256x1024 .f32 := k0_pay10 (F := Ideal) (iblk m c 0 t) (iblk m c 8 t)
abbrev bS (c : Dev nD) (t : Fin cfg0.N) : FVec Ideal S256x1 .f32 := k0_pay13 (F := Ideal) (iblk m c 0 t) (iblk m c 1 t) (iblk m c 8 t) (iblk m c 4 t) (iblk m c 5 t) (gateRow m c t)
abbrev bX (c : Dev nD) (t : Fin cfg0.N) : FVec Ideal S256x1024 .f32 := k0_pay14 (F := Ideal) (iblk m c 0 t) (iblk m c 1 t) (iblk m c 8 t) (iblk m c 4 t) (iblk m c 5 t) (gateRow m c t)
abbrev bD (c : Dev nD) (t : Fin cfg0.N) : FVec Ideal S256x1024 .f32 := k0_pay15 (F := Ideal) (iblk m c 2 t) (bX m c t) (iblk m c 6 t) (iblk m c 7 t)
abbrev bO (c : Dev nD) (t : Fin cfg0.N) : FVec Ideal S256x1024 .f32 := k0_pay17 (F := Ideal) (iblk m c 2 t) (bX m c t) (iblk m c 6 t) (iblk m c 7 t)
abbrev bG (c : Dev nD) (t : Fin cfg0.N) : FVec Ideal S256x1024 .f32 := k0_pay18 (F := Ideal) (iblk m c 2 t) (bS m c t) (bX m c t) (iblk m c 6 t) (iblk m c 7 t) (iblk m c 6 t)

/-- The call's arguments are real numbers. -/
structure AllReal (c : Dev nD) : Prop where
  r : ∀ i, IsReal ((a0 m c) i)
  g1 : ∀ i, IsReal ((a1 m c) i)
  b1 : ∀ i, IsReal ((a2 m c) i)
  a : ∀ i, IsReal ((a3 m c) i)
  gate : ∀ i, IsReal ((a4 m c) i)
  g2 : ∀ i, IsReal ((a5 m c) i)
  b2 : ∀ i, IsReal ((a6 m c) i)
  w : ∀ i, IsReal ((a7 m c) i)
  target : ∀ i, IsReal ((a8 m c) i)

abbrev resM (c : Dev nD) (n : Fin 16384) (l : Fin 1024) : EReal := res (a0 m c) (a1 m c) (a2 m c) (a3 m c) (a4 m c) (a7 m c) n l
abbrev cotM (c : Dev nD) (n : Fin 16384) (l : Fin 1024) : EReal := cot (a0 m c) (a1 m c) (a2 m c) (a3 m c) (a4 m c) (a5 m c) (a6 m c) (a7 m c) (a8 m c) n l

theorem bY_eq (c : Dev nD) (t : Fin cfg0.N) (r : Fin 256) (l : Fin 1024) :
    bY m c t (ix2 r l) = val_main_v24 (F := Ideal) (a3 m c) (a7 m c) (ix2 (row t r) l) := by
  rw [branch_apply]
  refine (pay10_apply _ _ r l).trans ((Finset.sum_congr rfl fun k _ => ?_).trans (sum_validH _))
  refine (congrArg₂ (fun a b : EReal => a * b) ((in0 m c t r k).trans (padA_apply _ _ k)) ((in8 m c t k l).trans (padW_apply _ l k))).trans ?_
  split
  · rfl
  · exact zero_mul _

/-- The residual's rows in a block are the rows of the whole. -/
theorem resK_eq (c : Dev nD) (t : Fin cfg0.N) (r : Fin 256) :
    resK (iblk m c 0 t) (iblk m c 1 t) (iblk m c 8 t) (iblk m c 4 t) (iblk m c 5 t) (gateRow m c t) r = resM m c (row t r) :=
  funext fun l => (congrArg₂ (fun a b : EReal => a + b)
    (congrArg (fun a : EReal => Ideal.ofBits .f32 0x3F9837F0#32 * a) (congrArg₂ (fun a b : EReal => a + b)
      (congrArg₂ (fun a b : EReal => a * b) (in1 m c t r l) (in4 m c t l)) (in5 m c t l)))
    (congrArg₂ (fun a b : EReal => a * b) (gateRow_eq m c t l) (bY_eq m c t r l))).trans (res_apply _ _ _ _ _ _ _ l).symm

theorem bS_eq (c : Dev nD) (t : Fin cfg0.N) (r : Fin 256) : bS m c t (ix2 r 0) = rstd (resM m c (row t r)) :=
  (pay13_apply _ _ _ _ _ _ r).trans (congrArg rstd (resK_eq m c t r))

theorem bX_eq (c : Dev nD) (t : Fin cfg0.N) (r : Fin 256) (l : Fin 1024) : bX m c t (ix2 r l) = xhat (resM m c (row t r)) l :=
  (pay14_apply _ _ _ _ _ _ r l).trans (congrArg (fun u => xhat u l) (resK_eq m c t r))

theorem bD_eq (c : Dev nD) (t : Fin cfg0.N) (r : Fin 256) (l : Fin 1024) : bD m c t (ix2 r l) = val_main_v55 (F := Ideal) (a0 m c) (a1 m c) (a2 m c) (a3 m c) (a4 m c) (a5 m c) (a6 m c) (a7 m c) (a8 m c) (ix2 (row t r) l) := by
  rw [diff_apply]
  exact (pay15_apply _ _ _ _ r l).trans (congrArg₂ (fun a b : EReal => a - b) (congrArg₂ (fun a b : EReal => a + b)
    (congrArg₂ (fun a b : EReal => a * b) (bX_eq m c t r l) (in6 m c t l)) (in7 m c t l)) (in2 m c t r l))

/-- A half over the row's length, times two, is one over the row's length. -/
theorem factor : Ideal.div (Ideal.ofBits .f32 0x3F000000#32 * Ideal.ofBits .f32 0x3F800000#32) len * Ideal.ofBits .f32 0x40000000#32
    = Ideal.ofBits .f32 0x3A800000#32 := by
  have h : Ideal.ofBits .f32 0x3F000000#32 = ((1 / 2 : ℝ) : EReal) := by
    norm_num [Ideal.ofBits, Ideal.ieee, Nat.shiftRight_eq_div_pow, show BitVec.extractLsb' 31 1 (1056964608#32 : BitVec 32) = 0#1 by decide]
  have h1 : Ideal.ofBits .f32 0x3F800000#32 = ((1 : ℝ) : EReal) := by
    norm_num [Ideal.ofBits, Ideal.ieee, Nat.shiftRight_eq_div_pow, show BitVec.extractLsb' 31 1 (1065353216#32 : BitVec 32) = 0#1 by decide]
  have h2 : Ideal.ofBits .f32 0x3A800000#32 = ((1 / 1024 : ℝ) : EReal) := by
    norm_num [Ideal.ofBits, Ideal.ieee, Nat.shiftRight_eq_div_pow, show BitVec.extractLsb' 31 1 (981467136#32 : BitVec 32) = 0#1 by decide]
  rw [h, h1, h2, two_eq, len_eq, ← EReal.coe_mul, Cert.Softmax.div_coe_coe _ (by norm_num), ← EReal.coe_mul]
  norm_num

theorem bO_eq (c : Dev nD) (t : Fin cfg0.N) (r : Fin 256) (l : Fin 1024) : bO m c t (ix2 r l) = val_main_v69 (F := Ideal) (a0 m c) (a1 m c) (a2 m c) (a3 m c) (a4 m c) (a5 m c) (a6 m c) (a7 m c) (a8 m c) (ix2 (row t r) l) := by
  rw [dout_apply, ← mul_assoc, factor, mul_comm]
  exact (pay17_apply _ _ _ _ r l).trans (congrArg (fun a : EReal => a * Ideal.ofBits .f32 0x3A800000#32) (bD_eq m c t r l))

theorem half_real : IsReal (Ideal.ofBits .f32 0x3F000000#32) := ⟨_, rfl⟩
theorem alpha_real : IsReal (Ideal.ofBits .f32 0x3F9837F0#32) := ⟨_, rfl⟩
theorem inv_real : IsReal (Ideal.ofBits .f32 0x3A800000#32) := ⟨_, rfl⟩

theorem branch_real (c : Dev nD) (hr : AllReal m c) (n : Fin 16384) (l : Fin 1024) : IsReal (val_main_v24 (F := Ideal) (a3 m c) (a7 m c) (ix2 n l)) := by
  rw [branch_apply]
  exact IsReal.sum fun k => (hr.a _).mul (hr.w _)

theorem res_real (c : Dev nD) (hr : AllReal m c) (n : Fin 16384) (l : Fin 1024) : IsReal (resM m c n l) := by
  unfold resM
  rw [res_apply, first_apply]
  exact (alpha_real.mul (((IsReal.xhat (fun k => hr.r _) l).mul (hr.g1 _)).add (hr.b1 _))).add
    ((hr.gate _).mul (branch_real m c hr n l))

theorem diff_real (c : Dev nD) (hr : AllReal m c) (n : Fin 16384) (l : Fin 1024) : IsReal (val_main_v55 (F := Ideal) (a0 m c) (a1 m c) (a2 m c) (a3 m c) (a4 m c) (a5 m c) (a6 m c) (a7 m c) (a8 m c) (ix2 n l)) := by
  rw [diff_apply]
  exact (((IsReal.xhat (res_real m c hr n) l).mul (hr.g2 _)).add (hr.b2 _)).sub (hr.target _)

theorem cot_real (c : Dev nD) (hr : AllReal m c) (n : Fin 16384) (l : Fin 1024) : IsReal (cotM m c n l) := by
  unfold cotM cot
  rw [dout_apply, ← mul_assoc, factor]
  exact (inv_real.mul (diff_real m c hr n l)).mul (hr.g2 _)

theorem bC_eq (c : Dev nD) (t : Fin cfg0.N) (r : Fin 256) (l : Fin 1024) :
    bO m c t (ix2 r l) * iblk m c 6 t (ix2 0 l) = cotM m c (row t r) l :=
  congrArg₂ (fun a b : EReal => a * b) (bO_eq m c t r l) (in6 m c t l)

theorem bG_eq (c : Dev nD) (hr : AllReal m c) (t : Fin cfg0.N) (r : Fin 256) (l : Fin 1024) :
    bG m c t (ix2 r l) = val_main_v100 (F := Ideal) (a0 m c) (a1 m c) (a2 m c) (a3 m c) (a4 m c) (a5 m c) (a6 m c) (a7 m c) (a8 m c) (ix2 (row t r) l) := by
  rw [grad_apply, ← grad_eq (res_real m c hr _) (cot_real m c hr _)]
  refine (pay18_apply _ _ _ _ _ _ r l).trans ?_
  exact congrArg₂ (fun a b : EReal => a * b) (bS_eq m c t r) (congrArg₂ (fun a b : EReal => a - b)
    (congrArg₂ (fun a b : EReal => a - b) (bC_eq m c t r l) (congrArg mean (funext fun k => bC_eq m c t r k)))
    (congrArg₂ (fun a b : EReal => a * b) (bX_eq m c t r l)
      (congrArg mean (funext fun k => congrArg₂ (fun a b : EReal => a * b) (bC_eq m c t r k) (bX_eq m c t r k)))))

/-- A real factor goes into a sum of reals. -/
theorem mul_sum_real {ι : Type} [Fintype ι] {a : EReal} {f : ι → EReal} (ha : IsReal a) (hf : ∀ i, IsReal (f i)) : a * ∑ i, f i = ∑ i, a * f i := by
  obtain ⟨r, rfl⟩ := ha
  choose g hg using hf
  simp only [hg, ← EReal.coe_mul, Cert.Softmax.coe_sum, Finset.mul_sum]

/-! ## The two results of rows -/

/-- The residual's cotangent. -/
theorem final9 (c : Dev nD) (hr : AllReal m c) : (dats m 0 c).arrAt 9 cfg0.N = val_main_v100 (F := Ideal) (a0 m c) (a1 m c) (a2 m c) (a3 m c) (a4 m c) (a5 m c) (a6 m c) (a7 m c) (a8 m c) := by
  refine (dats m 0 c).arrAt_eq_of_covers 9 _ (by decide +kernel) fun t _ y => ?_
  blk_simp
  rw [after0_9]
  idx_vars y
  rw [show ((cfg0.win 9).blk t).view.emb (ix2 y0 y1) = ix2 (row t y0) y1 by blk_ext [idxOut t, row]]
  have key := bG_eq m c hr t y0 y1
  by_cases h0 : t.val % 64 = 0
  · rw [outsAt0_A m c t h0]; frame_out; exact key
  · rw [outsAt0_B m c t h0]; frame_out; exact key

/-- The branch's cotangent. -/
theorem final10 (c : Dev nD) (hr : AllReal m c) : (dats m 0 c).arrAt 10 cfg0.N = val_main_v106 (F := Ideal) (a0 m c) (a1 m c) (a2 m c) (a3 m c) (a4 m c) (a5 m c) (a6 m c) (a7 m c) (a8 m c) := by
  refine (dats m 0 c).arrAt_eq_of_covers 10 _ (by decide +kernel) fun t _ y => ?_
  blk_simp
  rw [after0_10]
  idx_vars y
  rw [show ((cfg0.win 10).blk t).view.emb (ix2 y0 y1) = ix2 (row t y0) y1 by blk_ext [idxOut t, row], ref106]
  have key := (pay1_apply (bG m c t) (gateRow m c t) y0 y1).trans ((congrArg₂ (fun a b : EReal => a * b) (bG_eq m c hr t y0 y1) (gateRow_eq m c t y1)).trans (mul_comm _ _))
  by_cases h0 : t.val % 64 = 0
  · rw [outsAt0_A m c t h0]; frame_out; exact key
  · rw [outsAt0_B m c t h0]; frame_out; exact key

/-! ## The loss and the column sums -/

/-- The loss. -/
theorem final11 (c : Dev nD) (hr : AllReal m c) : (dats m 0 c).arrAt 11 cfg0.N = val_main_v107 (F := Ideal) (a0 m c) (a1 m c) (a2 m c) (a3 m c) (a4 m c) (a5 m c) (a6 m c) (a7 m c) (a8 m c) := by
  refine (dats m 0 c).arrAt_eq_of_covers 11 _ (by decide +kernel) fun t hf y => ?_
  blk_simp
  rw [after0_11, show ((cfg0.win 11).blk t).view.emb y = y by blk_ext [idxOut t]]
  have hm : ∀ n, IsReal (mean fun l => val_main_v55 (F := Ideal) (a0 m c) (a1 m c) (a2 m c) (a3 m c) (a4 m c) (a5 m c) (a6 m c) (a7 m c) (a8 m c) (ix2 n l) * val_main_v55 (F := Ideal) (a0 m c) (a1 m c) (a2 m c) (a3 m c) (a4 m c) (a5 m c) (a6 m c) (a7 m c) (a8 m c) (ix2 n l)) :=
    fun n => IsReal.mean fun l => (diff_real m c hr n l).mul (diff_real m c hr n l)
  have hb : ∀ t : Fin cfg0.N, Ideal.ofBits .f32 0x3F000000#32 * ∑ r : Fin 256, mean (fun l => bD m c t (ix2 r l) * bD m c t (ix2 r l))
      = ∑ r : Fin 256, Ideal.ofBits .f32 0x3F000000#32 * mean fun l => bD m c t (ix2 r l) * bD m c t (ix2 r l) := fun t =>
    mul_sum_real half_real fun r => by simp only [bD_eq]; exact hm (row t r)
  refine (acc_eq (by decide) row (fun _ _ => rfl) (fun n h => (outsAt0 m c n h).2.2.1)
    (fun t r _ => Ideal.ofBits .f32 0x3F000000#32 * mean fun l => bD m c t (ix2 r l) * bD m c t (ix2 r l))
    (fun n _ => Ideal.ofBits .f32 0x3F000000#32 * mean fun l => val_main_v55 (F := Ideal) (a0 m c) (a1 m c) (a2 m c) (a3 m c) (a4 m c) (a5 m c) (a6 m c) (a7 m c) (a8 m c) (ix2 n l) * val_main_v55 (F := Ideal) (a0 m c) (a1 m c) (a2 m c) (a3 m c) (a4 m c) (a5 m c) (a6 m c) (a7 m c) (a8 m c) (ix2 n l))
    (fun t r _ => by simp only [bD_eq])
    (fun t h j => by
      rw [outsAt0_A m c t h]; frame_out
      exact (pay6_apply _ _ _ _ _ j).trans (congrArg₂ (fun a b : EReal => a + b) (zero_apply j) (hb t)))
    (fun t h j => by
      rw [outsAt0_B m c t h]; frame_out
      exact (pay6_apply _ _ _ _ _ j).trans (congrArg (fun a : EReal => _ + a) (hb t))) t ((flush0_11 t).mp hf) y).trans ?_
  idx_vars y
  obtain rfl : y0 = 0 := Subsingleton.elim _ _
  obtain rfl : y1 = 0 := Subsingleton.elim _ _
  rw [ref107]
  exact (mul_sum_real half_real hm).symm

/-- The gradient of the scale. -/
theorem final12 (c : Dev nD) : (dats m 0 c).arrAt 12 cfg0.N = val_main_v74 (F := Ideal) (a0 m c) (a1 m c) (a2 m c) (a3 m c) (a4 m c) (a5 m c) (a6 m c) (a7 m c) (a8 m c) := by
  refine (dats m 0 c).arrAt_eq_of_covers 12 _ (by decide +kernel) fun t hf y => ?_
  blk_simp
  rw [after0_12, show ((cfg0.win 12).blk t).view.emb y = y by blk_ext [idxOut t]]
  refine (acc_eq (by decide) row (fun _ _ => rfl) (fun n h => (outsAt0 m c n h).2.2.2.1) (fun t r j => bO m c t (ix2 r (j 1)) * bX m c t (ix2 r (j 1)))
    (fun n j => val_main_v50 (F := Ideal) (a0 m c) (a1 m c) (a2 m c) (a3 m c) (a4 m c) (a7 m c) (ix2 n (j 1)) * val_main_v69 (F := Ideal) (a0 m c) (a1 m c) (a2 m c) (a3 m c) (a4 m c) (a5 m c) (a6 m c) (a7 m c) (a8 m c) (ix2 n (j 1)))
    (fun t r j => (congrArg₂ (fun a b : EReal => a * b) (bO_eq m c t r _) ((bX_eq m c t r _).trans (xhat_apply _ _ _ _ _ _ _ _).symm)).trans (mul_comm _ _))
    (fun t h j => by rw [outsAt0_A m c t h]; frame_out; exact (pay7_apply _ _ _ _ _ j).trans (congrArg (fun a : EReal => a + _) (zeros_apply j)))
    (fun t h j => by rw [outsAt0_B m c t h]; frame_out; exact pay7_apply _ _ _ _ _ j) t ((flush0_12 t).mp hf) y).trans ?_
  idx_vars y
  obtain rfl : y0 = 0 := Subsingleton.elim _ _
  rw [ref74]

/-- The gradient of the bias. -/
theorem final13 (c : Dev nD) : (dats m 0 c).arrAt 13 cfg0.N = val_main_v71 (F := Ideal) (a0 m c) (a1 m c) (a2 m c) (a3 m c) (a4 m c) (a5 m c) (a6 m c) (a7 m c) (a8 m c) := by
  refine (dats m 0 c).arrAt_eq_of_covers 13 _ (by decide +kernel) fun t hf y => ?_
  blk_simp
  rw [after0_13, show ((cfg0.win 13).blk t).view.emb y = y by blk_ext [idxOut t]]
  refine (acc_eq (by decide) row (fun _ _ => rfl) (fun n h => (outsAt0 m c n h).2.2.2.2.1) (fun t r j => bO m c t (ix2 r (j 1)))
    (fun n j => val_main_v69 (F := Ideal) (a0 m c) (a1 m c) (a2 m c) (a3 m c) (a4 m c) (a5 m c) (a6 m c) (a7 m c) (a8 m c) (ix2 n (j 1)))
    (fun t r j => bO_eq m c t r _)
    (fun t h j => by rw [outsAt0_A m c t h]; frame_out; exact (pay8_apply _ _ _ _ _ j).trans (congrArg (fun a : EReal => a + _) (zeros_apply j)))
    (fun t h j => by rw [outsAt0_B m c t h]; frame_out; exact pay8_apply _ _ _ _ _ j) t ((flush0_13 t).mp hf) y).trans ?_
  idx_vars y
  obtain rfl : y0 = 0 := Subsingleton.elim _ _
  rw [ref71]

/-- The gradient of the gate. -/
theorem final14 (c : Dev nD) (hr : AllReal m c) : (dats m 0 c).arrAt 14 cfg0.N = val_main_v105 (F := Ideal) (a0 m c) (a1 m c) (a2 m c) (a3 m c) (a4 m c) (a5 m c) (a6 m c) (a7 m c) (a8 m c) := by
  refine (dats m 0 c).arrAt_eq_of_covers 14 _ (by decide +kernel) fun t hf y => ?_
  blk_simp
  rw [after0_14, show ((cfg0.win 14).blk t).view.emb y = y by blk_ext [idxOut t]]
  refine (acc_eq (by decide) row (fun _ _ => rfl) (fun n h => (outsAt0 m c n h).2.2.2.2.2) (fun t r j => bG m c t (ix2 r (j 1)) * bY m c t (ix2 r (j 1)))
    (fun n j => val_main_v100 (F := Ideal) (a0 m c) (a1 m c) (a2 m c) (a3 m c) (a4 m c) (a5 m c) (a6 m c) (a7 m c) (a8 m c) (ix2 n (j 1)) * val_main_v24 (F := Ideal) (a3 m c) (a7 m c) (ix2 n (j 1)))
    (fun t r j => congrArg₂ (fun a b : EReal => a * b) (bG_eq m c hr t r _) (bY_eq m c t r _))
    (fun t h j => by rw [outsAt0_A m c t h]; frame_out; exact (pay9_apply _ _ _ _ _ _ _ _ j).trans (congrArg (fun a : EReal => a + _) (zeros_apply j)))
    (fun t h j => by rw [outsAt0_B m c t h]; frame_out; exact pay9_apply _ _ _ _ _ _ _ _ j) t ((flush0_14 t).mp hf) y).trans ?_
  idx_vars y
  obtain rfl : y0 = 0 := Subsingleton.elim _ _
  rw [ref105]

end Cert.FfnDownIdeal.Grad

end
-- ==== Proof.FfnDown.Claim.lean ====
/- The call with the second layer norm and the loss: kernel and reference give the same six arrays. -/
module

public import proofs.«01_k».proof.Defs
public import proofs.«01_k».proof.Proof.FfnDown.Final
public import proofs.«01_k».proof.Proof.Gen.FfnDownRefIdeal.Run

@[expose] public section

set_option maxRecDepth 16384

noncomputable section

open Idealize.ShloMosaic Idealize.ShloMosaic.TcCoe Idealize.SL.Sem

namespace Cert.FfnDownIdeal.Grad

open Cert.FfnDownIdeal Cert.FfnDownIdeal.Gen

set_option maxHeartbeats 1600000 in
/-- Over the reals the call returns the loss and the derivative of the layer norm and the loss, in all six results, for real arguments. -/
theorem algebraic [Cert.Pre_finite_ffn_down.Facts] : Cert.algebraic_FfnDownIdeal_FfnDownRefIdeal_pre_finite_ffn_down := by
  intro m g m' g' hpre hagree
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, ?_, ?_⟩
  · run_from Cert.FfnDownIdeal.Value.run_blocks m g
  · refine (θ_run Cert.FfnDownRefIdeal.defs _ _).mono (fun r h c => ?_) (Cert.FfnDownRefIdeal.Value.run m' g')
    have hr : AllReal m c :=
      ⟨fun i => Cert.Silu.IsReal.of_toReal (Cert.Softmax.real_of_cmp (congrFun (hpre c).1 i)),
        fun i => Cert.Silu.IsReal.of_toReal (Cert.Softmax.real_of_cmp (congrFun (hpre c).2.1 i)),
        fun i => Cert.Silu.IsReal.of_toReal (Cert.Softmax.real_of_cmp (congrFun (hpre c).2.2.1 i)),
        fun i => Cert.Silu.IsReal.of_toReal (Cert.Softmax.real_of_cmp (congrFun (hpre c).2.2.2.1 i)),
        fun i => Cert.Silu.IsReal.of_toReal (Cert.Softmax.real_of_cmp (congrFun (hpre c).2.2.2.2.1 i)),
        fun i => Cert.Silu.IsReal.of_toReal (Cert.Softmax.real_of_cmp (congrFun (hpre c).2.2.2.2.2.1 i)),
        fun i => Cert.Silu.IsReal.of_toReal (Cert.Softmax.real_of_cmp (congrFun (hpre c).2.2.2.2.2.2.1 i)),
        fun i => Cert.Silu.IsReal.of_toReal (Cert.Softmax.real_of_cmp (congrFun (hpre c).2.2.2.2.2.2.2.1 i)),
        fun i => Cert.Silu.IsReal.of_toReal (Cert.Softmax.real_of_cmp (congrFun (hpre c).2.2.2.2.2.2.2.2 i))⟩
    obtain ⟨e0, e1, e2, e3, e4, e5, rest⟩ := h c
    obtain ⟨h0, h1, h2, h3, h4, h5, h6, h7, h8⟩ := hagree c
    refine ⟨e0.trans ?_, e1.trans ?_, e2.trans ?_, e3.trans ?_, e4.trans ?_, e5.trans ?_, rest⟩
    · refine (Cert.FfnDownRefIdeal.Read.val_main_v100_eq (F := Ideal) _).trans ?_
      simp only [h0, h1, h2, h3, h4, h5, h6, h7, h8]
      exact (final9 m c hr).symm
    · refine (Cert.FfnDownRefIdeal.Read.val_main_v106_eq (F := Ideal) _).trans ?_
      simp only [h0, h1, h2, h3, h4, h5, h6, h7, h8]
      exact (final10 m c hr).symm
    · refine (Cert.FfnDownRefIdeal.Read.val_main_v107_eq (F := Ideal) _).trans ?_
      simp only [h0, h1, h2, h3, h4, h5, h6, h7, h8]
      exact (final11 m c hr).symm
    · refine (Cert.FfnDownRefIdeal.Read.val_main_v74_eq (F := Ideal) _).trans ?_
      simp only [h0, h1, h2, h3, h4, h5, h6, h7, h8]
      exact (final12 m c).symm
    · refine (Cert.FfnDownRefIdeal.Read.val_main_v71_eq (F := Ideal) _).trans ?_
      simp only [h0, h1, h2, h3, h4, h5, h6, h7, h8]
      exact (final13 m c).symm
    · refine (Cert.FfnDownRefIdeal.Read.val_main_v105_eq (F := Ideal) _).trans ?_
      simp only [h0, h1, h2, h3, h4, h5, h6, h7, h8]
      exact (final14 m c hr).symm

end Cert.FfnDownIdeal.Grad

end
-- ==== Proof.WinSink.Run.lean ====
module

public import proofs.«01_k».proof.Proof.Gen.WinSinkIdeal.Frame.Runs
public import Idealize.ShloMosaic.Lib.Pipeline.ValueKit

/-! # One point of the window attention's backward call

The body reads fifteen blocks, accumulates into four outputs and fills two scratch buffers. The inputs come back as they
were found. Followed exactly is the sinks' gradient: the column its block held, or zero at a head's first block of
queries, less each row's share. What the other outputs and the scratch buffers end with is left open. -/

@[expose] public section

set_option maxRecDepth 16384

noncomputable section

namespace Cert.WinSinkIdeal.Grad

open Cert.WinSinkIdeal Cert.WinSinkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The sinks' gradient after a point: the output's block, the cotangent's, the rows' log-sums, the sinks, and the column found. -/
def sinkAdd (o d : Vec F S256x256 .f32) (l : Vec F S1x1x1024x1 .f32) (z : Vec F S1x1024x128 .f32) (x : Vec F S1x1024x1 .f32) :
    Vec F S1x1024x1 .f32 :=
  k0_pay2 (k0_pay27 (k0_pay21 d) (k0_pay22 o) k0_pay23 (k0_pay24 o) (k0_pay25 o) (k0_pay26 o) 3#32) (k0_pay29 l) x z

/-- What the body is handed and hands back: the inputs at their blocks, the sinks' gradient at `s`, the other
outputs and the scratch buffers at anything. -/
def held (c : Dev nD) (arg2 : Memref sig .tc .vmem S256x256 .bf16) (arg3 : Memref sig .tc .vmem S256x256 .bf16)
    (arg4 : Memref sig .tc .vmem S128x256 .bf16) (arg5 : Memref sig .tc .vmem S256x256 .bf16)
    (arg6 : Memref sig .tc .vmem S128x256 .bf16) (arg7 : Memref sig .tc .vmem S256x256 .bf16)
    (arg8 : Memref sig .tc .vmem S128x256 .bf16) (arg9 : Memref sig .tc .vmem S256x256 .bf16)
    (arg10 : Memref sig .tc .vmem S128x256 .bf16) (arg11 : Memref sig .tc .vmem S256x256 .bf16)
    (arg12 : Memref sig .tc .vmem S1x1024x128 .f32) (arg13 : Memref sig .tc .vmem S256x256 .f32)
    (arg14 : Memref sig .tc .vmem S256x256 .f32) (arg15 : Memref sig .tc .vmem S256x256 .bf16)
    (arg16 : Memref sig .tc .vmem S1x1x1024x1 .f32) (arg17 : Memref sig .tc .vmem S256x256 .f32)
    (arg18 : Memref sig .tc .vmem S1x64x16768 .f32) (arg19 : Memref sig .tc .vmem S1x64x16768 .f32)
    (arg20 : Memref sig .tc .vmem S1x1024x1 .f32) (arg21 : Memref sig .tc .vmem S768x256 .bf16)
    (arg22 : Memref sig .tc .vmem S768x256 .bf16)
    (x0 : Vec F S256x256 .bf16) (x1 : Vec F S256x256 .bf16) (x2 : Vec F S128x256 .bf16) (x3 : Vec F S256x256 .bf16)
    (x4 : Vec F S128x256 .bf16) (x5 : Vec F S256x256 .bf16) (x6 : Vec F S128x256 .bf16) (x7 : Vec F S256x256 .bf16)
    (x8 : Vec F S128x256 .bf16) (x9 : Vec F S256x256 .bf16) (x10 : Vec F S1x1024x128 .f32) (x11 : Vec F S256x256 .f32)
    (x12 : Vec F S256x256 .f32) (x13 : Vec F S256x256 .bf16) (x14 : Vec F S1x1x1024x1 .f32) (s : Vec F S1x1024x1 .f32) : sProp 𝕄 :=
  iprop(owns (c : Thread nD τ) arg2 fullShare x0 ∗ owns (c : Thread nD τ) arg3 fullShare x1 ∗
    owns (c : Thread nD τ) arg4 fullShare x2 ∗ owns (c : Thread nD τ) arg5 fullShare x3 ∗
    owns (c : Thread nD τ) arg6 fullShare x4 ∗ owns (c : Thread nD τ) arg7 fullShare x5 ∗
    owns (c : Thread nD τ) arg8 fullShare x6 ∗ owns (c : Thread nD τ) arg9 fullShare x7 ∗
    owns (c : Thread nD τ) arg10 fullShare x8 ∗ owns (c : Thread nD τ) arg11 fullShare x9 ∗
    owns (c : Thread nD τ) arg12 fullShare x10 ∗ owns (c : Thread nD τ) arg13 fullShare x11 ∗
    owns (c : Thread nD τ) arg14 fullShare x12 ∗ owns (c : Thread nD τ) arg15 fullShare x13 ∗
    owns (c : Thread nD τ) arg16 fullShare x14 ∗ (∃ d, owns (c : Thread nD τ) arg17 fullShare d) ∗
    (∃ d, owns (c : Thread nD τ) arg18 fullShare d) ∗ (∃ d, owns (c : Thread nD τ) arg19 fullShare d) ∗
    owns (c : Thread nD τ) arg20 fullShare s ∗ (∃ d, owns (c : Thread nD τ) arg21 fullShare d) ∗
    (∃ d, owns (c : Thread nD τ) arg22 fullShare d))

/-- A whole buffer at the contents it was found with is owned at them. -/
theorem keep (c : Dev nD) {s : Shape} {e : EltTy} {a : Memref sig .tc .vmem s e} (h : a.IsWhole) (x : Vec F s e) :
    (a.view.loc (c : Thread nD τ) ↦[a.view.set]{fullShare} h.unread x : sProp 𝕄) ⊢ iprop(∃ f, ⌜a.view.read (Elt F) f = x⌝ ∗ a.view.loc (c : Thread nD τ) ↦[a.view.set]{fullShare} f) := by
  iintro H
  iexists _; isplitr; swap
  · iexact H
  · ipureintro; exact h.read_unread _

/-- A covering write, the newest of several, read back. -/
theorem read_writes_whole {κ : Kind} {sp : Space} {s : Shape} {e : EltTy} (v : View sig κ sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ fun y => ⟨_, List.mem_cons_self, View.mem_set_unit_zero (funext h) inb y⟩]
  exact View.canon_cons_unit_zero (funext h) inb w L

/-- A whole load of what stores left: their contents. -/
theorem readCov_whole {κ : Kind} {sp : Space} {s : Shape} {e : EltTy} (v : View sig κ sp s e)
    {off : Fin s.rank → ℕ} (h : ∀ a, off a = 0) (inb : ∀ a, off a + s.size a ≤ s.size a) (L : List (View.Piece (Elt F) s e)) :
    v.readCov L (Rect.unit off (no_index s.size) inb).toLoadRect = View.canon L :=
  (View.readCov_eq_canon' v L _).trans (View.ld_unit_zero (funext h) inb (View.canon L))

/-- A buffer at any contents is owned at what it reads. -/
theorem some_contents (c : Dev nD) {s : Shape} {e : EltTy} (a : Memref sig .tc .vmem s e) (f : a.view.ty.Contents (Elt F)) :
    (a.view.loc (c : Thread nD τ) ↦[a.view.set]{fullShare} f : sProp 𝕄) ⊢ iprop(∃ d, ∃ f, ⌜a.view.read (Elt F) f = d⌝ ∗ a.view.loc (c : Thread nD τ) ↦[a.view.set]{fullShare} f) := by
  iintro H
  iexists _; iexists _; isplitr; swap
  · iexact H
  · ipureintro; rfl

set_option maxHeartbeats 2000000 in
/-- At the first block of a head's queries, where the accumulators are reset. -/
theorem body_first (i : grid0.Coords) (hc0 : cond0_0 i) (c : Dev nD)
    (arg2 : Memref sig .tc .vmem S256x256 .bf16) (harg2 : arg2.IsWhole)
    (arg3 : Memref sig .tc .vmem S256x256 .bf16) (harg3 : arg3.IsWhole)
    (arg4 : Memref sig .tc .vmem S128x256 .bf16) (harg4 : arg4.IsWhole)
    (arg5 : Memref sig .tc .vmem S256x256 .bf16) (harg5 : arg5.IsWhole)
    (arg6 : Memref sig .tc .vmem S128x256 .bf16) (harg6 : arg6.IsWhole)
    (arg7 : Memref sig .tc .vmem S256x256 .bf16) (harg7 : arg7.IsWhole)
    (arg8 : Memref sig .tc .vmem S128x256 .bf16) (harg8 : arg8.IsWhole)
    (arg9 : Memref sig .tc .vmem S256x256 .bf16) (harg9 : arg9.IsWhole)
    (arg10 : Memref sig .tc .vmem S128x256 .bf16) (harg10 : arg10.IsWhole)
    (arg11 : Memref sig .tc .vmem S256x256 .bf16) (harg11 : arg11.IsWhole)
    (arg12 : Memref sig .tc .vmem S1x1024x128 .f32) (harg12 : arg12.IsWhole)
    (arg13 : Memref sig .tc .vmem S256x256 .f32) (harg13 : arg13.IsWhole)
    (arg14 : Memref sig .tc .vmem S256x256 .f32) (harg14 : arg14.IsWhole)
    (arg15 : Memref sig .tc .vmem S256x256 .bf16) (harg15 : arg15.IsWhole)
    (arg16 : Memref sig .tc .vmem S1x1x1024x1 .f32) (harg16 : arg16.IsWhole)
    (arg17 : Memref sig .tc .vmem S256x256 .f32) (harg17 : arg17.IsWhole)
    (arg18 : Memref sig .tc .vmem S1x64x16768 .f32) (harg18 : arg18.IsWhole)
    (arg19 : Memref sig .tc .vmem S1x64x16768 .f32) (harg19 : arg19.IsWhole)
    (arg20 : Memref sig .tc .vmem S1x1024x1 .f32) (harg20 : arg20.IsWhole)
    (arg21 : Memref sig .tc .vmem S768x256 .bf16) (harg21 : arg21.IsWhole)
    (arg22 : Memref sig .tc .vmem S768x256 .bf16) (harg22 : arg22.IsWhole)
    (x0 : Vec F S256x256 .bf16) (x1 : Vec F S256x256 .bf16) (x2 : Vec F S128x256 .bf16) (x3 : Vec F S256x256 .bf16)
    (x4 : Vec F S128x256 .bf16) (x5 : Vec F S256x256 .bf16) (x6 : Vec F S128x256 .bf16) (x7 : Vec F S256x256 .bf16)
    (x8 : Vec F S128x256 .bf16) (x9 : Vec F S256x256 .bf16) (x10 : Vec F S1x1024x128 .f32) (x11 : Vec F S256x256 .f32)
    (x12 : Vec F S256x256 .f32) (x13 : Vec F S256x256 .bf16) (x14 : Vec F S1x1x1024x1 .f32) (s : Vec F S1x1024x1 .f32) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 x13 x14 s
        ∗ (held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 x13 x14 (sinkAdd x11 x12 x14 x10 k0_pay5) -∗ K PUnit.unit))
      ⊢ wp frame (wpE (defs₀ (F := F)) Variants.none c none) E (cc0_win_bwd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 arg22 harg22) K := by
  simp only [cc0_win_bwd_eq_skeleton]; unfold cc0_win_bwd_skel
  simp only [k0_part1_eq_skeleton, k0_part2_eq_skeleton, k0_part3_eq_skeleton, k0_part4_eq_skeleton, k0_part5_eq_skeleton, k0_part6_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%d19, %f19, -, H19⟩, ⟨%d20, %f20, -, H20⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg20.eq_unread hf18
  sl_exec (disch := first | sl_exact hc0)
  sl_step
  iapply Hk
  isplitl [H0]; · iapply (keep c harg2 x0); iexact H0
  isplitl [H1]; · iapply (keep c harg3 x1); iexact H1
  isplitl [H2]; · iapply (keep c harg4 x2); iexact H2
  isplitl [H3]; · iapply (keep c harg5 x3); iexact H3
  isplitl [H4]; · iapply (keep c harg6 x4); iexact H4
  isplitl [H5]; · iapply (keep c harg7 x5); iexact H5
  isplitl [H6]; · iapply (keep c harg8 x6); iexact H6
  isplitl [H7]; · iapply (keep c harg9 x7); iexact H7
  isplitl [H8]; · iapply (keep c harg10 x8); iexact H8
  isplitl [H9]; · iapply (keep c harg11 x9); iexact H9
  isplitl [H10]; · iapply (keep c harg12 x10); iexact H10
  isplitl [H11]; · iapply (keep c harg13 x11); iexact H11
  isplitl [H12]; · iapply (keep c harg14 x12); iexact H12
  isplitl [H13]; · iapply (keep c harg15 x13); iexact H13
  isplitl [H14]; · iapply (keep c harg16 x14); iexact H14
  isplitl [H15]; · iapply (some_contents c arg17 _); iexact H15
  isplitl [H16]; · iapply (some_contents c arg18 _); iexact H16
  isplitl [H17]; · iapply (some_contents c arg19 _); iexact H17
  isplitl [H18]
  · iexists _; isplitr; swap
    · iexact H18
    · ipureintro
      rw [read_writes_whole _ _ (by decide)]
      sl_unfold_run_names
      simp (disch := decide) only [View.canon_cons_unit_lit', View.ld_unit_lit', View.readCov_unit_lit', readCov_whole, View.readAt_eq_ld, Memref.IsWhole.read_unread]
      rfl
  isplitl [H19]; · iapply (some_contents c arg21 _); iexact H19
  iapply (some_contents c arg22 _); iexact H20

set_option maxHeartbeats 2000000 in
/-- At the later blocks. -/
theorem body_later (i : grid0.Coords) (hc0 : ¬ cond0_0 i) (c : Dev nD)
    (arg2 : Memref sig .tc .vmem S256x256 .bf16) (harg2 : arg2.IsWhole)
    (arg3 : Memref sig .tc .vmem S256x256 .bf16) (harg3 : arg3.IsWhole)
    (arg4 : Memref sig .tc .vmem S128x256 .bf16) (harg4 : arg4.IsWhole)
    (arg5 : Memref sig .tc .vmem S256x256 .bf16) (harg5 : arg5.IsWhole)
    (arg6 : Memref sig .tc .vmem S128x256 .bf16) (harg6 : arg6.IsWhole)
    (arg7 : Memref sig .tc .vmem S256x256 .bf16) (harg7 : arg7.IsWhole)
    (arg8 : Memref sig .tc .vmem S128x256 .bf16) (harg8 : arg8.IsWhole)
    (arg9 : Memref sig .tc .vmem S256x256 .bf16) (harg9 : arg9.IsWhole)
    (arg10 : Memref sig .tc .vmem S128x256 .bf16) (harg10 : arg10.IsWhole)
    (arg11 : Memref sig .tc .vmem S256x256 .bf16) (harg11 : arg11.IsWhole)
    (arg12 : Memref sig .tc .vmem S1x1024x128 .f32) (harg12 : arg12.IsWhole)
    (arg13 : Memref sig .tc .vmem S256x256 .f32) (harg13 : arg13.IsWhole)
    (arg14 : Memref sig .tc .vmem S256x256 .f32) (harg14 : arg14.IsWhole)
    (arg15 : Memref sig .tc .vmem S256x256 .bf16) (harg15 : arg15.IsWhole)
    (arg16 : Memref sig .tc .vmem S1x1x1024x1 .f32) (harg16 : arg16.IsWhole)
    (arg17 : Memref sig .tc .vmem S256x256 .f32) (harg17 : arg17.IsWhole)
    (arg18 : Memref sig .tc .vmem S1x64x16768 .f32) (harg18 : arg18.IsWhole)
    (arg19 : Memref sig .tc .vmem S1x64x16768 .f32) (harg19 : arg19.IsWhole)
    (arg20 : Memref sig .tc .vmem S1x1024x1 .f32) (harg20 : arg20.IsWhole)
    (arg21 : Memref sig .tc .vmem S768x256 .bf16) (harg21 : arg21.IsWhole)
    (arg22 : Memref sig .tc .vmem S768x256 .bf16) (harg22 : arg22.IsWhole)
    (x0 : Vec F S256x256 .bf16) (x1 : Vec F S256x256 .bf16) (x2 : Vec F S128x256 .bf16) (x3 : Vec F S256x256 .bf16)
    (x4 : Vec F S128x256 .bf16) (x5 : Vec F S256x256 .bf16) (x6 : Vec F S128x256 .bf16) (x7 : Vec F S256x256 .bf16)
    (x8 : Vec F S128x256 .bf16) (x9 : Vec F S256x256 .bf16) (x10 : Vec F S1x1024x128 .f32) (x11 : Vec F S256x256 .f32)
    (x12 : Vec F S256x256 .f32) (x13 : Vec F S256x256 .bf16) (x14 : Vec F S1x1x1024x1 .f32) (s : Vec F S1x1024x1 .f32) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 x13 x14 s
        ∗ (held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 x13 x14 (sinkAdd x11 x12 x14 x10 s) -∗ K PUnit.unit))
      ⊢ wp frame (wpE (defs₀ (F := F)) Variants.none c none) E (cc0_win_bwd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 arg22 harg22) K := by
  simp only [cc0_win_bwd_eq_skeleton]; unfold cc0_win_bwd_skel
  simp only [k0_part1_eq_skeleton, k0_part2_eq_skeleton, k0_part3_eq_skeleton, k0_part4_eq_skeleton, k0_part5_eq_skeleton, k0_part6_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%d19, %f19, -, H19⟩, ⟨%d20, %f20, -, H20⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg20.eq_unread hf18
  sl_exec (disch := first | sl_exact hc0)
  sl_step
  iapply Hk
  isplitl [H0]; · iapply (keep c harg2 x0); iexact H0
  isplitl [H1]; · iapply (keep c harg3 x1); iexact H1
  isplitl [H2]; · iapply (keep c harg4 x2); iexact H2
  isplitl [H3]; · iapply (keep c harg5 x3); iexact H3
  isplitl [H4]; · iapply (keep c harg6 x4); iexact H4
  isplitl [H5]; · iapply (keep c harg7 x5); iexact H5
  isplitl [H6]; · iapply (keep c harg8 x6); iexact H6
  isplitl [H7]; · iapply (keep c harg9 x7); iexact H7
  isplitl [H8]; · iapply (keep c harg10 x8); iexact H8
  isplitl [H9]; · iapply (keep c harg11 x9); iexact H9
  isplitl [H10]; · iapply (keep c harg12 x10); iexact H10
  isplitl [H11]; · iapply (keep c harg13 x11); iexact H11
  isplitl [H12]; · iapply (keep c harg14 x12); iexact H12
  isplitl [H13]; · iapply (keep c harg15 x13); iexact H13
  isplitl [H14]; · iapply (keep c harg16 x14); iexact H14
  isplitl [H15]; · iapply (some_contents c arg17 _); iexact H15
  isplitl [H16]; · iapply (some_contents c arg18 _); iexact H16
  isplitl [H17]; · iapply (some_contents c arg19 _); iexact H17
  isplitl [H18]
  · iexists _; isplitr; swap
    · iexact H18
    · ipureintro
      rw [read_writes_whole _ _ (by decide)]
      sl_unfold_run_names
      simp (disch := decide) only [View.canon_cons_unit_lit', View.ld_unit_lit', View.readCov_unit_lit', readCov_whole, View.readAt_eq_ld, Memref.IsWhole.read_unread]
      rfl
  isplitl [H19]; · iapply (some_contents c arg21 _); iexact H19
  iapply (some_contents c arg22 _); iexact H20

end Cert.WinSinkIdeal.Grad

end
-- ==== Proof.WinSink.Frame.lean ====
module

public import proofs.«01_k».proof.Proof.WinSink.Run

/-! # The window attention's backward call: its frame

Every input window hands the body its block of the launched array and gets it back; the sinks' gradient is left
as the body computes it, the other outputs at anything. So the call ends, and its arguments end as they were launched. -/

@[expose] public section

set_option maxRecDepth 16384

noncomputable section

namespace Cert.WinSinkIdeal.Grad

open Cert.WinSinkIdeal Cert.WinSinkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

/-- The body at any point. -/
theorem body_run (i : grid0.Coords) (c : Dev nD)
    (arg2 : Memref sig .tc .vmem S256x256 .bf16) (harg2 : arg2.IsWhole)
    (arg3 : Memref sig .tc .vmem S256x256 .bf16) (harg3 : arg3.IsWhole)
    (arg4 : Memref sig .tc .vmem S128x256 .bf16) (harg4 : arg4.IsWhole)
    (arg5 : Memref sig .tc .vmem S256x256 .bf16) (harg5 : arg5.IsWhole)
    (arg6 : Memref sig .tc .vmem S128x256 .bf16) (harg6 : arg6.IsWhole)
    (arg7 : Memref sig .tc .vmem S256x256 .bf16) (harg7 : arg7.IsWhole)
    (arg8 : Memref sig .tc .vmem S128x256 .bf16) (harg8 : arg8.IsWhole)
    (arg9 : Memref sig .tc .vmem S256x256 .bf16) (harg9 : arg9.IsWhole)
    (arg10 : Memref sig .tc .vmem S128x256 .bf16) (harg10 : arg10.IsWhole)
    (arg11 : Memref sig .tc .vmem S256x256 .bf16) (harg11 : arg11.IsWhole)
    (arg12 : Memref sig .tc .vmem S1x1024x128 .f32) (harg12 : arg12.IsWhole)
    (arg13 : Memref sig .tc .vmem S256x256 .f32) (harg13 : arg13.IsWhole)
    (arg14 : Memref sig .tc .vmem S256x256 .f32) (harg14 : arg14.IsWhole)
    (arg15 : Memref sig .tc .vmem S256x256 .bf16) (harg15 : arg15.IsWhole)
    (arg16 : Memref sig .tc .vmem S1x1x1024x1 .f32) (harg16 : arg16.IsWhole)
    (arg17 : Memref sig .tc .vmem S256x256 .f32) (harg17 : arg17.IsWhole)
    (arg18 : Memref sig .tc .vmem S1x64x16768 .f32) (harg18 : arg18.IsWhole)
    (arg19 : Memref sig .tc .vmem S1x64x16768 .f32) (harg19 : arg19.IsWhole)
    (arg20 : Memref sig .tc .vmem S1x1024x1 .f32) (harg20 : arg20.IsWhole)
    (arg21 : Memref sig .tc .vmem S768x256 .bf16) (harg21 : arg21.IsWhole)
    (arg22 : Memref sig .tc .vmem S768x256 .bf16) (harg22 : arg22.IsWhole)
    (x0 : Vec F S256x256 .bf16) (x1 : Vec F S256x256 .bf16) (x2 : Vec F S128x256 .bf16) (x3 : Vec F S256x256 .bf16)
    (x4 : Vec F S128x256 .bf16) (x5 : Vec F S256x256 .bf16) (x6 : Vec F S128x256 .bf16) (x7 : Vec F S256x256 .bf16)
    (x8 : Vec F S128x256 .bf16) (x9 : Vec F S256x256 .bf16) (x10 : Vec F S1x1024x128 .f32) (x11 : Vec F S256x256 .f32)
    (x12 : Vec F S256x256 .f32) (x13 : Vec F S256x256 .bf16) (x14 : Vec F S1x1x1024x1 .f32) (s : Vec F S1x1024x1 .f32) (E : Set ℕ) (K : PUnit → sProp 𝕄) :
    iprop(held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 x13 x14 s
        ∗ (held c arg2 arg3 arg4 arg5 arg6 arg7 arg8 arg9 arg10 arg11 arg12 arg13 arg14 arg15 arg16 arg17 arg18 arg19 arg20 arg21 arg22 x0 x1 x2 x3 x4 x5 x6 x7 x8 x9 x10 x11 x12 x13 x14 (sinkAdd x11 x12 x14 x10 (if cond0_0 i then k0_pay5 else s)) -∗ K PUnit.unit))
      ⊢ wp frame (wpE (defs₀ (F := F)) Variants.none c none) E (cc0_win_bwd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 arg22 harg22) K := by
  by_cases h : cond0_0 i
  · rw [if_pos h]; exact body_first i h c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 s E K
  · rw [if_neg h]; exact body_later i h c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 s E K

variable (m : (ℓ : Loc nD τ sig) → Buf (Elt F) ℓ) (ρ : Dev nD → PrngReg)

/-- What point `t` makes of the sinks' gradient. -/
def sinkNext (c : Dev nD) (t : Fin cfg0.N) (x : Vec F S1x1024x1 .f32) : Vec F S1x1024x1 .f32 :=
  sinkAdd (iblk m c 11 t) (iblk m c 12 t) (iblk m c 14 t) (iblk m c 10 t) (if cond0_0 (grid0.coords t) then k0_pay5 else x)

/-- The proof data: the body leaves an input's buffer as it finds it, the sinks' gradient at `sinkNext` of what it finds,
another output's at anything. -/
def rd (c : Dev nD) : RDat τ (Elt F) Unit ℕ (UR sig nD τ) ℕ cfg0 c where
  A := fun w => V m c (Pipeline.arrRef spec0 w)
  after := fun
    | 18 => fun t Y X => X = sinkNext m c t Y
    | w => fun _ Y X => w.val < 15 → X = Y
  Φ := fun _ => Pipeline.ΦA spec0 c
  q := fun w => Pipeline.shareOf spec0 w
  owed := fun _ => 0

/-- The body table's row at point `t`. -/
theorem body_row (t : Fin cfg0.N) :
    defs₀ (F := F) .tc cfg0.body (cfg0.bodyArgs t (cfg0.slots t)) = bodyAt0 t := by
  unfold defs₀; rw [Defs.onTc_tc]

set_option maxHeartbeats 2000000 in
/-- The body keeps the proof data's promise at every point. -/
theorem body_ok (c : Dev nD) : (rd m c).BodyObligation (defs₀ (F := F)) Variants.none () Set.univ := by
  intro t Y hY
  have e10 : Y 10 = iblk m c 10 t := ((rd m c).finds_in_eq_fetched 10 rfl (fun _ _ _ => rfl) (fun _ _ _ h => h (by decide)) t (Y 10) (hY 10)).elim fun d hd => hd
  have e11 : Y 11 = iblk m c 11 t := ((rd m c).finds_in_eq_fetched 11 rfl (fun _ _ _ => rfl) (fun _ _ _ h => h (by decide)) t (Y 11) (hY 11)).elim fun d hd => hd
  have e12 : Y 12 = iblk m c 12 t := ((rd m c).finds_in_eq_fetched 12 rfl (fun _ _ _ => rfl) (fun _ _ _ h => h (by decide)) t (Y 12) (hY 12)).elim fun d hd => hd
  have e14 : Y 14 = iblk m c 14 t := ((rd m c).finds_in_eq_fetched 14 rfl (fun _ _ _ => rfl) (fun _ _ _ h => h (by decide)) t (Y 14) (hY 14)).elim fun d hd => hd
  rw [bigSep_W0, bigSep_W0, body_row, show (rd m c).Φ t.castSucc = _ from PhiA0_eq c, show (rd m c).Φ t.succ = _ from PhiA0_eq c]
  rw [e10, e11, e12, e14]
  generalize Y 0 = y0; generalize Y 1 = y1; generalize Y 2 = y2; generalize Y 3 = y3; generalize Y 4 = y4;
  generalize Y 5 = y5; generalize Y 6 = y6; generalize Y 7 = y7; generalize Y 8 = y8; generalize Y 9 = y9;
  generalize Y 13 = y13; generalize Y 15 = y15; generalize Y 16 = y16; generalize Y 17 = y17; generalize Y 18 = y18
  have h := fun K => body_run (grid0.coords t) c (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t)
    scM0_0 (Memref.isWhole_whole _) scM0_1 (Memref.isWhole_whole _) y0 y1 y2 y3 y4 y5 y6 y7 y8 y9 (iblk m c 10 t) (iblk m c 11 t) (iblk m c 12 t) y13 (iblk m c 14 t) y18 Set.univ K
  unfold held at h
  refine (?_ : _ ⊢ _).trans (h _)
  iintro ⟨⟨⟨HS0, HS1⟩, Hg⟩, Ho, H0, H1, H2, H3, H4, H5, H6, H7, H8, H9, H10, H11, H12, H13, H14, H15, H16, H17, H18⟩
  isplitl [H0 H1 H2 H3 H4 H5 H6 H7 H8 H9 H10 H11 H12 H13 H14 H15 H16 H17 H18 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexact H18
    isplitl [HS0]; · iexact HS0
    iexact HS1
  iintro ⟨H0, H1, H2, H3, H4, H5, H6, H7, H8, H9, H10, H11, H12, H13, H14, ⟨%z15, H15⟩, ⟨%z16, H16⟩, ⟨%z17, H17⟩, H18, HS0, HS1⟩
  isplitl [HS0 HS1 Hg]
  · isplitl [HS0 HS1]
    · isplitl [HS0]; · iexact HS0
      iexact HS1
    iexact Hg
  isplitl [Ho]; · iexact Ho
  isplitl [H0]
  · iexists _; isplitr; swap
    · iexact H0
    · ipureintro; exact fun _ => rfl
  isplitl [H1]
  · iexists _; isplitr; swap
    · iexact H1
    · ipureintro; exact fun _ => rfl
  isplitl [H2]
  · iexists _; isplitr; swap
    · iexact H2
    · ipureintro; exact fun _ => rfl
  isplitl [H3]
  · iexists _; isplitr; swap
    · iexact H3
    · ipureintro; exact fun _ => rfl
  isplitl [H4]
  · iexists _; isplitr; swap
    · iexact H4
    · ipureintro; exact fun _ => rfl
  isplitl [H5]
  · iexists _; isplitr; swap
    · iexact H5
    · ipureintro; exact fun _ => rfl
  isplitl [H6]
  · iexists _; isplitr; swap
    · iexact H6
    · ipureintro; exact fun _ => rfl
  isplitl [H7]
  · iexists _; isplitr; swap
    · iexact H7
    · ipureintro; exact fun _ => rfl
  isplitl [H8]
  · iexists _; isplitr; swap
    · iexact H8
    · ipureintro; exact fun _ => rfl
  isplitl [H9]
  · iexists _; isplitr; swap
    · iexact H9
    · ipureintro; exact fun _ => rfl
  isplitl [H10]
  · iexists _; isplitr; swap
    · iexact H10
    · ipureintro; exact fun _ => rfl
  isplitl [H11]
  · iexists _; isplitr; swap
    · iexact H11
    · ipureintro; exact fun _ => rfl
  isplitl [H12]
  · iexists _; isplitr; swap
    · iexact H12
    · ipureintro; exact fun _ => rfl
  isplitl [H13]
  · iexists _; isplitr; swap
    · iexact H13
    · ipureintro; exact fun _ => rfl
  isplitl [H14]
  · iexists _; isplitr; swap
    · iexact H14
    · ipureintro; exact fun _ => rfl
  isplitl [H15]
  · iexists _; isplitr; swap
    · iexact H15
    · ipureintro; exact fun h => absurd h (by decide)
  isplitl [H16]
  · iexists _; isplitr; swap
    · iexact H16
    · ipureintro; exact fun h => absurd h (by decide)
  isplitl [H17]
  · iexists _; isplitr; swap
    · iexact H17
    · ipureintro; exact fun h => absurd h (by decide)
  iexists _; isplitr; swap
  · iexact H18
  · ipureintro; rfl

set_option backward.isDefEq.respectTransparency.types false in
/-- THE RUN: every run of the program ends, each window's array at contents the proof data allow, every other buffer as the
region found it, every counter at zero. -/
theorem run : θ_run defs (onTc (τ := τ) (main (F := F))) (s₀ m ρ)
    (fun r => RDat.FramePost cfg0 (rd m) (V m) r ∧ r.2.sem = fun _ => 0) :=
  RDat.θ_run_frame_track_shared cfgs 0 launch₀0 defs₀ Variants.none (rd m) m ρ main (fun c => body_ok m c)
    (fun _ _ _ => rfl) (fun _ _ => rfl) (V m) (hmain m Variants.none) (fun _ _ => rfl)
    (fun _ => Idealize.SL.BI.BIBase.Entails.rfl) (fun _ => Idealize.SL.BI.BIBase.Entails.rfl) _ (fun _ h => h)

/-- THE FRAME: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (cast (congrFun ((rd m c).ArrAt_in 12 rfl _) _) ((h.1 c).1 12) : _ = _).trans (V_main_arg4 m c)⟩, h.2⟩) (run m ρ)

end Cert.WinSinkIdeal.Grad

end
-- ==== Proof.WinSink.Host.lean ====
/- The saved output and log-sums of the window attention with a sink, as host lines over the sinks' column. -/
module

public import proofs.«01_k».proof.Proof.WinSink.Frame
public import proofs.«01_k».proof.Proof.Gen.WinSinkRefIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WinSinkIdeal.Grad

open Cert.WinSinkIdeal Cert.WinSinkIdeal.Gen
open Cert.WinSinkRefIdeal.Read

/-- An array of floats of a shape. -/
abbrev Arr (s : Shape) : Type := FVec Ideal s .f32

section
open Cert.WinSinkIdeal.Facts

/-- The sinks, one for each query and head. -/
def sinks (z : Arr S1x8) : Arr S2x4x16384x1 :=
  broadcastInDim S2x4x16384x1 ![0, 1, 2, 3] bcast_S2x4x1x1_S2x4x16384x1_0_1_2_3 (shapeCast S2x4x1x1 z shapeCasts_S1x8_S2x4x1x1 : Arr S2x4x1x1)

/-- The greater of a row's greatest score and its sink. -/
def tops (s : Arr S2x4x16384x16640) (z : Arr S2x4x16384x1) : Arr S2x4x16384x1 :=
  maximumf (F := Ideal) (broadcastInDim S2x4x16384x1 ![0, 1, 2] bcast_S2x4x16384_S2x4x16384x1_0_1_2
    (Host.reduce (FloatOps.maximumf (F := Ideal) (φ := .f32)) s (constant (F := Ideal) S_ .f32 0xFF800000#32) reducesTo_S2x4x16384x16640_S2x4x16384_d3 h_S_ : Arr S2x4x16384)) z

/-- The exponentials of the scores. -/
def exps (s : Arr S2x4x16384x16640) (z : Arr S2x4x16384x1) : Arr S2x4x16384x16640 :=
  Host.exp (F := Ideal) (subf s (broadcastInDim S2x4x16384x16640 ![0, 1, 2, 3] bcast_S2x4x16384x1_S2x4x16384x16640_0_1_2_3 (tops s z)))

/-- Each row's sum of exponentials, its sink's among them. -/
def dens (s : Arr S2x4x16384x16640) (z : Arr S2x4x16384x1) : Arr S2x4x16384x1 :=
  addf (broadcastInDim S2x4x16384x1 ![0, 1, 2] bcast_S2x4x16384_S2x4x16384x1_0_1_2
    (Host.reduceAdd (F := Ideal) (exps s z) (constant (F := Ideal) S_ .f32 0x00000000#32) reducesTo_S2x4x16384x16640_S2x4x16384_d3 h_S_ : Arr S2x4x16384))
    (Host.exp (F := Ideal) (subf z (tops s z)))

/-- The output, before its columns are joined. -/
def outs (s : Arr S2x4x16384x16640) (z : Arr S2x4x16384x1) (v : Arr S16640x128) : Arr S16384x2x4x64 :=
  transpose S16384x2x4x64 [3, 0, 2, 1]
    (Host.dotGeneral dot_S16640x2x64_S2x4x16384x16640_S2x64x4x16384_0_3_2_12_1_0 none
      (shapeCast S16640x2x64 v shapeCasts_S16640x128_S16640x2x64 : Arr S16640x2x64)
      (Host.divf (F := Ideal) (exps s z) (broadcastInDim S2x4x16384x16640 ![0, 1, 2, 3] bcast_S2x4x16384x1_S2x4x16384x16640_0_1_2_3 (dens s z)) : Arr S2x4x16384x16640))
    transposes_S2x64x4x16384_S16384x2x4x64_3_0_2_1

/-- Each row's log-sum. -/
def lses (s : Arr S2x4x16384x16640) (z : Arr S2x4x16384x1) : Arr S2x4x16384x1 :=
  addf (tops s z) (Host.log (F := Ideal) (dens s z))

/-- A quantity of each row, stacked by blocks of 256 queries. -/
def stacked (x : Arr S2x4x16384x1) : Arr S2x64x1024x1 :=
  shapeCast S2x64x1024x1 (transpose S2x64x1x4x256 [0, 2, 3, 1, 4]
    (shapeCast S2x4x64x1x256 (shapeCast S2x4x16384 x shapeCasts_S2x4x16384x1_S2x4x16384 : Arr S2x4x16384) shapeCasts_S2x4x16384_S2x4x64x1x256 : Arr S2x4x64x1x256)
    transposes_S2x4x64x1x256_S2x64x1x4x256_0_2_3_1_4 : Arr S2x64x1x4x256) shapeCasts_S2x64x1x4x256_S2x64x1024x1

/-- The sinks, stacked in the rows of a block and repeated over the lanes. -/
def column (z : Arr S1x8) : Arr S2x1024x128 :=
  broadcastInDim S2x1024x128 ![0, 1, 2] bcast_S2x1024x1_S2x1024x128_0_1_2
    (broadcastInDim S2x1024x1 ![0, 1] bcast_S2x1024_S2x1024x1_0_1
      (shapeCast S2x1024 (broadcastInDim S2x4x256 ![0, 1] bcast_S2x4_S2x4x256_0_1 (shapeCast S2x4 z shapeCasts_S1x8_S2x4 : Arr S2x4) : Arr S2x4x256) shapeCasts_S2x4x256_S2x1024 : Arr S2x1024) : Arr S2x1024x1)

end

section
variable (m : (ℓ : Loc nD τ sig) → Buf (Elt Ideal) ℓ) (c : Dev nD)

abbrev a0 : Arr S16384x512 := m ((c : Thread nD τ).loc main_arg0)
abbrev a1 : Arr S16640x128 := m ((c : Thread nD τ).loc main_arg1)
abbrev a2 : Arr S16640x128 := m ((c : Thread nD τ).loc main_arg2)
abbrev a3 : Arr S1x8 := m ((c : Thread nD τ).loc main_arg3)
abbrev a4 : Arr S16384x512 := m ((c : Thread nD τ).loc main_arg4)

/-- The scores of the keys a query sees, and minus infinity at the others. -/
abbrev masked : Arr S2x4x16384x16640 := val_main_v18 (F := Ideal) (a0 m c) (a1 m c)

theorem V43 : V m c main_v43 = column (a3 m c) := by sl_kernel_rfl

end

/-! ## The reference's values at the sinks' column -/

variable (q : Arr S16384x512) (k v : Arr S16640x128) (z : Arr S1x8)

theorem sinks_eq : sinks z = val_main_v19 (F := Ideal) z := by
  funext i
  obtain ⟨h, g, a, e, rfl⟩ : ∃ (h : Fin 2) (g : Fin 4) (a : Fin 16384) (e : Fin 1), i = ix4 h g a e := ⟨i 0, i 1, i 2, i 3, by
    funext j; fin_cases j <;> rfl⟩
  pointwise [sinks, val_main_v19, val_main_v1, val_main_v0]

theorem outs_eq : outs (val_main_v18 (F := Ideal) q k) (val_main_v19 (F := Ideal) z) v = val_main_v44 (F := Ideal) q k v z := rfl

theorem lses_eq : lses (val_main_v18 (F := Ideal) q k) (val_main_v19 (F := Ideal) z)
    = addf (val_main_v22 (F := Ideal) q k z) (Host.log (F := Ideal) (val_main_v37 (F := Ideal) q k z)) := rfl

theorem column_apply (h : Fin 2) (r : Fin 1024) (l : Fin 128) :
    column z (ix3 h r l) = z (ix2 0 ⟨h.val * 4 + r.val / 256, by omega⟩) := by
  pointwise [column]

theorem stacked_apply (x : Arr S2x4x16384x1) (h : Fin 2) (i : Fin 64) (r : Fin 1024) :
    stacked x (ix4 h i r 0) = x (ix4 h ⟨r.val / 256, by omega⟩ ⟨i.val * 256 + r.val % 256, by omega⟩ 0) := by
  pointwise [stacked]

theorem addf_log_apply (x y : Arr S2x4x16384x1) (i : S2x4x16384x1.Idx) :
    addf x (Host.log (F := Ideal) y) i = (x i : EReal) + Ideal.log (y i) := rfl

theorem joined_apply (x : Arr S16384x2x4x64) (a : Fin 16384) (l : Fin 512) :
    (shapeCast S16384x512 x Cert.WinSinkIdeal.Gen.shapeCasts_S16384x2x4x64_S16384x512 : Arr S16384x512) (ix2 a l)
      = x (ix4 a ⟨l.val / 256, by omega⟩ ⟨l.val / 64 % 4, by omega⟩ ⟨l.val % 64, by omega⟩) := by
  pointwise

end Cert.WinSinkIdeal.Grad

end
-- ==== Proof.WinSink.Saved.lean ====
/- The saved output and log-sums of the window attention with a sink, as host lines over the sinks' column. -/
module

public import proofs.«01_k».proof.Proof.WinSink.Host
public import proofs.«01_k».proof.Proof.Gen.WinSinkRefIdeal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WinSinkIdeal.Grad

open Cert.WinSinkIdeal Cert.WinSinkIdeal.Gen
open Cert.WinSinkRefIdeal.Read

variable (m : (ℓ : Loc nD τ sig) → Buf (Elt Ideal) ℓ) (c : Dev nD)

set_option maxHeartbeats 1600000 in
theorem V35 : V m c main_v35 = (shapeCast S16384x512 (outs (masked m c) (sinks (a3 m c)) (a2 m c)) Cert.WinSinkIdeal.Gen.shapeCasts_S16384x2x4x64_S16384x512 : Arr S16384x512) := by
  entry_read
  simp only [hostOps0, hostOps0_1, hostOps0_2, List.flatten_cons, List.flatten_nil, List.cons_append, List.nil_append, List.append_nil]
  entry_read
  rfl

set_option maxHeartbeats 1600000 in
theorem V70 : V m c main_v70 = stacked (lses (masked m c) (sinks (a3 m c))) := by
  entry_read
  simp only [hostOps0, hostOps0_1, hostOps0_2, List.flatten_cons, List.flatten_nil, List.cons_append, List.nil_append, List.append_nil]
  entry_read
  rfl

end Cert.WinSinkIdeal.Grad

end
-- ==== Proof.WinSink.Steps.lean ====
module

public import proofs.«01_k».proof.Proof.WinSink.Frame
public import Idealize.ShloMosaic.Lib.Pointwise
public import Idealize.ShloMosaic.Lib.Pipeline.ValueKit
public import Idealize.ShloMosaic.Lib.Pipeline.ArrRel

/-! # The sink's gradient as sums over the blocks of queries -/

@[expose] public section

set_option maxRecDepth 16384

noncomputable section

namespace Cert.WinSinkIdeal.Grad

open Cert.WinSinkIdeal Cert.WinSinkIdeal.Gen
open Idealize.ShloMosaic Idealize.ShloMosaic.TcCoe Idealize.SL.Sem
open Idealize.ShloMosaic.Pipeline (RDat Dat)

/-- The lanes of head `n` are those whose number, shifted right by six, is `n`. -/
theorem lanes_of {α : Type} (c : Fin 256) (n : ℕ) (hn : n < 4) (x y : α) :
    Scalar.select (IntOp.cmpi .eq (IntOp.shrsi .vector (BitVec.ofNat 32 c.val) 6#32) (BitVec.ofNat 32 n)) x y
      = if c.val / 64 = n then x else y := by
  have h : ∀ (c : Fin 256) (n : Fin 4), (IntOp.cmpi .eq (IntOp.shrsi .vector (BitVec.ofNat 32 c.val) 6#32)
      (BitVec.ofNat 32 n.val) = 1#1) ↔ c.val / 64 = n.val := by decide +kernel
  exact if_congr (h c ⟨n, hn⟩) rfl rfl

/-- Row `r` of the stack: query `r % 256`, the lanes of head `r / 256`. -/
def pick (y : S256x256.Idx → EReal) (r : Fin 1024) (c : Fin 256) : EReal :=
  if c.val / 64 = r.val / 256 then y (ix2 ⟨r.val % 256, by omega⟩ c) else 0

theorem tiles_pick (y : S256x256.Idx → EReal) (r : Fin 1024) (c : Fin 256) :
    (if h1 : r.val < 256 then if c.val / 64 = 0 then y (ix2 ⟨r.val, by omega⟩ c) else 0
      else if h2 : r.val - 256 < 256 then if c.val / 64 = 1 then y (ix2 ⟨r.val - 256, by omega⟩ c) else 0
      else if h3 : r.val - 256 - 256 < 256 then if c.val / 64 = 2 then y (ix2 ⟨r.val - 256 - 256, by omega⟩ c) else 0
      else if c.val / 64 = 3 then y (ix2 ⟨r.val - 256 - 256 - 256, by omega⟩ c) else 0) = pick y r c := by
  have hr := r.isLt
  have key : ∀ (a : Fin 256) (n : ℕ), a.val = r.val % 256 → n = r.val / 256 →
      (if c.val / 64 = n then y (ix2 a c) else 0) = pick y r c := fun a n ha hn => by
    unfold pick
    rw [hn, show a = ⟨r.val % 256, by omega⟩ from Fin.ext ha]
  split
  · exact key _ _ (by dsimp only; omega) (by omega)
  · split
    · exact key _ _ (by dsimp only; omega) (by omega)
    · split
      · exact key _ _ (by dsimp only; omega) (by omega)
      · exact key _ _ (by dsimp only; omega) (by omega)

/-- Two stacks' product, summed over a row, is that of the row's head. -/
theorem pick_sum (y w : S256x256.Idx → EReal) (r : Fin 1024) :
    ∑ c : Fin 256, pick y r c * pick w r c = ∑ x : Fin 64,
      y (ix2 ⟨r.val % 256, by omega⟩ ⟨r.val / 256 * 64 + x.val, by omega⟩)
        * w (ix2 ⟨r.val % 256, by omega⟩ ⟨r.val / 256 * 64 + x.val, by omega⟩) := by
  have hr := r.isLt
  rw [Fin.sum_univ_tiles 4 64 rfl, Finset.sum_eq_single (⟨r.val / 256, by omega⟩ : Fin 4)]
  · refine Finset.sum_congr rfl fun x _ => ?_
    have e : (r.val / 256 * 64 + x.val) / 64 = r.val / 256 := by omega
    unfold pick
    exact congrArg₂ (· * ·) (if_pos e) (if_pos e)
  · intro j _ hj
    refine Finset.sum_eq_zero fun x _ => ?_
    have e : ¬ (j.val * 64 + x.val) / 64 = r.val / 256 := fun e => hj (Fin.ext (by show j.val = r.val / 256; omega))
    unfold pick
    exact (congrArg (· * _) (if_neg e)).trans (zero_mul _)
  · intro h; exact absurd (Finset.mem_univ _) h

/-- The sum, over the lanes of row `r`'s head, of one block's entries times another's. -/
def dotOf (o d : S256x256.Idx → EReal) (r : Fin 1024) : EReal := ∑ x : Fin 64,
  d (ix2 ⟨r.val % 256, by omega⟩ ⟨r.val / 256 * 64 + x.val, by omega⟩)
    * o (ix2 ⟨r.val % 256, by omega⟩ ⟨r.val / 256 * 64 + x.val, by omega⟩)

/-- What a point adds for stacked row `r`. -/
def part (o d : S256x256.Idx → EReal) (l : S1x1x1024x1.Idx → EReal) (z : S1x1024x128.Idx → EReal) (r : Fin 1024) : EReal :=
  0 - Ideal.exp (z (ix3 0 r 0) - l (ix4 0 0 r 0)) * dotOf o d r

theorem stack_d (d : Vec Ideal S256x256 .f32) (r : Fin 1024) (c : Fin 256) :
    k0_pay21 d (ix2 r c : S1024x256.Idx) = pick d r c := by
  pointwise [k0_pay21]
  simp only [lanes_of c 0 (by decide), lanes_of c 1 (by decide), lanes_of c 2 (by decide), lanes_of c 3 (by decide)]
  exact tiles_pick d r c

theorem dot_apply (d : FVec Ideal S1024x256 .f32) (o : Vec Ideal S256x256 .f32) (r : Fin 1024) :
    k0_pay27 d (k0_pay22 o) k0_pay23 (k0_pay24 o) (k0_pay25 o) (k0_pay26 o) 3#32 (ix2 r 0 : S1024x1.Idx)
      = ∑ c : Fin 256, d (ix2 r c) * pick o r c := by
  pointwise [k0_pay27, k0_pay22, k0_pay23, k0_pay24, k0_pay25, k0_pay26]
  refine Finset.sum_congr rfl fun c _ => congrArg (d (ix2 r c) * ·) ?_
  simp only [lanes_of c 0 (by decide), lanes_of c 1 (by decide), lanes_of c 2 (by decide), lanes_of c 3 (by decide)]
  exact tiles_pick o r c

theorem sinkAdd_apply (o d : Vec Ideal S256x256 .f32) (l : Vec Ideal S1x1x1024x1 .f32) (z : Vec Ideal S1x1024x128 .f32)
    (x : Vec Ideal S1x1024x1 .f32) (r : Fin 1024) :
    sinkAdd o d l z x (ix3 0 r 0) = x (ix3 0 r 0) + part o d l z r := by
  have e : k0_pay27 (k0_pay21 d) (k0_pay22 o) k0_pay23 (k0_pay24 o) (k0_pay25 o) (k0_pay26 o) 3#32 (ix2 r 0 : S1024x1.Idx)
      = dotOf o d r := by
    unfold dotOf
    rw [dot_apply, ← pick_sum]
    exact Finset.sum_congr rfl fun c _ => congrArg (· * pick o r c) (stack_d d r c)
  unfold sinkAdd part
  rw [← e]
  generalize k0_pay27 (k0_pay21 d) (k0_pay22 o) k0_pay23 (k0_pay24 o) (k0_pay25 o) (k0_pay26 o) 3#32 = y
  pointwise [k0_pay2, k0_pay29]

theorem zeros_apply (r : Fin 1024) : k0_pay5 (F := Ideal) (ix3 0 r 0 : S1x1024x1.Idx) = (0 : EReal) := by
  pointwise [k0_pay5]

/-! ## The accumulation -/

variable (m : (ℓ : Loc nD τ sig) → Buf (Elt Ideal) ℓ) (ρ : Dev nD → PrngReg) (c : Dev nD)

/-- The point of pair of heads `h` and block `i`. -/
def pt (h i : ℕ) : Fin cfg0.N := ⟨(64 * h + i) % 128, lt_of_lt_of_eq (Nat.mod_lt _ (by decide)) (by decide)⟩

theorem pt_self (t : Fin cfg0.N) : pt (t.val / 64) (t.val % 64) = t := by
  have h : t.val < 128 := lt_of_lt_of_eq t.isLt (by decide)
  exact Fin.ext (by show (64 * (t.val / 64) + t.val % 64) % 128 = t.val; omega)

/-- What point `t` adds for stacked row `r`, of the blocks it is given. -/
def partAt (t : Fin cfg0.N) (r : Fin 1024) : EReal :=
  part (iblk m c 11 t) (iblk m c 12 t) (iblk m c 14 t) (iblk m c 10 t) r

theorem sinkNext_apply (t : Fin cfg0.N) (x : Vec Ideal S1x1024x1 .f32) (r : Fin 1024) :
    sinkNext m c t x (ix3 0 r 0) = (if t.val % 64 = 0 then 0 else x (ix3 0 r 0)) + partAt m c t r := by
  unfold sinkNext
  rw [sinkAdd_apply]
  refine congrArg (· + partAt m c t r) ?_
  by_cases h : t.val % 64 = 0
  · rw [if_pos h, if_pos ((hcond0_0 t).mpr h)]; exact zeros_apply r
  · rw [if_neg h, if_neg (fun h' => h ((hcond0_0 t).mp h'))]

/-- The column holds, after a point, the parts of its pair's blocks so far. -/
theorem leaves (n : ℕ) : ∀ (t : Fin cfg0.N), t.val = n → ∀ X : Vec Ideal S1x1024x1 .f32, (rd m c).Leaves 18 t X →
    ∀ r : Fin 1024, X (ix3 0 r 0) = ∑ i ∈ Finset.range (t.val % 64 + 1), partAt m c (pt (t.val / 64) i) r := by
  induction n with
  | zero =>
    rintro t ht X ⟨Y, -, hX⟩ r
    have h0 : t.val % 64 = 0 := by omega
    rw [show X = sinkNext m c t Y from hX, sinkNext_apply, if_pos h0, h0, zero_add, zero_add, Finset.sum_range_one,
      show pt (t.val / 64) 0 = t by rw [← h0]; exact pt_self t]
  | succ n ih =>
    rintro t ht X ⟨Y, hY, hX⟩ r
    rw [show X = sinkNext m c t Y from hX, sinkNext_apply]
    by_cases h0 : t.val % 64 = 0
    · rw [if_pos h0, h0, zero_add, zero_add, Finset.sum_range_one, show pt (t.val / 64) 0 = t by rw [← h0]; exact pt_self t]
    · have hN : t.val < 128 := lt_of_lt_of_eq t.isLt (by decide)
      have hu : (rd m c).Leaves 18 ⟨n, by have := t.isLt; omega⟩ Y := by
        rcases ((rd m c).finds_of_pos (w := 18) (t := t) rfl (by omega) Y).mp hY with hf | hl
        · exact absurd ((flush0_18 _).mp hf) (by dsimp only; omega)
        · rwa [show (⟨t.val - 1, Nat.lt_of_le_of_lt (Nat.sub_le _ _) t.isLt⟩ : Fin cfg0.N) = ⟨n, by have := t.isLt; omega⟩ from
            Fin.ext (by show t.val - 1 = n; omega)] at hl
      have hu1 : n / 64 = t.val / 64 := by omega
      have hu2 : n % 64 + 1 = t.val % 64 := by omega
      rw [if_neg h0, ih _ rfl Y hu r]
      dsimp only
      rw [hu1, hu2, Finset.sum_range_succ, pt_self]

/-- The gradient's column, as sums over the blocks. -/
def sinkOut : Vec Ideal S2x1024x1 .f32 := fun y => ∑ i ∈ Finset.range 64, partAt m c (pt (y 0).val i) (y 1)

theorem idx18 : ∀ t : Fin cfg0.N, win0_18.index t = ![t.val / 64, 0, 0] := (by decide +kernel : ∀ t : Fin grid0.N, _)

section
variable (after : (w : Fin cfg0.W) → Fin cfg0.N → (cfg0.win w).block.Idx → Elt Ideal (cfg0.win w).elt)
  (hL : ∀ (w : Fin cfg0.W) (u : Fin cfg0.N), (cfg0.win w).flush u = true → (rd m c).Leaves w u (after w u))
include hL

theorem arr18 : ((rd m c).withAfter after).arrAt 18 cfg0.N = sinkOut m c := by
  refine ((rd m c).withAfter after).arrAt_eq_of_covers 18 _ (by decide +kernel) fun t ht y => ?_
  have ht' := (flush0_18 t).mp ht
  have hN : t.val < 128 := lt_of_lt_of_eq t.isLt (by decide)
  have hL' := leaves m c t.val t rfl _ (hL 18 t ht)
  rw [ht'] at hL'
  blk_simp
  idx_vars y
  obtain rfl : y0 = 0 := Subsingleton.elim _ _
  obtain rfl : y2 = 0 := Subsingleton.elim _ _
  rw [show ((cfg0.win 18).blk t).view.emb (ix3 0 y1 0) = ix3 ⟨t.val / 64, by omega⟩ y1 0 by blk_ext [idx18 t]]
  exact hL' y1
end

/-- At the end of a run the column's array is those sums. -/
theorem array (r : PUnit × MemSt nD τ sig (Elt Ideal)) (h : RDat.FramePost cfg0 (rd m) (V m) r) :
    r.2.mem ((c.tc : Thread nD τ).loc main_v71_3) = sinkOut m c := by
  obtain ⟨after, hL, hA⟩ := RDat.FramePost.exists_exact h c
  exact (hA 18).trans (arr18 m c after hL)

end Cert.WinSinkIdeal.Grad

end
-- ==== Proof.WinSink.Ref.lean ====
module

public import proofs.«01_k».proof.Proof.Gen.WinSinkRefIdeal.Read
public import proofs.«01_k».proof.Proof.Shared.Silu
public import Idealize.ShloMosaic.Lib.Pointwise
public import Idealize.ShloMosaic.Lib.Claim

/-! # The sink's gradient in the reference, row by row -/

@[expose] public section

set_option maxRecDepth 16384

noncomputable section

namespace Cert.WinSinkRefIdeal.Grad

open Cert.WinSinkRefIdeal Cert.WinSinkRefIdeal.Gen Cert.WinSinkRefIdeal.Read
open Cert.Silu (IsReal)
open Idealize.ShloMosaic Idealize.ShloMosaic.TcCoe Idealize.SL.Sem

/-! ## Over the reals -/

section
variable {ι : Type} [Fintype ι] (P E : ι → ℝ) {D z : ℝ} (hD : D = ∑ l, E l + z) (h0 : D ≠ 0)
include h0

/-- The quotient's rule and the probabilities' weighted sum give the sink's gradient alike. -/
theorem quotient_rule : -(∑ l, P l * (1 / (D * D)) * E l) * z = -(z / D * ∑ l, P l * (E l / D)) := by
  have h : ∑ l, P l * (1 / (D * D)) * E l = (∑ l, P l * (E l / D)) / D := by
    rw [Finset.sum_div]
    exact Finset.sum_congr rfl fun l _ => by field_simp
  rw [h]
  field_simp

include hD

/-- Nothing flows through the greatest score: a shift of all scores and the sink leaves the probabilities as they are. -/
theorem shift_free : -(-(∑ l, P l * (1 / (D * D)) * E l) * z)
    + -(∑ l, (P l / D + -(∑ l, P l * (1 / (D * D)) * E l)) * E l) = 0 := by
  have h : ∑ l, P l * (1 / (D * D)) * E l = (∑ l, P l * E l) / (D * D) := by
    rw [Finset.sum_div]
    exact Finset.sum_congr rfl fun l _ => by field_simp
  rw [h]
  generalize hS : (∑ l, P l * E l) / (D * D) = S
  have e : ∑ l, (P l / D + -S) * E l = (∑ l, P l * E l) / D - S * (D - z) := by
    rw [hD, add_sub_cancel_right, ← hD, Finset.sum_div, Finset.mul_sum, ← Finset.sum_sub_distrib]
    exact Finset.sum_congr rfl fun l _ => by ring
  rw [e, ← hS]
  field_simp
  ring

end

/-! ## The reference's lines at an index -/

variable (q : FVec Ideal S16384x512 .f32) (k v : FVec Ideal S16640x128 .f32) (z : FVec Ideal S1x8 .f32) (d : FVec Ideal S16384x512 .f32)
variable (h : Fin 2) (g : Fin 4) (a : Fin 16384) (l : Fin 16640) (x : Fin 64)

theorem product_apply : val_main_v17 (F := Ideal) q k (ix4 h g a l)
    = ∑ x : Fin 64, k (ix2 l ⟨h.val * 64 + x.val, by omega⟩)
        * (q (ix2 a ⟨h.val * 256 + g.val * 64 + x.val, by omega⟩) * Ideal.ofBits .f32 0x3E000000#32) := by
  pointwise [val_main_v17, val_main_v16, val_main_v5, val_main_v4, val_main_v3, val_main_v2, val_main_cst]

theorem score_apply : val_main_v18 (F := Ideal) q k (ix4 h g a l)
    = Scalar.select (val_main_v15 (F := Ideal) (ix2 a l)) (val_main_v17 (F := Ideal) q k (ix4 h g a l)) (⊥ : EReal) := by
  rw [show (⊥ : EReal) = Ideal.ofBits FTy.f32 4286578688#32 by simp [Ideal.ofBits, Ideal.ieee]]
  pointwise [val_main_v18, val_main_call0_v1, val_main_call0_v2, val_main_call0_v0, val_main_cst_1]
  rfl

theorem sink_apply : val_main_v19 (F := Ideal) z (ix4 h g a 0) = z (ix2 0 ⟨h.val * 4 + g.val, by omega⟩) := by
  pointwise [val_main_v19, val_main_v1, val_main_v0]

theorem greatest_apply : val_main_v20 (F := Ideal) q k (ix3 h g a)
    = Finset.fold max ⊥ (fun l : Fin 16640 => val_main_v18 (F := Ideal) q k (ix4 h g a l)) Finset.univ := by
  unfold val_main_v20
  generalize val_main_v18 (F := Ideal) q k = s
  pointwise [val_main_cst_2]
  rw [show Ideal.ofBits FTy.f32 4286578688#32 = (⊥ : EReal) by simp [Ideal.ofBits, Ideal.ieee]]

theorem spread_apply : val_main_v21 (F := Ideal) q k (ix4 h g a 0) = val_main_v20 (F := Ideal) q k (ix3 h g a) := by
  pointwise [val_main_v21]

theorem maximumf_eq (s y : Ideal .f32) : FloatOps.maximumf (F := Ideal) (φ := .f32) s y = max (s : EReal) y := rfl

theorem top_apply : val_main_v22 (F := Ideal) q k z (ix4 h g a 0)
    = max (val_main_v20 (F := Ideal) q k (ix3 h g a)) (val_main_v19 (F := Ideal) z (ix4 h g a 0)) :=
  (val_main_v22_apply (F := Ideal) q k z _).trans ((maximumf_eq _ _).trans
    (congrArg (fun s : EReal => max s (val_main_v19 (F := Ideal) z (ix4 h g a 0))) (spread_apply q k h g a)))

theorem exp_apply : val_main_v32 (F := Ideal) q k z (ix4 h g a l)
    = Ideal.exp (val_main_v18 (F := Ideal) q k (ix4 h g a l) - val_main_v22 (F := Ideal) q k z (ix4 h g a 0)) := by
  pointwise [val_main_v32, val_main_v31, val_main_v30]

theorem expSink_apply : val_main_v36 (F := Ideal) q k z (ix4 h g a 0)
    = Ideal.exp (val_main_v19 (F := Ideal) z (ix4 h g a 0) - val_main_v22 (F := Ideal) q k z (ix4 h g a 0)) := by
  pointwise [val_main_v36, val_main_v35]

theorem den_apply : val_main_v37 (F := Ideal) q k z (ix4 h g a 0)
    = ∑ l : Fin 16640, val_main_v32 (F := Ideal) q k z (ix4 h g a l) + val_main_v36 (F := Ideal) q k z (ix4 h g a 0) := by
  pointwise [val_main_v37, val_main_v34, val_main_v33, val_main_cst_6]

theorem out_apply : val_main_v44 (F := Ideal) q k v z (ix4 a h g x)
    = ∑ l : Fin 16640, v (ix2 l ⟨h.val * 64 + x.val, by omega⟩)
        * Ideal.div (val_main_v32 (F := Ideal) q k z (ix4 h g a l)) (val_main_v37 (F := Ideal) q k z (ix4 h g a 0)) := by
  pointwise [val_main_v44, val_main_v43, val_main_v39, val_main_v38, val_main_v6]

theorem dprob_apply : val_main_v47 (F := Ideal) v d (ix4 h g a l)
    = ∑ x : Fin 64, d (ix2 a ⟨h.val * 256 + g.val * 64 + x.val, by omega⟩) * v (ix2 l ⟨h.val * 64 + x.val, by omega⟩) := by
  pointwise [val_main_v47, val_main_v46, val_main_v45, val_main_v6]

theorem slope_apply : val_main_v53 (F := Ideal) q k v z d (ix4 h g a 0)
    = -(∑ l : Fin 16640, val_main_v47 (F := Ideal) v d (ix4 h g a l)
        * Ideal.div 1 (val_main_v37 (F := Ideal) q k z (ix4 h g a 0) * val_main_v37 (F := Ideal) q k z (ix4 h g a 0))
        * val_main_v32 (F := Ideal) q k z (ix4 h g a l)) := by
  pointwise [val_main_v53, val_main_v52, val_main_v51, val_main_v50, val_main_v49, val_main_v48, val_main_v42, val_main_v41, val_main_v40, val_main_cst_7, val_main_cst_8]

theorem flow_apply : val_main_v61 (F := Ideal) q k v z d (ix4 h g a l)
    = (Ideal.div (val_main_v47 (F := Ideal) v d (ix4 h g a l)) (val_main_v37 (F := Ideal) q k z (ix4 h g a 0))
        + val_main_v53 (F := Ideal) q k v z d (ix4 h g a 0)) * val_main_v32 (F := Ideal) q k z (ix4 h g a l) := by
  pointwise [val_main_v61, val_main_v60, val_main_v59, val_main_v58, val_main_v55, val_main_v54, val_main_cst_9]
  rw [Fin.sum_univ_one]

theorem shift_apply : val_main_v65 (F := Ideal) q k v z d (ix4 h g a 0)
    = -(val_main_v53 (F := Ideal) q k v z d (ix4 h g a 0) * val_main_v36 (F := Ideal) q k z (ix4 h g a 0))
      + -(∑ l : Fin 16640, val_main_v61 (F := Ideal) q k v z d (ix4 h g a l)) := by
  pointwise [val_main_v65, val_main_v64, val_main_v63, val_main_v62, val_main_v57, val_main_v56, val_main_cst_10]

theorem row_apply : val_main_v67 (F := Ideal) q k v z d (ix4 h g a 0)
    = val_main_v53 (F := Ideal) q k v z d (ix4 h g a 0) * val_main_v36 (F := Ideal) q k z (ix4 h g a 0)
      + val_main_v65 (F := Ideal) q k v z d (ix4 h g a 0) * val_main_v29 (F := Ideal) q k z (ix4 h g a 0) := by
  pointwise [val_main_v67, val_main_v66, val_main_v56]

theorem dsink_apply (r : Fin 1024) : val_main_v71 (F := Ideal) q k v z d (ix3 h r 0)
    = ∑ i : Fin 64, val_main_v67 (F := Ideal) q k v z d
        (ix4 h ⟨r.val / 256, by omega⟩ ⟨i.val * 256 + r.val % 256, by omega⟩ 0) := by
  pointwise [val_main_v71, val_main_v70, val_main_v69, val_main_v68, val_main_cst_11, val_main_cst_12]
  exact Finset.sum_congr rfl fun i _ => Fin.sum_univ_one _

end Cert.WinSinkRefIdeal.Grad

end
-- ==== Proof.WinSink.Rows.lean ====
module

public import proofs.«01_k».proof.Proof.WinSink.Ref

/-! # A row's share of the sink's gradient is real, and the saved log-sum gives it -/

@[expose] public section

set_option maxRecDepth 16384

noncomputable section

namespace Cert.WinSinkRefIdeal.Grad

open Cert.WinSinkRefIdeal Cert.WinSinkRefIdeal.Gen Cert.WinSinkRefIdeal.Read
open Cert.Silu (IsReal)
open Cert.Softmax (coe_sum div_coe_coe)
open Idealize.ShloMosaic Idealize.ShloMosaic.TcCoe Idealize.SL.Sem

/-- The greatest of finitely many numbers, none of them plus infinity, is none either. -/
theorem greatest_cases {ι : Type} (S : Finset ι) (f : ι → EReal) (hf : ∀ l, f l = ⊥ ∨ IsReal (f l)) :
    Finset.fold max ⊥ f S = ⊥ ∨ IsReal (Finset.fold max ⊥ f S) := by
  classical
  refine Finset.induction_on S (.inl (Finset.fold_empty)) fun a T ha h => ?_
  rw [Finset.fold_insert ha]
  rcases max_choice (f a) (Finset.fold max ⊥ f T) with e | e <;> rw [e]
  · exact hf a
  · exact h

/-- The exponential of a difference is real where the first number is real or minus infinity. -/
theorem exp_real {x : EReal} (μ : ℝ) (hx : x = ⊥ ∨ IsReal x) : ∃ r : ℝ, 0 ≤ r ∧ Ideal.exp (x - (μ : EReal)) = r := by
  rcases hx with rfl | ⟨y, rfl⟩
  · exact ⟨0, le_refl 0, by rw [EReal.bot_sub]; rfl⟩
  · exact ⟨Real.exp (y - μ), (Real.exp_pos _).le, by rw [← EReal.coe_sub, Ideal.exp_coe]⟩

section
variable (q : FVec Ideal S16384x512 .f32) (k v : FVec Ideal S16640x128 .f32) (z : FVec Ideal S1x8 .f32) (d : FVec Ideal S16384x512 .f32)
variable (hq : ∀ i, IsReal (q i)) (hk : ∀ i, IsReal (k i)) (hv : ∀ i, IsReal (v i)) (hz : ∀ i, IsReal (z i)) (hd : ∀ i, IsReal (d i))
variable (h : Fin 2) (g : Fin 4) (a : Fin 16384)

include hq hk in
theorem score_cases (l : Fin 16640) : val_main_v18 (F := Ideal) q k (ix4 h g a l) = (⊥ : EReal)
    ∨ IsReal (val_main_v18 (F := Ideal) q k (ix4 h g a l)) := by
  rw [score_apply]
  unfold Scalar.select
  split
  · right
    rw [product_apply]
    exact IsReal.sum fun x => (hk _).mul ((hq _).mul ⟨_, by simp [Ideal.ofBits, Ideal.ieee]; rfl⟩)
  · exact .inl rfl

include hq hk hz in
theorem top_real : IsReal (val_main_v22 (F := Ideal) q k z (ix4 h g a 0)) := by
  rw [top_apply, greatest_apply, sink_apply]
  rcases greatest_cases Finset.univ _ (score_cases q k hq hk h g a) with e | e
  · rw [e, max_eq_right bot_le]; exact hz _
  · rcases max_choice (Finset.fold max ⊥ (fun l : Fin 16640 => val_main_v18 (F := Ideal) q k (ix4 h g a l)) Finset.univ)
      (z (ix2 0 ⟨h.val * 4 + g.val, by omega⟩)) with e' | e' <;> rw [e']
    · exact e
    · exact hz _

/-- The sum of a row of the cotangent times the output. -/
def rowDot : EReal := ∑ x : Fin 64, d (ix2 a ⟨h.val * 256 + g.val * 64 + x.val, by omega⟩) * val_main_v44 (F := Ideal) q k v z (ix4 a h g x)

include hq hk hv hz hd in
/-- The row's log-sum, with the sum of the cotangent times the output, gives the sink's gradient. -/
theorem row_eq : 0 - Ideal.exp (val_main_v19 (F := Ideal) z (ix4 h g a 0)
      - (val_main_v22 (F := Ideal) q k z (ix4 h g a 0) + Ideal.log (val_main_v37 (F := Ideal) q k z (ix4 h g a 0))))
        * rowDot q k v z d h g a
    = val_main_v67 (F := Ideal) q k v z d (ix4 h g a 0) := by
  obtain ⟨μ, hμ⟩ := top_real q k z hq hk hz h g a
  obtain ⟨s, hs⟩ : IsReal (val_main_v19 (F := Ideal) z (ix4 h g a 0)) := by rw [sink_apply]; exact hz _
  have hE : ∀ l : Fin 16640, ∃ r : ℝ, 0 ≤ r ∧ val_main_v32 (F := Ideal) q k z (ix4 h g a l) = (r : EReal) := fun l => by
    rw [exp_apply, hμ]; exact exp_real μ (score_cases q k hq hk h g a l)
  choose E hE0 hE using hE
  choose dR hdR using hd
  choose vR hvR using hv
  have hy : val_main_v36 (F := Ideal) q k z (ix4 h g a 0) = (Real.exp (s - μ) : EReal) := by
    rw [expSink_apply, hμ, hs, ← EReal.coe_sub, Ideal.exp_coe]
  obtain ⟨D, hD⟩ : ∃ D : ℝ, D = ∑ l, E l + Real.exp (s - μ) := ⟨_, rfl⟩
  have hpos : 0 < D := by
    rw [hD]; exact add_pos_of_nonneg_of_pos (Finset.sum_nonneg fun l _ => hE0 l) (Real.exp_pos _)
  have hden : val_main_v37 (F := Ideal) q k z (ix4 h g a 0) = (D : EReal) := by
    have e : (∑ l : Fin 16640, (val_main_v32 (F := Ideal) q k z (ix4 h g a l) : EReal)) = ((∑ l, E l : ℝ) : EReal) :=
      (Finset.sum_congr rfl fun l _ => hE l).trans (coe_sum _ _)
    refine (den_apply q k z h g a).trans (Eq.trans (congrArg₂ (fun u w : EReal => u + w) e hy) ?_)
    rw [hD]
    exact (EReal.coe_add _ _).symm
  obtain ⟨P, hP⟩ : ∃ P : Fin 16640 → ℝ, ∀ l, P l = ∑ x : Fin 64,
      dR (ix2 a ⟨h.val * 256 + g.val * 64 + x.val, by omega⟩) * vR (ix2 l ⟨h.val * 64 + x.val, by omega⟩) := ⟨_, fun _ => rfl⟩
  have hp : ∀ l, val_main_v47 (F := Ideal) v d (ix4 h g a l) = (P l : EReal) := fun l => by
    rw [dprob_apply, hP, ← coe_sum]
    exact Finset.sum_congr rfl fun x _ => by rw [hdR, hvR, EReal.coe_mul]
  have hdot : rowDot q k v z d h g a = ((∑ l, P l * (E l / D) : ℝ) : EReal) := by
    have e : ∀ x : Fin 64, d (ix2 a ⟨h.val * 256 + g.val * 64 + x.val, by omega⟩) * val_main_v44 (F := Ideal) q k v z (ix4 a h g x)
        = ((dR (ix2 a ⟨h.val * 256 + g.val * 64 + x.val, by omega⟩)
            * ∑ l : Fin 16640, vR (ix2 l ⟨h.val * 64 + x.val, by omega⟩) * (E l / D) : ℝ) : EReal) := fun x => by
      rw [out_apply, hden, EReal.coe_mul, hdR, ← coe_sum]
      refine congrArg (_ * ·) (Finset.sum_congr rfl fun l _ => ?_)
      rw [hE, hvR, div_coe_coe _ hpos.ne', EReal.coe_mul]
    unfold rowDot
    rw [Finset.sum_congr rfl fun x _ => e x, coe_sum]
    refine congrArg (fun w : ℝ => (w : EReal)) ?_
    simp only [hP, Finset.mul_sum, Finset.sum_mul]
    rw [Finset.sum_comm]
    exact Finset.sum_congr rfl fun l _ => Finset.sum_congr rfl fun x _ => (mul_assoc _ _ _).symm
  have hslope : val_main_v53 (F := Ideal) q k v z d (ix4 h g a 0) = ((-(∑ l, P l * (1 / (D * D)) * E l) : ℝ) : EReal) := by
    rw [slope_apply, hden, ← EReal.coe_mul, ← EReal.coe_one, div_coe_coe _ (mul_pos hpos hpos).ne', EReal.coe_neg, ← coe_sum]
    refine congrArg (fun w : EReal => -w) (Finset.sum_congr rfl fun l _ => ?_)
    rw [hp, hE, EReal.coe_mul, EReal.coe_mul]
  have hshift : val_main_v65 (F := Ideal) q k v z d (ix4 h g a 0) = (0 : EReal) := by
    have e : ∀ l, val_main_v61 (F := Ideal) q k v z d (ix4 h g a l)
        = (((P l / D + -(∑ l, P l * (1 / (D * D)) * E l)) * E l : ℝ) : EReal) := fun l => by
      rw [flow_apply, hp, hden, div_coe_coe _ hpos.ne', hslope, hE, ← EReal.coe_add, ← EReal.coe_mul]
    rw [shift_apply, hslope, hy, Finset.sum_congr rfl fun l _ => e l, coe_sum, ← EReal.coe_mul, ← EReal.coe_neg,
      ← EReal.coe_neg, ← EReal.coe_add, shift_free P E hD hpos.ne', EReal.coe_zero]
  rw [row_apply, hshift, zero_mul, add_zero, hslope, hy, ← EReal.coe_mul, quotient_rule P E hpos.ne', hs, hμ, hden, hdot,
    Ideal.log_coe, if_neg (not_le.mpr hpos), ← EReal.coe_add, ← EReal.coe_sub, Ideal.exp_coe, ← sub_sub, Real.exp_sub (s - μ),
    Real.exp_log hpos, zero_sub, ← EReal.coe_mul, ← EReal.coe_neg]

end

end Cert.WinSinkRefIdeal.Grad

end
-- ==== Proof.WinSink.Value.lean ====
module

public import proofs.«01_k».proof.Proof.WinSink.Saved
public import proofs.«01_k».proof.Proof.WinSink.Steps
public import proofs.«01_k».proof.Proof.WinSink.Rows

/-! # The kernel's column is the reference's gradient of the sink -/

@[expose] public section

set_option maxRecDepth 16384

noncomputable section

namespace Cert.WinSinkIdeal.Grad

open Cert.WinSinkIdeal Cert.WinSinkIdeal.Gen
open Cert.WinSinkRefIdeal.Read
open Cert.WinSinkRefIdeal.Grad (row_eq rowDot dsink_apply)
open Cert.Silu (IsReal)
open Idealize.ShloMosaic Idealize.ShloMosaic.TcCoe Idealize.SL.Sem

variable (m : (ℓ : Loc nD τ sig) → Buf (Elt Ideal) ℓ) (c : Dev nD)

theorem inIdx : ∀ t : Fin cfg0.N, win0_10.index t = ![t.val / 64, 0, 0] ∧ win0_11.index t = ![t.val % 64, t.val / 64]
    ∧ win0_12.index t = ![t.val % 64, t.val / 64] ∧ win0_14.index t = ![t.val / 64, t.val % 64, 0, 0] :=
  (by decide +kernel : ∀ t : Fin grid0.N, _)

/-- The pair of heads of a point, the query of its block's row `a`, and the lane `l` of its pair. -/
def pair (t : Fin cfg0.N) : Fin 2 := ⟨t.val / 64, by have h : t.val < 128 := lt_of_lt_of_eq t.isLt (by decide); omega⟩
def block (t : Fin cfg0.N) : Fin 64 := ⟨t.val % 64, by omega⟩
def query (t : Fin cfg0.N) (a : Fin 256) : Fin 16384 := ⟨t.val % 64 * 256 + a.val, by omega⟩
def lane (t : Fin cfg0.N) (l : Fin 256) : Fin 512 :=
  ⟨t.val / 64 * 256 + l.val, by have h : t.val < 128 := lt_of_lt_of_eq t.isLt (by decide); omega⟩

theorem b12 (t : Fin cfg0.N) (a l : Fin 256) : iblk m c 12 t (ix2 a l) = a4 m c (ix2 (query t a) (lane t l)) := by
  blk_ext [iblk, V, inIdx t, query, lane]

theorem b11 (t : Fin cfg0.N) (a l : Fin 256) : iblk m c 11 t (ix2 a l)
    = (shapeCast S16384x512 (outs (masked m c) (sinks (a3 m c)) (a2 m c)) Cert.WinSinkIdeal.Gen.shapeCasts_S16384x2x4x64_S16384x512 : Arr S16384x512)
        (ix2 (query t a) (lane t l)) := by
  have hV := V35 m c
  generalize (shapeCast S16384x512 (outs (masked m c) (sinks (a3 m c)) (a2 m c)) Cert.WinSinkIdeal.Gen.shapeCasts_S16384x2x4x64_S16384x512 : Arr S16384x512) = A at hV ⊢
  blk_simp [iblk]
  rw [hV, show ((cfg0.win 11).blk t).view.emb (ix2 a l) = ix2 (query t a) (lane t l) by blk_ext [inIdx t, query, lane]]

theorem b10 (t : Fin cfg0.N) (r : Fin 1024) : iblk m c 10 t (ix3 0 r 0) = column (a3 m c) (ix3 (pair t) r 0) := by
  blk_simp [iblk]
  rw [V43, show ((cfg0.win 10).blk t).view.emb (ix3 0 r 0) = ix3 (pair t) r 0 by blk_ext [inIdx t, pair]]

theorem read14 (t : Fin cfg0.N) (r : Fin 1024) (X : (b : Ref sig .tc) → Buf (Elt Ideal) ((c : Thread nD τ).loc b)) :
    ((cfg0.win 14).blk t).view.read (Elt Ideal) (X (Pipeline.arrRef spec0 14)) (ix4 0 0 r 0)
      = X main_v70 (ix4 (pair t) (block t) r 0) := by
  blk_simp
  rw [show ((cfg0.win 14).blk t).view.emb (ix4 0 0 r 0) = ix4 (pair t) (block t) r 0 by blk_ext [inIdx t, pair, block]]

theorem at14 (t : Fin cfg0.N) (r : Fin 1024) :
    iblk m c 14 t (ix4 0 0 r 0) = V m c main_v70 (ix4 (pair t) (block t) r 0) := read14 c t r (V m c)

theorem b14 (t : Fin cfg0.N) (r : Fin 1024) : iblk m c 14 t (ix4 0 0 r 0)
    = stacked (lses (masked m c) (sinks (a3 m c))) (ix4 (pair t) (block t) r 0) :=
  (at14 m c t r).trans (congrFun (V70 m c) _)

variable (hq : ∀ i, IsReal (a0 m c i)) (hk : ∀ i, IsReal (a1 m c i)) (hv : ∀ i, IsReal (a2 m c i)) (hz : ∀ i, IsReal (a3 m c i))
  (hd : ∀ i, IsReal (a4 m c i))

/-- The head and the query of stacked row `r`. -/
def headOf (r : Fin 1024) : Fin 4 := ⟨r.val / 256, by omega⟩
def rowOf (r : Fin 1024) : Fin 256 := ⟨r.val % 256, by omega⟩

theorem out_at (t : Fin cfg0.N) (r : Fin 1024) (x : Fin 64) :
    iblk m c 11 t (ix2 (rowOf r) ⟨r.val / 256 * 64 + x.val, by omega⟩)
      = val_main_v44 (F := Ideal) (a0 m c) (a1 m c) (a2 m c) (a3 m c) (ix4 (query t (rowOf r)) (pair t) (headOf r) x) := by
  have ht : t.val < 128 := lt_of_lt_of_eq t.isLt (by decide)
  have hr := r.isLt
  have hx := x.isLt
  rw [b11, joined_apply, sinks_eq, outs_eq]
  refine congrArg _ ?_
  have e1 : (⟨(lane t ⟨r.val / 256 * 64 + x.val, by omega⟩).val / 256, by omega⟩ : Fin 2) = pair t :=
    Fin.ext (by show (t.val / 64 * 256 + (r.val / 256 * 64 + x.val)) / 256 = t.val / 64; omega)
  have e2 : (⟨(lane t ⟨r.val / 256 * 64 + x.val, by omega⟩).val / 64 % 4, by omega⟩ : Fin 4) = headOf r :=
    Fin.ext (by show (t.val / 64 * 256 + (r.val / 256 * 64 + x.val)) / 64 % 4 = r.val / 256; omega)
  have e3 : (⟨(lane t ⟨r.val / 256 * 64 + x.val, by omega⟩).val % 64, by omega⟩ : Fin 64) = x :=
    Fin.ext (by show (t.val / 64 * 256 + (r.val / 256 * 64 + x.val)) % 64 = x.val; omega)
  rw [e1, e2, e3]

theorem cot_at (t : Fin cfg0.N) (r : Fin 1024) (x : Fin 64) :
    iblk m c 12 t (ix2 (rowOf r) ⟨r.val / 256 * 64 + x.val, by omega⟩)
      = a4 m c (ix2 (query t (rowOf r)) ⟨(pair t).val * 256 + (headOf r).val * 64 + x.val, by omega⟩) := by
  rw [b12]
  refine congrArg (fun l => a4 m c (ix2 (query t (rowOf r)) l)) (Fin.ext ?_)
  show t.val / 64 * 256 + (r.val / 256 * 64 + x.val) = t.val / 64 * 256 + r.val / 256 * 64 + x.val
  omega

theorem sink_at (t : Fin cfg0.N) (r : Fin 1024) :
    iblk m c 10 t (ix3 0 r 0) = val_main_v19 (F := Ideal) (a3 m c) (ix4 (pair t) (headOf r) (query t (rowOf r)) 0) := by
  rw [b10, column_apply, Cert.WinSinkRefIdeal.Grad.sink_apply]
  rfl

theorem lse_at (t : Fin cfg0.N) (r : Fin 1024) :
    iblk m c 14 t (ix4 0 0 r 0)
      = val_main_v22 (F := Ideal) (a0 m c) (a1 m c) (a3 m c) (ix4 (pair t) (headOf r) (query t (rowOf r)) 0)
        + Ideal.log (val_main_v37 (F := Ideal) (a0 m c) (a1 m c) (a3 m c) (ix4 (pair t) (headOf r) (query t (rowOf r)) 0)) := by
  rw [b14, stacked_apply, sinks_eq, lses_eq, addf_log_apply]
  have e1 : (⟨r.val / 256, by omega⟩ : Fin 4) = headOf r := rfl
  have e2 : (⟨(block t).val * 256 + r.val % 256, by omega⟩ : Fin 16384) = query t (rowOf r) := rfl
  rw [e1, e2]

theorem dot_at (t : Fin cfg0.N) (r : Fin 1024) : dotOf (iblk m c 11 t) (iblk m c 12 t) r
    = rowDot (a0 m c) (a1 m c) (a2 m c) (a3 m c) (a4 m c) (pair t) (headOf r) (query t (rowOf r)) := by
  unfold dotOf rowDot
  exact Finset.sum_congr rfl fun x _ => congrArg₂ (· * ·) (cot_at m c t r x) (out_at m c t r x)

include hq hk hv hz hd

/-- What a point adds is its row's share of the gradient. -/
theorem partAt_eq (t : Fin cfg0.N) (r : Fin 1024) : partAt m c t r
    = val_main_v67 (F := Ideal) (a0 m c) (a1 m c) (a2 m c) (a3 m c) (a4 m c) (ix4 (pair t) (headOf r) (query t (rowOf r)) 0) := by
  refine Eq.trans ?_ (row_eq (a0 m c) (a1 m c) (a2 m c) (a3 m c) (a4 m c) hq hk hv hz hd (pair t) (headOf r) (query t (rowOf r)))
  unfold partAt part
  rw [sink_at, lse_at, dot_at]

theorem sinkOut_eq : sinkOut m c
    = val_main_v71 (F := Ideal) (a0 m c) (a1 m c) (a2 m c) (a3 m c) (a4 m c) := by
  funext y
  idx_vars y
  obtain rfl : y2 = 0 := Subsingleton.elim _ _
  rw [dsink_apply]
  refine (Finset.sum_range _).trans (Finset.sum_congr rfl fun i _ => ?_)
  refine (partAt_eq m c hq hk hv hz hd (pt y0.val i.val) y1).trans ?_
  have h0 := y0.isLt
  have hi := i.isLt
  have e1 : pair (pt y0.val i.val) = y0 := Fin.ext (by show (64 * y0.val + i.val) % 128 / 64 = y0.val; omega)
  have e2 : query (pt y0.val i.val) (rowOf y1) = ⟨i.val * 256 + y1.val % 256, by omega⟩ :=
    Fin.ext (by show (64 * y0.val + i.val) % 128 % 64 * 256 + y1.val % 256 = i.val * 256 + y1.val % 256; omega)
  rw [e1, e2]
  rfl

end Cert.WinSinkIdeal.Grad

end
-- ==== Proof.WinSink.Claim.lean ====
/- The window attention's gradient of the sink: kernel and reference give the same column. -/
module

public import proofs.«01_k».proof.Defs
public import proofs.«01_k».proof.Proof.WinSink.Value
public import proofs.«01_k».proof.Proof.Gen.WinSinkRefIdeal.Run

@[expose] public section

set_option maxRecDepth 16384

noncomputable section

open Idealize.ShloMosaic Idealize.ShloMosaic.TcCoe Idealize.SL.Sem

namespace Cert.WinSinkIdeal.Grad

open Cert.WinSinkIdeal

/-- The kernel's own text is the ideal program's, read over the machine's floats: the run is the same. -/
theorem frame_kernel [Cert.WinSink.Facts] : Cert.quiescent_WinSink :=
  have h := fun m ρ (_ : True) => frame (F := Bits) m ρ
  cast (by sl_kernel_rfl) h

set_option maxHeartbeats 1600000 in
/-- Over the reals the attention's gradient call returns the derivative of the forward lines in the sink's column. -/
theorem algebraic [Cert.Pre_finite_win.Facts] : Cert.algebraic_WinSinkIdeal_WinSinkRefIdeal_pre_finite_win := by
  intro m g m' g' hpre hagree
  refine ⟨fun c => sinkOut m c, ?_, ?_⟩
  · refine (θ_run defs _ _).mono (fun r h c => ?_) (Cert.WinSinkIdeal.Grad.run (F := Ideal) m g)
    refine ⟨array m c r h.1, ?_, ?_, ?_, ?_, ?_⟩
    · exact ((h.1 c).2 main_arg0 (Pipeline.mem_restRefs_of main_arg0 (by decide) (by decide))).trans (Gen.V_main_arg0 m c)
    · exact ((h.1 c).2 main_arg1 (Pipeline.mem_restRefs_of main_arg1 (by decide) (by decide))).trans (Gen.V_main_arg1 m c)
    · exact ((h.1 c).2 main_arg2 (Pipeline.mem_restRefs_of main_arg2 (by decide) (by decide))).trans (Gen.V_main_arg2 m c)
    · exact ((h.1 c).2 main_arg3 (Pipeline.mem_restRefs_of main_arg3 (by decide) (by decide))).trans (Gen.V_main_arg3 m c)
    · exact (cast (congrFun ((rd m c).ArrAt_in 12 rfl _) _) ((h.1 c).1 12) : _ = _).trans (Gen.V_main_arg4 m c)
  · refine (θ_run Cert.WinSinkRefIdeal.defs _ _).mono (fun r h c => ?_) (Cert.WinSinkRefIdeal.Value.run m' g')
    obtain ⟨e0, rest⟩ := h c
    obtain ⟨h0, h1, h2, h3, h4⟩ := hagree c
    refine ⟨e0.trans ?_, rest⟩
    refine (Cert.WinSinkRefIdeal.Read.val_main_v71_eq (F := Ideal) m' c).trans ?_
    rw [h0, h1, h2, h3, h4]
    exact (sinkOut_eq m c
      (fun i => Cert.Silu.IsReal.of_toReal (Cert.Softmax.real_of_cmp (congrFun (hpre c).1 i)))
      (fun i => Cert.Silu.IsReal.of_toReal (Cert.Softmax.real_of_cmp (congrFun (hpre c).2.1 i)))
      (fun i => Cert.Silu.IsReal.of_toReal (Cert.Softmax.real_of_cmp (congrFun (hpre c).2.2.1 i)))
      (fun i => Cert.Silu.IsReal.of_toReal (Cert.Softmax.real_of_cmp (congrFun (hpre c).2.2.2.1 i)))
      (fun i => Cert.Silu.IsReal.of_toReal (Cert.Softmax.real_of_cmp (congrFun (hpre c).2.2.2.2 i)))).symm

end Cert.WinSinkIdeal.Grad

end
-- ==== Proof.Win.Claim.lean ====
/- The window attention's frame, all four results returned: the run is the one followed for the sinks' gradient. -/
module

public import proofs.«01_k».proof.Defs
public import proofs.«01_k».proof.Proof.WinSink.Frame

@[expose] public section

set_option maxRecDepth 16384

noncomputable section

namespace Cert.WinIdeal.Grad

open Idealize.ShloMosaic Idealize.SL.Sem

/-- Which results a program returns is not part of its run: over the machine's floats it is the sinks' run. -/
theorem frame_kernel [Cert.Win.Facts] : Cert.quiescent_Win :=
  have h := fun m ρ (_ : True) => Cert.WinSinkIdeal.Grad.frame (F := Bits) m ρ
  cast (by sl_kernel_rfl) h

/-- The same over the reals. -/
theorem frame_ideal [Cert.WinIdeal.Facts] : Cert.quiescent_WinIdeal :=
  have h := fun m ρ (_ : True) => Cert.WinSinkIdeal.Grad.frame (F := Ideal) m ρ
  cast (by sl_kernel_rfl) h

end Cert.WinIdeal.Grad

end
-- ==== Proof.lean ====
/- Every claim of the certificate, from the modules of the single calls. -/
module

public import proofs.«01_k».proof.Defs
public import proofs.«01_k».proof.Proof.Merge.Claim
public import proofs.«01_k».proof.Proof.Gen.Merge.Frame
public import proofs.«01_k».proof.Proof.Gen.MergeRefIdeal.Read
public import proofs.«01_k».proof.Proof.Gen.MergeIdeal.Value
public import proofs.«01_k».proof.Proof.Glob.Claim
public import proofs.«01_k».proof.Proof.Gen.Glob
public import proofs.«01_k».proof.Proof.Gen.GlobRefIdeal.Read
public import proofs.«01_k».proof.Proof.GlobB.Claim
public import proofs.«01_k».proof.Proof.Gen.GlobB
public import proofs.«01_k».proof.Proof.Gen.GlobBRefIdeal.Read
public import proofs.«01_k».proof.Proof.Inproj.Claim
public import proofs.«01_k».proof.Proof.Gen.Inproj.Frame
public import proofs.«01_k».proof.Proof.Gen.InprojRefIdeal.Read
public import proofs.«01_k».proof.Proof.Gen.InprojIdeal.Value
public import proofs.«01_k».proof.Proof.InprojCtx.Claim
public import proofs.«01_k».proof.Proof.Gen.InprojCtx.Frame
public import proofs.«01_k».proof.Proof.Gen.InprojCtxRefIdeal.Read
public import proofs.«01_k».proof.Proof.Gen.InprojCtxIdeal.Value
public import proofs.«01_k».proof.Proof.Mod.Claim
public import proofs.«01_k».proof.Proof.Gen.Mod.Frame
public import proofs.«01_k».proof.Proof.Gen.ModRefIdeal.Read
public import proofs.«01_k».proof.Proof.Gen.ModIdeal.Value
public import proofs.«01_k».proof.Proof.Swiglu.Claim
public import proofs.«01_k».proof.Proof.Gen.Swiglu.Frame
public import proofs.«01_k».proof.Proof.Gen.SwigluRefIdeal.Read
public import proofs.«01_k».proof.Proof.Gen.SwigluIdeal.Value
public import proofs.«01_k».proof.Proof.FfnUp.Claim
public import proofs.«01_k».proof.Proof.Gen.FfnUp.Frame
public import proofs.«01_k».proof.Proof.Gen.FfnUpRefIdeal.Read
public import proofs.«01_k».proof.Proof.Gen.FfnUpIdeal.Value
public import proofs.«01_k».proof.Proof.FfnDown.Claim
public import proofs.«01_k».proof.Proof.Gen.FfnDown.Frame
public import proofs.«01_k».proof.Proof.Gen.FfnDownRefIdeal.Read
public import proofs.«01_k».proof.Proof.Gen.FfnDownIdeal.Value
public import proofs.«01_k».proof.Proof.WinSink.Claim
public import proofs.«01_k».proof.Proof.Gen.WinSink
public import proofs.«01_k».proof.Proof.Gen.WinSinkRefIdeal.Read
public import proofs.«01_k».proof.Proof.Win.Claim
public import proofs.«01_k».proof.Proof.Gen.Win
public import proofs.«01_k».proof.Proof.Gen.WinIdeal
public import proofs.«01_k».proof.Proof.Gen.WinRefIdeal.Run
public import proofs.«01_k».proof.Proof.Gen.Qk.Frame
public import proofs.«01_k».proof.Proof.Gen.QkIdeal.Frame
public import proofs.«01_k».proof.Proof.Gen.QkRefIdeal.Run
public import proofs.«01_k».proof.Proof.Gen.Pre_finite_glob
public import proofs.«01_k».proof.Proof.Gen.Pre_finite_mod
public import proofs.«01_k».proof.Proof.Gen.Pre_finite_swiglu
public import proofs.«01_k».proof.Proof.Gen.Pre_finite_ffn_up
public import proofs.«01_k».proof.Proof.Gen.Pre_finite_ffn_down
public import proofs.«01_k».proof.Proof.Gen.Pre_finite_win

@[expose] public section

set_option maxRecDepth 16384

noncomputable section

namespace Cert.Proof

open Idealize.ShloMosaic Idealize.SL.Sem

/-- The claims hold: frames, idealizations, and each call against the derivative of its forward lines. -/
theorem claim : Cert.Claim := by
  refine ⟨Cert.Merge.Gen.facts,
    Cert.MergeIdeal.Gen.facts,
    Cert.MergeRefIdeal.Gen.facts,
    Cert.Glob.Gen.facts,
    Cert.GlobIdeal.Gen.facts,
    Cert.GlobRefIdeal.Gen.facts,
    Cert.GlobB.Gen.facts,
    Cert.GlobBIdeal.Gen.facts,
    Cert.GlobBRefIdeal.Gen.facts,
    Cert.Inproj.Gen.facts,
    Cert.InprojIdeal.Gen.facts,
    Cert.InprojRefIdeal.Gen.facts,
    Cert.InprojCtx.Gen.facts,
    Cert.InprojCtxIdeal.Gen.facts,
    Cert.InprojCtxRefIdeal.Gen.facts,
    Cert.Mod.Gen.facts,
    Cert.ModIdeal.Gen.facts,
    Cert.ModRefIdeal.Gen.facts,
    Cert.Swiglu.Gen.facts,
    Cert.SwigluIdeal.Gen.facts,
    Cert.SwigluRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.WinSink.Gen.facts,
    Cert.WinSinkIdeal.Gen.facts,
    Cert.WinSinkRefIdeal.Gen.facts,
    Cert.Win.Gen.facts,
    Cert.WinIdeal.Gen.facts,
    Cert.WinRefIdeal.Gen.facts,
    Cert.Qk.Gen.facts,
    Cert.QkIdeal.Gen.facts,
    Cert.QkRefIdeal.Gen.facts,
    Cert.Pre_finite_glob.Gen.facts,
    Cert.Pre_finite_mod.Gen.facts,
    Cert.Pre_finite_swiglu.Gen.facts,
    Cert.Pre_finite_ffn_up.Gen.facts,
    Cert.Pre_finite_ffn_down.Gen.facts,
    Cert.Pre_finite_win.Gen.facts, ?_⟩
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Merge.Gen.frame m ρ
  · exact fun m ρ _ => Cert.MergeIdeal.Gen.frame m ρ
  · exact fun m g _ => (θ_run _ _ _).mono (fun _ h =>
      ⟨fun c => (h c).2.2.2.2.2, sem_eq_zero_of_no_sems (sig := Cert.MergeRefIdeal.sig) (by decide) _⟩)
      (Cert.MergeRefIdeal.Value.run m g)
  · exact Cert.GlobIdeal.Grad.frame_kernel
  · exact fun m ρ _ => Cert.GlobIdeal.Grad.frame m ρ
  · exact fun m ρ _ => Cert.GlobIdeal.Grad.frame m ρ
  · exact fun m g _ => (θ_run _ _ _).mono (fun _ h =>
      ⟨fun c => (h c).2.2.2, sem_eq_zero_of_no_sems (sig := Cert.GlobRefIdeal.sig) (by decide) _⟩)
      (Cert.GlobRefIdeal.Value.run m g)
  · exact fun m g _ => (θ_run _ _ _).mono (fun _ h =>
      ⟨fun c => (h c).2.2.2, sem_eq_zero_of_no_sems (sig := Cert.GlobRefIdeal.sig) (by decide) _⟩)
      (Cert.GlobRefIdeal.Value.run m g)
  · exact Cert.GlobBIdeal.Grad.frame_kernel
  · exact fun m ρ _ => Cert.GlobBIdeal.Grad.frame m ρ
  · exact fun m ρ _ => Cert.GlobBIdeal.Grad.frame m ρ
  · exact fun m g _ => (θ_run _ _ _).mono (fun _ h =>
      ⟨fun c => (h c).2.2.2, sem_eq_zero_of_no_sems (sig := Cert.GlobBRefIdeal.sig) (by decide) _⟩)
      (Cert.GlobBRefIdeal.Value.run m g)
  · exact fun m g _ => (θ_run _ _ _).mono (fun _ h =>
      ⟨fun c => (h c).2.2.2, sem_eq_zero_of_no_sems (sig := Cert.GlobBRefIdeal.sig) (by decide) _⟩)
      (Cert.GlobBRefIdeal.Value.run m g)
  · exact fun m ρ _ => Cert.Inproj.Gen.frame m ρ
  · exact fun m ρ _ => Cert.InprojIdeal.Gen.frame m ρ
  · exact fun m g _ => (θ_run _ _ _).mono (fun _ h =>
      ⟨fun c => (h c).2.2.2, sem_eq_zero_of_no_sems (sig := Cert.InprojRefIdeal.sig) (by decide) _⟩)
      (Cert.InprojRefIdeal.Value.run m g)
  · exact fun m ρ _ => Cert.InprojCtx.Gen.frame m ρ
  · exact fun m ρ _ => Cert.InprojCtxIdeal.Gen.frame m ρ
  · exact fun m g _ => (θ_run _ _ _).mono (fun _ h =>
      ⟨fun c => (h c).2.2, sem_eq_zero_of_no_sems (sig := Cert.InprojCtxRefIdeal.sig) (by decide) _⟩)
      (Cert.InprojCtxRefIdeal.Value.run m g)
  · exact fun m ρ _ => Cert.Mod.Gen.frame m ρ
  · exact fun m ρ _ => Cert.ModIdeal.Gen.frame m ρ
  · exact fun m ρ _ => Cert.ModIdeal.Gen.frame m ρ
  · exact fun m g _ => (θ_run _ _ _).mono (fun _ h =>
      ⟨fun c => (h c).2.2.2, sem_eq_zero_of_no_sems (sig := Cert.ModRefIdeal.sig) (by decide) _⟩)
      (Cert.ModRefIdeal.Value.run m g)
  · exact fun m g _ => (θ_run _ _ _).mono (fun _ h =>
      ⟨fun c => (h c).2.2.2, sem_eq_zero_of_no_sems (sig := Cert.ModRefIdeal.sig) (by decide) _⟩)
      (Cert.ModRefIdeal.Value.run m g)
  · exact fun m ρ _ => Cert.Swiglu.Gen.frame m ρ
  · exact fun m ρ _ => Cert.SwigluIdeal.Gen.frame m ρ
  · exact fun m ρ _ => Cert.SwigluIdeal.Gen.frame m ρ
  · exact fun m g _ => (θ_run _ _ _).mono (fun _ h =>
      ⟨fun c => (h c).2.2.2.2.2, sem_eq_zero_of_no_sems (sig := Cert.SwigluRefIdeal.sig) (by decide) _⟩)
      (Cert.SwigluRefIdeal.Value.run m g)
  · exact fun m g _ => (θ_run _ _ _).mono (fun _ h =>
      ⟨fun c => (h c).2.2.2.2.2, sem_eq_zero_of_no_sems (sig := Cert.SwigluRefIdeal.sig) (by decide) _⟩)
      (Cert.SwigluRefIdeal.Value.run m g)
  · exact fun m ρ _ => Cert.FfnUp.Gen.frame m ρ
  · exact fun m ρ _ => Cert.FfnUpIdeal.Gen.frame m ρ
  · exact fun m ρ _ => Cert.FfnUpIdeal.Gen.frame m ρ
  · exact fun m g _ => (θ_run _ _ _).mono (fun _ h =>
      ⟨fun c => (h c).2.2.2.2.2.2.2, sem_eq_zero_of_no_sems (sig := Cert.FfnUpRefIdeal.sig) (by decide) _⟩)
      (Cert.FfnUpRefIdeal.Value.run m g)
  · exact fun m g _ => (θ_run _ _ _).mono (fun _ h =>
      ⟨fun c => (h c).2.2.2.2.2.2.2, sem_eq_zero_of_no_sems (sig := Cert.FfnUpRefIdeal.sig) (by decide) _⟩)
      (Cert.FfnUpRefIdeal.Value.run m g)
  · exact fun m ρ _ => Cert.FfnDown.Gen.frame m ρ
  · exact fun m ρ _ => Cert.FfnDownIdeal.Gen.frame m ρ
  · exact fun m ρ _ => Cert.FfnDownIdeal.Gen.frame m ρ
  · exact fun m g _ => (θ_run _ _ _).mono (fun _ h =>
      ⟨fun c => (h c).2.2.2.2.2.2, sem_eq_zero_of_no_sems (sig := Cert.FfnDownRefIdeal.sig) (by decide) _⟩)
      (Cert.FfnDownRefIdeal.Value.run m g)
  · exact fun m g _ => (θ_run _ _ _).mono (fun _ h =>
      ⟨fun c => (h c).2.2.2.2.2.2, sem_eq_zero_of_no_sems (sig := Cert.FfnDownRefIdeal.sig) (by decide) _⟩)
      (Cert.FfnDownRefIdeal.Value.run m g)
  · exact Cert.WinSinkIdeal.Grad.frame_kernel
  · exact fun m ρ _ => Cert.WinSinkIdeal.Grad.frame m ρ
  · exact fun m ρ _ => Cert.WinSinkIdeal.Grad.frame m ρ
  · exact fun m g _ => (θ_run _ _ _).mono (fun _ h =>
      ⟨fun c => (h c).2, sem_eq_zero_of_no_sems (sig := Cert.WinSinkRefIdeal.sig) (by decide) _⟩)
      (Cert.WinSinkRefIdeal.Value.run m g)
  · exact fun m g _ => (θ_run _ _ _).mono (fun _ h =>
      ⟨fun c => (h c).2, sem_eq_zero_of_no_sems (sig := Cert.WinSinkRefIdeal.sig) (by decide) _⟩)
      (Cert.WinSinkRefIdeal.Value.run m g)
  · exact Cert.WinIdeal.Grad.frame_kernel
  · exact Cert.WinIdeal.Grad.frame_ideal
  · exact fun m g _ => (θ_run _ _ _).mono (fun _ h =>
      ⟨fun c => (h c).2.2.2.2, sem_eq_zero_of_no_sems (sig := Cert.WinRefIdeal.sig) (by decide) _⟩)
      (Cert.WinRefIdeal.Value.run m g)
  · exact fun m ρ _ => Cert.Qk.Gen.frame m ρ
  · exact fun m ρ _ => Cert.QkIdeal.Gen.frame m ρ
  · exact fun m g _ => (θ_run _ _ _).mono (fun _ h =>
      ⟨fun c => (h c).2.2.2.2, sem_eq_zero_of_no_sems (sig := Cert.QkRefIdeal.sig) (by decide) _⟩)
      (Cert.QkRefIdeal.Value.run m g)
  · exact trivial
  · exact Cert.MergeIdeal.Grad.algebraic
  · exact trivial
  · exact Cert.GlobIdeal.Grad.algebraic
  · exact trivial
  · exact Cert.GlobBIdeal.Grad.algebraic
  · exact trivial
  · exact Cert.InprojIdeal.Grad.algebraic
  · exact trivial
  · exact Cert.InprojCtxIdeal.Grad.algebraic
  · exact trivial
  · exact Cert.ModIdeal.Grad.algebraic
  · exact trivial
  · exact Cert.SwigluIdeal.Grad.algebraic
  · exact trivial
  · exact Cert.FfnUpIdeal.Grad.algebraic
  · exact trivial
  · exact Cert.FfnDownIdeal.Grad.algebraic
  · exact trivial
  · exact Cert.WinSinkIdeal.Grad.algebraic
  · exact trivial
  · exact trivial

end Cert.Proof

end
